-- ==== Defs.lean ====
def Pre_FfnWgrad (m : (ℓ : Loc Cert.FfnWgrad.nD Cert.FfnWgrad.τ Cert.FfnWgrad.sig) → Buf (Elt Bits) ℓ) : Prop :=
  True

def Pre_FfnWgradIdeal (m : (ℓ : Loc Cert.FfnWgradIdeal.nD Cert.FfnWgradIdeal.τ Cert.FfnWgradIdeal.sig) → Buf (Elt Ideal) ℓ) : Prop :=
  True

def Pre_FfnWgradRefIdeal (m : (ℓ : Loc Cert.FfnWgradRefIdeal.nD Cert.FfnWgradRefIdeal.τ Cert.FfnWgradRefIdeal.sig) → Buf (Elt Ideal) ℓ) : Prop :=
  True

def Pre_AttBwd (m : (ℓ : Loc Cert.AttBwd.nD Cert.AttBwd.τ Cert.AttBwd.sig) → Buf (Elt Bits) ℓ) : Prop :=
  True

def Pre_AttBwdIdeal (m : (ℓ : Loc Cert.AttBwdIdeal.nD Cert.AttBwdIdeal.τ Cert.AttBwdIdeal.sig) → Buf (Elt Ideal) ℓ) : Prop :=
  True

def Pre_AttBwdIdeal_att_finite [hPre_att_finite : Cert.Pre_att_finite.Facts] (m : (ℓ : Loc Cert.AttBwdIdeal.nD Cert.AttBwdIdeal.τ Cert.AttBwdIdeal.sig) → Buf (Elt Ideal) ℓ) : Prop :=
  ∀ c : Dev Cert.AttBwdIdeal.nD,
    (Cert.Pre_att_finite.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2)) (m ((c.tc : Thread Cert.AttBwdIdeal.nD Cert.AttBwdIdeal.τ).loc Cert.AttBwdIdeal.main_arg3)) (m ((c.tc : Thread Cert.AttBwdIdeal.nD Cert.AttBwdIdeal.τ).loc Cert.AttBwdIdeal.main_arg4))).1 = (fun _ => 1#1)
    ∧ (Cert.Pre_att_finite.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2)) (m ((c.tc : Thread Cert.AttBwdIdeal.nD Cert.AttBwdIdeal.τ).loc Cert.AttBwdIdeal.main_arg3)) (m ((c.tc : Thread Cert.AttBwdIdeal.nD Cert.AttBwdIdeal.τ).loc Cert.AttBwdIdeal.main_arg4))).2.1 = (fun _ => 1#1)
    ∧ (Cert.Pre_att_finite.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2)) (m ((c.tc : Thread Cert.AttBwdIdeal.nD Cert.AttBwdIdeal.τ).loc Cert.AttBwdIdeal.main_arg3)) (m ((c.tc : Thread Cert.AttBwdIdeal.nD Cert.AttBwdIdeal.τ).loc Cert.AttBwdIdeal.main_arg4))).2.2.1 = (fun _ => 1#1)
    ∧ (Cert.Pre_att_finite.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2)) (m ((c.tc : Thread Cert.AttBwdIdeal.nD Cert.AttBwdIdeal.τ).loc Cert.AttBwdIdeal.main_arg3)) (m ((c.tc : Thread Cert.AttBwdIdeal.nD Cert.AttBwdIdeal.τ).loc Cert.AttBwdIdeal.main_arg4))).2.2.2.1 = (fun _ => 1#1)
    ∧ (Cert.Pre_att_finite.fn (F := Ideal) (m ((c.tc : Thread Cert.AttBwdIdeal.nD Cert.AttBwdIdeal.τ).loc Cert.AttBwdIdeal.main_arg0)) (m ((c.tc : Thread Cert.AttBwdIdeal.nD Cert.AttBwdIdeal.τ).loc Cert.AttBwdIdeal.main_arg1)) (m ((c.tc : Thread Cert.AttBwdIdeal.nD Cert.AttBwdIdeal.τ).loc Cert.AttBwdIdeal.main_arg2)) (m ((c.tc : Thread Cert.AttBwdIdeal.nD Cert.AttBwdIdeal.τ).loc Cert.AttBwdIdeal.main_arg3)) (m ((c.tc : Thread Cert.AttBwdIdeal.nD Cert.AttBwdIdeal.τ).loc Cert.AttBwdIdeal.main_arg4))).2.2.2.2 = (fun _ => 1#1)

def Pre_AttBwdRefIdeal (m : (ℓ : Loc Cert.AttBwdRefIdeal.nD Cert.AttBwdRefIdeal.τ Cert.AttBwdRefIdeal.sig) → Buf (Elt Ideal) ℓ) : Prop :=
  True

def Pre_AttBwdRefIdeal_att_finite [hPre_att_finite : Cert.Pre_att_finite.Facts] (m : (ℓ : Loc Cert.AttBwdRefIdeal.nD Cert.AttBwdRefIdeal.τ Cert.AttBwdRefIdeal.sig) → Buf (Elt Ideal) ℓ) : Prop :=
  ∀ c : Dev Cert.AttBwdRefIdeal.nD,
    (Cert.Pre_att_finite.fn (F := Ideal) (m ((c.tc : Thread Cert.AttBwdRefIdeal.nD Cert.AttBwdRefIdeal.τ).loc Cert.AttBwdRefIdeal.main_arg0)) (m ((c.tc : Thread Cert.AttBwdRefIdeal.nD Cert.AttBwdRefIdeal.τ).loc Cert.AttBwdRefIdeal.main_arg1)) (m ((c.tc : Thread Cert.AttBwdRefIdeal.nD Cert.AttBwdRefIdeal.τ).loc Cert.AttBwdRefIdeal.main_arg2)) (m ((c.tc : Thread Cert.AttBwdRefIdeal.nD Cert.AttBwdRefIdeal.τ).loc Cert.AttBwdRefIdeal.main_arg3)) (m ((c.tc : Thread Cert.AttBwdRefIdeal.nD Cert.AttBwdRefIdeal.τ).loc Cert.AttBwdRefIdeal.main_arg4))).1 = (fun _ => 1#1)
    ∧ (Cert.Pre_att_finite.fn (F := Ideal) (m ((c.tc : Thread Cert.AttBwdRefIdeal.nD Cert.AttBwdRefIdeal.τ).loc Cert.AttBwdRefIdeal.main_arg0)) (m ((c.tc : Thread Cert.AttBwdRefIdeal.nD Cert.AttBwdRefIdeal.τ).loc Cert.AttBwdRefIdeal.main_arg1)) (m ((c.tc : Thread Cert.AttBwdRefIdeal.nD Cert.AttBwdRefIdeal.τ).loc Cert.AttBwdRefIdeal.main_arg2)) (m ((c.tc : Thread Cert.AttBwdRefIdeal.nD Cert.AttBwdRefIdeal.τ).loc Cert.AttBwdRefIdeal.main_arg3)) (m ((c.tc : Thread Cert.AttBwdRefIdeal.nD Cert.AttBwdRefIdeal.τ).loc Cert.AttBwdRefIdeal.main_arg4))).2.1 = (fun _ => 1#1)
    ∧ (Cert.Pre_att_finite.fn (F := Ideal) (m ((c.tc : Thread Cert.AttBwdRefIdeal.nD Cert.AttBwdRefIdeal.τ).loc Cert.AttBwdRefIdeal.main_arg0)) (m ((c.tc : Thread Cert.AttBwdRefIdeal.nD Cert.AttBwdRefIdeal.τ).loc Cert.AttBwdRefIdeal.main_arg1)) (m ((c.tc : Thread Cert.AttBwdRefIdeal.nD Cert.AttBwdRefIdeal.τ).loc Cert.AttBwdRefIdeal.main_arg2)) (m ((c.tc : Thread Cert.AttBwdRefIdeal.nD Cert.AttBwdRefIdeal.τ).loc Cert.AttBwdRefIdeal.main_arg3)) (m ((c.tc : Thread Cert.AttBwdRefIdeal.nD Cert.AttBwdRefIdeal.τ).loc Cert.AttBwdRefIdeal.main_arg4))).2.2.1 = (fun _ => 1#1)
    ∧ (Cert.Pre_att_finite.fn (F := Ideal) (m ((c.tc : Thread Cert.AttBwdRefIdeal.nD Cert.AttBwdRefIdeal.τ).loc Cert.AttBwdRefIdeal.main_arg0)) (m ((c.tc : Thread Cert.AttBwdRefIdeal.nD Cert.AttBwdRefIdeal.τ).loc Cert.AttBwdRefIdeal.main_arg1)) (m ((c.tc : Thread Cert.AttBwdRefIdeal.nD Cert.AttBwdRefIdeal.τ).loc Cert.AttBwdRefIdeal.main_arg2)) (m ((c.tc : Thread Cert.AttBwdRefIdeal.nD Cert.AttBwdRefIdeal.τ).loc Cert.AttBwdRefIdeal.main_arg3)) (m ((c.tc : Thread Cert.AttBwdRefIdeal.nD Cert.AttBwdRefIdeal.τ).loc Cert.AttBwdRefIdeal.main_arg4))).2.2.2.1 = (fun _ => 1#1)
    ∧ (Cert.Pre_att_finite.fn (F := Ideal) (m ((c.tc : Thread Cert.AttBwdRefIdeal.nD Cert.AttBwdRefIdeal.τ).loc Cert.AttBwdRefIdeal.main_arg0)) (m ((c.tc : Thread Cert.AttBwdRefIdeal.nD Cert.AttBwdRefIdeal.τ).loc Cert.AttBwdRefIdeal.main_arg1)) (m ((c.tc : Thread Cert.AttBwdRefIdeal.nD Cert.AttBwdRefIdeal.τ).loc Cert.AttBwdRefIdeal.main_arg2)) (m ((c.tc : Thread Cert.AttBwdRefIdeal.nD Cert.AttBwdRefIdeal.τ).loc Cert.AttBwdRefIdeal.main_arg3)) (m ((c.tc : Thread Cert.AttBwdRefIdeal.nD Cert.AttBwdRefIdeal.τ).loc Cert.AttBwdRefIdeal.main_arg4))).2.2.2.2 = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_FfnDgrad (m : (ℓ : Loc Cert.FfnDgrad.nD Cert.FfnDgrad.τ Cert.FfnDgrad.sig) → Buf (Elt Bits) ℓ) : Prop :=
  True

def Pre_FfnDgradIdeal (m : (ℓ : Loc Cert.FfnDgradIdeal.nD Cert.FfnDgradIdeal.τ Cert.FfnDgradIdeal.sig) → Buf (Elt Ideal) ℓ) : Prop :=
  True

def Pre_FfnDgradIdeal_dgrad_finite [hPre_dgrad_finite : Cert.Pre_dgrad_finite.Facts] (m : (ℓ : Loc Cert.FfnDgradIdeal.nD Cert.FfnDgradIdeal.τ Cert.FfnDgradIdeal.sig) → Buf (Elt Ideal) ℓ) : Prop :=
  ∀ c : Dev Cert.FfnDgradIdeal.nD,
    (Cert.Pre_dgrad_finite.fn (F := Ideal) (m ((c.tc : Thread Cert.FfnDgradIdeal.nD Cert.FfnDgradIdeal.τ).loc Cert.FfnDgradIdeal.main_arg0)) (m ((c.tc : Thread Cert.FfnDgradIdeal.nD Cert.FfnDgradIdeal.τ).loc Cert.FfnDgradIdeal.main_arg1)) (m ((c.tc : Thread Cert.FfnDgradIdeal.nD Cert.FfnDgradIdeal.τ).loc Cert.FfnDgradIdeal.main_arg2)) (m ((c.tc : Thread Cert.FfnDgradIdeal.nD Cert.FfnDgradIdeal.τ).loc Cert.FfnDgradIdeal.main_arg3)) (m ((c.tc : Thread Cert.FfnDgradIdeal.nD Cert.FfnDgradIdeal.τ).loc Cert.FfnDgradIdeal.main_arg4)) (m ((c.tc : Thread Cert.FfnDgradIdeal.nD Cert.FfnDgradIdeal.τ).loc Cert.FfnDgradIdeal.main_arg5))).1 = (fun _ => 1#1)
    ∧ (Cert.Pre_dgrad_finite.fn (F := Ideal) (m ((c.tc : Thread Cert.FfnDgradIdeal.nD Cert.FfnDgradIdeal.τ).loc Cert.FfnDgradIdeal.main_arg0)) (m ((c.tc : Thread Cert.FfnDgradIdeal.nD Cert.FfnDgradIdeal.τ).loc Cert.FfnDgradIdeal.main_arg1)) (m ((c.tc : Thread Cert.FfnDgradIdeal.nD Cert.FfnDgradIdeal.τ).loc Cert.FfnDgradIdeal.main_arg2)) (m ((c.tc : Thread Cert.FfnDgradIdeal.nD Cert.FfnDgradIdeal.τ).loc Cert.FfnDgradIdeal.main_arg3)) (m ((c.tc : Thread Cert.FfnDgradIdeal.nD Cert.FfnDgradIdeal.τ).loc Cert.FfnDgradIdeal.main_arg4)) (m ((c.tc : Thread Cert.FfnDgradIdeal.nD Cert.FfnDgradIdeal.τ).loc Cert.FfnDgradIdeal.main_arg5))).2.1 = (fun _ => 1#1)
    ∧ (Cert.Pre_dgrad_finite.fn (F := Ideal) (m ((c.tc : Thread Cert.FfnDgradIdeal.nD Cert.FfnDgradIdeal.τ).loc Cert.FfnDgradIdeal.main_arg0)) (m ((c.tc : Thread Cert.FfnDgradIdeal.nD Cert.FfnDgradIdeal.τ).loc Cert.FfnDgradIdeal.main_arg1)) (m ((c.tc : Thread Cert.FfnDgradIdeal.nD Cert.FfnDgradIdeal.τ).loc Cert.FfnDgradIdeal.main_arg2)) (m ((c.tc : Thread Cert.FfnDgradIdeal.nD Cert.FfnDgradIdeal.τ).loc Cert.FfnDgradIdeal.main_arg3)) (m ((c.tc : Thread Cert.FfnDgradIdeal.nD Cert.FfnDgradIdeal.τ).loc Cert.FfnDgradIdeal.main_arg4)) (m ((c.tc : Thread Cert.FfnDgradIdeal.nD Cert.FfnDgradIdeal.τ).loc Cert.FfnDgradIdeal.main_arg5))).2.2.1 = (fun _ => 1#1)
    ∧ (Cert.Pre_dgrad_finite.fn (F := Ideal) (m ((c.tc : Thread Cert.FfnDgradIdeal.nD Cert.FfnDgradIdeal.τ).loc Cert.FfnDgradIdeal.main_arg0)) (m ((c.tc : Thread Cert.FfnDgradIdeal.nD Cert.FfnDgradIdeal.τ).loc Cert.FfnDgradIdeal.main_arg1)) (m ((c.tc : Thread Cert.FfnDgradIdeal.nD Cert.FfnDgradIdeal.τ).loc Cert.FfnDgradIdeal.main_arg2)) (m ((c.tc : Thread Cert.FfnDgradIdeal.nD Cert.FfnDgradIdeal.τ).loc Cert.FfnDgradIdeal.main_arg3)) (m ((c.tc : Thread Cert.FfnDgradIdeal.nD Cert.FfnDgradIdeal.τ).loc Cert.FfnDgradIdeal.main_arg4)) (m ((c.tc : Thread Cert.FfnDgradIdeal.nD Cert.FfnDgradIdeal.τ).loc Cert.FfnDgradIdeal.main_arg5))).2.2.2.1 = (fun _ => 1#1)
    ∧ (Cert.Pre_dgrad_finite.fn (F := Ideal) (m ((c.tc : Thread Cert.FfnDgradIdeal.nD Cert.FfnDgradIdeal.τ).loc Cert.FfnDgradIdeal.main_arg0)) (m ((c.tc : Thread Cert.FfnDgradIdeal.nD Cert.FfnDgradIdeal.τ).loc Cert.FfnDgradIdeal.main_arg1)) (m ((c.tc : Thread Cert.FfnDgradIdeal.nD Cert.FfnDgradIdeal.τ).loc Cert.FfnDgradIdeal.main_arg2)) (m ((c.tc : Thread Cert.FfnDgradIdeal.nD Cert.FfnDgradIdeal.τ).loc Cert.FfnDgradIdeal.main_arg3)) (m ((c.tc : Thread Cert.FfnDgradIdeal.nD Cert.FfnDgradIdeal.τ).loc Cert.FfnDgradIdeal.main_arg4)) (m ((c.tc : Thread Cert.FfnDgradIdeal.nD Cert.FfnDgradIdeal.τ).loc Cert.FfnDgradIdeal.main_arg5))).2.2.2.2.1 = (fun _ => 1#1)
    ∧ (Cert.Pre_dgrad_finite.fn (F := Ideal) (m ((c.tc : Thread Cert.FfnDgradIdeal.nD Cert.FfnDgradIdeal.τ).loc Cert.FfnDgradIdeal.main_arg0)) (m ((c.tc : Thread Cert.FfnDgradIdeal.nD Cert.FfnDgradIdeal.τ).loc Cert.FfnDgradIdeal.main_arg1)) (m ((c.tc : Thread Cert.FfnDgradIdeal.nD Cert.FfnDgradIdeal.τ).loc Cert.FfnDgradIdeal.main_arg2)) (m ((c.tc : Thread Cert.FfnDgradIdeal.nD Cert.FfnDgradIdeal.τ).loc Cert.FfnDgradIdeal.main_arg3)) (m ((c.tc : Thread Cert.FfnDgradIdeal.nD Cert.FfnDgradIdeal.τ).loc Cert.FfnDgradIdeal.main_arg4)) (m ((c.tc : Thread Cert.FfnDgradIdeal.nD Cert.FfnDgradIdeal.τ).loc Cert.FfnDgradIdeal.main_arg5))).2.2.2.2.2 = (fun _ => 1#1)

def Pre_FfnDgradRefIdeal (m : (ℓ : Loc Cert.FfnDgradRefIdeal.nD Cert.FfnDgradRefIdeal.τ Cert.FfnDgradRefIdeal.sig) → Buf (Elt Ideal) ℓ) : Prop :=
  True

def Pre_FfnDgradRefIdeal_dgrad_finite [hPre_dgrad_finite : Cert.Pre_dgrad_finite.Facts] (m : (ℓ : Loc Cert.FfnDgradRefIdeal.nD Cert.FfnDgradRefIdeal.τ Cert.FfnDgradRefIdeal.sig) → Buf (Elt Ideal) ℓ) : Prop :=
  ∀ c : Dev Cert.FfnDgradRefIdeal.nD,
    (Cert.Pre_dgrad_finite.fn (F := Ideal) (m ((c.tc : Thread Cert.FfnDgradRefIdeal.nD Cert.FfnDgradRefIdeal.τ).loc Cert.FfnDgradRefIdeal.main_arg0)) (m ((c.tc : Thread Cert.FfnDgradRefIdeal.nD Cert.FfnDgradRefIdeal.τ).loc Cert.FfnDgradRefIdeal.main_arg1)) (m ((c.tc : Thread Cert.FfnDgradRefIdeal.nD Cert.FfnDgradRefIdeal.τ).loc Cert.FfnDgradRefIdeal.main_arg2)) (m ((c.tc : Thread Cert.FfnDgradRefIdeal.nD Cert.FfnDgradRefIdeal.τ).loc Cert.FfnDgradRefIdeal.main_arg3)) (m ((c.tc : Thread Cert.FfnDgradRefIdeal.nD Cert.FfnDgradRefIdeal.τ).loc Cert.FfnDgradRefIdeal.main_arg4)) (m ((c.tc : Thread Cert.FfnDgradRefIdeal.nD Cert.FfnDgradRefIdeal.τ).loc Cert.FfnDgradRefIdeal.main_arg5))).1 = (fun _ => 1#1)
    ∧ (Cert.Pre_dgrad_finite.fn (F := Ideal) (m ((c.tc : Thread Cert.FfnDgradRefIdeal.nD Cert.FfnDgradRefIdeal.τ).loc Cert.FfnDgradRefIdeal.main_arg0)) (m ((c.tc : Thread Cert.FfnDgradRefIdeal.nD Cert.FfnDgradRefIdeal.τ).loc Cert.FfnDgradRefIdeal.main_arg1)) (m ((c.tc : Thread Cert.FfnDgradRefIdeal.nD Cert.FfnDgradRefIdeal.τ).loc Cert.FfnDgradRefIdeal.main_arg2)) (m ((c.tc : Thread Cert.FfnDgradRefIdeal.nD Cert.FfnDgradRefIdeal.τ).loc Cert.FfnDgradRefIdeal.main_arg3)) (m ((c.tc : Thread Cert.FfnDgradRefIdeal.nD Cert.FfnDgradRefIdeal.τ).loc Cert.FfnDgradRefIdeal.main_arg4)) (m ((c.tc : Thread Cert.FfnDgradRefIdeal.nD Cert.FfnDgradRefIdeal.τ).loc Cert.FfnDgradRefIdeal.main_arg5))).2.1 = (fun _ => 1#1)
    ∧ (Cert.Pre_dgrad_finite.fn (F := Ideal) (m ((c.tc : Thread Cert.FfnDgradRefIdeal.nD Cert.FfnDgradRefIdeal.τ).loc Cert.FfnDgradRefIdeal.main_arg0)) (m ((c.tc : Thread Cert.FfnDgradRefIdeal.nD Cert.FfnDgradRefIdeal.τ).loc Cert.FfnDgradRefIdeal.main_arg1)) (m ((c.tc : Thread Cert.FfnDgradRefIdeal.nD Cert.FfnDgradRefIdeal.τ).loc Cert.FfnDgradRefIdeal.main_arg2)) (m ((c.tc : Thread Cert.FfnDgradRefIdeal.nD Cert.FfnDgradRefIdeal.τ).loc Cert.FfnDgradRefIdeal.main_arg3)) (m ((c.tc : Thread Cert.FfnDgradRefIdeal.nD Cert.FfnDgradRefIdeal.τ).loc Cert.FfnDgradRefIdeal.main_arg4)) (m ((c.tc : Thread Cert.FfnDgradRefIdeal.nD Cert.FfnDgradRefIdeal.τ).loc Cert.FfnDgradRefIdeal.main_arg5))).2.2.1 = (fun _ => 1#1)
    ∧ (Cert.Pre_dgrad_finite.fn (F := Ideal) (m ((c.tc : Thread Cert.FfnDgradRefIdeal.nD Cert.FfnDgradRefIdeal.τ).loc Cert.FfnDgradRefIdeal.main_arg0)) (m ((c.tc : Thread Cert.FfnDgradRefIdeal.nD Cert.FfnDgradRefIdeal.τ).loc Cert.FfnDgradRefIdeal.main_arg1)) (m ((c.tc : Thread Cert.FfnDgradRefIdeal.nD Cert.FfnDgradRefIdeal.τ).loc Cert.FfnDgradRefIdeal.main_arg2)) (m ((c.tc : Thread Cert.FfnDgradRefIdeal.nD Cert.FfnDgradRefIdeal.τ).loc Cert.FfnDgradRefIdeal.main_arg3)) (m ((c.tc : Thread Cert.FfnDgradRefIdeal.nD Cert.FfnDgradRefIdeal.τ).loc Cert.FfnDgradRefIdeal.main_arg4)) (m ((c.tc : Thread Cert.FfnDgradRefIdeal.nD Cert.FfnDgradRefIdeal.τ).loc Cert.FfnDgradRefIdeal.main_arg5))).2.2.2.1 = (fun _ => 1#1)
    ∧ (Cert.Pre_dgrad_finite.fn (F := Ideal) (m ((c.tc : Thread Cert.FfnDgradRefIdeal.nD Cert.FfnDgradRefIdeal.τ).loc Cert.FfnDgradRefIdeal.main_arg0)) (m ((c.tc : Thread Cert.FfnDgradRefIdeal.nD Cert.FfnDgradRefIdeal.τ).loc Cert.FfnDgradRefIdeal.main_arg1)) (m ((c.tc : Thread Cert.FfnDgradRefIdeal.nD Cert.FfnDgradRefIdeal.τ).loc Cert.FfnDgradRefIdeal.main_arg2)) (m ((c.tc : Thread Cert.FfnDgradRefIdeal.nD Cert.FfnDgradRefIdeal.τ).loc Cert.FfnDgradRefIdeal.main_arg3)) (m ((c.tc : Thread Cert.FfnDgradRefIdeal.nD Cert.FfnDgradRefIdeal.τ).loc Cert.FfnDgradRefIdeal.main_arg4)) (m ((c.tc : Thread Cert.FfnDgradRefIdeal.nD Cert.FfnDgradRefIdeal.τ).loc Cert.FfnDgradRefIdeal.main_arg5))).2.2.2.2.1 = (fun _ => 1#1)
    ∧ (Cert.Pre_dgrad_finite.fn (F := Ideal) (m ((c.tc : Thread Cert.FfnDgradRefIdeal.nD Cert.FfnDgradRefIdeal.τ).loc Cert.FfnDgradRefIdeal.main_arg0)) (m ((c.tc : Thread Cert.FfnDgradRefIdeal.nD Cert.FfnDgradRefIdeal.τ).loc Cert.FfnDgradRefIdeal.main_arg1)) (m ((c.tc : Thread Cert.FfnDgradRefIdeal.nD Cert.FfnDgradRefIdeal.τ).loc Cert.FfnDgradRefIdeal.main_arg2)) (m ((c.tc : Thread Cert.FfnDgradRefIdeal.nD Cert.FfnDgradRefIdeal.τ).loc Cert.FfnDgradRefIdeal.main_arg3)) (m ((c.tc : Thread Cert.FfnDgradRefIdeal.nD Cert.FfnDgradRefIdeal.τ).loc Cert.FfnDgradRefIdeal.main_arg4)) (m ((c.tc : Thread Cert.FfnDgradRefIdeal.nD Cert.FfnDgradRefIdeal.τ).loc Cert.FfnDgradRefIdeal.main_arg5))).2.2.2.2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_finite [hPre_loss_finite : Cert.Pre_loss_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)) (m ((c.tc : Thread Cert.LossHeadIdeal.nD Cert.LossHeadIdeal.τ).loc Cert.LossHeadIdeal.main_arg6))).1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)) (m ((c.tc : Thread Cert.LossHeadIdeal.nD Cert.LossHeadIdeal.τ).loc Cert.LossHeadIdeal.main_arg6))).2.1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)) (m ((c.tc : Thread Cert.LossHeadIdeal.nD Cert.LossHeadIdeal.τ).loc Cert.LossHeadIdeal.main_arg6))).2.2.1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)) (m ((c.tc : Thread Cert.LossHeadIdeal.nD Cert.LossHeadIdeal.τ).loc Cert.LossHeadIdeal.main_arg6))).2.2.2.1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)) (m ((c.tc : Thread Cert.LossHeadIdeal.nD Cert.LossHeadIdeal.τ).loc Cert.LossHeadIdeal.main_arg6))).2.2.2.2.1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)) (m ((c.tc : Thread Cert.LossHeadIdeal.nD Cert.LossHeadIdeal.τ).loc Cert.LossHeadIdeal.main_arg6))).2.2.2.2.2.1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5)) (m ((c.tc : Thread Cert.LossHeadIdeal.nD Cert.LossHeadIdeal.τ).loc Cert.LossHeadIdeal.main_arg6))).2.2.2.2.2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_finite [hPre_loss_finite : Cert.Pre_loss_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5)) (m ((c.tc : Thread Cert.LossHeadRefIdeal.nD Cert.LossHeadRefIdeal.τ).loc Cert.LossHeadRefIdeal.main_arg6))).1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5)) (m ((c.tc : Thread Cert.LossHeadRefIdeal.nD Cert.LossHeadRefIdeal.τ).loc Cert.LossHeadRefIdeal.main_arg6))).2.1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5)) (m ((c.tc : Thread Cert.LossHeadRefIdeal.nD Cert.LossHeadRefIdeal.τ).loc Cert.LossHeadRefIdeal.main_arg6))).2.2.1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5)) (m ((c.tc : Thread Cert.LossHeadRefIdeal.nD Cert.LossHeadRefIdeal.τ).loc Cert.LossHeadRefIdeal.main_arg6))).2.2.2.1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5)) (m ((c.tc : Thread Cert.LossHeadRefIdeal.nD Cert.LossHeadRefIdeal.τ).loc Cert.LossHeadRefIdeal.main_arg6))).2.2.2.2.1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5)) (m ((c.tc : Thread Cert.LossHeadRefIdeal.nD Cert.LossHeadRefIdeal.τ).loc Cert.LossHeadRefIdeal.main_arg6))).2.2.2.2.2.1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5)) (m ((c.tc : Thread Cert.LossHeadRefIdeal.nD Cert.LossHeadRefIdeal.τ).loc Cert.LossHeadRefIdeal.main_arg6))).2.2.2.2.2.2 = (fun _ => 1#1)

def Pre_RelBwd (m : (ℓ : Loc Cert.RelBwd.nD Cert.RelBwd.τ Cert.RelBwd.sig) → Buf (Elt Bits) ℓ) : Prop :=
  True

def Pre_RelBwdIdeal (m : (ℓ : Loc Cert.RelBwdIdeal.nD Cert.RelBwdIdeal.τ Cert.RelBwdIdeal.sig) → Buf (Elt Ideal) ℓ) : Prop :=
  True

def Pre_RelBwdIdeal_rel_finite [hPre_rel_finite : Cert.Pre_rel_finite.Facts] (m : (ℓ : Loc Cert.RelBwdIdeal.nD Cert.RelBwdIdeal.τ Cert.RelBwdIdeal.sig) → Buf (Elt Ideal) ℓ) : Prop :=
  ∀ c : Dev Cert.RelBwdIdeal.nD,
    (Cert.Pre_rel_finite.fn (F := Ideal) (m ((c.tc : Thread Cert.RelBwdIdeal.nD Cert.RelBwdIdeal.τ).loc Cert.RelBwdIdeal.main_arg0))) = (fun _ => 1#1)

def Pre_RelBwdRefIdeal (m : (ℓ : Loc Cert.RelBwdRefIdeal.nD Cert.RelBwdRefIdeal.τ Cert.RelBwdRefIdeal.sig) → Buf (Elt Ideal) ℓ) : Prop :=
  True

def Pre_RelBwdRefIdeal_rel_finite [hPre_rel_finite : Cert.Pre_rel_finite.Facts] (m : (ℓ : Loc Cert.RelBwdRefIdeal.nD Cert.RelBwdRefIdeal.τ Cert.RelBwdRefIdeal.sig) → Buf (Elt Ideal) ℓ) : Prop :=
  ∀ c : Dev Cert.RelBwdRefIdeal.nD,
    (Cert.Pre_rel_finite.fn (F := Ideal) (m ((c.tc : Thread Cert.RelBwdRefIdeal.nD Cert.RelBwdRefIdeal.τ).loc Cert.RelBwdRefIdeal.main_arg0))) = (fun _ => 1#1)

def Pre_AttFwd (m : (ℓ : Loc Cert.AttFwd.nD Cert.AttFwd.τ Cert.AttFwd.sig) → Buf (Elt Bits) ℓ) : Prop :=
  True

def Pre_AttFwdIdeal (m : (ℓ : Loc Cert.AttFwdIdeal.nD Cert.AttFwdIdeal.τ Cert.AttFwdIdeal.sig) → Buf (Elt Ideal) ℓ) : Prop :=
  True

def Pre_AttFwdIdeal_att_fwd_finite [hPre_att_fwd_finite : Cert.Pre_att_fwd_finite.Facts] (m : (ℓ : Loc Cert.AttFwdIdeal.nD Cert.AttFwdIdeal.τ Cert.AttFwdIdeal.sig) → Buf (Elt Ideal) ℓ) : Prop :=
  ∀ c : Dev Cert.AttFwdIdeal.nD,
    (Cert.Pre_att_fwd_finite.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2)) (m ((c.tc : Thread Cert.AttFwdIdeal.nD Cert.AttFwdIdeal.τ).loc Cert.AttFwdIdeal.main_arg3))).1 = (fun _ => 1#1)
    ∧ (Cert.Pre_att_fwd_finite.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2)) (m ((c.tc : Thread Cert.AttFwdIdeal.nD Cert.AttFwdIdeal.τ).loc Cert.AttFwdIdeal.main_arg3))).2.1 = (fun _ => 1#1)
    ∧ (Cert.Pre_att_fwd_finite.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2)) (m ((c.tc : Thread Cert.AttFwdIdeal.nD Cert.AttFwdIdeal.τ).loc Cert.AttFwdIdeal.main_arg3))).2.2.1 = (fun _ => 1#1)
    ∧ (Cert.Pre_att_fwd_finite.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2)) (m ((c.tc : Thread Cert.AttFwdIdeal.nD Cert.AttFwdIdeal.τ).loc Cert.AttFwdIdeal.main_arg3))).2.2.2 = (fun _ => 1#1)

def Pre_AttFwdRefIdeal (m : (ℓ : Loc Cert.AttFwdRefIdeal.nD Cert.AttFwdRefIdeal.τ Cert.AttFwdRefIdeal.sig) → Buf (Elt Ideal) ℓ) : Prop :=
  True

def Pre_AttFwdRefIdeal_att_fwd_finite [hPre_att_fwd_finite : Cert.Pre_att_fwd_finite.Facts] (m : (ℓ : Loc Cert.AttFwdRefIdeal.nD Cert.AttFwdRefIdeal.τ Cert.AttFwdRefIdeal.sig) → Buf (Elt Ideal) ℓ) : Prop :=
  ∀ c : Dev Cert.AttFwdRefIdeal.nD,
    (Cert.Pre_att_fwd_finite.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1)) (m ((c.tc : Thread Cert.AttFwdRefIdeal.nD Cert.AttFwdRefIdeal.τ).loc Cert.AttFwdRefIdeal.main_arg2)) (m ((c.tc : Thread Cert.AttFwdRefIdeal.nD Cert.AttFwdRefIdeal.τ).loc Cert.AttFwdRefIdeal.main_arg3))).1 = (fun _ => 1#1)
    ∧ (Cert.Pre_att_fwd_finite.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1)) (m ((c.tc : Thread Cert.AttFwdRefIdeal.nD Cert.AttFwdRefIdeal.τ).loc Cert.AttFwdRefIdeal.main_arg2)) (m ((c.tc : Thread Cert.AttFwdRefIdeal.nD Cert.AttFwdRefIdeal.τ).loc Cert.AttFwdRefIdeal.main_arg3))).2.1 = (fun _ => 1#1)
    ∧ (Cert.Pre_att_fwd_finite.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1)) (m ((c.tc : Thread Cert.AttFwdRefIdeal.nD Cert.AttFwdRefIdeal.τ).loc Cert.AttFwdRefIdeal.main_arg2)) (m ((c.tc : Thread Cert.AttFwdRefIdeal.nD Cert.AttFwdRefIdeal.τ).loc Cert.AttFwdRefIdeal.main_arg3))).2.2.1 = (fun _ => 1#1)
    ∧ (Cert.Pre_att_fwd_finite.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1)) (m ((c.tc : Thread Cert.AttFwdRefIdeal.nD Cert.AttFwdRefIdeal.τ).loc Cert.AttFwdRefIdeal.main_arg2)) (m ((c.tc : Thread Cert.AttFwdRefIdeal.nD Cert.AttFwdRefIdeal.τ).loc Cert.AttFwdRefIdeal.main_arg3))).2.2.2 = (fun _ => 1#1)

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_RelFwd (m : (ℓ : Loc Cert.RelFwd.nD Cert.RelFwd.τ Cert.RelFwd.sig) → Buf (Elt Bits) ℓ) : Prop :=
  True

def Pre_RelFwdIdeal (m : (ℓ : Loc Cert.RelFwdIdeal.nD Cert.RelFwdIdeal.τ Cert.RelFwdIdeal.sig) → Buf (Elt Ideal) ℓ) : Prop :=
  True

def Pre_RelFwdIdeal_relf_finite [hPre_relf_finite : Cert.Pre_relf_finite.Facts] (m : (ℓ : Loc Cert.RelFwdIdeal.nD Cert.RelFwdIdeal.τ Cert.RelFwdIdeal.sig) → Buf (Elt Ideal) ℓ) : Prop :=
  ∀ c : Dev Cert.RelFwdIdeal.nD,
    (Cert.Pre_relf_finite.fn (F := Ideal) (m ((c.tc : Thread Cert.RelFwdIdeal.nD Cert.RelFwdIdeal.τ).loc Cert.RelFwdIdeal.main_arg0))) = (fun _ => 1#1)

def Pre_RelFwdRefIdeal (m : (ℓ : Loc Cert.RelFwdRefIdeal.nD Cert.RelFwdRefIdeal.τ Cert.RelFwdRefIdeal.sig) → Buf (Elt Ideal) ℓ) : Prop :=
  True

def Pre_RelFwdRefIdeal_relf_finite [hPre_relf_finite : Cert.Pre_relf_finite.Facts] (m : (ℓ : Loc Cert.RelFwdRefIdeal.nD Cert.RelFwdRefIdeal.τ Cert.RelFwdRefIdeal.sig) → Buf (Elt Ideal) ℓ) : Prop :=
  ∀ c : Dev Cert.RelFwdRefIdeal.nD,
    (Cert.Pre_relf_finite.fn (F := Ideal) (m ((c.tc : Thread Cert.RelFwdRefIdeal.nD Cert.RelFwdRefIdeal.τ).loc Cert.RelFwdRefIdeal.main_arg0))) = (fun _ => 1#1)

def quiescent_FfnWgrad [hFfnWgrad : Cert.FfnWgrad.Facts] : Prop :=
  ∀ (m : (ℓ : Loc Cert.FfnWgrad.nD Cert.FfnWgrad.τ Cert.FfnWgrad.sig) → Buf (Elt Bits) ℓ) (g : Dev Cert.FfnWgrad.nD → PrngReg), Pre_FfnWgrad m →
    θ_run (Cert.FfnWgrad.defs (F := Bits)) (onTc (τ := Cert.FfnWgrad.τ) (Cert.FfnWgrad.main (F := Bits))) ⟨m, fun _ => 0, g⟩ (fun r => (∀ c : Dev Cert.FfnWgrad.nD,
      r.2.mem ((c.tc : Thread Cert.FfnWgrad.nD Cert.FfnWgrad.τ).loc Cert.FfnWgrad.main_arg0) = m ((c.tc : Thread Cert.FfnWgrad.nD Cert.FfnWgrad.τ).loc Cert.FfnWgrad.main_arg0)
      ∧ r.2.mem ((c.tc : Thread Cert.FfnWgrad.nD Cert.FfnWgrad.τ).loc Cert.FfnWgrad.main_arg1) = m ((c.tc : Thread Cert.FfnWgrad.nD Cert.FfnWgrad.τ).loc Cert.FfnWgrad.main_arg1)
      ∧ r.2.mem ((c.tc : Thread Cert.FfnWgrad.nD Cert.FfnWgrad.τ).loc Cert.FfnWgrad.main_arg2) = m ((c.tc : Thread Cert.FfnWgrad.nD Cert.FfnWgrad.τ).loc Cert.FfnWgrad.main_arg2)
      ∧ r.2.mem ((c.tc : Thread Cert.FfnWgrad.nD Cert.FfnWgrad.τ).loc Cert.FfnWgrad.main_arg3) = m ((c.tc : Thread Cert.FfnWgrad.nD Cert.FfnWgrad.τ).loc Cert.FfnWgrad.main_arg3)
      ∧ r.2.mem ((c.tc : Thread Cert.FfnWgrad.nD Cert.FfnWgrad.τ).loc Cert.FfnWgrad.main_arg4) = m ((c.tc : Thread Cert.FfnWgrad.nD Cert.FfnWgrad.τ).loc Cert.FfnWgrad.main_arg4)
      ∧ r.2.mem ((c.tc : Thread Cert.FfnWgrad.nD Cert.FfnWgrad.τ).loc Cert.FfnWgrad.main_arg5) = m ((c.tc : Thread Cert.FfnWgrad.nD Cert.FfnWgrad.τ).loc Cert.FfnWgrad.main_arg5)
      ∧ r.2.mem ((c.tc : Thread Cert.FfnWgrad.nD Cert.FfnWgrad.τ).loc Cert.FfnWgrad.main_arg6) = m ((c.tc : Thread Cert.FfnWgrad.nD Cert.FfnWgrad.τ).loc Cert.FfnWgrad.main_arg6))
      ∧ r.2.sem = fun _ => 0)

def quiescent_FfnWgradIdeal [hFfnWgradIdeal : Cert.FfnWgradIdeal.Facts] : Prop :=
  ∀ (m : (ℓ : Loc Cert.FfnWgradIdeal.nD Cert.FfnWgradIdeal.τ Cert.FfnWgradIdeal.sig) → Buf (Elt Ideal) ℓ) (g : Dev Cert.FfnWgradIdeal.nD → PrngReg), Pre_FfnWgradIdeal m →
    θ_run (Cert.FfnWgradIdeal.defs (F := Ideal)) (onTc (τ := Cert.FfnWgradIdeal.τ) (Cert.FfnWgradIdeal.main (F := Ideal))) ⟨m, fun _ => 0, g⟩ (fun r => (∀ c : Dev Cert.FfnWgradIdeal.nD,
      r.2.mem ((c.tc : Thread Cert.FfnWgradIdeal.nD Cert.FfnWgradIdeal.τ).loc Cert.FfnWgradIdeal.main_arg0) = m ((c.tc : Thread Cert.FfnWgradIdeal.nD Cert.FfnWgradIdeal.τ).loc Cert.FfnWgradIdeal.main_arg0)
      ∧ r.2.mem ((c.tc : Thread Cert.FfnWgradIdeal.nD Cert.FfnWgradIdeal.τ).loc Cert.FfnWgradIdeal.main_arg1) = m ((c.tc : Thread Cert.FfnWgradIdeal.nD Cert.FfnWgradIdeal.τ).loc Cert.FfnWgradIdeal.main_arg1)
      ∧ r.2.mem ((c.tc : Thread Cert.FfnWgradIdeal.nD Cert.FfnWgradIdeal.τ).loc Cert.FfnWgradIdeal.main_arg2) = m ((c.tc : Thread Cert.FfnWgradIdeal.nD Cert.FfnWgradIdeal.τ).loc Cert.FfnWgradIdeal.main_arg2)
      ∧ r.2.mem ((c.tc : Thread Cert.FfnWgradIdeal.nD Cert.FfnWgradIdeal.τ).loc Cert.FfnWgradIdeal.main_arg3) = m ((c.tc : Thread Cert.FfnWgradIdeal.nD Cert.FfnWgradIdeal.τ).loc Cert.FfnWgradIdeal.main_arg3)
      ∧ r.2.mem ((c.tc : Thread Cert.FfnWgradIdeal.nD Cert.FfnWgradIdeal.τ).loc Cert.FfnWgradIdeal.main_arg4) = m ((c.tc : Thread Cert.FfnWgradIdeal.nD Cert.FfnWgradIdeal.τ).loc Cert.FfnWgradIdeal.main_arg4)
      ∧ r.2.mem ((c.tc : Thread Cert.FfnWgradIdeal.nD Cert.FfnWgradIdeal.τ).loc Cert.FfnWgradIdeal.main_arg5) = m ((c.tc : Thread Cert.FfnWgradIdeal.nD Cert.FfnWgradIdeal.τ).loc Cert.FfnWgradIdeal.main_arg5)
      ∧ r.2.mem ((c.tc : Thread Cert.FfnWgradIdeal.nD Cert.FfnWgradIdeal.τ).loc Cert.FfnWgradIdeal.main_arg6) = m ((c.tc : Thread Cert.FfnWgradIdeal.nD Cert.FfnWgradIdeal.τ).loc Cert.FfnWgradIdeal.main_arg6))
      ∧ r.2.sem = fun _ => 0)

def quiescent_FfnWgradRefIdeal [hFfnWgradRefIdeal : Cert.FfnWgradRefIdeal.Facts] : Prop :=
  ∀ (m : (ℓ : Loc Cert.FfnWgradRefIdeal.nD Cert.FfnWgradRefIdeal.τ Cert.FfnWgradRefIdeal.sig) → Buf (Elt Ideal) ℓ) (g : Dev Cert.FfnWgradRefIdeal.nD → PrngReg), Pre_FfnWgradRefIdeal m →
    θ_run (Cert.FfnWgradRefIdeal.defs (F := Ideal)) (onTc (τ := Cert.FfnWgradRefIdeal.τ) (Cert.FfnWgradRefIdeal.main (F := Ideal))) ⟨m, fun _ => 0, g⟩ (fun r => (∀ c : Dev Cert.FfnWgradRefIdeal.nD,
      r.2.mem ((c.tc : Thread Cert.FfnWgradRefIdeal.nD Cert.FfnWgradRefIdeal.τ).loc Cert.FfnWgradRefIdeal.main_arg0) = m ((c.tc : Thread Cert.FfnWgradRefIdeal.nD Cert.FfnWgradRefIdeal.τ).loc Cert.FfnWgradRefIdeal.main_arg0)
      ∧ r.2.mem ((c.tc : Thread Cert.FfnWgradRefIdeal.nD Cert.FfnWgradRefIdeal.τ).loc Cert.FfnWgradRefIdeal.main_arg1) = m ((c.tc : Thread Cert.FfnWgradRefIdeal.nD Cert.FfnWgradRefIdeal.τ).loc Cert.FfnWgradRefIdeal.main_arg1)
      ∧ r.2.mem ((c.tc : Thread Cert.FfnWgradRefIdeal.nD Cert.FfnWgradRefIdeal.τ).loc Cert.FfnWgradRefIdeal.main_arg2) = m ((c.tc : Thread Cert.FfnWgradRefIdeal.nD Cert.FfnWgradRefIdeal.τ).loc Cert.FfnWgradRefIdeal.main_arg2)
      ∧ r.2.mem ((c.tc : Thread Cert.FfnWgradRefIdeal.nD Cert.FfnWgradRefIdeal.τ).loc Cert.FfnWgradRefIdeal.main_arg3) = m ((c.tc : Thread Cert.FfnWgradRefIdeal.nD Cert.FfnWgradRefIdeal.τ).loc Cert.FfnWgradRefIdeal.main_arg3)
      ∧ r.2.mem ((c.tc : Thread Cert.FfnWgradRefIdeal.nD Cert.FfnWgradRefIdeal.τ).loc Cert.FfnWgradRefIdeal.main_arg4) = m ((c.tc : Thread Cert.FfnWgradRefIdeal.nD Cert.FfnWgradRefIdeal.τ).loc Cert.FfnWgradRefIdeal.main_arg4)
      ∧ r.2.mem ((c.tc : Thread Cert.FfnWgradRefIdeal.nD Cert.FfnWgradRefIdeal.τ).loc Cert.FfnWgradRefIdeal.main_arg5) = m ((c.tc : Thread Cert.FfnWgradRefIdeal.nD Cert.FfnWgradRefIdeal.τ).loc Cert.FfnWgradRefIdeal.main_arg5)
      ∧ r.2.mem ((c.tc : Thread Cert.FfnWgradRefIdeal.nD Cert.FfnWgradRefIdeal.τ).loc Cert.FfnWgradRefIdeal.main_arg6) = m ((c.tc : Thread Cert.FfnWgradRefIdeal.nD Cert.FfnWgradRefIdeal.τ).loc Cert.FfnWgradRefIdeal.main_arg6))
      ∧ r.2.sem = fun _ => 0)

def quiescent_AttBwd [hAttBwd : Cert.AttBwd.Facts] : Prop :=
  ∀ (m : (ℓ : Loc Cert.AttBwd.nD Cert.AttBwd.τ Cert.AttBwd.sig) → Buf (Elt Bits) ℓ) (g : Dev Cert.AttBwd.nD → PrngReg), Pre_AttBwd m →
    θ_run (Cert.AttBwd.defs (F := Bits)) (onTc (τ := Cert.AttBwd.τ) (Cert.AttBwd.main (F := Bits))) ⟨m, fun _ => 0, g⟩ (fun r => (∀ c : Dev Cert.AttBwd.nD,
      r.2.mem ((c.tc : Thread Cert.AttBwd.nD Cert.AttBwd.τ).loc Cert.AttBwd.main_arg0) = m ((c.tc : Thread Cert.AttBwd.nD Cert.AttBwd.τ).loc Cert.AttBwd.main_arg0)
      ∧ r.2.mem ((c.tc : Thread Cert.AttBwd.nD Cert.AttBwd.τ).loc Cert.AttBwd.main_arg1) = m ((c.tc : Thread Cert.AttBwd.nD Cert.AttBwd.τ).loc Cert.AttBwd.main_arg1)
      ∧ r.2.mem ((c.tc : Thread Cert.AttBwd.nD Cert.AttBwd.τ).loc Cert.AttBwd.main_arg2) = m ((c.tc : Thread Cert.AttBwd.nD Cert.AttBwd.τ).loc Cert.AttBwd.main_arg2)
      ∧ r.2.mem ((c.tc : Thread Cert.AttBwd.nD Cert.AttBwd.τ).loc Cert.AttBwd.main_arg3) = m ((c.tc : Thread Cert.AttBwd.nD Cert.AttBwd.τ).loc Cert.AttBwd.main_arg3)
      ∧ r.2.mem ((c.tc : Thread Cert.AttBwd.nD Cert.AttBwd.τ).loc Cert.AttBwd.main_arg4) = m ((c.tc : Thread Cert.AttBwd.nD Cert.AttBwd.τ).loc Cert.AttBwd.main_arg4))
      ∧ r.2.sem = fun _ => 0)

def quiescent_AttBwdIdeal [hAttBwdIdeal : Cert.AttBwdIdeal.Facts] : Prop :=
  ∀ (m : (ℓ : Loc Cert.AttBwdIdeal.nD Cert.AttBwdIdeal.τ Cert.AttBwdIdeal.sig) → Buf (Elt Ideal) ℓ) (g : Dev Cert.AttBwdIdeal.nD → PrngReg), Pre_AttBwdIdeal m →
    θ_run (Cert.AttBwdIdeal.defs (F := Ideal)) (onTc (τ := Cert.AttBwdIdeal.τ) (Cert.AttBwdIdeal.main (F := Ideal))) ⟨m, fun _ => 0, g⟩ (fun r => (∀ c : Dev Cert.AttBwdIdeal.nD,
      r.2.mem ((c.tc : Thread Cert.AttBwdIdeal.nD Cert.AttBwdIdeal.τ).loc Cert.AttBwdIdeal.main_arg0) = m ((c.tc : Thread Cert.AttBwdIdeal.nD Cert.AttBwdIdeal.τ).loc Cert.AttBwdIdeal.main_arg0)
      ∧ r.2.mem ((c.tc : Thread Cert.AttBwdIdeal.nD Cert.AttBwdIdeal.τ).loc Cert.AttBwdIdeal.main_arg1) = m ((c.tc : Thread Cert.AttBwdIdeal.nD Cert.AttBwdIdeal.τ).loc Cert.AttBwdIdeal.main_arg1)
      ∧ r.2.mem ((c.tc : Thread Cert.AttBwdIdeal.nD Cert.AttBwdIdeal.τ).loc Cert.AttBwdIdeal.main_arg2) = m ((c.tc : Thread Cert.AttBwdIdeal.nD Cert.AttBwdIdeal.τ).loc Cert.AttBwdIdeal.main_arg2)
      ∧ r.2.mem ((c.tc : Thread Cert.AttBwdIdeal.nD Cert.AttBwdIdeal.τ).loc Cert.AttBwdIdeal.main_arg3) = m ((c.tc : Thread Cert.AttBwdIdeal.nD Cert.AttBwdIdeal.τ).loc Cert.AttBwdIdeal.main_arg3)
      ∧ r.2.mem ((c.tc : Thread Cert.AttBwdIdeal.nD Cert.AttBwdIdeal.τ).loc Cert.AttBwdIdeal.main_arg4) = m ((c.tc : Thread Cert.AttBwdIdeal.nD Cert.AttBwdIdeal.τ).loc Cert.AttBwdIdeal.main_arg4))
      ∧ r.2.sem = fun _ => 0)

def quiescent_AttBwdIdeal_pre_att_finite [hAttBwdIdeal : Cert.AttBwdIdeal.Facts] [hPre_att_finite : Cert.Pre_att_finite.Facts] : Prop :=
  ∀ (m : (ℓ : Loc Cert.AttBwdIdeal.nD Cert.AttBwdIdeal.τ Cert.AttBwdIdeal.sig) → Buf (Elt Ideal) ℓ) (g : Dev Cert.AttBwdIdeal.nD → PrngReg), Pre_AttBwdIdeal_att_finite m →
    θ_run (Cert.AttBwdIdeal.defs (F := Ideal)) (onTc (τ := Cert.AttBwdIdeal.τ) (Cert.AttBwdIdeal.main (F := Ideal))) ⟨m, fun _ => 0, g⟩ (fun r => (∀ c : Dev Cert.AttBwdIdeal.nD,
      r.2.mem ((c.tc : Thread Cert.AttBwdIdeal.nD Cert.AttBwdIdeal.τ).loc Cert.AttBwdIdeal.main_arg0) = m ((c.tc : Thread Cert.AttBwdIdeal.nD Cert.AttBwdIdeal.τ).loc Cert.AttBwdIdeal.main_arg0)
      ∧ r.2.mem ((c.tc : Thread Cert.AttBwdIdeal.nD Cert.AttBwdIdeal.τ).loc Cert.AttBwdIdeal.main_arg1) = m ((c.tc : Thread Cert.AttBwdIdeal.nD Cert.AttBwdIdeal.τ).loc Cert.AttBwdIdeal.main_arg1)
      ∧ r.2.mem ((c.tc : Thread Cert.AttBwdIdeal.nD Cert.AttBwdIdeal.τ).loc Cert.AttBwdIdeal.main_arg2) = m ((c.tc : Thread Cert.AttBwdIdeal.nD Cert.AttBwdIdeal.τ).loc Cert.AttBwdIdeal.main_arg2)
      ∧ r.2.mem ((c.tc : Thread Cert.AttBwdIdeal.nD Cert.AttBwdIdeal.τ).loc Cert.AttBwdIdeal.main_arg3) = m ((c.tc : Thread Cert.AttBwdIdeal.nD Cert.AttBwdIdeal.τ).loc Cert.AttBwdIdeal.main_arg3)
      ∧ r.2.mem ((c.tc : Thread Cert.AttBwdIdeal.nD Cert.AttBwdIdeal.τ).loc Cert.AttBwdIdeal.main_arg4) = m ((c.tc : Thread Cert.AttBwdIdeal.nD Cert.AttBwdIdeal.τ).loc Cert.AttBwdIdeal.main_arg4))
      ∧ r.2.sem = fun _ => 0)

def quiescent_AttBwdRefIdeal [hAttBwdRefIdeal : Cert.AttBwdRefIdeal.Facts] : Prop :=
  ∀ (m : (ℓ : Loc Cert.AttBwdRefIdeal.nD Cert.AttBwdRefIdeal.τ Cert.AttBwdRefIdeal.sig) → Buf (Elt Ideal) ℓ) (g : Dev Cert.AttBwdRefIdeal.nD → PrngReg), Pre_AttBwdRefIdeal m →
    θ_run (Cert.AttBwdRefIdeal.defs (F := Ideal)) (onTc (τ := Cert.AttBwdRefIdeal.τ) (Cert.AttBwdRefIdeal.main (F := Ideal))) ⟨m, fun _ => 0, g⟩ (fun r => (∀ c : Dev Cert.AttBwdRefIdeal.nD,
      r.2.mem ((c.tc : Thread Cert.AttBwdRefIdeal.nD Cert.AttBwdRefIdeal.τ).loc Cert.AttBwdRefIdeal.main_arg0) = m ((c.tc : Thread Cert.AttBwdRefIdeal.nD Cert.AttBwdRefIdeal.τ).loc Cert.AttBwdRefIdeal.main_arg0)
      ∧ r.2.mem ((c.tc : Thread Cert.AttBwdRefIdeal.nD Cert.AttBwdRefIdeal.τ).loc Cert.AttBwdRefIdeal.main_arg1) = m ((c.tc : Thread Cert.AttBwdRefIdeal.nD Cert.AttBwdRefIdeal.τ).loc Cert.AttBwdRefIdeal.main_arg1)
      ∧ r.2.mem ((c.tc : Thread Cert.AttBwdRefIdeal.nD Cert.AttBwdRefIdeal.τ).loc Cert.AttBwdRefIdeal.main_arg2) = m ((c.tc : Thread Cert.AttBwdRefIdeal.nD Cert.AttBwdRefIdeal.τ).loc Cert.AttBwdRefIdeal.main_arg2)
      ∧ r.2.mem ((c.tc : Thread Cert.AttBwdRefIdeal.nD Cert.AttBwdRefIdeal.τ).loc Cert.AttBwdRefIdeal.main_arg3) = m ((c.tc : Thread Cert.AttBwdRefIdeal.nD Cert.AttBwdRefIdeal.τ).loc Cert.AttBwdRefIdeal.main_arg3)
      ∧ r.2.mem ((c.tc : Thread Cert.AttBwdRefIdeal.nD Cert.AttBwdRefIdeal.τ).loc Cert.AttBwdRefIdeal.main_arg4) = m ((c.tc : Thread Cert.AttBwdRefIdeal.nD Cert.AttBwdRefIdeal.τ).loc Cert.AttBwdRefIdeal.main_arg4))
      ∧ r.2.sem = fun _ => 0)

def quiescent_AttBwdRefIdeal_pre_att_finite [hAttBwdRefIdeal : Cert.AttBwdRefIdeal.Facts] [hPre_att_finite : Cert.Pre_att_finite.Facts] : Prop :=
  ∀ (m : (ℓ : Loc Cert.AttBwdRefIdeal.nD Cert.AttBwdRefIdeal.τ Cert.AttBwdRefIdeal.sig) → Buf (Elt Ideal) ℓ) (g : Dev Cert.AttBwdRefIdeal.nD → PrngReg), Pre_AttBwdRefIdeal_att_finite m →
    θ_run (Cert.AttBwdRefIdeal.defs (F := Ideal)) (onTc (τ := Cert.AttBwdRefIdeal.τ) (Cert.AttBwdRefIdeal.main (F := Ideal))) ⟨m, fun _ => 0, g⟩ (fun r => (∀ c : Dev Cert.AttBwdRefIdeal.nD,
      r.2.mem ((c.tc : Thread Cert.AttBwdRefIdeal.nD Cert.AttBwdRefIdeal.τ).loc Cert.AttBwdRefIdeal.main_arg0) = m ((c.tc : Thread Cert.AttBwdRefIdeal.nD Cert.AttBwdRefIdeal.τ).loc Cert.AttBwdRefIdeal.main_arg0)
      ∧ r.2.mem ((c.tc : Thread Cert.AttBwdRefIdeal.nD Cert.AttBwdRefIdeal.τ).loc Cert.AttBwdRefIdeal.main_arg1) = m ((c.tc : Thread Cert.AttBwdRefIdeal.nD Cert.AttBwdRefIdeal.τ).loc Cert.AttBwdRefIdeal.main_arg1)
      ∧ r.2.mem ((c.tc : Thread Cert.AttBwdRefIdeal.nD Cert.AttBwdRefIdeal.τ).loc Cert.AttBwdRefIdeal.main_arg2) = m ((c.tc : Thread Cert.AttBwdRefIdeal.nD Cert.AttBwdRefIdeal.τ).loc Cert.AttBwdRefIdeal.main_arg2)
      ∧ r.2.mem ((c.tc : Thread Cert.AttBwdRefIdeal.nD Cert.AttBwdRefIdeal.τ).loc Cert.AttBwdRefIdeal.main_arg3) = m ((c.tc : Thread Cert.AttBwdRefIdeal.nD Cert.AttBwdRefIdeal.τ).loc Cert.AttBwdRefIdeal.main_arg3)
      ∧ r.2.mem ((c.tc : Thread Cert.AttBwdRefIdeal.nD Cert.AttBwdRefIdeal.τ).loc Cert.AttBwdRefIdeal.main_arg4) = m ((c.tc : Thread Cert.AttBwdRefIdeal.nD Cert.AttBwdRefIdeal.τ).loc Cert.AttBwdRefIdeal.main_arg4))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6)
      ∧ r.2.mem ((c.tc : Thread Cert.MergeBwdRefIdeal.nD Cert.MergeBwdRefIdeal.τ).loc Cert.MergeBwdRefIdeal.main_arg7) = m ((c.tc : Thread Cert.MergeBwdRefIdeal.nD Cert.MergeBwdRefIdeal.τ).loc Cert.MergeBwdRefIdeal.main_arg7))
      ∧ r.2.sem = fun _ => 0)

def quiescent_FfnDgrad [hFfnDgrad : Cert.FfnDgrad.Facts] : Prop :=
  ∀ (m : (ℓ : Loc Cert.FfnDgrad.nD Cert.FfnDgrad.τ Cert.FfnDgrad.sig) → Buf (Elt Bits) ℓ) (g : Dev Cert.FfnDgrad.nD → PrngReg), Pre_FfnDgrad m →
    θ_run (Cert.FfnDgrad.defs (F := Bits)) (onTc (τ := Cert.FfnDgrad.τ) (Cert.FfnDgrad.main (F := Bits))) ⟨m, fun _ => 0, g⟩ (fun r => (∀ c : Dev Cert.FfnDgrad.nD,
      r.2.mem ((c.tc : Thread Cert.FfnDgrad.nD Cert.FfnDgrad.τ).loc Cert.FfnDgrad.main_arg0) = m ((c.tc : Thread Cert.FfnDgrad.nD Cert.FfnDgrad.τ).loc Cert.FfnDgrad.main_arg0)
      ∧ r.2.mem ((c.tc : Thread Cert.FfnDgrad.nD Cert.FfnDgrad.τ).loc Cert.FfnDgrad.main_arg1) = m ((c.tc : Thread Cert.FfnDgrad.nD Cert.FfnDgrad.τ).loc Cert.FfnDgrad.main_arg1)
      ∧ r.2.mem ((c.tc : Thread Cert.FfnDgrad.nD Cert.FfnDgrad.τ).loc Cert.FfnDgrad.main_arg2) = m ((c.tc : Thread Cert.FfnDgrad.nD Cert.FfnDgrad.τ).loc Cert.FfnDgrad.main_arg2)
      ∧ r.2.mem ((c.tc : Thread Cert.FfnDgrad.nD Cert.FfnDgrad.τ).loc Cert.FfnDgrad.main_arg3) = m ((c.tc : Thread Cert.FfnDgrad.nD Cert.FfnDgrad.τ).loc Cert.FfnDgrad.main_arg3)
      ∧ r.2.mem ((c.tc : Thread Cert.FfnDgrad.nD Cert.FfnDgrad.τ).loc Cert.FfnDgrad.main_arg4) = m ((c.tc : Thread Cert.FfnDgrad.nD Cert.FfnDgrad.τ).loc Cert.FfnDgrad.main_arg4)
      ∧ r.2.mem ((c.tc : Thread Cert.FfnDgrad.nD Cert.FfnDgrad.τ).loc Cert.FfnDgrad.main_arg5) = m ((c.tc : Thread Cert.FfnDgrad.nD Cert.FfnDgrad.τ).loc Cert.FfnDgrad.main_arg5))
      ∧ r.2.sem = fun _ => 0)

def quiescent_FfnDgradIdeal [hFfnDgradIdeal : Cert.FfnDgradIdeal.Facts] : Prop :=
  ∀ (m : (ℓ : Loc Cert.FfnDgradIdeal.nD Cert.FfnDgradIdeal.τ Cert.FfnDgradIdeal.sig) → Buf (Elt Ideal) ℓ) (g : Dev Cert.FfnDgradIdeal.nD → PrngReg), Pre_FfnDgradIdeal m →
    θ_run (Cert.FfnDgradIdeal.defs (F := Ideal)) (onTc (τ := Cert.FfnDgradIdeal.τ) (Cert.FfnDgradIdeal.main (F := Ideal))) ⟨m, fun _ => 0, g⟩ (fun r => (∀ c : Dev Cert.FfnDgradIdeal.nD,
      r.2.mem ((c.tc : Thread Cert.FfnDgradIdeal.nD Cert.FfnDgradIdeal.τ).loc Cert.FfnDgradIdeal.main_arg0) = m ((c.tc : Thread Cert.FfnDgradIdeal.nD Cert.FfnDgradIdeal.τ).loc Cert.FfnDgradIdeal.main_arg0)
      ∧ r.2.mem ((c.tc : Thread Cert.FfnDgradIdeal.nD Cert.FfnDgradIdeal.τ).loc Cert.FfnDgradIdeal.main_arg1) = m ((c.tc : Thread Cert.FfnDgradIdeal.nD Cert.FfnDgradIdeal.τ).loc Cert.FfnDgradIdeal.main_arg1)
      ∧ r.2.mem ((c.tc : Thread Cert.FfnDgradIdeal.nD Cert.FfnDgradIdeal.τ).loc Cert.FfnDgradIdeal.main_arg2) = m ((c.tc : Thread Cert.FfnDgradIdeal.nD Cert.FfnDgradIdeal.τ).loc Cert.FfnDgradIdeal.main_arg2)
      ∧ r.2.mem ((c.tc : Thread Cert.FfnDgradIdeal.nD Cert.FfnDgradIdeal.τ).loc Cert.FfnDgradIdeal.main_arg3) = m ((c.tc : Thread Cert.FfnDgradIdeal.nD Cert.FfnDgradIdeal.τ).loc Cert.FfnDgradIdeal.main_arg3)
      ∧ r.2.mem ((c.tc : Thread Cert.FfnDgradIdeal.nD Cert.FfnDgradIdeal.τ).loc Cert.FfnDgradIdeal.main_arg4) = m ((c.tc : Thread Cert.FfnDgradIdeal.nD Cert.FfnDgradIdeal.τ).loc Cert.FfnDgradIdeal.main_arg4)
      ∧ r.2.mem ((c.tc : Thread Cert.FfnDgradIdeal.nD Cert.FfnDgradIdeal.τ).loc Cert.FfnDgradIdeal.main_arg5) = m ((c.tc : Thread Cert.FfnDgradIdeal.nD Cert.FfnDgradIdeal.τ).loc Cert.FfnDgradIdeal.main_arg5))
      ∧ r.2.sem = fun _ => 0)

def quiescent_FfnDgradIdeal_pre_dgrad_finite [hFfnDgradIdeal : Cert.FfnDgradIdeal.Facts] [hPre_dgrad_finite : Cert.Pre_dgrad_finite.Facts] : Prop :=
  ∀ (m : (ℓ : Loc Cert.FfnDgradIdeal.nD Cert.FfnDgradIdeal.τ Cert.FfnDgradIdeal.sig) → Buf (Elt Ideal) ℓ) (g : Dev Cert.FfnDgradIdeal.nD → PrngReg), Pre_FfnDgradIdeal_dgrad_finite m →
    θ_run (Cert.FfnDgradIdeal.defs (F := Ideal)) (onTc (τ := Cert.FfnDgradIdeal.τ) (Cert.FfnDgradIdeal.main (F := Ideal))) ⟨m, fun _ => 0, g⟩ (fun r => (∀ c : Dev Cert.FfnDgradIdeal.nD,
      r.2.mem ((c.tc : Thread Cert.FfnDgradIdeal.nD Cert.FfnDgradIdeal.τ).loc Cert.FfnDgradIdeal.main_arg0) = m ((c.tc : Thread Cert.FfnDgradIdeal.nD Cert.FfnDgradIdeal.τ).loc Cert.FfnDgradIdeal.main_arg0)
      ∧ r.2.mem ((c.tc : Thread Cert.FfnDgradIdeal.nD Cert.FfnDgradIdeal.τ).loc Cert.FfnDgradIdeal.main_arg1) = m ((c.tc : Thread Cert.FfnDgradIdeal.nD Cert.FfnDgradIdeal.τ).loc Cert.FfnDgradIdeal.main_arg1)
      ∧ r.2.mem ((c.tc : Thread Cert.FfnDgradIdeal.nD Cert.FfnDgradIdeal.τ).loc Cert.FfnDgradIdeal.main_arg2) = m ((c.tc : Thread Cert.FfnDgradIdeal.nD Cert.FfnDgradIdeal.τ).loc Cert.FfnDgradIdeal.main_arg2)
      ∧ r.2.mem ((c.tc : Thread Cert.FfnDgradIdeal.nD Cert.FfnDgradIdeal.τ).loc Cert.FfnDgradIdeal.main_arg3) = m ((c.tc : Thread Cert.FfnDgradIdeal.nD Cert.FfnDgradIdeal.τ).loc Cert.FfnDgradIdeal.main_arg3)
      ∧ r.2.mem ((c.tc : Thread Cert.FfnDgradIdeal.nD Cert.FfnDgradIdeal.τ).loc Cert.FfnDgradIdeal.main_arg4) = m ((c.tc : Thread Cert.FfnDgradIdeal.nD Cert.FfnDgradIdeal.τ).loc Cert.FfnDgradIdeal.main_arg4)
      ∧ r.2.mem ((c.tc : Thread Cert.FfnDgradIdeal.nD Cert.FfnDgradIdeal.τ).loc Cert.FfnDgradIdeal.main_arg5) = m ((c.tc : Thread Cert.FfnDgradIdeal.nD Cert.FfnDgradIdeal.τ).loc Cert.FfnDgradIdeal.main_arg5))
      ∧ r.2.sem = fun _ => 0)

def quiescent_FfnDgradRefIdeal [hFfnDgradRefIdeal : Cert.FfnDgradRefIdeal.Facts] : Prop :=
  ∀ (m : (ℓ : Loc Cert.FfnDgradRefIdeal.nD Cert.FfnDgradRefIdeal.τ Cert.FfnDgradRefIdeal.sig) → Buf (Elt Ideal) ℓ) (g : Dev Cert.FfnDgradRefIdeal.nD → PrngReg), Pre_FfnDgradRefIdeal m →
    θ_run (Cert.FfnDgradRefIdeal.defs (F := Ideal)) (onTc (τ := Cert.FfnDgradRefIdeal.τ) (Cert.FfnDgradRefIdeal.main (F := Ideal))) ⟨m, fun _ => 0, g⟩ (fun r => (∀ c : Dev Cert.FfnDgradRefIdeal.nD,
      r.2.mem ((c.tc : Thread Cert.FfnDgradRefIdeal.nD Cert.FfnDgradRefIdeal.τ).loc Cert.FfnDgradRefIdeal.main_arg0) = m ((c.tc : Thread Cert.FfnDgradRefIdeal.nD Cert.FfnDgradRefIdeal.τ).loc Cert.FfnDgradRefIdeal.main_arg0)
      ∧ r.2.mem ((c.tc : Thread Cert.FfnDgradRefIdeal.nD Cert.FfnDgradRefIdeal.τ).loc Cert.FfnDgradRefIdeal.main_arg1) = m ((c.tc : Thread Cert.FfnDgradRefIdeal.nD Cert.FfnDgradRefIdeal.τ).loc Cert.FfnDgradRefIdeal.main_arg1)
      ∧ r.2.mem ((c.tc : Thread Cert.FfnDgradRefIdeal.nD Cert.FfnDgradRefIdeal.τ).loc Cert.FfnDgradRefIdeal.main_arg2) = m ((c.tc : Thread Cert.FfnDgradRefIdeal.nD Cert.FfnDgradRefIdeal.τ).loc Cert.FfnDgradRefIdeal.main_arg2)
      ∧ r.2.mem ((c.tc : Thread Cert.FfnDgradRefIdeal.nD Cert.FfnDgradRefIdeal.τ).loc Cert.FfnDgradRefIdeal.main_arg3) = m ((c.tc : Thread Cert.FfnDgradRefIdeal.nD Cert.FfnDgradRefIdeal.τ).loc Cert.FfnDgradRefIdeal.main_arg3)
      ∧ r.2.mem ((c.tc : Thread Cert.FfnDgradRefIdeal.nD Cert.FfnDgradRefIdeal.τ).loc Cert.FfnDgradRefIdeal.main_arg4) = m ((c.tc : Thread Cert.FfnDgradRefIdeal.nD Cert.FfnDgradRefIdeal.τ).loc Cert.FfnDgradRefIdeal.main_arg4)
      ∧ r.2.mem ((c.tc : Thread Cert.FfnDgradRefIdeal.nD Cert.FfnDgradRefIdeal.τ).loc Cert.FfnDgradRefIdeal.main_arg5) = m ((c.tc : Thread Cert.FfnDgradRefIdeal.nD Cert.FfnDgradRefIdeal.τ).loc Cert.FfnDgradRefIdeal.main_arg5))
      ∧ r.2.sem = fun _ => 0)

def quiescent_FfnDgradRefIdeal_pre_dgrad_finite [hFfnDgradRefIdeal : Cert.FfnDgradRefIdeal.Facts] [hPre_dgrad_finite : Cert.Pre_dgrad_finite.Facts] : Prop :=
  ∀ (m : (ℓ : Loc Cert.FfnDgradRefIdeal.nD Cert.FfnDgradRefIdeal.τ Cert.FfnDgradRefIdeal.sig) → Buf (Elt Ideal) ℓ) (g : Dev Cert.FfnDgradRefIdeal.nD → PrngReg), Pre_FfnDgradRefIdeal_dgrad_finite m →
    θ_run (Cert.FfnDgradRefIdeal.defs (F := Ideal)) (onTc (τ := Cert.FfnDgradRefIdeal.τ) (Cert.FfnDgradRefIdeal.main (F := Ideal))) ⟨m, fun _ => 0, g⟩ (fun r => (∀ c : Dev Cert.FfnDgradRefIdeal.nD,
      r.2.mem ((c.tc : Thread Cert.FfnDgradRefIdeal.nD Cert.FfnDgradRefIdeal.τ).loc Cert.FfnDgradRefIdeal.main_arg0) = m ((c.tc : Thread Cert.FfnDgradRefIdeal.nD Cert.FfnDgradRefIdeal.τ).loc Cert.FfnDgradRefIdeal.main_arg0)
      ∧ r.2.mem ((c.tc : Thread Cert.FfnDgradRefIdeal.nD Cert.FfnDgradRefIdeal.τ).loc Cert.FfnDgradRefIdeal.main_arg1) = m ((c.tc : Thread Cert.FfnDgradRefIdeal.nD Cert.FfnDgradRefIdeal.τ).loc Cert.FfnDgradRefIdeal.main_arg1)
      ∧ r.2.mem ((c.tc : Thread Cert.FfnDgradRefIdeal.nD Cert.FfnDgradRefIdeal.τ).loc Cert.FfnDgradRefIdeal.main_arg2) = m ((c.tc : Thread Cert.FfnDgradRefIdeal.nD Cert.FfnDgradRefIdeal.τ).loc Cert.FfnDgradRefIdeal.main_arg2)
      ∧ r.2.mem ((c.tc : Thread Cert.FfnDgradRefIdeal.nD Cert.FfnDgradRefIdeal.τ).loc Cert.FfnDgradRefIdeal.main_arg3) = m ((c.tc : Thread Cert.FfnDgradRefIdeal.nD Cert.FfnDgradRefIdeal.τ).loc Cert.FfnDgradRefIdeal.main_arg3)
      ∧ r.2.mem ((c.tc : Thread Cert.FfnDgradRefIdeal.nD Cert.FfnDgradRefIdeal.τ).loc Cert.FfnDgradRefIdeal.main_arg4) = m ((c.tc : Thread Cert.FfnDgradRefIdeal.nD Cert.FfnDgradRefIdeal.τ).loc Cert.FfnDgradRefIdeal.main_arg4)
      ∧ r.2.mem ((c.tc : Thread Cert.FfnDgradRefIdeal.nD Cert.FfnDgradRefIdeal.τ).loc Cert.FfnDgradRefIdeal.main_arg5) = m ((c.tc : Thread Cert.FfnDgradRefIdeal.nD Cert.FfnDgradRefIdeal.τ).loc Cert.FfnDgradRefIdeal.main_arg5))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4)
      ∧ r.2.mem ((c.tc : Thread Cert.LossHead.nD Cert.LossHead.τ).loc Cert.LossHead.main_arg5) = m ((c.tc : Thread Cert.LossHead.nD Cert.LossHead.τ).loc Cert.LossHead.main_arg5)
      ∧ r.2.mem ((c.tc : Thread Cert.LossHead.nD Cert.LossHead.τ).loc Cert.LossHead.main_arg6) = m ((c.tc : Thread Cert.LossHead.nD Cert.LossHead.τ).loc Cert.LossHead.main_arg6))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
      ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5)
      ∧ r.2.mem ((c.tc : Thread Cert.LossHeadIdeal.nD Cert.LossHeadIdeal.τ).loc Cert.LossHeadIdeal.main_arg6) = m ((c.tc : Thread Cert.LossHeadIdeal.nD Cert.LossHeadIdeal.τ).loc Cert.LossHeadIdeal.main_arg6))
      ∧ r.2.sem = fun _ => 0)

def quiescent_LossHeadIdeal_pre_loss_finite [hLossHeadIdeal : Cert.LossHeadIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
      ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5)
      ∧ r.2.mem ((c.tc : Thread Cert.LossHeadIdeal.nD Cert.LossHeadIdeal.τ).loc Cert.LossHeadIdeal.main_arg6) = m ((c.tc : Thread Cert.LossHeadIdeal.nD Cert.LossHeadIdeal.τ).loc Cert.LossHeadIdeal.main_arg6))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4)
      ∧ r.2.mem ((c.tc : Thread Cert.LossHeadRefIdeal.nD Cert.LossHeadRefIdeal.τ).loc Cert.LossHeadRefIdeal.main_arg5) = m ((c.tc : Thread Cert.LossHeadRefIdeal.nD Cert.LossHeadRefIdeal.τ).loc Cert.LossHeadRefIdeal.main_arg5)
      ∧ r.2.mem ((c.tc : Thread Cert.LossHeadRefIdeal.nD Cert.LossHeadRefIdeal.τ).loc Cert.LossHeadRefIdeal.main_arg6) = m ((c.tc : Thread Cert.LossHeadRefIdeal.nD Cert.LossHeadRefIdeal.τ).loc Cert.LossHeadRefIdeal.main_arg6))
      ∧ r.2.sem = fun _ => 0)

def quiescent_LossHeadRefIdeal_pre_loss_finite [hLossHeadRefIdeal : Cert.LossHeadRefIdeal.Facts] [hPre_loss_finite : Cert.Pre_loss_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4)
      ∧ r.2.mem ((c.tc : Thread Cert.LossHeadRefIdeal.nD Cert.LossHeadRefIdeal.τ).loc Cert.LossHeadRefIdeal.main_arg5) = m ((c.tc : Thread Cert.LossHeadRefIdeal.nD Cert.LossHeadRefIdeal.τ).loc Cert.LossHeadRefIdeal.main_arg5)
      ∧ r.2.mem ((c.tc : Thread Cert.LossHeadRefIdeal.nD Cert.LossHeadRefIdeal.τ).loc Cert.LossHeadRefIdeal.main_arg6) = m ((c.tc : Thread Cert.LossHeadRefIdeal.nD Cert.LossHeadRefIdeal.τ).loc Cert.LossHeadRefIdeal.main_arg6))
      ∧ r.2.sem = fun _ => 0)

def quiescent_RelBwd [hRelBwd : Cert.RelBwd.Facts] : Prop :=
  ∀ (m : (ℓ : Loc Cert.RelBwd.nD Cert.RelBwd.τ Cert.RelBwd.sig) → Buf (Elt Bits) ℓ) (g : Dev Cert.RelBwd.nD → PrngReg), Pre_RelBwd m →
    θ_run (Cert.RelBwd.defs (F := Bits)) (onTc (τ := Cert.RelBwd.τ) (Cert.RelBwd.main (F := Bits))) ⟨m, fun _ => 0, g⟩ (fun r => (∀ c : Dev Cert.RelBwd.nD,
      r.2.mem ((c.tc : Thread Cert.RelBwd.nD Cert.RelBwd.τ).loc Cert.RelBwd.main_arg0) = m ((c.tc : Thread Cert.RelBwd.nD Cert.RelBwd.τ).loc Cert.RelBwd.main_arg0))
      ∧ r.2.sem = fun _ => 0)

def quiescent_RelBwdIdeal [hRelBwdIdeal : Cert.RelBwdIdeal.Facts] : Prop :=
  ∀ (m : (ℓ : Loc Cert.RelBwdIdeal.nD Cert.RelBwdIdeal.τ Cert.RelBwdIdeal.sig) → Buf (Elt Ideal) ℓ) (g : Dev Cert.RelBwdIdeal.nD → PrngReg), Pre_RelBwdIdeal m →
    θ_run (Cert.RelBwdIdeal.defs (F := Ideal)) (onTc (τ := Cert.RelBwdIdeal.τ) (Cert.RelBwdIdeal.main (F := Ideal))) ⟨m, fun _ => 0, g⟩ (fun r => (∀ c : Dev Cert.RelBwdIdeal.nD,
      r.2.mem ((c.tc : Thread Cert.RelBwdIdeal.nD Cert.RelBwdIdeal.τ).loc Cert.RelBwdIdeal.main_arg0) = m ((c.tc : Thread Cert.RelBwdIdeal.nD Cert.RelBwdIdeal.τ).loc Cert.RelBwdIdeal.main_arg0))
      ∧ r.2.sem = fun _ => 0)

def quiescent_RelBwdIdeal_pre_rel_finite [hRelBwdIdeal : Cert.RelBwdIdeal.Facts] [hPre_rel_finite : Cert.Pre_rel_finite.Facts] : Prop :=
  ∀ (m : (ℓ : Loc Cert.RelBwdIdeal.nD Cert.RelBwdIdeal.τ Cert.RelBwdIdeal.sig) → Buf (Elt Ideal) ℓ) (g : Dev Cert.RelBwdIdeal.nD → PrngReg), Pre_RelBwdIdeal_rel_finite m →
    θ_run (Cert.RelBwdIdeal.defs (F := Ideal)) (onTc (τ := Cert.RelBwdIdeal.τ) (Cert.RelBwdIdeal.main (F := Ideal))) ⟨m, fun _ => 0, g⟩ (fun r => (∀ c : Dev Cert.RelBwdIdeal.nD,
      r.2.mem ((c.tc : Thread Cert.RelBwdIdeal.nD Cert.RelBwdIdeal.τ).loc Cert.RelBwdIdeal.main_arg0) = m ((c.tc : Thread Cert.RelBwdIdeal.nD Cert.RelBwdIdeal.τ).loc Cert.RelBwdIdeal.main_arg0))
      ∧ r.2.sem = fun _ => 0)

def quiescent_RelBwdRefIdeal [hRelBwdRefIdeal : Cert.RelBwdRefIdeal.Facts] : Prop :=
  ∀ (m : (ℓ : Loc Cert.RelBwdRefIdeal.nD Cert.RelBwdRefIdeal.τ Cert.RelBwdRefIdeal.sig) → Buf (Elt Ideal) ℓ) (g : Dev Cert.RelBwdRefIdeal.nD → PrngReg), Pre_RelBwdRefIdeal m →
    θ_run (Cert.RelBwdRefIdeal.defs (F := Ideal)) (onTc (τ := Cert.RelBwdRefIdeal.τ) (Cert.RelBwdRefIdeal.main (F := Ideal))) ⟨m, fun _ => 0, g⟩ (fun r => (∀ c : Dev Cert.RelBwdRefIdeal.nD,
      r.2.mem ((c.tc : Thread Cert.RelBwdRefIdeal.nD Cert.RelBwdRefIdeal.τ).loc Cert.RelBwdRefIdeal.main_arg0) = m ((c.tc : Thread Cert.RelBwdRefIdeal.nD Cert.RelBwdRefIdeal.τ).loc Cert.RelBwdRefIdeal.main_arg0))
      ∧ r.2.sem = fun _ => 0)

def quiescent_RelBwdRefIdeal_pre_rel_finite [hRelBwdRefIdeal : Cert.RelBwdRefIdeal.Facts] [hPre_rel_finite : Cert.Pre_rel_finite.Facts] : Prop :=
  ∀ (m : (ℓ : Loc Cert.RelBwdRefIdeal.nD Cert.RelBwdRefIdeal.τ Cert.RelBwdRefIdeal.sig) → Buf (Elt Ideal) ℓ) (g : Dev Cert.RelBwdRefIdeal.nD → PrngReg), Pre_RelBwdRefIdeal_rel_finite m →
    θ_run (Cert.RelBwdRefIdeal.defs (F := Ideal)) (onTc (τ := Cert.RelBwdRefIdeal.τ) (Cert.RelBwdRefIdeal.main (F := Ideal))) ⟨m, fun _ => 0, g⟩ (fun r => (∀ c : Dev Cert.RelBwdRefIdeal.nD,
      r.2.mem ((c.tc : Thread Cert.RelBwdRefIdeal.nD Cert.RelBwdRefIdeal.τ).loc Cert.RelBwdRefIdeal.main_arg0) = m ((c.tc : Thread Cert.RelBwdRefIdeal.nD Cert.RelBwdRefIdeal.τ).loc Cert.RelBwdRefIdeal.main_arg0))
      ∧ r.2.sem = fun _ => 0)

def quiescent_AttFwd [hAttFwd : Cert.AttFwd.Facts] : Prop :=
  ∀ (m : (ℓ : Loc Cert.AttFwd.nD Cert.AttFwd.τ Cert.AttFwd.sig) → Buf (Elt Bits) ℓ) (g : Dev Cert.AttFwd.nD → PrngReg), Pre_AttFwd m →
    θ_run (Cert.AttFwd.defs (F := Bits)) (onTc (τ := Cert.AttFwd.τ) (Cert.AttFwd.main (F := Bits))) ⟨m, fun _ => 0, g⟩ (fun r => (∀ c : Dev Cert.AttFwd.nD,
      r.2.mem ((c.tc : Thread Cert.AttFwd.nD Cert.AttFwd.τ).loc Cert.AttFwd.main_arg0) = m ((c.tc : Thread Cert.AttFwd.nD Cert.AttFwd.τ).loc Cert.AttFwd.main_arg0)
      ∧ r.2.mem ((c.tc : Thread Cert.AttFwd.nD Cert.AttFwd.τ).loc Cert.AttFwd.main_arg1) = m ((c.tc : Thread Cert.AttFwd.nD Cert.AttFwd.τ).loc Cert.AttFwd.main_arg1)
      ∧ r.2.mem ((c.tc : Thread Cert.AttFwd.nD Cert.AttFwd.τ).loc Cert.AttFwd.main_arg2) = m ((c.tc : Thread Cert.AttFwd.nD Cert.AttFwd.τ).loc Cert.AttFwd.main_arg2)
      ∧ r.2.mem ((c.tc : Thread Cert.AttFwd.nD Cert.AttFwd.τ).loc Cert.AttFwd.main_arg3) = m ((c.tc : Thread Cert.AttFwd.nD Cert.AttFwd.τ).loc Cert.AttFwd.main_arg3))
      ∧ r.2.sem = fun _ => 0)

def quiescent_AttFwdIdeal [hAttFwdIdeal : Cert.AttFwdIdeal.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2)
      ∧ r.2.mem ((c.tc : Thread Cert.AttFwdIdeal.nD Cert.AttFwdIdeal.τ).loc Cert.AttFwdIdeal.main_arg3) = m ((c.tc : Thread Cert.AttFwdIdeal.nD Cert.AttFwdIdeal.τ).loc Cert.AttFwdIdeal.main_arg3))
      ∧ r.2.sem = fun _ => 0)

def quiescent_AttFwdIdeal_pre_att_fwd_finite [hAttFwdIdeal : Cert.AttFwdIdeal.Facts] [hPre_att_fwd_finite : Cert.Pre_att_fwd_finite.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal_att_fwd_finite m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2)
      ∧ r.2.mem ((c.tc : Thread Cert.AttFwdIdeal.nD Cert.AttFwdIdeal.τ).loc Cert.AttFwdIdeal.main_arg3) = m ((c.tc : Thread Cert.AttFwdIdeal.nD Cert.AttFwdIdeal.τ).loc Cert.AttFwdIdeal.main_arg3))
      ∧ r.2.sem = fun _ => 0)

def quiescent_AttFwdRefIdeal [hAttFwdRefIdeal : Cert.AttFwdRefIdeal.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1)
      ∧ r.2.mem ((c.tc : Thread Cert.AttFwdRefIdeal.nD Cert.AttFwdRefIdeal.τ).loc Cert.AttFwdRefIdeal.main_arg2) = m ((c.tc : Thread Cert.AttFwdRefIdeal.nD Cert.AttFwdRefIdeal.τ).loc Cert.AttFwdRefIdeal.main_arg2)
      ∧ r.2.mem ((c.tc : Thread Cert.AttFwdRefIdeal.nD Cert.AttFwdRefIdeal.τ).loc Cert.AttFwdRefIdeal.main_arg3) = m ((c.tc : Thread Cert.AttFwdRefIdeal.nD Cert.AttFwdRefIdeal.τ).loc Cert.AttFwdRefIdeal.main_arg3))
      ∧ r.2.sem = fun _ => 0)

def quiescent_AttFwdRefIdeal_pre_att_fwd_finite [hAttFwdRefIdeal : Cert.AttFwdRefIdeal.Facts] [hPre_att_fwd_finite : Cert.Pre_att_fwd_finite.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal_att_fwd_finite m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1)
      ∧ r.2.mem ((c.tc : Thread Cert.AttFwdRefIdeal.nD Cert.AttFwdRefIdeal.τ).loc Cert.AttFwdRefIdeal.main_arg2) = m ((c.tc : Thread Cert.AttFwdRefIdeal.nD Cert.AttFwdRefIdeal.τ).loc Cert.AttFwdRefIdeal.main_arg2)
      ∧ r.2.mem ((c.tc : Thread Cert.AttFwdRefIdeal.nD Cert.AttFwdRefIdeal.τ).loc Cert.AttFwdRefIdeal.main_arg3) = m ((c.tc : Thread Cert.AttFwdRefIdeal.nD Cert.AttFwdRefIdeal.τ).loc Cert.AttFwdRefIdeal.main_arg3))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2)
      ∧ r.2.mem ((c.tc : Thread Cert.InFwd.nD Cert.InFwd.τ).loc Cert.InFwd.main_arg3) = m ((c.tc : Thread Cert.InFwd.nD Cert.InFwd.τ).loc Cert.InFwd.main_arg3)
      ∧ r.2.mem ((c.tc : Thread Cert.InFwd.nD Cert.InFwd.τ).loc Cert.InFwd.main_arg4) = m ((c.tc : Thread Cert.InFwd.nD Cert.InFwd.τ).loc Cert.InFwd.main_arg4)
      ∧ r.2.mem ((c.tc : Thread Cert.InFwd.nD Cert.InFwd.τ).loc Cert.InFwd.main_arg5) = m ((c.tc : Thread Cert.InFwd.nD Cert.InFwd.τ).loc Cert.InFwd.main_arg5)
      ∧ r.2.mem ((c.tc : Thread Cert.InFwd.nD Cert.InFwd.τ).loc Cert.InFwd.main_arg6) = m ((c.tc : Thread Cert.InFwd.nD Cert.InFwd.τ).loc Cert.InFwd.main_arg6))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
      ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
      ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4)
      ∧ r.2.mem ((c.tc : Thread Cert.InFwdIdeal.nD Cert.InFwdIdeal.τ).loc Cert.InFwdIdeal.main_arg5) = m ((c.tc : Thread Cert.InFwdIdeal.nD Cert.InFwdIdeal.τ).loc Cert.InFwdIdeal.main_arg5)
      ∧ r.2.mem ((c.tc : Thread Cert.InFwdIdeal.nD Cert.InFwdIdeal.τ).loc Cert.InFwdIdeal.main_arg6) = m ((c.tc : Thread Cert.InFwdIdeal.nD Cert.InFwdIdeal.τ).loc Cert.InFwdIdeal.main_arg6))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2)
      ∧ r.2.mem ((c.tc : Thread Cert.InFwdRefIdeal.nD Cert.InFwdRefIdeal.τ).loc Cert.InFwdRefIdeal.main_arg3) = m ((c.tc : Thread Cert.InFwdRefIdeal.nD Cert.InFwdRefIdeal.τ).loc Cert.InFwdRefIdeal.main_arg3)
      ∧ r.2.mem ((c.tc : Thread Cert.InFwdRefIdeal.nD Cert.InFwdRefIdeal.τ).loc Cert.InFwdRefIdeal.main_arg4) = m ((c.tc : Thread Cert.InFwdRefIdeal.nD Cert.InFwdRefIdeal.τ).loc Cert.InFwdRefIdeal.main_arg4)
      ∧ r.2.mem ((c.tc : Thread Cert.InFwdRefIdeal.nD Cert.InFwdRefIdeal.τ).loc Cert.InFwdRefIdeal.main_arg5) = m ((c.tc : Thread Cert.InFwdRefIdeal.nD Cert.InFwdRefIdeal.τ).loc Cert.InFwdRefIdeal.main_arg5)
      ∧ r.2.mem ((c.tc : Thread Cert.InFwdRefIdeal.nD Cert.InFwdRefIdeal.τ).loc Cert.InFwdRefIdeal.main_arg6) = m ((c.tc : Thread Cert.InFwdRefIdeal.nD Cert.InFwdRefIdeal.τ).loc Cert.InFwdRefIdeal.main_arg6))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7))
      ∧ r.2.sem = fun _ => 0)

def quiescent_RelFwd [hRelFwd : Cert.RelFwd.Facts] : Prop :=
  ∀ (m : (ℓ : Loc Cert.RelFwd.nD Cert.RelFwd.τ Cert.RelFwd.sig) → Buf (Elt Bits) ℓ) (g : Dev Cert.RelFwd.nD → PrngReg), Pre_RelFwd m →
    θ_run (Cert.RelFwd.defs (F := Bits)) (onTc (τ := Cert.RelFwd.τ) (Cert.RelFwd.main (F := Bits))) ⟨m, fun _ => 0, g⟩ (fun r => (∀ c : Dev Cert.RelFwd.nD,
      r.2.mem ((c.tc : Thread Cert.RelFwd.nD Cert.RelFwd.τ).loc Cert.RelFwd.main_arg0) = m ((c.tc : Thread Cert.RelFwd.nD Cert.RelFwd.τ).loc Cert.RelFwd.main_arg0))
      ∧ r.2.sem = fun _ => 0)

def quiescent_RelFwdIdeal [hRelFwdIdeal : Cert.RelFwdIdeal.Facts] : Prop :=
  ∀ (m : (ℓ : Loc Cert.RelFwdIdeal.nD Cert.RelFwdIdeal.τ Cert.RelFwdIdeal.sig) → Buf (Elt Ideal) ℓ) (g : Dev Cert.RelFwdIdeal.nD → PrngReg), Pre_RelFwdIdeal m →
    θ_run (Cert.RelFwdIdeal.defs (F := Ideal)) (onTc (τ := Cert.RelFwdIdeal.τ) (Cert.RelFwdIdeal.main (F := Ideal))) ⟨m, fun _ => 0, g⟩ (fun r => (∀ c : Dev Cert.RelFwdIdeal.nD,
      r.2.mem ((c.tc : Thread Cert.RelFwdIdeal.nD Cert.RelFwdIdeal.τ).loc Cert.RelFwdIdeal.main_arg0) = m ((c.tc : Thread Cert.RelFwdIdeal.nD Cert.RelFwdIdeal.τ).loc Cert.RelFwdIdeal.main_arg0))
      ∧ r.2.sem = fun _ => 0)

def quiescent_RelFwdIdeal_pre_relf_finite [hRelFwdIdeal : Cert.RelFwdIdeal.Facts] [hPre_relf_finite : Cert.Pre_relf_finite.Facts] : Prop :=
  ∀ (m : (ℓ : Loc Cert.RelFwdIdeal.nD Cert.RelFwdIdeal.τ Cert.RelFwdIdeal.sig) → Buf (Elt Ideal) ℓ) (g : Dev Cert.RelFwdIdeal.nD → PrngReg), Pre_RelFwdIdeal_relf_finite m →
    θ_run (Cert.RelFwdIdeal.defs (F := Ideal)) (onTc (τ := Cert.RelFwdIdeal.τ) (Cert.RelFwdIdeal.main (F := Ideal))) ⟨m, fun _ => 0, g⟩ (fun r => (∀ c : Dev Cert.RelFwdIdeal.nD,
      r.2.mem ((c.tc : Thread Cert.RelFwdIdeal.nD Cert.RelFwdIdeal.τ).loc Cert.RelFwdIdeal.main_arg0) = m ((c.tc : Thread Cert.RelFwdIdeal.nD Cert.RelFwdIdeal.τ).loc Cert.RelFwdIdeal.main_arg0))
      ∧ r.2.sem = fun _ => 0)

def quiescent_RelFwdRefIdeal [hRelFwdRefIdeal : Cert.RelFwdRefIdeal.Facts] : Prop :=
  ∀ (m : (ℓ : Loc Cert.RelFwdRefIdeal.nD Cert.RelFwdRefIdeal.τ Cert.RelFwdRefIdeal.sig) → Buf (Elt Ideal) ℓ) (g : Dev Cert.RelFwdRefIdeal.nD → PrngReg), Pre_RelFwdRefIdeal m →
    θ_run (Cert.RelFwdRefIdeal.defs (F := Ideal)) (onTc (τ := Cert.RelFwdRefIdeal.τ) (Cert.RelFwdRefIdeal.main (F := Ideal))) ⟨m, fun _ => 0, g⟩ (fun r => (∀ c : Dev Cert.RelFwdRefIdeal.nD,
      r.2.mem ((c.tc : Thread Cert.RelFwdRefIdeal.nD Cert.RelFwdRefIdeal.τ).loc Cert.RelFwdRefIdeal.main_arg0) = m ((c.tc : Thread Cert.RelFwdRefIdeal.nD Cert.RelFwdRefIdeal.τ).loc Cert.RelFwdRefIdeal.main_arg0))
      ∧ r.2.sem = fun _ => 0)

def quiescent_RelFwdRefIdeal_pre_relf_finite [hRelFwdRefIdeal : Cert.RelFwdRefIdeal.Facts] [hPre_relf_finite : Cert.Pre_relf_finite.Facts] : Prop :=
  ∀ (m : (ℓ : Loc Cert.RelFwdRefIdeal.nD Cert.RelFwdRefIdeal.τ Cert.RelFwdRefIdeal.sig) → Buf (Elt Ideal) ℓ) (g : Dev Cert.RelFwdRefIdeal.nD → PrngReg), Pre_RelFwdRefIdeal_relf_finite m →
    θ_run (Cert.RelFwdRefIdeal.defs (F := Ideal)) (onTc (τ := Cert.RelFwdRefIdeal.τ) (Cert.RelFwdRefIdeal.main (F := Ideal))) ⟨m, fun _ => 0, g⟩ (fun r => (∀ c : Dev Cert.RelFwdRefIdeal.nD,
      r.2.mem ((c.tc : Thread Cert.RelFwdRefIdeal.nD Cert.RelFwdRefIdeal.τ).loc Cert.RelFwdRefIdeal.main_arg0) = m ((c.tc : Thread Cert.RelFwdRefIdeal.nD Cert.RelFwdRefIdeal.τ).loc Cert.RelFwdRefIdeal.main_arg0))
      ∧ r.2.sem = fun _ => 0)

def preserves_FfnWgrad_FfnWgradIdeal : Prop :=
  True

def algebraic_FfnWgradIdeal_FfnWgradRefIdeal [hFfnWgradIdeal : Cert.FfnWgradIdeal.Facts] [hFfnWgradRefIdeal : Cert.FfnWgradRefIdeal.Facts] : Prop :=
  ∀ (m : (ℓ : Loc Cert.FfnWgradIdeal.nD Cert.FfnWgradIdeal.τ Cert.FfnWgradIdeal.sig) → Buf (Elt Ideal) ℓ) (g : Dev Cert.FfnWgradIdeal.nD → PrngReg)
    (m' : (ℓ : Loc Cert.FfnWgradRefIdeal.nD Cert.FfnWgradRefIdeal.τ Cert.FfnWgradRefIdeal.sig) → Buf (Elt Ideal) ℓ) (g' : Dev Cert.FfnWgradRefIdeal.nD → PrngReg), Pre_FfnWgradIdeal m →
    (∀ c : Dev Cert.FfnWgradIdeal.nD,
      m' ((c.tc : Thread Cert.FfnWgradRefIdeal.nD Cert.FfnWgradRefIdeal.τ).loc Cert.FfnWgradRefIdeal.main_arg0) = m ((c.tc : Thread Cert.FfnWgradIdeal.nD Cert.FfnWgradIdeal.τ).loc Cert.FfnWgradIdeal.main_arg0)
      ∧ m' ((c.tc : Thread Cert.FfnWgradRefIdeal.nD Cert.FfnWgradRefIdeal.τ).loc Cert.FfnWgradRefIdeal.main_arg1) = m ((c.tc : Thread Cert.FfnWgradIdeal.nD Cert.FfnWgradIdeal.τ).loc Cert.FfnWgradIdeal.main_arg1)
      ∧ m' ((c.tc : Thread Cert.FfnWgradRefIdeal.nD Cert.FfnWgradRefIdeal.τ).loc Cert.FfnWgradRefIdeal.main_arg2) = m ((c.tc : Thread Cert.FfnWgradIdeal.nD Cert.FfnWgradIdeal.τ).loc Cert.FfnWgradIdeal.main_arg2)
      ∧ m' ((c.tc : Thread Cert.FfnWgradRefIdeal.nD Cert.FfnWgradRefIdeal.τ).loc Cert.FfnWgradRefIdeal.main_arg3) = m ((c.tc : Thread Cert.FfnWgradIdeal.nD Cert.FfnWgradIdeal.τ).loc Cert.FfnWgradIdeal.main_arg3)
      ∧ m' ((c.tc : Thread Cert.FfnWgradRefIdeal.nD Cert.FfnWgradRefIdeal.τ).loc Cert.FfnWgradRefIdeal.main_arg4) = m ((c.tc : Thread Cert.FfnWgradIdeal.nD Cert.FfnWgradIdeal.τ).loc Cert.FfnWgradIdeal.main_arg4)
      ∧ m' ((c.tc : Thread Cert.FfnWgradRefIdeal.nD Cert.FfnWgradRefIdeal.τ).loc Cert.FfnWgradRefIdeal.main_arg5) = m ((c.tc : Thread Cert.FfnWgradIdeal.nD Cert.FfnWgradIdeal.τ).loc Cert.FfnWgradIdeal.main_arg5)
      ∧ m' ((c.tc : Thread Cert.FfnWgradRefIdeal.nD Cert.FfnWgradRefIdeal.τ).loc Cert.FfnWgradRefIdeal.main_arg6) = m ((c.tc : Thread Cert.FfnWgradIdeal.nD Cert.FfnWgradIdeal.τ).loc Cert.FfnWgradIdeal.main_arg6)) →
    ∃ (v0 : (c : Dev Cert.FfnWgradIdeal.nD) → Buf (Elt Ideal) ((c.tc : Thread Cert.FfnWgradIdeal.nD Cert.FfnWgradIdeal.τ).loc Cert.FfnWgradIdeal.main_v35_0)) (v1 : (c : Dev Cert.FfnWgradIdeal.nD) → Buf (Elt Ideal) ((c.tc : Thread Cert.FfnWgradIdeal.nD Cert.FfnWgradIdeal.τ).loc Cert.FfnWgradIdeal.main_v35_1)) (v2 : (c : Dev Cert.FfnWgradIdeal.nD) → Buf (Elt Ideal) ((c.tc : Thread Cert.FfnWgradIdeal.nD Cert.FfnWgradIdeal.τ).loc Cert.FfnWgradIdeal.main_v35_2)),
      θ_run (Cert.FfnWgradIdeal.defs (F := Ideal)) (onTc (τ := Cert.FfnWgradIdeal.τ) (Cert.FfnWgradIdeal.main (F := Ideal))) ⟨m, fun _ => 0, g⟩ (fun r => ∀ c : Dev Cert.FfnWgradIdeal.nD,
          r.2.mem ((c.tc : Thread Cert.FfnWgradIdeal.nD Cert.FfnWgradIdeal.τ).loc Cert.FfnWgradIdeal.main_v35_0) = v0 c
          ∧ r.2.mem ((c.tc : Thread Cert.FfnWgradIdeal.nD Cert.FfnWgradIdeal.τ).loc Cert.FfnWgradIdeal.main_v35_1) = v1 c
          ∧ r.2.mem ((c.tc : Thread Cert.FfnWgradIdeal.nD Cert.FfnWgradIdeal.τ).loc Cert.FfnWgradIdeal.main_v35_2) = v2 c
          ∧ r.2.mem ((c.tc : Thread Cert.FfnWgradIdeal.nD Cert.FfnWgradIdeal.τ).loc Cert.FfnWgradIdeal.main_arg0) = m ((c.tc : Thread Cert.FfnWgradIdeal.nD Cert.FfnWgradIdeal.τ).loc Cert.FfnWgradIdeal.main_arg0)
          ∧ r.2.mem ((c.tc : Thread Cert.FfnWgradIdeal.nD Cert.FfnWgradIdeal.τ).loc Cert.FfnWgradIdeal.main_arg1) = m ((c.tc : Thread Cert.FfnWgradIdeal.nD Cert.FfnWgradIdeal.τ).loc Cert.FfnWgradIdeal.main_arg1)
          ∧ r.2.mem ((c.tc : Thread Cert.FfnWgradIdeal.nD Cert.FfnWgradIdeal.τ).loc Cert.FfnWgradIdeal.main_arg2) = m ((c.tc : Thread Cert.FfnWgradIdeal.nD Cert.FfnWgradIdeal.τ).loc Cert.FfnWgradIdeal.main_arg2)
          ∧ r.2.mem ((c.tc : Thread Cert.FfnWgradIdeal.nD Cert.FfnWgradIdeal.τ).loc Cert.FfnWgradIdeal.main_arg3) = m ((c.tc : Thread Cert.FfnWgradIdeal.nD Cert.FfnWgradIdeal.τ).loc Cert.FfnWgradIdeal.main_arg3)
          ∧ r.2.mem ((c.tc : Thread Cert.FfnWgradIdeal.nD Cert.FfnWgradIdeal.τ).loc Cert.FfnWgradIdeal.main_arg4) = m ((c.tc : Thread Cert.FfnWgradIdeal.nD Cert.FfnWgradIdeal.τ).loc Cert.FfnWgradIdeal.main_arg4)
          ∧ r.2.mem ((c.tc : Thread Cert.FfnWgradIdeal.nD Cert.FfnWgradIdeal.τ).loc Cert.FfnWgradIdeal.main_arg5) = m ((c.tc : Thread Cert.FfnWgradIdeal.nD Cert.FfnWgradIdeal.τ).loc Cert.FfnWgradIdeal.main_arg5)
          ∧ r.2.mem ((c.tc : Thread Cert.FfnWgradIdeal.nD Cert.FfnWgradIdeal.τ).loc Cert.FfnWgradIdeal.main_arg6) = m ((c.tc : Thread Cert.FfnWgradIdeal.nD Cert.FfnWgradIdeal.τ).loc Cert.FfnWgradIdeal.main_arg6))
      ∧ θ_run (Cert.FfnWgradRefIdeal.defs (F := Ideal)) (onTc (τ := Cert.FfnWgradRefIdeal.τ) (Cert.FfnWgradRefIdeal.main (F := Ideal))) ⟨m', fun _ => 0, g'⟩ (fun r => ∀ c : Dev Cert.FfnWgradRefIdeal.nD,
          r.2.mem ((c.tc : Thread Cert.FfnWgradRefIdeal.nD Cert.FfnWgradRefIdeal.τ).loc Cert.FfnWgradRefIdeal.main_v37) = v0 c
          ∧ r.2.mem ((c.tc : Thread Cert.FfnWgradRefIdeal.nD Cert.FfnWgradRefIdeal.τ).loc Cert.FfnWgradRefIdeal.main_v39) = v1 c
          ∧ r.2.mem ((c.tc : Thread Cert.FfnWgradRefIdeal.nD Cert.FfnWgradRefIdeal.τ).loc Cert.FfnWgradRefIdeal.main_v40) = v2 c
          ∧ r.2.mem ((c.tc : Thread Cert.FfnWgradRefIdeal.nD Cert.FfnWgradRefIdeal.τ).loc Cert.FfnWgradRefIdeal.main_arg0) = m' ((c.tc : Thread Cert.FfnWgradRefIdeal.nD Cert.FfnWgradRefIdeal.τ).loc Cert.FfnWgradRefIdeal.main_arg0)
          ∧ r.2.mem ((c.tc : Thread Cert.FfnWgradRefIdeal.nD Cert.FfnWgradRefIdeal.τ).loc Cert.FfnWgradRefIdeal.main_arg1) = m' ((c.tc : Thread Cert.FfnWgradRefIdeal.nD Cert.FfnWgradRefIdeal.τ).loc Cert.FfnWgradRefIdeal.main_arg1)
          ∧ r.2.mem ((c.tc : Thread Cert.FfnWgradRefIdeal.nD Cert.FfnWgradRefIdeal.τ).loc Cert.FfnWgradRefIdeal.main_arg2) = m' ((c.tc : Thread Cert.FfnWgradRefIdeal.nD Cert.FfnWgradRefIdeal.τ).loc Cert.FfnWgradRefIdeal.main_arg2)
          ∧ r.2.mem ((c.tc : Thread Cert.FfnWgradRefIdeal.nD Cert.FfnWgradRefIdeal.τ).loc Cert.FfnWgradRefIdeal.main_arg3) = m' ((c.tc : Thread Cert.FfnWgradRefIdeal.nD Cert.FfnWgradRefIdeal.τ).loc Cert.FfnWgradRefIdeal.main_arg3)
          ∧ r.2.mem ((c.tc : Thread Cert.FfnWgradRefIdeal.nD Cert.FfnWgradRefIdeal.τ).loc Cert.FfnWgradRefIdeal.main_arg4) = m' ((c.tc : Thread Cert.FfnWgradRefIdeal.nD Cert.FfnWgradRefIdeal.τ).loc Cert.FfnWgradRefIdeal.main_arg4)
          ∧ r.2.mem ((c.tc : Thread Cert.FfnWgradRefIdeal.nD Cert.FfnWgradRefIdeal.τ).loc Cert.FfnWgradRefIdeal.main_arg5) = m' ((c.tc : Thread Cert.FfnWgradRefIdeal.nD Cert.FfnWgradRefIdeal.τ).loc Cert.FfnWgradRefIdeal.main_arg5)
          ∧ r.2.mem ((c.tc : Thread Cert.FfnWgradRefIdeal.nD Cert.FfnWgradRefIdeal.τ).loc Cert.FfnWgradRefIdeal.main_arg6) = m' ((c.tc : Thread Cert.FfnWgradRefIdeal.nD Cert.FfnWgradRefIdeal.τ).loc Cert.FfnWgradRefIdeal.main_arg6))

def preserves_AttBwd_AttBwdIdeal : Prop :=
  IdealRules.named_const.Statement Cert.AttBwdIdeal.κ "mask" .f32 0xF149F2CA#32 ⊥

def algebraic_AttBwdIdeal_AttBwdRefIdeal_pre_att_finite [hAttBwdIdeal : Cert.AttBwdIdeal.Facts] [hAttBwdRefIdeal : Cert.AttBwdRefIdeal.Facts] [hPre_att_finite : Cert.Pre_att_finite.Facts] : Prop :=
  ∀ (m : (ℓ : Loc Cert.AttBwdIdeal.nD Cert.AttBwdIdeal.τ Cert.AttBwdIdeal.sig) → Buf (Elt Ideal) ℓ) (g : Dev Cert.AttBwdIdeal.nD → PrngReg)
    (m' : (ℓ : Loc Cert.AttBwdRefIdeal.nD Cert.AttBwdRefIdeal.τ Cert.AttBwdRefIdeal.sig) → Buf (Elt Ideal) ℓ) (g' : Dev Cert.AttBwdRefIdeal.nD → PrngReg), Pre_AttBwdIdeal_att_finite m →
    (∀ c : Dev Cert.AttBwdIdeal.nD,
      m' ((c.tc : Thread Cert.AttBwdRefIdeal.nD Cert.AttBwdRefIdeal.τ).loc Cert.AttBwdRefIdeal.main_arg0) = m ((c.tc : Thread Cert.AttBwdIdeal.nD Cert.AttBwdIdeal.τ).loc Cert.AttBwdIdeal.main_arg0)
      ∧ m' ((c.tc : Thread Cert.AttBwdRefIdeal.nD Cert.AttBwdRefIdeal.τ).loc Cert.AttBwdRefIdeal.main_arg1) = m ((c.tc : Thread Cert.AttBwdIdeal.nD Cert.AttBwdIdeal.τ).loc Cert.AttBwdIdeal.main_arg1)
      ∧ m' ((c.tc : Thread Cert.AttBwdRefIdeal.nD Cert.AttBwdRefIdeal.τ).loc Cert.AttBwdRefIdeal.main_arg2) = m ((c.tc : Thread Cert.AttBwdIdeal.nD Cert.AttBwdIdeal.τ).loc Cert.AttBwdIdeal.main_arg2)
      ∧ m' ((c.tc : Thread Cert.AttBwdRefIdeal.nD Cert.AttBwdRefIdeal.τ).loc Cert.AttBwdRefIdeal.main_arg3) = m ((c.tc : Thread Cert.AttBwdIdeal.nD Cert.AttBwdIdeal.τ).loc Cert.AttBwdIdeal.main_arg3)
      ∧ m' ((c.tc : Thread Cert.AttBwdRefIdeal.nD Cert.AttBwdRefIdeal.τ).loc Cert.AttBwdRefIdeal.main_arg4) = m ((c.tc : Thread Cert.AttBwdIdeal.nD Cert.AttBwdIdeal.τ).loc Cert.AttBwdIdeal.main_arg4)) →
    ∃ (v0 : (c : Dev Cert.AttBwdIdeal.nD) → Buf (Elt Ideal) ((c.tc : Thread Cert.AttBwdIdeal.nD Cert.AttBwdIdeal.τ).loc Cert.AttBwdIdeal.main_v34_0)) (v1 : (c : Dev Cert.AttBwdIdeal.nD) → Buf (Elt Ideal) ((c.tc : Thread Cert.AttBwdIdeal.nD Cert.AttBwdIdeal.τ).loc Cert.AttBwdIdeal.main_v34_1)) (v2 : (c : Dev Cert.AttBwdIdeal.nD) → Buf (Elt Ideal) ((c.tc : Thread Cert.AttBwdIdeal.nD Cert.AttBwdIdeal.τ).loc Cert.AttBwdIdeal.main_v34_2)) (v3 : (c : Dev Cert.AttBwdIdeal.nD) → Buf (Elt Ideal) ((c.tc : Thread Cert.AttBwdIdeal.nD Cert.AttBwdIdeal.τ).loc Cert.AttBwdIdeal.main_v34_3)),
      θ_run (Cert.AttBwdIdeal.defs (F := Ideal)) (onTc (τ := Cert.AttBwdIdeal.τ) (Cert.AttBwdIdeal.main (F := Ideal))) ⟨m, fun _ => 0, g⟩ (fun r => ∀ c : Dev Cert.AttBwdIdeal.nD,
          r.2.mem ((c.tc : Thread Cert.AttBwdIdeal.nD Cert.AttBwdIdeal.τ).loc Cert.AttBwdIdeal.main_v34_0) = v0 c
          ∧ r.2.mem ((c.tc : Thread Cert.AttBwdIdeal.nD Cert.AttBwdIdeal.τ).loc Cert.AttBwdIdeal.main_v34_1) = v1 c
          ∧ r.2.mem ((c.tc : Thread Cert.AttBwdIdeal.nD Cert.AttBwdIdeal.τ).loc Cert.AttBwdIdeal.main_v34_2) = v2 c
          ∧ r.2.mem ((c.tc : Thread Cert.AttBwdIdeal.nD Cert.AttBwdIdeal.τ).loc Cert.AttBwdIdeal.main_v34_3) = v3 c
          ∧ r.2.mem ((c.tc : Thread Cert.AttBwdIdeal.nD Cert.AttBwdIdeal.τ).loc Cert.AttBwdIdeal.main_arg0) = m ((c.tc : Thread Cert.AttBwdIdeal.nD Cert.AttBwdIdeal.τ).loc Cert.AttBwdIdeal.main_arg0)
          ∧ r.2.mem ((c.tc : Thread Cert.AttBwdIdeal.nD Cert.AttBwdIdeal.τ).loc Cert.AttBwdIdeal.main_arg1) = m ((c.tc : Thread Cert.AttBwdIdeal.nD Cert.AttBwdIdeal.τ).loc Cert.AttBwdIdeal.main_arg1)
          ∧ r.2.mem ((c.tc : Thread Cert.AttBwdIdeal.nD Cert.AttBwdIdeal.τ).loc Cert.AttBwdIdeal.main_arg2) = m ((c.tc : Thread Cert.AttBwdIdeal.nD Cert.AttBwdIdeal.τ).loc Cert.AttBwdIdeal.main_arg2)
          ∧ r.2.mem ((c.tc : Thread Cert.AttBwdIdeal.nD Cert.AttBwdIdeal.τ).loc Cert.AttBwdIdeal.main_arg3) = m ((c.tc : Thread Cert.AttBwdIdeal.nD Cert.AttBwdIdeal.τ).loc Cert.AttBwdIdeal.main_arg3)
          ∧ r.2.mem ((c.tc : Thread Cert.AttBwdIdeal.nD Cert.AttBwdIdeal.τ).loc Cert.AttBwdIdeal.main_arg4) = m ((c.tc : Thread Cert.AttBwdIdeal.nD Cert.AttBwdIdeal.τ).loc Cert.AttBwdIdeal.main_arg4))
      ∧ θ_run (Cert.AttBwdRefIdeal.defs (F := Ideal)) (onTc (τ := Cert.AttBwdRefIdeal.τ) (Cert.AttBwdRefIdeal.main (F := Ideal))) ⟨m', fun _ => 0, g'⟩ (fun r => ∀ c : Dev Cert.AttBwdRefIdeal.nD,
          r.2.mem ((c.tc : Thread Cert.AttBwdRefIdeal.nD Cert.AttBwdRefIdeal.τ).loc Cert.AttBwdRefIdeal.main_v208) = v0 c
          ∧ r.2.mem ((c.tc : Thread Cert.AttBwdRefIdeal.nD Cert.AttBwdRefIdeal.τ).loc Cert.AttBwdRefIdeal.main_v196) = v1 c
          ∧ r.2.mem ((c.tc : Thread Cert.AttBwdRefIdeal.nD Cert.AttBwdRefIdeal.τ).loc Cert.AttBwdRefIdeal.main_v198) = v2 c
          ∧ r.2.mem ((c.tc : Thread Cert.AttBwdRefIdeal.nD Cert.AttBwdRefIdeal.τ).loc Cert.AttBwdRefIdeal.main_v209) = v3 c
          ∧ r.2.mem ((c.tc : Thread Cert.AttBwdRefIdeal.nD Cert.AttBwdRefIdeal.τ).loc Cert.AttBwdRefIdeal.main_arg0) = m' ((c.tc : Thread Cert.AttBwdRefIdeal.nD Cert.AttBwdRefIdeal.τ).loc Cert.AttBwdRefIdeal.main_arg0)
          ∧ r.2.mem ((c.tc : Thread Cert.AttBwdRefIdeal.nD Cert.AttBwdRefIdeal.τ).loc Cert.AttBwdRefIdeal.main_arg1) = m' ((c.tc : Thread Cert.AttBwdRefIdeal.nD Cert.AttBwdRefIdeal.τ).loc Cert.AttBwdRefIdeal.main_arg1)
          ∧ r.2.mem ((c.tc : Thread Cert.AttBwdRefIdeal.nD Cert.AttBwdRefIdeal.τ).loc Cert.AttBwdRefIdeal.main_arg2) = m' ((c.tc : Thread Cert.AttBwdRefIdeal.nD Cert.AttBwdRefIdeal.τ).loc Cert.AttBwdRefIdeal.main_arg2)
          ∧ r.2.mem ((c.tc : Thread Cert.AttBwdRefIdeal.nD Cert.AttBwdRefIdeal.τ).loc Cert.AttBwdRefIdeal.main_arg3) = m' ((c.tc : Thread Cert.AttBwdRefIdeal.nD Cert.AttBwdRefIdeal.τ).loc Cert.AttBwdRefIdeal.main_arg3)
          ∧ r.2.mem ((c.tc : Thread Cert.AttBwdRefIdeal.nD Cert.AttBwdRefIdeal.τ).loc Cert.AttBwdRefIdeal.main_arg4) = m' ((c.tc : Thread Cert.AttBwdRefIdeal.nD Cert.AttBwdRefIdeal.τ).loc Cert.AttBwdRefIdeal.main_arg4))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)
      ∧ m' ((c.tc : Thread Cert.MergeBwdRefIdeal.nD Cert.MergeBwdRefIdeal.τ).loc Cert.MergeBwdRefIdeal.main_arg7) = m ((c.tc : Thread Cert.MergeBwdIdeal.nD Cert.MergeBwdIdeal.τ).loc Cert.MergeBwdIdeal.main_arg7)) →
    ∃ (v0 : (c : Dev Cert.MergeBwdIdeal.nD) → Buf (Elt Ideal) ((c.tc : Thread Cert.MergeBwdIdeal.nD Cert.MergeBwdIdeal.τ).loc Cert.MergeBwdIdeal.main_v40_0)) (v1 : (c : Dev Cert.MergeBwdIdeal.nD) → Buf (Elt Ideal) ((c.tc : Thread Cert.MergeBwdIdeal.nD Cert.MergeBwdIdeal.τ).loc Cert.MergeBwdIdeal.main_v40_1)) (v2 : (c : Dev Cert.MergeBwdIdeal.nD) → Buf (Elt Ideal) ((c.tc : Thread Cert.MergeBwdIdeal.nD Cert.MergeBwdIdeal.τ).loc Cert.MergeBwdIdeal.main_v40_2)) (v3 : (c : Dev Cert.MergeBwdIdeal.nD) → Buf (Elt Ideal) ((c.tc : Thread Cert.MergeBwdIdeal.nD Cert.MergeBwdIdeal.τ).loc Cert.MergeBwdIdeal.main_v40_3)) (v4 : (c : Dev Cert.MergeBwdIdeal.nD) → Buf (Elt Ideal) ((c.tc : Thread Cert.MergeBwdIdeal.nD Cert.MergeBwdIdeal.τ).loc Cert.MergeBwdIdeal.main_v40_4)) (v5 : (c : Dev Cert.MergeBwdIdeal.nD) → Buf (Elt Ideal) ((c.tc : Thread Cert.MergeBwdIdeal.nD Cert.MergeBwdIdeal.τ).loc Cert.MergeBwdIdeal.main_v40_5)) (v6 : (c : Dev Cert.MergeBwdIdeal.nD) → Buf (Elt Ideal) ((c.tc : Thread Cert.MergeBwdIdeal.nD Cert.MergeBwdIdeal.τ).loc Cert.MergeBwdIdeal.main_v40_6)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v40_0) = v0 c
          ∧ r.2.mem ((c.tc : Thread Cert.MergeBwdIdeal.nD Cert.MergeBwdIdeal.τ).loc Cert.MergeBwdIdeal.main_v40_1) = v1 c
          ∧ r.2.mem ((c.tc : Thread Cert.MergeBwdIdeal.nD Cert.MergeBwdIdeal.τ).loc Cert.MergeBwdIdeal.main_v40_2) = v2 c
          ∧ r.2.mem ((c.tc : Thread Cert.MergeBwdIdeal.nD Cert.MergeBwdIdeal.τ).loc Cert.MergeBwdIdeal.main_v40_3) = v3 c
          ∧ r.2.mem ((c.tc : Thread Cert.MergeBwdIdeal.nD Cert.MergeBwdIdeal.τ).loc Cert.MergeBwdIdeal.main_v40_4) = v4 c
          ∧ r.2.mem ((c.tc : Thread Cert.MergeBwdIdeal.nD Cert.MergeBwdIdeal.τ).loc Cert.MergeBwdIdeal.main_v40_5) = v5 c
          ∧ r.2.mem ((c.tc : Thread Cert.MergeBwdIdeal.nD Cert.MergeBwdIdeal.τ).loc Cert.MergeBwdIdeal.main_v40_6) = v6 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v49) = v0 c
          ∧ r.2.mem ((c.tc : Thread Cert.MergeBwdRefIdeal.nD Cert.MergeBwdRefIdeal.τ).loc Cert.MergeBwdRefIdeal.main_v51) = v1 c
          ∧ r.2.mem ((c.tc : Thread Cert.MergeBwdRefIdeal.nD Cert.MergeBwdRefIdeal.τ).loc Cert.MergeBwdRefIdeal.main_v53) = v2 c
          ∧ r.2.mem ((c.tc : Thread Cert.MergeBwdRefIdeal.nD Cert.MergeBwdRefIdeal.τ).loc Cert.MergeBwdRefIdeal.main_v47) = v3 c
          ∧ r.2.mem ((c.tc : Thread Cert.MergeBwdRefIdeal.nD Cert.MergeBwdRefIdeal.τ).loc Cert.MergeBwdRefIdeal.main_v56) = v4 c
          ∧ r.2.mem ((c.tc : Thread Cert.MergeBwdRefIdeal.nD Cert.MergeBwdRefIdeal.τ).loc Cert.MergeBwdRefIdeal.main_v59) = v5 c
          ∧ r.2.mem ((c.tc : Thread Cert.MergeBwdRefIdeal.nD Cert.MergeBwdRefIdeal.τ).loc Cert.MergeBwdRefIdeal.main_v61) = v6 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6)
          ∧ r.2.mem ((c.tc : Thread Cert.MergeBwdRefIdeal.nD Cert.MergeBwdRefIdeal.τ).loc Cert.MergeBwdRefIdeal.main_arg7) = m' ((c.tc : Thread Cert.MergeBwdRefIdeal.nD Cert.MergeBwdRefIdeal.τ).loc Cert.MergeBwdRefIdeal.main_arg7))

def preserves_FfnDgrad_FfnDgradIdeal : Prop :=
  True

def algebraic_FfnDgradIdeal_FfnDgradRefIdeal_pre_dgrad_finite [hFfnDgradIdeal : Cert.FfnDgradIdeal.Facts] [hFfnDgradRefIdeal : Cert.FfnDgradRefIdeal.Facts] [hPre_dgrad_finite : Cert.Pre_dgrad_finite.Facts] : Prop :=
  ∀ (m : (ℓ : Loc Cert.FfnDgradIdeal.nD Cert.FfnDgradIdeal.τ Cert.FfnDgradIdeal.sig) → Buf (Elt Ideal) ℓ) (g : Dev Cert.FfnDgradIdeal.nD → PrngReg)
    (m' : (ℓ : Loc Cert.FfnDgradRefIdeal.nD Cert.FfnDgradRefIdeal.τ Cert.FfnDgradRefIdeal.sig) → Buf (Elt Ideal) ℓ) (g' : Dev Cert.FfnDgradRefIdeal.nD → PrngReg), Pre_FfnDgradIdeal_dgrad_finite m →
    (∀ c : Dev Cert.FfnDgradIdeal.nD,
      m' ((c.tc : Thread Cert.FfnDgradRefIdeal.nD Cert.FfnDgradRefIdeal.τ).loc Cert.FfnDgradRefIdeal.main_arg0) = m ((c.tc : Thread Cert.FfnDgradIdeal.nD Cert.FfnDgradIdeal.τ).loc Cert.FfnDgradIdeal.main_arg0)
      ∧ m' ((c.tc : Thread Cert.FfnDgradRefIdeal.nD Cert.FfnDgradRefIdeal.τ).loc Cert.FfnDgradRefIdeal.main_arg1) = m ((c.tc : Thread Cert.FfnDgradIdeal.nD Cert.FfnDgradIdeal.τ).loc Cert.FfnDgradIdeal.main_arg1)
      ∧ m' ((c.tc : Thread Cert.FfnDgradRefIdeal.nD Cert.FfnDgradRefIdeal.τ).loc Cert.FfnDgradRefIdeal.main_arg2) = m ((c.tc : Thread Cert.FfnDgradIdeal.nD Cert.FfnDgradIdeal.τ).loc Cert.FfnDgradIdeal.main_arg2)
      ∧ m' ((c.tc : Thread Cert.FfnDgradRefIdeal.nD Cert.FfnDgradRefIdeal.τ).loc Cert.FfnDgradRefIdeal.main_arg3) = m ((c.tc : Thread Cert.FfnDgradIdeal.nD Cert.FfnDgradIdeal.τ).loc Cert.FfnDgradIdeal.main_arg3)
      ∧ m' ((c.tc : Thread Cert.FfnDgradRefIdeal.nD Cert.FfnDgradRefIdeal.τ).loc Cert.FfnDgradRefIdeal.main_arg4) = m ((c.tc : Thread Cert.FfnDgradIdeal.nD Cert.FfnDgradIdeal.τ).loc Cert.FfnDgradIdeal.main_arg4)
      ∧ m' ((c.tc : Thread Cert.FfnDgradRefIdeal.nD Cert.FfnDgradRefIdeal.τ).loc Cert.FfnDgradRefIdeal.main_arg5) = m ((c.tc : Thread Cert.FfnDgradIdeal.nD Cert.FfnDgradIdeal.τ).loc Cert.FfnDgradIdeal.main_arg5)) →
    ∃ (v0 : (c : Dev Cert.FfnDgradIdeal.nD) → Buf (Elt Ideal) ((c.tc : Thread Cert.FfnDgradIdeal.nD Cert.FfnDgradIdeal.τ).loc Cert.FfnDgradIdeal.main_v38_0)) (v1 : (c : Dev Cert.FfnDgradIdeal.nD) → Buf (Elt Ideal) ((c.tc : Thread Cert.FfnDgradIdeal.nD Cert.FfnDgradIdeal.τ).loc Cert.FfnDgradIdeal.main_v38_1)) (v2 : (c : Dev Cert.FfnDgradIdeal.nD) → Buf (Elt Ideal) ((c.tc : Thread Cert.FfnDgradIdeal.nD Cert.FfnDgradIdeal.τ).loc Cert.FfnDgradIdeal.main_v38_2)) (v3 : (c : Dev Cert.FfnDgradIdeal.nD) → Buf (Elt Ideal) ((c.tc : Thread Cert.FfnDgradIdeal.nD Cert.FfnDgradIdeal.τ).loc Cert.FfnDgradIdeal.main_v38_3)),
      θ_run (Cert.FfnDgradIdeal.defs (F := Ideal)) (onTc (τ := Cert.FfnDgradIdeal.τ) (Cert.FfnDgradIdeal.main (F := Ideal))) ⟨m, fun _ => 0, g⟩ (fun r => ∀ c : Dev Cert.FfnDgradIdeal.nD,
          r.2.mem ((c.tc : Thread Cert.FfnDgradIdeal.nD Cert.FfnDgradIdeal.τ).loc Cert.FfnDgradIdeal.main_v38_0) = v0 c
          ∧ r.2.mem ((c.tc : Thread Cert.FfnDgradIdeal.nD Cert.FfnDgradIdeal.τ).loc Cert.FfnDgradIdeal.main_v38_1) = v1 c
          ∧ r.2.mem ((c.tc : Thread Cert.FfnDgradIdeal.nD Cert.FfnDgradIdeal.τ).loc Cert.FfnDgradIdeal.main_v38_2) = v2 c
          ∧ r.2.mem ((c.tc : Thread Cert.FfnDgradIdeal.nD Cert.FfnDgradIdeal.τ).loc Cert.FfnDgradIdeal.main_v38_3) = v3 c
          ∧ r.2.mem ((c.tc : Thread Cert.FfnDgradIdeal.nD Cert.FfnDgradIdeal.τ).loc Cert.FfnDgradIdeal.main_arg0) = m ((c.tc : Thread Cert.FfnDgradIdeal.nD Cert.FfnDgradIdeal.τ).loc Cert.FfnDgradIdeal.main_arg0)
          ∧ r.2.mem ((c.tc : Thread Cert.FfnDgradIdeal.nD Cert.FfnDgradIdeal.τ).loc Cert.FfnDgradIdeal.main_arg1) = m ((c.tc : Thread Cert.FfnDgradIdeal.nD Cert.FfnDgradIdeal.τ).loc Cert.FfnDgradIdeal.main_arg1)
          ∧ r.2.mem ((c.tc : Thread Cert.FfnDgradIdeal.nD Cert.FfnDgradIdeal.τ).loc Cert.FfnDgradIdeal.main_arg2) = m ((c.tc : Thread Cert.FfnDgradIdeal.nD Cert.FfnDgradIdeal.τ).loc Cert.FfnDgradIdeal.main_arg2)
          ∧ r.2.mem ((c.tc : Thread Cert.FfnDgradIdeal.nD Cert.FfnDgradIdeal.τ).loc Cert.FfnDgradIdeal.main_arg3) = m ((c.tc : Thread Cert.FfnDgradIdeal.nD Cert.FfnDgradIdeal.τ).loc Cert.FfnDgradIdeal.main_arg3)
          ∧ r.2.mem ((c.tc : Thread Cert.FfnDgradIdeal.nD Cert.FfnDgradIdeal.τ).loc Cert.FfnDgradIdeal.main_arg4) = m ((c.tc : Thread Cert.FfnDgradIdeal.nD Cert.FfnDgradIdeal.τ).loc Cert.FfnDgradIdeal.main_arg4)
          ∧ r.2.mem ((c.tc : Thread Cert.FfnDgradIdeal.nD Cert.FfnDgradIdeal.τ).loc Cert.FfnDgradIdeal.main_arg5) = m ((c.tc : Thread Cert.FfnDgradIdeal.nD Cert.FfnDgradIdeal.τ).loc Cert.FfnDgradIdeal.main_arg5))
      ∧ θ_run (Cert.FfnDgradRefIdeal.defs (F := Ideal)) (onTc (τ := Cert.FfnDgradRefIdeal.τ) (Cert.FfnDgradRefIdeal.main (F := Ideal))) ⟨m', fun _ => 0, g'⟩ (fun r => ∀ c : Dev Cert.FfnDgradRefIdeal.nD,
          r.2.mem ((c.tc : Thread Cert.FfnDgradRefIdeal.nD Cert.FfnDgradRefIdeal.τ).loc Cert.FfnDgradRefIdeal.main_v91) = v0 c
          ∧ r.2.mem ((c.tc : Thread Cert.FfnDgradRefIdeal.nD Cert.FfnDgradRefIdeal.τ).loc Cert.FfnDgradRefIdeal.main_v95) = v1 c
          ∧ r.2.mem ((c.tc : Thread Cert.FfnDgradRefIdeal.nD Cert.FfnDgradRefIdeal.τ).loc Cert.FfnDgradRefIdeal.main_v99) = v2 c
          ∧ r.2.mem ((c.tc : Thread Cert.FfnDgradRefIdeal.nD Cert.FfnDgradRefIdeal.τ).loc Cert.FfnDgradRefIdeal.main_v60) = v3 c
          ∧ r.2.mem ((c.tc : Thread Cert.FfnDgradRefIdeal.nD Cert.FfnDgradRefIdeal.τ).loc Cert.FfnDgradRefIdeal.main_arg0) = m' ((c.tc : Thread Cert.FfnDgradRefIdeal.nD Cert.FfnDgradRefIdeal.τ).loc Cert.FfnDgradRefIdeal.main_arg0)
          ∧ r.2.mem ((c.tc : Thread Cert.FfnDgradRefIdeal.nD Cert.FfnDgradRefIdeal.τ).loc Cert.FfnDgradRefIdeal.main_arg1) = m' ((c.tc : Thread Cert.FfnDgradRefIdeal.nD Cert.FfnDgradRefIdeal.τ).loc Cert.FfnDgradRefIdeal.main_arg1)
          ∧ r.2.mem ((c.tc : Thread Cert.FfnDgradRefIdeal.nD Cert.FfnDgradRefIdeal.τ).loc Cert.FfnDgradRefIdeal.main_arg2) = m' ((c.tc : Thread Cert.FfnDgradRefIdeal.nD Cert.FfnDgradRefIdeal.τ).loc Cert.FfnDgradRefIdeal.main_arg2)
          ∧ r.2.mem ((c.tc : Thread Cert.FfnDgradRefIdeal.nD Cert.FfnDgradRefIdeal.τ).loc Cert.FfnDgradRefIdeal.main_arg3) = m' ((c.tc : Thread Cert.FfnDgradRefIdeal.nD Cert.FfnDgradRefIdeal.τ).loc Cert.FfnDgradRefIdeal.main_arg3)
          ∧ r.2.mem ((c.tc : Thread Cert.FfnDgradRefIdeal.nD Cert.FfnDgradRefIdeal.τ).loc Cert.FfnDgradRefIdeal.main_arg4) = m' ((c.tc : Thread Cert.FfnDgradRefIdeal.nD Cert.FfnDgradRefIdeal.τ).loc Cert.FfnDgradRefIdeal.main_arg4)
          ∧ r.2.mem ((c.tc : Thread Cert.FfnDgradRefIdeal.nD Cert.FfnDgradRefIdeal.τ).loc Cert.FfnDgradRefIdeal.main_arg5) = m' ((c.tc : Thread Cert.FfnDgradRefIdeal.nD Cert.FfnDgradRefIdeal.τ).loc Cert.FfnDgradRefIdeal.main_arg5))

def preserves_LossHead_LossHeadIdeal : Prop :=
  True

def algebraic_LossHeadIdeal_LossHeadRefIdeal_pre_loss_finite [hLossHeadIdeal : Cert.LossHeadIdeal.Facts] [hLossHeadRefIdeal : Cert.LossHeadRefIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)
      ∧ m' ((c.tc : Thread Cert.LossHeadRefIdeal.nD Cert.LossHeadRefIdeal.τ).loc Cert.LossHeadRefIdeal.main_arg5) = m ((c.tc : Thread Cert.LossHeadIdeal.nD Cert.LossHeadIdeal.τ).loc Cert.LossHeadIdeal.main_arg5)
      ∧ m' ((c.tc : Thread Cert.LossHeadRefIdeal.nD Cert.LossHeadRefIdeal.τ).loc Cert.LossHeadRefIdeal.main_arg6) = m ((c.tc : Thread Cert.LossHeadIdeal.nD Cert.LossHeadIdeal.τ).loc Cert.LossHeadIdeal.main_arg6)) →
    ∃ (v0 : (c : Dev Cert.LossHeadIdeal.nD) → Buf (Elt Ideal) ((c.tc : Thread Cert.LossHeadIdeal.nD Cert.LossHeadIdeal.τ).loc Cert.LossHeadIdeal.main_v14_0)) (v1 : (c : Dev Cert.LossHeadIdeal.nD) → Buf (Elt Ideal) ((c.tc : Thread Cert.LossHeadIdeal.nD Cert.LossHeadIdeal.τ).loc Cert.LossHeadIdeal.main_v14_1)) (v2 : (c : Dev Cert.LossHeadIdeal.nD) → Buf (Elt Ideal) ((c.tc : Thread Cert.LossHeadIdeal.nD Cert.LossHeadIdeal.τ).loc Cert.LossHeadIdeal.main_v14_2)) (v3 : (c : Dev Cert.LossHeadIdeal.nD) → Buf (Elt Ideal) ((c.tc : Thread Cert.LossHeadIdeal.nD Cert.LossHeadIdeal.τ).loc Cert.LossHeadIdeal.main_v14_3)) (v4 : (c : Dev Cert.LossHeadIdeal.nD) → Buf (Elt Ideal) ((c.tc : Thread Cert.LossHeadIdeal.nD Cert.LossHeadIdeal.τ).loc Cert.LossHeadIdeal.main_v14_4)) (v5 : (c : Dev Cert.LossHeadIdeal.nD) → Buf (Elt Ideal) ((c.tc : Thread Cert.LossHeadIdeal.nD Cert.LossHeadIdeal.τ).loc Cert.LossHeadIdeal.main_v14_5)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v14_0) = v0 c
          ∧ r.2.mem ((c.tc : Thread Cert.LossHeadIdeal.nD Cert.LossHeadIdeal.τ).loc Cert.LossHeadIdeal.main_v14_1) = v1 c
          ∧ r.2.mem ((c.tc : Thread Cert.LossHeadIdeal.nD Cert.LossHeadIdeal.τ).loc Cert.LossHeadIdeal.main_v14_2) = v2 c
          ∧ r.2.mem ((c.tc : Thread Cert.LossHeadIdeal.nD Cert.LossHeadIdeal.τ).loc Cert.LossHeadIdeal.main_v14_3) = v3 c
          ∧ r.2.mem ((c.tc : Thread Cert.LossHeadIdeal.nD Cert.LossHeadIdeal.τ).loc Cert.LossHeadIdeal.main_v14_4) = v4 c
          ∧ r.2.mem ((c.tc : Thread Cert.LossHeadIdeal.nD Cert.LossHeadIdeal.τ).loc Cert.LossHeadIdeal.main_v14_5) = v5 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
          ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5)
          ∧ r.2.mem ((c.tc : Thread Cert.LossHeadIdeal.nD Cert.LossHeadIdeal.τ).loc Cert.LossHeadIdeal.main_arg6) = m ((c.tc : Thread Cert.LossHeadIdeal.nD Cert.LossHeadIdeal.τ).loc Cert.LossHeadIdeal.main_arg6))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v77) = v0 c
          ∧ r.2.mem ((c.tc : Thread Cert.LossHeadRefIdeal.nD Cert.LossHeadRefIdeal.τ).loc Cert.LossHeadRefIdeal.main_v79) = v1 c
          ∧ r.2.mem ((c.tc : Thread Cert.LossHeadRefIdeal.nD Cert.LossHeadRefIdeal.τ).loc Cert.LossHeadRefIdeal.main_v85) = v2 c
          ∧ r.2.mem ((c.tc : Thread Cert.LossHeadRefIdeal.nD Cert.LossHeadRefIdeal.τ).loc Cert.LossHeadRefIdeal.main_v91) = v3 c
          ∧ r.2.mem ((c.tc : Thread Cert.LossHeadRefIdeal.nD Cert.LossHeadRefIdeal.τ).loc Cert.LossHeadRefIdeal.main_v92) = v4 c
          ∧ r.2.mem ((c.tc : Thread Cert.LossHeadRefIdeal.nD Cert.LossHeadRefIdeal.τ).loc Cert.LossHeadRefIdeal.main_v93) = v5 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4)
          ∧ r.2.mem ((c.tc : Thread Cert.LossHeadRefIdeal.nD Cert.LossHeadRefIdeal.τ).loc Cert.LossHeadRefIdeal.main_arg5) = m' ((c.tc : Thread Cert.LossHeadRefIdeal.nD Cert.LossHeadRefIdeal.τ).loc Cert.LossHeadRefIdeal.main_arg5)
          ∧ r.2.mem ((c.tc : Thread Cert.LossHeadRefIdeal.nD Cert.LossHeadRefIdeal.τ).loc Cert.LossHeadRefIdeal.main_arg6) = m' ((c.tc : Thread Cert.LossHeadRefIdeal.nD Cert.LossHeadRefIdeal.τ).loc Cert.LossHeadRefIdeal.main_arg6))

def preserves_RelBwd_RelBwdIdeal : Prop :=
  True

def algebraic_RelBwdIdeal_RelBwdRefIdeal_pre_rel_finite [hRelBwdIdeal : Cert.RelBwdIdeal.Facts] [hRelBwdRefIdeal : Cert.RelBwdRefIdeal.Facts] [hPre_rel_finite : Cert.Pre_rel_finite.Facts] : Prop :=
  ∀ (m : (ℓ : Loc Cert.RelBwdIdeal.nD Cert.RelBwdIdeal.τ Cert.RelBwdIdeal.sig) → Buf (Elt Ideal) ℓ) (g : Dev Cert.RelBwdIdeal.nD → PrngReg)
    (m' : (ℓ : Loc Cert.RelBwdRefIdeal.nD Cert.RelBwdRefIdeal.τ Cert.RelBwdRefIdeal.sig) → Buf (Elt Ideal) ℓ) (g' : Dev Cert.RelBwdRefIdeal.nD → PrngReg), Pre_RelBwdIdeal_rel_finite m →
    (∀ c : Dev Cert.RelBwdIdeal.nD,
      m' ((c.tc : Thread Cert.RelBwdRefIdeal.nD Cert.RelBwdRefIdeal.τ).loc Cert.RelBwdRefIdeal.main_arg0) = m ((c.tc : Thread Cert.RelBwdIdeal.nD Cert.RelBwdIdeal.τ).loc Cert.RelBwdIdeal.main_arg0)) →
    ∃ (v0 : (c : Dev Cert.RelBwdIdeal.nD) → Buf (Elt Ideal) ((c.tc : Thread Cert.RelBwdIdeal.nD Cert.RelBwdIdeal.τ).loc Cert.RelBwdIdeal.main_v21)),
      θ_run (Cert.RelBwdIdeal.defs (F := Ideal)) (onTc (τ := Cert.RelBwdIdeal.τ) (Cert.RelBwdIdeal.main (F := Ideal))) ⟨m, fun _ => 0, g⟩ (fun r => ∀ c : Dev Cert.RelBwdIdeal.nD,
          r.2.mem ((c.tc : Thread Cert.RelBwdIdeal.nD Cert.RelBwdIdeal.τ).loc Cert.RelBwdIdeal.main_v21) = v0 c
          ∧ r.2.mem ((c.tc : Thread Cert.RelBwdIdeal.nD Cert.RelBwdIdeal.τ).loc Cert.RelBwdIdeal.main_arg0) = m ((c.tc : Thread Cert.RelBwdIdeal.nD Cert.RelBwdIdeal.τ).loc Cert.RelBwdIdeal.main_arg0))
      ∧ θ_run (Cert.RelBwdRefIdeal.defs (F := Ideal)) (onTc (τ := Cert.RelBwdRefIdeal.τ) (Cert.RelBwdRefIdeal.main (F := Ideal))) ⟨m', fun _ => 0, g'⟩ (fun r => ∀ c : Dev Cert.RelBwdRefIdeal.nD,
          r.2.mem ((c.tc : Thread Cert.RelBwdRefIdeal.nD Cert.RelBwdRefIdeal.τ).loc Cert.RelBwdRefIdeal.main_v28) = v0 c
          ∧ r.2.mem ((c.tc : Thread Cert.RelBwdRefIdeal.nD Cert.RelBwdRefIdeal.τ).loc Cert.RelBwdRefIdeal.main_arg0) = m' ((c.tc : Thread Cert.RelBwdRefIdeal.nD Cert.RelBwdRefIdeal.τ).loc Cert.RelBwdRefIdeal.main_arg0))

def preserves_AttFwd_AttFwdIdeal : Prop :=
  IdealRules.named_const.Statement Cert.AttFwdIdeal.κ "mask" .f32 0xF149F2CA#32 ⊥

def algebraic_AttFwdIdeal_AttFwdRefIdeal_pre_att_fwd_finite [hAttFwdIdeal : Cert.AttFwdIdeal.Facts] [hAttFwdRefIdeal : Cert.AttFwdRefIdeal.Facts] [hPre_att_fwd_finite : Cert.Pre_att_fwd_finite.Facts] : Prop :=
  ∀ (m : (ℓ : Loc Cert.AttFwdIdeal.nD Cert.AttFwdIdeal.τ Cert.AttFwdIdeal.sig) → Buf (Elt Ideal) ℓ) (g : Dev Cert.AttFwdIdeal.nD → PrngReg)
    (m' : (ℓ : Loc Cert.AttFwdRefIdeal.nD Cert.AttFwdRefIdeal.τ Cert.AttFwdRefIdeal.sig) → Buf (Elt Ideal) ℓ) (g' : Dev Cert.AttFwdRefIdeal.nD → PrngReg), Pre_AttFwdIdeal_att_fwd_finite m →
    (∀ c : Dev Cert.AttFwdIdeal.nD,
      m' ((c.tc : Thread Cert.AttFwdRefIdeal.nD Cert.AttFwdRefIdeal.τ).loc Cert.AttFwdRefIdeal.main_arg0) = m ((c.tc : Thread Cert.AttFwdIdeal.nD Cert.AttFwdIdeal.τ).loc Cert.AttFwdIdeal.main_arg0)
      ∧ m' ((c.tc : Thread Cert.AttFwdRefIdeal.nD Cert.AttFwdRefIdeal.τ).loc Cert.AttFwdRefIdeal.main_arg1) = m ((c.tc : Thread Cert.AttFwdIdeal.nD Cert.AttFwdIdeal.τ).loc Cert.AttFwdIdeal.main_arg1)
      ∧ m' ((c.tc : Thread Cert.AttFwdRefIdeal.nD Cert.AttFwdRefIdeal.τ).loc Cert.AttFwdRefIdeal.main_arg2) = m ((c.tc : Thread Cert.AttFwdIdeal.nD Cert.AttFwdIdeal.τ).loc Cert.AttFwdIdeal.main_arg2)
      ∧ m' ((c.tc : Thread Cert.AttFwdRefIdeal.nD Cert.AttFwdRefIdeal.τ).loc Cert.AttFwdRefIdeal.main_arg3) = m ((c.tc : Thread Cert.AttFwdIdeal.nD Cert.AttFwdIdeal.τ).loc Cert.AttFwdIdeal.main_arg3)) →
    ∃ (v0 : (c : Dev Cert.AttFwdIdeal.nD) → Buf (Elt Ideal) ((c.tc : Thread Cert.AttFwdIdeal.nD Cert.AttFwdIdeal.τ).loc Cert.AttFwdIdeal.main_v31)),
      θ_run (Cert.AttFwdIdeal.defs (F := Ideal)) (onTc (τ := Cert.AttFwdIdeal.τ) (Cert.AttFwdIdeal.main (F := Ideal))) ⟨m, fun _ => 0, g⟩ (fun r => ∀ c : Dev Cert.AttFwdIdeal.nD,
          r.2.mem ((c.tc : Thread Cert.AttFwdIdeal.nD Cert.AttFwdIdeal.τ).loc Cert.AttFwdIdeal.main_v31) = v0 c
          ∧ r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
          ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
          ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2)
          ∧ r.2.mem ((c.tc : Thread Cert.AttFwdIdeal.nD Cert.AttFwdIdeal.τ).loc Cert.AttFwdIdeal.main_arg3) = m ((c.tc : Thread Cert.AttFwdIdeal.nD Cert.AttFwdIdeal.τ).loc Cert.AttFwdIdeal.main_arg3))
      ∧ θ_run (Cert.AttFwdRefIdeal.defs (F := Ideal)) (onTc (τ := Cert.AttFwdRefIdeal.τ) (Cert.AttFwdRefIdeal.main (F := Ideal))) ⟨m', fun _ => 0, g'⟩ (fun r => ∀ c : Dev Cert.AttFwdRefIdeal.nD,
          r.2.mem ((c.tc : Thread Cert.AttFwdRefIdeal.nD Cert.AttFwdRefIdeal.τ).loc Cert.AttFwdRefIdeal.main_v87) = v0 c
          ∧ r.2.mem ((c.tc : Thread Cert.AttFwdRefIdeal.nD Cert.AttFwdRefIdeal.τ).loc Cert.AttFwdRefIdeal.main_arg0) = m' ((c.tc : Thread Cert.AttFwdRefIdeal.nD Cert.AttFwdRefIdeal.τ).loc Cert.AttFwdRefIdeal.main_arg0)
          ∧ r.2.mem ((c.tc : Thread Cert.AttFwdRefIdeal.nD Cert.AttFwdRefIdeal.τ).loc Cert.AttFwdRefIdeal.main_arg1) = m' ((c.tc : Thread Cert.AttFwdRefIdeal.nD Cert.AttFwdRefIdeal.τ).loc Cert.AttFwdRefIdeal.main_arg1)
          ∧ r.2.mem ((c.tc : Thread Cert.AttFwdRefIdeal.nD Cert.AttFwdRefIdeal.τ).loc Cert.AttFwdRefIdeal.main_arg2) = m' ((c.tc : Thread Cert.AttFwdRefIdeal.nD Cert.AttFwdRefIdeal.τ).loc Cert.AttFwdRefIdeal.main_arg2)
          ∧ r.2.mem ((c.tc : Thread Cert.AttFwdRefIdeal.nD Cert.AttFwdRefIdeal.τ).loc Cert.AttFwdRefIdeal.main_arg3) = m' ((c.tc : Thread Cert.AttFwdRefIdeal.nD Cert.AttFwdRefIdeal.τ).loc Cert.AttFwdRefIdeal.main_arg3))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)
      ∧ m' ((c.tc : Thread Cert.InFwdRefIdeal.nD Cert.InFwdRefIdeal.τ).loc Cert.InFwdRefIdeal.main_arg3) = m ((c.tc : Thread Cert.InFwdIdeal.nD Cert.InFwdIdeal.τ).loc Cert.InFwdIdeal.main_arg3)
      ∧ m' ((c.tc : Thread Cert.InFwdRefIdeal.nD Cert.InFwdRefIdeal.τ).loc Cert.InFwdRefIdeal.main_arg4) = m ((c.tc : Thread Cert.InFwdIdeal.nD Cert.InFwdIdeal.τ).loc Cert.InFwdIdeal.main_arg4)
      ∧ m' ((c.tc : Thread Cert.InFwdRefIdeal.nD Cert.InFwdRefIdeal.τ).loc Cert.InFwdRefIdeal.main_arg5) = m ((c.tc : Thread Cert.InFwdIdeal.nD Cert.InFwdIdeal.τ).loc Cert.InFwdIdeal.main_arg5)
      ∧ m' ((c.tc : Thread Cert.InFwdRefIdeal.nD Cert.InFwdRefIdeal.τ).loc Cert.InFwdRefIdeal.main_arg6) = m ((c.tc : Thread Cert.InFwdIdeal.nD Cert.InFwdIdeal.τ).loc Cert.InFwdIdeal.main_arg6)) →
    ∃ (v0 : (c : Dev Cert.InFwdIdeal.nD) → Buf (Elt Ideal) ((c.tc : Thread Cert.InFwdIdeal.nD Cert.InFwdIdeal.τ).loc Cert.InFwdIdeal.main_v8_0)) (v1 : (c : Dev Cert.InFwdIdeal.nD) → Buf (Elt Ideal) ((c.tc : Thread Cert.InFwdIdeal.nD Cert.InFwdIdeal.τ).loc Cert.InFwdIdeal.main_v8_1)) (v2 : (c : Dev Cert.InFwdIdeal.nD) → Buf (Elt Ideal) ((c.tc : Thread Cert.InFwdIdeal.nD Cert.InFwdIdeal.τ).loc Cert.InFwdIdeal.main_v8_2)) (v3 : (c : Dev Cert.InFwdIdeal.nD) → Buf (Elt Ideal) ((c.tc : Thread Cert.InFwdIdeal.nD Cert.InFwdIdeal.τ).loc Cert.InFwdIdeal.main_v8_3)) (v4 : (c : Dev Cert.InFwdIdeal.nD) → Buf (Elt Ideal) ((c.tc : Thread Cert.InFwdIdeal.nD Cert.InFwdIdeal.τ).loc Cert.InFwdIdeal.main_v8_4)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v8_0) = v0 c
          ∧ r.2.mem ((c.tc : Thread Cert.InFwdIdeal.nD Cert.InFwdIdeal.τ).loc Cert.InFwdIdeal.main_v8_1) = v1 c
          ∧ r.2.mem ((c.tc : Thread Cert.InFwdIdeal.nD Cert.InFwdIdeal.τ).loc Cert.InFwdIdeal.main_v8_2) = v2 c
          ∧ r.2.mem ((c.tc : Thread Cert.InFwdIdeal.nD Cert.InFwdIdeal.τ).loc Cert.InFwdIdeal.main_v8_3) = v3 c
          ∧ r.2.mem ((c.tc : Thread Cert.InFwdIdeal.nD Cert.InFwdIdeal.τ).loc Cert.InFwdIdeal.main_v8_4) = v4 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
          ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
          ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4)
          ∧ r.2.mem ((c.tc : Thread Cert.InFwdIdeal.nD Cert.InFwdIdeal.τ).loc Cert.InFwdIdeal.main_arg5) = m ((c.tc : Thread Cert.InFwdIdeal.nD Cert.InFwdIdeal.τ).loc Cert.InFwdIdeal.main_arg5)
          ∧ r.2.mem ((c.tc : Thread Cert.InFwdIdeal.nD Cert.InFwdIdeal.τ).loc Cert.InFwdIdeal.main_arg6) = m ((c.tc : Thread Cert.InFwdIdeal.nD Cert.InFwdIdeal.τ).loc Cert.InFwdIdeal.main_arg6))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v81) = v0 c
          ∧ r.2.mem ((c.tc : Thread Cert.InFwdRefIdeal.nD Cert.InFwdRefIdeal.τ).loc Cert.InFwdRefIdeal.main_v84) = v1 c
          ∧ r.2.mem ((c.tc : Thread Cert.InFwdRefIdeal.nD Cert.InFwdRefIdeal.τ).loc Cert.InFwdRefIdeal.main_v86) = v2 c
          ∧ r.2.mem ((c.tc : Thread Cert.InFwdRefIdeal.nD Cert.InFwdRefIdeal.τ).loc Cert.InFwdRefIdeal.main_v88) = v3 c
          ∧ r.2.mem ((c.tc : Thread Cert.InFwdRefIdeal.nD Cert.InFwdRefIdeal.τ).loc Cert.InFwdRefIdeal.main_v90) = v4 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2)
          ∧ r.2.mem ((c.tc : Thread Cert.InFwdRefIdeal.nD Cert.InFwdRefIdeal.τ).loc Cert.InFwdRefIdeal.main_arg3) = m' ((c.tc : Thread Cert.InFwdRefIdeal.nD Cert.InFwdRefIdeal.τ).loc Cert.InFwdRefIdeal.main_arg3)
          ∧ r.2.mem ((c.tc : Thread Cert.InFwdRefIdeal.nD Cert.InFwdRefIdeal.τ).loc Cert.InFwdRefIdeal.main_arg4) = m' ((c.tc : Thread Cert.InFwdRefIdeal.nD Cert.InFwdRefIdeal.τ).loc Cert.InFwdRefIdeal.main_arg4)
          ∧ r.2.mem ((c.tc : Thread Cert.InFwdRefIdeal.nD Cert.InFwdRefIdeal.τ).loc Cert.InFwdRefIdeal.main_arg5) = m' ((c.tc : Thread Cert.InFwdRefIdeal.nD Cert.InFwdRefIdeal.τ).loc Cert.InFwdRefIdeal.main_arg5)
          ∧ r.2.mem ((c.tc : Thread Cert.InFwdRefIdeal.nD Cert.InFwdRefIdeal.τ).loc Cert.InFwdRefIdeal.main_arg6) = m' ((c.tc : Thread Cert.InFwdRefIdeal.nD Cert.InFwdRefIdeal.τ).loc Cert.InFwdRefIdeal.main_arg6))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)) →
    ∃ (v0 : (c : Dev Cert.MergeFwdIdeal.nD) → Buf (Elt Ideal) ((c.tc : Thread Cert.MergeFwdIdeal.nD Cert.MergeFwdIdeal.τ).loc Cert.MergeFwdIdeal.main_v17_0)) (v1 : (c : Dev Cert.MergeFwdIdeal.nD) → Buf (Elt Ideal) ((c.tc : Thread Cert.MergeFwdIdeal.nD Cert.MergeFwdIdeal.τ).loc Cert.MergeFwdIdeal.main_v17_1)) (v2 : (c : Dev Cert.MergeFwdIdeal.nD) → Buf (Elt Ideal) ((c.tc : Thread Cert.MergeFwdIdeal.nD Cert.MergeFwdIdeal.τ).loc Cert.MergeFwdIdeal.main_v17_2)) (v3 : (c : Dev Cert.MergeFwdIdeal.nD) → Buf (Elt Ideal) ((c.tc : Thread Cert.MergeFwdIdeal.nD Cert.MergeFwdIdeal.τ).loc Cert.MergeFwdIdeal.main_v17_3)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v17_0) = v0 c
          ∧ r.2.mem ((c.tc : Thread Cert.MergeFwdIdeal.nD Cert.MergeFwdIdeal.τ).loc Cert.MergeFwdIdeal.main_v17_1) = v1 c
          ∧ r.2.mem ((c.tc : Thread Cert.MergeFwdIdeal.nD Cert.MergeFwdIdeal.τ).loc Cert.MergeFwdIdeal.main_v17_2) = v2 c
          ∧ r.2.mem ((c.tc : Thread Cert.MergeFwdIdeal.nD Cert.MergeFwdIdeal.τ).loc Cert.MergeFwdIdeal.main_v17_3) = v3 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v22) = v0 c
          ∧ r.2.mem ((c.tc : Thread Cert.MergeFwdRefIdeal.nD Cert.MergeFwdRefIdeal.τ).loc Cert.MergeFwdRefIdeal.main_v24) = v1 c
          ∧ r.2.mem ((c.tc : Thread Cert.MergeFwdRefIdeal.nD Cert.MergeFwdRefIdeal.τ).loc Cert.MergeFwdRefIdeal.main_v26) = v2 c
          ∧ r.2.mem ((c.tc : Thread Cert.MergeFwdRefIdeal.nD Cert.MergeFwdRefIdeal.τ).loc Cert.MergeFwdRefIdeal.main_v28) = v3 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7))

def preserves_RelFwd_RelFwdIdeal : Prop :=
  True

def algebraic_RelFwdIdeal_RelFwdRefIdeal_pre_relf_finite [hRelFwdIdeal : Cert.RelFwdIdeal.Facts] [hRelFwdRefIdeal : Cert.RelFwdRefIdeal.Facts] [hPre_relf_finite : Cert.Pre_relf_finite.Facts] : Prop :=
  ∀ (m : (ℓ : Loc Cert.RelFwdIdeal.nD Cert.RelFwdIdeal.τ Cert.RelFwdIdeal.sig) → Buf (Elt Ideal) ℓ) (g : Dev Cert.RelFwdIdeal.nD → PrngReg)
    (m' : (ℓ : Loc Cert.RelFwdRefIdeal.nD Cert.RelFwdRefIdeal.τ Cert.RelFwdRefIdeal.sig) → Buf (Elt Ideal) ℓ) (g' : Dev Cert.RelFwdRefIdeal.nD → PrngReg), Pre_RelFwdIdeal_relf_finite m →
    (∀ c : Dev Cert.RelFwdIdeal.nD,
      m' ((c.tc : Thread Cert.RelFwdRefIdeal.nD Cert.RelFwdRefIdeal.τ).loc Cert.RelFwdRefIdeal.main_arg0) = m ((c.tc : Thread Cert.RelFwdIdeal.nD Cert.RelFwdIdeal.τ).loc Cert.RelFwdIdeal.main_arg0)) →
    ∃ (v0 : (c : Dev Cert.RelFwdIdeal.nD) → Buf (Elt Ideal) ((c.tc : Thread Cert.RelFwdIdeal.nD Cert.RelFwdIdeal.τ).loc Cert.RelFwdIdeal.main_v2)),
      θ_run (Cert.RelFwdIdeal.defs (F := Ideal)) (onTc (τ := Cert.RelFwdIdeal.τ) (Cert.RelFwdIdeal.main (F := Ideal))) ⟨m, fun _ => 0, g⟩ (fun r => ∀ c : Dev Cert.RelFwdIdeal.nD,
          r.2.mem ((c.tc : Thread Cert.RelFwdIdeal.nD Cert.RelFwdIdeal.τ).loc Cert.RelFwdIdeal.main_v2) = v0 c
          ∧ r.2.mem ((c.tc : Thread Cert.RelFwdIdeal.nD Cert.RelFwdIdeal.τ).loc Cert.RelFwdIdeal.main_arg0) = m ((c.tc : Thread Cert.RelFwdIdeal.nD Cert.RelFwdIdeal.τ).loc Cert.RelFwdIdeal.main_arg0))
      ∧ θ_run (Cert.RelFwdRefIdeal.defs (F := Ideal)) (onTc (τ := Cert.RelFwdRefIdeal.τ) (Cert.RelFwdRefIdeal.main (F := Ideal))) ⟨m', fun _ => 0, g'⟩ (fun r => ∀ c : Dev Cert.RelFwdRefIdeal.nD,
          r.2.mem ((c.tc : Thread Cert.RelFwdRefIdeal.nD Cert.RelFwdRefIdeal.τ).loc Cert.RelFwdRefIdeal.main_v13) = v0 c
          ∧ r.2.mem ((c.tc : Thread Cert.RelFwdRefIdeal.nD Cert.RelFwdRefIdeal.τ).loc Cert.RelFwdRefIdeal.main_arg0) = m' ((c.tc : Thread Cert.RelFwdRefIdeal.nD Cert.RelFwdRefIdeal.τ).loc Cert.RelFwdRefIdeal.main_arg0))

def Claim : Prop :=
  ∃ (hFfnWgrad : Cert.FfnWgrad.Facts) (hFfnWgradIdeal : Cert.FfnWgradIdeal.Facts) (hFfnWgradRefIdeal : Cert.FfnWgradRefIdeal.Facts) (hAttBwd : Cert.AttBwd.Facts) (hAttBwdIdeal : Cert.AttBwdIdeal.Facts) (hAttBwdRefIdeal : Cert.AttBwdRefIdeal.Facts) (hMergeBwd : Cert.MergeBwd.Facts) (hMergeBwdIdeal : Cert.MergeBwdIdeal.Facts) (hMergeBwdRefIdeal : Cert.MergeBwdRefIdeal.Facts) (hFfnDgrad : Cert.FfnDgrad.Facts) (hFfnDgradIdeal : Cert.FfnDgradIdeal.Facts) (hFfnDgradRefIdeal : Cert.FfnDgradRefIdeal.Facts) (hLossHead : Cert.LossHead.Facts) (hLossHeadIdeal : Cert.LossHeadIdeal.Facts) (hLossHeadRefIdeal : Cert.LossHeadRefIdeal.Facts) (hRelBwd : Cert.RelBwd.Facts) (hRelBwdIdeal : Cert.RelBwdIdeal.Facts) (hRelBwdRefIdeal : Cert.RelBwdRefIdeal.Facts) (hAttFwd : Cert.AttFwd.Facts) (hAttFwdIdeal : Cert.AttFwdIdeal.Facts) (hAttFwdRefIdeal : Cert.AttFwdRefIdeal.Facts) (hInFwd : Cert.InFwd.Facts) (hInFwdIdeal : Cert.InFwdIdeal.Facts) (hInFwdRefIdeal : Cert.InFwdRefIdeal.Facts) (hMergeFwd : Cert.MergeFwd.Facts) (hMergeFwdIdeal : Cert.MergeFwdIdeal.Facts) (hMergeFwdRefIdeal : Cert.MergeFwdRefIdeal.Facts) (hRelFwd : Cert.RelFwd.Facts) (hRelFwdIdeal : Cert.RelFwdIdeal.Facts) (hRelFwdRefIdeal : Cert.RelFwdRefIdeal.Facts) (hPre_att_finite : Cert.Pre_att_finite.Facts) (hPre_dgrad_finite : Cert.Pre_dgrad_finite.Facts) (hPre_loss_finite : Cert.Pre_loss_finite.Facts) (hPre_rel_finite : Cert.Pre_rel_finite.Facts) (hPre_att_fwd_finite : Cert.Pre_att_fwd_finite.Facts) (hPre_relf_finite : Cert.Pre_relf_finite.Facts),
    quiescent_FfnWgrad (hFfnWgrad := hFfnWgrad)
    ∧ quiescent_FfnWgradIdeal (hFfnWgradIdeal := hFfnWgradIdeal)
    ∧ quiescent_FfnWgradRefIdeal (hFfnWgradRefIdeal := hFfnWgradRefIdeal)
    ∧ quiescent_AttBwd (hAttBwd := hAttBwd)
    ∧ quiescent_AttBwdIdeal (hAttBwdIdeal := hAttBwdIdeal)
    ∧ quiescent_AttBwdIdeal_pre_att_finite (hAttBwdIdeal := hAttBwdIdeal) (hPre_att_finite := hPre_att_finite)
    ∧ quiescent_AttBwdRefIdeal (hAttBwdRefIdeal := hAttBwdRefIdeal)
    ∧ quiescent_AttBwdRefIdeal_pre_att_finite (hAttBwdRefIdeal := hAttBwdRefIdeal) (hPre_att_finite := hPre_att_finite)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_FfnDgrad (hFfnDgrad := hFfnDgrad)
    ∧ quiescent_FfnDgradIdeal (hFfnDgradIdeal := hFfnDgradIdeal)
    ∧ quiescent_FfnDgradIdeal_pre_dgrad_finite (hFfnDgradIdeal := hFfnDgradIdeal) (hPre_dgrad_finite := hPre_dgrad_finite)
    ∧ quiescent_FfnDgradRefIdeal (hFfnDgradRefIdeal := hFfnDgradRefIdeal)
    ∧ quiescent_FfnDgradRefIdeal_pre_dgrad_finite (hFfnDgradRefIdeal := hFfnDgradRefIdeal) (hPre_dgrad_finite := hPre_dgrad_finite)
    ∧ quiescent_LossHead (hLossHead := hLossHead)
    ∧ quiescent_LossHeadIdeal (hLossHeadIdeal := hLossHeadIdeal)
    ∧ quiescent_LossHeadIdeal_pre_loss_finite (hLossHeadIdeal := hLossHeadIdeal) (hPre_loss_finite := hPre_loss_finite)
    ∧ quiescent_LossHeadRefIdeal (hLossHeadRefIdeal := hLossHeadRefIdeal)
    ∧ quiescent_LossHeadRefIdeal_pre_loss_finite (hLossHeadRefIdeal := hLossHeadRefIdeal) (hPre_loss_finite := hPre_loss_finite)
    ∧ quiescent_RelBwd (hRelBwd := hRelBwd)
    ∧ quiescent_RelBwdIdeal (hRelBwdIdeal := hRelBwdIdeal)
    ∧ quiescent_RelBwdIdeal_pre_rel_finite (hRelBwdIdeal := hRelBwdIdeal) (hPre_rel_finite := hPre_rel_finite)
    ∧ quiescent_RelBwdRefIdeal (hRelBwdRefIdeal := hRelBwdRefIdeal)
    ∧ quiescent_RelBwdRefIdeal_pre_rel_finite (hRelBwdRefIdeal := hRelBwdRefIdeal) (hPre_rel_finite := hPre_rel_finite)
    ∧ quiescent_AttFwd (hAttFwd := hAttFwd)
    ∧ quiescent_AttFwdIdeal (hAttFwdIdeal := hAttFwdIdeal)
    ∧ quiescent_AttFwdIdeal_pre_att_fwd_finite (hAttFwdIdeal := hAttFwdIdeal) (hPre_att_fwd_finite := hPre_att_fwd_finite)
    ∧ quiescent_AttFwdRefIdeal (hAttFwdRefIdeal := hAttFwdRefIdeal)
    ∧ quiescent_AttFwdRefIdeal_pre_att_fwd_finite (hAttFwdRefIdeal := hAttFwdRefIdeal) (hPre_att_fwd_finite := hPre_att_fwd_finite)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_RelFwd (hRelFwd := hRelFwd)
    ∧ quiescent_RelFwdIdeal (hRelFwdIdeal := hRelFwdIdeal)
    ∧ quiescent_RelFwdIdeal_pre_relf_finite (hRelFwdIdeal := hRelFwdIdeal) (hPre_relf_finite := hPre_relf_finite)
    ∧ quiescent_RelFwdRefIdeal (hRelFwdRefIdeal := hRelFwdRefIdeal)
    ∧ quiescent_RelFwdRefIdeal_pre_relf_finite (hRelFwdRefIdeal := hRelFwdRefIdeal) (hPre_relf_finite := hPre_relf_finite)
    ∧ preserves_FfnWgrad_FfnWgradIdeal
    ∧ algebraic_FfnWgradIdeal_FfnWgradRefIdeal (hFfnWgradIdeal := hFfnWgradIdeal) (hFfnWgradRefIdeal := hFfnWgradRefIdeal)
    ∧ preserves_AttBwd_AttBwdIdeal
    ∧ algebraic_AttBwdIdeal_AttBwdRefIdeal_pre_att_finite (hAttBwdIdeal := hAttBwdIdeal) (hAttBwdRefIdeal := hAttBwdRefIdeal) (hPre_att_finite := hPre_att_finite)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_FfnDgrad_FfnDgradIdeal
    ∧ algebraic_FfnDgradIdeal_FfnDgradRefIdeal_pre_dgrad_finite (hFfnDgradIdeal := hFfnDgradIdeal) (hFfnDgradRefIdeal := hFfnDgradRefIdeal) (hPre_dgrad_finite := hPre_dgrad_finite)
    ∧ preserves_LossHead_LossHeadIdeal
    ∧ algebraic_LossHeadIdeal_LossHeadRefIdeal_pre_loss_finite (hLossHeadIdeal := hLossHeadIdeal) (hLossHeadRefIdeal := hLossHeadRefIdeal) (hPre_loss_finite := hPre_loss_finite)
    ∧ preserves_RelBwd_RelBwdIdeal
    ∧ algebraic_RelBwdIdeal_RelBwdRefIdeal_pre_rel_finite (hRelBwdIdeal := hRelBwdIdeal) (hRelBwdRefIdeal := hRelBwdRefIdeal) (hPre_rel_finite := hPre_rel_finite)
    ∧ preserves_AttFwd_AttFwdIdeal
    ∧ algebraic_AttFwdIdeal_AttFwdRefIdeal_pre_att_fwd_finite (hAttFwdIdeal := hAttFwdIdeal) (hAttFwdRefIdeal := hAttFwdRefIdeal) (hPre_att_fwd_finite := hPre_att_fwd_finite)
    ∧ preserves_InFwd_InFwdIdeal
    ∧ algebraic_InFwdIdeal_InFwdRefIdeal (hInFwdIdeal := hInFwdIdeal) (hInFwdRefIdeal := hInFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_RelFwd_RelFwdIdeal
    ∧ algebraic_RelFwdIdeal_RelFwdRefIdeal_pre_relf_finite (hRelFwdIdeal := hRelFwdIdeal) (hRelFwdRefIdeal := hRelFwdRefIdeal) (hPre_relf_finite := hPre_relf_finite)
-- ==== Pre_att_finite.lean ====
abbrev S1x4096x8x64 : Shape := ⟨4, ![1, 4096, 8, 64]⟩
abbrev S1x8x513 : Shape := ⟨3, ![1, 8, 513]⟩
abbrev S1x4096x512 : Shape := ⟨3, ![1, 4096, 512]⟩
abbrev S_ : Shape := ⟨0, ![]⟩

class Facts : Prop where
  bcast_S_S1x4096x8x64 : S_.BroadcastsInDim S1x4096x8x64 (![] : Fin 0 → Fin S1x4096x8x64.rank)
  bcast_S_S1x8x513 : S_.BroadcastsInDim S1x8x513 (![] : Fin 0 → Fin S1x8x513.rank)
  bcast_S_S1x4096x512 : S_.BroadcastsInDim S1x4096x512 (![] : Fin 0 → Fin S1x4096x512.rank)

variable [Facts]

def fn {F : FTy → Type} [FloatOps F] (main_arg0 : FVec F S1x4096x8x64 .f32) (main_arg1 : FVec F S1x4096x8x64 .f32) (main_arg2 : FVec F S1x4096x8x64 .f32) (main_arg3 : FVec F S1x8x513 .f32) (main_arg4 : FVec F S1x4096x512 .f32) : IVec S1x4096x8x64 1 × IVec S1x4096x8x64 1 × IVec S1x4096x8x64 1 × IVec S1x8x513 1 × IVec S1x4096x512 1 :=
  let main_v0 : FVec F S1x4096x8x64 .f32 := Host.absf main_arg0
  let main_cst : FVec F S_ .f32 := constant S_ .f32 0x7F800000#32
  let main_v1 : FVec F S1x4096x8x64 .f32 := broadcastInDim S1x4096x8x64 ![] bcast_S_S1x4096x8x64 main_cst
  let main_v2 : IVec S1x4096x8x64 1 := cmpf .olt main_v0 main_v1
  let main_v3 : FVec F S1x4096x8x64 .f32 := Host.absf main_arg1
  let main_cst_0 : FVec F S_ .f32 := constant S_ .f32 0x7F800000#32
  let main_v4 : FVec F S1x4096x8x64 .f32 := broadcastInDim S1x4096x8x64 ![] bcast_S_S1x4096x8x64 main_cst_0
  let main_v5 : IVec S1x4096x8x64 1 := cmpf .olt main_v3 main_v4
  let main_v6 : FVec F S1x4096x8x64 .f32 := Host.absf main_arg2
  let main_cst_1 : FVec F S_ .f32 := constant S_ .f32 0x7F800000#32
  let main_v7 : FVec F S1x4096x8x64 .f32 := broadcastInDim S1x4096x8x64 ![] bcast_S_S1x4096x8x64 main_cst_1
  let main_v8 : IVec S1x4096x8x64 1 := cmpf .olt main_v6 main_v7
  let main_v9 : FVec F S1x8x513 .f32 := Host.absf main_arg3
  let main_cst_2 : FVec F S_ .f32 := constant S_ .f32 0x7F800000#32
  let main_v10 : FVec F S1x8x513 .f32 := broadcastInDim S1x8x513 ![] bcast_S_S1x8x513 main_cst_2
  let main_v11 : IVec S1x8x513 1 := cmpf .olt main_v9 main_v10
  let main_v12 : FVec F S1x4096x512 .f32 := Host.absf main_arg4
  let main_cst_3 : FVec F S_ .f32 := constant S_ .f32 0x7F800000#32
  let main_v13 : FVec F S1x4096x512 .f32 := broadcastInDim S1x4096x512 ![] bcast_S_S1x4096x512 main_cst_3
  let main_v14 : IVec S1x4096x512 1 := cmpf .olt main_v12 main_v13
  (main_v2, main_v5, main_v8, main_v11, main_v14)
-- ==== Pre_att_fwd_finite.lean ====
abbrev S1x4096x8x64 : Shape := ⟨4, ![1, 4096, 8, 64]⟩
abbrev S1x8x513 : Shape := ⟨3, ![1, 8, 513]⟩
abbrev S_ : Shape := ⟨0, ![]⟩

class Facts : Prop where
  bcast_S_S1x4096x8x64 : S_.BroadcastsInDim S1x4096x8x64 (![] : Fin 0 → Fin S1x4096x8x64.rank)
  bcast_S_S1x8x513 : S_.BroadcastsInDim S1x8x513 (![] : Fin 0 → Fin S1x8x513.rank)

variable [Facts]

def fn {F : FTy → Type} [FloatOps F] (main_arg0 : FVec F S1x4096x8x64 .f32) (main_arg1 : FVec F S1x4096x8x64 .f32) (main_arg2 : FVec F S1x4096x8x64 .f32) (main_arg3 : FVec F S1x8x513 .f32) : IVec S1x4096x8x64 1 × IVec S1x4096x8x64 1 × IVec S1x4096x8x64 1 × IVec S1x8x513 1 :=
  let main_v0 : FVec F S1x4096x8x64 .f32 := Host.absf main_arg0
  let main_cst : FVec F S_ .f32 := constant S_ .f32 0x7F800000#32
  let main_v1 : FVec F S1x4096x8x64 .f32 := broadcastInDim S1x4096x8x64 ![] bcast_S_S1x4096x8x64 main_cst
  let main_v2 : IVec S1x4096x8x64 1 := cmpf .olt main_v0 main_v1
  let main_v3 : FVec F S1x4096x8x64 .f32 := Host.absf main_arg1
  let main_cst_0 : FVec F S_ .f32 := constant S_ .f32 0x7F800000#32
  let main_v4 : FVec F S1x4096x8x64 .f32 := broadcastInDim S1x4096x8x64 ![] bcast_S_S1x4096x8x64 main_cst_0
  let main_v5 : IVec S1x4096x8x64 1 := cmpf .olt main_v3 main_v4
  let main_v6 : FVec F S1x4096x8x64 .f32 := Host.absf main_arg2
  let main_cst_1 : FVec F S_ .f32 := constant S_ .f32 0x7F800000#32
  let main_v7 : FVec F S1x4096x8x64 .f32 := broadcastInDim S1x4096x8x64 ![] bcast_S_S1x4096x8x64 main_cst_1
  let main_v8 : IVec S1x4096x8x64 1 := cmpf .olt main_v6 main_v7
  let main_v9 : FVec F S1x8x513 .f32 := Host.absf main_arg3
  let main_cst_2 : FVec F S_ .f32 := constant S_ .f32 0x7F800000#32
  let main_v10 : FVec F S1x8x513 .f32 := broadcastInDim S1x8x513 ![] bcast_S_S1x8x513 main_cst_2
  let main_v11 : IVec S1x8x513 1 := cmpf .olt main_v9 main_v10
  (main_v2, main_v5, main_v8, main_v11)
-- ==== Pre_dgrad_finite.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn {F : FTy → Type} [FloatOps F] (main_arg0 : FVec F S1x4096x1024 .f32) (main_arg1 : FVec F S1x1024 .f32) (main_arg2 : FVec F S1x1024x2816 .f32) (main_arg3 : FVec F S1x1024x2816 .f32) (main_arg4 : FVec F S1x2816x1024 .f32) (main_arg5 : FVec F S1x4096x1024 .f32) : IVec S1x4096x1024 1 × IVec S1x1024 1 × IVec S1x1024x2816 1 × IVec S1x1024x2816 1 × IVec S1x2816x1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2816 .f32 := Host.absf main_arg2
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x1024x2816 .f32 := Host.absf main_arg3
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_v12 : FVec F S1x2816x1024 .f32 := Host.absf main_arg4
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  let main_v15 : FVec F S1x4096x1024 .f32 := Host.absf main_arg5
  let main_cst_4 : FVec F S_ .f32 := constant S_ .f32 0x7F800000#32
  let main_v16 : FVec F S1x4096x1024 .f32 := broadcastInDim S1x4096x1024 ![] bcast_S_S1x4096x1024 main_cst_4
  let main_v17 : IVec S1x4096x1024 1 := cmpf .olt main_v15 main_v16
  (main_v2, main_v5, main_v8, main_v11, main_v14, main_v17)
-- ==== Pre_loss_finite.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)
  bcast_S_S1024 : S_.BroadcastsInDim S1024 (![] : Fin 0 → Fin S1024.rank)

variable [Facts]

def fn_part1 {F : FTy → Type} [FloatOps F] (main_arg6 : FVec F S1x4096x1024 .f32) (main_v2 : IVec S1x4096x1024 1) (main_v5 : IVec S1x1024 1) (main_v8 : IVec S1x1024x2816 1) (main_v11 : IVec S1x1024x2816 1) (main_v14 : IVec S1x2816x1024 1) (main_v17 : IVec S1024 1) : IVec S1x4096x1024 1 × IVec S1x1024 1 × IVec S1x1024x2816 1 × IVec S1x1024x2816 1 × IVec S1x2816x1024 1 × IVec S1024 1 × IVec S1x4096x1024 1 :=
  let main_v18 : FVec F S1x4096x1024 .f32 := Host.absf main_arg6
  let main_cst_5 : FVec F S_ .f32 := constant S_ .f32 0x7F800000#32
  let main_v19 : FVec F S1x4096x1024 .f32 := broadcastInDim S1x4096x1024 ![] bcast_S_S1x4096x1024 main_cst_5
  let main_v20 : IVec S1x4096x1024 1 := cmpf .olt main_v18 main_v19
  (main_v2, main_v5, main_v8, main_v11, main_v14, main_v17, main_v20)

def fn {F : FTy → Type} [FloatOps F] (main_arg0 : FVec F S1x4096x1024 .f32) (main_arg1 : FVec F S1x1024 .f32) (main_arg2 : FVec F S1x1024x2816 .f32) (main_arg3 : FVec F S1x1024x2816 .f32) (main_arg4 : FVec F S1x2816x1024 .f32) (main_arg5 : FVec F S1024 .f32) (main_arg6 : FVec F S1x4096x1024 .f32) : IVec S1x4096x1024 1 × IVec S1x1024 1 × IVec S1x1024x2816 1 × IVec S1x1024x2816 1 × IVec S1x2816x1024 1 × IVec S1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2816 .f32 := Host.absf main_arg2
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x1024x2816 .f32 := Host.absf main_arg3
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_v12 : FVec F S1x2816x1024 .f32 := Host.absf main_arg4
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_v2 main_v5 main_v8 main_v11 main_v14 main_v17
-- ==== Pre_rel_finite.lean ====
abbrev S2x8x64x576 : Shape := ⟨4, ![2, 8, 64, 576]⟩
abbrev S_ : Shape := ⟨0, ![]⟩

class Facts : Prop where
  bcast_S_S2x8x64x576 : S_.BroadcastsInDim S2x8x64x576 (![] : Fin 0 → Fin S2x8x64x576.rank)

variable [Facts]

def fn {F : FTy → Type} [FloatOps F] (main_arg0 : FVec F S2x8x64x576 .f32) : IVec S2x8x64x576 1 :=
  let main_v0 : FVec F S2x8x64x576 .f32 := Host.absf main_arg0
  let main_cst : FVec F S_ .f32 := constant S_ .f32 0x7F800000#32
  let main_v1 : FVec F S2x8x64x576 .f32 := broadcastInDim S2x8x64x576 ![] bcast_S_S2x8x64x576 main_cst
  let main_v2 : IVec S2x8x64x576 1 := cmpf .olt main_v0 main_v1
  main_v2
-- ==== Pre_relf_finite.lean ====
abbrev S1x8x513 : Shape := ⟨3, ![1, 8, 513]⟩
abbrev S_ : Shape := ⟨0, ![]⟩

class Facts : Prop where
  bcast_S_S1x8x513 : S_.BroadcastsInDim S1x8x513 (![] : Fin 0 → Fin S1x8x513.rank)

variable [Facts]

def fn {F : FTy → Type} [FloatOps F] (main_arg0 : FVec F S1x8x513 .f32) : IVec S1x8x513 1 :=
  let main_v0 : FVec F S1x8x513 .f32 := Host.absf main_arg0
  let main_cst : FVec F S_ .f32 := constant S_ .f32 0x7F800000#32
  let main_v1 : FVec F S1x8x513 .f32 := broadcastInDim S1x8x513 ![] bcast_S_S1x8x513 main_cst
  let main_v2 : IVec S1x8x513 1 := cmpf .olt main_v0 main_v1
  main_v2
-- ==== FfnWgrad.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x4096x2816 : Shape := ⟨3, ![1, 4096, 2816]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 48
  | .vmem => 18
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x4096x2816, .f32⟩
  | .hbm, ⟨5, _⟩ => ⟨S1x4096x2816, .f32⟩
  | .hbm, ⟨6, _⟩ => ⟨S1x4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x2816, .f32⟩
  | .hbm, ⟨26, _⟩ => ⟨S4096x2816, .f32⟩
  | .hbm, ⟨27, _⟩ => ⟨S4096x4x704, .f32⟩
  | .hbm, ⟨28, _⟩ => ⟨S4x4096x704, .f32⟩
  | .hbm, ⟨29, _⟩ => ⟨S4x4096x704, .bf16⟩
  | .hbm, ⟨30, _⟩ => ⟨S1024x2816, .f32⟩
  | .hbm, ⟨31, _⟩ => ⟨S4096x2816, .f32⟩
  | .hbm, ⟨32, _⟩ => ⟨S4096x4x704, .f32⟩
  | .hbm, ⟨33, _⟩ => ⟨S4x4096x704, .f32⟩
  | .hbm, ⟨34, _⟩ => ⟨S4x4096x704, .bf16⟩
  | .hbm, ⟨35, _⟩ => ⟨S4096x1024, .bf16⟩
  | .hbm, ⟨36, _⟩ => ⟨S4096x1024, .f32⟩
  | .hbm, ⟨37, _⟩ => ⟨S4096x2816, .f32⟩
  | .hbm, ⟨38, _⟩ => ⟨S4096x4x704, .f32⟩
  | .hbm, ⟨39, _⟩ => ⟨S4x4096x704, .f32⟩
  | .hbm, ⟨40, _⟩ => ⟨S4x4096x704, .bf16⟩
  | .hbm, ⟨41, _⟩ => ⟨S4096x2816, .f32⟩
  | .hbm, ⟨42, _⟩ => ⟨S4096x4x704, .f32⟩
  | .hbm, ⟨43, _⟩ => ⟨S4x4096x704, .f32⟩
  | .hbm, ⟨44, _⟩ => ⟨S4x4096x704, .bf16⟩
  | .hbm, ⟨45, _⟩ => ⟨S4x704x1024, .f32⟩
  | .hbm, ⟨46, _⟩ => ⟨S4x704x1024, .f32⟩
  | .hbm, ⟨47, _⟩ => ⟨S4x704x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x704x1024, .f32⟩
  | .local _ .vmem, ⟨13, _⟩ => ⟨S1x704x1024, .f32⟩
  | .local _ .vmem, ⟨14, _⟩ => ⟨S1x704x1024, .f32⟩
  | .local _ .vmem, ⟨15, _⟩ => ⟨S1x704x1024, .f32⟩
  | .local _ .vmem, ⟨16, _⟩ => ⟨S1x704x1024, .f32⟩
  | .local _ .vmem, ⟨17, _⟩ => ⟨S1x704x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35_0 : Ref sig .tc := ⟨.hbm, 45, rfl⟩
abbrev main_v35_1 : Ref sig .tc := ⟨.hbm, 46, rfl⟩
abbrev main_v35_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x704x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnWgradRefIdeal.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x4096x2816 : Shape := ⟨3, ![1, 4096, 2816]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 62
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x4096x2816, .f32⟩
  | .hbm, ⟨5, _⟩ => ⟨S1x4096x2816, .f32⟩
  | .hbm, ⟨6, _⟩ => ⟨S1x4096x1024, .f32⟩
  | .hbm, ⟨7, _⟩ => ⟨S1024, .f32⟩
  | .hbm, ⟨8, _⟩ => ⟨S1x4096x1024, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x1024, .f32⟩
  | .hbm, ⟨20, _⟩ => ⟨S1x4096x1024, .f32⟩
  | .hbm, ⟨21, _⟩ => ⟨S1x1x1024, .f32⟩
  | .hbm, ⟨22, _⟩ => ⟨S1x4096x1024, .f32⟩
  | .hbm, ⟨23, _⟩ => ⟨S1x4096x1024, .f32⟩
  | .hbm, ⟨24, _⟩ => ⟨S1024x2816, .f32⟩
  | .hbm, ⟨25, _⟩ => ⟨S1x4096x2816, .f32⟩
  | .hbm, ⟨26, _⟩ => ⟨S2816x1024, .f32⟩
  | .hbm, ⟨27, _⟩ => ⟨S1024x2816, .f32⟩
  | .hbm, ⟨28, _⟩ => ⟨S1024x2816, .f32⟩
  | .hbm, ⟨29, _⟩ => ⟨S1x4096x2816, .f32⟩
  | .hbm, ⟨30, _⟩ => ⟨S2816x1024, .f32⟩
  | .hbm, ⟨31, _⟩ => ⟨S1024x2816, .f32⟩
  | .hbm, ⟨32, _⟩ => ⟨S_, .f32⟩
  | .hbm, ⟨33, _⟩ => ⟨S2816x1024, .f32⟩
  | .hbm, ⟨34, _⟩ => ⟨S1024x2816, .f32⟩
  | .hbm, ⟨35, _⟩ => ⟨S1x4096x2816, .f32⟩
  | .hbm, ⟨36, _⟩ => ⟨S1x4096x2816, .f32⟩
  | .hbm, ⟨37, _⟩ => ⟨S1x4096x2816, .f32⟩
  | .hbm, ⟨38, _⟩ => ⟨S_, .f32⟩
  | .hbm, ⟨39, _⟩ => ⟨S1x4096x2816, .f32⟩
  | .hbm, ⟨40, _⟩ => ⟨S1x4096x2816, .f32⟩
  | .hbm, ⟨41, _⟩ => ⟨S_, .f32⟩
  | .hbm, ⟨42, _⟩ => ⟨S1x4096x2816, .f32⟩
  | .hbm, ⟨43, _⟩ => ⟨S1x4096x2816, .f32⟩
  | .hbm, ⟨44, _⟩ => ⟨S1x4096x2816, .f32⟩
  | .hbm, ⟨45, _⟩ => ⟨S1024x2816, .f32⟩
  | .hbm, ⟨46, _⟩ => ⟨S1x4096x2816, .f32⟩
  | .hbm, ⟨47, _⟩ => ⟨S1x4096x2816, .f32⟩
  | .hbm, ⟨48, _⟩ => ⟨S1x4096x1024, .f32⟩
  | .hbm, ⟨49, _⟩ => ⟨S_, .f32⟩
  | .hbm, ⟨50, _⟩ => ⟨S1x4096x1024, .f32⟩
  | .hbm, ⟨51, _⟩ => ⟨S1x4096x1024, .f32⟩
  | .hbm, ⟨52, _⟩ => ⟨S_, .f32⟩
  | .hbm, ⟨53, _⟩ => ⟨S1x4096x1024, .f32⟩
  | .hbm, ⟨54, _⟩ => ⟨S1x4096x1024, .f32⟩
  | .hbm, ⟨55, _⟩ => ⟨S1024x2816, .f32⟩
  | .hbm, ⟨56, _⟩ => ⟨S2816x1024, .f32⟩
  | .hbm, ⟨57, _⟩ => ⟨S2816x1024, .f32⟩
  | .hbm, ⟨58, _⟩ => ⟨S4x704x1024, .f32⟩
  | .hbm, ⟨59, _⟩ => ⟨S2816x1024, .f32⟩
  | .hbm, ⟨60, _⟩ => ⟨S4x704x1024, .f32⟩
  | .hbm, ⟨61, _⟩ => ⟨S4x704x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== AttBwd.lean ====
abbrev S1x4096x8x64 : Shape := ⟨4, ![1, 4096, 8, 64]⟩
abbrev S1x8x513 : Shape := ⟨3, ![1, 8, 513]⟩
abbrev S1x4096x512 : Shape := ⟨3, ![1, 4096, 512]⟩
abbrev S4096x8x64 : Shape := ⟨3, ![4096, 8, 64]⟩
abbrev S4096x512 : Shape := ⟨2, ![4096, 512]⟩
abbrev S4096x1536 : Shape := ⟨2, ![4096, 1536]⟩
abbrev S640 : Shape := ⟨1, ![640]⟩
abbrev S8x513 : Shape := ⟨2, ![8, 513]⟩
abbrev S_ : Shape := ⟨0, ![]⟩
abbrev S640x1 : Shape := ⟨2, ![640, 1]⟩
abbrev S8x640 : Shape := ⟨2, ![8, 640]⟩
abbrev S1x8x1x640 : Shape := ⟨4, ![1, 8, 1, 640]⟩
abbrev S1x8x64x640 : Shape := ⟨4, ![1, 8, 64, 640]⟩
abbrev S8x40960 : Shape := ⟨2, ![8, 40960]⟩
abbrev S8x40896 : Shape := ⟨2, ![8, 40896]⟩
abbrev S8x64x639 : Shape := ⟨3, ![8, 64, 639]⟩
abbrev S8x64x576 : Shape := ⟨3, ![8, 64, 576]⟩
abbrev S8x64x640 : Shape := ⟨3, ![8, 64, 640]⟩
abbrev S8x128x640 : Shape := ⟨3, ![8, 128, 640]⟩
abbrev S8x640x128 : Shape := ⟨3, ![8, 640, 128]⟩
abbrev S4608x512 : Shape := ⟨2, ![4608, 512]⟩
abbrev S3 : Shape := ⟨1, ![3]⟩
abbrev S1 : Shape := ⟨1, ![1]⟩
abbrev S512x512 : Shape := ⟨2, ![512, 512]⟩
abbrev S128x512 : Shape := ⟨2, ![128, 512]⟩
abbrev S640x512 : Shape := ⟨2, ![640, 512]⟩
abbrev S640x64 : Shape := ⟨2, ![640, 64]⟩
abbrev S128x64 : Shape := ⟨2, ![128, 64]⟩
abbrev S640x128 : Shape := ⟨2, ![640, 128]⟩
abbrev S1x640x128 : Shape := ⟨3, ![1, 640, 128]⟩
abbrev S640x1024 : Shape := ⟨2, ![640, 1024]⟩
abbrev S1024 : Shape := ⟨1, ![1024]⟩
abbrev S1x1024 : Shape := ⟨2, ![1, 1024]⟩

abbrev nBuf : Space → Nat
  | .hbm => 58
  | .vmem => 9
  | .smem => 0
  | _ => 0

abbrev bufTy : (tb : Table) → Fin (tcTables nBuf tb) → BufTy
  | .hbm, ⟨0, _⟩ => ⟨S1x4096x8x64, .f32⟩
  | .hbm, ⟨1, _⟩ => ⟨S1x4096x8x64, .f32⟩
  | .hbm, ⟨2, _⟩ => ⟨S1x4096x8x64, .f32⟩
  | .hbm, ⟨3, _⟩ => ⟨S1x8x513, .f32⟩
  | .hbm, ⟨4, _⟩ => ⟨S1x4096x512, .f32⟩
  | .hbm, ⟨5, _⟩ => ⟨S4096x8x64, .f32⟩
  | .hbm, ⟨6, _⟩ => ⟨S4096x512, .f32⟩
  | .hbm, ⟨7, _⟩ => ⟨S4096x8x64, .f32⟩
  | .hbm, ⟨8, _⟩ => ⟨S4096x512, .f32⟩
  | .hbm, ⟨9, _⟩ => ⟨S4096x8x64, .f32⟩
  | .hbm, ⟨10, _⟩ => ⟨S4096x512, .f32⟩
  | .hbm, ⟨11, _⟩ => ⟨S4096x1536, .f32⟩
  | .hbm, ⟨12, _⟩ => ⟨S4096x1536, .bf16⟩
  | .hbm, ⟨13, _⟩ => ⟨S640, .i32⟩
  | .hbm, ⟨14, _⟩ => ⟨S8x513, .f32⟩
  | .hbm, ⟨15, _⟩ => ⟨S_, .i32⟩
  | .hbm, ⟨16, _⟩ => ⟨S640, .i32⟩
  | .hbm, ⟨17, _⟩ => ⟨S640, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S640, .i32⟩
  | .hbm, ⟨22, _⟩ => ⟨S640, .i32⟩
  | .hbm, ⟨23, _⟩ => ⟨S_, .i32⟩
  | .hbm, ⟨24, _⟩ => ⟨S640, .i32⟩
  | .hbm, ⟨25, _⟩ => ⟨S640, .i32⟩
  | .hbm, ⟨26, _⟩ => ⟨S_, .i32⟩
  | .hbm, ⟨27, _⟩ => ⟨S640, .i32⟩
  | .hbm, ⟨28, _⟩ => ⟨S640, .i32⟩
  | .hbm, ⟨29, _⟩ => ⟨S_, .i32⟩
  | .hbm, ⟨30, _⟩ => ⟨S640, .i32⟩
  | .hbm, ⟨31, _⟩ => ⟨S640, .i1⟩
  | .hbm, ⟨32, _⟩ => ⟨S_, .i32⟩
  | .hbm, ⟨33, _⟩ => ⟨S640, .i32⟩
  | .hbm, ⟨34, _⟩ => ⟨S640, .i32⟩
  | .hbm, ⟨35, _⟩ => ⟨S640, .i32⟩
  | .hbm, ⟨36, _⟩ => ⟨S640x1, .i32⟩
  | .hbm, ⟨37, _⟩ => ⟨S8x640, .f32⟩
  | .hbm, ⟨38, _⟩ => ⟨S4096x512, .f32⟩
  | .hbm, ⟨39, _⟩ => ⟨S4096x512, .bf16⟩
  | .hbm, ⟨40, _⟩ => ⟨S1x8x1x640, .f32⟩
  | .hbm, ⟨41, _⟩ => ⟨S1x8x64x640, .f32⟩
  | .hbm, ⟨42, _⟩ => ⟨S8x40960, .f32⟩
  | .hbm, ⟨43, _⟩ => ⟨S8x40896, .f32⟩
  | .hbm, ⟨44, _⟩ => ⟨S8x64x639, .f32⟩
  | .hbm, ⟨45, _⟩ => ⟨S8x64x576, .f32⟩
  | .hbm, ⟨46, _⟩ => ⟨S_, .f32⟩
  | .hbm, ⟨47, _⟩ => ⟨S_, .f32⟩
  | .hbm, ⟨48, _⟩ => ⟨S8x64x640, .f32⟩
  | .hbm, ⟨49, _⟩ => ⟨S_, .f32⟩
  | .hbm, ⟨50, _⟩ => ⟨S_, .f32⟩
  | .hbm, ⟨51, _⟩ => ⟨S8x64x640, .f32⟩
  | .hbm, ⟨52, _⟩ => ⟨S8x128x640, .f32⟩
  | .hbm, ⟨53, _⟩ => ⟨S8x640x128, .f32⟩
  | .hbm, ⟨54, _⟩ => ⟨S4096x512, .bf16⟩
  | .hbm, ⟨55, _⟩ => ⟨S4608x512, .f32⟩
  | .hbm, ⟨56, _⟩ => ⟨S4608x512, .f32⟩
  | .hbm, ⟨57, _⟩ => ⟨S8x640x128, .f32⟩
  | .local _ .vmem, ⟨0, _⟩ => ⟨S4096x512, .bf16⟩
  | .local _ .vmem, ⟨1, _⟩ => ⟨S8x640x128, .f32⟩
  | .local _ .vmem, ⟨2, _⟩ => ⟨S4096x512, .bf16⟩
  | .local _ .vmem, ⟨3, _⟩ => ⟨S4608x512, .f32⟩
  | .local _ .vmem, ⟨4, _⟩ => ⟨S4608x512, .f32⟩
  | .local _ .vmem, ⟨5, _⟩ => ⟨S8x640x128, .f32⟩
  | .local _ .vmem, ⟨6, _⟩ => ⟨S4096x512, .bf16⟩
  | .local _ .vmem, ⟨7, _⟩ => ⟨S4608x512, .bf16⟩
  | .local _ .vmem, ⟨8, _⟩ => ⟨S4608x512, .bf16⟩
  | _, _ => ⟨S1x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_call1_v0 : Ref sig .tc := ⟨.hbm, 47, rfl⟩
abbrev main_v30 : Ref sig .tc := ⟨.hbm, 48, rfl⟩
abbrev main_cst_5 : Ref sig .tc := ⟨.hbm, 49, rfl⟩
abbrev main_call2_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34_0 : Ref sig .tc := ⟨.hbm, 54, rfl⟩
abbrev main_v34_1 : Ref sig .tc := ⟨.hbm, 55, rfl⟩
abbrev main_v34_2 : Ref sig .tc := ⟨.hbm, 56, rfl⟩
abbrev main_v34_3 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_35 : BitVec 32 := 0#32
  let c4_i32 : BitVec 32 := 4#32
  let v36 : BitVec 32 := Scalar.addi c0_i32_35 c4_i32
  let c1_i32_36 : BitVec 32 := 1#32
  ⟨c0_i32_35, v36, c1_i32_36⟩
def k0_mult1 (k0_t1 : Fin k0_t1_loop.trips) : BitVec 32 :=
  let c0_i32_35 : BitVec 32 := 0#32
  let c1_i32_36 : BitVec 32 := 1#32
  let arg11 : BitVec 32 := Scf.iv c0_i32_35 c1_i32_36 k0_t1
  let c128_i32_43 : BitVec 32 := 128#32
  let v45 : BitVec 32 := Scalar.muli arg11 c128_i32_43
  v45
def k0_off1 (k0_t1 : Fin k0_t1_loop.trips) : Fin 2 → Nat :=
  let c0_i32_35 : BitVec 32 := 0#32
  let c1_i32_36 : BitVec 32 := 1#32
  let arg11 : BitVec 32 := Scf.iv c0_i32_35 c1_i32_36 k0_t1
  let c128_i32_43 : BitVec 32 := 128#32
  let v45 : BitVec 32 := Scalar.muli arg11 c128_i32_43
  let v46 : BitVec 32 := v45
  let v47 : Index := Scalar.indexCast v46
  let c0_44 : Index := 0#32
  ![v47.toNat, 0]
def k0_off2 (k0_t1 : Fin k0_t1_loop.trips) : Fin 2 → Nat :=
  let c0_i32_35 : BitVec 32 := 0#32
  let c1_i32_36 : BitVec 32 := 1#32
  let arg11 : BitVec 32 := Scf.iv c0_i32_35 c1_i32_36 k0_t1
  let c128_i32_43 : BitVec 32 := 128#32
  let v45 : BitVec 32 := Scalar.muli arg11 c128_i32_43
  let v46 : BitVec 32 := v45
  let v51 : Index := Scalar.indexCast v46
  let c0_46 : Index := 0#32
  ![v51.toNat, 0]
@[reducible] def k0_t2_loop : Scf.Loop 32 :=
  let c4_i32_38 : BitVec 32 := 4#32
  let c28_i32 : BitVec 32 := 28#32
  let v37 : BitVec 32 := Scalar.addi c4_i32_38 c28_i32
  let c1_i32_39 : BitVec 32 := 1#32
  ⟨c4_i32_38, v37, c1_i32_39⟩
def k0_mult2 (k0_t2 : Fin k0_t2_loop.trips) : BitVec 32 :=
  let c4_i32_38 : BitVec 32 := 4#32
  let c1_i32_39 : BitVec 32 := 1#32
  let arg11 : BitVec 32 := Scf.iv c4_i32_38 c1_i32_39 k0_t2
  let c128_i32 : BitVec 32 := 128#32
  let v38 : BitVec 32 := Scalar.muli arg11 c128_i32
  v38
def k0_off3 (k0_t2 : Fin k0_t2_loop.trips) : Fin 2 → Nat :=
  let c4_i32_38 : BitVec 32 := 4#32
  let c1_i32_39 : BitVec 32 := 1#32
  let arg11 : BitVec 32 := Scf.iv c4_i32_38 c1_i32_39 k0_t2
  let c128_i32 : BitVec 32 := 128#32
  let v38 : BitVec 32 := Scalar.muli arg11 c128_i32
  let v39 : BitVec 32 := v38
  let v40 : Index := Scalar.indexCast v39
  let c0_41 : Index := 0#32
  ![v40.toNat, 0]
def k0_off4 (k0_t2 : Fin k0_t2_loop.trips) : Fin 2 → Nat :=
  let c4_i32_38 : BitVec 32 := 4#32
  let c1_i32_39 : BitVec 32 := 1#32
  let arg11 : BitVec 32 := Scf.iv c4_i32_38 c1_i32_39 k0_t2
  let c128_i32 : BitVec 32 := 128#32
  let v38 : BitVec 32 := Scalar.muli arg11 c128_i32
  let v39 : BitVec 32 := v38
  let v44 : Index := Scalar.indexCast v39
  let c0_43 : Index := 0#32
  ![v44.toNat, 0]
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x640x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== AttBwdIdeal.lean ====
variable {F : FTy → Type} [FloatOps F] [Named F]
def κ : String → Option EReal := fun
  | "mask" => some ⊥
  | _ => none
-- ==== AttBwdRefIdeal.lean ====
abbrev S1x4096x8x64 : Shape := ⟨4, ![1, 4096, 8, 64]⟩
abbrev S1x8x513 : Shape := ⟨3, ![1, 8, 513]⟩
abbrev S1x4096x512 : Shape := ⟨3, ![1, 4096, 512]⟩
abbrev S8x513 : Shape := ⟨2, ![8, 513]⟩
abbrev S64 : Shape := ⟨1, ![64]⟩
abbrev S64x1 : Shape := ⟨2, ![64, 1]⟩
abbrev S576 : Shape := ⟨1, ![576]⟩
abbrev S1x576 : Shape := ⟨2, ![1, 576]⟩
abbrev S_ : Shape := ⟨0, ![]⟩
abbrev S64x576 : Shape := ⟨2, ![64, 576]⟩
abbrev S64x576x1 : Shape := ⟨3, ![64, 576, 1]⟩
abbrev S8x64x576 : Shape := ⟨3, ![8, 64, 576]⟩
abbrev S1x8x64x576 : Shape := ⟨4, ![1, 8, 64, 576]⟩
abbrev S2x8x64x576 : Shape := ⟨4, ![2, 8, 64, 576]⟩
abbrev S1x64x64x8x64 : Shape := ⟨5, ![1, 64, 64, 8, 64]⟩
abbrev S1x512x8x64 : Shape := ⟨4, ![1, 512, 8, 64]⟩
abbrev S1x4608x8x64 : Shape := ⟨4, ![1, 4608, 8, 64]⟩
abbrev S1x72x64x8x64 : Shape := ⟨5, ![1, 72, 64, 8, 64]⟩
abbrev S1x64x576x8x64 : Shape := ⟨5, ![1, 64, 576, 8, 64]⟩
abbrev S1x64x8x64x576 : Shape := ⟨5, ![1, 64, 8, 64, 576]⟩
abbrev S1x32x2x8x64x576 : Shape := ⟨6, ![1, 32, 2, 8, 64, 576]⟩
abbrev S1x1x2x8x64x576 : Shape := ⟨6, ![1, 1, 2, 8, 64, 576]⟩
abbrev S1x64x1x1x576 : Shape := ⟨5, ![1, 64, 1, 1, 576]⟩
abbrev S1x64x8x64 : Shape := ⟨4, ![1, 64, 8, 64]⟩
abbrev S1x64x8x64x1 : Shape := ⟨5, ![1, 64, 8, 64, 1]⟩
abbrev S1x64x8x64x64 : Shape := ⟨5, ![1, 64, 8, 64, 64]⟩
abbrev S64x8x64 : Shape := ⟨3, ![64, 8, 64]⟩
abbrev S1x2x8x64x576 : Shape := ⟨5, ![1, 2, 8, 64, 576]⟩
abbrev S1x64x8x576x64 : Shape := ⟨5, ![1, 64, 8, 576, 64]⟩
abbrev S512x512 : Shape := ⟨2, ![512, 512]⟩
abbrev S4096x512 : Shape := ⟨2, ![4096, 512]⟩
abbrev S4608x512 : Shape := ⟨2, ![4608, 512]⟩
abbrev S8x64x64 : Shape := ⟨3, ![8, 64, 64]⟩
abbrev S8x64x640 : Shape := ⟨3, ![8, 64, 640]⟩
abbrev S8x128x640 : Shape := ⟨3, ![8, 128, 640]⟩
abbrev S8x640x128 : Shape := ⟨3, ![8, 640, 128]⟩

abbrev nBuf : Space → Nat
  | .hbm => 276
  | .vmem => 0
  | .smem => 0
  | _ => 0

abbrev hbmTy0_0 (i : Nat) : BufTy := match i % 128 with
  | 0 => ⟨S1x4096x8x64, .f32⟩
  | 1 => ⟨S1x4096x8x64, .f32⟩
  | 2 => ⟨S1x4096x8x64, .f32⟩
  | 3 => ⟨S1x8x513, .f32⟩
  | 4 => ⟨S1x4096x512, .f32⟩
  | 5 => ⟨S8x513, .f32⟩
  | 6 => ⟨S64, .i32⟩
  | 7 => ⟨S64x1, .i32⟩
  | 8 => ⟨S576, .i32⟩
  | 9 => ⟨S1x576, .i32⟩
  | 10 => ⟨S_, .i32⟩
  | 11 => ⟨S64x1, .i32⟩
  | 12 => ⟨S64x1, .i32⟩
  | 13 => ⟨S64x576, .i32⟩
  | 14 => ⟨S64x576, .i32⟩
  | 15 => ⟨S64x576, .i32⟩
  | 16 => ⟨S_, .i32⟩
  | 17 => ⟨S_, .i32⟩
  | 18 => ⟨S_, .i32⟩
  | 19 => ⟨S64x576, .i32⟩
  | 20 => ⟨S64x576, .i32⟩
  | 21 => ⟨S_, .i32⟩
  | 22 => ⟨S64x576, .i32⟩
  | 23 => ⟨S64x576, .i32⟩
  | 24 => ⟨S_, .i32⟩
  | 25 => ⟨S64x576, .i32⟩
  | 26 => ⟨S64x576, .i32⟩
  | 27 => ⟨S_, .i32⟩
  | 28 => ⟨S64x576, .i32⟩
  | 29 => ⟨S64x576, .i1⟩
  | 30 => ⟨S_, .i32⟩
  | 31 => ⟨S64x576, .i32⟩
  | 32 => ⟨S64x576, .i32⟩
  | 33 => ⟨S64x576, .i32⟩
  | 34 => ⟨S64x576x1, .i32⟩
  | 35 => ⟨S8x64x576, .f32⟩
  | 36 => ⟨S1x8x64x576, .f32⟩
  | 37 => ⟨S1x8x64x576, .f32⟩
  | 38 => ⟨S2x8x64x576, .f32⟩
  | 39 => ⟨S1x64x64x8x64, .f32⟩
  | 40 => ⟨S_, .f32⟩
  | 41 => ⟨S1x512x8x64, .f32⟩
  | 42 => ⟨S1x4608x8x64, .f32⟩
  | 43 => ⟨S_, .f32⟩
  | 44 => ⟨S1x512x8x64, .f32⟩
  | 45 => ⟨S1x72x64x8x64, .f32⟩
  | 46 => ⟨S1x4608x8x64, .f32⟩
  | 47 => ⟨S_, .f32⟩
  | 48 => ⟨S1x512x8x64, .f32⟩
  | 49 => ⟨S1x72x64x8x64, .f32⟩
  | 50 => ⟨S1x64x64x8x64, .f32⟩
  | 51 => ⟨S1x64x64x8x64, .f32⟩
  | 52 => ⟨S1x64x64x8x64, .f32⟩
  | 53 => ⟨S1x64x64x8x64, .f32⟩
  | 54 => ⟨S1x64x64x8x64, .f32⟩
  | 55 => ⟨S1x64x64x8x64, .f32⟩
  | 56 => ⟨S1x64x64x8x64, .f32⟩
  | 57 => ⟨S1x64x64x8x64, .f32⟩
  | 58 => ⟨S1x64x64x8x64, .f32⟩
  | 59 => ⟨S1x64x576x8x64, .f32⟩
  | 60 => ⟨S1x64x64x8x64, .f32⟩
  | 61 => ⟨S1x64x64x8x64, .f32⟩
  | 62 => ⟨S1x64x64x8x64, .f32⟩
  | 63 => ⟨S1x64x64x8x64, .f32⟩
  | 64 => ⟨S1x64x64x8x64, .f32⟩
  | 65 => ⟨S1x64x64x8x64, .f32⟩
  | 66 => ⟨S1x64x64x8x64, .f32⟩
  | 67 => ⟨S1x64x64x8x64, .f32⟩
  | 68 => ⟨S1x64x64x8x64, .f32⟩
  | 69 => ⟨S1x64x576x8x64, .f32⟩
  | 70 => ⟨S1x64x8x64x576, .f32⟩
  | 71 => ⟨S_, .f32⟩
  | 72 => ⟨S1x64x8x64x576, .f32⟩
  | 73 => ⟨S1x64x8x64x576, .f32⟩
  | 74 => ⟨S64, .i32⟩
  | 75 => ⟨S64x1, .i32⟩
  | 76 => ⟨S_, .i32⟩
  | 77 => ⟨S64x1, .i32⟩
  | 78 => ⟨S64x1, .i32⟩
  | 79 => ⟨S576, .i32⟩
  | 80 => ⟨S1x576, .i32⟩
  | 81 => ⟨S64x576, .i32⟩
  | 82 => ⟨S64x576, .i32⟩
  | 83 => ⟨S64x576, .i32⟩
  | 84 => ⟨S_, .i32⟩
  | 85 => ⟨S64x576, .i32⟩
  | 86 => ⟨S64x576, .i32⟩
  | 87 => ⟨S_, .i32⟩
  | 88 => ⟨S64x576, .i32⟩
  | 89 => ⟨S64x576, .i1⟩
  | 90 => ⟨S1x32x2x8x64x576, .f32⟩
  | 91 => ⟨S1x1x2x8x64x576, .f32⟩
  | 92 => ⟨S1x32x2x8x64x576, .f32⟩
  | 93 => ⟨S1x32x2x8x64x576, .f32⟩
  | 94 => ⟨S1x64x8x64x576, .f32⟩
  | 95 => ⟨S1x64x1x1x576, .i1⟩
  | 96 => ⟨S_, .f32⟩
  | 97 => ⟨S_, .f32⟩
  | 98 => ⟨S1x64x8x64x576, .i1⟩
  | 99 => ⟨S1x64x8x64x576, .f32⟩
  | 100 => ⟨S1x64x8x64x576, .f32⟩
  | 101 => ⟨S_, .f32⟩
  | 102 => ⟨S1x64x8x64x576, .f32⟩
  | 103 => ⟨S_, .f32⟩
  | 104 => ⟨S1x64x8x64, .f32⟩
  | 105 => ⟨S1x64x8x64x1, .f32⟩
  | 106 => ⟨S1x64x8x64x576, .f32⟩
  | 107 => ⟨S1x64x8x64x576, .i1⟩
  | 108 => ⟨S1x64x8x64x576, .f32⟩
  | 109 => ⟨S_, .f32⟩
  | 110 => ⟨S1x64x8x64, .f32⟩
  | 111 => ⟨S_, .f32⟩
  | 112 => ⟨S1x64x8x64, .f32⟩
  | 113 => ⟨S1x64x8x64, .f32⟩
  | 114 => ⟨S_, .f32⟩
  | 115 => ⟨S1x64x8x64, .f32⟩
  | 116 => ⟨S1x64x8x64, .i1⟩
  | 117 => ⟨S_, .f32⟩
  | 118 => ⟨S1x64x8x64, .f32⟩
  | 119 => ⟨S1x64x8x64, .i1⟩
  | 120 => ⟨S_, .f32⟩
  | 121 => ⟨S1x64x8x64, .f32⟩
  | 122 => ⟨S_, .f32⟩
  | 123 => ⟨S1x64x8x64, .f32⟩
  | 124 => ⟨S_, .f32⟩
  | 125 => ⟨S1x64x8x64, .f32⟩
  | 126 => ⟨S1x64x8x64, .f32⟩
  | 127 => ⟨S1x64x8x64, .f32⟩
  | _ => ⟨S1x4096x8x64, .f32⟩

abbrev hbmTy0_1 (i : Nat) : BufTy := match i % 128 with
  | 0 => ⟨S1x64x8x64x1, .f32⟩
  | 1 => ⟨S1x64x8x64x576, .f32⟩
  | 2 => ⟨S1x64x8x64x576, .f32⟩
  | 3 => ⟨S1x64x8x64x576, .f32⟩
  | 4 => ⟨S_, .f32⟩
  | 5 => ⟨S1x64x8x64, .f32⟩
  | 6 => ⟨S1x64x8x64x1, .f32⟩
  | 7 => ⟨S1x64x8x64x576, .f32⟩
  | 8 => ⟨S1x64x8x64x576, .f32⟩
  | 9 => ⟨S1x64x8x64x1, .f32⟩
  | 10 => ⟨S_, .f32⟩
  | 11 => ⟨S1x64x8x64x1, .f32⟩
  | 12 => ⟨S1x64x8x64x1, .f32⟩
  | 13 => ⟨S1x64x8x64x64, .f32⟩
  | 14 => ⟨S1x64x64x8x64, .f32⟩
  | 15 => ⟨S1x4096x512, .f32⟩
  | 16 => ⟨S1x64x64x8x64, .f32⟩
  | 17 => ⟨S1x64x8x64x64, .f32⟩
  | 18 => ⟨S1x64x8x64x576, .f32⟩
  | 19 => ⟨S1x64x8x64x576, .f32⟩
  | 20 => ⟨S1x64x576x8x64, .f32⟩
  | 21 => ⟨S1x64x8x64x576, .f32⟩
  | 22 => ⟨S1x64x8x64x576, .f32⟩
  | 23 => ⟨S1x64x8x64x576, .f32⟩
  | 24 => ⟨S_, .f32⟩
  | 25 => ⟨S1x64x8x64, .f32⟩
  | 26 => ⟨S1x64x8x64x1, .f32⟩
  | 27 => ⟨S1x64x8x64x1, .f32⟩
  | 28 => ⟨S1x64x8x64x576, .f32⟩
  | 29 => ⟨S1x64x8x64x576, .f32⟩
  | 30 => ⟨S_, .f32⟩
  | 31 => ⟨S64x8x64, .f32⟩
  | 32 => ⟨S1x64x8x64, .f32⟩
  | 33 => ⟨S1x64x8x64x576, .f32⟩
  | 34 => ⟨S1x64x8x64x576, .f32⟩
  | 35 => ⟨S1x64x8x64x576, .f32⟩
  | 36 => ⟨S_, .f32⟩
  | 37 => ⟨S1x64x8x64x576, .f32⟩
  | 38 => ⟨S1x64x8x64x576, .f32⟩
  | 39 => ⟨S1x32x2x8x64x576, .f32⟩
  | 40 => ⟨S_, .f32⟩
  | 41 => ⟨S1x2x8x64x576, .f32⟩
  | 42 => ⟨S1x1x2x8x64x576, .f32⟩
  | 43 => ⟨S_, .f32⟩
  | 44 => ⟨S2x8x64x576, .f32⟩
  | 45 => ⟨S1x64x8x64x576, .f32⟩
  | 46 => ⟨S_, .f32⟩
  | 47 => ⟨S1x64x8x64x576, .f32⟩
  | 48 => ⟨S1x64x8x64x576, .f32⟩
  | 49 => ⟨S1x64x8x576x64, .f32⟩
  | 50 => ⟨S1x64x576x8x64, .f32⟩
  | 51 => ⟨S1x64x8x64x64, .f32⟩
  | 52 => ⟨S1x64x64x8x64, .f32⟩
  | 53 => ⟨S1x64x64x8x64, .f32⟩
  | 54 => ⟨S1x64x64x8x64, .f32⟩
  | 55 => ⟨S1x64x64x8x64, .f32⟩
  | 56 => ⟨S1x64x64x8x64, .f32⟩
  | 57 => ⟨S1x64x64x8x64, .f32⟩
  | 58 => ⟨S1x64x64x8x64, .f32⟩
  | 59 => ⟨S1x64x64x8x64, .f32⟩
  | 60 => ⟨S1x64x64x8x64, .f32⟩
  | 61 => ⟨S1x64x64x8x64, .f32⟩
  | 62 => ⟨S_, .f32⟩
  | 63 => ⟨S1x72x64x8x64, .f32⟩
  | 64 => ⟨S_, .f32⟩
  | 65 => ⟨S1x72x64x8x64, .f32⟩
  | 66 => ⟨S1x72x64x8x64, .f32⟩
  | 67 => ⟨S_, .f32⟩
  | 68 => ⟨S1x72x64x8x64, .f32⟩
  | 69 => ⟨S1x72x64x8x64, .f32⟩
  | 70 => ⟨S_, .f32⟩
  | 71 => ⟨S1x72x64x8x64, .f32⟩
  | 72 => ⟨S1x72x64x8x64, .f32⟩
  | 73 => ⟨S_, .f32⟩
  | 74 => ⟨S1x72x64x8x64, .f32⟩
  | 75 => ⟨S1x72x64x8x64, .f32⟩
  | 76 => ⟨S_, .f32⟩
  | 77 => ⟨S1x72x64x8x64, .f32⟩
  | 78 => ⟨S1x72x64x8x64, .f32⟩
  | 79 => ⟨S_, .f32⟩
  | 80 => ⟨S1x72x64x8x64, .f32⟩
  | 81 => ⟨S1x72x64x8x64, .f32⟩
  | 82 => ⟨S_, .f32⟩
  | 83 => ⟨S1x72x64x8x64, .f32⟩
  | 84 => ⟨S1x72x64x8x64, .f32⟩
  | 85 => ⟨S_, .f32⟩
  | 86 => ⟨S1x72x64x8x64, .f32⟩
  | 87 => ⟨S1x72x64x8x64, .f32⟩
  | 88 => ⟨S1x64x64x8x64, .f32⟩
  | 89 => ⟨S1x64x64x8x64, .f32⟩
  | 90 => ⟨S1x64x64x8x64, .f32⟩
  | 91 => ⟨S1x64x64x8x64, .f32⟩
  | 92 => ⟨S1x64x64x8x64, .f32⟩
  | 93 => ⟨S1x64x64x8x64, .f32⟩
  | 94 => ⟨S1x64x64x8x64, .f32⟩
  | 95 => ⟨S1x64x64x8x64, .f32⟩
  | 96 => ⟨S1x64x64x8x64, .f32⟩
  | 97 => ⟨S_, .f32⟩
  | 98 => ⟨S1x72x64x8x64, .f32⟩
  | 99 => ⟨S_, .f32⟩
  | 100 => ⟨S1x72x64x8x64, .f32⟩
  | 101 => ⟨S1x72x64x8x64, .f32⟩
  | 102 => ⟨S_, .f32⟩
  | 103 => ⟨S1x72x64x8x64, .f32⟩
  | 104 => ⟨S1x72x64x8x64, .f32⟩
  | 105 => ⟨S_, .f32⟩
  | 106 => ⟨S1x72x64x8x64, .f32⟩
  | 107 => ⟨S1x72x64x8x64, .f32⟩
  | 108 => ⟨S_, .f32⟩
  | 109 => ⟨S1x72x64x8x64, .f32⟩
  | 110 => ⟨S1x72x64x8x64, .f32⟩
  | 111 => ⟨S_, .f32⟩
  | 112 => ⟨S1x72x64x8x64, .f32⟩
  | 113 => ⟨S1x72x64x8x64, .f32⟩
  | 114 => ⟨S_, .f32⟩
  | 115 => ⟨S1x72x64x8x64, .f32⟩
  | 116 => ⟨S1x72x64x8x64, .f32⟩
  | 117 => ⟨S_, .f32⟩
  | 118 => ⟨S1x72x64x8x64, .f32⟩
  | 119 => ⟨S1x72x64x8x64, .f32⟩
  | 120 => ⟨S_, .f32⟩
  | 121 => ⟨S1x72x64x8x64, .f32⟩
  | 122 => ⟨S1x72x64x8x64, .f32⟩
  | 123 => ⟨S1x4608x8x64, .f32⟩
  | 124 => ⟨S1x512x8x64, .f32⟩
  | 125 => ⟨S1x4096x8x64, .f32⟩
  | 126 => ⟨S1x4608x8x64, .f32⟩
  | 127 => ⟨S1x512x8x64, .f32⟩
  | _ => ⟨S1x4096x8x64, .f32⟩

abbrev hbmTy0_2 (i : Nat) : BufTy := match i % 128 with
  | 0 => ⟨S1x4096x8x64, .f32⟩
  | 1 => ⟨S1x4096x8x64, .f32⟩
  | 2 => ⟨S_, .f32⟩
  | 3 => ⟨S512x512, .f32⟩
  | 4 => ⟨S4096x512, .f32⟩
  | 5 => ⟨S4608x512, .f32⟩
  | 6 => ⟨S4096x512, .f32⟩
  | 7 => ⟨S4608x512, .f32⟩
  | 8 => ⟨S_, .f32⟩
  | 9 => ⟨S8x64x64, .f32⟩
  | 10 => ⟨S1x8x64x576, .f32⟩
  | 11 => ⟨S8x64x576, .f32⟩
  | 12 => ⟨S8x64x640, .f32⟩
  | 13 => ⟨S1x8x64x576, .f32⟩
  | 14 => ⟨S8x64x576, .f32⟩
  | 15 => ⟨S8x64x640, .f32⟩
  | 16 => ⟨S8x128x640, .f32⟩
  | 17 => ⟨S4096x512, .f32⟩
  | 18 => ⟨S4096x512, .bf16⟩
  | 19 => ⟨S8x640x128, .f32⟩
  | _ => ⟨S1x4096x8x64, .f32⟩

abbrev hbmTy (i : Nat) : BufTy := match i / 128 with
  | 0 => hbmTy0_0 i
  | 1 => hbmTy0_1 i
  | 2 => hbmTy0_2 i
  | _ => ⟨S1x4096x8x64, .f32⟩

abbrev bufTy : (tb : Table) → Fin (tcTables nBuf tb) → BufTy
  | .hbm, ⟨i, _⟩ => hbmTy i
  | _, _ => ⟨S1x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_9 : Ref sig .tc := ⟨.hbm, 84, rfl⟩
abbrev main_v63 : Ref sig .tc := ⟨.hbm, 85, rfl⟩
abbrev main_v64 : Ref sig .tc := ⟨.hbm, 86, rfl⟩
abbrev main_c_10 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_call1_v0 : Ref sig .tc := ⟨.hbm, 97, rfl⟩
abbrev main_v73_1 : Ref sig .tc := ⟨.hbm, 98, rfl⟩
abbrev main_call1_v2 : Ref sig .tc := ⟨.hbm, 99, rfl⟩
abbrev main_v73_0 : Ref sig .tc := ⟨.hbm, 100, rfl⟩
abbrev main_call1_cst : Ref sig .tc := ⟨.hbm, 101, rfl⟩
abbrev main_v73_2 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_13 : Ref sig .tc := ⟨.hbm, 109, rfl⟩
abbrev main_v79 : Ref sig .tc := ⟨.hbm, 110, rfl⟩
abbrev main_cst_14 : Ref sig .tc := ⟨.hbm, 111, rfl⟩
abbrev main_v80 : Ref sig .tc := ⟨.hbm, 112, rfl⟩
abbrev main_v81 : Ref sig .tc := ⟨.hbm, 113, rfl⟩
abbrev main_cst_15 : Ref sig .tc := ⟨.hbm, 114, rfl⟩
abbrev main_v82 : Ref sig .tc := ⟨.hbm, 115, rfl⟩
abbrev main_v83 : Ref sig .tc := ⟨.hbm, 116, rfl⟩
abbrev main_cst_16 : Ref sig .tc := ⟨.hbm, 117, rfl⟩
abbrev main_v84 : Ref sig .tc := ⟨.hbm, 118, rfl⟩
abbrev main_v85 : Ref sig .tc := ⟨.hbm, 119, rfl⟩
abbrev main_cst_17 : Ref sig .tc := ⟨.hbm, 120, rfl⟩
abbrev main_v86 : Ref sig .tc := ⟨.hbm, 121, rfl⟩
abbrev main_cst_18 : Ref sig .tc := ⟨.hbm, 122, rfl⟩
abbrev main_v87 : Ref sig .tc := ⟨.hbm, 123, rfl⟩
abbrev main_cst_19 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_20 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_21 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_22 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_23 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_call2_cst : Ref sig .tc := ⟨.hbm, 164, rfl⟩
abbrev main_call2_v0 : Ref sig .tc := ⟨.hbm, 165, rfl⟩
abbrev main_v123 : Ref sig .tc := ⟨.hbm, 166, rfl⟩
abbrev main_v124 : Ref sig .tc := ⟨.hbm, 167, rfl⟩
abbrev main_cst_24 : Ref sig .tc := ⟨.hbm, 168, rfl⟩
abbrev main_v125 : Ref sig .tc := ⟨.hbm, 169, rfl⟩
abbrev main_v126 : Ref sig .tc := ⟨.hbm, 170, rfl⟩
abbrev main_cst_25 : Ref sig .tc := ⟨.hbm, 171, rfl⟩
abbrev main_v127 : Ref sig .tc := ⟨.hbm, 172, rfl⟩
abbrev main_v128 : Ref sig .tc := ⟨.hbm, 173, rfl⟩
abbrev main_cst_26 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_27 : Ref sig .tc := ⟨.hbm, 190, rfl⟩
abbrev main_v144 : Ref sig .tc := ⟨.hbm, 191, rfl⟩
abbrev main_cst_28 : Ref sig .tc := ⟨.hbm, 192, rfl⟩
abbrev main_v145 : Ref sig .tc := ⟨.hbm, 193, rfl⟩
abbrev main_v146 : Ref sig .tc := ⟨.hbm, 194, rfl⟩
abbrev main_cst_29 : Ref sig .tc := ⟨.hbm, 195, rfl⟩
abbrev main_v147 : Ref sig .tc := ⟨.hbm, 196, rfl⟩
abbrev main_v148 : Ref sig .tc := ⟨.hbm, 197, rfl⟩
abbrev main_cst_30 : Ref sig .tc := ⟨.hbm, 198, rfl⟩
abbrev main_v149 : Ref sig .tc := ⟨.hbm, 199, rfl⟩
abbrev main_v150 : Ref sig .tc := ⟨.hbm, 200, rfl⟩
abbrev main_cst_31 : Ref sig .tc := ⟨.hbm, 201, rfl⟩
abbrev main_v151 : Ref sig .tc := ⟨.hbm, 202, rfl⟩
abbrev main_v152 : Ref sig .tc := ⟨.hbm, 203, rfl⟩
abbrev main_cst_32 : Ref sig .tc := ⟨.hbm, 204, rfl⟩
abbrev main_v153 : Ref sig .tc := ⟨.hbm, 205, rfl⟩
abbrev main_v154 : Ref sig .tc := ⟨.hbm, 206, rfl⟩
abbrev main_cst_33 : Ref sig .tc := ⟨.hbm, 207, rfl⟩
abbrev main_v155 : Ref sig .tc := ⟨.hbm, 208, rfl⟩
abbrev main_v156 : Ref sig .tc := ⟨.hbm, 209, rfl⟩
abbrev main_cst_34 : Ref sig .tc := ⟨.hbm, 210, rfl⟩
abbrev main_v157 : Ref sig .tc := ⟨.hbm, 211, rfl⟩
abbrev main_v158 : Ref sig .tc := ⟨.hbm, 212, rfl⟩
abbrev main_cst_35 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_cst_36 : Ref sig .tc := ⟨.hbm, 225, rfl⟩
abbrev main_v170 : Ref sig .tc := ⟨.hbm, 226, rfl⟩
abbrev main_cst_37 : Ref sig .tc := ⟨.hbm, 227, rfl⟩
abbrev main_v171 : Ref sig .tc := ⟨.hbm, 228, rfl⟩
abbrev main_v172 : Ref sig .tc := ⟨.hbm, 229, rfl⟩
abbrev main_cst_38 : Ref sig .tc := ⟨.hbm, 230, rfl⟩
abbrev main_v173 : Ref sig .tc := ⟨.hbm, 231, rfl⟩
abbrev main_v174 : Ref sig .tc := ⟨.hbm, 232, rfl⟩
abbrev main_cst_39 : Ref sig .tc := ⟨.hbm, 233, rfl⟩
abbrev main_v175 : Ref sig .tc := ⟨.hbm, 234, rfl⟩
abbrev main_v176 : Ref sig .tc := ⟨.hbm, 235, rfl⟩
abbrev main_cst_40 : Ref sig .tc := ⟨.hbm, 236, rfl⟩
abbrev main_v177 : Ref sig .tc := ⟨.hbm, 237, rfl⟩
abbrev main_v178 : Ref sig .tc := ⟨.hbm, 238, rfl⟩
abbrev main_cst_41 : Ref sig .tc := ⟨.hbm, 239, rfl⟩
abbrev main_v179 : Ref sig .tc := ⟨.hbm, 240, rfl⟩
abbrev main_v180 : Ref sig .tc := ⟨.hbm, 241, rfl⟩
abbrev main_cst_42 : Ref sig .tc := ⟨.hbm, 242, rfl⟩
abbrev main_v181 : Ref sig .tc := ⟨.hbm, 243, rfl⟩
abbrev main_v182 : Ref sig .tc := ⟨.hbm, 244, rfl⟩
abbrev main_cst_43 : Ref sig .tc := ⟨.hbm, 245, rfl⟩
abbrev main_v183 : Ref sig .tc := ⟨.hbm, 246, rfl⟩
abbrev main_v184 : Ref sig .tc := ⟨.hbm, 247, rfl⟩
abbrev main_cst_44 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_cst_45 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_cst_46 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩

abbrev nD : Nat := 1
abbrev τ : Topo := Topo.v7x

variable {F : FTy → Type} [FloatOps F]
-- ==== MergeBwd.lean ====
abbrev S1x4096x512 : Shape := ⟨3, ![1, 4096, 512]⟩
abbrev S1x4096x2048 : Shape := ⟨3, ![1, 4096, 2048]⟩
abbrev S1x2048 : Shape := ⟨2, ![1, 2048]⟩
abbrev S1x512x1024 : Shape := ⟨3, ![1, 512, 1024]⟩
abbrev S1x1024x1024 : Shape := ⟨3, ![1, 1024, 1024]⟩
abbrev S1x4096x1024 : Shape := ⟨3, ![1, 4096, 1024]⟩
abbrev S4096x512 : Shape := ⟨2, ![4096, 512]⟩
abbrev S512x1024 : Shape := ⟨2, ![512, 1024]⟩
abbrev S4096x1024 : Shape := ⟨2, ![4096, 1024]⟩
abbrev S4096x2048 : Shape := ⟨2, ![4096, 2048]⟩
abbrev S_ : Shape := ⟨0, ![]⟩
abbrev S512x4x256 : Shape := ⟨3, ![512, 4, 256]⟩
abbrev S4x512x256 : Shape := ⟨3, ![4, 512, 256]⟩
abbrev S1024x1024 : Shape := ⟨2, ![1024, 1024]⟩
abbrev S4x256x1024 : Shape := ⟨3, ![4, 256, 1024]⟩
abbrev S256x1024 : Shape := ⟨2, ![256, 1024]⟩
abbrev S256x512 : Shape := ⟨2, ![256, 512]⟩
abbrev S256x2048 : Shape := ⟨2, ![256, 2048]⟩
abbrev S1x256x1024 : Shape := ⟨3, ![1, 256, 1024]⟩
abbrev S256x256 : Shape := ⟨2, ![256, 256]⟩
abbrev S2048 : Shape := ⟨1, ![2048]⟩
abbrev S1x512x256 : Shape := ⟨3, ![1, 512, 256]⟩
abbrev S512x256 : Shape := ⟨2, ![512, 256]⟩

abbrev nBuf : Space → Nat
  | .hbm => 57
  | .vmem => 28
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1x4096x2048, .f32⟩
  | .hbm, ⟨3, _⟩ => ⟨S1x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x4096x1024, .f32⟩
  | .hbm, ⟨8, _⟩ => ⟨S4096x512, .f32⟩
  | .hbm, ⟨9, _⟩ => ⟨S512x1024, .f32⟩
  | .hbm, ⟨10, _⟩ => ⟨S4096x1024, .f32⟩
  | .hbm, ⟨11, _⟩ => ⟨S4096x512, .f32⟩
  | .hbm, ⟨12, _⟩ => ⟨S512x1024, .f32⟩
  | .hbm, ⟨13, _⟩ => ⟨S4096x1024, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x512, .f32⟩
  | .hbm, ⟨32, _⟩ => ⟨S4096x512, .bf16⟩
  | .hbm, ⟨33, _⟩ => ⟨S4096x512, .f32⟩
  | .hbm, ⟨34, _⟩ => ⟨S4096x512, .bf16⟩
  | .hbm, ⟨35, _⟩ => ⟨S4096x2048, .f32⟩
  | .hbm, ⟨36, _⟩ => ⟨S4096x1024, .bf16⟩
  | .hbm, ⟨37, _⟩ => ⟨S4096x1024, .bf16⟩
  | .hbm, ⟨38, _⟩ => ⟨S4096x1024, .bf16⟩
  | .hbm, ⟨39, _⟩ => ⟨S512x1024, .f32⟩
  | .hbm, ⟨40, _⟩ => ⟨S512x4x256, .f32⟩
  | .hbm, ⟨41, _⟩ => ⟨S4x512x256, .f32⟩
  | .hbm, ⟨42, _⟩ => ⟨S4x512x256, .bf16⟩
  | .hbm, ⟨43, _⟩ => ⟨S512x1024, .f32⟩
  | .hbm, ⟨44, _⟩ => ⟨S512x4x256, .f32⟩
  | .hbm, ⟨45, _⟩ => ⟨S4x512x256, .f32⟩
  | .hbm, ⟨46, _⟩ => ⟨S4x512x256, .bf16⟩
  | .hbm, ⟨47, _⟩ => ⟨S1024x1024, .f32⟩
  | .hbm, ⟨48, _⟩ => ⟨S4x256x1024, .f32⟩
  | .hbm, ⟨49, _⟩ => ⟨S4x256x1024, .bf16⟩
  | .hbm, ⟨50, _⟩ => ⟨S4096x512, .bf16⟩
  | .hbm, ⟨51, _⟩ => ⟨S4096x512, .bf16⟩
  | .hbm, ⟨52, _⟩ => ⟨S4096x2048, .bf16⟩
  | .hbm, ⟨53, _⟩ => ⟨S1x2048, .f32⟩
  | .hbm, ⟨54, _⟩ => ⟨S4x512x256, .f32⟩
  | .hbm, ⟨55, _⟩ => ⟨S4x512x256, .f32⟩
  | .hbm, ⟨56, _⟩ => ⟨S4x256x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .f32⟩
  | .local _ .vmem, ⟨7, _⟩ => ⟨S256x2048, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x2048, .f32⟩
  | .local _ .vmem, ⟨15, _⟩ => ⟨S4x512x256, .bf16⟩
  | .local _ .vmem, ⟨16, _⟩ => ⟨S4x512x256, .bf16⟩
  | .local _ .vmem, ⟨17, _⟩ => ⟨S4x256x1024, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x2048, .bf16⟩
  | .local _ .vmem, ⟨23, _⟩ => ⟨S256x2048, .bf16⟩
  | .local _ .vmem, ⟨24, _⟩ => ⟨S1x2048, .f32⟩
  | .local _ .vmem, ⟨25, _⟩ => ⟨S4x512x256, .f32⟩
  | .local _ .vmem, ⟨26, _⟩ => ⟨S4x512x256, .f32⟩
  | .local _ .vmem, ⟨27, _⟩ => ⟨S4x256x1024, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40_0 : Ref sig .tc := ⟨.hbm, 50, rfl⟩
abbrev main_v40_1 : Ref sig .tc := ⟨.hbm, 51, rfl⟩
abbrev main_v40_2 : Ref sig .tc := ⟨.hbm, 52, rfl⟩
abbrev main_v40_3 : Ref sig .tc := ⟨.hbm, 53, rfl⟩
abbrev main_v40_4 : Ref sig .tc := ⟨.hbm, 54, rfl⟩
abbrev main_v40_5 : Ref sig .tc := ⟨.hbm, 55, rfl⟩
abbrev main_v40_6 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_13 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x512x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x512x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x256x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MergeBwdRefIdeal.lean ====
abbrev S1x4096x512 : Shape := ⟨3, ![1, 4096, 512]⟩
abbrev S1x4096x2048 : Shape := ⟨3, ![1, 4096, 2048]⟩
abbrev S1x2048 : Shape := ⟨2, ![1, 2048]⟩
abbrev S1x512x1024 : Shape := ⟨3, ![1, 512, 1024]⟩
abbrev S1x1024x1024 : Shape := ⟨3, ![1, 1024, 1024]⟩
abbrev S1x4096x1024 : Shape := ⟨3, ![1, 4096, 1024]⟩
abbrev S2048 : Shape := ⟨1, ![2048]⟩
abbrev S1x1x2048 : Shape := ⟨3, ![1, 1, 2048]⟩
abbrev S_ : Shape := ⟨0, ![]⟩
abbrev S512x1024 : Shape := ⟨2, ![512, 1024]⟩
abbrev S1024x1024 : Shape := ⟨2, ![1024, 1024]⟩
abbrev S1024x512 : Shape := ⟨2, ![1024, 512]⟩
abbrev S4096x512 : Shape := ⟨2, ![4096, 512]⟩
abbrev S4096x2048 : Shape := ⟨2, ![4096, 2048]⟩
abbrev S512x4x256 : Shape := ⟨3, ![512, 4, 256]⟩
abbrev S4x512x256 : Shape := ⟨3, ![4, 512, 256]⟩
abbrev S4x256x1024 : Shape := ⟨3, ![4, 256, 1024]⟩

abbrev nBuf : Space → Nat
  | .hbm => 77
  | .vmem => 0
  | .smem => 0
  | _ => 0

abbrev bufTy : (tb : Table) → Fin (tcTables nBuf tb) → BufTy
  | .hbm, ⟨0, _⟩ => ⟨S1x4096x512, .f32⟩
  | .hbm, ⟨1, _⟩ => ⟨S1x4096x512, .f32⟩
  | .hbm, ⟨2, _⟩ => ⟨S1x4096x2048, .f32⟩
  | .hbm, ⟨3, _⟩ => ⟨S1x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x4096x1024, .f32⟩
  | .hbm, ⟨8, _⟩ => ⟨S2048, .f32⟩
  | .hbm, ⟨9, _⟩ => ⟨S1x1x2048, .f32⟩
  | .hbm, ⟨10, _⟩ => ⟨S1x4096x2048, .f32⟩
  | .hbm, ⟨11, _⟩ => ⟨S1x4096x2048, .f32⟩
  | .hbm, ⟨12, _⟩ => ⟨S1x4096x2048, .f32⟩
  | .hbm, ⟨13, _⟩ => ⟨S1x4096x2048, .f32⟩
  | .hbm, ⟨14, _⟩ => ⟨S_, .f32⟩
  | .hbm, ⟨15, _⟩ => ⟨S1x4096x2048, .f32⟩
  | .hbm, ⟨16, _⟩ => ⟨S1x4096x2048, .f32⟩
  | .hbm, ⟨17, _⟩ => ⟨S_, .f32⟩
  | .hbm, ⟨18, _⟩ => ⟨S1x4096x2048, .f32⟩
  | .hbm, ⟨19, _⟩ => ⟨S1x4096x2048, .f32⟩
  | .hbm, ⟨20, _⟩ => ⟨S_, .f32⟩
  | .hbm, ⟨21, _⟩ => ⟨S1x4096x2048, .f32⟩
  | .hbm, ⟨22, _⟩ => ⟨S1x4096x2048, .f32⟩
  | .hbm, ⟨23, _⟩ => ⟨S1x4096x2048, .f32⟩
  | .hbm, ⟨24, _⟩ => ⟨S1x4096x1024, .f32⟩
  | .hbm, ⟨25, _⟩ => ⟨S1x4096x1024, .f32⟩
  | .hbm, ⟨26, _⟩ => ⟨S512x1024, .f32⟩
  | .hbm, ⟨27, _⟩ => ⟨S1x4096x1024, .f32⟩
  | .hbm, ⟨28, _⟩ => ⟨S1x4096x1024, .f32⟩
  | .hbm, ⟨29, _⟩ => ⟨S512x1024, .f32⟩
  | .hbm, ⟨30, _⟩ => ⟨S1x4096x1024, .f32⟩
  | .hbm, ⟨31, _⟩ => ⟨S1x4096x1024, .f32⟩
  | .hbm, ⟨32, _⟩ => ⟨S1x4096x1024, .f32⟩
  | .hbm, ⟨33, _⟩ => ⟨S1024x1024, .f32⟩
  | .hbm, ⟨34, _⟩ => ⟨S1x4096x1024, .f32⟩
  | .hbm, ⟨35, _⟩ => ⟨S1024x1024, .f32⟩
  | .hbm, ⟨36, _⟩ => ⟨S1024x1024, .f32⟩
  | .hbm, ⟨37, _⟩ => ⟨S1x4096x1024, .f32⟩
  | .hbm, ⟨38, _⟩ => ⟨S1x1024x1024, .f32⟩
  | .hbm, ⟨39, _⟩ => ⟨S1x4096x1024, .f32⟩
  | .hbm, ⟨40, _⟩ => ⟨S1x4096x1024, .f32⟩
  | .hbm, ⟨41, _⟩ => ⟨S1024x512, .f32⟩
  | .hbm, ⟨42, _⟩ => ⟨S512x1024, .f32⟩
  | .hbm, ⟨43, _⟩ => ⟨S1x4096x512, .f32⟩
  | .hbm, ⟨44, _⟩ => ⟨S1x512x1024, .f32⟩
  | .hbm, ⟨45, _⟩ => ⟨S1x4096x1024, .f32⟩
  | .hbm, ⟨46, _⟩ => ⟨S1x4096x1024, .f32⟩
  | .hbm, ⟨47, _⟩ => ⟨S1024x512, .f32⟩
  | .hbm, ⟨48, _⟩ => ⟨S512x1024, .f32⟩
  | .hbm, ⟨49, _⟩ => ⟨S1x4096x512, .f32⟩
  | .hbm, ⟨50, _⟩ => ⟨S1x512x1024, .f32⟩
  | .hbm, ⟨51, _⟩ => ⟨S_, .f32⟩
  | .hbm, ⟨52, _⟩ => ⟨S1x4096x2048, .f32⟩
  | .hbm, ⟨53, _⟩ => ⟨S_, .f32⟩
  | .hbm, ⟨54, _⟩ => ⟨S1x4096x2048, .f32⟩
  | .hbm, ⟨55, _⟩ => ⟨S1x4096x2048, .f32⟩
  | .hbm, ⟨56, _⟩ => ⟨S1x4096x2048, .f32⟩
  | .hbm, ⟨57, _⟩ => ⟨S_, .f32⟩
  | .hbm, ⟨58, _⟩ => ⟨S1x2048, .f32⟩
  | .hbm, ⟨59, _⟩ => ⟨S1x1x2048, .f32⟩
  | .hbm, ⟨60, _⟩ => ⟨S_, .f32⟩
  | .hbm, ⟨61, _⟩ => ⟨S2048, .f32⟩
  | .hbm, ⟨62, _⟩ => ⟨S1x2048, .f32⟩
  | .hbm, ⟨63, _⟩ => ⟨S4096x512, .f32⟩
  | .hbm, ⟨64, _⟩ => ⟨S4096x512, .bf16⟩
  | .hbm, ⟨65, _⟩ => ⟨S4096x512, .f32⟩
  | .hbm, ⟨66, _⟩ => ⟨S4096x512, .bf16⟩
  | .hbm, ⟨67, _⟩ => ⟨S4096x2048, .f32⟩
  | .hbm, ⟨68, _⟩ => ⟨S4096x2048, .bf16⟩
  | .hbm, ⟨69, _⟩ => ⟨S512x1024, .f32⟩
  | .hbm, ⟨70, _⟩ => ⟨S512x4x256, .f32⟩
  | .hbm, ⟨71, _⟩ => ⟨S4x512x256, .f32⟩
  | .hbm, ⟨72, _⟩ => ⟨S512x1024, .f32⟩
  | .hbm, ⟨73, _⟩ => ⟨S512x4x256, .f32⟩
  | .hbm, ⟨74, _⟩ => ⟨S4x512x256, .f32⟩
  | .hbm, ⟨75, _⟩ => ⟨S1024x1024, .f32⟩
  | .hbm, ⟨76, _⟩ => ⟨S4x256x1024, .f32⟩
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩

abbrev nD : Nat := 1
abbrev τ : Topo := Topo.v7x

variable {F : FTy → Type} [FloatOps F]
-- ==== FfnDgrad.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S2816x1024 : Shape := ⟨2, ![2816, 1024]⟩
abbrev S4x704x1024 : Shape := ⟨3, ![4, 704, 1024]⟩
abbrev S256x1024 : Shape := ⟨2, ![256, 1024]⟩
abbrev S4x256x704 : Shape := ⟨3, ![4, 256, 704]⟩
abbrev S1x704x1024 : Shape := ⟨3, ![1, 704, 1024]⟩
abbrev S704x1024 : Shape := ⟨2, ![704, 1024]⟩
abbrev S256x704 : Shape := ⟨2, ![256, 704]⟩
abbrev S1x64x704 : Shape := ⟨3, ![1, 64, 704]⟩
abbrev S64x704 : Shape := ⟨2, ![64, 704]⟩
abbrev S1x256x704 : Shape := ⟨3, ![1, 256, 704]⟩
abbrev S256 : Shape := ⟨1, ![256]⟩
abbrev S256x1 : Shape := ⟨2, ![256, 1]⟩

abbrev nBuf : Space → Nat
  | .hbm => 51
  | .vmem => 19
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x4096x1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1024x2816, .f32⟩
  | .hbm, ⟨25, _⟩ => ⟨S4096x2816, .f32⟩
  | .hbm, ⟨26, _⟩ => ⟨S4096x4x704, .f32⟩
  | .hbm, ⟨27, _⟩ => ⟨S4x4096x704, .f32⟩
  | .hbm, ⟨28, _⟩ => ⟨S4x4096x704, .bf16⟩
  | .hbm, ⟨29, _⟩ => ⟨S1024x2816, .f32⟩
  | .hbm, ⟨30, _⟩ => ⟨S4096x2816, .f32⟩
  | .hbm, ⟨31, _⟩ => ⟨S4096x4x704, .f32⟩
  | .hbm, ⟨32, _⟩ => ⟨S4x4096x704, .f32⟩
  | .hbm, ⟨33, _⟩ => ⟨S4x4096x704, .bf16⟩
  | .hbm, ⟨34, _⟩ => ⟨S4096x1024, .f32⟩
  | .hbm, ⟨35, _⟩ => ⟨S4096x1024, .f32⟩
  | .hbm, ⟨36, _⟩ => ⟨S1x2816x1024, .f32⟩
  | .hbm, ⟨37, _⟩ => ⟨S2816x1024, .f32⟩
  | .hbm, ⟨38, _⟩ => ⟨S4x704x1024, .f32⟩
  | .hbm, ⟨39, _⟩ => ⟨S4x704x1024, .bf16⟩
  | .hbm, ⟨40, _⟩ => ⟨S1x2816x1024, .f32⟩
  | .hbm, ⟨41, _⟩ => ⟨S2816x1024, .f32⟩
  | .hbm, ⟨42, _⟩ => ⟨S4x704x1024, .f32⟩
  | .hbm, ⟨43, _⟩ => ⟨S4x704x1024, .bf16⟩
  | .hbm, ⟨44, _⟩ => ⟨S2816x1024, .f32⟩
  | .hbm, ⟨45, _⟩ => ⟨S4x704x1024, .f32⟩
  | .hbm, ⟨46, _⟩ => ⟨S4x704x1024, .bf16⟩
  | .hbm, ⟨47, _⟩ => ⟨S4096x1024, .f32⟩
  | .hbm, ⟨48, _⟩ => ⟨S4x4096x704, .bf16⟩
  | .hbm, ⟨49, _⟩ => ⟨S4x4096x704, .bf16⟩
  | .hbm, ⟨50, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x256x704, .bf16⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S1x1024, .f32⟩
  | .local _ .vmem, ⟨9, _⟩ => ⟨S4x704x1024, .bf16⟩
  | .local _ .vmem, ⟨10, _⟩ => ⟨S4x704x1024, .bf16⟩
  | .local _ .vmem, ⟨11, _⟩ => ⟨S4x704x1024, .bf16⟩
  | .local _ .vmem, ⟨12, _⟩ => ⟨S256x1024, .f32⟩
  | .local _ .vmem, ⟨13, _⟩ => ⟨S256x1024, .f32⟩
  | .local _ .vmem, ⟨14, _⟩ => ⟨S4x256x704, .bf16⟩
  | .local _ .vmem, ⟨15, _⟩ => ⟨S4x256x704, .bf16⟩
  | .local _ .vmem, ⟨16, _⟩ => ⟨S4x256x704, .bf16⟩
  | .local _ .vmem, ⟨17, _⟩ => ⟨S4x256x704, .bf16⟩
  | .local _ .vmem, ⟨18, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38_0 : Ref sig .tc := ⟨.hbm, 47, rfl⟩
abbrev main_v38_1 : Ref sig .tc := ⟨.hbm, 48, rfl⟩
abbrev main_v38_2 : Ref sig .tc := ⟨.hbm, 49, rfl⟩
abbrev main_v38_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnDgradRefIdeal.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S1x4096x2816 : Shape := ⟨3, ![1, 4096, 2816]⟩
abbrev S4096 : Shape := ⟨1, ![4096]⟩
abbrev S4096x1024 : Shape := ⟨2, ![4096, 1024]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 152
  | .vmem => 0
  | .smem => 0
  | _ => 0

abbrev hbmTy0_0 (i : Nat) : BufTy := match i % 128 with
  | 0 => ⟨S1x4096x1024, .f32⟩
  | 1 => ⟨S1x1024, .f32⟩
  | 2 => ⟨S1x1024x2816, .f32⟩
  | 3 => ⟨S1x1024x2816, .f32⟩
  | 4 => ⟨S1x2816x1024, .f32⟩
  | 5 => ⟨S1x4096x1024, .f32⟩
  | 6 => ⟨S1024, .f32⟩
  | 7 => ⟨S1x4096x1024, .f32⟩
  | 8 => ⟨S_, .f32⟩
  | 9 => ⟨S1x4096, .f32⟩
  | 10 => ⟨S1x4096x1, .f32⟩
  | 11 => ⟨S_, .f32⟩
  | 12 => ⟨S1x4096x1, .f32⟩
  | 13 => ⟨S1x4096x1, .f32⟩
  | 14 => ⟨S_, .f32⟩
  | 15 => ⟨S1x4096x1, .f32⟩
  | 16 => ⟨S1x4096x1, .f32⟩
  | 17 => ⟨S1x4096x1, .f32⟩
  | 18 => ⟨S1x4096x1, .f32⟩
  | 19 => ⟨S_, .f32⟩
  | 20 => ⟨S1x4096x1, .f32⟩
  | 21 => ⟨S1x4096x1, .f32⟩
  | 22 => ⟨S1x4096x1024, .f32⟩
  | 23 => ⟨S1x4096x1024, .f32⟩
  | 24 => ⟨S1x1x1024, .f32⟩
  | 25 => ⟨S1x4096x1024, .f32⟩
  | 26 => ⟨S1x4096x1024, .f32⟩
  | 27 => ⟨S1024x2816, .f32⟩
  | 28 => ⟨S1024x2816, .f32⟩
  | 29 => ⟨S2816x1024, .f32⟩
  | 30 => ⟨S1x4096x2816, .f32⟩
  | 31 => ⟨S1x4096x2816, .f32⟩
  | 32 => ⟨S1x4096x2816, .f32⟩
  | 33 => ⟨S_, .f32⟩
  | 34 => ⟨S1x4096x2816, .f32⟩
  | 35 => ⟨S1x4096x2816, .f32⟩
  | 36 => ⟨S_, .f32⟩
  | 37 => ⟨S1x4096x2816, .f32⟩
  | 38 => ⟨S1x4096x2816, .f32⟩
  | 39 => ⟨S_, .f32⟩
  | 40 => ⟨S1x4096x2816, .f32⟩
  | 41 => ⟨S1x4096x2816, .f32⟩
  | 42 => ⟨S1x4096x2816, .f32⟩
  | 43 => ⟨S1x4096x2816, .f32⟩
  | 44 => ⟨S1x4096x2816, .f32⟩
  | 45 => ⟨S1x4096x2816, .f32⟩
  | 46 => ⟨S1x4096x1024, .f32⟩
  | 47 => ⟨S_, .f32⟩
  | 48 => ⟨S1x4096x1024, .f32⟩
  | 49 => ⟨S1x4096x1024, .f32⟩
  | 50 => ⟨S1x4096x1024, .f32⟩
  | 51 => ⟨S1x4096x1024, .f32⟩
  | 52 => ⟨S_, .f32⟩
  | 53 => ⟨S1x4096x1024, .f32⟩
  | 54 => ⟨S1x4096x1024, .f32⟩
  | 55 => ⟨S1x4096x2816, .f32⟩
  | 56 => ⟨S1x4096x2816, .f32⟩
  | 57 => ⟨S1x4096x2816, .f32⟩
  | 58 => ⟨S1x4096x1024, .f32⟩
  | 59 => ⟨S1x4096x2816, .f32⟩
  | 60 => ⟨S1x4096x2816, .f32⟩
  | 61 => ⟨S1x4096x2816, .f32⟩
  | 62 => ⟨S1x4096x2816, .f32⟩
  | 63 => ⟨S1x4096x1024, .f32⟩
  | 64 => ⟨S1x4096x1024, .f32⟩
  | 65 => ⟨S1x4096x1024, .f32⟩
  | 66 => ⟨S_, .f32⟩
  | 67 => ⟨S1x1024, .f32⟩
  | 68 => ⟨S1x1x1024, .f32⟩
  | 69 => ⟨S1x4096x1024, .f32⟩
  | 70 => ⟨S1x4096x1024, .f32⟩
  | 71 => ⟨S_, .f32⟩
  | 72 => ⟨S1024, .f32⟩
  | 73 => ⟨S1x4096x1024, .f32⟩
  | 74 => ⟨S_, .f32⟩
  | 75 => ⟨S1x4096, .f32⟩
  | 76 => ⟨S1x4096x1, .f32⟩
  | 77 => ⟨S1x4096x1024, .f32⟩
  | 78 => ⟨S1x4096x1024, .f32⟩
  | 79 => ⟨S1x4096x1024, .f32⟩
  | 80 => ⟨S1x4096x1, .f32⟩
  | 81 => ⟨S_, .f32⟩
  | 82 => ⟨S1x4096x1, .f32⟩
  | 83 => ⟨S1x4096x1, .f32⟩
  | 84 => ⟨S_, .f32⟩
  | 85 => ⟨S4096, .f32⟩
  | 86 => ⟨S1x4096, .f32⟩
  | 87 => ⟨S1x4096x1024, .f32⟩
  | 88 => ⟨S1x4096x1024, .f32⟩
  | 89 => ⟨S1x4096x1024, .f32⟩
  | 90 => ⟨S1x4096x1024, .f32⟩
  | 91 => ⟨S1x4096x1024, .f32⟩
  | 92 => ⟨S1x1024, .f32⟩
  | 93 => ⟨S1024, .f32⟩
  | 94 => ⟨S1x4096x1024, .f32⟩
  | 95 => ⟨S_, .f32⟩
  | 96 => ⟨S1x4096, .f32⟩
  | 97 => ⟨S1x4096x1, .f32⟩
  | 98 => ⟨S_, .f32⟩
  | 99 => ⟨S1x4096x1, .f32⟩
  | 100 => ⟨S1x4096x1, .f32⟩
  | 101 => ⟨S_, .f32⟩
  | 102 => ⟨S1x4096x1, .f32⟩
  | 103 => ⟨S1x4096x1, .f32⟩
  | 104 => ⟨S1x4096x1, .f32⟩
  | 105 => ⟨S1x4096x1024, .f32⟩
  | 106 => ⟨S1x4096x1024, .f32⟩
  | 107 => ⟨S1x1x1024, .f32⟩
  | 108 => ⟨S1x4096x1024, .f32⟩
  | 109 => ⟨S1x4096x1024, .f32⟩
  | 110 => ⟨S1024x2816, .f32⟩
  | 111 => ⟨S1x4096x2816, .f32⟩
  | 112 => ⟨S1024x2816, .f32⟩
  | 113 => ⟨S1x4096x2816, .f32⟩
  | 114 => ⟨S1x4096x2816, .f32⟩
  | 115 => ⟨S1x4096x2816, .f32⟩
  | 116 => ⟨S_, .f32⟩
  | 117 => ⟨S1x4096x2816, .f32⟩
  | 118 => ⟨S1x4096x2816, .f32⟩
  | 119 => ⟨S_, .f32⟩
  | 120 => ⟨S1x4096x2816, .f32⟩
  | 121 => ⟨S1x4096x2816, .f32⟩
  | 122 => ⟨S_, .f32⟩
  | 123 => ⟨S1x4096x2816, .f32⟩
  | 124 => ⟨S1x4096x2816, .f32⟩
  | 125 => ⟨S1x4096x2816, .f32⟩
  | 126 => ⟨S1x4096x2816, .f32⟩
  | 127 => ⟨S1x4096x2816, .f32⟩
  | _ => ⟨S1x4096x1024, .f32⟩

abbrev hbmTy0_1 (i : Nat) : BufTy := match i % 128 with
  | 0 => ⟨S2816x1024, .f32⟩
  | 1 => ⟨S1x4096x1024, .f32⟩
  | 2 => ⟨S_, .f32⟩
  | 3 => ⟨S1x4096x1024, .f32⟩
  | 4 => ⟨S1x4096x1024, .f32⟩
  | 5 => ⟨S_, .f32⟩
  | 6 => ⟨S1x4096x1024, .f32⟩
  | 7 => ⟨S1x4096x1024, .f32⟩
  | 8 => ⟨S1x4096x2816, .f32⟩
  | 9 => ⟨S1x4096x2816, .f32⟩
  | 10 => ⟨S1x4096x2816, .f32⟩
  | 11 => ⟨S1x4096x2816, .f32⟩
  | 12 => ⟨S1x4096x2816, .f32⟩
  | 13 => ⟨S1x4096x2816, .f32⟩
  | 14 => ⟨S1x4096x2816, .f32⟩
  | 15 => ⟨S4096x1024, .f32⟩
  | 16 => ⟨S4096x2816, .f32⟩
  | 17 => ⟨S4096x4x704, .f32⟩
  | 18 => ⟨S4x4096x704, .f32⟩
  | 19 => ⟨S4x4096x704, .bf16⟩
  | 20 => ⟨S4096x2816, .f32⟩
  | 21 => ⟨S4096x4x704, .f32⟩
  | 22 => ⟨S4x4096x704, .f32⟩
  | 23 => ⟨S4x4096x704, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_v52 : Ref sig .tc := ⟨.hbm, 83, rfl⟩
abbrev main_cst_9 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_10 : Ref sig .tc := ⟨.hbm, 95, rfl⟩
abbrev main_v63 : Ref sig .tc := ⟨.hbm, 96, rfl⟩
abbrev main_v64 : Ref sig .tc := ⟨.hbm, 97, rfl⟩
abbrev main_cst_11 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_call2_v0 : Ref sig .tc := ⟨.hbm, 114, rfl⟩
abbrev main_call2_v1 : Ref sig .tc := ⟨.hbm, 115, rfl⟩
abbrev main_call2_cst : Ref sig .tc := ⟨.hbm, 116, rfl⟩
abbrev main_call2_v2 : Ref sig .tc := ⟨.hbm, 117, rfl⟩
abbrev main_call2_v3 : Ref sig .tc := ⟨.hbm, 118, rfl⟩
abbrev main_call2_cst_0 : Ref sig .tc := ⟨.hbm, 119, rfl⟩
abbrev main_call2_v4 : Ref sig .tc := ⟨.hbm, 120, rfl⟩
abbrev main_v79_2 : Ref sig .tc := ⟨.hbm, 121, rfl⟩
abbrev main_call2_cst_1 : Ref sig .tc := ⟨.hbm, 122, rfl⟩
abbrev main_call2_v6 : Ref sig .tc := ⟨.hbm, 123, rfl⟩
abbrev main_call2_v7 : Ref sig .tc := ⟨.hbm, 124, rfl⟩
abbrev main_v79_1 : Ref sig .tc := ⟨.hbm, 125, rfl⟩
abbrev main_v79_0 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_13 : Ref sig .tc := ⟨.hbm, 130, rfl⟩
abbrev main_v83 : Ref sig .tc := ⟨.hbm, 131, rfl⟩
abbrev main_v84 : Ref sig .tc := ⟨.hbm, 132, rfl⟩
abbrev main_cst_14 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_call3_v0 : Ref sig .tc := ⟨.hbm, 139, rfl⟩
abbrev main_call3_v1 : Ref sig .tc := ⟨.hbm, 140, rfl⟩
abbrev main_call3_v2 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩

abbrev nD : Nat := 1
abbrev τ : Topo := Topo.v7x

variable {F : FTy → Type} [FloatOps F]
-- ==== LossHead.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S4096x1024 : Shape := ⟨2, ![4096, 1024]⟩
abbrev S2816x1024 : Shape := ⟨2, ![2816, 1024]⟩
abbrev S4x704x1024 : Shape := ⟨3, ![4, 704, 1024]⟩
abbrev S4x4096x704 : Shape := ⟨3, ![4, 4096, 704]⟩
abbrev S1x128 : Shape := ⟨2, ![1, 128]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S1 : Shape := ⟨1, ![1]⟩
abbrev S1x1 : Shape := ⟨2, ![1, 1]⟩

abbrev nBuf : Space → Nat
  | .hbm => 27
  | .vmem => 19
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1x4096x1024, .f32⟩
  | .hbm, ⟨7, _⟩ => ⟨S4096x1024, .f32⟩
  | .hbm, ⟨8, _⟩ => ⟨S1x2816x1024, .f32⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S1x2816x1024, .f32⟩
  | .hbm, ⟨13, _⟩ => ⟨S2816x1024, .f32⟩
  | .hbm, ⟨14, _⟩ => ⟨S4x704x1024, .f32⟩
  | .hbm, ⟨15, _⟩ => ⟨S4x704x1024, .bf16⟩
  | .hbm, ⟨16, _⟩ => ⟨S2816x1024, .f32⟩
  | .hbm, ⟨17, _⟩ => ⟨S4x704x1024, .f32⟩
  | .hbm, ⟨18, _⟩ => ⟨S4x704x1024, .bf16⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .bf16⟩
  | .hbm, ⟨23, _⟩ => ⟨S4x4096x704, .bf16⟩
  | .hbm, ⟨24, _⟩ => ⟨S4x4096x704, .bf16⟩
  | .hbm, ⟨25, _⟩ => ⟨S1x128, .f32⟩
  | .hbm, ⟨26, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S4x256x704, .bf16⟩
  | .local _ .vmem, ⟨14, _⟩ => ⟨S4x256x704, .bf16⟩
  | .local _ .vmem, ⟨15, _⟩ => ⟨S4x256x704, .bf16⟩
  | .local _ .vmem, ⟨16, _⟩ => ⟨S4x256x704, .bf16⟩
  | .local _ .vmem, ⟨17, _⟩ => ⟨S1x128, .f32⟩
  | .local _ .vmem, ⟨18, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v14_4 : Ref sig .tc := ⟨.hbm, 25, rfl⟩
abbrev main_v14_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== LossHeadRefIdeal.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S1x4096x2816 : Shape := ⟨3, ![1, 4096, 2816]⟩
abbrev S4096 : Shape := ⟨1, ![4096]⟩
abbrev S4096x1024 : Shape := ⟨2, ![4096, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S1x128 : Shape := ⟨2, ![1, 128]⟩

abbrev nBuf : Space → Nat
  | .hbm => 130
  | .vmem => 0
  | .smem => 0
  | _ => 0

abbrev hbmTy0_0 (i : Nat) : BufTy := match i % 128 with
  | 0 => ⟨S1x4096x1024, .f32⟩
  | 1 => ⟨S1x1024, .f32⟩
  | 2 => ⟨S1x1024x2816, .f32⟩
  | 3 => ⟨S1x1024x2816, .f32⟩
  | 4 => ⟨S1x2816x1024, .f32⟩
  | 5 => ⟨S1024, .f32⟩
  | 6 => ⟨S1x4096x1024, .f32⟩
  | 7 => ⟨S1024, .f32⟩
  | 8 => ⟨S1x4096x1024, .f32⟩
  | 9 => ⟨S_, .f32⟩
  | 10 => ⟨S1x4096, .f32⟩
  | 11 => ⟨S1x4096x1, .f32⟩
  | 12 => ⟨S_, .f32⟩
  | 13 => ⟨S1x4096x1, .f32⟩
  | 14 => ⟨S1x4096x1, .f32⟩
  | 15 => ⟨S_, .f32⟩
  | 16 => ⟨S1x4096x1, .f32⟩
  | 17 => ⟨S1x4096x1, .f32⟩
  | 18 => ⟨S1x4096x1, .f32⟩
  | 19 => ⟨S1x4096x1024, .f32⟩
  | 20 => ⟨S1x4096x1024, .f32⟩
  | 21 => ⟨S1x1x1024, .f32⟩
  | 22 => ⟨S1x4096x1024, .f32⟩
  | 23 => ⟨S1x4096x1024, .f32⟩
  | 24 => ⟨S1024x2816, .f32⟩
  | 25 => ⟨S1024x2816, .f32⟩
  | 26 => ⟨S2816x1024, .f32⟩
  | 27 => ⟨S1x4096x2816, .f32⟩
  | 28 => ⟨S1x4096x2816, .f32⟩
  | 29 => ⟨S1x4096x2816, .f32⟩
  | 30 => ⟨S_, .f32⟩
  | 31 => ⟨S1x4096x2816, .f32⟩
  | 32 => ⟨S1x4096x2816, .f32⟩
  | 33 => ⟨S_, .f32⟩
  | 34 => ⟨S1x4096x2816, .f32⟩
  | 35 => ⟨S1x4096x2816, .f32⟩
  | 36 => ⟨S1x4096x2816, .f32⟩
  | 37 => ⟨S1x4096x2816, .f32⟩
  | 38 => ⟨S1x4096x2816, .f32⟩
  | 39 => ⟨S1x4096x1024, .f32⟩
  | 40 => ⟨S_, .f32⟩
  | 41 => ⟨S1x4096x1024, .f32⟩
  | 42 => ⟨S1x4096x1024, .f32⟩
  | 43 => ⟨S1x4096x1024, .f32⟩
  | 44 => ⟨S1x4096x1024, .f32⟩
  | 45 => ⟨S_, .f32⟩
  | 46 => ⟨S1x4096, .f32⟩
  | 47 => ⟨S1x4096x1, .f32⟩
  | 48 => ⟨S_, .f32⟩
  | 49 => ⟨S1x4096x1, .f32⟩
  | 50 => ⟨S1x4096x1, .f32⟩
  | 51 => ⟨S_, .f32⟩
  | 52 => ⟨S1x4096x1, .f32⟩
  | 53 => ⟨S1x4096x1, .f32⟩
  | 54 => ⟨S1x4096x1, .f32⟩
  | 55 => ⟨S1x4096x1, .f32⟩
  | 56 => ⟨S_, .f32⟩
  | 57 => ⟨S1x4096x1, .f32⟩
  | 58 => ⟨S1x4096x1, .f32⟩
  | 59 => ⟨S1x4096x1024, .f32⟩
  | 60 => ⟨S1x4096x1024, .f32⟩
  | 61 => ⟨S1x1x1024, .f32⟩
  | 62 => ⟨S1x4096x1024, .f32⟩
  | 63 => ⟨S1x4096x1024, .f32⟩
  | 64 => ⟨S1x4096x1024, .f32⟩
  | 65 => ⟨S1x4096x1024, .f32⟩
  | 66 => ⟨S_, .f32⟩
  | 67 => ⟨S1x4096x1024, .f32⟩
  | 68 => ⟨S1x4096x1024, .f32⟩
  | 69 => ⟨S_, .f32⟩
  | 70 => ⟨S1x4096, .f32⟩
  | 71 => ⟨S_, .f32⟩
  | 72 => ⟨S1x4096, .f32⟩
  | 73 => ⟨S1x4096, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S1x4096, .f32⟩
  | 82 => ⟨S_, .f32⟩
  | 83 => ⟨S1x4096, .f32⟩
  | 84 => ⟨S1x4096, .f32⟩
  | 85 => ⟨S1x4096x1024, .f32⟩
  | 86 => ⟨S1x4096x1024, .f32⟩
  | 87 => ⟨S1x4096x1024, .f32⟩
  | 88 => ⟨S_, .f32⟩
  | 89 => ⟨S1x1024, .f32⟩
  | 90 => ⟨S1x1x1024, .f32⟩
  | 91 => ⟨S1x4096x1024, .f32⟩
  | 92 => ⟨S1x4096x1024, .f32⟩
  | 93 => ⟨S_, .f32⟩
  | 94 => ⟨S1024, .f32⟩
  | 95 => ⟨S1x4096x1024, .f32⟩
  | 96 => ⟨S_, .f32⟩
  | 97 => ⟨S1x4096, .f32⟩
  | 98 => ⟨S1x4096x1, .f32⟩
  | 99 => ⟨S1x4096x1024, .f32⟩
  | 100 => ⟨S1x4096x1024, .f32⟩
  | 101 => ⟨S1x4096x1, .f32⟩
  | 102 => ⟨S_, .f32⟩
  | 103 => ⟨S1x4096x1, .f32⟩
  | 104 => ⟨S1x4096x1, .f32⟩
  | 105 => ⟨S_, .f32⟩
  | 106 => ⟨S4096, .f32⟩
  | 107 => ⟨S1x4096, .f32⟩
  | 108 => ⟨S1x4096x1024, .f32⟩
  | 109 => ⟨S1x4096x1024, .f32⟩
  | 110 => ⟨S1x4096x1024, .f32⟩
  | 111 => ⟨S1x4096x1024, .f32⟩
  | 112 => ⟨S1x4096x1024, .f32⟩
  | 113 => ⟨S4096x1024, .f32⟩
  | 114 => ⟨S4096x1024, .f32⟩
  | 115 => ⟨S4096x1024, .bf16⟩
  | 116 => ⟨S1024x2816, .f32⟩
  | 117 => ⟨S1x4096x2816, .f32⟩
  | 118 => ⟨S4096x2816, .f32⟩
  | 119 => ⟨S4096x4x704, .f32⟩
  | 120 => ⟨S4x4096x704, .f32⟩
  | 121 => ⟨S4x4096x704, .bf16⟩
  | 122 => ⟨S1024x2816, .f32⟩
  | 123 => ⟨S1x4096x2816, .f32⟩
  | 124 => ⟨S4096x2816, .f32⟩
  | 125 => ⟨S4096x4x704, .f32⟩
  | 126 => ⟨S4x4096x704, .f32⟩
  | 127 => ⟨S4x4096x704, .bf16⟩
  | _ => ⟨S1x4096x1024, .f32⟩

abbrev hbmTy0_1 (i : Nat) : BufTy := match i % 128 with
  | 0 => ⟨S1x128, .f32⟩
  | 1 => ⟨S1x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_cst_12 : Ref sig .tc := ⟨.hbm, 78, rfl⟩
abbrev main_cst_13 : Ref sig .tc := ⟨.hbm, 79, rfl⟩
abbrev main_v50 : Ref sig .tc := ⟨.hbm, 80, rfl⟩
abbrev main_v51 : Ref sig .tc := ⟨.hbm, 81, rfl⟩
abbrev main_cst_14 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_16 : Ref sig .tc := ⟨.hbm, 93, rfl⟩
abbrev main_v61 : Ref sig .tc := ⟨.hbm, 94, rfl⟩
abbrev main_v62 : Ref sig .tc := ⟨.hbm, 95, rfl⟩
abbrev main_cst_17 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_18 : Ref sig .tc := ⟨.hbm, 102, rfl⟩
abbrev main_v68 : Ref sig .tc := ⟨.hbm, 103, rfl⟩
abbrev main_v69 : Ref sig .tc := ⟨.hbm, 104, rfl⟩
abbrev main_cst_19 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩

abbrev nD : Nat := 1
abbrev τ : Topo := Topo.v7x

variable {F : FTy → Type} [FloatOps F]
-- ==== RelBwd.lean ====
abbrev S2x8x64x576 : Shape := ⟨4, ![2, 8, 64, 576]⟩
abbrev S_ : Shape := ⟨0, ![]⟩
abbrev S8x64x64 : Shape := ⟨3, ![8, 64, 64]⟩
abbrev S1x8x64x576 : Shape := ⟨4, ![1, 8, 64, 576]⟩
abbrev S8x64x576 : Shape := ⟨3, ![8, 64, 576]⟩
abbrev S8x64x640 : Shape := ⟨3, ![8, 64, 640]⟩
abbrev S8x128x640 : Shape := ⟨3, ![8, 128, 640]⟩
abbrev S8x40960 : Shape := ⟨2, ![8, 40960]⟩
abbrev S8x41024 : Shape := ⟨2, ![8, 41024]⟩
abbrev S8x64x641 : Shape := ⟨3, ![8, 64, 641]⟩
abbrev S8x640 : Shape := ⟨2, ![8, 640]⟩
abbrev S640x640 : Shape := ⟨2, ![640, 640]⟩

abbrev nBuf : Space → Nat
  | .hbm => 32
  | .vmem => 2
  | .smem => 0
  | _ => 0

abbrev bufTy : (tb : Table) → Fin (tcTables nBuf tb) → BufTy
  | .hbm, ⟨0, _⟩ => ⟨S2x8x64x576, .f32⟩
  | .hbm, ⟨1, _⟩ => ⟨S_, .f32⟩
  | .hbm, ⟨2, _⟩ => ⟨S8x64x64, .f32⟩
  | .hbm, ⟨3, _⟩ => ⟨S1x8x64x576, .f32⟩
  | .hbm, ⟨4, _⟩ => ⟨S8x64x576, .f32⟩
  | .hbm, ⟨5, _⟩ => ⟨S8x64x640, .f32⟩
  | .hbm, ⟨6, _⟩ => ⟨S1x8x64x576, .f32⟩
  | .hbm, ⟨7, _⟩ => ⟨S8x64x576, .f32⟩
  | .hbm, ⟨8, _⟩ => ⟨S8x64x640, .f32⟩
  | .hbm, ⟨9, _⟩ => ⟨S8x128x640, .f32⟩
  | .hbm, ⟨10, _⟩ => ⟨S8x64x576, .f32⟩
  | .hbm, ⟨11, _⟩ => ⟨S_, .i32⟩
  | .hbm, ⟨12, _⟩ => ⟨S_, .f32⟩
  | .hbm, ⟨13, _⟩ => ⟨S8x64x640, .f32⟩
  | .hbm, ⟨14, _⟩ => ⟨S8x40960, .f32⟩
  | .hbm, ⟨15, _⟩ => ⟨S_, .i32⟩
  | .hbm, ⟨16, _⟩ => ⟨S_, .f32⟩
  | .hbm, ⟨17, _⟩ => ⟨S8x41024, .f32⟩
  | .hbm, ⟨18, _⟩ => ⟨S8x64x641, .f32⟩
  | .hbm, ⟨19, _⟩ => ⟨S8x64x640, .f32⟩
  | .hbm, ⟨20, _⟩ => ⟨S8x64x576, .f32⟩
  | .hbm, ⟨21, _⟩ => ⟨S_, .i32⟩
  | .hbm, ⟨22, _⟩ => ⟨S_, .f32⟩
  | .hbm, ⟨23, _⟩ => ⟨S8x64x640, .f32⟩
  | .hbm, ⟨24, _⟩ => ⟨S8x40960, .f32⟩
  | .hbm, ⟨25, _⟩ => ⟨S_, .i32⟩
  | .hbm, ⟨26, _⟩ => ⟨S_, .f32⟩
  | .hbm, ⟨27, _⟩ => ⟨S8x41024, .f32⟩
  | .hbm, ⟨28, _⟩ => ⟨S8x64x641, .f32⟩
  | .hbm, ⟨29, _⟩ => ⟨S8x64x640, .f32⟩
  | .hbm, ⟨30, _⟩ => ⟨S8x128x640, .f32⟩
  | .hbm, ⟨31, _⟩ => ⟨S8x640, .f32⟩
  | .local _ .vmem, ⟨0, _⟩ => ⟨S8x128x640, .f32⟩
  | .local _ .vmem, ⟨1, _⟩ => ⟨S8x640, .f32⟩
  | _, _ => ⟨S2x8x64x576, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_call1_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_call2_v0 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_call3_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x128x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RelBwdRefIdeal.lean ====
abbrev S2x8x64x576 : Shape := ⟨4, ![2, 8, 64, 576]⟩
abbrev S_ : Shape := ⟨0, ![]⟩
abbrev S8x513 : Shape := ⟨2, ![8, 513]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x8x64x576 : Shape := ⟨4, ![1, 8, 64, 576]⟩
abbrev S8x127 : Shape := ⟨2, ![8, 127]⟩
abbrev S8x640 : Shape := ⟨2, ![8, 640]⟩

abbrev nBuf : Space → Nat
  | .hbm => 46
  | .vmem => 0
  | .smem => 0
  | _ => 0

abbrev bufTy : (tb : Table) → Fin (tcTables nBuf tb) → BufTy
  | .hbm, ⟨0, _⟩ => ⟨S2x8x64x576, .f32⟩
  | .hbm, ⟨1, _⟩ => ⟨S_, .f32⟩
  | .hbm, ⟨2, _⟩ => ⟨S8x513, .f32⟩
  | .hbm, ⟨3, _⟩ => ⟨S64, .i32⟩
  | .hbm, ⟨4, _⟩ => ⟨S64x1, .i32⟩
  | .hbm, ⟨5, _⟩ => ⟨S576, .i32⟩
  | .hbm, ⟨6, _⟩ => ⟨S1x576, .i32⟩
  | .hbm, ⟨7, _⟩ => ⟨S_, .i32⟩
  | .hbm, ⟨8, _⟩ => ⟨S64x1, .i32⟩
  | .hbm, ⟨9, _⟩ => ⟨S64x1, .i32⟩
  | .hbm, ⟨10, _⟩ => ⟨S64x576, .i32⟩
  | .hbm, ⟨11, _⟩ => ⟨S64x576, .i32⟩
  | .hbm, ⟨12, _⟩ => ⟨S64x576, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S64x576, .i32⟩
  | .hbm, ⟨17, _⟩ => ⟨S64x576, .i32⟩
  | .hbm, ⟨18, _⟩ => ⟨S_, .i32⟩
  | .hbm, ⟨19, _⟩ => ⟨S64x576, .i32⟩
  | .hbm, ⟨20, _⟩ => ⟨S64x576, .i32⟩
  | .hbm, ⟨21, _⟩ => ⟨S_, .i32⟩
  | .hbm, ⟨22, _⟩ => ⟨S64x576, .i32⟩
  | .hbm, ⟨23, _⟩ => ⟨S64x576, .i32⟩
  | .hbm, ⟨24, _⟩ => ⟨S_, .i32⟩
  | .hbm, ⟨25, _⟩ => ⟨S64x576, .i32⟩
  | .hbm, ⟨26, _⟩ => ⟨S64x576, .i1⟩
  | .hbm, ⟨27, _⟩ => ⟨S_, .i32⟩
  | .hbm, ⟨28, _⟩ => ⟨S64x576, .i32⟩
  | .hbm, ⟨29, _⟩ => ⟨S64x576, .i32⟩
  | .hbm, ⟨30, _⟩ => ⟨S64x576, .i32⟩
  | .hbm, ⟨31, _⟩ => ⟨S64x576x1, .i32⟩
  | .hbm, ⟨32, _⟩ => ⟨S8x64x576, .f32⟩
  | .hbm, ⟨33, _⟩ => ⟨S1x8x64x576, .f32⟩
  | .hbm, ⟨34, _⟩ => ⟨S2x8x64x576, .f32⟩
  | .hbm, ⟨35, _⟩ => ⟨S_, .f32⟩
  | .hbm, ⟨36, _⟩ => ⟨S8x64x576, .f32⟩
  | .hbm, ⟨37, _⟩ => ⟨S1x8x64x576, .f32⟩
  | .hbm, ⟨38, _⟩ => ⟨S_, .f32⟩
  | .hbm, ⟨39, _⟩ => ⟨S8x64x576, .f32⟩
  | .hbm, ⟨40, _⟩ => ⟨S_, .f32⟩
  | .hbm, ⟨41, _⟩ => ⟨S8x513, .f32⟩
  | .hbm, ⟨42, _⟩ => ⟨S8x513, .f32⟩
  | .hbm, ⟨43, _⟩ => ⟨S_, .f32⟩
  | .hbm, ⟨44, _⟩ => ⟨S8x127, .f32⟩
  | .hbm, ⟨45, _⟩ => ⟨S8x640, .f32⟩
  | _, _ => ⟨S2x8x64x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== AttFwd.lean ====
abbrev S1x4096x8x64 : Shape := ⟨4, ![1, 4096, 8, 64]⟩
abbrev S1x8x513 : Shape := ⟨3, ![1, 8, 513]⟩
abbrev S4096x8x64 : Shape := ⟨3, ![4096, 8, 64]⟩
abbrev S4096x512 : Shape := ⟨2, ![4096, 512]⟩
abbrev S4096x1536 : Shape := ⟨2, ![4096, 1536]⟩
abbrev S640 : Shape := ⟨1, ![640]⟩
abbrev S8x513 : Shape := ⟨2, ![8, 513]⟩
abbrev S_ : Shape := ⟨0, ![]⟩
abbrev S640x1 : Shape := ⟨2, ![640, 1]⟩
abbrev S8x640 : Shape := ⟨2, ![8, 640]⟩
abbrev S1x8x1x640 : Shape := ⟨4, ![1, 8, 1, 640]⟩
abbrev S1x8x64x640 : Shape := ⟨4, ![1, 8, 64, 640]⟩
abbrev S8x40960 : Shape := ⟨2, ![8, 40960]⟩
abbrev S8x40896 : Shape := ⟨2, ![8, 40896]⟩
abbrev S8x64x639 : Shape := ⟨3, ![8, 64, 639]⟩
abbrev S8x64x576 : Shape := ⟨3, ![8, 64, 576]⟩
abbrev S8x64x640 : Shape := ⟨3, ![8, 64, 640]⟩
abbrev S8x128x640 : Shape := ⟨3, ![8, 128, 640]⟩
abbrev S4608x512 : Shape := ⟨2, ![4608, 512]⟩
abbrev S3 : Shape := ⟨1, ![3]⟩
abbrev S1 : Shape := ⟨1, ![1]⟩
abbrev S512x512 : Shape := ⟨2, ![512, 512]⟩
abbrev S1x640 : Shape := ⟨2, ![1, 640]⟩
abbrev S128x512 : Shape := ⟨2, ![128, 512]⟩
abbrev S640x512 : Shape := ⟨2, ![640, 512]⟩
abbrev S128x64 : Shape := ⟨2, ![128, 64]⟩
abbrev S640x64 : Shape := ⟨2, ![640, 64]⟩
abbrev S128x640 : Shape := ⟨2, ![128, 640]⟩
abbrev S1x128x640 : Shape := ⟨3, ![1, 128, 640]⟩
abbrev S1024x640 : Shape := ⟨2, ![1024, 640]⟩
abbrev S1024 : Shape := ⟨1, ![1024]⟩
abbrev S1024x1 : Shape := ⟨2, ![1024, 1]⟩
abbrev S128x1 : Shape := ⟨2, ![128, 1]⟩

abbrev nBuf : Space → Nat
  | .hbm => 51
  | .vmem => 5
  | .smem => 0
  | _ => 0

abbrev bufTy : (tb : Table) → Fin (tcTables nBuf tb) → BufTy
  | .hbm, ⟨0, _⟩ => ⟨S1x4096x8x64, .f32⟩
  | .hbm, ⟨1, _⟩ => ⟨S1x4096x8x64, .f32⟩
  | .hbm, ⟨2, _⟩ => ⟨S1x4096x8x64, .f32⟩
  | .hbm, ⟨3, _⟩ => ⟨S1x8x513, .f32⟩
  | .hbm, ⟨4, _⟩ => ⟨S4096x8x64, .f32⟩
  | .hbm, ⟨5, _⟩ => ⟨S4096x512, .f32⟩
  | .hbm, ⟨6, _⟩ => ⟨S4096x8x64, .f32⟩
  | .hbm, ⟨7, _⟩ => ⟨S4096x512, .f32⟩
  | .hbm, ⟨8, _⟩ => ⟨S4096x8x64, .f32⟩
  | .hbm, ⟨9, _⟩ => ⟨S4096x512, .f32⟩
  | .hbm, ⟨10, _⟩ => ⟨S4096x1536, .f32⟩
  | .hbm, ⟨11, _⟩ => ⟨S4096x1536, .bf16⟩
  | .hbm, ⟨12, _⟩ => ⟨S640, .i32⟩
  | .hbm, ⟨13, _⟩ => ⟨S8x513, .f32⟩
  | .hbm, ⟨14, _⟩ => ⟨S_, .i32⟩
  | .hbm, ⟨15, _⟩ => ⟨S640, .i32⟩
  | .hbm, ⟨16, _⟩ => ⟨S640, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S640, .i32⟩
  | .hbm, ⟨21, _⟩ => ⟨S640, .i32⟩
  | .hbm, ⟨22, _⟩ => ⟨S_, .i32⟩
  | .hbm, ⟨23, _⟩ => ⟨S640, .i32⟩
  | .hbm, ⟨24, _⟩ => ⟨S640, .i32⟩
  | .hbm, ⟨25, _⟩ => ⟨S_, .i32⟩
  | .hbm, ⟨26, _⟩ => ⟨S640, .i32⟩
  | .hbm, ⟨27, _⟩ => ⟨S640, .i32⟩
  | .hbm, ⟨28, _⟩ => ⟨S_, .i32⟩
  | .hbm, ⟨29, _⟩ => ⟨S640, .i32⟩
  | .hbm, ⟨30, _⟩ => ⟨S640, .i1⟩
  | .hbm, ⟨31, _⟩ => ⟨S_, .i32⟩
  | .hbm, ⟨32, _⟩ => ⟨S640, .i32⟩
  | .hbm, ⟨33, _⟩ => ⟨S640, .i32⟩
  | .hbm, ⟨34, _⟩ => ⟨S640, .i32⟩
  | .hbm, ⟨35, _⟩ => ⟨S640x1, .i32⟩
  | .hbm, ⟨36, _⟩ => ⟨S8x640, .f32⟩
  | .hbm, ⟨37, _⟩ => ⟨S1x8x1x640, .f32⟩
  | .hbm, ⟨38, _⟩ => ⟨S1x8x64x640, .f32⟩
  | .hbm, ⟨39, _⟩ => ⟨S8x40960, .f32⟩
  | .hbm, ⟨40, _⟩ => ⟨S8x40896, .f32⟩
  | .hbm, ⟨41, _⟩ => ⟨S8x64x639, .f32⟩
  | .hbm, ⟨42, _⟩ => ⟨S8x64x576, .f32⟩
  | .hbm, ⟨43, _⟩ => ⟨S_, .f32⟩
  | .hbm, ⟨44, _⟩ => ⟨S_, .f32⟩
  | .hbm, ⟨45, _⟩ => ⟨S8x64x640, .f32⟩
  | .hbm, ⟨46, _⟩ => ⟨S_, .f32⟩
  | .hbm, ⟨47, _⟩ => ⟨S_, .f32⟩
  | .hbm, ⟨48, _⟩ => ⟨S8x64x640, .f32⟩
  | .hbm, ⟨49, _⟩ => ⟨S8x128x640, .f32⟩
  | .hbm, ⟨50, _⟩ => ⟨S4096x512, .bf16⟩
  | .local _ .vmem, ⟨0, _⟩ => ⟨S8x128x640, .f32⟩
  | .local _ .vmem, ⟨1, _⟩ => ⟨S4096x512, .bf16⟩
  | .local _ .vmem, ⟨2, _⟩ => ⟨S4096x512, .bf16⟩
  | .local _ .vmem, ⟨3, _⟩ => ⟨S4608x512, .bf16⟩
  | .local _ .vmem, ⟨4, _⟩ => ⟨S4608x512, .bf16⟩
  | _, _ => ⟨S1x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst : Ref sig .tc := ⟨.hbm, 43, rfl⟩
abbrev main_call1_v0 : Ref sig .tc := ⟨.hbm, 44, rfl⟩
abbrev main_v28 : Ref sig .tc := ⟨.hbm, 45, rfl⟩
abbrev main_cst_5 : Ref sig .tc := ⟨.hbm, 46, rfl⟩
abbrev main_call2_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_25 : BitVec 32 := 0#32
  let c4_i32 : BitVec 32 := 4#32
  let v30 : BitVec 32 := Scalar.addi c0_i32_25 c4_i32
  let c1_i32_26 : BitVec 32 := 1#32
  ⟨c0_i32_25, v30, c1_i32_26⟩
def k0_mult1 (k0_t1 : Fin k0_t1_loop.trips) : BitVec 32 :=
  let c0_i32_25 : BitVec 32 := 0#32
  let c1_i32_26 : BitVec 32 := 1#32
  let arg7 : BitVec 32 := Scf.iv c0_i32_25 c1_i32_26 k0_t1
  let c128_i32_33 : BitVec 32 := 128#32
  let v39 : BitVec 32 := Scalar.muli arg7 c128_i32_33
  v39
def k0_off1 (k0_t1 : Fin k0_t1_loop.trips) : Fin 2 → Nat :=
  let c0_i32_25 : BitVec 32 := 0#32
  let c1_i32_26 : BitVec 32 := 1#32
  let arg7 : BitVec 32 := Scf.iv c0_i32_25 c1_i32_26 k0_t1
  let c128_i32_33 : BitVec 32 := 128#32
  let v39 : BitVec 32 := Scalar.muli arg7 c128_i32_33
  let v40 : BitVec 32 := v39
  let v41 : Index := Scalar.indexCast v40
  let c0_34 : Index := 0#32
  ![v41.toNat, 0]
def k0_off2 (k0_t1 : Fin k0_t1_loop.trips) : Fin 2 → Nat :=
  let c0_i32_25 : BitVec 32 := 0#32
  let c1_i32_26 : BitVec 32 := 1#32
  let arg7 : BitVec 32 := Scf.iv c0_i32_25 c1_i32_26 k0_t1
  let c128_i32_33 : BitVec 32 := 128#32
  let v39 : BitVec 32 := Scalar.muli arg7 c128_i32_33
  let v40 : BitVec 32 := v39
  let v45 : Index := Scalar.indexCast v40
  let c0_36 : Index := 0#32
  ![v45.toNat, 0]
@[reducible] def k0_t2_loop : Scf.Loop 32 :=
  let c4_i32_28 : BitVec 32 := 4#32
  let c28_i32 : BitVec 32 := 28#32
  let v31 : BitVec 32 := Scalar.addi c4_i32_28 c28_i32
  let c1_i32_29 : BitVec 32 := 1#32
  ⟨c4_i32_28, v31, c1_i32_29⟩
def k0_mult2 (k0_t2 : Fin k0_t2_loop.trips) : BitVec 32 :=
  let c4_i32_28 : BitVec 32 := 4#32
  let c1_i32_29 : BitVec 32 := 1#32
  let arg7 : BitVec 32 := Scf.iv c4_i32_28 c1_i32_29 k0_t2
  let c128_i32 : BitVec 32 := 128#32
  let v32 : BitVec 32 := Scalar.muli arg7 c128_i32
  v32
def k0_off3 (k0_t2 : Fin k0_t2_loop.trips) : Fin 2 → Nat :=
  let c4_i32_28 : BitVec 32 := 4#32
  let c1_i32_29 : BitVec 32 := 1#32
  let arg7 : BitVec 32 := Scf.iv c4_i32_28 c1_i32_29 k0_t2
  let c128_i32 : BitVec 32 := 128#32
  let v32 : BitVec 32 := Scalar.muli arg7 c128_i32
  let v33 : BitVec 32 := v32
  let v34 : Index := Scalar.indexCast v33
  let c0_31 : Index := 0#32
  ![v34.toNat, 0]
def k0_off4 (k0_t2 : Fin k0_t2_loop.trips) : Fin 2 → Nat :=
  let c4_i32_28 : BitVec 32 := 4#32
  let c1_i32_29 : BitVec 32 := 1#32
  let arg7 : BitVec 32 := Scf.iv c4_i32_28 c1_i32_29 k0_t2
  let c128_i32 : BitVec 32 := 128#32
  let v32 : BitVec 32 := Scalar.muli arg7 c128_i32
  let v33 : BitVec 32 := v32
  let v38 : Index := Scalar.indexCast v33
  let c0_33 : Index := 0#32
  ![v38.toNat, 0]
abbrev stage0_0 : Fin 1 → Memref sig .tc .vmem S8x128x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== AttFwdIdeal.lean ====
variable {F : FTy → Type} [FloatOps F] [Named F]
def κ : String → Option EReal := fun
  | "mask" => some ⊥
  | _ => none
-- ==== AttFwdRefIdeal.lean ====
abbrev S1x4096x8x64 : Shape := ⟨4, ![1, 4096, 8, 64]⟩
abbrev S1x8x513 : Shape := ⟨3, ![1, 8, 513]⟩
abbrev S8x513 : Shape := ⟨2, ![8, 513]⟩
abbrev S64 : Shape := ⟨1, ![64]⟩
abbrev S64x1 : Shape := ⟨2, ![64, 1]⟩
abbrev S576 : Shape := ⟨1, ![576]⟩
abbrev S1x576 : Shape := ⟨2, ![1, 576]⟩
abbrev S_ : Shape := ⟨0, ![]⟩
abbrev S64x576 : Shape := ⟨2, ![64, 576]⟩
abbrev S64x576x1 : Shape := ⟨3, ![64, 576, 1]⟩
abbrev S8x64x576 : Shape := ⟨3, ![8, 64, 576]⟩
abbrev S1x8x64x576 : Shape := ⟨4, ![1, 8, 64, 576]⟩
abbrev S2x8x64x576 : Shape := ⟨4, ![2, 8, 64, 576]⟩
abbrev S1x64x64x8x64 : Shape := ⟨5, ![1, 64, 64, 8, 64]⟩
abbrev S1x512x8x64 : Shape := ⟨4, ![1, 512, 8, 64]⟩
abbrev S1x4608x8x64 : Shape := ⟨4, ![1, 4608, 8, 64]⟩
abbrev S1x72x64x8x64 : Shape := ⟨5, ![1, 72, 64, 8, 64]⟩
abbrev S1x64x576x8x64 : Shape := ⟨5, ![1, 64, 576, 8, 64]⟩
abbrev S1x64x8x64x576 : Shape := ⟨5, ![1, 64, 8, 64, 576]⟩
abbrev S1x32x2x8x64x576 : Shape := ⟨6, ![1, 32, 2, 8, 64, 576]⟩
abbrev S1x1x2x8x64x576 : Shape := ⟨6, ![1, 1, 2, 8, 64, 576]⟩
abbrev S1x64x1x1x576 : Shape := ⟨5, ![1, 64, 1, 1, 576]⟩
abbrev S1x64x8x64 : Shape := ⟨4, ![1, 64, 8, 64]⟩
abbrev S1x64x8x64x1 : Shape := ⟨5, ![1, 64, 8, 64, 1]⟩
abbrev S1x64x8x64x64 : Shape := ⟨5, ![1, 64, 8, 64, 64]⟩
abbrev S1x4096x512 : Shape := ⟨3, ![1, 4096, 512]⟩
abbrev S4096x512 : Shape := ⟨2, ![4096, 512]⟩

abbrev nBuf : Space → Nat
  | .hbm => 115
  | .vmem => 0
  | .smem => 0
  | _ => 0

abbrev bufTy : (tb : Table) → Fin (tcTables nBuf tb) → BufTy
  | .hbm, ⟨0, _⟩ => ⟨S1x4096x8x64, .f32⟩
  | .hbm, ⟨1, _⟩ => ⟨S1x4096x8x64, .f32⟩
  | .hbm, ⟨2, _⟩ => ⟨S1x4096x8x64, .f32⟩
  | .hbm, ⟨3, _⟩ => ⟨S1x8x513, .f32⟩
  | .hbm, ⟨4, _⟩ => ⟨S8x513, .f32⟩
  | .hbm, ⟨5, _⟩ => ⟨S64, .i32⟩
  | .hbm, ⟨6, _⟩ => ⟨S64x1, .i32⟩
  | .hbm, ⟨7, _⟩ => ⟨S576, .i32⟩
  | .hbm, ⟨8, _⟩ => ⟨S1x576, .i32⟩
  | .hbm, ⟨9, _⟩ => ⟨S_, .i32⟩
  | .hbm, ⟨10, _⟩ => ⟨S64x1, .i32⟩
  | .hbm, ⟨11, _⟩ => ⟨S64x1, .i32⟩
  | .hbm, ⟨12, _⟩ => ⟨S64x576, .i32⟩
  | .hbm, ⟨13, _⟩ => ⟨S64x576, .i32⟩
  | .hbm, ⟨14, _⟩ => ⟨S64x576, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S64x576, .i32⟩
  | .hbm, ⟨19, _⟩ => ⟨S64x576, .i32⟩
  | .hbm, ⟨20, _⟩ => ⟨S_, .i32⟩
  | .hbm, ⟨21, _⟩ => ⟨S64x576, .i32⟩
  | .hbm, ⟨22, _⟩ => ⟨S64x576, .i32⟩
  | .hbm, ⟨23, _⟩ => ⟨S_, .i32⟩
  | .hbm, ⟨24, _⟩ => ⟨S64x576, .i32⟩
  | .hbm, ⟨25, _⟩ => ⟨S64x576, .i32⟩
  | .hbm, ⟨26, _⟩ => ⟨S_, .i32⟩
  | .hbm, ⟨27, _⟩ => ⟨S64x576, .i32⟩
  | .hbm, ⟨28, _⟩ => ⟨S64x576, .i1⟩
  | .hbm, ⟨29, _⟩ => ⟨S_, .i32⟩
  | .hbm, ⟨30, _⟩ => ⟨S64x576, .i32⟩
  | .hbm, ⟨31, _⟩ => ⟨S64x576, .i32⟩
  | .hbm, ⟨32, _⟩ => ⟨S64x576, .i32⟩
  | .hbm, ⟨33, _⟩ => ⟨S64x576x1, .i32⟩
  | .hbm, ⟨34, _⟩ => ⟨S8x64x576, .f32⟩
  | .hbm, ⟨35, _⟩ => ⟨S1x8x64x576, .f32⟩
  | .hbm, ⟨36, _⟩ => ⟨S1x8x64x576, .f32⟩
  | .hbm, ⟨37, _⟩ => ⟨S2x8x64x576, .f32⟩
  | .hbm, ⟨38, _⟩ => ⟨S1x64x64x8x64, .f32⟩
  | .hbm, ⟨39, _⟩ => ⟨S_, .f32⟩
  | .hbm, ⟨40, _⟩ => ⟨S1x512x8x64, .f32⟩
  | .hbm, ⟨41, _⟩ => ⟨S1x4608x8x64, .f32⟩
  | .hbm, ⟨42, _⟩ => ⟨S1x72x64x8x64, .f32⟩
  | .hbm, ⟨43, _⟩ => ⟨S1x4608x8x64, .f32⟩
  | .hbm, ⟨44, _⟩ => ⟨S1x72x64x8x64, .f32⟩
  | .hbm, ⟨45, _⟩ => ⟨S1x64x64x8x64, .f32⟩
  | .hbm, ⟨46, _⟩ => ⟨S1x64x64x8x64, .f32⟩
  | .hbm, ⟨47, _⟩ => ⟨S1x64x64x8x64, .f32⟩
  | .hbm, ⟨48, _⟩ => ⟨S1x64x64x8x64, .f32⟩
  | .hbm, ⟨49, _⟩ => ⟨S1x64x64x8x64, .f32⟩
  | .hbm, ⟨50, _⟩ => ⟨S1x64x64x8x64, .f32⟩
  | .hbm, ⟨51, _⟩ => ⟨S1x64x64x8x64, .f32⟩
  | .hbm, ⟨52, _⟩ => ⟨S1x64x64x8x64, .f32⟩
  | .hbm, ⟨53, _⟩ => ⟨S1x64x64x8x64, .f32⟩
  | .hbm, ⟨54, _⟩ => ⟨S1x64x576x8x64, .f32⟩
  | .hbm, ⟨55, _⟩ => ⟨S1x64x64x8x64, .f32⟩
  | .hbm, ⟨56, _⟩ => ⟨S1x64x64x8x64, .f32⟩
  | .hbm, ⟨57, _⟩ => ⟨S1x64x64x8x64, .f32⟩
  | .hbm, ⟨58, _⟩ => ⟨S1x64x64x8x64, .f32⟩
  | .hbm, ⟨59, _⟩ => ⟨S1x64x64x8x64, .f32⟩
  | .hbm, ⟨60, _⟩ => ⟨S1x64x64x8x64, .f32⟩
  | .hbm, ⟨61, _⟩ => ⟨S1x64x64x8x64, .f32⟩
  | .hbm, ⟨62, _⟩ => ⟨S1x64x64x8x64, .f32⟩
  | .hbm, ⟨63, _⟩ => ⟨S1x64x64x8x64, .f32⟩
  | .hbm, ⟨64, _⟩ => ⟨S1x64x576x8x64, .f32⟩
  | .hbm, ⟨65, _⟩ => ⟨S1x64x8x64x576, .f32⟩
  | .hbm, ⟨66, _⟩ => ⟨S_, .f32⟩
  | .hbm, ⟨67, _⟩ => ⟨S1x64x8x64x576, .f32⟩
  | .hbm, ⟨68, _⟩ => ⟨S1x64x8x64x576, .f32⟩
  | .hbm, ⟨69, _⟩ => ⟨S64, .i32⟩
  | .hbm, ⟨70, _⟩ => ⟨S64x1, .i32⟩
  | .hbm, ⟨71, _⟩ => ⟨S_, .i32⟩
  | .hbm, ⟨72, _⟩ => ⟨S64x1, .i32⟩
  | .hbm, ⟨73, _⟩ => ⟨S64x1, .i32⟩
  | .hbm, ⟨74, _⟩ => ⟨S576, .i32⟩
  | .hbm, ⟨75, _⟩ => ⟨S1x576, .i32⟩
  | .hbm, ⟨76, _⟩ => ⟨S64x576, .i32⟩
  | .hbm, ⟨77, _⟩ => ⟨S64x576, .i32⟩
  | .hbm, ⟨78, _⟩ => ⟨S64x576, .i32⟩
  | .hbm, ⟨79, _⟩ => ⟨S_, .i32⟩
  | .hbm, ⟨80, _⟩ => ⟨S64x576, .i32⟩
  | .hbm, ⟨81, _⟩ => ⟨S64x576, .i32⟩
  | .hbm, ⟨82, _⟩ => ⟨S_, .i32⟩
  | .hbm, ⟨83, _⟩ => ⟨S64x576, .i32⟩
  | .hbm, ⟨84, _⟩ => ⟨S64x576, .i1⟩
  | .hbm, ⟨85, _⟩ => ⟨S1x32x2x8x64x576, .f32⟩
  | .hbm, ⟨86, _⟩ => ⟨S1x1x2x8x64x576, .f32⟩
  | .hbm, ⟨87, _⟩ => ⟨S1x32x2x8x64x576, .f32⟩
  | .hbm, ⟨88, _⟩ => ⟨S1x32x2x8x64x576, .f32⟩
  | .hbm, ⟨89, _⟩ => ⟨S1x64x8x64x576, .f32⟩
  | .hbm, ⟨90, _⟩ => ⟨S1x64x1x1x576, .i1⟩
  | .hbm, ⟨91, _⟩ => ⟨S_, .f32⟩
  | .hbm, ⟨92, _⟩ => ⟨S_, .f32⟩
  | .hbm, ⟨93, _⟩ => ⟨S1x64x8x64x576, .i1⟩
  | .hbm, ⟨94, _⟩ => ⟨S1x64x8x64x576, .f32⟩
  | .hbm, ⟨95, _⟩ => ⟨S1x64x8x64x576, .f32⟩
  | .hbm, ⟨96, _⟩ => ⟨S_, .f32⟩
  | .hbm, ⟨97, _⟩ => ⟨S1x64x8x64, .f32⟩
  | .hbm, ⟨98, _⟩ => ⟨S_, .f32⟩
  | .hbm, ⟨99, _⟩ => ⟨S1x64x8x64, .f32⟩
  | .hbm, ⟨100, _⟩ => ⟨S1x64x8x64, .f32⟩
  | .hbm, ⟨101, _⟩ => ⟨S1x64x8x64x1, .f32⟩
  | .hbm, ⟨102, _⟩ => ⟨S1x64x8x64x576, .f32⟩
  | .hbm, ⟨103, _⟩ => ⟨S1x64x8x64x576, .f32⟩
  | .hbm, ⟨104, _⟩ => ⟨S1x64x8x64x576, .f32⟩
  | .hbm, ⟨105, _⟩ => ⟨S_, .f32⟩
  | .hbm, ⟨106, _⟩ => ⟨S1x64x8x64, .f32⟩
  | .hbm, ⟨107, _⟩ => ⟨S1x64x8x64x1, .f32⟩
  | .hbm, ⟨108, _⟩ => ⟨S1x64x8x64x576, .f32⟩
  | .hbm, ⟨109, _⟩ => ⟨S1x64x8x64x576, .f32⟩
  | .hbm, ⟨110, _⟩ => ⟨S1x64x8x64x64, .f32⟩
  | .hbm, ⟨111, _⟩ => ⟨S1x64x64x8x64, .f32⟩
  | .hbm, ⟨112, _⟩ => ⟨S1x4096x512, .f32⟩
  | .hbm, ⟨113, _⟩ => ⟨S4096x512, .f32⟩
  | .hbm, ⟨114, _⟩ => ⟨S4096x512, .bf16⟩
  | _, _ => ⟨S1x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_6 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_7 : Ref sig .tc := ⟨.hbm, 79, rfl⟩
abbrev main_v61 : Ref sig .tc := ⟨.hbm, 80, rfl⟩
abbrev main_v62 : Ref sig .tc := ⟨.hbm, 81, rfl⟩
abbrev main_c_8 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_9 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v71 : Ref sig .tc := ⟨.hbm, 95, rfl⟩
abbrev main_cst_10 : Ref sig .tc := ⟨.hbm, 96, rfl⟩
abbrev main_v72 : Ref sig .tc := ⟨.hbm, 97, rfl⟩
abbrev main_cst_11 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_12 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩

abbrev nD : Nat := 1
abbrev τ : Topo := Topo.v7x

variable {F : FTy → Type} [FloatOps F]
-- ==== InFwd.lean ====
abbrev S1x4096x1024 : Shape := ⟨3, ![1, 4096, 1024]⟩
abbrev S1x1024 : Shape := ⟨2, ![1, 1024]⟩
abbrev S1x1024x4608 : Shape := ⟨3, ![1, 1024, 4608]⟩
abbrev S1x512 : Shape := ⟨2, ![1, 512]⟩
abbrev S1x8x128x128 : Shape := ⟨4, ![1, 8, 128, 128]⟩
abbrev S1x8x128 : Shape := ⟨3, ![1, 8, 128]⟩
abbrev S1024x4608 : Shape := ⟨2, ![1024, 4608]⟩
abbrev S1024x4x1152 : Shape := ⟨3, ![1024, 4, 1152]⟩
abbrev S4x1024x1152 : Shape := ⟨3, ![4, 1024, 1152]⟩
abbrev S4096x1024 : Shape := ⟨2, ![4096, 1024]⟩
abbrev S8x128x128 : Shape := ⟨3, ![8, 128, 128]⟩
abbrev S8x128 : Shape := ⟨2, ![8, 128]⟩
abbrev S128x8 : Shape := ⟨2, ![128, 8]⟩
abbrev S4096x1536 : Shape := ⟨2, ![4096, 1536]⟩
abbrev S4096x2048 : Shape := ⟨2, ![4096, 2048]⟩
abbrev S4096x512 : Shape := ⟨2, ![4096, 512]⟩
abbrev S256x1024 : Shape := ⟨2, ![256, 1024]⟩
abbrev S256x1536 : Shape := ⟨2, ![256, 1536]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S1x1024x1152 : Shape := ⟨3, ![1, 1024, 1152]⟩
abbrev S1024x1152 : Shape := ⟨2, ![1024, 1152]⟩
abbrev S256x1152 : Shape := ⟨2, ![256, 1152]⟩
abbrev S256x384 : Shape := ⟨2, ![256, 384]⟩
abbrev S256x768 : Shape := ⟨2, ![256, 768]⟩
abbrev S256x256 : Shape := ⟨2, ![256, 256]⟩
abbrev S256x896 : Shape := ⟨2, ![256, 896]⟩
abbrev S8x512 : Shape := ⟨2, ![8, 512]⟩
abbrev S128x512 : Shape := ⟨2, ![128, 512]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 20
  | .vmem => 18
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x4608, .f32⟩
  | .hbm, ⟨3, _⟩ => ⟨S1x512, .f32⟩
  | .hbm, ⟨4, _⟩ => ⟨S1x512, .f32⟩
  | .hbm, ⟨5, _⟩ => ⟨S1x8x128x128, .f32⟩
  | .hbm, ⟨6, _⟩ => ⟨S1x8x128, .f32⟩
  | .hbm, ⟨7, _⟩ => ⟨S1024x4608, .f32⟩
  | .hbm, ⟨8, _⟩ => ⟨S1024x4x1152, .f32⟩
  | .hbm, ⟨9, _⟩ => ⟨S4x1024x1152, .f32⟩
  | .hbm, ⟨10, _⟩ => ⟨S4x1024x1152, .bf16⟩
  | .hbm, ⟨11, _⟩ => ⟨S4096x1024, .f32⟩
  | .hbm, ⟨12, _⟩ => ⟨S8x128x128, .f32⟩
  | .hbm, ⟨13, _⟩ => ⟨S8x128, .f32⟩
  | .hbm, ⟨14, _⟩ => ⟨S128x8, .f32⟩
  | .hbm, ⟨15, _⟩ => ⟨S4096x1024, .bf16⟩
  | .hbm, ⟨16, _⟩ => ⟨S4096x1536, .bf16⟩
  | .hbm, ⟨17, _⟩ => ⟨S4096x1024, .f32⟩
  | .hbm, ⟨18, _⟩ => ⟨S4096x2048, .f32⟩
  | .hbm, ⟨19, _⟩ => ⟨S4096x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1152, .bf16⟩
  | .local _ .vmem, ⟨4, _⟩ => ⟨S1x512, .f32⟩
  | .local _ .vmem, ⟨5, _⟩ => ⟨S1x512, .f32⟩
  | .local _ .vmem, ⟨6, _⟩ => ⟨S8x128x128, .f32⟩
  | .local _ .vmem, ⟨7, _⟩ => ⟨S128x8, .f32⟩
  | .local _ .vmem, ⟨8, _⟩ => ⟨S256x1024, .bf16⟩
  | .local _ .vmem, ⟨9, _⟩ => ⟨S256x1024, .bf16⟩
  | .local _ .vmem, ⟨10, _⟩ => ⟨S256x1536, .bf16⟩
  | .local _ .vmem, ⟨11, _⟩ => ⟨S256x1536, .bf16⟩
  | .local _ .vmem, ⟨12, _⟩ => ⟨S256x1024, .f32⟩
  | .local _ .vmem, ⟨13, _⟩ => ⟨S256x1024, .f32⟩
  | .local _ .vmem, ⟨14, _⟩ => ⟨S256x2048, .f32⟩
  | .local _ .vmem, ⟨15, _⟩ => ⟨S256x2048, .f32⟩
  | .local _ .vmem, ⟨16, _⟩ => ⟨S256x512, .bf16⟩
  | .local _ .vmem, ⟨17, _⟩ => ⟨S256x512, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InFwdRefIdeal.lean ====
abbrev S1x4096x1024 : Shape := ⟨3, ![1, 4096, 1024]⟩
abbrev S1x1024 : Shape := ⟨2, ![1, 1024]⟩
abbrev S1x1024x4608 : Shape := ⟨3, ![1, 1024, 4608]⟩
abbrev S1x512 : Shape := ⟨2, ![1, 512]⟩
abbrev S1x8x128x128 : Shape := ⟨4, ![1, 8, 128, 128]⟩
abbrev S1x8x128 : Shape := ⟨3, ![1, 8, 128]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x4608 : Shape := ⟨2, ![1024, 4608]⟩
abbrev S1x4096x4608 : Shape := ⟨3, ![1, 4096, 4608]⟩
abbrev S512 : Shape := ⟨1, ![512]⟩
abbrev S8x128x128 : Shape := ⟨3, ![8, 128, 128]⟩
abbrev S8x128 : Shape := ⟨2, ![8, 128]⟩
abbrev S1x4096x512 : Shape := ⟨3, ![1, 4096, 512]⟩
abbrev S1x1x512 : Shape := ⟨3, ![1, 1, 512]⟩
abbrev S1x32x128x8x64 : Shape := ⟨5, ![1, 32, 128, 8, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x32x64x128 : Shape := ⟨5, ![8, 1, 32, 64, 128]⟩
abbrev S128x8 : Shape := ⟨2, ![128, 8]⟩
abbrev S1x1x128x8x1 : Shape := ⟨5, ![1, 1, 128, 8, 1]⟩
abbrev S4096x1024 : Shape := ⟨2, ![4096, 1024]⟩
abbrev S1x4096x1536 : Shape := ⟨3, ![1, 4096, 1536]⟩
abbrev S4096x1536 : Shape := ⟨2, ![4096, 1536]⟩
abbrev S1x4096x2048 : Shape := ⟨3, ![1, 4096, 2048]⟩
abbrev S4096x2048 : Shape := ⟨2, ![4096, 2048]⟩
abbrev S4096x512 : Shape := ⟨2, ![4096, 512]⟩

abbrev nBuf : Space → Nat
  | .hbm => 146
  | .vmem => 0
  | .smem => 0
  | _ => 0

abbrev hbmTy0_0 (i : Nat) : BufTy := match i % 128 with
  | 0 => ⟨S1x4096x1024, .f32⟩
  | 1 => ⟨S1x1024, .f32⟩
  | 2 => ⟨S1x1024x4608, .f32⟩
  | 3 => ⟨S1x512, .f32⟩
  | 4 => ⟨S1x512, .f32⟩
  | 5 => ⟨S1x8x128x128, .f32⟩
  | 6 => ⟨S1x8x128, .f32⟩
  | 7 => ⟨S1024, .f32⟩
  | 8 => ⟨S1x4096x1024, .f32⟩
  | 9 => ⟨S_, .f32⟩
  | 10 => ⟨S1x4096, .f32⟩
  | 11 => ⟨S1x4096x1, .f32⟩
  | 12 => ⟨S_, .f32⟩
  | 13 => ⟨S1x4096x1, .f32⟩
  | 14 => ⟨S1x4096x1, .f32⟩
  | 15 => ⟨S_, .f32⟩
  | 16 => ⟨S1x4096x1, .f32⟩
  | 17 => ⟨S1x4096x1, .f32⟩
  | 18 => ⟨S1x4096x1, .f32⟩
  | 19 => ⟨S1x4096x1024, .f32⟩
  | 20 => ⟨S1x4096x1024, .f32⟩
  | 21 => ⟨S1x1x1024, .f32⟩
  | 22 => ⟨S1x4096x1024, .f32⟩
  | 23 => ⟨S1x4096x1024, .f32⟩
  | 24 => ⟨S1024x4608, .f32⟩
  | 25 => ⟨S1x4096x4608, .f32⟩
  | 26 => ⟨S1x4096x1024, .f32⟩
  | 27 => ⟨S1x4096x1024, .f32⟩
  | 28 => ⟨S1x4096x1024, .f32⟩
  | 29 => ⟨S_, .f32⟩
  | 30 => ⟨S1x4096x1024, .f32⟩
  | 31 => ⟨S1x4096x1024, .f32⟩
  | 32 => ⟨S1x4096x1024, .f32⟩
  | 33 => ⟨S_, .f32⟩
  | 34 => ⟨S1x4096x1024, .f32⟩
  | 35 => ⟨S1x4096x1024, .f32⟩
  | 36 => ⟨S1x4096x1024, .f32⟩
  | 37 => ⟨S_, .f32⟩
  | 38 => ⟨S1x4096x1024, .f32⟩
  | 39 => ⟨S1x4096x1024, .f32⟩
  | 40 => ⟨S_, .f32⟩
  | 41 => ⟨S1x4096x1024, .f32⟩
  | 42 => ⟨S1x4096x1024, .f32⟩
  | 43 => ⟨S1x4096x1024, .f32⟩
  | 44 => ⟨S512, .f32⟩
  | 45 => ⟨S512, .f32⟩
  | 46 => ⟨S8x128x128, .f32⟩
  | 47 => ⟨S8x128, .f32⟩
  | 48 => ⟨S1x4096x512, .f32⟩
  | 49 => ⟨S1x4096x512, .f32⟩
  | 50 => ⟨S_, .f32⟩
  | 51 => ⟨S1x4096, .f32⟩
  | 52 => ⟨S1x4096x1, .f32⟩
  | 53 => ⟨S_, .f32⟩
  | 54 => ⟨S1x4096x1, .f32⟩
  | 55 => ⟨S1x4096x1, .f32⟩
  | 56 => ⟨S1x4096x512, .f32⟩
  | 57 => ⟨S1x4096x512, .f32⟩
  | 58 => ⟨S1x4096x512, .f32⟩
  | 59 => ⟨S_, .f32⟩
  | 60 => ⟨S1x4096, .f32⟩
  | 61 => ⟨S1x4096x1, .f32⟩
  | 62 => ⟨S_, .f32⟩
  | 63 => ⟨S1x4096x1, .f32⟩
  | 64 => ⟨S1x4096x1, .f32⟩
  | 65 => ⟨S1x4096x512, .f32⟩
  | 66 => ⟨S1x4096x512, .f32⟩
  | 67 => ⟨S_, .f32⟩
  | 68 => ⟨S1x4096x1, .f32⟩
  | 69 => ⟨S1x4096x1, .f32⟩
  | 70 => ⟨S1x4096x1, .f32⟩
  | 71 => ⟨S1x4096x512, .f32⟩
  | 72 => ⟨S1x4096x512, .f32⟩
  | 73 => ⟨S1x1x512, .f32⟩
  | 74 => ⟨S1x4096x512, .f32⟩
  | 75 => ⟨S1x4096x512, .f32⟩
  | 76 => ⟨S1x1x512, .f32⟩
  | 77 => ⟨S1x4096x512, .f32⟩
  | 78 => ⟨S1x4096x512, .f32⟩
  | 79 => ⟨S1x32x128x8x64, .f32⟩
  | 80 => ⟨S128, .i32⟩
  | 81 => ⟨S128x1, .i32⟩
  | 82 => ⟨S_, .i32⟩
  | 83 => ⟨S_, .i32⟩
  | 84 => ⟨S128x1, .i32⟩
  | 85 => ⟨S128x1, .i32⟩
  | 86 => ⟨S128x1, .i32⟩
  | 87 => ⟨S_, .i32⟩
  | 88 => ⟨S128x1, .i32⟩
  | 89 => ⟨S128x1, .i1⟩
  | 90 => ⟨S128x1, .i32⟩
  | 91 => ⟨S128x1, .i32⟩
  | 92 => ⟨S_, .i32⟩
  | 93 => ⟨S128x1, .i32⟩
  | 94 => ⟨S128x1, .i1⟩
  | 95 => ⟨S128x1, .i1⟩
  | 96 => ⟨S_, .i32⟩
  | 97 => ⟨S128x1, .i32⟩
  | 98 => ⟨S128x1, .i32⟩
  | 99 => ⟨S128x1, .i32⟩
  | 100 => ⟨S1x128, .i32⟩
  | 101 => ⟨S_, .i32⟩
  | 102 => ⟨S_, .i32⟩
  | 103 => ⟨S1x128, .i32⟩
  | 104 => ⟨S1x128, .i32⟩
  | 105 => ⟨S1x128, .i32⟩
  | 106 => ⟨S_, .i32⟩
  | 107 => ⟨S1x128, .i32⟩
  | 108 => ⟨S1x128, .i1⟩
  | 109 => ⟨S1x128, .i32⟩
  | 110 => ⟨S1x128, .i32⟩
  | 111 => ⟨S_, .i32⟩
  | 112 => ⟨S1x128, .i32⟩
  | 113 => ⟨S1x128, .i1⟩
  | 114 => ⟨S1x128, .i1⟩
  | 115 => ⟨S_, .i32⟩
  | 116 => ⟨S1x128, .i32⟩
  | 117 => ⟨S1x128, .i32⟩
  | 118 => ⟨S1x128, .i32⟩
  | 119 => ⟨S128x128, .i32⟩
  | 120 => ⟨S128x128, .i32⟩
  | 121 => ⟨S128x128, .i1⟩
  | 122 => ⟨S1x128x128, .i1⟩
  | 123 => ⟨S_, .f32⟩
  | 124 => ⟨S8x128x128, .f32⟩
  | 125 => ⟨S8x128x128, .i1⟩
  | 126 => ⟨S8x128x128, .f32⟩
  | 127 => ⟨S8x1x32x64x128, .f32⟩
  | _ => ⟨S1x4096x1024, .f32⟩

abbrev hbmTy0_1 (i : Nat) : BufTy := match i % 128 with
  | 0 => ⟨S1x32x128x8x64, .f32⟩
  | 1 => ⟨S128x8, .f32⟩
  | 2 => ⟨S1x1x128x8x1, .f32⟩
  | 3 => ⟨S1x32x128x8x64, .f32⟩
  | 4 => ⟨S1x32x128x8x64, .f32⟩
  | 5 => ⟨S1x4096x512, .f32⟩
  | 6 => ⟨S1x4096x512, .f32⟩
  | 7 => ⟨S4096x1024, .f32⟩
  | 8 => ⟨S4096x1024, .bf16⟩
  | 9 => ⟨S1x4096x1536, .f32⟩
  | 10 => ⟨S4096x1536, .f32⟩
  | 11 => ⟨S4096x1536, .bf16⟩
  | 12 => ⟨S1x4096x1024, .f32⟩
  | 13 => ⟨S4096x1024, .f32⟩
  | 14 => ⟨S1x4096x2048, .f32⟩
  | 15 => ⟨S4096x2048, .f32⟩
  | 16 => ⟨S4096x512, .f32⟩
  | 17 => ⟨S4096x512, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_c : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_v8 : Ref sig .tc := ⟨.hbm, 91, rfl⟩
abbrev main_call0_c : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_c_0 : Ref sig .tc := ⟨.hbm, 96, rfl⟩
abbrev main_call0_v12 : Ref sig .tc := ⟨.hbm, 97, rfl⟩
abbrev main_call0_v13 : Ref sig .tc := ⟨.hbm, 98, rfl⟩
abbrev main_v63 : Ref sig .tc := ⟨.hbm, 99, rfl⟩
abbrev main_v64 : Ref sig .tc := ⟨.hbm, 100, rfl⟩
abbrev main_c_11 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_v6 : Ref sig .tc := ⟨.hbm, 108, rfl⟩
abbrev main_call1_v7 : Ref sig .tc := ⟨.hbm, 109, rfl⟩
abbrev main_call1_v8 : Ref sig .tc := ⟨.hbm, 110, rfl⟩
abbrev main_call1_c : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_call1_c_0 : Ref sig .tc := ⟨.hbm, 115, rfl⟩
abbrev main_call1_v12 : Ref sig .tc := ⟨.hbm, 116, rfl⟩
abbrev main_call1_v13 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_cst_12 : Ref sig .tc := ⟨.hbm, 123, rfl⟩
abbrev main_v70 : Ref sig .tc := ⟨.hbm, 124, rfl⟩
abbrev main_call2_v0 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩

abbrev nD : Nat := 1
abbrev τ : Topo := Topo.v7x

variable {F : FTy → Type} [FloatOps F]
-- ==== MergeFwd.lean ====
abbrev S1x4096x1024 : Shape := ⟨3, ![1, 4096, 1024]⟩
abbrev S1x4096x512 : Shape := ⟨3, ![1, 4096, 512]⟩
abbrev S1x4096x2048 : Shape := ⟨3, ![1, 4096, 2048]⟩
abbrev S1x2048 : Shape := ⟨2, ![1, 2048]⟩
abbrev S1x512x1024 : Shape := ⟨3, ![1, 512, 1024]⟩
abbrev S1x1024x1024 : Shape := ⟨3, ![1, 1024, 1024]⟩
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S512x4x256 : Shape := ⟨3, ![512, 4, 256]⟩
abbrev S4x512x256 : Shape := ⟨3, ![4, 512, 256]⟩
abbrev S1024x1024 : Shape := ⟨2, ![1024, 1024]⟩
abbrev S4x256x1024 : Shape := ⟨3, ![4, 256, 1024]⟩
abbrev S256x1024 : Shape := ⟨2, ![256, 1024]⟩
abbrev S256x512 : Shape := ⟨2, ![256, 512]⟩
abbrev S256x2048 : Shape := ⟨2, ![256, 2048]⟩
abbrev S1x512x256 : Shape := ⟨3, ![1, 512, 256]⟩
abbrev S512x256 : Shape := ⟨2, ![512, 256]⟩
abbrev S256x256 : Shape := ⟨2, ![256, 256]⟩
abbrev S1x256x1024 : Shape := ⟨3, ![1, 256, 1024]⟩

abbrev nBuf : Space → Nat
  | .hbm => 29
  | .vmem => 20
  | .smem => 0
  | _ => 0

abbrev bufTy : (tb : Table) → Fin (tcTables nBuf tb) → BufTy
  | .hbm, ⟨0, _⟩ => ⟨S1x4096x1024, .f32⟩
  | .hbm, ⟨1, _⟩ => ⟨S1x4096x512, .f32⟩
  | .hbm, ⟨2, _⟩ => ⟨S1x4096x512, .f32⟩
  | .hbm, ⟨3, _⟩ => ⟨S1x4096x2048, .f32⟩
  | .hbm, ⟨4, _⟩ => ⟨S1x2048, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S4096x1024, .f32⟩
  | .hbm, ⟨9, _⟩ => ⟨S4096x512, .f32⟩
  | .hbm, ⟨10, _⟩ => ⟨S4096x512, .bf16⟩
  | .hbm, ⟨11, _⟩ => ⟨S4096x512, .f32⟩
  | .hbm, ⟨12, _⟩ => ⟨S4096x512, .bf16⟩
  | .hbm, ⟨13, _⟩ => ⟨S4096x2048, .f32⟩
  | .hbm, ⟨14, _⟩ => ⟨S512x1024, .f32⟩
  | .hbm, ⟨15, _⟩ => ⟨S512x4x256, .f32⟩
  | .hbm, ⟨16, _⟩ => ⟨S4x512x256, .f32⟩
  | .hbm, ⟨17, _⟩ => ⟨S4x512x256, .bf16⟩
  | .hbm, ⟨18, _⟩ => ⟨S512x1024, .f32⟩
  | .hbm, ⟨19, _⟩ => ⟨S512x4x256, .f32⟩
  | .hbm, ⟨20, _⟩ => ⟨S4x512x256, .f32⟩
  | .hbm, ⟨21, _⟩ => ⟨S4x512x256, .bf16⟩
  | .hbm, ⟨22, _⟩ => ⟨S1024x1024, .f32⟩
  | .hbm, ⟨23, _⟩ => ⟨S4x256x1024, .f32⟩
  | .hbm, ⟨24, _⟩ => ⟨S4x256x1024, .bf16⟩
  | .hbm, ⟨25, _⟩ => ⟨S4096x1024, .f32⟩
  | .hbm, ⟨26, _⟩ => ⟨S4096x1024, .bf16⟩
  | .hbm, ⟨27, _⟩ => ⟨S4096x1024, .bf16⟩
  | .hbm, ⟨28, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S4x512x256, .bf16⟩
  | .local _ .vmem, ⟨10, _⟩ => ⟨S4x512x256, .bf16⟩
  | .local _ .vmem, ⟨11, _⟩ => ⟨S4x256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeFwdRefIdeal.lean ====
abbrev S1x4096x1024 : Shape := ⟨3, ![1, 4096, 1024]⟩
abbrev S1x4096x512 : Shape := ⟨3, ![1, 4096, 512]⟩
abbrev S1x4096x2048 : Shape := ⟨3, ![1, 4096, 2048]⟩
abbrev S1x2048 : Shape := ⟨2, ![1, 2048]⟩
abbrev S1x512x1024 : Shape := ⟨3, ![1, 512, 1024]⟩
abbrev S1x1024x1024 : Shape := ⟨3, ![1, 1024, 1024]⟩
abbrev S2048 : Shape := ⟨1, ![2048]⟩
abbrev S1x1x2048 : Shape := ⟨3, ![1, 1, 2048]⟩
abbrev S_ : Shape := ⟨0, ![]⟩
abbrev S512x1024 : Shape := ⟨2, ![512, 1024]⟩
abbrev S1024x1024 : Shape := ⟨2, ![1024, 1024]⟩
abbrev S4096x1024 : Shape := ⟨2, ![4096, 1024]⟩

abbrev nBuf : Space → Nat
  | .hbm => 39
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x512, .f32⟩
  | .hbm, ⟨2, _⟩ => ⟨S1x4096x512, .f32⟩
  | .hbm, ⟨3, _⟩ => ⟨S1x4096x2048, .f32⟩
  | .hbm, ⟨4, _⟩ => ⟨S1x2048, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S2048, .f32⟩
  | .hbm, ⟨9, _⟩ => ⟨S1x1x2048, .f32⟩
  | .hbm, ⟨10, _⟩ => ⟨S1x4096x2048, .f32⟩
  | .hbm, ⟨11, _⟩ => ⟨S1x4096x2048, .f32⟩
  | .hbm, ⟨12, _⟩ => ⟨S1x4096x2048, .f32⟩
  | .hbm, ⟨13, _⟩ => ⟨S1x4096x2048, .f32⟩
  | .hbm, ⟨14, _⟩ => ⟨S_, .f32⟩
  | .hbm, ⟨15, _⟩ => ⟨S1x4096x2048, .f32⟩
  | .hbm, ⟨16, _⟩ => ⟨S1x4096x2048, .f32⟩
  | .hbm, ⟨17, _⟩ => ⟨S_, .f32⟩
  | .hbm, ⟨18, _⟩ => ⟨S1x4096x2048, .f32⟩
  | .hbm, ⟨19, _⟩ => ⟨S1x4096x2048, .f32⟩
  | .hbm, ⟨20, _⟩ => ⟨S1x4096x1024, .f32⟩
  | .hbm, ⟨21, _⟩ => ⟨S1x4096x1024, .f32⟩
  | .hbm, ⟨22, _⟩ => ⟨S512x1024, .f32⟩
  | .hbm, ⟨23, _⟩ => ⟨S1x4096x1024, .f32⟩
  | .hbm, ⟨24, _⟩ => ⟨S512x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S1024x1024, .f32⟩
  | .hbm, ⟨30, _⟩ => ⟨S1x4096x1024, .f32⟩
  | .hbm, ⟨31, _⟩ => ⟨S1x4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S4096x1024, .f32⟩
  | .hbm, ⟨36, _⟩ => ⟨S4096x1024, .bf16⟩
  | .hbm, ⟨37, _⟩ => ⟨S4096x1024, .f32⟩
  | .hbm, ⟨38, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== RelFwd.lean ====
abbrev S1x8x513 : Shape := ⟨3, ![1, 8, 513]⟩
abbrev S8x513 : Shape := ⟨2, ![8, 513]⟩
abbrev S_ : Shape := ⟨0, ![]⟩
abbrev S8x640 : Shape := ⟨2, ![8, 640]⟩
abbrev S640x640 : Shape := ⟨2, ![640, 640]⟩

abbrev nBuf : Space → Nat
  | .hbm => 6
  | .vmem => 2
  | .smem => 0
  | _ => 0

abbrev bufTy : (tb : Table) → Fin (tcTables nBuf tb) → BufTy
  | .hbm, ⟨0, _⟩ => ⟨S1x8x513, .f32⟩
  | .hbm, ⟨1, _⟩ => ⟨S8x513, .f32⟩
  | .hbm, ⟨2, _⟩ => ⟨S_, .i32⟩
  | .hbm, ⟨3, _⟩ => ⟨S_, .f32⟩
  | .hbm, ⟨4, _⟩ => ⟨S8x640, .f32⟩
  | .hbm, ⟨5, _⟩ => ⟨S8x640, .f32⟩
  | .local _ .vmem, ⟨0, _⟩ => ⟨S8x640, .f32⟩
  | .local _ .vmem, ⟨1, _⟩ => ⟨S8x640, .f32⟩
  | _, _ => ⟨S1x8x513, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RelFwdRefIdeal.lean ====
abbrev S1x8x513 : Shape := ⟨3, ![1, 8, 513]⟩
abbrev S640 : Shape := ⟨1, ![640]⟩
abbrev S_ : Shape := ⟨0, ![]⟩
abbrev S8x513 : Shape := ⟨2, ![8, 513]⟩
abbrev S640x1 : Shape := ⟨2, ![640, 1]⟩
abbrev S8x640 : Shape := ⟨2, ![8, 640]⟩

abbrev nBuf : Space → Nat
  | .hbm => 26
  | .vmem => 0
  | .smem => 0
  | _ => 0

abbrev bufTy : (tb : Table) → Fin (tcTables nBuf tb) → BufTy
  | .hbm, ⟨0, _⟩ => ⟨S1x8x513, .f32⟩
  | .hbm, ⟨1, _⟩ => ⟨S640, .i32⟩
  | .hbm, ⟨2, _⟩ => ⟨S_, .i32⟩
  | .hbm, ⟨3, _⟩ => ⟨S640, .i32⟩
  | .hbm, ⟨4, _⟩ => ⟨S640, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S640, .i32⟩
  | .hbm, ⟨9, _⟩ => ⟨S640, .i32⟩
  | .hbm, ⟨10, _⟩ => ⟨S_, .i32⟩
  | .hbm, ⟨11, _⟩ => ⟨S640, .i32⟩
  | .hbm, ⟨12, _⟩ => ⟨S640, .i32⟩
  | .hbm, ⟨13, _⟩ => ⟨S_, .i32⟩
  | .hbm, ⟨14, _⟩ => ⟨S640, .i32⟩
  | .hbm, ⟨15, _⟩ => ⟨S640, .i32⟩
  | .hbm, ⟨16, _⟩ => ⟨S8x513, .f32⟩
  | .hbm, ⟨17, _⟩ => ⟨S_, .i32⟩
  | .hbm, ⟨18, _⟩ => ⟨S640, .i32⟩
  | .hbm, ⟨19, _⟩ => ⟨S640, .i1⟩
  | .hbm, ⟨20, _⟩ => ⟨S_, .i32⟩
  | .hbm, ⟨21, _⟩ => ⟨S640, .i32⟩
  | .hbm, ⟨22, _⟩ => ⟨S640, .i32⟩
  | .hbm, ⟨23, _⟩ => ⟨S640, .i32⟩
  | .hbm, ⟨24, _⟩ => ⟨S640x1, .i32⟩
  | .hbm, ⟨25, _⟩ => ⟨S8x640, .f32⟩
  | _, _ => ⟨S1x8x513, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_c_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_v8 : Ref sig .tc := ⟨.hbm, 19, rfl⟩
abbrev main_c_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.Rows.lean ====
module

public import Idealize.ShloMosaic.PureOps.Ideal

@[expose] public section

noncomputable section

open Idealize.ShloMosaic

/-! # The functions of one row that several calls share, over the extended reals -/

namespace Cert.Rows

/-- The reciprocal root mean square of a row of 1024 entries, `1 / √(mean x² + ε)`. -/
def rinv (x : Fin 1024 → EReal) : EReal :=
  Ideal.rsqrt (Ideal.div (∑ k, x k * x k) (Ideal.ofBits .f32 0x44800000#32) + Ideal.ofBits .f32 0x358637BD#32)

/-- The normalised row, `x · rinv x · g`. -/
def norm (x g : Fin 1024 → EReal) (d : Fin 1024) : EReal := x d * rinv x * g d

/-- The logistic function as both programs write it, `1 / (1 + exp (−a))`. -/
def sig (a : EReal) : EReal := Ideal.div 1 (1 + Ideal.exp (-a))

/-- The gradient through the normalised row, `rinv x · (c · g − x̂ · mean (c · g · x̂))` with `x̂ = x · rinv x`. -/
def back (x g c : Fin 1024 → EReal) (d : Fin 1024) : EReal :=
  rinv x * (c d * g d - x d * rinv x * Ideal.div (∑ k, c k * g k * (x k * rinv x)) (Ideal.ofBits .f32 0x44800000#32))

/-- Zero minus a number is its negative. -/
theorem zero_sub (a : EReal) : 0 - a = -a := by rw [sub_eq_add_neg, zero_add]

end Cert.Rows

end
-- ==== Proof.FfnWgrad.Value.lean ====
module

public import proofs.«01_k».proof.Proof.Gen.FfnWgradIdeal.Value
public import proofs.«01_k».proof.Proof.Gen.FfnWgradRefIdeal.Run
public import proofs.«01_k».proof.Proof.Gen.FfnWgradRefIdeal.Read
public import Idealize.ShloMosaic.Lib.Pipeline.ValueKit
public import Idealize.ShloMosaic.Lib.Pointwise
public import Idealize.ShloMosaic.Lib.Claim
public import proofs.«01_k».proof.Proof.Rows

@[expose] public section

set_option maxRecDepth 16384

noncomputable section

open Idealize.ShloMosaic Idealize.ShloMosaic.TcCoe Idealize.SL.Sem
open Idealize.ShloMosaic.Pipeline (Dat)

/-! # The gradients of the feed-forward weights: what the kernel's three arrays hold -/

namespace Cert.FfnWgradIdeal.Grad

open Cert.FfnWgradIdeal Cert.FfnWgradIdeal.Gen Cert.FfnWgradIdeal.Value

variable (m : (ℓ : Loc nD τ sig) → Buf (Elt Ideal) ℓ)

/-- The block indices of every window: the weight shard is `t / 4`, the block of tokens `t % 4`. -/
theorem idx : ∀ t : Fin cfg0.N, win0_0.index t = ![t.val % 4, 0] ∧ win0_1.index t = ![t.val % 4, 0]
    ∧ win0_2.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![t.val / 4, 0, 0] ∧ win0_7.index t = ![t.val / 4, 0, 0]
    ∧ win0_8.index t = ![t.val / 4, 0, 0] :=
  (by decide +kernel : ∀ t : Fin grid0.N, _)

/-- The three accumulators start at zero. -/
theorem zero2 (j) : k0_pay2 (F := Ideal) j = 0 := by pointwise [k0_pay2]
/-- See `zero2`. -/
theorem zero3 (j) : k0_pay3 (F := Ideal) j = 0 := by pointwise [k0_pay3]
/-- See `zero2`. -/
theorem zero4 (j) : k0_pay4 (F := Ideal) j = 0 := by pointwise [k0_pay4]

/-- One block of tokens adds its part of `daᵀ h` to the gate's gradient. -/
theorem pay6 (h : Vec Ideal S1024x1024 .bf16) (acc : Vec Ideal S1x704x1024 .f32) (da : Vec Ideal S1x1024x704 .bf16) (j : S1x704x1024.Idx) :
    k0_pay6 h acc da j = acc j + ∑ k : Fin 1024, da (ix3 (0 : Fin 1) k (j 1)) * h (ix2 k (j 2)) := by
  pointwise [k0_pay6, k0_pay5]

/-- One block of tokens adds its part of `dbᵀ h` to the up projection's gradient. -/
theorem pay7 (h : Vec Ideal S1024x1024 .bf16) (acc : Vec Ideal S1x704x1024 .f32) (db : Vec Ideal S1x1024x704 .bf16) (j : S1x704x1024.Idx) :
    k0_pay7 h acc db j = acc j + ∑ k : Fin 1024, db (ix3 (0 : Fin 1) k (j 1)) * h (ix2 k (j 2)) := by
  pointwise [k0_pay7, k0_pay5]

/-- The half gated activation `½ a σ(a) b`. -/
def act (a b : EReal) : EReal := Ideal.ofBits .f32 0x3F000000#32 * a * Rows.sig a * b

/-- One block of tokens adds its part of `(½ a σ(a) b)ᵀ d` to the down projection's gradient. -/
theorem pay8 (d : Vec Ideal S1024x1024 .f32) (a b : Vec Ideal S1x1024x704 .bf16) (acc : Vec Ideal S1x704x1024 .f32) (j : S1x704x1024.Idx) :
    k0_pay1 (k0_pay8 d) a b acc j = acc j + ∑ k : Fin 1024, act (a (ix3 (0 : Fin 1) k (j 1))) (b (ix3 (0 : Fin 1) k (j 1))) * d (ix2 k (j 2)) := by
  pointwise [k0_pay1, k0_pay8, act, Rows.sig]
  simp only [Rows.zero_sub]

/-! ## The gradients as sums over the tokens -/

/-- The normalised activations. -/
abbrev H (x : FVec Ideal S1x4096x1024 .f32) (g : FVec Ideal S1x1024 .f32) (t : Fin 4096) (d : Fin 1024) : EReal :=
  Rows.norm (fun d => x (ix3 (0 : Fin 1) t d)) (fun d => g (ix2 (0 : Fin 1) d)) d
/-- The product of the normalised activations and a weight. -/
abbrev A (x : FVec Ideal S1x4096x1024 .f32) (g : FVec Ideal S1x1024 .f32) (w : FVec Ideal S1x1024x2816 .f32) (t : Fin 4096) (f : Fin 2816) : EReal :=
  ∑ d, H x g t d * w (ix3 (0 : Fin 1) d f)
/-- Entry `d` of weight shard `s`. -/
abbrev col (s : Fin 4) (d : Fin 704) : Fin 2816 := ⟨s.val * 704 + d.val, by omega⟩
/-- The gradient of a weight whose product has the cotangent `da`: `daᵀ h`. -/
def gW (x : FVec Ideal S1x4096x1024 .f32) (g : FVec Ideal S1x1024 .f32) (da : FVec Ideal S1x4096x2816 .f32) : FVec Ideal S4x704x1024 .f32 :=
  fun i => ∑ l : Fin 4096, da (ix3 (0 : Fin 1) l (col (i 0) (i 1))) * H x g l (i 2)
/-- The down projection's gradient. -/
def gD (x : FVec Ideal S1x4096x1024 .f32) (g : FVec Ideal S1x1024 .f32) (wg wu : FVec Ideal S1x1024x2816 .f32) (ct : FVec Ideal S1x4096x1024 .f32) : FVec Ideal S4x704x1024 .f32 :=
  fun i => ∑ l : Fin 4096, act (A x g wg l (col (i 0) (i 1))) (A x g wu l (col (i 0) (i 1))) * ct (ix3 (0 : Fin 1) l (i 2))

/-! ## The reference's gradients are these sums -/

section
open Cert.FfnWgradRefIdeal.Read

/-- The reference's normalised activations. -/
theorem ref_h (x0 x1) (t : Fin 4096) (d : Fin 1024) : val_main_v13 (F := Ideal) x0 x1 (ix3 (0 : Fin 1) t d) = H x0 x1 t d := by
  pointwise [val_main_v13, val_main_v12, val_main_v11, val_main_v0, val_main_v10, val_main_v9, val_main_v8, val_main_v7, val_main_v6, val_main_v5, val_main_v4, val_main_v3, val_main_v2, val_main_v1, val_main_cst, val_main_cst_0, val_main_cst_1, H, Rows.norm, Rows.rinv]

/-- The reference's gate gradient. -/
theorem ref6 (x0 x1 x4) : val_main_v37 (F := Ideal) x0 x1 x4 = gW x0 x1 x4 := by
  funext i
  pointwise [val_main_v37, val_main_v36, val_main_v17, val_main_v16, gW]
  rw [Fin.sum_univ_one]
  exact Finset.sum_congr rfl fun l _ => congrArg _ (ref_h x0 x1 l (i 2))

/-- The reference's up projection gradient. -/
theorem ref7 (x0 x1 x5) : val_main_v39 (F := Ideal) x0 x1 x5 = gW x0 x1 x5 := by
  funext i
  pointwise [val_main_v39, val_main_v38, val_main_v21, val_main_v20, gW]
  rw [Fin.sum_univ_one]
  exact Finset.sum_congr rfl fun l _ => congrArg _ (ref_h x0 x1 l (i 2))

/-- The reference's product with the gate's weight. -/
theorem ref_a (x0 x1 x2) (t : Fin 4096) (f : Fin 2816) : val_main_v24 (F := Ideal) x0 x1 x2 (ix3 (0 : Fin 1) t f) = A x0 x1 x2 t f := by
  pointwise [val_main_v24, val_main_v23, A]
  exact Finset.sum_congr rfl fun l _ => congrArg (· * _) (ref_h x0 x1 t l)

/-- The reference's product with the up projection's weight. -/
theorem ref_b (x0 x1 x3) (t : Fin 4096) (f : Fin 2816) : val_main_v27 (F := Ideal) x0 x1 x3 (ix3 (0 : Fin 1) t f) = A x0 x1 x3 t f := by
  pointwise [val_main_v27, val_main_v26, A]
  exact Finset.sum_congr rfl fun l _ => congrArg (· * _) (ref_h x0 x1 t l)

/-- The reference's down projection gradient: the half factor stands with the cotangent there. -/
theorem ref8 (x0 x1 x2 x3 x6) : val_main_v40 (F := Ideal) x0 x1 x2 x3 x6 = gD x0 x1 x2 x3 x6 := by
  funext i
  pointwise [val_main_v40, val_main_v35, val_main_v34, val_main_v33, val_main_v32, val_main_cst_4, val_main_v28, val_main_v25, val_main_call0_v5, val_main_call0_v4, val_main_call0_cst_0, val_main_call0_v3, val_main_call0_v2, val_main_call0_cst, val_main_call0_v1, val_main_call0_v0, gD, act, Rows.sig]
  rw [Fin.sum_univ_one]
  refine Finset.sum_congr rfl fun l _ => ?_
  rw [show val_main_v24 (F := Ideal) x0 x1 x2 _ = _ from ref_a x0 x1 x2 l (col (i 0) (i 1)), show val_main_v27 (F := Ideal) x0 x1 x3 _ = _ from ref_b x0 x1 x3 l (col (i 0) (i 1))]
  ac_nf

end

section

variable (c : Dev nD)

/-- The argument arrays: activations, norm's weight, gate's and up projection's weights, their cotangents, the block's cotangent. -/
abbrev x : FVec Ideal S1x4096x1024 .f32 := m ((c : Thread nD τ).loc main_arg0)
/-- See `x`. -/
abbrev g : FVec Ideal S1x1024 .f32 := m ((c : Thread nD τ).loc main_arg1)
/-- See `x`. -/
abbrev wg : FVec Ideal S1x1024x2816 .f32 := m ((c : Thread nD τ).loc main_arg2)
/-- See `x`. -/
abbrev wu : FVec Ideal S1x1024x2816 .f32 := m ((c : Thread nD τ).loc main_arg3)
/-- See `x`. -/
abbrev da : FVec Ideal S1x4096x2816 .f32 := m ((c : Thread nD τ).loc main_arg4)
/-- See `x`. -/
abbrev db : FVec Ideal S1x4096x2816 .f32 := m ((c : Thread nD τ).loc main_arg5)
/-- See `x`. -/
abbrev ct : FVec Ideal S1x4096x1024 .f32 := m ((c : Thread nD τ).loc main_arg6)

/-! ## What the windows' arrays hold when the region starts -/

/-- The normalised activations. -/
theorem in_h (t : Fin 4096) (d : Fin 1024) : V m c main_v25 (ix2 t d) = H (x m c) (g m c) t d := by
  entry_read
  pointwise [H, x, g, Rows.norm, Rows.rinv]

/-- The cotangent. -/
theorem in_ct (t : Fin 4096) (d : Fin 1024) : V m c main_v26 (ix2 t d) = ct m c (ix3 (0 : Fin 1) t d) := by
  entry_read
  pointwise

/-- The gate's cotangent, cut into the shards. -/
theorem in_da (s : Fin 4) (t : Fin 4096) (d : Fin 704) : V m c main_v30 (ix3 s t d)
    = da m c (ix3 (0 : Fin 1) t (col s d)) := by
  entry_read
  pointwise

/-- The up projection's cotangent, cut into the shards. -/
theorem in_db (s : Fin 4) (t : Fin 4096) (d : Fin 704) : V m c main_v34 (ix3 s t d)
    = db m c (ix3 (0 : Fin 1) t (col s d)) := by
  entry_read
  pointwise

/-- The gate's product, cut into the shards. -/
theorem in_a (s : Fin 4) (t : Fin 4096) (d : Fin 704) : V m c main_v19 (ix3 s t d) = A (x m c) (g m c) (wg m c) t (col s d) := by
  entry_read
  pointwise [A, H, x, g, wg, wu, Rows.norm, Rows.rinv]

/-- The up projection's product, cut into the shards. -/
theorem in_b (s : Fin 4) (t : Fin 4096) (d : Fin 704) : V m c main_v24 (ix3 s t d) = A (x m c) (g m c) (wu m c) t (col s d) := by
  entry_read
  pointwise [A, H, x, g, wg, wu, Rows.norm, Rows.rinv]

/-! ## What a block holds: rows `1024 (t mod 4) …` of shard `t / 4` -/

/-- The tokens of point `t`. -/
abbrev row (t : Fin cfg0.N) (k : Fin 1024) : Fin 4096 := ⟨t.val % 4 * 1024 + k.val, by omega⟩
/-- The shard of point `t`. -/
abbrev shard (t : Fin cfg0.N) : Fin 4 := ⟨t.val / 4, by have := lt_of_lt_of_eq t.isLt N_0; omega⟩

/-- The activations' block. -/
theorem blk0 (t : Fin cfg0.N) (k : Fin 1024) (d : Fin 1024) : iblk m c 0 t (ix2 k d) = H (x m c) (g m c) (row t k) d := by
  refine Eq.trans ?_ (in_h m c _ _)
  blk_point [iblk, idx t]

/-- The cotangent's block. -/
theorem blk1 (t : Fin cfg0.N) (k : Fin 1024) (d : Fin 1024) : iblk m c 1 t (ix2 k d) = ct m c (ix3 (0 : Fin 1) (row t k) d) := by
  refine Eq.trans ?_ (in_ct m c _ _)
  blk_point [iblk, idx t]

/-- The block of the gate's product. -/
theorem blk2 (t : Fin cfg0.N) (k : Fin 1024) (d : Fin 704) : iblk m c 2 t (ix3 (0 : Fin 1) k d) = A (x m c) (g m c) (wg m c) (row t k) (col (shard t) d) := by
  refine Eq.trans ?_ (in_a m c _ _ _)
  blk_point [iblk, idx t]

/-- The block of the up projection's product. -/
theorem blk3 (t : Fin cfg0.N) (k : Fin 1024) (d : Fin 704) : iblk m c 3 t (ix3 (0 : Fin 1) k d) = A (x m c) (g m c) (wu m c) (row t k) (col (shard t) d) := by
  refine Eq.trans ?_ (in_b m c _ _ _)
  blk_point [iblk, idx t]

/-- The block of the gate's cotangent. -/
theorem blk4 (t : Fin cfg0.N) (k : Fin 1024) (d : Fin 704) : iblk m c 4 t (ix3 (0 : Fin 1) k d) = da m c (ix3 (0 : Fin 1) (row t k) (col (shard t) d)) := by
  refine Eq.trans ?_ (in_da m c _ _ _)
  blk_point [iblk, idx t]

/-- The block of the up projection's cotangent. -/
theorem blk5 (t : Fin cfg0.N) (k : Fin 1024) (d : Fin 704) : iblk m c 5 t (ix3 (0 : Fin 1) k d) = db m c (ix3 (0 : Fin 1) (row t k) (col (shard t) d)) := by
  refine Eq.trans ?_ (in_db m c _ _ _)
  blk_point [iblk, idx t]

/-- Where block `t` of an output sits: shard `t / 4` of the gradient. -/
theorem place6 (t : Fin cfg0.N) (y : S1x704x1024.Idx) : ((cfg0.win 6).blk t).view.emb y = (ix3 (shard t) (y 1) (y 2) : S4x704x1024.Idx) := by
  blk_ext [idx t]
/-- See `place6`. -/
theorem place7 (t : Fin cfg0.N) (y : S1x704x1024.Idx) : ((cfg0.win 7).blk t).view.emb y = (ix3 (shard t) (y 1) (y 2) : S4x704x1024.Idx) := by
  blk_ext [idx t]
/-- See `place6`. -/
theorem place8 (t : Fin cfg0.N) (y : S1x704x1024.Idx) : ((cfg0.win 8).blk t).view.emb y = (ix3 (shard t) (y 1) (y 2) : S4x704x1024.Idx) := by
  blk_ext [idx t]

/-- Point `s` of a run reads the tokens `1024 s …`. -/
theorem row_run (t : Fin cfg0.N) (s : Fin 4) (k : Fin 1024) (h : 4 * (t.val / 4) + s.val < cfg0.N) (hl : s.val * 1024 + k.val < 4096) :
    row ⟨4 * (t.val / 4) + s.val, h⟩ k = ⟨s.val * 1024 + k.val, hl⟩ := Fin.ext (by dsimp only; omega)
/-- The points of a run share their shard. -/
theorem shard_run (t : Fin cfg0.N) (s : Fin 4) (h : 4 * (t.val / 4) + s.val < cfg0.N) :
    shard ⟨4 * (t.val / 4) + s.val, h⟩ = shard t := Fin.ext (by dsimp only; omega)

/-- Array 1 after the run is the gate's gradient. -/
theorem final6 : (dats m 0 c).arrAt 6 cfg0.N = gW (x m c) (g m c) (da m c) := by
  refine (dats m 0 c).arrAt_eq_of_covers 6 _ (by decide +kernel) fun t hf y => ?_
  blk_simp
  rw [after0_6, Pipeline.eq_sum_fin_of_reset_step_apply_of_flush (fun n h => (outsAt0 m c n h).1) 4 (fun _ => 0) _
    (fun t h j => by rw [outsAt0_A m c t h]; dsimp only; rw [out_A_6_eq, pay6, zero2])
    (fun t h j => by rw [outsAt0_B m c t h]; dsimp only; rw [out_B_6_eq, pay6])
    t ((flush0_6 t).mp hf) _, zero_add]
  refine Eq.trans ?_ (congrArg (gW (x m c) (g m c) (da m c)) (place6 t y)).symm
  refine Fin.sum_mul_add_congr fun s k hl => ?_
  refine (congrArg₂ (fun a b : EReal => a * b) (blk4 m c _ k (y 1)) (blk0 m c _ k (y 2))).trans ?_
  rw [row_run t s k _ hl, shard_run t s]
  rfl

/-- Array 2 after the run is the up projection's gradient. -/
theorem final7 : (dats m 0 c).arrAt 7 cfg0.N = gW (x m c) (g m c) (db m c) := by
  refine (dats m 0 c).arrAt_eq_of_covers 7 _ (by decide +kernel) fun t hf y => ?_
  blk_simp
  rw [after0_7, Pipeline.eq_sum_fin_of_reset_step_apply_of_flush (fun n h => (outsAt0 m c n h).2.1) 4 (fun _ => 0) _
    (fun t h j => by rw [outsAt0_A m c t h]; dsimp only; rw [out_A_7_eq, pay7, zero3])
    (fun t h j => by rw [outsAt0_B m c t h]; dsimp only; rw [out_B_7_eq, pay7])
    t ((flush0_7 t).mp hf) _, zero_add]
  refine Eq.trans ?_ (congrArg (gW (x m c) (g m c) (db m c)) (place7 t y)).symm
  refine Fin.sum_mul_add_congr fun s k hl => ?_
  refine (congrArg₂ (fun a b : EReal => a * b) (blk5 m c _ k (y 1)) (blk0 m c _ k (y 2))).trans ?_
  rw [row_run t s k _ hl, shard_run t s]
  rfl

/-- Array 3 after the run is the down projection's gradient. -/
theorem final8 : (dats m 0 c).arrAt 8 cfg0.N = gD (x m c) (g m c) (wg m c) (wu m c) (ct m c) := by
  refine (dats m 0 c).arrAt_eq_of_covers 8 _ (by decide +kernel) fun t hf y => ?_
  blk_simp
  rw [after0_8, Pipeline.eq_sum_fin_of_reset_step_apply_of_flush (fun n h => (outsAt0 m c n h).2.2) 4 (fun _ => 0) _
    (fun t h j => by rw [outsAt0_A m c t h]; dsimp only; rw [out_A_8_eq, pay8, zero4])
    (fun t h j => by rw [outsAt0_B m c t h]; dsimp only; rw [out_B_8_eq, pay8])
    t ((flush0_8 t).mp hf) _, zero_add]
  refine Eq.trans ?_ (congrArg (gD (x m c) (g m c) (wg m c) (wu m c) (ct m c)) (place8 t y)).symm
  refine Fin.sum_mul_add_congr fun s k hl => ?_
  refine (congrArg₂ (fun a b : EReal => a * b) (congrArg₂ act (blk2 m c _ k (y 1)) (blk3 m c _ k (y 1))) (blk1 m c _ k (y 2))).trans ?_
  rw [row_run t s k _ hl, shard_run t s]
  rfl

end

end Cert.FfnWgradIdeal.Grad

end
-- ==== Proof.Att.Block.lean ====
module
public import proofs.«01_k».proof.Proof.Gen.AttBwdIdeal.Skeleton

/-! What one trip of the attention gradient's loops computes: the kernel's block of 128 queries against a window of 640
    keys, for the eight heads side by side, as operations on whole vectors with the head as a parameter. -/

@[expose] public section
set_option maxRecDepth 16384
noncomputable section
open Idealize.ShloMosaic Idealize.ShloMosaic.TcCoe

namespace Cert.AttBwdIdeal.Att
open Cert.AttBwdIdeal Facts₀ Facts

variable {F : FTy → Type} [FloatOps F] [Named F]

theorem cols640 : ∀ h : Fin 8, S640x512.Slices ![0, 64 * h.val] S640x64 := by decide
theorem cols128 : ∀ h : Fin 8, S128x512.Slices ![0, 64 * h.val] S128x64 := by decide
theorem lanes : ∀ h : Fin 8, S640x1024.Slices ![0, 128 * h.val] S640x128 := by decide
theorem slabs : ∀ h : Fin 8, ∀ a : Fin S8x640x128.rank, (![h.val, 0, 0] : Fin 3 → Nat) a + S1x640x128.size a ≤ S8x640x128.size a := by decide

/-- Head `h` of the keys against head `h` of the queries. -/
def dotNT (h : Fin 8) (a : FVec F S640x512 .bf16) (b : FVec F S128x512 .bf16) : FVec F S640x128 .f32 :=
  matmul dot_S640x64_S128x64_S640x128_1_1_0_0_n_n none (extractStridedSlice S640x64 ![0, 64 * h.val] a (cols640 h))
    (extractStridedSlice S128x64 ![0, 64 * h.val] b (cols128 h)) (constant S640x128 .f32 0x00000000#32)

/-- Lanes of head `h`, summed over the keys against head `h` of the keys' rows. -/
def dotTN (h : Fin 8) (p : FVec F S640x1024 .bf16) (a : FVec F S640x512 .bf16) : FVec F S128x64 .f32 :=
  matmul dot_S640x128_S640x64_S128x64_0_0_1_1_n_n none (extractStridedSlice S640x128 ![0, 128 * h.val] p (lanes h))
    (extractStridedSlice S640x64 ![0, 64 * h.val] a (cols640 h)) (constant S128x64 .f32 0x00000000#32)

/-- Lanes of head `h`, summed over the queries against head `h` of the queries' rows. -/
def dotNN (h : Fin 8) (p : FVec F S640x1024 .bf16) (b : FVec F S128x512 .bf16) : FVec F S640x64 .f32 :=
  matmul dot_S640x128_S128x64_S640x64_1_0_0_1_n_n none (extractStridedSlice S640x128 ![0, 128 * h.val] p (lanes h))
    (extractStridedSlice S128x64 ![0, 64 * h.val] b (cols128 h)) (constant S640x64 .f32 0x00000000#32)

/-- The heads' lanes side by side. -/
def wide (f : Fin 8 → FVec F S640x128 .f32) : FVec F S640x1024 .f32 :=
  concatenate S640x1024 1 (List.ofFn fun h : Fin 8 => (⟨S640x128, f h⟩ : (s : Shape) × (s.Idx → F .f32)))
    concatenates_S640x128_S640x128_S640x128_S640x128_S640x128_S640x128_S640x128_S640x128_S640x1024_d1

/-- The heads' columns side by side, of 640 rows. -/
def cat640 (f : Fin 8 → FVec F S640x64 .f32) : FVec F S640x512 .f32 :=
  concatenate S640x512 1 (List.ofFn fun h : Fin 8 => (⟨S640x64, f h⟩ : (s : Shape) × (s.Idx → F .f32)))
    concatenates_S640x64_S640x64_S640x64_S640x64_S640x64_S640x64_S640x64_S640x64_S640x512_d1

/-- The heads' columns side by side, of 128 rows. -/
def cat128 (f : Fin 8 → FVec F S128x64 .f32) : FVec F S128x512 .f32 :=
  concatenate S128x512 1 (List.ofFn fun h : Fin 8 => (⟨S128x64, f h⟩ : (s : Shape) × (s.Idx → F .f32)))
    concatenates_S128x64_S128x64_S128x64_S128x64_S128x64_S128x64_S128x64_S128x64_S128x512_d1

/-- The queries times an eighth. -/
def scaled (q : Vec F S128x512 .bf16) : FVec F S128x512 .bf16 := mulf q (broadcast S128x512 (Scalar.ofBits .bf16 0x3E00#16))

/-- The scores: keys down, the queries of each head across. -/
def scores (q : FVec F S128x512 .bf16) (k : FVec F S640x512 .bf16) (bias : Fin 8 → Vec F S1x640x128 .f32) : FVec F S640x1024 .f32 :=
  wide fun h => addf (dotNT h k q) (shapeCast S640x128 (bias h) shapeCasts_S1x640x128_S640x128)

/-- The scores with the keys before the sequence masked. -/
def masked (ok : IVec S640x1 1) (s : FVec F S640x1024 .f32) : FVec F S640x1024 .f32 :=
  select (broadcastTo S640x1024 (shapeCast S640x1 ok shapeCasts_S640x1_S640x1) broadcasts_S640x1_S640x1024) s
    (broadcast S640x1024 (Named.named κ "mask" 0xF149F2CA#32))

/-- A row over the queries, spread down the keys. -/
def spread (r : FVec F S1x1024 .f32) : FVec F S640x1024 .f32 := broadcastTo S640x1024 r broadcasts_S1x1024_S640x1024

/-- The sum down the keys. -/
def down (s : FVec F S640x1024 .f32) : FVec F S1x1024 .f32 :=
  shapeCast S1x1024 (multiReduction .add [0] S1024 s 0x00000000#32 reduces_S640x1024_S1024 (.inl rfl) rfl) shapeCasts_S1024_S1x1024

/-- The exponentials of the scores less their maximum down the keys. -/
def expo (s : FVec F S640x1024 .f32) : FVec F S640x1024 .f32 :=
  exp (subf s (spread (shapeCast S1x1024 (multiReduction .maximumf [0] S1024 s 0xFF800000#32 reduces_S640x1024_S1024 (.inl rfl) rfl)
    shapeCasts_S1024_S1x1024)))

/-- The weights: the exponentials over their sum. -/
def soft (s : FVec F S640x1024 .f32) : FVec F S640x1024 .f32 :=
  mulf (expo s) (spread (divf (broadcast S1x1024 (Scalar.ofBits .f32 0x3F800000#32)) (down (expo s))))

/-- The scores' gradient from the weights and the weights' gradient. -/
def dsoft (p dp : FVec F S640x1024 .f32) : FVec F S640x1024 .f32 := mulf p (subf dp (spread (down (mulf p dp))))

/-- The scores' gradient of a block, from its weights, values and cotangent. -/
def dscores (p : FVec F S640x1024 .f32) (v : FVec F S640x512 .bf16) (y : FVec F S128x512 .bf16) : FVec F S640x1024 .f32 :=
  dsoft p (wide fun h => dotNT h v y)

/-- The cotangent's rows, as loaded. -/
def rowsOf (y : Vec F S128x512 .bf16) : FVec F S128x512 .bf16 := shapeCast S128x512 y shapeCasts_S128x512_S128x512

/-- The queries' gradient of a block. -/
def dqOf (ds : FVec F S640x1024 .f32) (k : FVec F S640x512 .bf16) : FVec F S128x512 .bf16 :=
  truncf .bf16 (mulf (cat128 fun h => dotTN h (truncf .bf16 ds bitsLt_bf16_f32) k) (broadcast S128x512 (Scalar.ofBits .f32 0x3E000000#32))) bitsLt_bf16_f32

/-- What a window of the keys' (or values') gradient becomes: what it held plus the block's part. -/
def accOf (p : FVec F S640x1024 .f32) (q : FVec F S128x512 .bf16) (old : Vec F S640x512 .f32) : FVec F S640x512 .f32 :=
  addf (shapeCast S640x512 old shapeCasts_S640x512_S640x512) (cat640 fun h => dotNN h (truncf .bf16 p bitsLt_bf16_f32) q)

/-- What a head's slab of the bias's gradient becomes. -/
def dbOf (ds : FVec F S640x1024 .f32) (h : Fin 8) (old : Vec F S1x640x128 .f32) : FVec F S1x640x128 .f32 :=
  shapeCast S1x640x128 (addf (shapeCast S640x128 old shapeCasts_S1x640x128_S640x128)
    (extractStridedSlice S640x128 ![0, 128 * h.val] ds (lanes h))) shapeCasts_S640x128_S1x640x128

end Cert.AttBwdIdeal.Att
end
-- ==== Proof.Att.Trips.lean ====
module
public import proofs.«01_k».proof.Proof.Gen.AttBwdIdeal.Loops
public import proofs.«01_k».proof.Proof.Att.Block

/-! The pieces that a trip of each loop writes, in the vectors of `Block`. -/

@[expose] public section
set_option maxRecDepth 16384
noncomputable section
open Idealize.ShloMosaic Idealize.ShloMosaic.TcCoe

namespace Cert.AttBwdIdeal.Att
open Cert.AttBwdIdeal Cert.AttBwdIdeal.Gen

variable {F : FTy → Type} [FloatOps F] [Named F]

/-- The rectangle of a head's slab. -/
abbrev slab (h : Fin 8) : Rect S8x640x128 := Rect.unit ![h.val, 0, 0] S1x640x128.size (slabs h)
/-- A trip's queries, in the first loop and the second. -/
abbrev qRect1 (k : Fin k0_t1_loop.trips) : Rect S4096x512 := Rect.unit (s := S4096x512) (k0_off1 k) S128x512.size (k0_off1_inb k)
abbrev qRect2 (k : Fin k0_t2_loop.trips) : Rect S4096x512 := Rect.unit (s := S4096x512) (k0_off3 k) S128x512.size (k0_off3_inb k)
/-- A trip's window of keys, in the first loop and the second. -/
abbrev kRect1 (k : Fin k0_t1_loop.trips) : Rect S4608x512 := Rect.unit (s := S4608x512) (k0_off2 k) S640x512.size (k0_off2_inb k)
abbrev kRect2 (k : Fin k0_t2_loop.trips) : Rect S4608x512 := Rect.unit (s := S4608x512) (k0_off4 k) S640x512.size (k0_off4_inb k)

/-- What lies in a trip's rectangle of an array. -/
abbrev cut {α : Type} {s : Shape} (r : Rect s) (A : s.Idx → α) : r.shape.Idx → α := fun x => A (r.toLoadRect.idx x)

/-- The weights of a trip of the first loop, which masks, and of the second. -/
def weights1 (k : Fin k0_t1_loop.trips) (B : Vec F S8x640x128 .f32) (Q : Vec F S4096x512 .bf16) (K : Vec F S4608x512 .bf16) : FVec F S640x1024 .f32 :=
  soft (masked (k0_pay10 0#32 1#32 k) (scores (scaled (cut (qRect1 k) Q)) (cut (kRect1 k) K) fun h => cut (slab h) B))
def weights2 (k : Fin k0_t2_loop.trips) (B : Vec F S8x640x128 .f32) (Q : Vec F S4096x512 .bf16) (K : Vec F S4608x512 .bf16) : FVec F S640x1024 .f32 :=
  soft (scores (scaled (cut (qRect2 k) Q)) (cut (kRect2 k) K) fun h => cut (slab h) B)

section
variable (𝒱 : Variants) (c : Dev nD) (bd : Option 𝒱.V) (arg0 : Memref sig .tc .hbm S4096x1536 .bf16) (harg0 : arg0.IsWhole) (arg1 : Memref sig .tc .vmem S4096x512 .bf16) (harg1 : arg1.IsWhole) (arg2 : Memref sig .tc .vmem S8x640x128 .f32) (harg2 : arg2.IsWhole) (arg3 : Memref sig .tc .vmem S4096x512 .bf16) (harg3 : arg3.IsWhole) (arg4 : Memref sig .tc .vmem S4608x512 .f32) (harg4 : arg4.IsWhole) (arg5 : Memref sig .tc .vmem S4608x512 .f32) (harg5 : arg5.IsWhole) (arg6 : Memref sig .tc .vmem S8x640x128 .f32) (harg6 : arg6.IsWhole) (arg7 : Memref sig .tc .vmem S4096x512 .bf16) (harg7 : arg7.IsWhole) (arg8 : Memref sig .tc .vmem S4608x512 .bf16) (harg8 : arg8.IsWhole) (arg9 : Memref sig .tc .vmem S4608x512 .bf16) (harg9 : arg9.IsWhole) (arg10 : DmaSems sig S3)
  (X1 : BufTy.Contents (Elt F) arg1.view.ty) (X2 : BufTy.Contents (Elt F) arg2.view.ty) (X7 : BufTy.Contents (Elt F) arg7.view.ty) (X8 : BufTy.Contents (Elt F) arg8.view.ty) (X9 : BufTy.Contents (Elt F) arg9.view.ty)
  (f3 : BufTy.Contents (Elt F) arg3.view.ty) (f4 : BufTy.Contents (Elt F) arg4.view.ty) (f5 : BufTy.Contents (Elt F) arg5.view.ty) (f6 : BufTy.Contents (Elt F) arg6.view.ty)

theorem trip1_dq (k : Fin k0_t1_loop.trips) :
    (trip_k0_t1 𝒱 c bd arg0 harg0 arg1 harg1 arg2 harg2 arg3 harg3 arg4 harg4 arg5 harg5 arg6 harg6 arg7 harg7 arg8 harg8 arg9 harg9 arg10 X1 X2 X7 X8 X9 k).1 f3 f4 f5 f6
      = [⟨qRect1 k, dqOf (dscores (weights1 k (arg2.view.read (Elt F) X2) (arg7.view.read (Elt F) X7) (arg8.view.read (Elt F) X8)) (cut (kRect1 k) (arg9.view.read (Elt F) X9)) (rowsOf (cut (qRect1 k) (arg1.view.read (Elt F) X1)))) (cut (kRect1 k) (arg8.view.read (Elt F) X8))⟩] := by
  unfold trip_k0_t1
  rfl

theorem trip1_dk (k : Fin k0_t1_loop.trips) :
    (trip_k0_t1 𝒱 c bd arg0 harg0 arg1 harg1 arg2 harg2 arg3 harg3 arg4 harg4 arg5 harg5 arg6 harg6 arg7 harg7 arg8 harg8 arg9 harg9 arg10 X1 X2 X7 X8 X9 k).2.1 f3 f4 f5 f6
      = [⟨kRect1 k, accOf (dscores (weights1 k (arg2.view.read (Elt F) X2) (arg7.view.read (Elt F) X7) (arg8.view.read (Elt F) X8)) (cut (kRect1 k) (arg9.view.read (Elt F) X9)) (rowsOf (cut (qRect1 k) (arg1.view.read (Elt F) X1)))) (scaled (cut (qRect1 k) (arg7.view.read (Elt F) X7))) (cut (kRect1 k) (arg4.view.read (Elt F) f4))⟩] := by
  unfold trip_k0_t1
  rfl

theorem trip1_dv (k : Fin k0_t1_loop.trips) :
    (trip_k0_t1 𝒱 c bd arg0 harg0 arg1 harg1 arg2 harg2 arg3 harg3 arg4 harg4 arg5 harg5 arg6 harg6 arg7 harg7 arg8 harg8 arg9 harg9 arg10 X1 X2 X7 X8 X9 k).2.2.1 f3 f4 f5 f6
      = [⟨kRect1 k, accOf (weights1 k (arg2.view.read (Elt F) X2) (arg7.view.read (Elt F) X7) (arg8.view.read (Elt F) X8)) (rowsOf (cut (qRect1 k) (arg1.view.read (Elt F) X1))) (cut (kRect1 k) (arg5.view.read (Elt F) f5))⟩] := by
  unfold trip_k0_t1
  rfl

theorem trip1_db (k : Fin k0_t1_loop.trips) :
    (trip_k0_t1 𝒱 c bd arg0 harg0 arg1 harg1 arg2 harg2 arg3 harg3 arg4 harg4 arg5 harg5 arg6 harg6 arg7 harg7 arg8 harg8 arg9 harg9 arg10 X1 X2 X7 X8 X9 k).2.2.2.1 f3 f4 f5 f6
      = List.ofFn fun h : Fin 8 => ⟨slab h.rev, dbOf (dscores (weights1 k (arg2.view.read (Elt F) X2) (arg7.view.read (Elt F) X7) (arg8.view.read (Elt F) X8)) (cut (kRect1 k) (arg9.view.read (Elt F) X9)) (rowsOf (cut (qRect1 k) (arg1.view.read (Elt F) X1)))) h.rev (cut (slab h.rev) (arg6.view.read (Elt F) f6))⟩ := by
  unfold trip_k0_t1
  rfl

theorem trip2_dq (k : Fin k0_t2_loop.trips) :
    (trip_k0_t2 𝒱 c bd arg0 harg0 arg1 harg1 arg2 harg2 arg3 harg3 arg4 harg4 arg5 harg5 arg6 harg6 arg7 harg7 arg8 harg8 arg9 harg9 arg10 X1 X2 X7 X8 X9 k).1 f3 f4 f5 f6
      = [⟨qRect2 k, dqOf (dscores (weights2 k (arg2.view.read (Elt F) X2) (arg7.view.read (Elt F) X7) (arg8.view.read (Elt F) X8)) (cut (kRect2 k) (arg9.view.read (Elt F) X9)) (rowsOf (cut (qRect2 k) (arg1.view.read (Elt F) X1)))) (cut (kRect2 k) (arg8.view.read (Elt F) X8))⟩] := by
  unfold trip_k0_t2
  rfl

theorem trip2_dk (k : Fin k0_t2_loop.trips) :
    (trip_k0_t2 𝒱 c bd arg0 harg0 arg1 harg1 arg2 harg2 arg3 harg3 arg4 harg4 arg5 harg5 arg6 harg6 arg7 harg7 arg8 harg8 arg9 harg9 arg10 X1 X2 X7 X8 X9 k).2.1 f3 f4 f5 f6
      = [⟨kRect2 k, accOf (dscores (weights2 k (arg2.view.read (Elt F) X2) (arg7.view.read (Elt F) X7) (arg8.view.read (Elt F) X8)) (cut (kRect2 k) (arg9.view.read (Elt F) X9)) (rowsOf (cut (qRect2 k) (arg1.view.read (Elt F) X1)))) (scaled (cut (qRect2 k) (arg7.view.read (Elt F) X7))) (cut (kRect2 k) (arg4.view.read (Elt F) f4))⟩] := by
  unfold trip_k0_t2
  rfl

theorem trip2_dv (k : Fin k0_t2_loop.trips) :
    (trip_k0_t2 𝒱 c bd arg0 harg0 arg1 harg1 arg2 harg2 arg3 harg3 arg4 harg4 arg5 harg5 arg6 harg6 arg7 harg7 arg8 harg8 arg9 harg9 arg10 X1 X2 X7 X8 X9 k).2.2.1 f3 f4 f5 f6
      = [⟨kRect2 k, accOf (weights2 k (arg2.view.read (Elt F) X2) (arg7.view.read (Elt F) X7) (arg8.view.read (Elt F) X8)) (rowsOf (cut (qRect2 k) (arg1.view.read (Elt F) X1))) (cut (kRect2 k) (arg5.view.read (Elt F) f5))⟩] := by
  unfold trip_k0_t2
  rfl

theorem trip2_db (k : Fin k0_t2_loop.trips) :
    (trip_k0_t2 𝒱 c bd arg0 harg0 arg1 harg1 arg2 harg2 arg3 harg3 arg4 harg4 arg5 harg5 arg6 harg6 arg7 harg7 arg8 harg8 arg9 harg9 arg10 X1 X2 X7 X8 X9 k).2.2.2.1 f3 f4 f5 f6
      = List.ofFn fun h : Fin 8 => ⟨slab h.rev, dbOf (dscores (weights2 k (arg2.view.read (Elt F) X2) (arg7.view.read (Elt F) X7) (arg8.view.read (Elt F) X8)) (cut (kRect2 k) (arg9.view.read (Elt F) X9)) (rowsOf (cut (qRect2 k) (arg1.view.read (Elt F) X1)))) h.rev (cut (slab h.rev) (arg6.view.read (Elt F) f6))⟩ := by
  unfold trip_k0_t2
  rfl

end
end Cert.AttBwdIdeal.Att
end
-- ==== Proof.Puts.lean ====
module
public import Idealize.ShloMosaic.Lib.Writes
public import Idealize.ShloMosaic.Lib.Pointwise

/-! Arrays with rectangles of them written over, and what a view reads after a list of stores. -/

@[expose] public section
noncomputable section
open Idealize.ShloMosaic

namespace Cert.Puts

section
variable {α : Type} {s : Shape}

open Classical in
/-- An array with a rectangle of it written over. -/
def put (r : Rect s) (w : r.shape.Idx → α) (A : s.Idx → α) : s.Idx → α := fun y =>
  if h : ∃ x, r.emb x = y then w h.choose else A y

theorem put_hit (r : Rect s) (w : r.shape.Idx → α) (A : s.Idx → α) (x : r.shape.Idx) : put r w A (r.emb x) = w x := by
  have h : ∃ x', r.emb x' = r.emb x := ⟨x, rfl⟩
  unfold put
  rw [dif_pos h, r.emb.injective h.choose_spec]

theorem put_unit_hit {off size : Fin s.rank → ℕ} (inb : ∀ a, off a + size a ≤ s.size a) (w : (⟨s.rank, size⟩ : Shape).Idx → α) (A : s.Idx → α)
    (x : (⟨s.rank, size⟩ : Shape).Idx) (y : s.Idx) (h : ∀ a, (y a).val = off a + (x a).val) : put (Rect.unit off size inb) w A y = w x := by
  have hy : (Rect.unit off size inb).emb x = y := (Rect.unit off size inb).emb_eq_of_coords x y fun a => by
    simpa using h a
  rw [← hy]; exact put_hit (Rect.unit off size inb) w A x

theorem put_miss (r : Rect s) (w : r.shape.Idx → α) (A : s.Idx → α) (y : s.Idx) (h : ¬ ∃ x, r.emb x = y) : put r w A y = A y := dif_neg h

theorem put_unit_miss {off size : Fin s.rank → ℕ} (inb : ∀ a, off a + size a ≤ s.size a) (w : (⟨s.rank, size⟩ : Shape).Idx → α) (A : s.Idx → α)
    (y : s.Idx) (a : Fin s.rank) (h : (y a).val < off a ∨ off a + size a ≤ (y a).val) : put (Rect.unit off size inb) w A y = A y := by
  refine put_miss (Rect.unit off size inb) w A y ?_
  rintro ⟨x, rfl⟩
  have e : ((Rect.unit off size inb).emb x a).val = off a + (x a).val := by
    show off a + 1 * (x a).val = _
    rw [Nat.one_mul]
  have hx : (x a).val < size a := (x a).isLt
  omega

/-- Whole rows from row `o` on, written over: a row among them. -/
theorem rows_hit {R W n o : ℕ} (inb : ∀ a : Fin 2, (![o, 0] : Fin 2 → ℕ) a + (![n, W] : Fin 2 → ℕ) a ≤ (![R, W] : Fin 2 → ℕ) a)
    (w : (⟨2, ![n, W]⟩ : Shape).Idx → α) (A : (⟨2, ![R, W]⟩ : Shape).Idx → α) (y : (⟨2, ![R, W]⟩ : Shape).Idx)
    (h : o ≤ (y 0).val) (h' : (y 0).val - o < n) :
    put (Rect.unit (s := ⟨2, ![R, W]⟩) ![o, 0] ![n, W] inb) w A y = w (ix2 ⟨(y 0).val - o, h'⟩ (y 1)) :=
  put_unit_hit (s := ⟨2, ![R, W]⟩) inb w A (ix2 ⟨(y 0).val - o, h'⟩ (y 1)) y
    (Fin.forall_fin_two.2 ⟨(Nat.add_sub_cancel' h).symm, (Nat.zero_add _).symm⟩)

/-- Whole rows from row `o` on, written over: a row not among them. -/
theorem rows_miss {R W n o : ℕ} (inb : ∀ a : Fin 2, (![o, 0] : Fin 2 → ℕ) a + (![n, W] : Fin 2 → ℕ) a ≤ (![R, W] : Fin 2 → ℕ) a)
    (w : (⟨2, ![n, W]⟩ : Shape).Idx → α) (A : (⟨2, ![R, W]⟩ : Shape).Idx → α) (y : (⟨2, ![R, W]⟩ : Shape).Idx)
    (h : (y 0).val < o ∨ o + n ≤ (y 0).val) :
    put (Rect.unit (s := ⟨2, ![R, W]⟩) ![o, 0] ![n, W] inb) w A y = A y :=
  put_unit_miss (s := ⟨2, ![R, W]⟩) inb w A y 0 h

/-- Two runs of rows that cover the array leave nothing of what it held. -/
theorem rows_cover {R W n k : ℕ} (inb : ∀ a : Fin 2, (![0, 0] : Fin 2 → ℕ) a + (![n, W] : Fin 2 → ℕ) a ≤ (![R, W] : Fin 2 → ℕ) a)
    (inb' : ∀ a : Fin 2, (![n, 0] : Fin 2 → ℕ) a + (![k, W] : Fin 2 → ℕ) a ≤ (![R, W] : Fin 2 → ℕ) a)
    (w : (⟨2, ![n, W]⟩ : Shape).Idx → α) (w' : (⟨2, ![k, W]⟩ : Shape).Idx → α) (A A' : (⟨2, ![R, W]⟩ : Shape).Idx → α) (hR : R ≤ n + k) :
    put (Rect.unit (s := ⟨2, ![R, W]⟩) ![0, 0] ![n, W] inb) w (put (Rect.unit (s := ⟨2, ![R, W]⟩) ![n, 0] ![k, W] inb') w' A)
      = put (Rect.unit (s := ⟨2, ![R, W]⟩) ![0, 0] ![n, W] inb) w (put (Rect.unit (s := ⟨2, ![R, W]⟩) ![n, 0] ![k, W] inb') w' A') := by
  funext y
  have hy : (y 0).val < R := (y 0).isLt
  by_cases h : (y 0).val < n
  · rw [rows_hit inb w _ y (Nat.zero_le _) (by omega), rows_hit inb w _ y (Nat.zero_le _) (by omega)]
  · rw [rows_miss inb w _ y (.inr (by omega)), rows_miss inb w _ y (.inr (by omega)),
      rows_hit inb' w' _ y (by omega) (by omega), rows_hit inb' w' _ y (by omega) (by omega)]

theorem put_whole (w : s.Idx → α) (A : s.Idx → α) : put (Rect.whole s) w A = w := by
  funext y
  exact put_unit_hit (s := s) (fun _ => by simp) w A y y fun a => by simp

/-- Where the rectangle covers the array, what the array held before is gone. -/
theorem put_all {off size : Fin s.rank → ℕ} (inb : ∀ a, off a + size a ≤ s.size a) (v : α) (A : s.Idx → α)
    (h : ∀ a, off a = 0 ∧ size a = s.size a) : put (Rect.unit off size inb) (fun _ => v) A = fun _ => v := by
  funext y
  exact put_unit_hit inb _ A (fun a => ⟨(y a).val, by rw [show (⟨s.rank, size⟩ : Shape).size a = s.size a from (h a).2]; exact (y a).isLt⟩) y
    fun a => by have := (h a).1; simp only [this, Nat.zero_add]

end

section
variable {sig' : RefSig} {κ' : Kind} {sp : Space} {s : Shape} {e : EltTy} {Val : EltTy → Type}

/-- A list of pieces, last first, written over an array. -/
def puts (L : List (View.Piece Val s e)) (A : s.Idx → Val e) : s.Idx → Val e := L.foldr (fun p A => put p.1 p.2 A) A

theorem puts_nil (A : s.Idx → Val e) : puts ([] : List (View.Piece Val s e)) A = A := rfl

theorem puts_cons (r : Rect s) (w) (L : List (View.Piece Val s e)) (A : s.Idx → Val e) : puts (⟨r, w⟩ :: L) A = put r w (puts L A) := rfl

/-- Of pieces one of which covers an index alone, that one is read there. -/
theorem puts_ofFn {m : ℕ} (f : Fin m → View.Piece Val s e) (A : s.Idx → Val e) (y : s.Idx) (k : Fin m) (x : (f k).1.shape.Idx)
    (hx : (f k).1.emb x = y) (hmiss : ∀ j, j ≠ k → ¬ ∃ x', (f j).1.emb x' = y) : puts (List.ofFn f) A y = (f k).2 x := by
  induction m with
  | zero => exact k.elim0
  | succ m ih =>
    rw [List.ofFn_succ]
    show put (f 0).1 (f 0).2 (puts _ A) y = _
    refine Fin.cases (fun x hx hmiss => ?_) (fun k x hx hmiss => ?_) k x hx hmiss
    · rw [← hx]; exact put_hit _ _ _ _
    · rw [put_miss _ _ _ _ (hmiss 0 (Fin.succ_ne_zero k).symm)]
      exact ih (fun j => f j.succ) k x hx fun j hj => hmiss j.succ fun hh => hj (Fin.succ_inj.1 hh)

/-- What a view reads after a list of pieces is the list written over what it read before. -/
theorem read_puts (v : View sig' κ' sp s e) (f : v.ty.Contents Val) (L : List (View.Piece Val s e)) :
    v.read Val (v.writes Val f L) = puts L (v.read Val f) := by
  induction L with
  | nil => rfl
  | cons p L ih =>
    obtain ⟨r, w⟩ := p
    funext y
    show _ = put r w (puts L (v.read Val f)) y
    by_cases h : ∃ x, r.emb x = y
    · obtain ⟨x, rfl⟩ := h
      rw [put_hit]; exact v.read_writes_cons_emb f r w L x
    · rw [put_miss _ _ _ _ h, ← ih]
      exact v.read_writes_cons_miss f ⟨r, w⟩ L y fun hm => h (by rw [← Rect.map_emb_univ] at hm; simpa using hm)

/-- A view written over two row ranges that cover its array reads them, whatever it held before. -/
theorem read_rows {R W n k : ℕ} (v : View sig' κ' sp ⟨2, ![R, W]⟩ e) (f : v.ty.Contents Val)
    (inb : ∀ a : Fin 2, (![0, 0] : Fin 2 → ℕ) a + (![n, W] : Fin 2 → ℕ) a ≤ (![R, W] : Fin 2 → ℕ) a)
    (inb' : ∀ a : Fin 2, (![n, 0] : Fin 2 → ℕ) a + (![k, W] : Fin 2 → ℕ) a ≤ (![R, W] : Fin 2 → ℕ) a)
    (w : (⟨2, ![n, W]⟩ : Shape).Idx → Val e) (w' : (⟨2, ![k, W]⟩ : Shape).Idx → Val e) (A : (⟨2, ![R, W]⟩ : Shape).Idx → Val e) (hR : R ≤ n + k) :
    v.read Val (v.writes Val f [⟨Rect.unit (s := ⟨2, ![R, W]⟩) ![0, 0] ![n, W] inb, w⟩, ⟨Rect.unit (s := ⟨2, ![R, W]⟩) ![n, 0] ![k, W] inb', w'⟩])
      = put (Rect.unit (s := ⟨2, ![R, W]⟩) ![0, 0] ![n, W] inb) w (put (Rect.unit (s := ⟨2, ![R, W]⟩) ![n, 0] ![k, W] inb') w' A) :=
  (read_puts v f _).trans (rows_cover inb inb' w w' _ A hR)

/-- Pieces over one another read as written, last first, over anything. -/
theorem canon_puts [∀ e, Nonempty (Val e)] (L : List (View.Piece Val s e)) : View.canon L = puts L fun _ => Classical.arbitrary _ := by
  induction L with
  | nil => rfl
  | cons p L ih =>
    obtain ⟨r, w⟩ := p
    funext y
    show _ = put r w (puts L _) y
    by_cases h : ∃ x, r.emb x = y
    · obtain ⟨x, rfl⟩ := h
      rw [put_hit]; exact View.canon_cons_emb r w L x
    · rw [put_miss _ _ _ _ h, ← ih]
      exact View.canon_cons_of_not_mem ⟨r, w⟩ L fun hm => h (by rw [← Rect.map_emb_univ] at hm; simpa using hm)

/-- Four layers written one by one, the last first, over what was there. -/
theorem canon4 [∀ e, Nonempty (Val e)] {n k : ℕ} (p₀ p₁ p₂ p₃ : (⟨3, ![1, n, k]⟩ : Shape).Idx → Val e)
    (i₀ : ∀ a : Fin 3, (![0, 0, 0] : Fin 3 → ℕ) a + (![1, n, k] : Fin 3 → ℕ) a ≤ (![4, n, k] : Fin 3 → ℕ) a)
    (i₁ : ∀ a : Fin 3, (![1, 0, 0] : Fin 3 → ℕ) a + (![1, n, k] : Fin 3 → ℕ) a ≤ (![4, n, k] : Fin 3 → ℕ) a)
    (i₂ : ∀ a : Fin 3, (![2, 0, 0] : Fin 3 → ℕ) a + (![1, n, k] : Fin 3 → ℕ) a ≤ (![4, n, k] : Fin 3 → ℕ) a)
    (i₃ : ∀ a : Fin 3, (![3, 0, 0] : Fin 3 → ℕ) a + (![1, n, k] : Fin 3 → ℕ) a ≤ (![4, n, k] : Fin 3 → ℕ) a)
    (L : List (View.Piece Val ⟨3, ![4, n, k]⟩ e)) (l : Fin 4) (f : Fin n) (j : Fin k) :
    View.canon (⟨Rect.unit (s := ⟨3, ![4, n, k]⟩) ![3, 0, 0] ![1, n, k] i₃, p₃⟩ :: ⟨Rect.unit (s := ⟨3, ![4, n, k]⟩) ![2, 0, 0] ![1, n, k] i₂, p₂⟩
      :: ⟨Rect.unit (s := ⟨3, ![4, n, k]⟩) ![1, 0, 0] ![1, n, k] i₁, p₁⟩ :: ⟨Rect.unit (s := ⟨3, ![4, n, k]⟩) ![0, 0, 0] ![1, n, k] i₀, p₀⟩ :: L)
      (ix3 l f j) = (![p₀, p₁, p₂, p₃] l) (ix3 (0 : Fin 1) f j) := by
  rw [canon_puts]
  simp only [puts_cons]
  have hit {o : ℕ} (inb : ∀ a : Fin 3, (![o, 0, 0] : Fin 3 → ℕ) a + (![1, n, k] : Fin 3 → ℕ) a ≤ (![4, n, k] : Fin 3 → ℕ) a)
      (w : (⟨3, ![1, n, k]⟩ : Shape).Idx → Val e) (A) (ho : o = l.val) :
      put (Rect.unit (s := ⟨3, ![4, n, k]⟩) ![o, 0, 0] ![1, n, k] inb) w A (ix3 l f j) = w (ix3 (0 : Fin 1) f j) := by
    subst ho
    exact put_unit_hit (s := ⟨3, ![4, n, k]⟩) inb w A (ix3 (0 : Fin 1) f j) (ix3 l f j) fun a => by
      fin_cases a
      · rfl
      · exact (Nat.zero_add _).symm
      · exact (Nat.zero_add _).symm
  have miss {o : ℕ} (inb : ∀ a : Fin 3, (![o, 0, 0] : Fin 3 → ℕ) a + (![1, n, k] : Fin 3 → ℕ) a ≤ (![4, n, k] : Fin 3 → ℕ) a)
      (w : (⟨3, ![1, n, k]⟩ : Shape).Idx → Val e) (A) (ho : l.val < o) :
      put (Rect.unit (s := ⟨3, ![4, n, k]⟩) ![o, 0, 0] ![1, n, k] inb) w A (ix3 l f j) = A (ix3 l f j) :=
    put_unit_miss (s := ⟨3, ![4, n, k]⟩) inb w A (ix3 l f j) 0 (.inl ho)
  fin_cases l
  · rw [miss i₃ _ _ (by decide), miss i₂ _ _ (by decide), miss i₁ _ _ (by decide), hit i₀ _ _ rfl]; rfl
  · rw [miss i₃ _ _ (by decide), miss i₂ _ _ (by decide), hit i₁ _ _ rfl]; rfl
  · rw [miss i₃ _ _ (by decide), hit i₂ _ _ rfl]; rfl
  · rw [hit i₃ _ _ rfl]; rfl

end

end Cert.Puts
end
-- ==== Proof.Att.State.lean ====
module
public import proofs.«01_k».proof.Proof.Att.Trips
public import proofs.«01_k».proof.Proof.Puts

/-! The four outputs of the attention gradient's body as functions of the arrays it reads: 32 blocks of queries in turn,
    each written over what the blocks before it left; and that the two loops' pieces leave just these. -/

@[expose] public section
set_option maxRecDepth 16384
noncomputable section
open Idealize.ShloMosaic Idealize.ShloMosaic.TcCoe

namespace Cert.AttBwdIdeal.Att
open Cert.AttBwdIdeal Cert.AttBwdIdeal.Gen Cert.Puts

variable {F : FTy → Type} [FloatOps F] [Named F]

theorem trips1 : k0_t1_loop.trips = 4 := by decide
theorem trips2 : k0_t2_loop.trips = 28 := by decide
theorem q_inb : ∀ i : Fin 32, ∀ a : Fin S4096x512.rank, (![128 * i.val, 0] : Fin 2 → Nat) a + S128x512.size a ≤ S4096x512.size a := by decide
theorem k_inb : ∀ i : Fin 32, ∀ a : Fin S4608x512.rank, (![128 * i.val, 0] : Fin 2 → Nat) a + S640x512.size a ≤ S4608x512.size a := by decide
/-- The queries of block `i`, and its window of keys. -/
abbrev qR (i : Fin 32) : Rect S4096x512 := Rect.unit (s := S4096x512) ![128 * i.val, 0] S128x512.size (q_inb i)
abbrev kR (i : Fin 32) : Rect S4608x512 := Rect.unit (s := S4608x512) ![128 * i.val, 0] S640x512.size (k_inb i)

section
variable (Y : Vec F S4096x512 .bf16) (B : Vec F S8x640x128 .f32) (Q : Vec F S4096x512 .bf16) (K V : Vec F S4608x512 .bf16)

/-- The scores of block `i`, before the mask. -/
def scoresOf (i : Fin 32) : FVec F S640x1024 .f32 :=
  scores (scaled (cut (qR i) Q)) (cut (kR i) K) fun h => cut (slab h) B

/-- The weights of block `i`: the first four blocks mask. -/
def weights (i : Fin 32) : FVec F S640x1024 .f32 :=
  if h : i.val < 4 then soft (masked (k0_pay10 0#32 1#32 ⟨i.val, trips1 ▸ h⟩) (scoresOf B Q K i)) else soft (scoresOf B Q K i)

/-- The scores' gradient of block `i`. -/
def grads (i : Fin 32) : FVec F S640x1024 .f32 := dscores (weights B Q K i) (cut (kR i) V) (rowsOf (cut (qR i) Y))

/-- The four outputs after `n` blocks, from what they held before the first. -/
def dqN (A : Vec F S4096x512 .bf16) : ℕ → Vec F S4096x512 .bf16
  | 0 => A
  | n + 1 => if h : n < 32 then puts [⟨qR ⟨n, h⟩, dqOf (grads Y B Q K V ⟨n, h⟩) (cut (kR ⟨n, h⟩) K)⟩] (dqN A n) else dqN A n
def dkN (A : Vec F S4608x512 .f32) : ℕ → Vec F S4608x512 .f32
  | 0 => A
  | n + 1 => if h : n < 32 then puts [⟨kR ⟨n, h⟩, accOf (grads Y B Q K V ⟨n, h⟩) (scaled (cut (qR ⟨n, h⟩) Q)) (cut (kR ⟨n, h⟩) (dkN A n))⟩] (dkN A n) else dkN A n
def dvN (A : Vec F S4608x512 .f32) : ℕ → Vec F S4608x512 .f32
  | 0 => A
  | n + 1 => if h : n < 32 then puts [⟨kR ⟨n, h⟩, accOf (weights B Q K ⟨n, h⟩) (rowsOf (cut (qR ⟨n, h⟩) Y)) (cut (kR ⟨n, h⟩) (dvN A n))⟩] (dvN A n) else dvN A n
def dbN (A : Vec F S8x640x128 .f32) : ℕ → Vec F S8x640x128 .f32
  | 0 => A
  | n + 1 => if h : n < 32 then puts (List.ofFn fun j : Fin 8 => ⟨slab j.rev, dbOf (grads Y B Q K V ⟨n, h⟩) j.rev (cut (slab j.rev) (dbN A n))⟩) (dbN A n) else dbN A n
end

theorem off1 : ∀ k : Fin k0_t1_loop.trips, k0_off1 k = ![128 * k.val, 0] ∧ k0_off2 k = ![128 * k.val, 0] := by decide
theorem off2 : ∀ k : Fin k0_t2_loop.trips, k0_off3 k = ![128 * (k.val + 4), 0] ∧ k0_off4 k = ![128 * (k.val + 4), 0] := by decide

/-- A block's number in the first loop and in the second. -/
abbrev i1 (k : Fin k0_t1_loop.trips) : Fin 32 := ⟨k.val, by have := k.isLt.trans_eq trips1; omega⟩
abbrev i2 (k : Fin k0_t2_loop.trips) : Fin 32 := ⟨k.val + 4, by have := k.isLt.trans_eq trips2; omega⟩

/-- Rectangles of one size at equal offsets cut the same and place the same pieces. -/
theorem cut_unit {α : Type} {s : Shape} {o o' size : Fin s.rank → Nat} (h : o = o') (inb inb') (A : s.Idx → α) :
    (cut (Rect.unit (s := s) o size inb) A : (Rect.unit (s := s) o' size inb').shape.Idx → α) = cut (Rect.unit (s := s) o' size inb') A := by
  subst h; rfl
theorem piece_unit {Val : EltTy → Type} {s : Shape} {e : EltTy} {o o' size : Fin s.rank → Nat} (h : o = o') (inb inb')
    (w : (⟨s.rank, size⟩ : Shape).Idx → Val e) :
    (⟨Rect.unit (s := s) o size inb, w⟩ : View.Piece Val s e) = ⟨Rect.unit (s := s) o' size inb', w⟩ := by
  subst h; rfl

theorem cut_q1 (k : Fin k0_t1_loop.trips) {α : Type} (A : S4096x512.Idx → α) : (cut (qRect1 k) A : S128x512.Idx → α) = cut (qR (i1 k)) A := cut_unit (off1 k).1 _ _ A
theorem cut_k1 (k : Fin k0_t1_loop.trips) {α : Type} (A : S4608x512.Idx → α) : (cut (kRect1 k) A : S640x512.Idx → α) = cut (kR (i1 k)) A := cut_unit (off1 k).2 _ _ A
theorem cut_q2 (k : Fin k0_t2_loop.trips) {α : Type} (A : S4096x512.Idx → α) : (cut (qRect2 k) A : S128x512.Idx → α) = cut (qR (i2 k)) A := cut_unit (off2 k).1 _ _ A
theorem cut_k2 (k : Fin k0_t2_loop.trips) {α : Type} (A : S4608x512.Idx → α) : (cut (kRect2 k) A : S640x512.Idx → α) = cut (kR (i2 k)) A := cut_unit (off2 k).2 _ _ A

theorem piece_q1 (k : Fin k0_t1_loop.trips) (w : FVec F S128x512 .bf16) :
    (⟨qRect1 k, w⟩ : View.Piece (Elt F) S4096x512 .bf16) = ⟨qR (i1 k), w⟩ := piece_unit (Val := Elt F) (s := S4096x512) (e := .bf16) (size := S128x512.size) (off1 k).1 _ _ w
theorem piece_k1 (k : Fin k0_t1_loop.trips) (w : FVec F S640x512 .f32) :
    (⟨kRect1 k, w⟩ : View.Piece (Elt F) S4608x512 .f32) = ⟨kR (i1 k), w⟩ := piece_unit (Val := Elt F) (s := S4608x512) (e := .f32) (size := S640x512.size) (off1 k).2 _ _ w
theorem piece_q2 (k : Fin k0_t2_loop.trips) (w : FVec F S128x512 .bf16) :
    (⟨qRect2 k, w⟩ : View.Piece (Elt F) S4096x512 .bf16) = ⟨qR (i2 k), w⟩ := piece_unit (Val := Elt F) (s := S4096x512) (e := .bf16) (size := S128x512.size) (off2 k).1 _ _ w
theorem piece_k2 (k : Fin k0_t2_loop.trips) (w : FVec F S640x512 .f32) :
    (⟨kRect2 k, w⟩ : View.Piece (Elt F) S4608x512 .f32) = ⟨kR (i2 k), w⟩ := piece_unit (Val := Elt F) (s := S4608x512) (e := .f32) (size := S640x512.size) (off2 k).2 _ _ w

theorem weights1_eq (k : Fin k0_t1_loop.trips) (B : Vec F S8x640x128 .f32) (Q : Vec F S4096x512 .bf16) (K : Vec F S4608x512 .bf16) :
    weights1 k B Q K = weights B Q K (i1 k) := by
  have hk : (i1 k).val < 4 := k.isLt.trans_eq trips1
  unfold weights1 weights scoresOf
  rw [dif_pos hk, cut_q1, cut_k1]

theorem weights2_eq (k : Fin k0_t2_loop.trips) (B : Vec F S8x640x128 .f32) (Q : Vec F S4096x512 .bf16) (K : Vec F S4608x512 .bf16) :
    weights2 k B Q K = weights B Q K (i2 k) := by
  have hk : ¬ (i2 k).val < 4 := by show ¬ k.val + 4 < 4; omega
  unfold weights2 weights scoresOf
  rw [dif_neg hk, cut_q2, cut_k2]

section
variable (𝒱 : Variants) (c : Dev nD) (bd : Option 𝒱.V) (arg0 : Memref sig .tc .hbm S4096x1536 .bf16) (harg0 : arg0.IsWhole) (arg1 : Memref sig .tc .vmem S4096x512 .bf16) (harg1 : arg1.IsWhole) (arg2 : Memref sig .tc .vmem S8x640x128 .f32) (harg2 : arg2.IsWhole) (arg3 : Memref sig .tc .vmem S4096x512 .bf16) (harg3 : arg3.IsWhole) (arg4 : Memref sig .tc .vmem S4608x512 .f32) (harg4 : arg4.IsWhole) (arg5 : Memref sig .tc .vmem S4608x512 .f32) (harg5 : arg5.IsWhole) (arg6 : Memref sig .tc .vmem S8x640x128 .f32) (harg6 : arg6.IsWhole) (arg7 : Memref sig .tc .vmem S4096x512 .bf16) (harg7 : arg7.IsWhole) (arg8 : Memref sig .tc .vmem S4608x512 .bf16) (harg8 : arg8.IsWhole) (arg9 : Memref sig .tc .vmem S4608x512 .bf16) (harg9 : arg9.IsWhole) (arg10 : DmaSems sig S3)
  (X1 : BufTy.Contents (Elt F) arg1.view.ty) (X2 : BufTy.Contents (Elt F) arg2.view.ty) (X7 : BufTy.Contents (Elt F) arg7.view.ty) (X8 : BufTy.Contents (Elt F) arg8.view.ty) (X9 : BufTy.Contents (Elt F) arg9.view.ty)
  (f3 : BufTy.Contents (Elt F) arg3.view.ty) (f4 : BufTy.Contents (Elt F) arg4.view.ty) (f5 : BufTy.Contents (Elt F) arg5.view.ty) (f6 : BufTy.Contents (Elt F) arg6.view.ty)

/-- What the outputs read after the first loop's trips before `k`. -/
theorem reads1 (k : ℕ) (hk : k ≤ 4) :
    let pb := pb_k0_t1 𝒱 c bd arg0 harg0 arg1 harg1 arg2 harg2 arg3 harg3 arg4 harg4 arg5 harg5 arg6 harg6 arg7 harg7 arg8 harg8 arg9 harg9 arg10 X1 X2 X7 X8 X9 f3 f4 f5 f6 k
    let Y := arg1.view.read (Elt F) X1; let B := arg2.view.read (Elt F) X2; let Q := arg7.view.read (Elt F) X7
    let K := arg8.view.read (Elt F) X8; let V := arg9.view.read (Elt F) X9
    arg3.view.read (Elt F) (arg3.view.writes (Elt F) f3 pb.1) = dqN Y B Q K V (arg3.view.read (Elt F) f3) (k)
      ∧ arg4.view.read (Elt F) (arg4.view.writes (Elt F) f4 pb.2.1) = dkN Y B Q K V (arg4.view.read (Elt F) f4) (k)
      ∧ arg5.view.read (Elt F) (arg5.view.writes (Elt F) f5 pb.2.2.1) = dvN Y B Q K (arg5.view.read (Elt F) f5) (k)
      ∧ arg6.view.read (Elt F) (arg6.view.writes (Elt F) f6 pb.2.2.2) = dbN Y B Q K V (arg6.view.read (Elt F) f6) (k) := by
  induction k with
  | zero => exact ⟨rfl, rfl, rfl, rfl⟩
  | succ k ih =>
    obtain ⟨g3, g4, g5, g6⟩ := ih (by omega)
    have hlt : k < 32 := by omega
    have hs := pb_k0_t1_succ 𝒱 c bd arg0 harg0 arg1 harg1 arg2 harg2 arg3 harg3 arg4 harg4 arg5 harg5 arg6 harg6 arg7 harg7 arg8 harg8 arg9 harg9 arg10 X1 X2 X7 X8 X9 f3 f4 f5 f6 ⟨k, by rw [trips1]; omega⟩
    refine ⟨?_, ?_, ?_, ?_⟩
    · refine (congrArg (fun p => arg3.view.read (Elt F) (arg3.view.writes (Elt F) f3 p.1)) hs).trans ?_
      dsimp only
      rw [View.writes_append, read_puts, g3, trip1_dq]
      refine Eq.trans ?_ (dif_pos hlt).symm
      rw [weights1_eq, cut_q1, cut_k1, cut_k1]
      exact congrArg (fun p => puts [p] _) (piece_q1 _ _)
    · refine (congrArg (fun p => arg4.view.read (Elt F) (arg4.view.writes (Elt F) f4 p.2.1)) hs).trans ?_
      dsimp only
      rw [View.writes_append, read_puts, g4, trip1_dk, g4]
      refine Eq.trans ?_ (dif_pos hlt).symm
      rw [weights1_eq, cut_q1, cut_q1, cut_k1, cut_k1]
      exact congrArg (fun p => puts [p] _) (piece_k1 _ _)
    · refine (congrArg (fun p => arg5.view.read (Elt F) (arg5.view.writes (Elt F) f5 p.2.2.1)) hs).trans ?_
      dsimp only
      rw [View.writes_append, read_puts, g5, trip1_dv, g5]
      refine Eq.trans ?_ (dif_pos hlt).symm
      rw [weights1_eq, cut_q1, cut_k1]
      exact congrArg (fun p => puts [p] _) (piece_k1 _ _)
    · refine (congrArg (fun p => arg6.view.read (Elt F) (arg6.view.writes (Elt F) f6 p.2.2.2)) hs).trans ?_
      dsimp only
      rw [View.writes_append, read_puts, g6, trip1_db, g6]
      refine Eq.trans ?_ (dif_pos hlt).symm
      rw [weights1_eq, cut_q1, cut_k1]
      rfl

/-- What the outputs read after the second loop's trips before `k`, the first loop's having left what it leaves. -/
theorem reads2
    (A3 : Vec F S4096x512 .bf16) (A4 A5 : Vec F S4608x512 .f32) (A6 : Vec F S8x640x128 .f32)
    (h3 : arg3.view.read (Elt F) f3 = dqN (arg1.view.read (Elt F) X1) (arg2.view.read (Elt F) X2) (arg7.view.read (Elt F) X7) (arg8.view.read (Elt F) X8) (arg9.view.read (Elt F) X9) A3 4)
    (h4 : arg4.view.read (Elt F) f4 = dkN (arg1.view.read (Elt F) X1) (arg2.view.read (Elt F) X2) (arg7.view.read (Elt F) X7) (arg8.view.read (Elt F) X8) (arg9.view.read (Elt F) X9) A4 4)
    (h5 : arg5.view.read (Elt F) f5 = dvN (arg1.view.read (Elt F) X1) (arg2.view.read (Elt F) X2) (arg7.view.read (Elt F) X7) (arg8.view.read (Elt F) X8) A5 4)
    (h6 : arg6.view.read (Elt F) f6 = dbN (arg1.view.read (Elt F) X1) (arg2.view.read (Elt F) X2) (arg7.view.read (Elt F) X7) (arg8.view.read (Elt F) X8) (arg9.view.read (Elt F) X9) A6 4)(k : ℕ) (hk : k ≤ 28) :
    let pb := pb_k0_t2 𝒱 c bd arg0 harg0 arg1 harg1 arg2 harg2 arg3 harg3 arg4 harg4 arg5 harg5 arg6 harg6 arg7 harg7 arg8 harg8 arg9 harg9 arg10 X1 X2 X7 X8 X9 f3 f4 f5 f6 k
    let Y := arg1.view.read (Elt F) X1; let B := arg2.view.read (Elt F) X2; let Q := arg7.view.read (Elt F) X7
    let K := arg8.view.read (Elt F) X8; let V := arg9.view.read (Elt F) X9
    arg3.view.read (Elt F) (arg3.view.writes (Elt F) f3 pb.1) = dqN Y B Q K V A3 (k + 4)
      ∧ arg4.view.read (Elt F) (arg4.view.writes (Elt F) f4 pb.2.1) = dkN Y B Q K V A4 (k + 4)
      ∧ arg5.view.read (Elt F) (arg5.view.writes (Elt F) f5 pb.2.2.1) = dvN Y B Q K A5 (k + 4)
      ∧ arg6.view.read (Elt F) (arg6.view.writes (Elt F) f6 pb.2.2.2) = dbN Y B Q K V A6 (k + 4) := by
  induction k with
  | zero => exact ⟨h3, h4, h5, h6⟩
  | succ k ih =>
    obtain ⟨g3, g4, g5, g6⟩ := ih (by omega)
    have hlt : k + 4 < 32 := by omega
    have hs := pb_k0_t2_succ 𝒱 c bd arg0 harg0 arg1 harg1 arg2 harg2 arg3 harg3 arg4 harg4 arg5 harg5 arg6 harg6 arg7 harg7 arg8 harg8 arg9 harg9 arg10 X1 X2 X7 X8 X9 f3 f4 f5 f6 ⟨k, by rw [trips2]; omega⟩
    refine ⟨?_, ?_, ?_, ?_⟩
    · refine (congrArg (fun p => arg3.view.read (Elt F) (arg3.view.writes (Elt F) f3 p.1)) hs).trans ?_
      dsimp only
      rw [View.writes_append, read_puts, g3, trip2_dq]
      refine Eq.trans ?_ (dif_pos hlt).symm
      rw [weights2_eq, cut_q2, cut_k2, cut_k2]
      exact congrArg (fun p => puts [p] _) (piece_q2 _ _)
    · refine (congrArg (fun p => arg4.view.read (Elt F) (arg4.view.writes (Elt F) f4 p.2.1)) hs).trans ?_
      dsimp only
      rw [View.writes_append, read_puts, g4, trip2_dk, g4]
      refine Eq.trans ?_ (dif_pos hlt).symm
      rw [weights2_eq, cut_q2, cut_q2, cut_k2, cut_k2]
      exact congrArg (fun p => puts [p] _) (piece_k2 _ _)
    · refine (congrArg (fun p => arg5.view.read (Elt F) (arg5.view.writes (Elt F) f5 p.2.2.1)) hs).trans ?_
      dsimp only
      rw [View.writes_append, read_puts, g5, trip2_dv, g5]
      refine Eq.trans ?_ (dif_pos hlt).symm
      rw [weights2_eq, cut_q2, cut_k2]
      exact congrArg (fun p => puts [p] _) (piece_k2 _ _)
    · refine (congrArg (fun p => arg6.view.read (Elt F) (arg6.view.writes (Elt F) f6 p.2.2.2)) hs).trans ?_
      dsimp only
      rw [View.writes_append, read_puts, g6, trip2_db, g6]
      refine Eq.trans ?_ (dif_pos hlt).symm
      rw [weights2_eq, cut_q2, cut_k2]
      rfl

end
end Cert.AttBwdIdeal.Att
end
-- ==== Proof.Att.Run.lean ====
module

public import proofs.«01_k».proof.Proof.Gen.AttBwdIdeal.Frame.Runs
public import proofs.«01_k».proof.Proof.Att.State

@[expose] public section

-- membership in a rectangle of production extents (`View.cover_of_tiled`): the elaborator's structural look
-- recurses once per coordinate of the long axes
set_option maxRecDepth 16384

noncomputable section

namespace Cert.AttBwdIdeal.Att
open Cert.AttBwdIdeal Cert.AttBwdIdeal.Gen Cert.Puts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The four outputs of the body from the arrays its loops read. -/
def outDq (Y : Vec F S4096x512 .bf16) (B : Vec F S8x640x128 .f32) (Q : Vec F S4096x512 .bf16) (K V : Vec F S4608x512 .bf16) : Vec F S4096x512 .bf16 := dqN Y B Q K V Y 32
def outDk (Y : Vec F S4096x512 .bf16) (B : Vec F S8x640x128 .f32) (Q : Vec F S4096x512 .bf16) (K V : Vec F S4608x512 .bf16) : Vec F S4608x512 .f32 := dkN Y B Q K V (fun _ => Scalar.ofBits .f32 0x00000000#32) 32
def outDv (Y : Vec F S4096x512 .bf16) (B : Vec F S8x640x128 .f32) (Q : Vec F S4096x512 .bf16) (K : Vec F S4608x512 .bf16) : Vec F S4608x512 .f32 := dvN Y B Q K (fun _ => Scalar.ofBits .f32 0x00000000#32) 32
def outDb (Y : Vec F S4096x512 .bf16) (B : Vec F S8x640x128 .f32) (Q : Vec F S4096x512 .bf16) (K V : Vec F S4608x512 .bf16) : Vec F S8x640x128 .f32 := dbN Y B Q K V (fun _ => Scalar.ofBits .f32 0x00000000#32) 32

/-- The operand's array, as the kernel finds it. -/
def srcOf (c : Dev nD) (fh0 : HbBuf0 (F := F) c hbM0_0) : Vec F S4096x1536 .bf16 := View.read (Elt F) (Memref.whole main_v7).view fh0

/-- The queries: the operand's first 512 columns. -/
def qOf (W : Vec F S4096x1536 .bf16) : Vec F S4096x512 .bf16 :=
  cut (Rect.unit (s := S4096x1536) ![0, 0] S4096x512.size inb_S4096x1536_S4096x512_0_0) W

/-- The keys: 512 rows of zeros before the operand's middle 512 columns. -/
def kOf (W : Vec F S4096x1536 .bf16) : Vec F S4608x512 .bf16 :=
  puts [⟨Rect.unit (s := S4608x512) ![0, 0] S512x512.size inb_S4608x512_S512x512_0_0, k0_pay97⟩,
    ⟨Rect.unit (s := S4608x512) ![512, 0] S4096x512.size inb_S4608x512_S4096x512_512_0,
      cut (Rect.unit (s := S4096x1536) ![0, 512] S4096x512.size inb_S4096x1536_S4096x512_0_512) W⟩] fun _ => Scalar.ofBits .bf16 0x0000#16

/-- The values: the same of the operand's last 512 columns. -/
def vOf (W : Vec F S4096x1536 .bf16) : Vec F S4608x512 .bf16 :=
  puts [⟨Rect.unit (s := S4608x512) ![0, 0] S512x512.size inb_S4608x512_S512x512_0_0, k0_pay98⟩,
    ⟨Rect.unit (s := S4608x512) ![512, 0] S4096x512.size inb_S4608x512_S4096x512_512_0,
      cut (Rect.unit (s := S4096x1536) ![0, 1024] S4096x512.size inb_S4096x1536_S4096x512_0_1024) W⟩] fun _ => Scalar.ofBits .bf16 0x0000#16

/-- Of the queries' gradient nothing is left of what the buffer held. -/
theorem dqN_base (Y : Vec F S4096x512 .bf16) (B : Vec F S8x640x128 .f32) (Q : Vec F S4096x512 .bf16) (K V : Vec F S4608x512 .bf16)
    (A A' : Vec F S4096x512 .bf16) (n : ℕ) (hn : n ≤ 32) (y : S4096x512.Idx) (hy : (y 0).val < 128 * n) :
    dqN Y B Q K V A n y = dqN Y B Q K V A' n y := by
  induction n with
  | zero => omega
  | succ n ih =>
    have h : n < 32 := by omega
    have e : ∀ A, dqN Y B Q K V A (n + 1) = put (qR ⟨n, h⟩) (dqOf (grads Y B Q K V ⟨n, h⟩) (cut (kR ⟨n, h⟩) K)) (dqN Y B Q K V A n) :=
      fun A => by show dite _ _ _ = _; rw [dif_pos h]; rfl
    rw [e, e]
    by_cases hm : (y 0).val < 128 * n
    · have hms := fun C => rows_miss (R := 4096) (W := 512) (n := 128) (o := 128 * n) (q_inb ⟨n, h⟩) (dqOf (grads Y B Q K V ⟨n, h⟩) (cut (kR ⟨n, h⟩) K)) C y (.inl hm)
      exact (hms _).trans ((ih (by omega) hm).trans (hms _).symm)
    · have hx := fun C => rows_hit (R := 4096) (W := 512) (n := 128) (o := 128 * n) (q_inb ⟨n, h⟩) (dqOf (grads Y B Q K V ⟨n, h⟩) (cut (kR ⟨n, h⟩) K)) C y (by omega) (by omega)
      exact (hx _).trans (hx _).symm

/-- A buffer written whole reads what was written. -/
theorem read_whole {sp : Space} {s : Shape} {e : EltTy} (v : View sig .tc sp s e) (f : v.ty.Contents (Elt F)) (w : Vec F s e) :
    v.read (Elt F) (v.writes (Elt F) f [⟨Rect.whole s, w⟩]) = w := (read_puts v f _).trans (put_whole _ _)

/-- The staged keys, whatever the buffer held before. -/
theorem read_k (v : View sig .tc .vmem S4608x512 .bf16) (f : v.ty.Contents (Elt F)) (W : Vec F S4096x1536 .bf16) :
    v.read (Elt F) (v.writes (Elt F) f [⟨Rect.unit (s := S4608x512) ![0, 0] S512x512.size inb_S4608x512_S512x512_0_0, k0_pay97⟩,
      ⟨Rect.unit (s := S4608x512) ![512, 0] S4096x512.size inb_S4608x512_S4096x512_512_0,
        cut (Rect.unit (s := S4096x1536) ![0, 512] S4096x512.size inb_S4096x1536_S4096x512_0_512) W⟩]) = kOf W := by
  rw [kOf, read_puts, puts_cons, puts_cons, puts_cons, puts_cons]
  exact rows_cover (R := 4608) (W := 512) (n := 512) (k := 4096) inb_S4608x512_S512x512_0_0 inb_S4608x512_S4096x512_512_0 k0_pay97
    (cut (Rect.unit (s := S4096x1536) ![0, 512] S4096x512.size inb_S4096x1536_S4096x512_0_512) W) (v.read (Elt F) f) (fun _ => Scalar.ofBits .bf16 0x0000#16) (by omega)

/-- The staged values, whatever the buffer held before. -/
theorem read_v (v : View sig .tc .vmem S4608x512 .bf16) (f : v.ty.Contents (Elt F)) (W : Vec F S4096x1536 .bf16) :
    v.read (Elt F) (v.writes (Elt F) f [⟨Rect.unit (s := S4608x512) ![0, 0] S512x512.size inb_S4608x512_S512x512_0_0, k0_pay98⟩,
      ⟨Rect.unit (s := S4608x512) ![512, 0] S4096x512.size inb_S4608x512_S4096x512_512_0,
        cut (Rect.unit (s := S4096x1536) ![0, 1024] S4096x512.size inb_S4096x1536_S4096x512_0_1024) W⟩]) = vOf W := by
  rw [vOf, read_puts, puts_cons, puts_cons, puts_cons, puts_cons]
  exact rows_cover (R := 4608) (W := 512) (n := 512) (k := 4096) inb_S4608x512_S512x512_0_0 inb_S4608x512_S4096x512_512_0 k0_pay98
    (cut (Rect.unit (s := S4096x1536) ![0, 1024] S4096x512.size inb_S4096x1536_S4096x512_0_1024) W) (v.read (Elt F) f) (fun _ => Scalar.ofBits .bf16 0x0000#16) (by omega)

/-- A buffer written whole with one constant reads the constant. -/
theorem read_const {sp : Space} {s : Shape} {e : EltTy} (v : View sig .tc sp s e) (f : v.ty.Contents (Elt F)) (off size) (h) (a : Elt F e) (h' : ∀ a, off a = 0 ∧ size a = s.size a) :
    v.read (Elt F) (v.writes (Elt F) f [⟨Rect.unit off size h, fun _ => a⟩]) = fun _ => a := (read_puts v f _).trans (put_all h a _ h')

section
variable (𝒱 : Variants) (c : Dev nD) (bd : Option 𝒱.V) (arg0 : Memref sig .tc .hbm S4096x1536 .bf16) (harg0 : arg0.IsWhole) (arg1 : Memref sig .tc .vmem S4096x512 .bf16) (harg1 : arg1.IsWhole) (arg2 : Memref sig .tc .vmem S8x640x128 .f32) (harg2 : arg2.IsWhole) (arg3 : Memref sig .tc .vmem S4096x512 .bf16) (harg3 : arg3.IsWhole) (arg4 : Memref sig .tc .vmem S4608x512 .f32) (harg4 : arg4.IsWhole) (arg5 : Memref sig .tc .vmem S4608x512 .f32) (harg5 : arg5.IsWhole) (arg6 : Memref sig .tc .vmem S8x640x128 .f32) (harg6 : arg6.IsWhole) (arg7 : Memref sig .tc .vmem S4096x512 .bf16) (harg7 : arg7.IsWhole) (arg8 : Memref sig .tc .vmem S4608x512 .bf16) (harg8 : arg8.IsWhole) (arg9 : Memref sig .tc .vmem S4608x512 .bf16) (harg9 : arg9.IsWhole) (arg10 : DmaSems sig S3)
  (X1 : BufTy.Contents (Elt F) arg1.view.ty) (X2 : BufTy.Contents (Elt F) arg2.view.ty) (X7 : BufTy.Contents (Elt F) arg7.view.ty) (X8 : BufTy.Contents (Elt F) arg8.view.ty) (X9 : BufTy.Contents (Elt F) arg9.view.ty)
  (f3 : BufTy.Contents (Elt F) arg3.view.ty) (f4 : BufTy.Contents (Elt F) arg4.view.ty) (f5 : BufTy.Contents (Elt F) arg5.view.ty) (f6 : BufTy.Contents (Elt F) arg6.view.ty)

/-- What the four outputs read after both loops, where the accumulators were written with zeros before them. -/
theorem outs_read (L4 : List (View.Piece (Elt F) S4608x512 .f32)) (L5 : List (View.Piece (Elt F) S4608x512 .f32)) (L6 : List (View.Piece (Elt F) S8x640x128 .f32))
    (n1 n2 : ℕ) (hn1 : n1 = 4) (hn2 : n2 = 28)
    (Y : Vec F S4096x512 .bf16) (B : Vec F S8x640x128 .f32) (Q : Vec F S4096x512 .bf16) (K V : Vec F S4608x512 .bf16)
    (e1 : arg1.view.read (Elt F) X1 = Y) (e2 : arg2.view.read (Elt F) X2 = B) (e7 : arg7.view.read (Elt F) X7 = Q)
    (e8 : arg8.view.read (Elt F) X8 = K) (e9 : arg9.view.read (Elt F) X9 = V)
    (e4 : arg4.view.read (Elt F) (arg4.view.writes (Elt F) f4 L4) = fun _ => Scalar.ofBits .f32 0x00000000#32) (e5 : arg5.view.read (Elt F) (arg5.view.writes (Elt F) f5 L5) = fun _ => Scalar.ofBits .f32 0x00000000#32)
    (e6 : arg6.view.read (Elt F) (arg6.view.writes (Elt F) f6 L6) = fun _ => Scalar.ofBits .f32 0x00000000#32) :
    arg3.view.read (Elt F) (arg3.view.writes (Elt F) f3 ((pb_k0_t2 𝒱 c bd arg0 harg0 arg1 harg1 arg2 harg2 arg3 harg3 arg4 harg4 arg5 harg5 arg6 harg6 arg7 harg7 arg8 harg8 arg9 harg9 arg10 X1 X2 X7 X8 X9 (arg3.view.writes (Elt F) f3 (pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).1) (arg4.view.writes (Elt F) f4 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).2.1 ++ L4)) (arg5.view.writes (Elt F) f5 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).2.2.1 ++ L5)) (arg6.view.writes (Elt F) f6 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).2.2.2 ++ L6)) n2).1 ++ (pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).1)) = outDq Y B Q K V
    ∧ arg4.view.read (Elt F) (arg4.view.writes (Elt F) f4 ((pb_k0_t2 𝒱 c bd arg0 harg0 arg1 harg1 arg2 harg2 arg3 harg3 arg4 harg4 arg5 harg5 arg6 harg6 arg7 harg7 arg8 harg8 arg9 harg9 arg10 X1 X2 X7 X8 X9 (arg3.view.writes (Elt F) f3 (pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).1) (arg4.view.writes (Elt F) f4 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).2.1 ++ L4)) (arg5.view.writes (Elt F) f5 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).2.2.1 ++ L5)) (arg6.view.writes (Elt F) f6 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).2.2.2 ++ L6)) n2).2.1 ++ ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).2.1 ++ L4))) = outDk Y B Q K V
    ∧ arg5.view.read (Elt F) (arg5.view.writes (Elt F) f5 ((pb_k0_t2 𝒱 c bd arg0 harg0 arg1 harg1 arg2 harg2 arg3 harg3 arg4 harg4 arg5 harg5 arg6 harg6 arg7 harg7 arg8 harg8 arg9 harg9 arg10 X1 X2 X7 X8 X9 (arg3.view.writes (Elt F) f3 (pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).1) (arg4.view.writes (Elt F) f4 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).2.1 ++ L4)) (arg5.view.writes (Elt F) f5 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).2.2.1 ++ L5)) (arg6.view.writes (Elt F) f6 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).2.2.2 ++ L6)) n2).2.2.1 ++ ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).2.2.1 ++ L5))) = outDv Y B Q K
    ∧ arg6.view.read (Elt F) (arg6.view.writes (Elt F) f6 ((pb_k0_t2 𝒱 c bd arg0 harg0 arg1 harg1 arg2 harg2 arg3 harg3 arg4 harg4 arg5 harg5 arg6 harg6 arg7 harg7 arg8 harg8 arg9 harg9 arg10 X1 X2 X7 X8 X9 (arg3.view.writes (Elt F) f3 (pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).1) (arg4.view.writes (Elt F) f4 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).2.1 ++ L4)) (arg5.view.writes (Elt F) f5 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).2.2.1 ++ L5)) (arg6.view.writes (Elt F) f6 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).2.2.2 ++ L6)) n2).2.2.2 ++ ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) n1).2.2.2 ++ L6))) = outDb Y B Q K V := by
  subst hn1; subst hn2
  have h1 := reads1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) 4 le_rfl
  simp only [View.writes_append]
  have h2 := reads2 𝒱 c bd arg0 harg0 arg1 harg1 arg2 harg2 arg3 harg3 arg4 harg4 arg5 harg5 arg6 harg6 arg7 harg7 arg8 harg8 arg9 harg9 arg10 X1 X2 X7 X8 X9 _ _ _ _ _ _ _ _ h1.1 h1.2.1 h1.2.2.1 h1.2.2.2 28 le_rfl
  dsimp only at h2
  rw [e1, e2, e7, e8, e9, e4, e5, e6] at h2
  refine ⟨h2.1.trans ?_, h2.2.1, h2.2.2.1, h2.2.2.2⟩
  exact funext fun y => dqN_base _ _ _ _ _ _ _ 32 le_rfl y (y 0).isLt
end

set_option maxHeartbeats 1000000 in set_option sl_exec.dmaWindow true in set_option sl_exec.dmaWindowSet true in
/-- The body, run on whole staging memrefs: it leaves its inputs as they were and each output at its function of them. -/
theorem run_body (c : Dev nD) (arg1 : Memref sig .tc .vmem S4096x512 .bf16) (harg1 : arg1.IsWhole) (arg2 : Memref sig .tc .vmem S8x640x128 .f32) (harg2 : arg2.IsWhole) (arg3 : Memref sig .tc .vmem S4096x512 .bf16) (harg3 : arg3.IsWhole) (arg4 : Memref sig .tc .vmem S4608x512 .f32) (harg4 : arg4.IsWhole) (arg5 : Memref sig .tc .vmem S4608x512 .f32) (harg5 : arg5.IsWhole) (arg6 : Memref sig .tc .vmem S8x640x128 .f32) (harg6 : arg6.IsWhole) (arg7 : Memref sig .tc .vmem S4096x512 .bf16) (harg7 : arg7.IsWhole) (arg8 : Memref sig .tc .vmem S4608x512 .bf16) (harg8 : arg8.IsWhole) (arg9 : Memref sig .tc .vmem S4608x512 .bf16) (harg9 : arg9.IsWhole)
    (x0 : Vec F S4096x512 .bf16) (x1 : Vec F S8x640x128 .f32) (fh0 : HbBuf0 (F := F) c hbM0_0) :
∀ (W : Waits sig Unit) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 6) 0 ∗ semVal ((c : Thread nD τ), SemLoc.dma 7) 0 ∗ semVal ((c : Thread nD τ), SemLoc.dma 8) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare (outDq x0 x1 (qOf (srcOf c fh0)) (kOf (srcOf c fh0)) (vOf (srcOf c fh0))) ∗ owns (c : Thread nD τ) arg4 fullShare (outDk x0 x1 (qOf (srcOf c fh0)) (kOf (srcOf c fh0)) (vOf (srcOf c fh0))) ∗ owns (c : Thread nD τ) arg5 fullShare (outDv x0 x1 (qOf (srcOf c fh0)) (kOf (srcOf c fh0))) ∗ owns (c : Thread nD τ) arg6 fullShare (outDb x0 x1 (qOf (srcOf c fh0)) (kOf (srcOf c fh0)) (vOf (srcOf c fh0))) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 6) 0 ∗ semVal ((c : Thread nD τ), SemLoc.dma 7) 0 ∗ semVal ((c : Thread nD τ), SemLoc.dma 8) 0 ∗ hbPt0 c hbM0_0 fh0 ∗ (∃ W', owes (c : Thread nD τ) 0 W')) -∗ K ⟨⟩))
          ⊢ wp frame (wpE (defs₀ (F := F)) Variants.none c none) Set.univ (cc0_att_bwd (Memref.whole main_v7) (Memref.isWhole_whole _) arg1 harg1 arg2 harg2 arg3 harg3 arg4 harg4 arg5 harg5 arg6 harg6 arg7 harg7 arg8 harg8 arg9 harg9 cc0_scratch3) K := by
  intro W K
  simp only [cc0_att_bwd_eq_skeleton]; unfold cc0_att_bwd_skel
  simp only [k0_part13_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hq0, Hq1, Hq2, Hh0, HW, Hk⟩
  obtain rfl := harg1.eq_unread hf0; obtain rfl := harg2.eq_unread hf1
  sl_exec
  sl_step
  have e7 : arg7.view.read (Elt F) (arg7.view.writes (Elt F) arg7.view.junk [⟨Rect.whole S4096x512, run_body.sl.dma0 c fh0⟩]) = qOf (srcOf c fh0) := read_whole _ _ _
  have e8 : arg8.view.read (Elt F) (arg8.view.writes (Elt F) arg8.view.junk
    [⟨Rect.unit (s := S4608x512) ![0, 0] ![512, 512] inb_S4608x512_S512x512_0_0, k0_pay97⟩, ⟨Rect.unit (s := S4608x512) ![512, 0] ![4096, 512] inb_S4608x512_S4096x512_512_0, run_body.sl.dma0_1 c fh0⟩])
    = kOf (srcOf c fh0) := read_k arg8.view arg8.view.junk (srcOf c fh0)
  have e9 : arg9.view.read (Elt F) (arg9.view.writes (Elt F) arg9.view.junk
    [⟨Rect.unit (s := S4608x512) ![0, 0] ![512, 512] inb_S4608x512_S512x512_0_0, k0_pay98⟩, ⟨Rect.unit (s := S4608x512) ![512, 0] ![4096, 512] inb_S4608x512_S4096x512_512_0, run_body.sl.dma0_2 c fh0⟩])
    = vOf (srcOf c fh0) := read_v arg9.view arg9.view.junk (srcOf c fh0)
  have e4 := read_const (F := F) (s := S4608x512) arg4.view arg4.view.junk ![0, 0] S4608x512.size inb_S4608x512_S4608x512_0_0 (Scalar.ofBits .f32 0x00000000#32) (by decide)
  have e5 := read_const (F := F) (s := S4608x512) arg5.view arg5.view.junk ![0, 0] S4608x512.size inb_S4608x512_S4608x512_0_0 (Scalar.ofBits .f32 0x00000000#32) (by decide)
  have e6 := read_const (F := F) (s := S8x640x128) arg6.view arg6.view.junk ![0, 0, 0] S8x640x128.size inb_S8x640x128_S8x640x128_0_0_0 (Scalar.ofBits .f32 0x00000000#32) (by decide)
  have hr := outs_read (F := F) Variants.none c none (Memref.whole main_v7) (Memref.isWhole_whole _) arg1 harg1 arg2 harg2 arg3 harg3 arg4 harg4 arg5 harg5 arg6 harg6 arg7 harg7 arg8 harg8 arg9 harg9 cc0_scratch3
    (harg1.unread x0) (harg2.unread x1) _ _ _ f2 arg4.view.junk arg5.view.junk arg6.view.junk run_body.sl.H3_1 run_body.sl.H4_1 run_body.sl.H5_1
    (Scf.trips k0_t1_loop.lb k0_t1_loop.ub k0_t1_loop.st) (Scf.trips k0_t2_loop.lb k0_t2_loop.ub k0_t2_loop.st) trips1 trips2
    x0 x1 (qOf (srcOf c fh0)) (kOf (srcOf c fh0)) (vOf (srcOf c fh0)) (harg1.read_unread _) (harg2.read_unread _) e7 e8 e9 e4 e5 e6
  obtain ⟨r3, r4, r5, r6⟩ := hr
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro; exact r3
  isplitl [H3]
  · iexists _; isplitr; swap; · iexact H3
    ipureintro; exact r4
  isplitl [H4]
  · iexists _; isplitr; swap; · iexact H4
    ipureintro; exact r5
  isplitl [H5]
  · iexists _; isplitr; swap; · iexact H5
    ipureintro; exact r6
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [Hq0]; · iexact Hq0
  isplitl [Hq1]; · iexact Hq1
  isplitl [Hq2]; · iexact Hq2
  isplitl [Hh0]; · iexact Hh0
  iexists _; iexact HW

end Cert.AttBwdIdeal.Att
end
-- ==== Proof.Att.Launch.lean ====
module

public import proofs.«01_k».proof.Proof.Att.Run
public import Idealize.ShloMosaic.Lib.Claim

@[expose] public section

set_option maxRecDepth 16384

noncomputable section

namespace Cert.AttBwdIdeal.Att
open Cert.AttBwdIdeal Cert.AttBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The operand the body stages itself, as the region finds it. -/
def src (c : Dev nD) : Vec F S4096x1536 .bf16 := srcOf c (V m c main_v7)

/-- What the four outputs' staging buffers hold after the body at the pipeline's point. -/
def outsAt (c : Dev nD) (t : Fin cfg0.N) : Vec F S4096x512 .bf16 × Vec F S4608x512 .f32 × Vec F S4608x512 .f32 × Vec F S8x640x128 .f32 :=
  (outDq (iblk m c 0 t) (iblk m c 1 t) (qOf (src m c)) (kOf (src m c)) (vOf (src m c)),
   outDk (iblk m c 0 t) (iblk m c 1 t) (qOf (src m c)) (kOf (src m c)) (vOf (src m c)),
   outDv (iblk m c 0 t) (iblk m c 1 t) (qOf (src m c)) (kOf (src m c)),
   outDb (iblk m c 0 t) (iblk m c 1 t) (qOf (src m c)) (kOf (src m c)) (vOf (src m c)))

/-- The proof data of the one pipeline on core `c`: the arrays as the region finds them (`V`); after the body at
    point `t` each input's buffer at its block and the outputs' at `outsAt`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (outsAt m c t).1
    | ⟨3, _⟩ => (outsAt m c t).2.1
    | ⟨4, _⟩ => (outsAt m c t).2.2.1
    | ⟨5, _⟩ => (outsAt m c t).2.2.2
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt m c t).1 := by dsimp only [dats]
theorem after0_3 (c : Dev nD) (t : Fin cfg0.N) : (dats m 0 c).after 3 t = (outsAt m c t).2.1 := by dsimp only [dats]
theorem after0_4 (c : Dev nD) (t : Fin cfg0.N) : (dats m 0 c).after 4 t = (outsAt m c t).2.2.1 := by dsimp only [dats]
theorem after0_5 (c : Dev nD) (t : Fin cfg0.N) : (dats m 0 c).after 5 t = (outsAt m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at the point: the run applies to the blocks the inputs' buffers hold, and the invariant hands it its scratch, its
    semaphores and the operand it copies itself, and takes them back as they were. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    after0_0, after0_1, after0_2, after0_3, after0_4, after0_5]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outsAt src
  dsimp only
  iintro ⟨⟨⟨HS0, HS1, HS2⟩, Hg, ⟨Hq0, Hq1, Hq2⟩, Hh0⟩, ⟨%W, -, HW⟩, ⟨%d0, H0⟩, ⟨%d1, H1⟩, ⟨%d2, H2⟩, ⟨%d3, H3⟩, ⟨%d4, H4⟩, ⟨%d5, H5⟩⟩
  iapply (run_body c _ (hs0_0 t) _ (hs0_1 t) _ (hs0_2 t) _ (hs0_3 t) _ (hs0_4 t) _ (hs0_5 t) _ (Memref.isWhole_whole _) _ (Memref.isWhole_whole _) _ (Memref.isWhole_whole _) (iblk m c 0 t) (iblk m c 1 t) (V m c main_v7) W _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh0]; · iexact Hh0
  isplitl [HW]; · iexact HW
  iintro ⟨H0, H1, H2, H3, H4, H5, HS0, HS1, HS2, Hq0, Hq1, Hq2, Hh0, ⟨%W', HW'⟩⟩
  isplitl [HS0 HS1 HS2 Hg Hq0 Hq1 Hq2 Hh0]
  · isplitl [HS0 HS1 HS2]
    · isplitl [HS0]; · iexact HS0
      isplitl [HS1]; · iexact HS1
      iexact HS2
    isplitl [Hg]
    · iexact Hg
    isplitl [Hq0 Hq1 Hq2]
    · isplitl [Hq0]; · iexact Hq0
      isplitl [Hq1]; · iexact Hq1
      iexact Hq2
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_AttBwdIdeal`'s statement (Defs.lean) at any `F` — Proof.lean cites it at `Bits`:
    `theorem Cert.Proof.claim : Cert.Claim := ⟨Cert.AttBwdIdeal.Gen.facts, fun m ρ _ => Cert.AttBwdIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.AttBwdIdeal.Att

end
-- ==== Proof.Att.Frames.lean ====
module

public import proofs.«01_k».proof.Defs
public import proofs.«01_k».proof.Proof.Att.Launch
public import proofs.«01_k».proof.Proof.Gen.AttBwd
public import proofs.«01_k».proof.Proof.Gen.AttBwdRefIdeal.Run

@[expose] public section

set_option maxRecDepth 16384

noncomputable section

namespace Cert.AttBwdIdeal.Att
open Idealize.ShloMosaic Idealize.ShloMosaic.TcCoe
open Idealize.SL.Sem

/-- Over machine words a named constant is the word it was printed as. -/
abbrev wordNamed : Named Bits where
  named _ _ {_} bits := Scalar.ofBits _ bits

/-- The kernel as printed: the ideal program's run, at machine words. -/
theorem frame_kernel : Cert.quiescent_AttBwd := by
  intro m ρ _
  letI := wordNamed
  have h := Cert.AttBwdIdeal.Att.frame (F := Bits) m ρ
  have e : Cert.AttBwd.main (F := Bits) = Cert.AttBwdIdeal.main (F := Bits) := by sl_kernel_rfl
  have e' : Cert.AttBwd.defs (F := Bits) = Cert.AttBwdIdeal.defs (F := Bits) := by sl_kernel_rfl
  rw [e, e']
  exact h

/-- The reference's frame. -/
theorem frame_ref : Cert.quiescent_AttBwdRefIdeal := by
  intro m g _
  exact (θ_run Cert.AttBwdRefIdeal.defs _ _).mono (fun r h => ⟨fun c => (h c).2.2.2.2,
    Idealize.ShloMosaic.sem_eq_zero_of_no_sems (by decide) r.2⟩) (Cert.AttBwdRefIdeal.Value.run (F := Ideal) m g)

/-- The one named site: the mask's word stands for −∞. -/
theorem preserves : Cert.preserves_AttBwd_AttBwdIdeal := by
  unfold Cert.preserves_AttBwd_AttBwdIdeal
  exact IdealRules.named_const.statement _ _ _ _ _ rfl

end Cert.AttBwdIdeal.Att

end
-- ==== Proof.Att.Points.lean ====
module
public import proofs.«01_k».proof.Proof.Att.Block
public import Idealize.ShloMosaic.Lib.Pipeline.ValueKit
public import Idealize.ShloMosaic.Lib.Pointwise
public import Idealize.ShloMosaic.PureOps.IdealRules

/-! The vectors of one block over the extended reals, read entry by entry: a score, a weight, their gradients. -/

@[expose] public section
set_option maxRecDepth 16384
noncomputable section
open Idealize.ShloMosaic Idealize.ShloMosaic.TcCoe

namespace Cert.AttBwdIdeal.Att
open Cert.AttBwdIdeal Facts₀ Facts

/-- Column `d` of head `h`, and lane `r` of head `h`. -/
abbrev col (h : Fin 8) (d : Fin 64) : Fin 512 := ⟨64 * h.val + d.val, by omega⟩
abbrev lane (h : Fin 8) (r : Fin 128) : Fin 1024 := ⟨128 * h.val + r.val, by omega⟩

/-- The words of −∞, 1 and the two eighths. -/
theorem ninf_word : Ideal.ofBits .f32 0xFF800000#32 = ⊥ := by simp [Ideal.ofBits, Ideal.ieee]
theorem one_word : Ideal.ofBits .f32 0x3F800000#32 = 1 := by simp [Ideal.ofBits, Ideal.ieee, -EReal.coe_mul]; norm_num
theorem eighth_word : Ideal.ofBits .f32 0x3E000000#32 = ((1 / 8 : ℝ) : EReal) := by simp [Ideal.ofBits, Ideal.ieee, -EReal.coe_mul]; norm_num
theorem eighth_short : Ideal.ofBits .bf16 0x3E00#16 = ((1 / 8 : ℝ) : EReal) := by simp [Ideal.ofBits, Ideal.ieee, -EReal.coe_mul]; norm_num

theorem dotNT_apply (h : Fin 8) (a : FVec Ideal S640x512 .bf16) (b : FVec Ideal S128x512 .bf16) (j : Fin 640) (r : Fin 128) :
    dotNT h a b (ix2 j r) = ∑ d : Fin 64, a (ix2 j (col h d)) * b (ix2 r (col h d)) := by
  pointwise [dotNT, col]
theorem dotTN_apply (h : Fin 8) (p : FVec Ideal S640x1024 .bf16) (a : FVec Ideal S640x512 .bf16) (r : Fin 128) (d : Fin 64) :
    dotTN h p a (ix2 r d) = ∑ j : Fin 640, p (ix2 j (lane h r)) * a (ix2 j (col h d)) := by
  pointwise [dotTN, col, lane]
theorem dotNN_apply (h : Fin 8) (p : FVec Ideal S640x1024 .bf16) (b : FVec Ideal S128x512 .bf16) (j : Fin 640) (d : Fin 64) :
    dotNN h p b (ix2 j d) = ∑ r : Fin 128, p (ix2 j (lane h r)) * b (ix2 r (col h d)) := by
  pointwise [dotNN, col, lane]

theorem wide_apply (f : Fin 8 → FVec Ideal S640x128 .f32) (j : Fin 640) (h : Fin 8) (r : Fin 128) : wide f (ix2 j (lane h r)) = f h (ix2 j r) :=
  concatenate_ofFn_apply (t := S640x1024) (s₁ := S640x128) 1 f _ rfl 128 rfl (ix2 j (lane h r)) h
    (by show (128 * h.val + r.val) / 128 = h.val; omega) (ix2 j r) (by show r.val = (128 * h.val + r.val) % 128; omega)
    (by intro b hb; fin_cases b; · rfl
        · exact absurd rfl hb)
theorem cat640_apply (f : Fin 8 → FVec Ideal S640x64 .f32) (j : Fin 640) (h : Fin 8) (d : Fin 64) : cat640 f (ix2 j (col h d)) = f h (ix2 j d) :=
  concatenate_ofFn_apply (t := S640x512) (s₁ := S640x64) 1 f _ rfl 64 rfl (ix2 j (col h d)) h
    (by show (64 * h.val + d.val) / 64 = h.val; omega) (ix2 j d) (by show d.val = (64 * h.val + d.val) % 64; omega)
    (by intro b hb; fin_cases b; · rfl
        · exact absurd rfl hb)
theorem cat128_apply (f : Fin 8 → FVec Ideal S128x64 .f32) (r : Fin 128) (h : Fin 8) (d : Fin 64) : cat128 f (ix2 r (col h d)) = f h (ix2 r d) :=
  concatenate_ofFn_apply (t := S128x512) (s₁ := S128x64) 1 f _ rfl 64 rfl (ix2 r (col h d)) h
    (by show (64 * h.val + d.val) / 64 = h.val; omega) (ix2 r d) (by show d.val = (64 * h.val + d.val) % 64; omega)
    (by intro b hb; fin_cases b; · rfl
        · exact absurd rfl hb)

theorem spread_apply (r : FVec Ideal S1x1024 .f32) (j : Fin 640) (l : Fin 1024) : spread r (ix2 j l) = r (ix2 (0 : Fin 1) l) := by
  pointwise [spread]
theorem down_apply (s : FVec Ideal S640x1024 .f32) (l : Fin 1024) : down s (ix2 (0 : Fin 1) l) = ∑ j : Fin 640, s (ix2 j l) := by
  pointwise [down]
theorem expo_apply (s : FVec Ideal S640x1024 .f32) (j : Fin 640) (l : Fin 1024) :
    expo s (ix2 j l) = Ideal.exp (s (ix2 j l) - Finset.univ.sup fun j' : Fin 640 => s (ix2 j' l)) := by
  pointwise [expo, spread]
  rw [ninf_word]; rfl
theorem soft_apply (s : FVec Ideal S640x1024 .f32) (j : Fin 640) (l : Fin 1024) :
    soft s (ix2 j l) = expo s (ix2 j l) * Ideal.div 1 (∑ j' : Fin 640, expo s (ix2 j' l)) := by
  show (expo s (ix2 j l) : EReal) * spread _ (ix2 j l) = _
  rw [spread_apply, ← down_apply, ← one_word]; rfl
theorem dsoft_apply (p dp : FVec Ideal S640x1024 .f32) (j : Fin 640) (l : Fin 1024) :
    dsoft p dp (ix2 j l) = p (ix2 j l) * (dp (ix2 j l) - ∑ j' : Fin 640, p (ix2 j' l) * dp (ix2 j' l)) := by
  show p _ * (dp _ - spread _ _) = _
  rw [spread_apply, down_apply]; rfl

theorem scaled_apply (q : Vec Ideal S128x512 .bf16) (r : Fin 128) (x : Fin 512) : scaled q (ix2 r x) = q (ix2 r x) * Ideal.ofBits .bf16 0x3E00#16 := by
  pointwise [scaled]
theorem scores_apply (q : FVec Ideal S128x512 .bf16) (k : FVec Ideal S640x512 .bf16) (bias : Fin 8 → Vec Ideal S1x640x128 .f32) (j : Fin 640) (h : Fin 8) (r : Fin 128) :
    scores q k bias (ix2 j (lane h r)) = (∑ d : Fin 64, k (ix2 j (col h d)) * q (ix2 r (col h d))) + bias h (ix3 (0 : Fin 1) j r) := by
  unfold scores
  rw [wide_apply]
  show dotNT _ _ _ _ + shapeCast _ _ _ _ = _
  rw [dotNT_apply]; congr 1
  pointwise []
theorem masked_apply (ok : IVec S640x1 1) (s : FVec Ideal S640x1024 .f32) (j : Fin 640) (l : Fin 1024) :
    masked ok s (ix2 j l) = if ok (ix2 j (0 : Fin 1)) = 1#1 then s (ix2 j l) else ⊥ := by
  pointwise [masked]
  rw [IdealRules.named_const.ideal_named_scalar _ _ _ ⊥ rfl]; rfl
theorem rowsOf_apply (y : Vec Ideal S128x512 .bf16) (i) : rowsOf y i = y i := by pointwise [rowsOf]
theorem dqOf_apply (ds : FVec Ideal S640x1024 .f32) (k : FVec Ideal S640x512 .bf16) (r : Fin 128) (h : Fin 8) (d : Fin 64) :
    dqOf ds k (ix2 r (col h d)) = (∑ j : Fin 640, ds (ix2 j (lane h r)) * k (ix2 j (col h d))) * Ideal.ofBits .f32 0x3E000000#32 := by
  show (cat128 (F := Ideal) _ (ix2 r (col h d)) : EReal) * _ = _
  rw [cat128_apply, dotTN_apply]; rfl
theorem accOf_apply (p : FVec Ideal S640x1024 .f32) (q : FVec Ideal S128x512 .bf16) (old : Vec Ideal S640x512 .f32) (j : Fin 640) (h : Fin 8) (d : Fin 64) :
    accOf p q old (ix2 j (col h d)) = old (ix2 j (col h d)) + ∑ r : Fin 128, p (ix2 j (lane h r)) * q (ix2 r (col h d)) := by
  show shapeCast _ _ _ _ + cat640 _ _ = _
  rw [cat640_apply, dotNN_apply]; congr 1
  pointwise []
theorem dbOf_apply (ds : FVec Ideal S640x1024 .f32) (h : Fin 8) (old : Vec Ideal S1x640x128 .f32) (j : Fin 640) (r : Fin 128) :
    dbOf ds h old (ix3 (0 : Fin 1) j r) = old (ix3 (0 : Fin 1) j r) + ds (ix2 j (lane h r)) := by
  pointwise [dbOf]

end Cert.AttBwdIdeal.Att
end
-- ==== Proof.Soft.lean ====
module
public import Idealize.ShloMosaic.PureOps.Ideal
public import Idealize.ShloMosaic.Lib.Pointwise

/-! Real numbers among the extended ones, and the softmax of a masked row of real scores. -/

@[expose] public section
noncomputable section
open Idealize.ShloMosaic

namespace Cert.Soft

/-- A sum of reals is a real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals is a real. -/
theorem coe_dot {ι : Type*} (s : Finset ι) (f g : ι → ℝ) : ∑ i ∈ s, (f i : EReal) * (g i : EReal) = ((∑ i ∈ s, f i * g i : ℝ) : EReal) := by
  rw [coe_sum]; exact Finset.sum_congr rfl fun i _ => (EReal.coe_mul _ _).symm

variable {n : ℕ} (ok : Fin n → Prop) [DecidablePred ok] (x : Fin n → ℝ)

/-- The masked scores. -/
def score (j : Fin n) : EReal := if ok j then (x j : EReal) else ⊥
/-- Their exponentials, less `M`. -/
def ex (M : ℝ) (j : Fin n) : ℝ := if ok j then Real.exp (x j - M) else 0
/-- The softmax: zero where masked. -/
def pr (j : Fin n) : ℝ := ex ok x 0 j / ∑ j', ex ok x 0 j'

theorem exp_score (M : ℝ) (j : Fin n) : Ideal.exp (score ok x j - (M : EReal)) = (ex ok x M j : EReal) := by
  unfold score ex
  by_cases h : ok j
  · simp only [if_pos h]; rw [← EReal.coe_sub]; rfl
  · simp only [if_neg h]; rw [EReal.bot_sub]; rfl

theorem ex_shift (M : ℝ) (j : Fin n) : ex ok x M j = Real.exp (-M) * ex ok x 0 j := by
  unfold ex
  by_cases h : ok j
  · simp only [if_pos h]; rw [← Real.exp_add]; congr 1; ring
  · simp only [if_neg h, mul_zero]

theorem ex_nonneg (M : ℝ) (j : Fin n) : 0 ≤ ex ok x M j := by
  unfold ex; split
  · exact (Real.exp_pos _).le
  · exact le_rfl

theorem sum_ex_pos (M : ℝ) (h : ∃ j, ok j) : 0 < ∑ j, ex ok x M j := by
  obtain ⟨j, hj⟩ := h
  refine Finset.sum_pos' (fun j _ => ex_nonneg ok x M j) ⟨j, Finset.mem_univ _, ?_⟩
  unfold ex; rw [if_pos hj]; exact Real.exp_pos _

/-- The softmax does not depend on what is subtracted. -/
theorem ex_div (M : ℝ) (j : Fin n) : ex ok x M j / ∑ j', ex ok x M j' = pr ok x j := by
  unfold pr
  rw [ex_shift ok x M j, Finset.sum_congr rfl fun j' _ => ex_shift ok x M j', ← Finset.mul_sum]
  exact mul_div_mul_left _ _ (Real.exp_pos _).ne'

/-- The largest of the masked scores is a real where some score is not masked. -/
theorem exists_max (h : ∃ j, ok j) : ∃ M : ℝ, Finset.univ.sup (score ok x) = (M : EReal) := by
  obtain ⟨j, hj⟩ := h
  obtain ⟨i, _, hi⟩ := Finset.exists_mem_eq_sup Finset.univ ⟨j, Finset.mem_univ j⟩ (score ok x)
  by_cases hk : ok i
  · exact ⟨x i, by rw [hi]; unfold score; rw [if_pos hk]⟩
  · have hle : score ok x j ≤ Finset.univ.sup (score ok x) := Finset.le_sup (Finset.mem_univ j)
    rw [hi] at hle
    unfold score at hle; rw [if_neg hk, if_pos hj] at hle
    exact absurd (le_bot_iff.mp hle) (EReal.coe_ne_bot _)

/-- A weight, as the exponential times the reciprocal of the exponentials' sum. -/
theorem weight_mul (M : ℝ) (h : ∃ j, ok j) (j : Fin n) :
    (ex ok x M j : EReal) * Ideal.div 1 (∑ j', (ex ok x M j' : EReal)) = (pr ok x j : EReal) := by
  rw [← coe_sum, Ideal.div_coe (sum_ex_pos ok x M h).ne', one_mul, ← EReal.coe_mul, mul_one_div, ex_div]

/-- A weight, as the quotient. -/
theorem weight_div (M : ℝ) (h : ∃ j, ok j) (j : Fin n) :
    Ideal.div (ex ok x M j : EReal) (∑ j', (ex ok x M j' : EReal)) = (pr ok x j : EReal) := by
  rw [← coe_sum, Ideal.div_coe (sum_ex_pos ok x M h).ne', ← EReal.coe_mul, mul_one_div, ex_div]

/-- The scores' gradient, from the weights' gradient `g`. -/
def dpr (g : Fin n → ℝ) (j : Fin n) : ℝ := pr ok x j * (g j - ∑ j', pr ok x j' * g j')

/-- The same from the exponentials and their sum, as the quotient rule writes it. -/
theorem dpr_quotient (M : ℝ) (h : ∃ j, ok j) (g : Fin n → ℝ) (j : Fin n) :
    (g j * (1 / ∑ j', ex ok x M j') + -(∑ j', g j' * (1 * (1 / ((∑ j', ex ok x M j') * ∑ j', ex ok x M j'))) * ex ok x M j')) * ex ok x M j = dpr ok x g j := by
  unfold dpr
  have hz := (sum_ex_pos ok x M h).ne'
  simp only [← ex_div ok x M]
  generalize (∑ j', ex ok x M j') = Z at hz ⊢
  have e : ∑ j', g j' * (1 * (1 / (Z * Z))) * ex ok x M j' = (1 / Z) * ∑ j', ex ok x M j' / Z * g j' := by
    rw [Finset.mul_sum]; refine Finset.sum_congr rfl fun j' _ => ?_
    field_simp
  rw [e]; field_simp; ring

end Cert.Soft
end
-- ==== Proof.Att.Spec.lean ====
module
public import proofs.«01_k».proof.Proof.Soft

/-! The gradients of banded attention over the reals: 64 chunks of 64 query rows, each of which looks at 576 key rows of the padded keys, the last of
them the chunk's own; 512 rows of padding come before the first key, and no query looks at them. Heads are groups of 64 columns. -/

@[expose] public section
noncomputable section
open Idealize.ShloMosaic

namespace Cert.Att

/-- Column `d` of head `h`. -/
def hcol (h : Fin 8) (d : Fin 64) : Fin 512 := ⟨64 * h.1 + d.1, by omega⟩
/-- Row `r` of chunk `c`. -/
def row (c qi : Fin 64) : Fin 4096 := ⟨64 * c.1 + qi.1, by omega⟩
/-- The padded key row that is place `b` of chunk `c`'s band. -/
def key (c : Fin 64) (b : Fin 576) : Fin 4608 := ⟨64 * c.1 + b.1, by omega⟩
/-- The chunk of half `p` of block `i`. -/
def chunk (i : Fin 32) (p : Fin 2) : Fin 64 := ⟨2 * i.1 + p.1, by omega⟩
/-- Is the place a key, and not padding? -/
def ok (c : Fin 64) (b : Fin 576) : Prop := 512 ≤ 64 * c.1 + b.1
instance (c : Fin 64) : DecidablePred (ok c) := fun b => inferInstanceAs (Decidable (512 ≤ 64 * c.1 + b.1))
theorem ok_some (c : Fin 64) : ∃ b, ok c b := ⟨⟨512, by decide⟩, by unfold ok; show 512 ≤ 64 * c.1 + 512; omega⟩

/-- What the gradients depend on: queries, padded keys and values, bias, cotangent. -/
structure Args where
  (q y : Fin 4096 → Fin 512 → ℝ)
  (k v : Fin 4608 → Fin 512 → ℝ)
  bias : Fin 8 → Fin 64 → Fin 576 → ℝ

variable (a : Args)
def score (c : Fin 64) (h : Fin 8) (qi : Fin 64) (b : Fin 576) : ℝ := (∑ d, a.q (row c qi) (hcol h d) * a.k (key c b) (hcol h d)) * (1 / 8) + a.bias h qi b
/-- The weights. -/
def P (c : Fin 64) (h : Fin 8) (qi : Fin 64) (b : Fin 576) : ℝ := Soft.pr (ok c) (score a c h qi) b
/-- The weights' gradient. -/
def dP (c : Fin 64) (h : Fin 8) (qi : Fin 64) (b : Fin 576) : ℝ := ∑ d, a.y (row c qi) (hcol h d) * a.v (key c b) (hcol h d)
/-- The scores' gradient. -/
def dS (c : Fin 64) (h : Fin 8) (qi : Fin 64) (b : Fin 576) : ℝ := Soft.dpr (ok c) (score a c h qi) (dP a c h qi) b
def dQ (c qi : Fin 64) (h : Fin 8) (d : Fin 64) : ℝ := (∑ b, dS a c h qi b * a.k (key c b) (hcol h d)) * (1 / 8)

/-- A chunk's part of what a padded key row gets: `g` at its place in the chunk's band, and nothing off the band. -/
def part (g : Fin 576 → ℝ) (c : Fin 64) (κ : Fin 4608) : ℝ := if hb : 64 * c.1 ≤ κ.1 ∧ κ.1 < 64 * c.1 + 576 then g ⟨κ.1 - 64 * c.1, by omega⟩ else 0
def dK (κ : Fin 4608) (h : Fin 8) (d : Fin 64) : ℝ := ∑ c, part (fun b => ∑ qi, dS a c h qi b * (a.q (row c qi) (hcol h d) * (1 / 8))) c κ
def dV (κ : Fin 4608) (h : Fin 8) (d : Fin 64) : ℝ := ∑ c, part (fun b => ∑ qi, P a c h qi b * a.y (row c qi) (hcol h d)) c κ
/-- The bias's gradient, for even and odd chunks apart. -/
def dB (p : Fin 2) (h : Fin 8) (qi : Fin 64) (b : Fin 576) : ℝ := ∑ i, dS a (chunk i p) h qi b

/-- A row of 576 places, in a row of 640 from place `64 p` on, with zeros around it. -/
def wide (p : Fin 2) (f : Fin 576 → ℝ) (j : Fin 640) : ℝ := if hb : 64 * p.1 ≤ j.1 ∧ j.1 < 64 * p.1 + 576 then f ⟨j.1 - 64 * p.1, by omega⟩ else 0
/-- Where place `b` of the 576 lies among the 640. -/
def at640 (p : Fin 2) (b : Fin 576) : Fin 640 := ⟨64 * p.1 + b.1, by omega⟩

theorem wide_at (p : Fin 2) (f : Fin 576 → ℝ) (b : Fin 576) : wide p f (at640 p b) = f b := by
  unfold wide at640
  rw [dif_pos ⟨by show 64 * p.1 ≤ 64 * p.1 + b.1; omega, by show 64 * p.1 + b.1 < 64 * p.1 + 576; omega⟩]
  congr 1; exact Fin.ext (by show 64 * p.1 + b.1 - 64 * p.1 = b.1; omega)

theorem wide_off (p : Fin 2) (f : Fin 576 → ℝ) (j : Fin 640) (hj : ¬ (64 * p.1 ≤ j.1 ∧ j.1 < 64 * p.1 + 576)) : wide p f j = 0 := by
  unfold wide; rw [dif_neg hj]

theorem at640_inj (p : Fin 2) : Function.Injective (at640 p) := fun b b' h => Fin.ext (by have := congrArg Fin.val h; simp only [at640] at this; omega)
theorem not_range (p : Fin 2) (j : Fin 640) (hj : j ∉ Set.range (at640 p)) : ¬ (64 * p.1 ≤ j.1 ∧ j.1 < 64 * p.1 + 576) := fun hb =>
  hj ⟨⟨j.1 - 64 * p.1, by omega⟩, Fin.ext (by show 64 * p.1 + (j.1 - 64 * p.1) = j.1; omega)⟩

/-- A sum over the 640 of a wide row times anything is a sum over the 576. -/
theorem sum_wide_mul (p : Fin 2) (f : Fin 576 → ℝ) (g : Fin 640 → ℝ) : ∑ j, wide p f j * g j = ∑ b, f b * g (at640 p b) :=
  (Fintype.sum_of_injective (at640 p) (at640_inj p) _ _ (fun j hj => by rw [wide_off p f j (not_range p j hj), zero_mul]) fun b => by rw [wide_at]).symm

/-- Scores on the 640, real on the band and masked around it, have the band's weights, and zero around. -/
theorem pr_wide (p : Fin 2) (ok6 : Fin 640 → Prop) [DecidablePred ok6] (ok5 : Fin 576 → Prop) [DecidablePred ok5] (x6 : Fin 640 → ℝ) (x5 : Fin 576 → ℝ)
    (hin : ∀ b, ok6 (at640 p b) ↔ ok5 b) (hoff : ∀ j, j ∉ Set.range (at640 p) → ¬ ok6 j) (hx : ∀ b, x6 (at640 p b) = x5 b) (j : Fin 640) :
    Soft.pr ok6 x6 j = wide p (Soft.pr ok5 x5) j := by
  have hat : ∀ b, Soft.ex ok6 x6 0 (at640 p b) = Soft.ex ok5 x5 0 b := fun b => by
    unfold Soft.ex; rw [hx]; by_cases hb : ok5 b
    · rw [if_pos hb, if_pos ((hin b).2 hb)]
    · rw [if_neg hb, if_neg (fun hh => hb ((hin b).1 hh))]
  have hz : ∀ j, j ∉ Set.range (at640 p) → Soft.ex ok6 x6 0 j = 0 := fun j hj => by unfold Soft.ex; rw [if_neg (hoff j hj)]
  have hs : ∑ j, Soft.ex ok6 x6 0 j = ∑ b, Soft.ex ok5 x5 0 b := (Fintype.sum_of_injective (at640 p) (at640_inj p) _ _ hz fun b => (hat b).symm).symm
  unfold Soft.pr
  by_cases hj : j ∈ Set.range (at640 p)
  · obtain ⟨b, rfl⟩ := hj
    rw [wide_at, hs, hat]
  · rw [wide_off p _ j (not_range p j hj), hz j hj, zero_div]

/-- The scores' gradient likewise. -/
theorem dpr_wide (p : Fin 2) (f g5 : Fin 576 → ℝ) (g6 : Fin 640 → ℝ) (hg : ∀ b, g6 (at640 p b) = g5 b) (j : Fin 640) :
    wide p f j * (g6 j - ∑ j', wide p f j' * g6 j') = wide p (fun b => f b * (g5 b - ∑ b', f b' * g5 b')) j := by
  rw [sum_wide_mul, Finset.sum_congr rfl fun b _ => by rw [hg b]]
  by_cases hj : j ∈ Set.range (at640 p)
  · obtain ⟨b, rfl⟩ := hj
    rw [wide_at, wide_at, hg]
  · rw [wide_off p _ j (not_range p j hj), wide_off p _ j (not_range p j hj), zero_mul]

/-- The 128 rows of a block are the 64 of its even chunk and the 64 of its odd one. -/
def row128 (p : Fin 2) (qi : Fin 64) : Fin 128 := ⟨64 * p.1 + qi.1, by omega⟩
theorem sum_row128 {M : Type*} [AddCommMonoid M] (f : Fin 128 → M) : ∑ r, f r = ∑ p, ∑ qi, f (row128 p qi) := by
  rw [← Fintype.sum_prod_type' (f := fun p qi => f (row128 p qi))]
  exact (Fintype.sum_equiv (finProdFinEquiv (m := 2) (n := 64)) _ _ fun x => congrArg f (Fin.ext (by show 64 * x.1.1 + x.2.1 = x.2.1 + 64 * x.1.1; omega))).symm
/-- The 64 chunks are the two of each of 32 blocks. -/
theorem sum_chunk (f : Fin 64 → ℝ) : ∑ c, f c = ∑ i, ∑ p, f (chunk i p) := by
  rw [← Fintype.sum_prod_type' (f := fun i p => f (chunk i p))]
  exact (Fintype.sum_equiv (finProdFinEquiv (m := 32) (n := 2)) _ _ fun x => congrArg f (Fin.ext (by show 2 * x.1.1 + x.2.1 = x.2.1 + 2 * x.1.1; omega))).symm

/-- What a block adds to a padded key row is what its two chunks add. -/
theorem part_block (i : Fin 32) (g : Fin 2 → Fin 576 → ℝ) (κ : Fin 4608) :
    (if hb : 128 * i.1 ≤ κ.1 ∧ κ.1 < 128 * i.1 + 640 then ∑ p, wide p (g p) ⟨κ.1 - 128 * i.1, by omega⟩ else 0) = ∑ p, part (g p) (chunk i p) κ := by
  by_cases hb : 128 * i.1 ≤ κ.1 ∧ κ.1 < 128 * i.1 + 640
  · rw [dif_pos hb]
    refine Finset.sum_congr rfl fun p _ => ?_
    unfold wide part chunk
    have hp := p.2
    by_cases hc : 64 * (2 * i.1 + p.1) ≤ κ.1 ∧ κ.1 < 64 * (2 * i.1 + p.1) + 576
    · rw [dif_pos hc, dif_pos ⟨by show 64 * p.1 ≤ κ.1 - 128 * i.1; omega, by show κ.1 - 128 * i.1 < 64 * p.1 + 576; omega⟩]
      congr 1; exact Fin.ext (by show κ.1 - 128 * i.1 - 64 * p.1 = κ.1 - 64 * (2 * i.1 + p.1); omega)
    · rw [dif_neg hc, dif_neg (fun h => hc ⟨by have := h.1; dsimp only at this; omega, by have := h.2; dsimp only at this; omega⟩)]
  · rw [dif_neg hb]
    refine (Finset.sum_eq_zero fun p _ => ?_).symm
    unfold part chunk
    have hp := p.2
    exact dif_neg fun h => hb ⟨by have := h.1; dsimp only at this; omega, by have := h.2; dsimp only at this; omega⟩

end Cert.Att
end
-- ==== Proof.Att.Real.lean ====
module
public import proofs.«01_k».proof.Proof.Att.State
public import proofs.«01_k».proof.Proof.Att.Points
public import proofs.«01_k».proof.Proof.Att.Spec

/-! One block over the reals: where the arrays hold reals, and the bias −∞ off the bands, a block's weights and the scores' gradient are the
specification's, zero off the bands; and what the block writes. -/

@[expose] public section
set_option maxRecDepth 16384
noncomputable section
open Idealize.ShloMosaic Idealize.ShloMosaic.TcCoe

namespace Cert.AttBwdIdeal.Att
open Cert.AttBwdIdeal Cert.AttBwdIdeal.Gen Cert.Puts
open Cert.Att (Args hcol row key chunk ok at640 row128)

/-- The arrays hold the reals of `a`; the bias holds them on the bands, and −∞ off them. -/
structure Reads (a : Args) (Y : Vec Ideal S4096x512 .bf16) (B : Vec Ideal S8x640x128 .f32) (Q : Vec Ideal S4096x512 .bf16) (K V : Vec Ideal S4608x512 .bf16) : Prop where
  y : ∀ r x, Y (ix2 r x) = (a.y r x : EReal)
  q : ∀ r x, Q (ix2 r x) = (a.q r x : EReal)
  k : ∀ r x, K (ix2 r x) = (a.k r x : EReal)
  v : ∀ r x, V (ix2 r x) = (a.v r x : EReal)
  b : ∀ h p qi b, B (ix3 h (at640 p b) (row128 p qi)) = (a.bias h qi b : EReal)
  off : ∀ h p qi j, j ∉ Set.range (at640 p) → B (ix3 h j (row128 p qi)) = (⊥ : EReal)

/-- Row `r` of block `i`'s queries, and row `j` of its window of keys. -/
abbrev qrow (i : Fin 32) (r : Fin 128) : Fin 4096 := ⟨128 * i.1 + r.1, by omega⟩
abbrev krow (i : Fin 32) (j : Fin 640) : Fin 4608 := ⟨128 * i.1 + j.1, by omega⟩

theorem cut_q (i : Fin 32) {α : Type} (A : S4096x512.Idx → α) (r : Fin 128) (x : Fin 512) : (cut (qR i) A : S128x512.Idx → α) (ix2 r x) = A (ix2 (qrow i r) x) := by
  refine congrArg A ((qR i).emb_eq_of_coords _ _ (Fin.forall_fin_two.2 ⟨?_, ?_⟩)) <;> simp
theorem cut_k (i : Fin 32) {α : Type} (A : S4608x512.Idx → α) (j : Fin 640) (x : Fin 512) : (cut (kR i) A : S640x512.Idx → α) (ix2 j x) = A (ix2 (krow i j) x) := by
  refine congrArg A ((kR i).emb_eq_of_coords _ _ (Fin.forall_fin_two.2 ⟨?_, ?_⟩)) <;> simp
theorem cut_slab (h : Fin 8) {α : Type} (A : S8x640x128.Idx → α) (j : Fin 640) (r : Fin 128) : (cut (slab h) A : S1x640x128.Idx → α) (ix3 (0 : Fin 1) j r) = A (ix3 h j r) := by
  refine congrArg A ((slab h).emb_eq_of_coords _ _ fun c => ?_)
  fin_cases c <;> simp

theorem qrow_eq (i : Fin 32) (p : Fin 2) (qi : Fin 64) : qrow i (row128 p qi) = row (chunk i p) qi := Fin.ext (by show 128 * i.1 + (64 * p.1 + qi.1) = 64 * (2 * i.1 + p.1) + qi.1; omega)
theorem krow_eq (i : Fin 32) (p : Fin 2) (b : Fin 576) : krow i (at640 p b) = key (chunk i p) b := Fin.ext (by show 128 * i.1 + (64 * p.1 + b.1) = 64 * (2 * i.1 + p.1) + b.1; omega)

theorem mask_word : ∀ (n : Fin 4) (j : Fin 640), IntOp.cmpi CmpIPredicate.sge (IntOp.addi (BitVec.ofNat 32 j.1)
    (Scalar.subi (Scalar.muli (Scf.iv 0#32 1#32 n.1) 128#32) 512#32)) 0#32 = 1#1 ↔ 512 ≤ 128 * n.1 + j.1 := by decide +kernel
/-- The mask of an early block: the key is no padding. -/
theorem mask_apply (k : Fin k0_t1_loop.trips) (j : Fin 640) : k0_pay10 0#32 1#32 k (ix2 j (0 : Fin 1)) = 1#1 ↔ 512 ≤ 128 * k.1 + j.1 := by
  have hk : k.1 < 4 := k.isLt.trans_eq trips1
  pointwise [k0_pay10]
  exact mask_word ⟨k.1, hk⟩ j

variable {a : Args} {Y : Vec Ideal S4096x512 .bf16} {B : Vec Ideal S8x640x128 .f32} {Q : Vec Ideal S4096x512 .bf16} {K V : Vec Ideal S4608x512 .bf16}

/-- Is row `j` of block `i`'s window a key that half `p` of the block looks at? -/
def ok6 (i : Fin 32) (p : Fin 2) (j : Fin 640) : Prop := (64 * p.1 ≤ j.1 ∧ j.1 < 64 * p.1 + 576) ∧ 512 ≤ 128 * i.1 + j.1
instance (i : Fin 32) (p : Fin 2) : DecidablePred (ok6 i p) := fun j => inferInstanceAs (Decidable (_ ∧ _))
theorem mem_range (p : Fin 2) (j : Fin 640) : j ∈ Set.range (at640 p) ↔ 64 * p.1 ≤ j.1 ∧ j.1 < 64 * p.1 + 576 :=
  ⟨fun ⟨b, hb⟩ => by subst hb; have := b.2; exact ⟨by show 64 * p.1 ≤ 64 * p.1 + b.1; omega, by show 64 * p.1 + b.1 < _; omega⟩,
    fun h => not_not.1 fun hn => Cert.Att.not_range p j hn h⟩
theorem ok6_in (i : Fin 32) (p : Fin 2) (b : Fin 576) : ok6 i p (at640 p b) ↔ ok (chunk i p) b := by
  unfold ok6 ok chunk at640; have := b.2
  constructor
  · intro h; have := h.2; dsimp only at this ⊢; omega
  · intro h; dsimp only at h ⊢; omega
theorem ok6_off (i : Fin 32) (p : Fin 2) (j : Fin 640) (hj : j ∉ Set.range (at640 p)) : ¬ ok6 i p j := fun h => hj ((mem_range p j).2 h.1)
theorem ok6_some (i : Fin 32) (p : Fin 2) : ∃ j, ok6 i p j := by
  obtain ⟨b, hb⟩ := Cert.Att.ok_some (chunk i p); exact ⟨_, (ok6_in i p b).2 hb⟩

/-- A real score of row `j` of the window, the band's bias around which there are zeros. -/
def x6 (a : Args) (i : Fin 32) (h : Fin 8) (p : Fin 2) (qi : Fin 64) (j : Fin 640) : ℝ :=
  (∑ d, a.k (krow i j) (hcol h d) * (a.q (row (chunk i p) qi) (hcol h d) * (1 / 8))) + Cert.Att.wide p (a.bias h qi) j
theorem x6_at (i : Fin 32) (h : Fin 8) (p : Fin 2) (qi : Fin 64) (b : Fin 576) : x6 a i h p qi (at640 p b) = Cert.Att.score a (chunk i p) h qi b := by
  unfold x6 Cert.Att.score
  rw [Cert.Att.wide_at, krow_eq, Finset.sum_mul]
  congr 1; exact Finset.sum_congr rfl fun d _ => by ring

theorem scores_real (H : Reads a Y B Q K V) (i : Fin 32) (h : Fin 8) (p : Fin 2) (qi : Fin 64) (j : Fin 640) :
    scoresOf B Q K i (ix2 j (lane h (row128 p qi))) = if 64 * p.1 ≤ j.1 ∧ j.1 < 64 * p.1 + 576 then (x6 a i h p qi j : EReal) else ⊥ := by
  unfold scoresOf
  rw [scores_apply, cut_slab]
  have e : (∑ d : Fin 64, (cut (kR i) K : S640x512.Idx → EReal) (ix2 j (col h d)) * (scaled (cut (qR i) Q) (ix2 (row128 p qi) (col h d)) : EReal))
      = ((∑ d, a.k (krow i j) (hcol h d) * (a.q (row (chunk i p) qi) (hcol h d) * (1 / 8)) : ℝ) : EReal) := by
    rw [← Soft.coe_dot]
    refine Finset.sum_congr rfl fun d _ => ?_
    rw [cut_k, H.k, scaled_apply, cut_q, H.q, qrow_eq, eighth_short, ← EReal.coe_mul]; rfl
  refine (congrArg (fun z : EReal => z + B (ix3 h j (row128 p qi))) e).trans ?_
  by_cases hj : j ∈ Set.range (at640 p)
  · rw [if_pos ((mem_range p j).1 hj)]
    obtain ⟨b, rfl⟩ := hj
    rw [H.b, ← EReal.coe_add]; unfold x6; rw [Cert.Att.wide_at]
  · rw [if_neg fun hh => hj ((mem_range p j).2 hh), H.off h p qi j hj, EReal.add_bot]

/-- Masked or not, the scores of block `i` are real just where the half looks. -/
theorem soft_real (s : FVec Ideal S640x1024 .f32) (i : Fin 32) (h : Fin 8) (p : Fin 2) (qi : Fin 64)
    (hs : ∀ j, s (ix2 j (lane h (row128 p qi))) = Soft.score (ok6 i p) (x6 a i h p qi) j) (j : Fin 640) :
    soft s (ix2 j (lane h (row128 p qi))) = (Cert.Att.wide p (Cert.Att.P a (chunk i p) h qi) j : EReal) := by
  obtain ⟨M, hM⟩ := Soft.exists_max (ok6 i p) (x6 a i h p qi) (ok6_some i p)
  have hx : ∀ j, expo s (ix2 j (lane h (row128 p qi))) = (Soft.ex (ok6 i p) (x6 a i h p qi) M j : EReal) := fun j => by
    rw [expo_apply, funext hs, hM, hs j]
    exact Soft.exp_score _ _ _ _
  rw [soft_apply, Finset.sum_congr rfl fun j _ => hx j, hx j]
  exact (Soft.weight_mul _ _ M (ok6_some i p) j).trans (congrArg _ (Cert.Att.pr_wide p _ _ _ _ (ok6_in i p) (ok6_off i p) (x6_at i h p qi) j))

/-- The weights of a block. -/
theorem weights_real (H : Reads a Y B Q K V) (i : Fin 32) (h : Fin 8) (p : Fin 2) (qi : Fin 64) (j : Fin 640) :
    weights B Q K i (ix2 j (lane h (row128 p qi))) = (Cert.Att.wide p (Cert.Att.P a (chunk i p) h qi) j : EReal) := by
  unfold weights
  by_cases hi : i.1 < 4
  · rw [dif_pos hi]
    refine soft_real _ i h p qi (fun j => ?_) j
    rw [masked_apply, scores_real H, if_congr (mask_apply _ _) rfl rfl]
    unfold Soft.score ok6; dsimp only
    by_cases h1 : 512 ≤ 128 * i.1 + j.1 <;> by_cases h2 : 64 * p.1 ≤ j.1 ∧ j.1 < 64 * p.1 + 576 <;> simp [h1, h2]
  · rw [dif_neg hi]
    refine soft_real _ i h p qi (fun j => ?_) j
    rw [scores_real H]
    unfold Soft.score ok6
    have h1 : 512 ≤ 128 * i.1 + j.1 := by omega
    by_cases h2 : 64 * p.1 ≤ j.1 ∧ j.1 < 64 * p.1 + 576 <;> simp [h1, h2]

/-- The weights' gradient on the window. -/
def dP6 (a : Args) (i : Fin 32) (h : Fin 8) (p : Fin 2) (qi : Fin 64) (j : Fin 640) : ℝ := ∑ d, a.v (krow i j) (hcol h d) * a.y (row (chunk i p) qi) (hcol h d)
theorem dP6_at (i : Fin 32) (h : Fin 8) (p : Fin 2) (qi : Fin 64) (b : Fin 576) : dP6 a i h p qi (at640 p b) = Cert.Att.dP a (chunk i p) h qi b := by
  unfold dP6 Cert.Att.dP; rw [krow_eq]; exact Finset.sum_congr rfl fun d _ => mul_comm _ _

/-- The scores' gradient of a block. -/
theorem grads_real (H : Reads a Y B Q K V) (i : Fin 32) (h : Fin 8) (p : Fin 2) (qi : Fin 64) (j : Fin 640) :
    grads Y B Q K V i (ix2 j (lane h (row128 p qi))) = (Cert.Att.wide p (Cert.Att.dS a (chunk i p) h qi) j : EReal) := by
  have hd : ∀ j, (wide fun h => dotNT h (cut (kR i) V) (rowsOf (cut (qR i) Y))) (ix2 j (lane h (row128 p qi))) = (dP6 a i h p qi j : EReal) := fun j => by
    rw [wide_apply, dotNT_apply]; unfold dP6
    rw [← Soft.coe_dot]
    refine Finset.sum_congr rfl fun d _ => ?_
    rw [cut_k, H.v, rowsOf_apply, cut_q, H.y, qrow_eq]; rfl
  unfold grads dscores
  rw [dsoft_apply, Finset.sum_congr rfl fun j _ => by rw [weights_real H, hd], weights_real H, hd, Soft.coe_dot]
  rw [← EReal.coe_sub, ← EReal.coe_mul]
  exact congrArg _ (Cert.Att.dpr_wide p _ _ _ (dP6_at i h p qi) j)

end Cert.AttBwdIdeal.Att
end
-- ==== Proof.Att.Outs.lean ====
module
public import proofs.«01_k».proof.Proof.Att.Real

/-! The four outputs after all 32 blocks, over the reals: the queries' gradient is written block by block, and the other three add up. -/

@[expose] public section
set_option maxRecDepth 16384
noncomputable section
open Idealize.ShloMosaic Idealize.ShloMosaic.TcCoe

namespace Cert.AttBwdIdeal.Att
open Cert.AttBwdIdeal Cert.AttBwdIdeal.Gen Cert.Puts
open Cert.Att (Args hcol row key chunk ok at640 row128 part)

variable {a : Args} {Y : Vec Ideal S4096x512 .bf16} {B : Vec Ideal S8x640x128 .f32} {Q : Vec Ideal S4096x512 .bf16} {K V : Vec Ideal S4608x512 .bf16}

/-- What a block writes of the queries' gradient. -/
theorem dq_real (H : Reads a Y B Q K V) (i : Fin 32) (p : Fin 2) (qi : Fin 64) (h : Fin 8) (d : Fin 64) :
    dqOf (grads Y B Q K V i) (cut (kR i) K) (ix2 (row128 p qi) (hcol h d)) = (Cert.Att.dQ a (chunk i p) qi h d : EReal) := by
  refine (dqOf_apply _ _ (row128 p qi) h d).trans ?_
  have e : (∑ j : Fin 640, (grads Y B Q K V i (ix2 j (lane h (row128 p qi))) : EReal) * (cut (kR i) K : S640x512.Idx → EReal) (ix2 j (col h d)))
      = ((∑ b, Cert.Att.dS a (chunk i p) h qi b * a.k (key (chunk i p) b) (hcol h d) : ℝ) : EReal) := by
    simp only [← krow_eq]
    rw [← Cert.Att.sum_wide_mul p (Cert.Att.dS a (chunk i p) h qi) fun j => a.k (krow i j) (hcol h d), ← Soft.coe_dot]
    refine Finset.sum_congr rfl fun j _ => ?_
    rw [grads_real H, cut_k, H.k]; rfl
  refine (congrArg (fun z : EReal => z * Ideal.ofBits .f32 0x3E000000#32) e).trans ?_
  rw [eighth_word, ← EReal.coe_mul]; rfl

/-- The queries' gradient after `n` blocks, in the rows of these. -/
theorem dqN_real (H : Reads a Y B Q K V) (A : Vec Ideal S4096x512 .bf16) (n : ℕ) (hn : n ≤ 32) (c qi : Fin 64) (hc : c.1 < 2 * n) (h : Fin 8) (d : Fin 64) :
    dqN Y B Q K V A n (ix2 (row c qi) (hcol h d)) = (Cert.Att.dQ a c qi h d : EReal) := by
  induction n with
  | zero => omega
  | succ n ih =>
    have hlt : n < 32 := by omega
    rw [show dqN Y B Q K V A (n + 1) = puts [⟨qR ⟨n, hlt⟩, dqOf (grads Y B Q K V ⟨n, hlt⟩) (cut (kR ⟨n, hlt⟩) K)⟩] (dqN Y B Q K V A n) from dif_pos hlt, puts_cons, puts_nil]
    by_cases hcn : c.1 < 2 * n
    · exact (rows_miss (n := 128) (o := 128 * n) (q_inb ⟨n, hlt⟩) _ _ (ix2 (row c qi) (hcol h d)) (.inl (by show 64 * c.1 + qi.1 < _; omega))).trans (ih (by omega) hcn)
    · obtain ⟨p, rfl⟩ : ∃ p, c = chunk ⟨n, hlt⟩ p := ⟨⟨c.1 - 2 * n, by omega⟩, Fin.ext (by show c.1 = 2 * n + (c.1 - 2 * n); omega)⟩
      rw [← dq_real H ⟨n, hlt⟩ p qi h d, ← qrow_eq]
      refine put_unit_hit (s := S4096x512) (q_inb ⟨n, hlt⟩) _ _ (ix2 (row128 p qi) (hcol h d)) _ (Fin.forall_fin_two.2 ⟨rfl, (Nat.zero_add _).symm⟩)

/-- What a block adds to a row of its window, is what its two chunks add. -/
theorem block_sum (p2 : Fin 2 → Fin 64 → Fin 576 → ℝ) (ρ : Fin 2 → Fin 64 → ℝ) (j : Fin 640) :
    ∑ p, ∑ qi, Cert.Att.wide p (p2 p qi) j * ρ p qi = ∑ p, Cert.Att.wide p (fun b => ∑ qi, p2 p qi b * ρ p qi) j := by
  refine Finset.sum_congr rfl fun p _ => ?_
  unfold Cert.Att.wide
  by_cases hb : 64 * p.1 ≤ j.1 ∧ j.1 < 64 * p.1 + 576
  · simp only [dif_pos hb]
  · simp only [dif_neg hb, zero_mul, Finset.sum_const_zero]

/-- An array of zeros to whose windows of rows the 32 blocks add their products holds, at the end, the sum of what the 64 chunks add. -/
theorem acc_real (N : ℕ → Vec Ideal S4608x512 .f32) (W : Fin 32 → FVec Ideal S640x1024 .f32) (R : Fin 32 → FVec Ideal S128x512 .bf16)
    (w : Fin 64 → Fin 8 → Fin 64 → Fin 576 → ℝ) (ρ : Fin 4096 → Fin 512 → ℝ)
    (h0 : ∀ y, N 0 y = (0 : EReal))
    (hs : ∀ n (hn : n < 32), N (n + 1) = puts [⟨kR ⟨n, hn⟩, accOf (W ⟨n, hn⟩) (R ⟨n, hn⟩) (cut (kR ⟨n, hn⟩) (N n))⟩] (N n))
    (hW : ∀ i h p qi j, W i (ix2 j (lane h (row128 p qi))) = (Cert.Att.wide p (w (chunk i p) h qi) j : EReal))
    (hR : ∀ i p qi x, R i (ix2 (row128 p qi) x) = (ρ (row (chunk i p) qi) x : EReal))
    (κ : Fin 4608) (h : Fin 8) (d : Fin 64) :
    N 32 (ix2 κ (hcol h d)) = ((∑ c, part (fun b => ∑ qi, w c h qi b * ρ (row c qi) (hcol h d)) c κ : ℝ) : EReal) := by
  let g : Fin 64 → Fin 576 → ℝ := fun c b => ∑ qi, w c h qi b * ρ (row c qi) (hcol h d)
  let T : ℕ → ℝ := fun i => if hi : i < 32 then ∑ p, part (g (chunk ⟨i, hi⟩ p)) (chunk ⟨i, hi⟩ p) κ else 0
  have key : ∀ n, n ≤ 32 → N n (ix2 κ (hcol h d)) = ((∑ i ∈ Finset.range n, T i : ℝ) : EReal) := by
    intro n
    induction n with
    | zero => intro _; rw [h0]; simp
    | succ n ih =>
      intro hn
      have hlt : n < 32 := by omega
      have ih' := ih (by omega)
      rw [hs n hlt, puts_cons, puts_nil, Finset.sum_range_succ]
      have hT : T n = _ := (dif_pos hlt).trans (Cert.Att.part_block ⟨n, hlt⟩ (fun p => g (chunk ⟨n, hlt⟩ p)) κ).symm
      by_cases hb : 128 * n ≤ κ.1 ∧ κ.1 < 128 * n + 640
      · have hk : κ = krow ⟨n, hlt⟩ ⟨κ.1 - 128 * n, by omega⟩ := Fin.ext (by show κ.1 = 128 * n + (κ.1 - 128 * n); omega)
        refine (rows_hit (n := 640) (o := 128 * n) (k_inb ⟨n, hlt⟩) _ _ (ix2 κ (hcol h d)) hb.1 (by show κ.1 - 128 * n < 640; omega)).trans ?_
        refine (accOf_apply _ _ _ ⟨κ.1 - 128 * n, by omega⟩ h d).trans ?_
        rw [cut_k, ← hk]
        have e : (∑ r : Fin 128, (W ⟨n, hlt⟩ (ix2 (⟨κ.1 - 128 * n, by omega⟩ : Fin 640) (lane h r)) : EReal) * R ⟨n, hlt⟩ (ix2 r (col h d))) = ((T n : ℝ) : EReal) := by
          rw [hT, dif_pos hb, ← block_sum (fun p qi => w (chunk ⟨n, hlt⟩ p) h qi) fun p qi => ρ (row (chunk ⟨n, hlt⟩ p) qi) (hcol h d)]
          rw [Cert.Att.sum_row128, Soft.coe_sum]
          refine Finset.sum_congr rfl fun p _ => ?_
          rw [Soft.coe_sum]
          refine Finset.sum_congr rfl fun qi _ => ?_
          rw [hW, EReal.coe_mul]
          exact congrArg _ (hR _ _ _ _)
        refine (congrArg₂ (fun x y : EReal => x + y) ih' e).trans (EReal.coe_add _ _).symm
      · refine (rows_miss (n := 640) (o := 128 * n) (k_inb ⟨n, hlt⟩) _ _ (ix2 κ (hcol h d)) (by show κ.1 < _ ∨ _ ≤ κ.1; omega)).trans (ih'.trans ?_)
        rw [hT, dif_neg hb, add_zero]
  rw [key 32 le_rfl, Cert.Att.sum_chunk, Finset.sum_range]
  congr 1

/-- The keys' gradient after all blocks. -/
theorem dkN_real (H : Reads a Y B Q K V) (A : Vec Ideal S4608x512 .f32) (hA : ∀ y, A y = (0 : EReal)) (κ : Fin 4608) (h : Fin 8) (d : Fin 64) :
    dkN Y B Q K V A 32 (ix2 κ (hcol h d)) = (Cert.Att.dK a κ h d : EReal) :=
  acc_real (dkN Y B Q K V A) (grads Y B Q K V) (fun i => scaled (cut (qR i) Q)) (Cert.Att.dS a) (fun r x => a.q r x * (1 / 8)) hA (fun n hn => dif_pos hn)
    (grads_real H) (fun i p qi x => by rw [scaled_apply, cut_q, H.q, qrow_eq, eighth_short, ← EReal.coe_mul]) κ h d

/-- The values' gradient after all blocks. -/
theorem dvN_real (H : Reads a Y B Q K V) (A : Vec Ideal S4608x512 .f32) (hA : ∀ y, A y = (0 : EReal)) (κ : Fin 4608) (h : Fin 8) (d : Fin 64) :
    dvN Y B Q K A 32 (ix2 κ (hcol h d)) = (Cert.Att.dV a κ h d : EReal) :=
  acc_real (dvN Y B Q K A) (weights B Q K) (fun i => rowsOf (cut (qR i) Y)) (Cert.Att.P a) a.y hA (fun n hn => dif_pos hn)
    (weights_real H) (fun i p qi x => by rw [rowsOf_apply, cut_q, H.y, qrow_eq]) κ h d

/-- A slab's entry is in no other slab. -/
theorem slab_miss (h k : Fin 8) (hk : k ≠ h) (j : Fin 640) (r : Fin 128) : ¬ ∃ x, (slab k).emb x = ix3 h j r := by
  rintro ⟨x, hx⟩
  have e : ((slab k).emb x 0).val = h.1 := by rw [hx]; rfl
  have e2 : ((slab k).emb x 0).val = k.1 + 1 * (x 0).val := rfl
  have hx0 : (x 0).val < 1 := (x 0).isLt
  exact hk (Fin.ext (by omega))

/-- The bias's gradient after all blocks. -/
theorem dbN_real (H : Reads a Y B Q K V) (A : Vec Ideal S8x640x128 .f32) (hA : ∀ y, A y = (0 : EReal)) (h : Fin 8) (p : Fin 2) (qi : Fin 64) (j : Fin 640) :
    dbN Y B Q K V A 32 (ix3 h j (row128 p qi)) = (Cert.Att.wide p (Cert.Att.dB a p h qi) j : EReal) := by
  let T : ℕ → ℝ := fun i => if hi : i < 32 then Cert.Att.wide p (Cert.Att.dS a (chunk ⟨i, hi⟩ p) h qi) j else 0
  have key : ∀ n, n ≤ 32 → dbN Y B Q K V A n (ix3 h j (row128 p qi)) = ((∑ i ∈ Finset.range n, T i : ℝ) : EReal) := by
    intro n
    induction n with
    | zero => intro _; refine (hA _).trans ?_; simp
    | succ n ih =>
      intro hn
      have hlt : n < 32 := by omega
      rw [show dbN Y B Q K V A (n + 1) = _ from dif_pos hlt, Finset.sum_range_succ, EReal.coe_add, ← ih (by omega)]
      refine (puts_ofFn _ _ _ h.rev (ix3 (0 : Fin 1) j (row128 p qi)) ?_ fun k hk => slab_miss h k.rev (fun e => hk (by rw [← e, Fin.rev_rev])) j _).trans ?_
      · rw [Fin.rev_rev]
        refine (slab h).emb_eq_of_coords _ _ fun c => ?_
        fin_cases c <;> simp
      · show dbOf _ h.rev.rev _ _ = _
        rw [dbOf_apply, cut_slab, Fin.rev_rev, grads_real H]
        have hT : T n = _ := dif_pos hlt
        rw [hT]
  rw [key 32 le_rfl, Finset.sum_range]
  congr 1
  refine (Finset.sum_congr rfl fun i _ => dif_pos i.2).trans ?_
  unfold Cert.Att.wide Cert.Att.dB
  by_cases hb : 64 * p.1 ≤ j.1 ∧ j.1 < 64 * p.1 + 576
  · simp only [dif_pos hb]
  · simp only [dif_neg hb, Finset.sum_const_zero]

end Cert.AttBwdIdeal.Att
end
-- ==== Proof.Att.RefIn.lean ====
module
public import proofs.«01_k».proof.Proof.Gen.AttBwdRefIdeal.Read
public import proofs.«01_k».proof.Proof.Att.Spec
public import Idealize.ShloMosaic.Lib.Pipeline.ValueKit
public import Idealize.ShloMosaic.Lib.Pointwise
public import Idealize.ShloMosaic.PureOps.IdealRules

/-! The reference's operands over the reals: its queries, its bands of padded keys and values, its bias. -/

@[expose] public section
set_option maxRecDepth 16384
noncomputable section
open Idealize.ShloMosaic

namespace Cert.Att

/-- The arguments' reals. -/
structure Raw where
  (q k v : Fin 4096 → Fin 8 → Fin 64 → ℝ)
  rb : Fin 8 → Fin 513 → ℝ
  y : Fin 4096 → Fin 512 → ℝ

/-- The head of a column, and the column within it. -/
def hd (x : Fin 512) : Fin 8 := ⟨x.1 / 64, by omega⟩
def cl (x : Fin 512) : Fin 64 := ⟨x.1 % 64, by omega⟩
theorem hd_col (h : Fin 8) (d : Fin 64) : hd (hcol h d) = h := Fin.ext (by show (64 * h.1 + d.1) / 64 = h.1; omega)
theorem cl_col (h : Fin 8) (d : Fin 64) : cl (hcol h d) = d := Fin.ext (by show (64 * h.1 + d.1) % 64 = d.1; omega)
theorem col_hd (x : Fin 512) : hcol (hd x) (cl x) = x := Fin.ext (by show 64 * (x.1 / 64) + x.1 % 64 = x.1; omega)
/-- The table's entry for a query and a place of its band: their distance, clipped to 256 either way. -/
def rel (qi : Fin 64) (b : Fin 576) : Fin 513 := ⟨min (qi.1 + 768 - b.1) 512, by omega⟩

/-- Padded rows. -/
def padded (f : Fin 4096 → Fin 8 → Fin 64 → ℝ) (κ : Fin 4608) (h : Fin 8) (d : Fin 64) : ℝ := if hk : 512 ≤ κ.1 then f ⟨κ.1 - 512, by omega⟩ h d else 0

/-- What the gradients depend on, from the arguments. -/
def Raw.args (w : Raw) : Args where
  q r x := w.q r (hd x) (cl x)
  y := w.y
  k κ x := padded w.k κ (hd x) (cl x)
  v κ x := padded w.v κ (hd x) (cl x)
  bias h qi b := w.rb h (rel qi b)

end Cert.Att

namespace Cert.AttBwdRefIdeal.Att
open Cert.AttBwdRefIdeal Cert.AttBwdRefIdeal.Read Facts₀ Facts
open Cert.Att (Raw Args hcol row key chunk padded rel hd cl)

/-- The reference's arguments are these reals. -/
structure Holds (w : Raw) (x0 x1 x2 : (⟨S1x4096x8x64, .f32⟩ : BufTy).Contents (Elt Ideal)) (x3 : (⟨S1x8x513, .f32⟩ : BufTy).Contents (Elt Ideal)) (x4 : (⟨S1x4096x512, .f32⟩ : BufTy).Contents (Elt Ideal)) : Prop where
  q : ∀ r h d, x0 (ix4 (0 : Fin 1) r h d) = (w.q r h d : EReal)
  k : ∀ r h d, x1 (ix4 (0 : Fin 1) r h d) = (w.k r h d : EReal)
  v : ∀ r h d, x2 (ix4 (0 : Fin 1) r h d) = (w.v r h d : EReal)
  b : ∀ h n, x3 (ix3 (0 : Fin 1) h n) = (w.rb h n : EReal)
  y : ∀ r x, x4 (ix3 (0 : Fin 1) r x) = (w.y r x : EReal)

variable {w : Raw} {x0 x1 x2 : (⟨S1x4096x8x64, .f32⟩ : BufTy).Contents (Elt Ideal)} {x3 : (⟨S1x8x513, .f32⟩ : BufTy).Contents (Elt Ideal)} {x4 : (⟨S1x4096x512, .f32⟩ : BufTy).Contents (Elt Ideal)}

theorem q_at (H : Holds w x0 x1 x2 x3 x4) (c : Fin 64) (qi : Fin 64) (h : Fin 8) (d : Fin 64) :
    val_main_v23 (F := Ideal) x0 (ix5 (0 : Fin 1) c qi h d) = (w.args.q (row c qi) (hcol h d) : EReal) := by
  have e : val_main_v23 (F := Ideal) x0 (ix5 (0 : Fin 1) c qi h d) = x0 (ix4 (0 : Fin 1) (row c qi) h d) := by
    pointwise [val_main_v23, row]
    simp only [Nat.mul_comm]
  rw [e, H.q]; show _ = (w.q _ _ _ : EReal); rw [Cert.Att.hd_col, Cert.Att.cl_col]

theorem y_at (H : Holds w x0 x1 x2 x3 x4) (c : Fin 64) (h : Fin 8) (d qi : Fin 64) :
    val_main_v106 (F := Ideal) x4 (ix5 (0 : Fin 1) c h d qi) = (w.args.y (row c qi) (hcol h d) : EReal) := by
  have e : val_main_v106 (F := Ideal) x4 (ix5 (0 : Fin 1) c h d qi) = x4 (ix3 (0 : Fin 1) (row c qi) (hcol h d)) := by
    pointwise [val_main_v106, val_main_v105, row, hcol]
    simp only [Nat.mul_comm]
  rw [e, H.y]; rfl

/-- Nine runs of 64 rows put together, the `i`-th from run `i` on: place `b` of chunk `c`'s band is row `64 c + b`. -/
theorem band_at (X : (⟨S1x72x64x8x64, .f32⟩ : BufTy).Contents (Elt Ideal)) (c : Fin 64) (b : Fin 576) (h : Fin 8) (d : Fin 64)
    (sl : ∀ i : Fin 9, S1x72x64x8x64.Slices ![0, i.1, 0, 0, 0] S1x64x64x8x64) (hc) :
    concatenate S1x64x576x8x64 2 (List.ofFn fun i : Fin 9 => (⟨S1x64x64x8x64, extractStridedSlice S1x64x64x8x64 ![0, i.1, 0, 0, 0] X (sl i)⟩ : (s : Shape) × (s.Idx → EReal))) hc
      (ix5 (0 : Fin 1) c b h d) = X (ix5 (0 : Fin 1) (⟨c.1 + b.1 / 64, by omega⟩ : Fin 72) (⟨b.1 % 64, by omega⟩ : Fin 64) h d) := by
  refine (concatenate_ofFn_apply (t := S1x64x576x8x64) (s₁ := S1x64x64x8x64) 2 (fun i : Fin 9 => extractStridedSlice S1x64x64x8x64 ![0, i.1, 0, 0, 0] X (sl i)) _ rfl 64 rfl
    (ix5 (0 : Fin 1) c b h d) ⟨b.1 / 64, by omega⟩ rfl (ix5 (0 : Fin 1) c (⟨b.1 % 64, by omega⟩ : Fin 64) h d) rfl ?_).trans ?_
  · intro a ha; fin_cases a <;> first | rfl | exact absurd rfl ha
  · pointwise []
    simp only [Nat.add_comm]

theorem band_slices : ∀ i : Fin 9, S1x72x64x8x64.Slices ![0, i.1, 0, 0, 0] S1x64x64x8x64 := by decide

/-- Place `b` of chunk `c`'s band of keys is the padded row. -/
theorem padded_at (x : (⟨S1x4096x8x64, .f32⟩ : BufTy).Contents (Elt Ideal)) (f : Fin 4096 → Fin 8 → Fin 64 → ℝ) (hf : ∀ r h d, x (ix4 (0 : Fin 1) r h d) = (f r h d : EReal))
    (c : Fin 64) (b : Fin 576) (h : Fin 8) (d : Fin 64) :
    val_main_v40 (F := Ideal) x (ix5 (0 : Fin 1) c b h d) = (padded f (key c b) h d : EReal) := by
  refine (band_at (val_main_v27 x) c b h d band_slices _).trans ?_
  pointwise [val_main_v27, val_main_v25, val_main_v24, val_main_cst]
  have e : (c.1 + b.1 / 64) * 64 + b.1 % 64 = 64 * c.1 + b.1 := by omega
  simp only [e]
  unfold padded key
  by_cases hk : 64 * c.1 + b.1 < 512
  · rw [dif_pos hk, dif_neg (by dsimp only; omega)]; rfl
  · rw [dif_neg hk, dif_pos (by dsimp only; omega), hf]

theorem k_at (H : Holds w x0 x1 x2 x3 x4) (c : Fin 64) (b : Fin 576) (h : Fin 8) (d : Fin 64) :
    val_main_v40 (F := Ideal) x1 (ix5 (0 : Fin 1) c b h d) = (w.args.k (key c b) (hcol h d) : EReal) := by
  rw [padded_at x1 w.k H.k]; show _ = (padded w.k _ (hd (hcol h d)) (cl (hcol h d)) : EReal); rw [Cert.Att.hd_col, Cert.Att.cl_col]
theorem v_at (H : Holds w x0 x1 x2 x3 x4) (c : Fin 64) (b : Fin 576) (h : Fin 8) (d : Fin 64) :
    val_main_v50 (F := Ideal) x2 (ix5 (0 : Fin 1) c b h d) = (w.args.v (key c b) (hcol h d) : EReal) := by
  refine (show val_main_v50 (F := Ideal) x2 _ = val_main_v40 (F := Ideal) x2 _ from rfl).trans ?_
  rw [padded_at x2 w.v H.v]; show _ = (padded w.v _ (hd (hcol h d)) (cl (hcol h d)) : EReal); rw [Cert.Att.hd_col, Cert.Att.cl_col]

/-- Columns of a table, taken at indices that are in it. -/
theorem gather_at {α : Type} (x : S8x513.Idx → α) (ix : IVec S64x576x1 32) (h : Fin 8) (qi : Fin 64) (b : Fin 576) (n : Fin 513)
    (hn : ix (ix3 qi b (0 : Fin 1)) = BitVec.ofNat 32 n.1) :
    Host.gather gather_S8x513_S64x576x1_S8x64x576_0_1_n_n_1_2_81 x ix (ix3 h qi b) = x (ix2 h n) := by
  unfold Host.gather
  refine congrArg x (funext fun a => Fin.ext ?_)
  show GatherDims.start _ _ ix a + GatherDims.batchCoord _ _ a + GatherDims.offCoord _ _ a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · unfold GatherDims.start
    rw [dif_neg (by decide), Nat.zero_add]
    unfold GatherDims.offCoord
    rw [dif_pos (by decide)]; rfl
  · rw [GatherDims.offCoord_eq_zero _ _ _ (by decide), Nat.add_zero]
    unfold GatherDims.start
    rw [dif_pos (by decide)]
    have hsi : GatherDims.siIdx gather_S8x513_S64x576x1_S8x64x576_0_1_n_n_1_2_81 (ix3 h qi b) ⟨0, by decide⟩ = ix3 qi b (0 : Fin 1) := by
      funext c; refine Fin.ext ?_
      match c with
      | ⟨0, _⟩ => rfl
      | ⟨1, _⟩ => rfl
      | ⟨2, _⟩ => rfl
    refine (congrArg (fun z => min (ix z).toInt.toNat 512) hsi).trans ?_
    rw [hn]
    have := n.2
    show min (BitVec.ofNat 32 n.1).toInt.toNat 512 = n.1
    rw [BitVec.toInt_eq_toNat_of_lt (by simp; omega)]; simp; omega

theorem clip_word : ∀ (qi : Fin 64) (b : Fin 576),
    IntOp.addi (IntOp.minsi 256#32 (IntOp.maxsi 4294967040#32 (IntOp.subi (IntOp.addi (BitVec.ofNat 32 qi.1) 512#32) (BitVec.ofNat 32 b.1)))) 256#32
      = BitVec.ofNat 32 (min (qi.1 + 768 - b.1) 512) := by decide +kernel

theorem clip_at (qi : Fin 64) (b : Fin 576) : val_main_v18 (F := Ideal) (ix3 qi b (0 : Fin 1)) = BitVec.ofNat 32 (rel qi b).1 := by
  pointwise [val_main_v18, val_main_v17, val_main_v16, val_main_v15, val_main_v14, val_main_v13, val_main_v12, val_main_v11, val_main_v10, val_main_v9, val_main_v8, val_main_v7, val_main_v6, val_main_v5,
    val_main_v4, val_main_v3, val_main_v2, val_main_v1, val_main_call0_v4, val_main_call0_v3, val_main_call0_v2, val_main_call0_v1, val_main_call0_v0, val_main_c, val_main_c_0, val_main_c_1, val_main_c_2, val_main_c_3, val_main_c_4]
  have e := clip_word qi b
  have hr : (min (qi.1 + 768 - b.1) 512) ≤ 512 := Nat.min_le_right _ _
  show Scalar.select (IntOp.cmpi .slt (IntOp.addi (IntOp.minsi 256#32 (IntOp.maxsi 4294967040#32 _)) 256#32) 0#32) _ (IntOp.addi (IntOp.minsi 256#32 (IntOp.maxsi 4294967040#32 _)) 256#32) = _
  rw [e]
  unfold rel; dsimp only
  generalize min (qi.1 + 768 - b.1) 512 = n at hr ⊢
  have hs : IntOp.cmpi CmpIPredicate.slt (BitVec.ofNat 32 n) 0#32 = 0#1 := by
    have : ∀ n : Fin 513, IntOp.cmpi CmpIPredicate.slt (BitVec.ofNat 32 n.1) 0#32 = 0#1 := by decide +kernel
    exact this ⟨n, by omega⟩
  rw [hs]; rfl

/-- The bias, the same for even and odd chunks. -/
theorem bias_at (H : Holds w x0 x1 x2 x3 x4) (h : Fin 8) (p : Fin 2) (qi : Fin 64) (b : Fin 576) :
    val_main_v22 (F := Ideal) x3 (ix4 p h qi b) = (w.args.bias h qi b : EReal) := by
  have e : val_main_v22 (F := Ideal) x3 (ix4 p h qi b) = val_main_v19 (F := Ideal) x3 (ix3 h qi b) := by
    pointwise [val_main_v22, val_main_v20, val_main_v21]
    rw [dite_eq_ite, ite_self]
  have g : val_main_v0 (F := Ideal) x3 (ix2 h (rel qi b)) = x3 (ix3 (0 : Fin 1) h (rel qi b)) := by pointwise [val_main_v0]
  rw [e]
  exact (gather_at (val_main_v0 (F := Ideal) x3) (val_main_v18 (F := Ideal)) h qi b (rel qi b) (clip_at qi b)).trans (g.trans (H.b _ _))

end Cert.AttBwdRefIdeal.Att
end
-- ==== Proof.Reduce1.lean ====
module
public import Idealize.ShloMosaic.Lib.Pipeline.ValueKit
public import Idealize.ShloMosaic.Lib.Pointwise
public import Idealize.ShloMosaic.PureOps.IdealRules

/-! Reductions of arrays of ranks five and six, at any sizes: a maximum along the last axis; sums along axes of one entry. -/

@[expose] public section
noncomputable section
open Idealize.ShloMosaic

namespace Cert.Reduce1

/-- The maximum along the last of five axes. -/
theorem max5 {n0 n1 n2 n3 n4 : ℕ} (X : (⟨5, ![n0, n1, n2, n3, n4]⟩ : Shape).Idx → EReal) (init : (⟨0, ![]⟩ : Shape).Idx → EReal)
    (h : (⟨5, ![n0, n1, n2, n3, n4]⟩ : Shape).ReducesTo [4] ⟨4, ![n0, n1, n2, n3]⟩) (hu : 0 < (⟨0, ![]⟩ : Shape).numel) (a : Fin n0) (b : Fin n1) (c : Fin n2) (d : Fin n3) :
    Host.reduce (FloatOps.maximumf : Ideal .f32 → Ideal .f32 → Ideal .f32) X init h hu (ix4 a b c d) = Finset.univ.fold max (init ix0) fun x : Fin n4 => X (ix5 a b c d x) := by
  pointwise []
  rw [show Shape.Idx.first hu = ix0 from funext fun a => a.elim0]

/-- A sum of which one entry alone goes to `j`. -/
theorem sum_one {s t : Shape} {axes : List (Fin s.rank)} (h : s.ReducesTo axes t) (x : s.Idx → EReal) (init : EReal) (j : t.Idx) (i : s.Idx)
    (hi : ∀ k, h.drop k = j ↔ k = i) : Ideal.hostReduceAdd h x init j = init + x i := by
  unfold Ideal.hostReduceAdd
  congr 1
  rw [Finset.filter_congr fun k _ => hi k, Finset.filter_eq' Finset.univ i, if_pos (Finset.mem_univ i), Finset.sum_singleton]

/-- The sum along the first and last of five axes, of one entry each. -/
theorem sum5 {n1 n2 n3 : ℕ} (X : (⟨5, ![1, n1, n2, n3, 1]⟩ : Shape).Idx → EReal) (init : EReal)
    (h : (⟨5, ![1, n1, n2, n3, 1]⟩ : Shape).ReducesTo [0, 4] ⟨3, ![n1, n2, n3]⟩) (b : Fin n1) (c : Fin n2) (d : Fin n3) :
    Ideal.hostReduceAdd h X init (ix3 b c d) = init + X (ix5 (0 : Fin 1) b c d (0 : Fin 1)) := by
  refine sum_one h X init _ _ fun k => ⟨fun e => ?_, fun e => ?_⟩
  · have e0 : (h.drop k 0).val = b.val := by rw [e]; rfl
    have e1 : (h.drop k 1).val = c.val := by rw [e]; rfl
    have e2 : (h.drop k 2).val = d.val := by rw [e]; rfl
    rw [show (h.drop k 0).val = (k 1).val from rfl] at e0
    rw [show (h.drop k 1).val = (k 2).val from rfl] at e1
    rw [show (h.drop k 2).val = (k 3).val from rfl] at e2
    have h0 : (k 0).val < 1 := (k 0).isLt
    have h4 : (k 4).val < 1 := (k 4).isLt
    funext a; refine Fin.ext ?_
    match a with
    | ⟨0, _⟩ => show (k 0).val = 0; omega
    | ⟨1, _⟩ => exact e0
    | ⟨2, _⟩ => exact e1
    | ⟨3, _⟩ => exact e2
    | ⟨4, _⟩ => show (k 4).val = 0; omega
  · subst e; funext a; refine Fin.ext ?_
    match a with
    | ⟨0, _⟩ => rfl
    | ⟨1, _⟩ => rfl
    | ⟨2, _⟩ => rfl

/-- The sum along the first two of six axes, of one entry each. -/
theorem sum6 {n2 n3 n4 n5 : ℕ} (X : (⟨6, ![1, 1, n2, n3, n4, n5]⟩ : Shape).Idx → EReal) (init : EReal)
    (h : (⟨6, ![1, 1, n2, n3, n4, n5]⟩ : Shape).ReducesTo [0, 1] ⟨4, ![n2, n3, n4, n5]⟩) (b : Fin n2) (c : Fin n3) (d : Fin n4) (f : Fin n5) :
    Ideal.hostReduceAdd h X init (ix4 b c d f) = init + X (ix6 (0 : Fin 1) (0 : Fin 1) b c d f) := by
  refine sum_one h X init _ _ fun k => ⟨fun e => ?_, fun e => ?_⟩
  · have e0 : (h.drop k 0).val = b.val := by rw [e]; rfl
    have e1 : (h.drop k 1).val = c.val := by rw [e]; rfl
    have e2 : (h.drop k 2).val = d.val := by rw [e]; rfl
    have e3 : (h.drop k 3).val = f.val := by rw [e]; rfl
    rw [show (h.drop k 0).val = (k 2).val from rfl] at e0
    rw [show (h.drop k 1).val = (k 3).val from rfl] at e1
    rw [show (h.drop k 2).val = (k 4).val from rfl] at e2
    rw [show (h.drop k 3).val = (k 5).val from rfl] at e3
    have h0 : (k 0).val < 1 := (k 0).isLt
    have h1 : (k 1).val < 1 := (k 1).isLt
    funext a; refine Fin.ext ?_
    match a with
    | ⟨0, _⟩ => show (k 0).val = 0; omega
    | ⟨1, _⟩ => show (k 1).val = 0; omega
    | ⟨2, _⟩ => exact e0
    | ⟨3, _⟩ => exact e1
    | ⟨4, _⟩ => exact e2
    | ⟨5, _⟩ => exact e3
  · subst e; funext a; refine Fin.ext ?_
    match a with
    | ⟨0, _⟩ => rfl
    | ⟨1, _⟩ => rfl
    | ⟨2, _⟩ => rfl
    | ⟨3, _⟩ => rfl

/-- A sum whose entries for `j` are those of a family. -/
theorem sum_family {s t : Shape} {axes : List (Fin s.rank)} {n : ℕ} (h : s.ReducesTo axes t) (x : s.Idx → EReal) (init : EReal) (j : t.Idx) (f : Fin n → s.Idx)
    (hf : Function.Injective f) (hi : ∀ k, h.drop k = j ↔ ∃ i, k = f i) : Ideal.hostReduceAdd h x init j = init + ∑ i, x (f i) := by
  unfold Ideal.hostReduceAdd
  congr 1
  refine (Finset.sum_nbij f (fun i _ => ?_) (fun a _ b _ e => hf e) (fun k hk => ?_) fun _ _ => rfl).symm
  · exact Finset.mem_filter.2 ⟨Finset.mem_univ _, (hi _).2 ⟨i, rfl⟩⟩
  · obtain ⟨i, e⟩ := (hi k).1 (Finset.mem_filter.1 (Finset.mem_coe.1 hk)).2
    exact ⟨i, Finset.mem_coe.2 (Finset.mem_univ _), e.symm⟩

/-- The sum along the second of six axes. -/
theorem sum6_1 {n0 n1 n2 n3 n4 n5 : ℕ} (X : (⟨6, ![n0, n1, n2, n3, n4, n5]⟩ : Shape).Idx → EReal) (init : EReal)
    (h : (⟨6, ![n0, n1, n2, n3, n4, n5]⟩ : Shape).ReducesTo [1] ⟨5, ![n0, n2, n3, n4, n5]⟩) (a : Fin n0) (b : Fin n2) (c : Fin n3) (d : Fin n4) (f : Fin n5) :
    Ideal.hostReduceAdd h X init (ix5 a b c d f) = init + ∑ i : Fin n1, X (ix6 a i b c d f) := by
  refine sum_family h X init _ _ (fun i i' e => congrFun e 1) fun k => ⟨fun e => ⟨k 1, ?_⟩, fun ⟨i, e⟩ => ?_⟩
  · have e0 : (h.drop k 0).val = a.val := by rw [e]; rfl
    have e1 : (h.drop k 1).val = b.val := by rw [e]; rfl
    have e2 : (h.drop k 2).val = c.val := by rw [e]; rfl
    have e3 : (h.drop k 3).val = d.val := by rw [e]; rfl
    have e4 : (h.drop k 4).val = f.val := by rw [e]; rfl
    rw [show (h.drop k 0).val = (k 0).val from rfl] at e0
    rw [show (h.drop k 1).val = (k 2).val from rfl] at e1
    rw [show (h.drop k 2).val = (k 3).val from rfl] at e2
    rw [show (h.drop k 3).val = (k 4).val from rfl] at e3
    rw [show (h.drop k 4).val = (k 5).val from rfl] at e4
    funext x; refine Fin.ext ?_
    match x with
    | ⟨0, _⟩ => exact e0
    | ⟨1, _⟩ => rfl
    | ⟨2, _⟩ => exact e1
    | ⟨3, _⟩ => exact e2
    | ⟨4, _⟩ => exact e3
    | ⟨5, _⟩ => exact e4
  · subst e; funext x; refine Fin.ext ?_
    match x with
    | ⟨0, _⟩ => rfl
    | ⟨1, _⟩ => rfl
    | ⟨2, _⟩ => rfl
    | ⟨3, _⟩ => rfl
    | ⟨4, _⟩ => rfl

/-- The sum along the first two of three axes, the first of one entry. -/
theorem sum3n {n k : ℕ} (X : (⟨3, ![1, n, k]⟩ : Shape).Idx → EReal) (init : EReal)
    (h : (⟨3, ![1, n, k]⟩ : Shape).ReducesTo [0, 1] ⟨1, ![k]⟩) (j : Fin k) :
    Ideal.hostReduceAdd h X init (ix1 j) = init + ∑ i : Fin n, X (ix3 (0 : Fin 1) i j) := by
  refine sum_family h X init _ _ (fun i i' e => congrFun e 1) fun q => ⟨fun e => ⟨q 1, ?_⟩, fun ⟨i, e⟩ => ?_⟩
  · have e0 : (h.drop q 0).val = j.val := by rw [e]; rfl
    rw [show (h.drop q 0).val = (q 2).val from rfl] at e0
    funext x; refine Fin.ext ?_
    match x with
    | ⟨0, _⟩ => exact congrArg Fin.val (Subsingleton.elim (α := Fin 1) (q 0) 0)
    | ⟨1, _⟩ => rfl
    | ⟨2, _⟩ => exact e0
  · subst e; funext x; refine Fin.ext ?_
    match x with
    | ⟨0, _⟩ => rfl

/-- The sum along the first two of three axes, of one entry each. -/
theorem sum3 {k : ℕ} (X : (⟨3, ![1, 1, k]⟩ : Shape).Idx → EReal) (init : (⟨0, ![]⟩ : Shape).Idx → EReal)
    (h : (⟨3, ![1, 1, k]⟩ : Shape).ReducesTo [0, 1] ⟨1, ![k]⟩) (hu : 0 < (⟨0, ![]⟩ : Shape).numel) (j : Fin k) :
    Host.reduceAdd (F := Ideal) (φ := .f32) X init h hu (ix1 j) = init (Shape.Idx.first hu) + X (ix3 (0 : Fin 1) (0 : Fin 1) j) :=
  (sum3n X _ h j).trans (by rw [Fin.sum_univ_one])

/-- The sum along the first and last of three axes, of one entry each. -/
theorem sum3m {n : ℕ} (X : (⟨3, ![1, n, 1]⟩ : Shape).Idx → EReal) (init : (⟨0, ![]⟩ : Shape).Idx → EReal)
    (h : (⟨3, ![1, n, 1]⟩ : Shape).ReducesTo [0, 2] ⟨1, ![n]⟩) (hu : 0 < (⟨0, ![]⟩ : Shape).numel) (j : Fin n) :
    Host.reduceAdd (F := Ideal) (φ := .f32) X init h hu (ix1 j) = init (Shape.Idx.first hu) + X (ix3 (0 : Fin 1) j (0 : Fin 1)) := by
  refine sum_one h X _ _ _ fun q => ⟨fun e => ?_, fun e => ?_⟩
  · have e0 : (h.drop q 0).val = j.val := by rw [e]; rfl
    rw [show (h.drop q 0).val = (q 1).val from rfl] at e0
    funext x; refine Fin.ext ?_
    match x with
    | ⟨0, _⟩ => exact congrArg Fin.val (Subsingleton.elim (α := Fin 1) (q 0) 0)
    | ⟨1, _⟩ => exact e0
    | ⟨2, _⟩ => exact congrArg Fin.val (Subsingleton.elim (α := Fin 1) (q 2) 0)
  · subst e
    funext x; refine Fin.ext ?_
    match x with
    | ⟨0, _⟩ => rfl

/-- The sum along both of two axes, the first of one entry. -/
theorem sum2 {n : ℕ} (X : (⟨2, ![1, n]⟩ : Shape).Idx → EReal) (init : (⟨0, ![]⟩ : Shape).Idx → EReal)
    (h : (⟨2, ![1, n]⟩ : Shape).ReducesTo [0, 1] ⟨0, ![]⟩) (hu : 0 < (⟨0, ![]⟩ : Shape).numel) :
    Host.reduceAdd (F := Ideal) (φ := .f32) X init h hu ix0 = init (Shape.Idx.first hu) + ∑ i : Fin n, X (ix2 (0 : Fin 1) i) := by
  refine sum_family h X _ _ _ (fun i i' e => congrFun e 1) fun q => ⟨fun _ => ⟨q 1, ?_⟩, fun _ => funext fun a => a.elim0⟩
  funext x; refine Fin.ext ?_
  match x with
  | ⟨0, _⟩ => exact congrArg Fin.val (Subsingleton.elim (α := Fin 1) (q 0) 0)
  | ⟨1, _⟩ => rfl

end Cert.Reduce1
end
-- ==== Proof.Att.RefMid.lean ====
module
public import proofs.«01_k».proof.Proof.Att.RefIn
public import proofs.«01_k».proof.Proof.Reduce1

/-! The reference's weights and scores' gradient over the reals: the specification's. -/

@[expose] public section
set_option maxRecDepth 16384
noncomputable section
open Idealize.ShloMosaic

namespace Cert.AttBwdRefIdeal.Att
open Cert.AttBwdRefIdeal Cert.AttBwdRefIdeal.Read Facts₀ Facts
open Cert.Att (Raw Args hcol row key chunk padded rel hd cl)

variable {w : Raw} {x0 x1 x2 : (⟨S1x4096x8x64, .f32⟩ : BufTy).Contents (Elt Ideal)} {x3 : (⟨S1x8x513, .f32⟩ : BufTy).Contents (Elt Ideal)} {x4 : (⟨S1x4096x512, .f32⟩ : BufTy).Contents (Elt Ideal)}

theorem eighth_word : Ideal.ofBits .f32 0x3E000000#32 = ((1 / 8 : ℝ) : EReal) := by simp [Ideal.ofBits, Ideal.ieee, -EReal.coe_mul]; norm_num
theorem ninf_word : Ideal.ofBits .f32 0xFF800000#32 = ⊥ := by simp [Ideal.ofBits, Ideal.ieee]
theorem one_word : Ideal.ofBits .f32 0x3F800000#32 = 1 := by simp [Ideal.ofBits, Ideal.ieee, -EReal.coe_mul]; norm_num

/-- The scores with the bias. -/
theorem biased_at (H : Holds w x0 x1 x2 x3 x4) (c : Fin 64) (h : Fin 8) (qi : Fin 64) (b : Fin 576) :
    val_main_v71 (F := Ideal) x0 x1 x3 (ix5 (0 : Fin 1) c h qi b) = (Cert.Att.score w.args c h qi b : EReal) := by
  pointwise [val_main_v71, val_main_v70, val_main_v67, val_main_v69, val_main_v68, val_main_v53, val_main_v52, val_main_cst_7, val_main_v51]
  rw [bias_at H, eighth_word, Finset.sum_congr rfl fun d _ => by rw [q_at H, k_at H], Soft.coe_dot, ← EReal.coe_mul, ← EReal.coe_add]
  rfl

theorem valid_word : ∀ (c : Fin 64) (b : Fin 576), IntOp.cmpi CmpIPredicate.sge (IntOp.subi (IntOp.addi (IntOp.muli (BitVec.ofNat 32 c.1) 64#32) (BitVec.ofNat 32 b.1)) 512#32) 0#32
    = if 512 ≤ 64 * c.1 + b.1 then 1#1 else 0#1 := by decide +kernel

theorem valid_at (c : Fin 64) (h : Fin 8) (qi : Fin 64) (b : Fin 576) :
    val_main_v73_1 (F := Ideal) (ix5 (0 : Fin 1) c h qi b) = if Cert.Att.ok c b then 1#1 else 0#1 := by
  pointwise [val_main_v73_1, val_main_v72, val_main_v66, val_main_v65, val_main_v64, val_main_v63, val_main_v62, val_main_v61, val_main_v60, val_main_v59, val_main_v58, val_main_v57, val_main_v56,
    val_main_v55, val_main_v54, val_main_c_8, val_main_c_9, val_main_c_10]
  exact valid_word c b

theorem score_at (H : Holds w x0 x1 x2 x3 x4) (c : Fin 64) (h : Fin 8) (qi : Fin 64) (b : Fin 576) :
    val_main_v73_0 (F := Ideal) x0 x1 x3 (ix5 (0 : Fin 1) c h qi b) = Soft.score (Cert.Att.ok c) (Cert.Att.score w.args c h qi) b := by
  pointwise [val_main_v73_0, val_main_call1_v2, val_main_call1_v0, val_main_cst_11]
  rw [valid_at, biased_at H]
  unfold Soft.score Scalar.select
  by_cases hk : Cert.Att.ok c b
  · simp only [if_pos hk]; rfl
  · simp only [if_neg hk]; exact ninf_word

theorem max74_at (c : Fin 64) (h : Fin 8) (qi : Fin 64) :
    val_main_v74 (F := Ideal) x0 x1 x3 (ix4 (0 : Fin 1) c h qi) = Finset.univ.fold max (val_main_cst_12 (F := Ideal) ix0) fun b : Fin 576 => val_main_v73_0 (F := Ideal) x0 x1 x3 (ix5 (0 : Fin 1) c h qi b) := by
  unfold val_main_v74
  generalize val_main_v73_0 (F := Ideal) x0 x1 x3 = X
  generalize val_main_cst_12 (F := Ideal) = i0
  exact Reduce1.max5 X i0 reducesTo_S1x64x8x64x576_S1x64x8x64_d4 h_S_ 0 c h qi

theorem bot_max_fold {n : ℕ} (f : Fin n → EReal) : max ⊥ (Finset.univ.fold max ⊥ f) = Finset.univ.sup f := bot_sup_eq _

theorem ninf80 (i : S1x64x8x64.Idx) : val_main_v80 (F := Ideal) i = (⊥ : EReal) := by
  rw [val_main_v80_apply]; exact ninf_word

theorem max_at (c : Fin 64) (h : Fin 8) (qi : Fin 64) :
    val_main_v81 (F := Ideal) x0 x1 x3 (ix4 (0 : Fin 1) c h qi) = Finset.univ.sup fun b : Fin 576 => val_main_v73_0 (F := Ideal) x0 x1 x3 (ix5 (0 : Fin 1) c h qi b) := by
  have n : val_main_cst_12 (F := Ideal) ix0 = (⊥ : EReal) := ninf_word
  rw [val_main_v81_apply, max74_at, n, ninf80]
  exact bot_max_fold _

theorem exp_at (c : Fin 64) (h : Fin 8) (qi : Fin 64) (b : Fin 576) :
    val_main_v94 (F := Ideal) x0 x1 x3 (ix5 (0 : Fin 1) c h qi b)
      = Ideal.exp (val_main_v73_0 (F := Ideal) x0 x1 x3 (ix5 (0 : Fin 1) c h qi b) - val_main_v81 (F := Ideal) x0 x1 x3 (ix4 (0 : Fin 1) c h qi)) := by
  pointwise [val_main_v94, val_main_v93, val_main_v92, val_main_v91]
theorem sum_at (c : Fin 64) (h : Fin 8) (qi : Fin 64) :
    val_main_v96 (F := Ideal) x0 x1 x3 (ix5 (0 : Fin 1) c h qi (0 : Fin 1)) = ∑ b : Fin 576, val_main_v94 (F := Ideal) x0 x1 x3 (ix5 (0 : Fin 1) c h qi b) := by
  pointwise [val_main_v96, val_main_v95, val_main_cst_20]
theorem prob_at (c : Fin 64) (h : Fin 8) (qi : Fin 64) (b : Fin 576) :
    val_main_v98 (F := Ideal) x0 x1 x3 (ix5 (0 : Fin 1) c h qi b)
      = Ideal.div (val_main_v94 (F := Ideal) x0 x1 x3 (ix5 (0 : Fin 1) c h qi b)) (val_main_v96 (F := Ideal) x0 x1 x3 (ix5 (0 : Fin 1) c h qi (0 : Fin 1))) := by
  pointwise [val_main_v98, val_main_v97]
theorem dp_at (H : Holds w x0 x1 x2 x3 x4) (c : Fin 64) (h : Fin 8) (qi : Fin 64) (b : Fin 576) :
    val_main_v107 (F := Ideal) x2 x4 (ix5 (0 : Fin 1) c h qi b) = (Cert.Att.dP w.args c h qi b : EReal) := by
  pointwise [val_main_v107]
  rw [Finset.sum_congr rfl fun d _ => by rw [y_at H, v_at H], Soft.coe_dot]
  rfl
/-- The sum of the weights' gradient times what the quotient's derivative takes, negated. -/
theorem neg_at (c : Fin 64) (h : Fin 8) (qi : Fin 64) :
    val_main_v115 (F := Ideal) x0 x1 x2 x3 x4 (ix5 (0 : Fin 1) c h qi (0 : Fin 1))
      = -(∑ b : Fin 576, val_main_v107 (F := Ideal) x2 x4 (ix5 (0 : Fin 1) c h qi b) * Ideal.div 1 (val_main_v96 (F := Ideal) x0 x1 x3 (ix5 (0 : Fin 1) c h qi (0 : Fin 1)) * val_main_v96 (F := Ideal) x0 x1 x3 (ix5 (0 : Fin 1) c h qi (0 : Fin 1)))
          * val_main_v94 (F := Ideal) x0 x1 x3 (ix5 (0 : Fin 1) c h qi b)) := by
  pointwise [val_main_v115, val_main_v114, val_main_v113, val_main_cst_22,
    val_main_v112, val_main_v111, val_main_v110, val_main_v101, val_main_v100, val_main_cst_21, val_main_v99]

theorem ds_val (c : Fin 64) (h : Fin 8) (qi : Fin 64) (b : Fin 576) :
    val_main_v122 (F := Ideal) x0 x1 x2 x3 x4 (ix5 (0 : Fin 1) c h qi b)
      = (Ideal.div (val_main_v107 (F := Ideal) x2 x4 (ix5 (0 : Fin 1) c h qi b)) (val_main_v96 (F := Ideal) x0 x1 x3 (ix5 (0 : Fin 1) c h qi (0 : Fin 1)))
          + val_main_v115 (F := Ideal) x0 x1 x2 x3 x4 (ix5 (0 : Fin 1) c h qi (0 : Fin 1))) * val_main_v94 (F := Ideal) x0 x1 x3 (ix5 (0 : Fin 1) c h qi b) := by
  have z : val_main_cst_23 (F := Ideal) (Shape.Idx.first h_S_) = (0 : EReal) := by pointwise [val_main_cst_23]
  have e : val_main_v118 (F := Ideal) x0 x1 x2 x3 x4 (ix3 c h qi) = _ := Reduce1.sum5 (val_main_v115 (F := Ideal) x0 x1 x2 x3 x4) (val_main_cst_23 (F := Ideal) (Shape.Idx.first h_S_)) reducesTo_S1x64x8x64x1_S64x8x64_d0_4 c h qi
  rw [z, zero_add] at e
  rw [← e]
  pointwise [val_main_v122, val_main_v121, val_main_v120, val_main_v119, val_main_v117, val_main_v116]

/-- The exponentials are reals. -/
theorem exps (H : Holds w x0 x1 x2 x3 x4) (c : Fin 64) (h : Fin 8) (qi : Fin 64) : ∃ M : ℝ,
    (∀ b, val_main_v94 (F := Ideal) x0 x1 x3 (ix5 (0 : Fin 1) c h qi b) = (Soft.ex (Cert.Att.ok c) (Cert.Att.score w.args c h qi) M b : EReal))
      ∧ val_main_v96 (F := Ideal) x0 x1 x3 (ix5 (0 : Fin 1) c h qi (0 : Fin 1)) = ∑ b, (Soft.ex (Cert.Att.ok c) (Cert.Att.score w.args c h qi) M b : EReal) := by
  obtain ⟨M, hM⟩ := Soft.exists_max (Cert.Att.ok c) (Cert.Att.score w.args c h qi) (Cert.Att.ok_some c)
  have hx : ∀ b, val_main_v94 (F := Ideal) x0 x1 x3 (ix5 (0 : Fin 1) c h qi b) = (Soft.ex (Cert.Att.ok c) (Cert.Att.score w.args c h qi) M b : EReal) := fun b => by
    rw [exp_at, max_at, funext fun b => score_at H c h qi b, hM, score_at H]
    exact Soft.exp_score _ _ _ _
  exact ⟨M, hx, by rw [sum_at]; exact Finset.sum_congr rfl fun b _ => hx b⟩

/-- The weights. -/
theorem p_at (H : Holds w x0 x1 x2 x3 x4) (c : Fin 64) (h : Fin 8) (qi : Fin 64) (b : Fin 576) :
    val_main_v98 (F := Ideal) x0 x1 x3 (ix5 (0 : Fin 1) c h qi b) = (Cert.Att.P w.args c h qi b : EReal) := by
  obtain ⟨M, hx, hz⟩ := exps H c h qi
  rw [prob_at, hz, hx]
  exact Soft.weight_div _ _ M (Cert.Att.ok_some c) b

/-- The scores' gradient. -/
theorem ds_at (H : Holds w x0 x1 x2 x3 x4) (c : Fin 64) (h : Fin 8) (qi : Fin 64) (b : Fin 576) :
    val_main_v123 (F := Ideal) x0 x1 x2 x3 x4 (ix5 (0 : Fin 1) c h qi b) = (Cert.Att.dS w.args c h qi b : EReal) := by
  obtain ⟨M, hx, hz⟩ := exps H c h qi
  have hpos := (Soft.sum_ex_pos (Cert.Att.ok c) (Cert.Att.score w.args c h qi) M (Cert.Att.ok_some c)).ne'
  rw [← Soft.coe_sum] at hz
  have e : val_main_v122 (F := Ideal) x0 x1 x2 x3 x4 (ix5 (0 : Fin 1) c h qi b) = (Cert.Att.dS w.args c h qi b : EReal) := by
    rw [ds_val, neg_at, hz, hx, dp_at H, ← EReal.coe_mul, Ideal.div_coe (mul_ne_zero hpos hpos), Ideal.div_coe hpos]
    have s : ∀ b, ((Cert.Att.dP w.args c h qi b : ℝ) : EReal) * (1 * ((1 / ((∑ b, Soft.ex (Cert.Att.ok c) (Cert.Att.score w.args c h qi) M b) * ∑ b, Soft.ex (Cert.Att.ok c) (Cert.Att.score w.args c h qi) M b) : ℝ) : EReal))
        * (Soft.ex (Cert.Att.ok c) (Cert.Att.score w.args c h qi) M b : EReal)
        = ((Cert.Att.dP w.args c h qi b * (1 * (1 / ((∑ b, Soft.ex (Cert.Att.ok c) (Cert.Att.score w.args c h qi) M b) * ∑ b, Soft.ex (Cert.Att.ok c) (Cert.Att.score w.args c h qi) M b))) * Soft.ex (Cert.Att.ok c) (Cert.Att.score w.args c h qi) M b : ℝ) : EReal) :=
      fun b => by rw [one_mul, one_mul, EReal.coe_mul, EReal.coe_mul]
    simp only [hx, dp_at H]
    rw [Finset.sum_congr rfl fun b _ => s b, ← Soft.coe_sum, ← EReal.coe_mul, ← EReal.coe_neg, ← EReal.coe_add, ← EReal.coe_mul]
    exact congrArg _ (Soft.dpr_quotient _ _ M (Cert.Att.ok_some c) _ b)
  pointwise [val_main_v123, val_main_call2_v0]
  rw [valid_at, e]
  unfold Scalar.select
  by_cases hk : Cert.Att.ok c b
  · simp only [if_pos hk]; rfl
  · simp only [if_neg hk]
    have : Cert.Att.dS w.args c h qi b = 0 := by
      unfold Cert.Att.dS Soft.dpr Soft.pr Soft.ex; rw [if_neg hk, zero_div, zero_mul]
    rw [this]
    have z : val_main_call2_cst (F := Ideal) ix0 = (0 : EReal) := by pointwise [val_main_call2_cst]
    rw [z]; exact if_neg (by decide)

end Cert.AttBwdRefIdeal.Att
end
-- ==== Proof.Att.Bands.lean ====
module
public import proofs.«01_k».proof.Proof.Att.Spec

/-! Nine runs of bands laid over each other: row `64 n + r` of the padded keys gets, from each of the nine, place `64 i + r` of chunk `n - i`'s band. -/

@[expose] public section
noncomputable section
open Idealize.ShloMosaic

namespace Cert.Att

/-- The padded key row that is row `r` of run `n`. -/
def runRow (n : Fin 72) (r : Fin 64) : Fin 4608 := ⟨64 * n.1 + r.1, by omega⟩

/-- What run `i` puts at row `r` of run `n`. -/
def runAt (g : Fin 64 → Fin 576 → ℝ) (n : Fin 72) (r : Fin 64) (i : Fin 9) : ℝ :=
  if hi : i.1 ≤ n.1 ∧ n.1 < i.1 + 64 then g ⟨n.1 - i.1, by omega⟩ ⟨64 * i.1 + r.1, by omega⟩ else 0

theorem sum_runAt (g : Fin 64 → Fin 576 → ℝ) (n : Fin 72) (r : Fin 64) : ∑ i, runAt g n r i = ∑ c, part (g c) c (runRow n r) := by
  have hp : ∀ c, part (g c) c (runRow n r) = ∑ i : Fin 9, if c.1 + i.1 = n.1 then g c ⟨64 * i.1 + r.1, by omega⟩ else 0 := fun c => by
    have hr := r.2
    unfold part runRow
    by_cases hc : c.1 ≤ n.1 ∧ n.1 ≤ c.1 + 8
    · rw [dif_pos ⟨by dsimp only; omega, by dsimp only; omega⟩, Finset.sum_eq_single (⟨n.1 - c.1, by omega⟩ : Fin 9)
        (fun i _ hi => if_neg fun e => hi (Fin.ext (by dsimp only; omega))) (fun h => absurd (Finset.mem_univ _) h), if_pos (by dsimp only; omega)]
      congr 1; exact Fin.ext (by dsimp only; omega)
    · rw [dif_neg (fun h => hc (by dsimp only at h; omega))]
      exact (Finset.sum_eq_zero fun i _ => if_neg fun e => hc (by have := i.2; omega)).symm
  rw [Finset.sum_congr rfl fun c _ => hp c, Finset.sum_comm]
  refine Finset.sum_congr rfl fun i _ => ?_
  unfold runAt
  by_cases hi : i.1 ≤ n.1 ∧ n.1 < i.1 + 64
  · rw [dif_pos hi, Finset.sum_eq_single (⟨n.1 - i.1, by omega⟩ : Fin 64) (fun c _ hc => if_neg fun e => hc (Fin.ext (by dsimp only; omega)))
      (fun h => absurd (Finset.mem_univ _) h), if_pos (by dsimp only; omega)]
  · rw [dif_neg hi]
    exact (Finset.sum_eq_zero fun c _ => if_neg fun e => hi (by have := c.2; omega)).symm

end Cert.Att
end
-- ==== Proof.Att.RefOut.lean ====
module
public import proofs.«01_k».proof.Proof.Att.RefMid
public import proofs.«01_k».proof.Proof.Att.Bands

/-! The reference's results over the reals. -/

@[expose] public section
set_option maxRecDepth 16384
noncomputable section
open Idealize.ShloMosaic

namespace Cert.AttBwdRefIdeal.Att
open Cert.AttBwdRefIdeal Cert.AttBwdRefIdeal.Read Facts₀ Facts
open Cert.Att (Raw Args hcol row key chunk padded rel hd cl runRow runAt row128)

variable {w : Raw} {x0 x1 x2 : (⟨S1x4096x8x64, .f32⟩ : BufTy).Contents (Elt Ideal)} {x3 : (⟨S1x8x513, .f32⟩ : BufTy).Contents (Elt Ideal)} {x4 : (⟨S1x4096x512, .f32⟩ : BufTy).Contents (Elt Ideal)}

/-- The scores' gradient, with the products' scale. -/
theorem scaled_at (H : Holds w x0 x1 x2 x3 x4) (c : Fin 64) (h : Fin 8) (qi : Fin 64) (b : Fin 576) :
    val_main_v130 (F := Ideal) x0 x1 x2 x3 x4 (ix5 (0 : Fin 1) c h qi b) = ((Cert.Att.dS w.args c h qi b * (1 / 8) : ℝ) : EReal) := by
  have e : val_main_v130 (F := Ideal) x0 x1 x2 x3 x4 (ix5 (0 : Fin 1) c h qi b) = val_main_v123 (F := Ideal) x0 x1 x2 x3 x4 (ix5 (0 : Fin 1) c h qi b) * Ideal.ofBits .f32 0x3E000000#32 := by
    pointwise [val_main_v130, val_main_v129, val_main_cst_26, val_main_v128, val_main_v124]
  rw [e, ds_at H, eighth_word, ← EReal.coe_mul]

theorem dq_at (H : Holds w x0 x1 x2 x3 x4) (c qi : Fin 64) (h : Fin 8) (d : Fin 64) :
    val_main_v208 (F := Ideal) x0 x1 x2 x3 x4 (ix2 (row c qi) (hcol h d)) = (Cert.Att.dQ w.args c qi h d : EReal) := by
  have e : val_main_v208 (F := Ideal) x0 x1 x2 x3 x4 (ix2 (row c qi) (hcol h d)) = val_main_v133 (F := Ideal) x0 x1 x2 x3 x4 (ix5 (0 : Fin 1) c h qi d) := by
    pointwise [val_main_v208, val_main_v207, val_main_v193, val_main_v134, row, hcol]
  rw [e]
  pointwise [val_main_v133]
  rw [Finset.sum_congr rfl fun b _ => by rw [scaled_at H, k_at H], Soft.coe_dot]
  congr 1
  unfold Cert.Att.dQ
  rw [Finset.sum_mul]
  exact Finset.sum_congr rfl fun b _ => by ring

/-- What a chunk's queries give to a place of its band of keys, and of values. -/
theorem band_k (H : Holds w x0 x1 x2 x3 x4) (c : Fin 64) (b : Fin 576) (h : Fin 8) (d : Fin 64) :
    val_main_v132 (F := Ideal) x0 x1 x2 x3 x4 (ix5 (0 : Fin 1) c b h d) = ((∑ qi, Cert.Att.dS w.args c h qi b * (w.args.q (row c qi) (hcol h d) * (1 / 8)) : ℝ) : EReal) := by
  pointwise [val_main_v132, val_main_v131]
  rw [Finset.sum_congr rfl fun qi _ => by rw [scaled_at H, q_at H], Soft.coe_dot]
  congr 1
  exact Finset.sum_congr rfl fun b _ => by ring
theorem band_v (H : Holds w x0 x1 x2 x3 x4) (c : Fin 64) (b : Fin 576) (h : Fin 8) (d : Fin 64) :
    val_main_v109 (F := Ideal) x0 x1 x3 x4 (ix5 (0 : Fin 1) c b h d) = ((∑ qi, Cert.Att.P w.args c h qi b * w.args.y (row c qi) (hcol h d) : ℝ) : EReal) := by
  pointwise [val_main_v109, val_main_v108]
  rw [Finset.sum_congr rfl fun qi _ => by rw [y_at H, p_at H], Soft.coe_dot]
  congr 1
  exact Finset.sum_congr rfl fun b _ => by ring

/-- One of the nine runs. -/
theorem run_piece (X : (⟨S1x64x576x8x64, .f32⟩ : BufTy).Contents (Elt Ideal)) (g : Fin 64 → Fin 576 → ℝ) (h : Fin 8) (d : Fin 64)
    (hX : ∀ c b, X (ix5 (0 : Fin 1) c b h d) = (g c b : EReal)) (n : Fin 72) (r : Fin 64) (z : (⟨S_, .f32⟩ : BufTy).Contents (Elt Ideal)) (hz : ∀ i, z i = (0 : EReal)) (i : Fin 9)
    (sl : S1x64x576x8x64.Slices ![0, 0, 64 * i.1, 0, 0] S1x64x64x8x64) (hp) :
    pad S1x72x64x8x64 ![0, i.1, 0, 0, 0] ![0, 8 - i.1, 0, 0, 0] ![0, 0, 0, 0, 0] (extractStridedSlice S1x64x64x8x64 ![0, 0, 64 * i.1, 0, 0] X sl) z hp h_S_ (ix5 (0 : Fin 1) n r h d)
      = (runAt g n r i : EReal) := by
  pointwise []
  unfold runAt
  by_cases hi : i.1 ≤ n.1 ∧ n.1 < i.1 + 64
  · rw [dif_pos (show _ ∧ _ from ⟨hi.1, by omega⟩), dif_pos hi]; exact hX _ _
  · rw [dif_neg (fun hh => hi ⟨hh.1, by omega⟩), dif_neg hi]; exact hz _

theorem sum_nine (t : Fin 9 → ℝ) : ((((((((t 8 : EReal) + t 7) + t 6) + t 5) + t 4) + t 3) + t 2) + t 1) + t 0 = ((∑ i, t i : ℝ) : EReal) := by
  simp only [← EReal.coe_add]
  congr 1
  rw [Fin.sum_univ_castSucc, Fin.sum_univ_eight]
  show _ = t 0 + t 1 + t 2 + t 3 + t 4 + t 5 + t 6 + t 7 + t 8
  ring

/-- A padded row of keys, from all chunks. -/
theorem rows_k (H : Holds w x0 x1 x2 x3 x4) (n : Fin 72) (r : Fin 64) (h : Fin 8) (d : Fin 64) :
    val_main_v186 (F := Ideal) x0 x1 x2 x3 x4 (ix5 (0 : Fin 1) n r h d) = (Cert.Att.dK w.args (runRow n r) h d : EReal) := by
  unfold Cert.Att.dK
  rw [← Cert.Att.sum_runAt (fun c b => ∑ qi, Cert.Att.dS w.args c h qi b * (w.args.q (row c qi) (hcol h d) * (1 / 8))), ← sum_nine]
  have t := fun z hz i sl hp => run_piece (val_main_v132 (F := Ideal) x0 x1 x2 x3 x4) _ h d (fun c b => band_k H c b h d) n r z hz i sl hp
  rw [val_main_v186_apply, val_main_v184_apply, val_main_v182_apply, val_main_v180_apply, val_main_v178_apply, val_main_v176_apply, val_main_v174_apply, val_main_v172_apply]
  have z : ∀ i, (constant (F := Ideal) S_ .f32 0x00000000#32) i = (0 : EReal) := fun i => by pointwise []
  exact congrArg₂ _ (congrArg₂ _ (congrArg₂ _ (congrArg₂ _ (congrArg₂ _ (congrArg₂ _ (congrArg₂ _ (congrArg₂ _
    (t _ z 8 _ _) (t _ z 7 _ _)) (t _ z 6 _ _)) (t _ z 5 _ _)) (t _ z 4 _ _)) (t _ z 3 _ _)) (t _ z 2 _ _)) (t _ z 1 _ _)) (t _ z 0 _ _)
theorem rows_v (H : Holds w x0 x1 x2 x3 x4) (n : Fin 72) (r : Fin 64) (h : Fin 8) (d : Fin 64) :
    val_main_v160 (F := Ideal) x0 x1 x3 x4 (ix5 (0 : Fin 1) n r h d) = (Cert.Att.dV w.args (runRow n r) h d : EReal) := by
  unfold Cert.Att.dV
  rw [← Cert.Att.sum_runAt (fun c b => ∑ qi, Cert.Att.P w.args c h qi b * w.args.y (row c qi) (hcol h d)), ← sum_nine]
  have t := fun z hz i sl hp => run_piece (val_main_v109 (F := Ideal) x0 x1 x3 x4) _ h d (fun c b => band_v H c b h d) n r z hz i sl hp
  rw [val_main_v160_apply, val_main_v158_apply, val_main_v156_apply, val_main_v154_apply, val_main_v152_apply, val_main_v150_apply, val_main_v148_apply, val_main_v146_apply]
  have z : ∀ i, (constant (F := Ideal) S_ .f32 0x00000000#32) i = (0 : EReal) := fun i => by pointwise []
  exact congrArg₂ _ (congrArg₂ _ (congrArg₂ _ (congrArg₂ _ (congrArg₂ _ (congrArg₂ _ (congrArg₂ _ (congrArg₂ _
    (t _ z 8 _ _) (t _ z 7 _ _)) (t _ z 6 _ _)) (t _ z 5 _ _)) (t _ z 4 _ _)) (t _ z 3 _ _)) (t _ z 2 _ _)) (t _ z 1 _ _)) (t _ z 0 _ _)

theorem part_pad (g : Fin 64 → Fin 576 → ℝ) (hg : ∀ c b, ¬ Cert.Att.ok c b → g c b = 0) (κ : Fin 4608) (hκ : κ.1 < 512) : ∑ c, Cert.Att.part (g c) c κ = 0 :=
  Finset.sum_eq_zero fun c _ => by
    unfold Cert.Att.part
    by_cases hb : 64 * c.1 ≤ κ.1 ∧ κ.1 < 64 * c.1 + 576
    · rw [dif_pos hb]; exact hg _ _ (by unfold Cert.Att.ok; dsimp only; omega)
    · exact dif_neg hb
theorem p_pad (a : Args) (c : Fin 64) (h : Fin 8) (qi : Fin 64) (b : Fin 576) (hb : ¬ Cert.Att.ok c b) : Cert.Att.P a c h qi b = 0 := by
  unfold Cert.Att.P Soft.pr Soft.ex; rw [if_neg hb, zero_div]
theorem ds_pad (a : Args) (c : Fin 64) (h : Fin 8) (qi : Fin 64) (b : Fin 576) (hb : ¬ Cert.Att.ok c b) : Cert.Att.dS a c h qi b = 0 := by
  unfold Cert.Att.dS Soft.dpr Soft.pr Soft.ex; rw [if_neg hb, zero_div, zero_mul]

theorem dk_at (H : Holds w x0 x1 x2 x3 x4) (κ : Fin 4608) (h : Fin 8) (d : Fin 64) :
    val_main_v196 (F := Ideal) x0 x1 x2 x3 x4 (ix2 κ (hcol h d)) = (Cert.Att.dK w.args κ h d : EReal) := by
  pointwise [val_main_v196, val_main_v195, val_main_v192, val_main_v190, val_main_v194, val_main_cst_45, hcol]
  by_cases hκ : κ.1 < 512
  · rw [dif_pos hκ]
    have e : Cert.Att.dK w.args κ h d = 0 := part_pad _ (fun c b hb => Finset.sum_eq_zero fun qi _ => by rw [ds_pad _ _ _ _ _ hb, zero_mul]) κ hκ
    rw [e]; rfl
  · rw [dif_neg hκ, rows_k H]
    refine congrArg (fun κ => ((Cert.Att.dK w.args κ h d : ℝ) : EReal)) (Fin.ext ?_)
    show 64 * ((512 + (κ.1 - 512)) / 64) + (512 + (κ.1 - 512)) % 64 = κ.1
    omega
theorem dv_at (H : Holds w x0 x1 x2 x3 x4) (κ : Fin 4608) (h : Fin 8) (d : Fin 64) :
    val_main_v198 (F := Ideal) x0 x1 x3 x4 (ix2 κ (hcol h d)) = (Cert.Att.dV w.args κ h d : EReal) := by
  pointwise [val_main_v198, val_main_v197, val_main_v189, val_main_v187, val_main_v194, val_main_cst_45, hcol]
  by_cases hκ : κ.1 < 512
  · rw [dif_pos hκ]
    have e : Cert.Att.dV w.args κ h d = 0 := part_pad _ (fun c b hb => Finset.sum_eq_zero fun qi _ => by rw [p_pad _ _ _ _ _ hb, zero_mul]) κ hκ
    rw [e]; rfl
  · rw [dif_neg hκ, rows_v H]
    refine congrArg (fun κ => ((Cert.Att.dV w.args κ h d : ℝ) : EReal)) (Fin.ext ?_)
    show 64 * ((512 + (κ.1 - 512)) / 64) + (512 + (κ.1 - 512)) % 64 = κ.1
    omega

/-- The bias's gradient. -/
theorem dbias_at (H : Holds w x0 x1 x2 x3 x4) (p : Fin 2) (h : Fin 8) (qi : Fin 64) (b : Fin 576) :
    val_main_v127 (F := Ideal) x0 x1 x2 x3 x4 (ix4 p h qi b) = (Cert.Att.dB w.args p h qi b : EReal) := by
  have z : val_main_cst_25 (F := Ideal) (Shape.Idx.first h_S_) = (0 : EReal) := by pointwise [val_main_cst_25]
  have e : val_main_v127 (F := Ideal) x0 x1 x2 x3 x4 (ix4 p h qi b) = _ := Reduce1.sum6 (val_main_v126 (F := Ideal) x0 x1 x2 x3 x4) (val_main_cst_25 (F := Ideal) (Shape.Idx.first h_S_)) reducesTo_S1x1x2x8x64x576_S2x8x64x576_d0_1 p h qi b
  rw [e, z, zero_add]
  pointwise [val_main_v126, val_main_v125, val_main_cst_24]
  refine (Reduce1.sum6_1 (val_main_v124 (F := Ideal) x0 x1 x2 x3 x4) 0 reducesTo_S1x32x2x8x64x576_S1x2x8x64x576_d1 0 p h qi b).trans ?_
  rw [zero_add]
  unfold Cert.Att.dB
  rw [Soft.coe_sum]
  refine Finset.sum_congr rfl fun i _ => ?_
  rw [← ds_at H]
  pointwise [val_main_v124, chunk]
  simp only [Nat.mul_comm]

theorem wide_zero (f : Fin 576 → ℝ) (j : Fin 640) : Cert.Att.wide 0 f j = if hj : j.1 < 576 then f ⟨j.1, hj⟩ else 0 := by
  by_cases hj : j.1 < 576
  · rw [dif_pos hj, ← Cert.Att.wide_at 0 f ⟨j.1, hj⟩]
    exact congrArg _ (Fin.ext (by show j.1 = 64 * 0 + j.1; omega))
  · rw [dif_neg hj]
    exact Cert.Att.wide_off 0 f j fun hh => hj (by have h2 : j.1 < 64 * 0 + 576 := hh.2; omega)
theorem wide_one (f : Fin 576 → ℝ) (j : Fin 640) : Cert.Att.wide 1 f j = if hj : j.1 < 64 then 0 else f ⟨j.1 - 64, by omega⟩ := by
  by_cases hj : j.1 < 64
  · rw [dif_pos hj]
    exact Cert.Att.wide_off 1 f j fun hh => by have h2 : 64 * 1 ≤ j.1 := hh.1; omega
  · rw [dif_neg hj, ← Cert.Att.wide_at 1 f ⟨j.1 - 64, by omega⟩]
    exact congrArg _ (Fin.ext (by show j.1 = 64 * 1 + (j.1 - 64); omega))
theorem dB_congr (a : Args) (p : Fin 2) (h : Fin 8) {x x' : Fin 64} {b : Fin 576} (e : x.1 = x'.1) : (Cert.Att.dB a p h x b : EReal) = (Cert.Att.dB a p h x' b : ℝ) := by rw [Fin.ext e]

theorem two : ∀ p : Fin 2, p = 0 ∨ p = 1 := by decide

set_option maxHeartbeats 1000000 in
theorem db_at (H : Holds w x0 x1 x2 x3 x4) (p : Fin 2) (h : Fin 8) (qi : Fin 64) (j : Fin 640) :
    val_main_v209 (F := Ideal) x0 x1 x2 x3 x4 (ix3 h j (row128 p qi)) = (Cert.Att.wide p (Cert.Att.dB w.args p h qi) j : EReal) := by
  pointwise [val_main_v209, val_main_v206, val_main_v205, val_main_v202, val_main_v204, val_main_v203, val_main_v201, val_main_v200, val_main_v199, val_main_cst_46, row128]
  simp only [dbias_at H]
  rcases two p with rfl | rfl
  · rw [wide_zero, dif_pos (show 64 * (0 : Fin 2).1 + qi.1 < 64 by show 64 * 0 + qi.1 < 64; omega)]
    by_cases hj : j.1 < 576
    · rw [dif_pos hj, dif_pos hj]
      exact dB_congr _ _ _ (by show 64 * 0 + qi.1 = qi.1; omega)
    · rw [dif_neg hj, dif_neg hj]; rfl
  · rw [wide_one, dif_neg (show ¬ 64 * (1 : Fin 2).1 + qi.1 < 64 by show ¬ 64 * 1 + qi.1 < 64; omega)]
    by_cases hj : j.1 < 64
    · rw [dif_pos hj, dif_pos hj]; rfl
    · rw [dif_neg hj, dif_neg hj]
      exact dB_congr _ _ _ (by show 64 * 1 + qi.1 - 64 = qi.1; omega)

end Cert.AttBwdRefIdeal.Att
end
-- ==== Proof.Att.Host.lean ====
module
public import proofs.«01_k».proof.Proof.Att.Launch
public import proofs.«01_k».proof.Proof.Att.Outs
public import proofs.«01_k».proof.Proof.Att.RefOut

/-! What the kernel's call reads, from the arguments: the staged queries, padded keys and values, the cotangent, the skewed bias. -/

@[expose] public section
set_option maxRecDepth 16384
noncomputable section
open Idealize.ShloMosaic Idealize.ShloMosaic.TcCoe

namespace Cert.AttBwdIdeal.Att
open Cert.AttBwdIdeal Cert.AttBwdIdeal.Gen
open Cert.Att (Raw Args hcol row key chunk padded rel hd cl at640 row128)

variable (m : (ℓ : Loc nD τ sig) → Buf (Elt Ideal) ℓ)

/-- The kernel's arguments on a device are these reals. -/
abbrev HoldsK (w : Raw) (c : Dev nD) : Prop :=
  Cert.AttBwdRefIdeal.Att.Holds w (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The table's columns that the 640 offsets take. -/
def offs : IVec S640 32 := addi (minsi (broadcastInDim S640 ![] bcast_S_S640 (constantI S_ 32 256#32))
  (maxsi (broadcastInDim S640 ![] bcast_S_S640 (constantI S_ 32 4294967040#32)) (subi (broadcastInDim S640 ![] bcast_S_S640 (constantI S_ 32 575#32)) (iotaInDim S640 32 0))))
  (broadcastInDim S640 ![] bcast_S_S640 (constantI S_ 32 256#32))
def cols : IVec S640x1 32 := broadcastInDim S640x1 ![0] bcast_S640_S640x1_0
  (select (cmpi .slt offs (broadcastInDim S640 ![] bcast_S_S640 (constantI S_ 32 0#32))) (addi offs (broadcastInDim S640 ![] bcast_S_S640 (constantI S_ 32 513#32))) offs)
/-- The table's entries at the 640 offsets. -/
def taken (T : S1x8x513.Idx → EReal) : S8x640.Idx → EReal := Host.gather gather_S8x513_S640x1_S8x640_0_1_n_n_1_1_81 (shapeCast S8x513 T shapeCasts_S1x8x513_S8x513) cols
/-- Row `qi` of the bands is the offsets from `63 - qi` on. -/
def skew (t : S8x640.Idx → EReal) : S8x64x576.Idx → EReal :=
  extractStridedSlice S8x64x576 ![0, 0, 63] (shapeCast S8x64x639 (extractStridedSlice S8x40896 ![0, 0] (shapeCast S8x40960
    (broadcastInDim S1x8x64x640 ![0, 1, 2, 3] bcast_S1x8x1x640_S1x8x64x640_0_1_2_3 (shapeCast S1x8x1x640 t shapeCasts_S8x640_S1x8x1x640))
    shapeCasts_S1x8x64x640_S8x40960) slices_S8x40960_S8x40896_0_0) shapeCasts_S8x40896_S8x64x639) slices_S8x64x639_S8x64x576_0_0_63
/-- The blocks' bias: the bands at the left for even chunks, at the right for odd ones, −∞ beside them. -/
def blocks (x : S8x64x576.Idx → EReal) : S8x640x128.Idx → EReal :=
  transpose S8x640x128 [0, 2, 1] (concatenate S8x128x640 1 [⟨S8x64x640, pad S8x64x640 ![0, 0, 0] ![0, 0, 64] ![0, 0, 0] x (constant (F := Ideal) S_ .f32 0xFF800000#32) pads_S8x64x576_S8x64x640_000_000_0640 h_S_⟩,
    ⟨S8x64x640, pad S8x64x640 ![0, 0, 64] ![0, 0, 0] ![0, 0, 0] x (constant (F := Ideal) S_ .f32 0xFF800000#32) pads_S8x64x576_S8x64x640_000_000_6400 h_S_⟩]
    concatenates_S8x64x640_S8x64x640_S8x128x640_d1) transposes_S8x128x640_S8x640x128_0_2_1

theorem y_term (c : Dev nD) : V m c main_v23 = shapeCast S4096x512 (m ((c.tc : Thread nD τ).loc main_arg4)) shapeCasts_S1x4096x512_S4096x512 := by
  simp only [V, hostOps0, hostOps0_1, hostOps0_2, hostOps0_3, hostOps0_4, hostOps0_5, hostOps0_6, List.flatten_cons, List.flatten_nil, List.cons_append, List.nil_append, List.append_nil]
  entry_read
  rfl

theorem flat_at (a : S1x4096x512.Idx → EReal) (r : Fin 4096) (x : Fin 512) : shapeCast S4096x512 a shapeCasts_S1x4096x512_S4096x512 (ix2 r x) = a (ix3 (0 : Fin 1) r x) := by pointwise []

theorem y_entry (c : Dev nD) (r : Fin 4096) (x : Fin 512) : V m c main_v23 (ix2 r x) = m ((c.tc : Thread nD τ).loc main_arg4) (ix3 (0 : Fin 1) r x) := by
  rw [y_term]; exact flat_at _ r x

def wideCat (a b c : S1x4096x8x64.Idx → EReal) : S4096x1536.Idx → EReal :=
  concatenate S4096x1536 1 [⟨S4096x512, shapeCast S4096x512 (shapeCast S4096x8x64 a shapeCasts_S1x4096x8x64_S4096x8x64) shapeCasts_S4096x8x64_S4096x512⟩,
    ⟨S4096x512, shapeCast S4096x512 (shapeCast S4096x8x64 b shapeCasts_S1x4096x8x64_S4096x8x64) shapeCasts_S4096x8x64_S4096x512⟩,
    ⟨S4096x512, shapeCast S4096x512 (shapeCast S4096x8x64 c shapeCasts_S1x4096x8x64_S4096x8x64) shapeCasts_S4096x8x64_S4096x512⟩] concatenates_S4096x512_S4096x512_S4096x512_S4096x1536_d1

theorem after_two {τ : Topo} {sig : RefSig} {Val : EltTy → Type} (l l' : List (HloOp τ sig Val)) (W : Valuation τ sig Val) :
    StableHlo.after (l ++ l') W = StableHlo.after l' (StableHlo.after l W) := by
  induction l generalizing W with
  | nil => rfl
  | cons o l ih => exact ih _

/-- The wide array, from the first eight operations: none of the others writes it. -/
theorem src_early (c : Dev nD) : V m c main_v7 = StableHlo.after (hostOps0.take 8) (fun b => m (c, b)) (Proc.devRef .tc main_v7) := by
  show StableHlo.after (hostOps0.take 8 ++ List.flatten [hostOps0.drop 8, hostOps0_1, hostOps0_2, hostOps0_3, hostOps0_4, hostOps0_5, hostOps0_6]) _ _ = _
  rw [after_two]
  refine StableHlo.after_of_forall_not_mem (b := Proc.devRef .tc main_v7) _ _ (List.forall_iff_forall_mem.mp ?_)
  simp only [hostOps0, hostOps0_1, hostOps0_2, hostOps0_3, hostOps0_4, hostOps0_5, hostOps0_6, List.drop_succ_cons, List.drop_zero, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

theorem early1 (c : Dev nD) : StableHlo.after (hostOps0.take 6) (fun b => m (c, b)) (Proc.devRef .tc main_v1)
    = shapeCast S4096x512 (shapeCast S4096x8x64 (m ((c.tc : Thread nD τ).loc main_arg0)) shapeCasts_S1x4096x8x64_S4096x8x64) shapeCasts_S4096x8x64_S4096x512 := by
  simp only [hostOps0, List.take_succ_cons, List.take_zero]
  entry_read
  rfl

theorem early2 (c : Dev nD) : StableHlo.after (hostOps0.take 6) (fun b => m (c, b)) (Proc.devRef .tc main_v3)
    = shapeCast S4096x512 (shapeCast S4096x8x64 (m ((c.tc : Thread nD τ).loc main_arg1)) shapeCasts_S1x4096x8x64_S4096x8x64) shapeCasts_S4096x8x64_S4096x512 := by
  simp only [hostOps0, List.take_succ_cons, List.take_zero]
  entry_read
  rfl

theorem early3 (c : Dev nD) : StableHlo.after (hostOps0.take 6) (fun b => m (c, b)) (Proc.devRef .tc main_v5)
    = shapeCast S4096x512 (shapeCast S4096x8x64 (m ((c.tc : Thread nD τ).loc main_arg2)) shapeCasts_S1x4096x8x64_S4096x8x64) shapeCasts_S4096x8x64_S4096x512 := by
  simp only [hostOps0, List.take_succ_cons, List.take_zero]
  entry_read
  rfl

theorem src_term (c : Dev nD) : V m c main_v7 = truncf .bf16 (F := Ideal) (wideCat (m ((c.tc : Thread nD τ).loc main_arg0)) (m ((c.tc : Thread nD τ).loc main_arg1)) (m ((c.tc : Thread nD τ).loc main_arg2))) bitsLt_bf16_f32 := by
  rw [src_early]
  simp only [hostOps0, List.take_succ_cons, List.take_zero]
  simp only [StableHlo.after_cons, StableHlo.after_nil]
  refine (StableHlo.unary_result' (x := main_v6) (y := main_v7) _ _ _ _).trans ?_
  refine congrArg (fun z => truncf .bf16 (F := Ideal) z bitsLt_bf16_f32) ((StableHlo.nary_result' (y := main_v6) _ _ _ _ _).trans ?_)
  show concatenate S4096x1536 1 [⟨S4096x512, StableHlo.after (hostOps0.take 6) (fun b => m (c, b)) (Proc.devRef .tc main_v1)⟩,
    ⟨S4096x512, StableHlo.after (hostOps0.take 6) (fun b => m (c, b)) (Proc.devRef .tc main_v3)⟩,
    ⟨S4096x512, StableHlo.after (hostOps0.take 6) (fun b => m (c, b)) (Proc.devRef .tc main_v5)⟩] _ = _
  rw [early1, early2, early3]
  rfl

theorem cat_at (a b c : S1x4096x8x64.Idx → EReal) (r : Fin 4096) (p : Fin 3) (h : Fin 8) (d : Fin 64) :
    wideCat a b c (ix2 r (⟨512 * p.1 + 64 * h.1 + d.1, by omega⟩ : Fin 1536)) = (![a, b, c] p) (ix4 (0 : Fin 1) r h d) := by
  refine (concatenate_ofFn_apply (t := S4096x1536) (s₁ := S4096x512) 1 (fun i : Fin 3 => shapeCast S4096x512 (shapeCast S4096x8x64 (![a, b, c] i) shapeCasts_S1x4096x8x64_S4096x8x64) shapeCasts_S4096x8x64_S4096x512) _ rfl 512 rfl
    (ix2 r (⟨512 * p.1 + 64 * h.1 + d.1, by omega⟩ : Fin 1536)) p (by show (512 * p.1 + 64 * h.1 + d.1) / 512 = p.1; omega) (ix2 r (hcol h d)) (by show 64 * h.1 + d.1 = (512 * p.1 + 64 * h.1 + d.1) % 512; omega) ?_).trans ?_
  · intro a ha; fin_cases a <;> first | rfl | exact absurd rfl ha
  · pointwise [hcol]

set_option maxHeartbeats 4000000 in
theorem bias_term (c : Dev nD) : V m c main_v33 = blocks (skew (taken (m ((c.tc : Thread nD τ).loc main_arg3)))) := by
  simp only [V, hostOps0, hostOps0_1, hostOps0_2, hostOps0_3, hostOps0_4, hostOps0_5, hostOps0_6, List.flatten_cons, List.flatten_nil, List.cons_append, List.nil_append, List.append_nil]
  entry_read
  rfl

theorem skew_at (t : S8x640.Idx → EReal) (h : Fin 8) (qi : Fin 64) (b : Fin 576) : skew t (ix3 h qi b) = t (ix2 h (⟨63 - qi.1 + b.1, by omega⟩ : Fin 640)) := by
  pointwise [skew]
  refine congrArg (fun n => t (ix2 h n)) (Fin.ext ?_)
  show (qi.1 * 639 + (63 + b.1)) % 640 = 63 - qi.1 + b.1
  have := qi.2; have := b.2
  have e : qi.1 * 639 + (63 + b.1) = (63 - qi.1 + b.1) + 640 * qi.1 := by omega
  rw [e, Nat.add_mul_mod_self_left, Nat.mod_eq_of_lt (by omega)]

/-- A block's bias, place by place. -/
theorem blocks_val (x : S8x64x576.Idx → EReal) (h : Fin 8) (j : Fin 640) (s : Fin 128) : blocks x (ix3 h j s)
    = if h1 : s.1 < 64 then if h2 : s.1 < 64 ∧ j.1 < 576 then x (ix3 h (⟨s.1, h1⟩ : Fin 64) (⟨j.1, h2.2⟩ : Fin 576)) else ⊥
      else if h2 : s.1 - 64 < 64 ∧ 64 ≤ j.1 ∧ j.1 - 64 < 576 then x (ix3 h (⟨s.1 - 64, h2.1⟩ : Fin 64) (⟨j.1 - 64, h2.2.2⟩ : Fin 576)) else ⊥ := by
  pointwise [blocks]
  rw [ninf_word]

theorem ix3_congr (x : S8x64x576.Idx → EReal) (h : Fin 8) {q q' : Fin 64} {b b' : Fin 576} (eq : q.1 = q'.1) (eb : b.1 = b'.1) : x (ix3 h q b) = x (ix3 h q' b') := by
  rw [Fin.ext eq, Fin.ext eb]

theorem blocks_at (x : S8x64x576.Idx → EReal) (h : Fin 8) (j : Fin 640) (p : Fin 2) (qi : Fin 64) :
    blocks x (ix3 h j (row128 p qi)) = if hb : 64 * p.1 ≤ j.1 ∧ j.1 < 64 * p.1 + 576 then x (ix3 h qi (⟨j.1 - 64 * p.1, by omega⟩ : Fin 576)) else ⊥ := by
  rw [blocks_val]
  have hp := p.2; have hq := qi.2
  have hr : (row128 p qi).1 = 64 * p.1 + qi.1 := rfl
  by_cases h1 : (row128 p qi).1 < 64
  · rw [dif_pos h1]
    by_cases hb : 64 * p.1 ≤ j.1 ∧ j.1 < 64 * p.1 + 576
    · rw [dif_pos hb, dif_pos ⟨h1, by omega⟩]; exact ix3_congr x h (by dsimp only; omega) (by dsimp only; omega)
    · rw [dif_neg hb, dif_neg (fun hh => hb ⟨by omega, by omega⟩)]
  · rw [dif_neg h1]
    by_cases hb : 64 * p.1 ≤ j.1 ∧ j.1 < 64 * p.1 + 576
    · rw [dif_pos hb, dif_pos ⟨by omega, by omega, by omega⟩]; exact ix3_congr x h (by dsimp only; omega) (by dsimp only; omega)
    · rw [dif_neg hb, dif_neg (fun hh => hb ⟨by omega, by omega⟩)]

/-- Columns of the table, taken at indices that are in it. -/
theorem take_at {α : Type} (x : S8x513.Idx → α) (ix : IVec S640x1 32) (h : Fin 8) (o : Fin 640) (n : Fin 513)
    (hn : ix (ix2 o (0 : Fin 1)) = BitVec.ofNat 32 n.1) : Host.gather gather_S8x513_S640x1_S8x640_0_1_n_n_1_1_81 x ix (ix2 h o) = x (ix2 h n) := by
  unfold Host.gather
  refine congrArg x (funext fun a => Fin.ext ?_)
  show GatherDims.start _ _ ix a + GatherDims.batchCoord _ _ a + GatherDims.offCoord _ _ a = _
  rw [GatherDims.batchCoord_eq_zero _ _ _ List.not_mem_nil, Nat.add_zero]
  rcases Cert.AttBwdRefIdeal.Att.two a with rfl | rfl
  · unfold GatherDims.start
    rw [dif_neg (by decide), Nat.zero_add]
    unfold GatherDims.offCoord
    rw [dif_pos (by decide)]; rfl
  · rw [GatherDims.offCoord_eq_zero _ _ _ (by decide), Nat.add_zero]
    unfold GatherDims.start
    rw [dif_pos (by decide)]
    have hsi : GatherDims.siIdx gather_S8x513_S640x1_S8x640_0_1_n_n_1_1_81 (ix2 h o) ⟨0, by decide⟩ = ix2 o (0 : Fin 1) := by
      funext c; refine Fin.ext ?_
      match c with
      | ⟨0, _⟩ => rfl
      | ⟨1, _⟩ => rfl
    refine (congrArg (fun z => min (ix z).toInt.toNat 512) hsi).trans ?_
    rw [hn]
    have := n.2
    show min (BitVec.ofNat 32 n.1).toInt.toNat 512 = n.1
    rw [BitVec.toInt_eq_toNat_of_lt (by simp; omega)]; simp; omega

theorem offs_word : ∀ o : Fin 640, Scalar.select (IntOp.cmpi CmpIPredicate.slt (IntOp.addi (IntOp.minsi 256#32 (IntOp.maxsi 4294967040#32 (IntOp.subi 575#32 (BitVec.ofNat 32 o.1)))) 256#32) 0#32)
    (IntOp.addi (IntOp.addi (IntOp.minsi 256#32 (IntOp.maxsi 4294967040#32 (IntOp.subi 575#32 (BitVec.ofNat 32 o.1)))) 256#32) 513#32)
    (IntOp.addi (IntOp.minsi 256#32 (IntOp.maxsi 4294967040#32 (IntOp.subi 575#32 (BitVec.ofNat 32 o.1)))) 256#32)
      = BitVec.ofNat 32 (min (831 - o.1) 512) := by decide +kernel

theorem cols_at (o : Fin 640) : cols (ix2 o (0 : Fin 1)) = BitVec.ofNat 32 (min (831 - o.1) 512) := by
  pointwise [cols, offs]
  exact offs_word o

theorem taken_at (T : S1x8x513.Idx → EReal) (h : Fin 8) (o : Fin 640) : taken T (ix2 h o) = T (ix3 (0 : Fin 1) h (⟨min (831 - o.1) 512, by omega⟩ : Fin 513)) := by
  refine (take_at _ cols h o ⟨min (831 - o.1) 512, by omega⟩ (cols_at o)).trans ?_
  pointwise []

/-- The bias of the band: the table at the clipped distance. -/
theorem band_bias {w : Raw} {c : Dev nD} (H : HoldsK m w c) (h : Fin 8) (qi : Fin 64) (b : Fin 576) :
    skew (taken (m ((c.tc : Thread nD τ).loc main_arg3))) (ix3 h qi b) = (w.args.bias h qi b : EReal) := by
  rw [skew_at, taken_at]
  refine Eq.trans (congrArg (fun n : Fin 513 => m ((c.tc : Thread nD τ).loc main_arg3) (ix3 (0 : Fin 1) h n)) (Fin.ext ?_)) (H.b h (rel qi b))
  show min (831 - (63 - qi.1 + b.1)) 512 = min (qi.1 + 768 - b.1) 512
  have := qi.2; have := b.2; omega

theorem src_at (c : Dev nD) (r : Fin 4096) (p : Fin 3) (x : Fin 512) :
    src m c (ix2 r (⟨512 * p.1 + x.1, by omega⟩ : Fin 1536))
      = (![m ((c.tc : Thread nD τ).loc main_arg0), m ((c.tc : Thread nD τ).loc main_arg1), m ((c.tc : Thread nD τ).loc main_arg2)] p : S1x4096x8x64.Idx → EReal) (ix4 (0 : Fin 1) r (hd x) (cl x)) := by
  rw [← cat_at]
  refine (congrFun (src_term m c) _).trans (congrArg (wideCat _ _ _) (congrArg (ix2 r) (Fin.ext ?_)))
  show 512 * p.1 + x.1 = 512 * p.1 + 64 * (x.1 / 64) + x.1 % 64
  omega

/-- The staged queries, keys and values. -/
theorem q_read {w : Raw} {c : Dev nD} (H : HoldsK m w c) (r : Fin 4096) (x : Fin 512) : qOf (src m c) (ix2 r x) = (w.args.q r x : EReal) := by
  refine Eq.trans ?_ (H.q r (hd x) (cl x))
  refine Eq.trans ?_ (src_at m c r 0 x)
  refine congrArg (src m c) ?_
  refine (Rect.unit (s := S4096x1536) ![0, 0] S4096x512.size _).emb_eq_of_coords _ _ (Fin.forall_fin_two.2 ⟨?_, ?_⟩) <;> simp

/-- The 512 staged rows before the device's own are zero, the others its own. -/
theorem padded_rows (u : Fin 4096 → Fin 8 → Fin 64 → ℝ) (o : ℕ) (inb) (z : S512x512.Idx → Elt Ideal .bf16) (hz : ∀ i, z i = (0 : EReal)) (W : S4096x1536.Idx → Elt Ideal .bf16)
    (hW : ∀ r x, (cut (Rect.unit (s := S4096x1536) ![0, o] S4096x512.size inb) W : S4096x512.Idx → Elt Ideal .bf16) (ix2 r x) = (u r (hd x) (cl x) : EReal)) (A : S4608x512.Idx → Elt Ideal .bf16) (r : Fin 4608) (x : Fin 512) :
    Puts.puts (s := S4608x512) [⟨Rect.unit ![0, 0] S512x512.size inb_S4608x512_S512x512_0_0, z⟩,
      ⟨Rect.unit ![512, 0] S4096x512.size inb_S4608x512_S4096x512_512_0, cut (Rect.unit (s := S4096x1536) ![0, o] S4096x512.size inb) W⟩] A (ix2 r x) = (padded u r (hd x) (cl x) : EReal) := by
  rw [Puts.puts_cons, Puts.puts_cons]
  unfold padded
  by_cases hr : r.1 < 512
  · refine (Puts.rows_hit (R := 4608) (W := 512) (n := 512) (o := 0) inb_S4608x512_S512x512_0_0 z _ (ix2 r x) (Nat.zero_le _) (by show r.1 - 0 < 512; omega)).trans ?_
    rw [hz, dif_neg (by omega)]; rfl
  · refine (Puts.rows_miss (R := 4608) (W := 512) (n := 512) (o := 0) inb_S4608x512_S512x512_0_0 z _ (ix2 r x) (.inr (by show 0 + 512 ≤ r.1; omega))).trans ?_
    refine (Puts.rows_hit (R := 4608) (W := 512) (n := 4096) (o := 512) inb_S4608x512_S4096x512_512_0 _ _ (ix2 r x) (by show 512 ≤ r.1; omega) (by show r.1 - 512 < 4096; omega)).trans ?_
    rw [dif_pos (by omega)]
    exact hW _ _

/-- The staged window, reading the array's columns from `512 * p` on. -/
theorem cut_cols (o : ℕ) (p : Fin 3) (ho : o = 512 * p.1) (inb) (W : S4096x1536.Idx → Elt Ideal .bf16) (r : Fin 4096) (x : Fin 512) :
    (cut (Rect.unit (s := S4096x1536) ![0, o] S4096x512.size inb) W : S4096x512.Idx → Elt Ideal .bf16) (ix2 r x) = W (ix2 r (⟨512 * p.1 + x.1, by omega⟩ : Fin 1536)) := by
  subst ho
  refine congrArg W ((Rect.unit (s := S4096x1536) ![0, 512 * p.1] S4096x512.size inb).emb_eq_of_coords _ _ (Fin.forall_fin_two.2 ⟨?_, ?_⟩)) <;> simp

theorem pay97_zero (i : S512x512.Idx) : k0_pay97 (F := Ideal) i = (0 : EReal) := by pointwise [k0_pay97]
theorem pay98_zero (i : S512x512.Idx) : k0_pay98 (F := Ideal) i = (0 : EReal) := by pointwise [k0_pay98]

theorem k_read {w : Raw} {c : Dev nD} (H : HoldsK m w c) (r : Fin 4608) (x : Fin 512) : kOf (src m c) (ix2 r x) = (w.args.k r x : EReal) :=
  padded_rows w.k 512 inb_S4096x1536_S4096x512_0_512 (k0_pay97 (F := Ideal)) pay97_zero (src m c) (fun r x => (cut_cols 512 1 rfl _ _ r x).trans ((src_at m c r 1 x).trans (H.k r (hd x) (cl x)))) _ r x

theorem v_read {w : Raw} {c : Dev nD} (H : HoldsK m w c) (r : Fin 4608) (x : Fin 512) : vOf (src m c) (ix2 r x) = (w.args.v r x : EReal) :=
  padded_rows w.v 1024 inb_S4096x1536_S4096x512_0_1024 (k0_pay98 (F := Ideal)) pay98_zero (src m c) (fun r x => (cut_cols 1024 2 rfl _ _ r x).trans ((src_at m c r 2 x).trans (H.v r (hd x) (cl x)))) _ r x

theorem idx0 (t : Fin cfg0.N) (a : Fin 2) : win0_0.index t a = 0 := by fin_cases a <;> rfl
theorem idx1 (t : Fin cfg0.N) (a : Fin 3) : win0_1.index t a = 0 := by fin_cases a <;> rfl
/-- The blocks of the two staged windows are their whole arrays. -/
theorem blk0 (c : Dev nD) (t : Fin cfg0.N) (y : S4096x512.Idx) : iblk m c 0 t y = V m c main_v23 y := by
  unfold iblk; exact congrArg (V m c main_v23) (by blk_ext [idx0 t])
theorem blk1 (c : Dev nD) (t : Fin cfg0.N) (y : S8x640x128.Idx) : iblk m c 1 t y = V m c main_v33 y := by
  unfold iblk; exact congrArg (V m c main_v33) (by blk_ext [idx1 t])

/-- What the body works on, when the arguments are reals. -/
theorem reads {w : Raw} {c : Dev nD} (H : HoldsK m w c) (t : Fin cfg0.N) : Reads w.args (iblk m c 0 t) (iblk m c 1 t) (qOf (src m c)) (kOf (src m c)) (vOf (src m c)) where
  y r x := (blk0 m c t _).trans ((y_entry m c r x).trans (H.y r x))
  q := q_read m H
  k := k_read m H
  v := v_read m H
  b h p qi b := by
    refine (blk1 m c t _).trans ?_
    rw [bias_term, blocks_at, dif_pos (by show 64 * p.1 ≤ (at640 p b).1 ∧ (at640 p b).1 < 64 * p.1 + 576; simp only [at640]; omega), ← band_bias m H h qi b]
    exact ix3_congr _ h rfl (by simp only [at640]; omega)
  off h p qi j hj := by
    refine (blk1 m c t _).trans ?_
    rw [bias_term, blocks_at, dif_neg]
    exact fun hh => hj ⟨⟨j.1 - 64 * p.1, by omega⟩, Fin.ext (by simp only [at640]; omega)⟩

end Cert.AttBwdIdeal.Att
end
-- ==== Proof.Finite.lean ====
module

public import Idealize.ShloMosaic.PureOps.Ideal
public import Idealize.ShloMosaic.Lib.Pipeline.ValueKit

@[expose] public section
noncomputable section
open Idealize.ShloMosaic

/-! # Finite arguments are reals -/

namespace Cert.Finite

/-- A number smaller than +∞ in size is neither infinity. -/
theorem lt_top_word (x : EReal) (h : FloatOps.cmpf (F := Ideal) CmpFPredicate.olt (FloatOps.absf (F := Ideal) (φ := .f32) x) (Scalar.ofBits (F := Ideal) .f32 0x7F800000#32) = 1#1) : x ≠ ⊤ ∧ x ≠ ⊥ := by
  have hw : Scalar.ofBits (F := Ideal) .f32 0x7F800000#32 = (⊤ : EReal) := by simp [Scalar.ofBits, Ideal.ofBits, Ideal.ieee]
  rw [hw] at h
  constructor
  · rintro rfl
    exact absurd h (by simp [FloatOps.cmpf, FloatOps.absf, Ideal.cmp])
  · rintro rfl
    exact absurd h (by simp [FloatOps.cmpf, FloatOps.absf, Ideal.cmp])

/-- An array whose entries are all below +∞ in size, read as reals. -/
theorem finite_reads {s : Shape} (x : FVec Ideal s .f32) (z : (⟨0, ![]⟩ : Shape).Idx → EReal) (hb) (h : cmpf .olt (Host.absf x) (broadcastInDim s ![] hb (constant (F := Ideal) ⟨0, ![]⟩ .f32 0x7F800000#32)) = fun _ => 1#1) (i : s.Idx) :
    x i = ((x i).toReal : EReal) := by
  obtain ⟨h1, h2⟩ := lt_top_word (x i) (congrFun h i)
  exact (EReal.coe_toReal h1 h2).symm

end Cert.Finite

end
-- ==== Proof.Att.Value.lean ====
module

public import proofs.«01_k».proof.Defs
public import proofs.«01_k».proof.Proof.Att.Host
public import proofs.«01_k».proof.Proof.Finite
public import Idealize.ShloMosaic.Lib.Pipeline.ValueKit
public import Idealize.ShloMosaic.Lib.Claim

@[expose] public section
set_option maxRecDepth 16384
noncomputable section
open Idealize.ShloMosaic Idealize.ShloMosaic.TcCoe
open Idealize.SL.Sem

namespace Cert.AttBwdIdeal.Att
open Cert.AttBwdIdeal Cert.AttBwdIdeal.Gen
open Cert.Finite
open Cert.Att (Raw Args hcol row key chunk padded rel hd cl at640 row128 col_hd)

variable (m : (ℓ : Loc nD τ sig) → Buf (Elt Ideal) ℓ) (ρ : Dev nD → PrngReg)

/-! ## Finite arguments are reals -/

/-- The reals the arguments are. -/
def raw (c : Dev nD) : Raw where
  q r h d := EReal.toReal (m ((c.tc : Thread nD τ).loc main_arg0) (ix4 (0 : Fin 1) r h d))
  k r h d := EReal.toReal (m ((c.tc : Thread nD τ).loc main_arg1) (ix4 (0 : Fin 1) r h d))
  v r h d := EReal.toReal (m ((c.tc : Thread nD τ).loc main_arg2) (ix4 (0 : Fin 1) r h d))
  rb h n := EReal.toReal (m ((c.tc : Thread nD τ).loc main_arg3) (ix3 (0 : Fin 1) h n))
  y r x := EReal.toReal (m ((c.tc : Thread nD τ).loc main_arg4) (ix3 (0 : Fin 1) r x))

theorem holds_of_finite [Cert.Pre_att_finite.Facts] (h : Cert.Pre_AttBwdIdeal_att_finite m) (c : Dev nD) : HoldsK m (raw m c) c where
  q r x d := finite_reads _ (fun _ => 0) _ (h c).1 _
  k r x d := finite_reads _ (fun _ => 0) _ (h c).2.1 _
  v r x d := finite_reads _ (fun _ => 0) _ (h c).2.2.1 _
  b x n := finite_reads _ (fun _ => 0) _ (h c).2.2.2.1 _
  y r x := finite_reads _ (fun _ => 0) _ (h c).2.2.2.2 _

/-! ## The four arrays after the run -/

theorem idx2 (t : Fin cfg0.N) (a : Fin 2) : win0_2.index t a = 0 := by fin_cases a <;> rfl
theorem place2 (t : Fin cfg0.N) (y : S4096x512.Idx) : ((cfg0.win 2).blk t).view.emb y = y := by blk_ext [idx2 t]
theorem idx3 (t : Fin cfg0.N) (a : Fin 2) : win0_3.index t a = 0 := by fin_cases a <;> rfl
theorem place3 (t : Fin cfg0.N) (y : S4608x512.Idx) : ((cfg0.win 3).blk t).view.emb y = y := by blk_ext [idx3 t]
theorem idx4 (t : Fin cfg0.N) (a : Fin 2) : win0_4.index t a = 0 := by fin_cases a <;> rfl
theorem place4 (t : Fin cfg0.N) (y : S4608x512.Idx) : ((cfg0.win 4).blk t).view.emb y = y := by blk_ext [idx4 t]
theorem idx5 (t : Fin cfg0.N) (a : Fin 3) : win0_5.index t a = 0 := by fin_cases a <;> rfl
theorem place5 (t : Fin cfg0.N) (y : S8x640x128.Idx) : ((cfg0.win 5).blk t).view.emb y = y := by blk_ext [idx5 t]

/-- The run, with each output's array named and the arguments unchanged. -/
theorem run_values : θ_run defs (onTc (τ := τ) (main (F := Ideal))) ⟨m, fun _ => 0, ρ⟩ fun r => ∀ c : Dev nD,
      r.2.mem ((c : Thread nD τ).loc main_v34_0) = (dats m 0 c).arrAt 2 cfg0.N
      ∧ r.2.mem ((c : Thread nD τ).loc main_v34_1) = (dats m 0 c).arrAt 3 cfg0.N
      ∧ r.2.mem ((c : Thread nD τ).loc main_v34_2) = (dats m 0 c).arrAt 4 cfg0.N
      ∧ r.2.mem ((c : Thread nD τ).loc main_v34_3) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 2, (h c).1 3, (h c).1 4, (h c).1 5,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

variable {m}

/-- An index of a row and a column, the column read as head and lane. -/
theorem hcol_hd (x : Fin 512) : hcol (hd x) (cl x) = x := Fin.ext (by show 64 * (x.1 / 64) + x.1 % 64 = x.1; omega)
theorem split_row (r : Fin 4096) : row (⟨r.1 / 64, by omega⟩ : Fin 64) (⟨r.1 % 64, by omega⟩ : Fin 64) = r := Fin.ext (by show 64 * (r.1 / 64) + r.1 % 64 = r.1; omega)
theorem split_half (s : Fin 128) : row128 (⟨s.1 / 64, by omega⟩ : Fin 2) (⟨s.1 % 64, by omega⟩ : Fin 64) = s := Fin.ext (by show 64 * (s.1 / 64) + s.1 % 64 = s.1; omega)

variable {w : Raw} {c : Dev nD}

theorem zero_word (y : S4608x512.Idx) : (fun _ : S4608x512.Idx => Scalar.ofBits (F := Ideal) .f32 0x00000000#32) y = (0 : EReal) := by simp [Scalar.ofBits, Ideal.ofBits, Ideal.ieee]

theorem zero_words (y : S8x640x128.Idx) : (fun _ : S8x640x128.Idx => Scalar.ofBits (F := Ideal) .f32 0x00000000#32) y = (0 : EReal) := by simp [Scalar.ofBits, Ideal.ofBits, Ideal.ieee]

/-- The first array after the run is any array that holds the queries' gradient. -/
theorem dq_final (H : HoldsK m w c) (f : S4096x512.Idx → Elt Ideal .bf16) (hf : ∀ k qi h d, f (ix2 (row k qi) (hcol h d)) = (Cert.Att.dQ w.args k qi h d : EReal)) :
    f = (dats m 0 c).arrAt 2 cfg0.N := by
  refine ((dats m 0 c).arrAt_eq_of_covers 2 f (by decide +kernel) fun t _ y => ?_).symm
  blk_simp
  rw [after0_2]
  unfold outsAt outDq
  dsimp only
  refine Eq.trans ?_ (congrArg f (place2 t y)).symm
  obtain ⟨r, x, rfl⟩ : ∃ r x, y = ix2 r x := ⟨y 0, y 1, by funext a; fin_cases a <;> rfl⟩
  rw [← split_row r, ← hcol_hd x, hf]
  exact dqN_real (reads m H t) _ 32 le_rfl _ _ (by show r.1 / 64 < 2 * 32; omega) _ _

/-- The second holds the padded keys' gradient, -/
theorem dk_final (H : HoldsK m w c) (f : S4608x512.Idx → Elt Ideal .f32) (hf : ∀ κ h d, f (ix2 κ (hcol h d)) = (Cert.Att.dK w.args κ h d : EReal)) :
    f = (dats m 0 c).arrAt 3 cfg0.N := by
  refine ((dats m 0 c).arrAt_eq_of_covers 3 f (by decide +kernel) fun t _ y => ?_).symm
  blk_simp
  rw [after0_3]
  unfold outsAt outDk
  dsimp only
  refine Eq.trans ?_ (congrArg f (place3 t y)).symm
  obtain ⟨r, x, rfl⟩ : ∃ r x, y = ix2 r x := ⟨y 0, y 1, by funext a; fin_cases a <;> rfl⟩
  rw [← hcol_hd x, hf]
  exact dkN_real (reads m H t) _ zero_word _ _ _

/-- the third the padded values', -/
theorem dv_final (H : HoldsK m w c) (f : S4608x512.Idx → Elt Ideal .f32) (hf : ∀ κ h d, f (ix2 κ (hcol h d)) = (Cert.Att.dV w.args κ h d : EReal)) :
    f = (dats m 0 c).arrAt 4 cfg0.N := by
  refine ((dats m 0 c).arrAt_eq_of_covers 4 f (by decide +kernel) fun t _ y => ?_).symm
  blk_simp
  rw [after0_4]
  unfold outsAt outDv
  dsimp only
  refine Eq.trans ?_ (congrArg f (place4 t y)).symm
  obtain ⟨r, x, rfl⟩ : ∃ r x, y = ix2 r x := ⟨y 0, y 1, by funext a; fin_cases a <;> rfl⟩
  rw [← hcol_hd x, hf]
  exact dvN_real (reads m H t) _ zero_word _ _ _

/-- the fourth the bias's, for even and odd chunks. -/
theorem db_final (H : HoldsK m w c) (f : S8x640x128.Idx → Elt Ideal .f32) (hf : ∀ p h qi j, f (ix3 h j (row128 p qi)) = (Cert.Att.wide p (Cert.Att.dB w.args p h qi) j : EReal)) :
    f = (dats m 0 c).arrAt 5 cfg0.N := by
  refine ((dats m 0 c).arrAt_eq_of_covers 5 f (by decide +kernel) fun t _ y => ?_).symm
  blk_simp
  rw [after0_5]
  unfold outsAt outDb
  dsimp only
  refine Eq.trans ?_ (congrArg f (place5 t y)).symm
  obtain ⟨h, j, s, rfl⟩ : ∃ h j s, y = ix3 h j s := ⟨y 0, y 1, y 2, by funext a; fin_cases a <;> rfl⟩
  rw [← split_half s, hf]
  exact dbN_real (reads m H t) _ zero_words _ _ _ _

end Cert.AttBwdIdeal.Att
end
-- ==== Proof.Att.Pair.lean ====
module
public import proofs.«01_k».proof.Defs
public import proofs.«01_k».proof.Proof.Att.Value
public import proofs.«01_k».proof.Proof.Gen.AttBwdRefIdeal.Run
@[expose] public section
noncomputable section
namespace Cert.AttBwdIdeal.Att
open Idealize.ShloMosaic Idealize.SL.Sem

/-- Arguments that agree with the kernel's are the same reals. -/
theorem holds_ref {m : (ℓ : Loc nD τ sig) → Buf (Elt Ideal) ℓ} {w : Cert.Att.Raw} {c : Dev nD} (H : HoldsK m w c) {x0 x1 x2 : (⟨S1x4096x8x64, .f32⟩ : BufTy).Contents (Elt Ideal)}
    {x3 : (⟨S1x8x513, .f32⟩ : BufTy).Contents (Elt Ideal)} {x4 : (⟨S1x4096x512, .f32⟩ : BufTy).Contents (Elt Ideal)}
    (e : x0 = m ((c.tc : Thread nD τ).loc main_arg0) ∧ x1 = m ((c.tc : Thread nD τ).loc main_arg1) ∧ x2 = m ((c.tc : Thread nD τ).loc main_arg2)
      ∧ x3 = m ((c.tc : Thread nD τ).loc main_arg3) ∧ x4 = m ((c.tc : Thread nD τ).loc main_arg4)) : Cert.AttBwdRefIdeal.Att.Holds w x0 x1 x2 x3 x4 := by
  obtain ⟨rfl, rfl, rfl, rfl, rfl⟩ := e
  exact H

/-- The side conditions of the precondition's operations. -/
instance pre_facts : Cert.Pre_att_finite.Facts := ⟨by decide, by decide, by decide⟩

/-- The attention's four gradients: the kernel's arrays are the derivative's, for finite arguments. -/
theorem att_value : Cert.algebraic_AttBwdIdeal_AttBwdRefIdeal_pre_att_finite := by
  pair_intro
  · run_from Cert.AttBwdIdeal.Att.run_values m g
  · run_from Cert.AttBwdRefIdeal.Value.run m' g'
    · exact (Cert.AttBwdRefIdeal.Read.val_main_v208_eq (StableHlo.launchContents m' c)).trans
        (dq_final (holds_of_finite m hpre c) _ (Cert.AttBwdRefIdeal.Att.dq_at (holds_ref (holds_of_finite m hpre c) (hagree c))))
    · exact (Cert.AttBwdRefIdeal.Read.val_main_v196_eq (StableHlo.launchContents m' c)).trans
        (dk_final (holds_of_finite m hpre c) _ (Cert.AttBwdRefIdeal.Att.dk_at (holds_ref (holds_of_finite m hpre c) (hagree c))))
    · exact (Cert.AttBwdRefIdeal.Read.val_main_v198_eq (StableHlo.launchContents m' c)).trans
        (dv_final (holds_of_finite m hpre c) _ (Cert.AttBwdRefIdeal.Att.dv_at (holds_ref (holds_of_finite m hpre c) (hagree c))))
    · exact (Cert.AttBwdRefIdeal.Read.val_main_v209_eq (StableHlo.launchContents m' c)).trans
        (db_final (holds_of_finite m hpre c) _ (Cert.AttBwdRefIdeal.Att.db_at (holds_ref (holds_of_finite m hpre c) (hagree c))))

end Cert.AttBwdIdeal.Att
end
-- ==== Proof.Merge.Block.lean ====
module

public import proofs.«01_k».proof.Proof.Gen.MergeBwdIdeal.Value
public import Idealize.ShloMosaic.Lib.Pipeline.ValueKit
public import Idealize.ShloMosaic.Lib.Pointwise
public import Idealize.ShloMosaic.Lib.Claim
public import Idealize.ShloMosaic.Lib.Pipeline.ReadBack
public import proofs.«01_k».proof.Proof.Rows
public import proofs.«01_k».proof.Proof.Puts

@[expose] public section

set_option maxRecDepth 16384

noncomputable section

open Idealize.ShloMosaic Idealize.ShloMosaic.TcCoe Idealize.SL.Sem
open Idealize.ShloMosaic.Pipeline (Dat)

/-! # The merge's gradients: what one block of 256 tokens computes -/

namespace Cert.MergeBwdIdeal.Grad

open Cert.MergeBwdIdeal Cert.MergeBwdIdeal.Gen Cert.MergeBwdIdeal.Value

/-- Column `j` of shard `s`. -/
abbrev col (s : Fin 4) (j : Fin 256) : Fin 1024 := ⟨s.val * 256 + j.val, by omega⟩
/-- Gate column of the second half. -/
abbrev hi (e : Fin 1024) : Fin 2048 := ⟨1024 + e.val, by omega⟩
/-- Gate column of the first half. -/
abbrev lo (e : Fin 1024) : Fin 2048 := ⟨e.val, by omega⟩

/-- Every column lies in a shard. -/
theorem col_eta (e : Fin 1024) : col ⟨e.val / 256, by omega⟩ ⟨e.val % 256, by omega⟩ = e := Fin.ext (by dsimp only; omega)

/-- The first shard's columns. -/
theorem col_zero (j : Fin 256) : col 0 j = ⟨j.val, by omega⟩ := Fin.ext ((congrArg (· + j.val) (Nat.zero_mul 256)).trans (Nat.zero_add _))

/-- The cotangent of the merged activations. -/
theorem pay10 (d : Vec Ideal S256x1024 .f32) (w : Fin 4 → Vec Ideal S1x256x1024 .bf16) (r : Fin 256) (s : Fin 4) (j : Fin 256) :
    k0_pay10 d (w 0) (w 1) (w 2) (w 3) (ix2 r (col s j)) = ∑ k : Fin 1024, d (ix2 r k) * w s (ix3 (0 : Fin 1) j k) := by
  refine (concatenate_ofFn_apply (t := S256x1024) (s₁ := S256x256) 1
    (fun i : Fin 4 => matmul dot_S256x1024_S256x1024_S256x256_1_1_0_0_n_n none (k0_pay9 d) (shapeCast S256x1024 (w i) shapeCasts_S1x256x1024_S256x1024) (constant S256x256 .f32 0x00000000#32)) concatenates_S256x256_S256x256_S256x256_S256x256_S256x1024_d1 rfl 256 rfl
    (ix2 r (col s j)) s (by show (s.val * 256 + j.val) / 256 = s.val; omega) (ix2 r j) (by show j.val = (s.val * 256 + j.val) % 256; omega) ?_).trans ?_
  · intro a ha; fin_cases a <;> first | rfl | exact absurd rfl ha
  · pointwise [k0_pay9]

/-- The gates. -/
theorem pay11 (gl : Vec Ideal S256x2048 .f32) (b : Vec Ideal S1x2048 .f32) (r : Fin 256) (k : Fin 2048) :
    k0_pay11 gl b (ix2 r k) = Rows.sig (gl (ix2 r k) + b (ix2 (0 : Fin 1) k)) := by
  pointwise [k0_pay11, Rows.sig]
  simp only [Rows.zero_sub]

/-- The cotangent of the attention's projection. -/
theorem pay14 (dm : FVec Ideal S256x1024 .f32) (g : FVec Ideal S256x2048 .f32) (r : Fin 256) (e : Fin 1024) :
    k0_pay14 dm g (ix2 r e) = dm (ix2 r e) * g (ix2 r (lo e)) := by
  pointwise [k0_pay14, k0_pay12]

/-- The cotangent of the spatial gating unit's projection. -/
theorem pay15 (dm : FVec Ideal S256x1024 .f32) (g : FVec Ideal S256x2048 .f32) (r : Fin 256) (e : Fin 1024) :
    k0_pay15 dm g (ix2 r e) = dm (ix2 r e) * g (ix2 r (hi e)) := by
  pointwise [k0_pay15, k0_pay13]

/-- The gates' cotangent. -/
theorem pay16 (dm : FVec Ideal S256x1024 .f32) (g : FVec Ideal S256x2048 .f32) (pa ps : Vec Ideal S256x1024 .bf16) (r : Fin 256) (e : Fin 1024) :
    k0_pay16 dm g pa ps (ix2 r (lo e)) = dm (ix2 r e) * pa (ix2 r e) * g (ix2 r (lo e)) * (1 - g (ix2 r (lo e))) := by
  pointwise [k0_pay16, k0_pay12, k0_pay13]

/-- See `pay16`: the second half. -/
theorem pay16' (dm : FVec Ideal S256x1024 .f32) (g : FVec Ideal S256x2048 .f32) (pa ps : Vec Ideal S256x1024 .bf16) (r : Fin 256) (e : Fin 1024) :
    k0_pay16 dm g pa ps (ix2 r (hi e)) = dm (ix2 r e) * ps (ix2 r e) * g (ix2 r (hi e)) * (1 - g (ix2 r (hi e))) := by
  pointwise [k0_pay16, k0_pay12, k0_pay13]

/-- One block adds its rows' gate cotangents to the bias's gradient. -/
theorem pay18 (dm : FVec Ideal S256x1024 .f32) (g : FVec Ideal S256x2048 .f32) (pa ps : Vec Ideal S256x1024 .bf16) (acc : Vec Ideal S1x2048 .f32) (k : Fin 2048) :
    k0_pay18 dm g pa ps acc (ix2 (0 : Fin 1) k) = acc (ix2 (0 : Fin 1) k) + ∑ r : Fin 256, k0_pay16 dm g pa ps (ix2 r k) := by
  pointwise [k0_pay18]

/-- The cotangent of the merged activations, of a block of the cotangent and the output weight's shards. -/
def dmB (d : Vec Ideal S256x1024 .f32) (W : Vec Ideal S4x256x1024 .bf16) : FVec Ideal S256x1024 .f32 :=
  k0_pay10 d (View.ld W (Rect.unit (s := S4x256x1024) ![0, 0, 0] S1x256x1024.size inb_S4x256x1024_S1x256x1024_0_0_0))
    (View.ld W (Rect.unit (s := S4x256x1024) ![1, 0, 0] S1x256x1024.size inb_S4x256x1024_S1x256x1024_1_0_0))
    (View.ld W (Rect.unit (s := S4x256x1024) ![2, 0, 0] S1x256x1024.size inb_S4x256x1024_S1x256x1024_2_0_0))
    (View.ld W (Rect.unit (s := S4x256x1024) ![3, 0, 0] S1x256x1024.size inb_S4x256x1024_S1x256x1024_3_0_0))

/-- Its entry at column `j` of shard `s`. -/
theorem dmB_apply (d : Vec Ideal S256x1024 .f32) (W : Vec Ideal S4x256x1024 .bf16) (r : Fin 256) (s : Fin 4) (j : Fin 256) :
    dmB d W (ix2 r (col s j)) = ∑ k : Fin 1024, d (ix2 r k) * W (ix3 s j k) := by
  refine (pay10 d ![View.ld W (Rect.unit (s := S4x256x1024) ![0, 0, 0] S1x256x1024.size inb_S4x256x1024_S1x256x1024_0_0_0),
    View.ld W (Rect.unit (s := S4x256x1024) ![1, 0, 0] S1x256x1024.size inb_S4x256x1024_S1x256x1024_1_0_0),
    View.ld W (Rect.unit (s := S4x256x1024) ![2, 0, 0] S1x256x1024.size inb_S4x256x1024_S1x256x1024_2_0_0),
    View.ld W (Rect.unit (s := S4x256x1024) ![3, 0, 0] S1x256x1024.size inb_S4x256x1024_S1x256x1024_3_0_0)] r s j).trans ?_
  refine Finset.sum_congr rfl fun k _ => congrArg _ ?_
  fin_cases s
  · show View.ld W (Rect.unit (s := S4x256x1024) ![0, 0, 0] S1x256x1024.size inb_S4x256x1024_S1x256x1024_0_0_0) (ix3 (0 : Fin 1) j k) = _
    pointwise
  · show View.ld W (Rect.unit (s := S4x256x1024) ![1, 0, 0] S1x256x1024.size inb_S4x256x1024_S1x256x1024_1_0_0) (ix3 (0 : Fin 1) j k) = _
    pointwise
  · show View.ld W (Rect.unit (s := S4x256x1024) ![2, 0, 0] S1x256x1024.size inb_S4x256x1024_S1x256x1024_2_0_0) (ix3 (0 : Fin 1) j k) = _
    pointwise
  · show View.ld W (Rect.unit (s := S4x256x1024) ![3, 0, 0] S1x256x1024.size inb_S4x256x1024_S1x256x1024_3_0_0) (ix3 (0 : Fin 1) j k) = _
    pointwise

/-- The product of a block's rows with the shards of a projection, added shard after shard. -/
def dyB (d : FVec Ideal S256x1024 .bf16) (W : Vec Ideal S4x512x256 .bf16) : FVec Ideal S256x512 .f32 :=
  k0_pay41 d (k0_pay35 d (k0_pay30 d (k0_pay23 d k0_pay22
    (View.ld W (Rect.unit (s := S4x512x256) ![0, 0, 0] S1x512x256.size inb_S4x512x256_S1x512x256_0_0_0)))
    (View.ld W (Rect.unit (s := S4x512x256) ![1, 0, 0] S1x512x256.size inb_S4x512x256_S1x512x256_1_0_0)))
    (View.ld W (Rect.unit (s := S4x512x256) ![2, 0, 0] S1x512x256.size inb_S4x512x256_S1x512x256_2_0_0)))
    (View.ld W (Rect.unit (s := S4x512x256) ![3, 0, 0] S1x512x256.size inb_S4x512x256_S1x512x256_3_0_0))

/-- Its entries: the sum over shards and columns. -/
theorem dyB_apply (d : FVec Ideal S256x1024 .bf16) (W : Vec Ideal S4x512x256 .bf16) (r : Fin 256) (f : Fin 512) :
    dyB d W (ix2 r f) = ∑ s : Fin 4, ∑ j : Fin 256, d (ix2 r (col s j)) * W (ix3 s f j) := by
  rw [Fin.sum_univ_four]
  pointwise [dyB, k0_pay41, k0_pay35, k0_pay30, k0_pay23, k0_pay22]
  rfl

/-- The second chain of products is the first one. -/
theorem dyB_eq (d : FVec Ideal S256x1024 .bf16) (a0 a1 a2 a3 : Vec Ideal S1x512x256 .bf16) :
    k0_pay42 d (k0_pay36 d (k0_pay31 d (k0_pay24 d a0) a1) a2) a3 = k0_pay41 d (k0_pay35 d (k0_pay30 d (k0_pay23 d k0_pay22 a0) a1) a2) a3 := rfl

/-- A block's part of a projection's gradient: shard `s` of the product's rows and columns added to the accumulator. -/
theorem step15 (D : FVec Ideal S256x1024 .bf16) (Y : Vec Ideal S256x512 .bf16) (acc : Fin 4 → Vec Ideal S1x512x256 .f32) (s : Fin 4) (f : Fin 512) (j : Fin 256) :
    (![k0_pay26 D (k0_pay19 Y) (acc 0), k0_pay33 D (k0_pay19 Y) (acc 1), k0_pay39 (k0_pay38 D (k0_pay19 Y) (acc 2)), k0_pay1 (k0_pay19 Y) (k0_pay44 (acc 3)) (k0_pay45 D)] s : FVec Ideal S1x512x256 .f32) (ix3 (0 : Fin 1) f j)
      = acc s (ix3 (0 : Fin 1) f j) + ∑ r : Fin 256, Y (ix2 r f) * D (ix2 r (col s j)) := by
  fin_cases s
  · show k0_pay26 D (k0_pay19 Y) (acc 0) (ix3 (0 : Fin 1) f j) = _
    pointwise [k0_pay26, k0_pay19]; simp only [col_zero]
  · show k0_pay33 D (k0_pay19 Y) (acc 1) (ix3 (0 : Fin 1) f j) = _
    pointwise [k0_pay33, k0_pay19]; rfl
  · show k0_pay39 (k0_pay38 D (k0_pay19 Y) (acc 2)) (ix3 (0 : Fin 1) f j) = _
    pointwise [k0_pay39, k0_pay38, k0_pay19]; rfl
  · show k0_pay1 (k0_pay19 Y) (k0_pay44 (acc 3)) (k0_pay45 D) (ix3 (0 : Fin 1) f j) = _
    pointwise [k0_pay1, k0_pay44, k0_pay45, k0_pay19]; rfl

/-- See `step15`: the other projection. -/
theorem step16 (D : FVec Ideal S256x1024 .bf16) (Y : Vec Ideal S256x512 .bf16) (acc : Fin 4 → Vec Ideal S1x512x256 .f32) (s : Fin 4) (f : Fin 512) (j : Fin 256) :
    (![k0_pay29 (k0_pay27 (acc 0)) (k0_pay28 D (k0_pay20 Y)), k0_pay34 D (k0_pay20 Y) (acc 1), k0_pay40 D (k0_pay20 Y) (acc 2), k0_pay2 D (k0_pay20 Y) (acc 3)] s : FVec Ideal S1x512x256 .f32) (ix3 (0 : Fin 1) f j)
      = acc s (ix3 (0 : Fin 1) f j) + ∑ r : Fin 256, Y (ix2 r f) * D (ix2 r (col s j)) := by
  fin_cases s
  · show k0_pay29 (k0_pay27 (acc 0)) (k0_pay28 D (k0_pay20 Y)) (ix3 (0 : Fin 1) f j) = _
    pointwise [k0_pay29, k0_pay27, k0_pay28, k0_pay20]; simp only [col_zero]
  · show k0_pay34 D (k0_pay20 Y) (acc 1) (ix3 (0 : Fin 1) f j) = _
    pointwise [k0_pay34, k0_pay20]; rfl
  · show k0_pay40 D (k0_pay20 Y) (acc 2) (ix3 (0 : Fin 1) f j) = _
    pointwise [k0_pay40, k0_pay20]; rfl
  · show k0_pay2 D (k0_pay20 Y) (acc 3) (ix3 (0 : Fin 1) f j) = _
    pointwise [k0_pay2, k0_pay20]; rfl

/-- See `step15`: the output weight. -/
theorem step17 (D : Vec Ideal S256x1024 .f32) (Y : Vec Ideal S256x1024 .bf16) (acc : Fin 4 → Vec Ideal S1x256x1024 .f32) (s : Fin 4) (f : Fin 256) (j : Fin 1024) :
    (![k0_pay25 (k0_pay9 D) (k0_pay21 Y) (acc 0), k0_pay32 (k0_pay9 D) (k0_pay21 Y) (acc 1), k0_pay37 (k0_pay9 D) (k0_pay21 Y) (acc 2), k0_pay43 (k0_pay9 D) (k0_pay21 Y) (acc 3)] s : FVec Ideal S1x256x1024 .f32) (ix3 (0 : Fin 1) f j)
      = acc s (ix3 (0 : Fin 1) f j) + ∑ r : Fin 256, Y (ix2 r (col s f)) * D (ix2 r j) := by
  fin_cases s
  · show k0_pay25 (k0_pay9 D) (k0_pay21 Y) (acc 0) (ix3 (0 : Fin 1) f j) = _
    pointwise [k0_pay25, k0_pay9, k0_pay21]; simp only [col_zero]
  · show k0_pay32 (k0_pay9 D) (k0_pay21 Y) (acc 1) (ix3 (0 : Fin 1) f j) = _
    pointwise [k0_pay32, k0_pay9, k0_pay21]; rfl
  · show k0_pay37 (k0_pay9 D) (k0_pay21 Y) (acc 2) (ix3 (0 : Fin 1) f j) = _
    pointwise [k0_pay37, k0_pay9, k0_pay21]; rfl
  · show k0_pay43 (k0_pay9 D) (k0_pay21 Y) (acc 3) (ix3 (0 : Fin 1) f j) = _
    pointwise [k0_pay43, k0_pay9, k0_pay21]; rfl

variable (m : (ℓ : Loc nD τ sig) → Buf (Elt Ideal) ℓ) (c : Dev nD) (t : Fin cfg0.N)

/-- The block of the attention's output. -/
abbrev ya : Vec Ideal S256x512 .bf16 := iblk m c 1 t
/-- The block of the gating unit's output. -/
abbrev ys : Vec Ideal S256x512 .bf16 := iblk m c 2 t
/-- The block of the merged activations. -/
abbrev mb : Vec Ideal S256x1024 .bf16 := iblk m c 4 t
/-- The block of the cotangent. -/
abbrev dx : Vec Ideal S256x1024 .f32 := iblk m c 0 t
/-- The block of the attention projection's cotangent. -/
def dpa : FVec Ideal S256x1024 .bf16 := k0_pay14 (dmB (iblk m c 0 t) (iblk m c 10 t)) (k0_pay11 (iblk m c 3 t) (iblk m c 7 t))
/-- The block of the gating unit's projection's cotangent. -/
def dps : FVec Ideal S256x1024 .bf16 := k0_pay15 (dmB (iblk m c 0 t) (iblk m c 10 t)) (k0_pay11 (iblk m c 3 t) (iblk m c 7 t))
/-- The block of the gates' cotangent. -/
def dgl : FVec Ideal S256x2048 .f32 := k0_pay16 (dmB (iblk m c 0 t) (iblk m c 10 t)) (k0_pay11 (iblk m c 3 t) (iblk m c 7 t)) (iblk m c 5 t) (iblk m c 6 t)

/-- What the block leaves for the attention's output. -/
theorem out11 : (outsAt0 m c t.val t.isLt).1 = dyB (dpa m c t) (iblk m c 8 t) := by
  by_cases h : t.val % 16 = 0
  · rw [outsAt0_A m c t h]; frame_out; rfl
  · rw [outsAt0_B m c t h]; frame_out; rfl

/-- What the block leaves for the gating unit's output. -/
theorem out12 : (outsAt0 m c t.val t.isLt).2.1 = dyB (dps m c t) (iblk m c 9 t) := by
  by_cases h : t.val % 16 = 0
  · rw [outsAt0_A m c t h]; frame_out; rfl
  · rw [outsAt0_B m c t h]; frame_out; rfl

/-- What the block leaves for the gates. -/
theorem out13 : (outsAt0 m c t.val t.isLt).2.2.1 = dgl m c t := by
  by_cases h : t.val % 16 = 0
  · rw [outsAt0_A m c t h]; frame_out; rfl
  · rw [outsAt0_B m c t h]; frame_out; rfl

/-- The bias's accumulator at the first block. -/
theorem out14_A (h : t.val % 16 = 0) (k : Fin 2048) : (outsAt0 m c t.val t.isLt).2.2.2.1 (ix2 (0 : Fin 1) k) = 0 + ∑ r : Fin 256, dgl m c t (ix2 r k) := by
  rw [outsAt0_A m c t h]; frame_out
  refine (pay18 _ _ _ _ _ k).trans (congrArg₂ (· + ·) ?_ rfl)
  pointwise [k0_pay5]

/-- The bias's accumulator at a later block. -/
theorem out14_B (h : ¬ t.val % 16 = 0) (k : Fin 2048) : (outsAt0 m c t.val t.isLt).2.2.2.1 (ix2 (0 : Fin 1) k)
    = (outsAt0 m c (t.val - 1) (Nat.lt_of_le_of_lt (Nat.sub_le _ _) t.isLt)).2.2.2.1 (ix2 (0 : Fin 1) k) + ∑ r : Fin 256, dgl m c t (ix2 r k) := by
  rw [outsAt0_B m c t h]; frame_out
  exact pay18 _ _ _ _ _ k

/-- Shard `s` of an accumulator, loaded. -/
theorem ld4 {n k : ℕ} (Z : (⟨3, ![4, n, k]⟩ : Shape).Idx → Elt Ideal .f32) (o : ℕ) (s : Fin 4) (ho : o = s.val) (inb : ∀ a : Fin 3, (![o, 0, 0] : Fin 3 → ℕ) a + (![1, n, k] : Fin 3 → ℕ) a ≤ (![4, n, k] : Fin 3 → ℕ) a)
    (f : Fin n) (j : Fin k) :
    View.ld Z (Rect.unit (s := ⟨3, ![4, n, k]⟩) ![o, 0, 0] ![1, n, k] inb) (ix3 (0 : Fin 1) f j) = Z (ix3 s f j) := by
  subst ho
  pointwise
  refine congrArg Z (funext fun a => ?_)
  fin_cases a
  · exact Fin.ext (Nat.add_zero _)
  · exact Fin.ext (Nat.zero_add _)
  · exact Fin.ext (Nat.zero_add _)

/-- The accumulators start at zero. -/
theorem zero6 (i) : k0_pay6 (F := Ideal) i = 0 := by pointwise [k0_pay6]
/-- The accumulators start at zero. -/
theorem zero7 (i) : k0_pay7 (F := Ideal) i = 0 := by pointwise [k0_pay7]
/-- The accumulators start at zero. -/
theorem zero8 (i) : k0_pay8 (F := Ideal) i = 0 := by pointwise [k0_pay8]

/-- The attention projection's accumulator at the first block. -/
theorem out15_A (h : t.val % 16 = 0) (s : Fin 4) (f : Fin 512) (j : Fin 256) : (outsAt0 m c t.val t.isLt).2.2.2.2.1 (ix3 s f j)
    = 0 + ∑ r : Fin 256, ya m c t (ix2 r f) * dpa m c t (ix2 r (col s j)) := by
  rw [outsAt0_A m c t h]; frame_out
  repeat (first | rw [View.readCov_skip _ _ _ _ _ (by rfl)] | rw [View.readCov_fill _ _ _ _ _ (by decide)])
  refine (Puts.canon4 _ _ _ _ _ _ _ _ _ s f j).trans ((step15 (dpa m c t) (ya m c t) ![_, _, _, _] s f j).trans (congrArg (· + _) ?_))
  fin_cases s
  · exact (ld4 (n := 512) (k := 256) (k0_pay6 (F := Ideal)) 0 0 rfl inb_S4x512x256_S1x512x256_0_0_0 f j).trans (zero6 _)
  · exact (ld4 (n := 512) (k := 256) (k0_pay6 (F := Ideal)) 1 1 rfl inb_S4x512x256_S1x512x256_1_0_0 f j).trans (zero6 _)
  · exact (ld4 (n := 512) (k := 256) (k0_pay6 (F := Ideal)) 2 2 rfl inb_S4x512x256_S1x512x256_2_0_0 f j).trans (zero6 _)
  · exact (ld4 (n := 512) (k := 256) (k0_pay6 (F := Ideal)) 3 3 rfl inb_S4x512x256_S1x512x256_3_0_0 f j).trans (zero6 _)

/-- The attention projection's accumulator at a later block. -/
theorem out15_B (h : ¬ t.val % 16 = 0) (s : Fin 4) (f : Fin 512) (j : Fin 256) : (outsAt0 m c t.val t.isLt).2.2.2.2.1 (ix3 s f j)
    = (outsAt0 m c (t.val - 1) (Nat.lt_of_le_of_lt (Nat.sub_le _ _) t.isLt)).2.2.2.2.1 (ix3 s f j) + ∑ r : Fin 256, ya m c t (ix2 r f) * dpa m c t (ix2 r (col s j)) := by
  rw [outsAt0_B m c t h]; frame_out
  refine (Puts.canon4 _ _ _ _ _ _ _ _ _ s f j).trans ((step15 (dpa m c t) (ya m c t) ![_, _, _, _] s f j).trans (congrArg (· + _) ?_))
  fin_cases s
  · exact (ld4 (n := 512) (k := 256) (outsAt0 m c (t.val - 1) (Nat.lt_of_le_of_lt (Nat.sub_le _ _) t.isLt)).2.2.2.2.1 0 0 rfl inb_S4x512x256_S1x512x256_0_0_0 f j)
  · exact (ld4 (n := 512) (k := 256) (outsAt0 m c (t.val - 1) (Nat.lt_of_le_of_lt (Nat.sub_le _ _) t.isLt)).2.2.2.2.1 1 1 rfl inb_S4x512x256_S1x512x256_1_0_0 f j)
  · exact (ld4 (n := 512) (k := 256) (outsAt0 m c (t.val - 1) (Nat.lt_of_le_of_lt (Nat.sub_le _ _) t.isLt)).2.2.2.2.1 2 2 rfl inb_S4x512x256_S1x512x256_2_0_0 f j)
  · exact (ld4 (n := 512) (k := 256) (outsAt0 m c (t.val - 1) (Nat.lt_of_le_of_lt (Nat.sub_le _ _) t.isLt)).2.2.2.2.1 3 3 rfl inb_S4x512x256_S1x512x256_3_0_0 f j)

/-- The gating unit's projection's accumulator at the first block. -/
theorem out16_A (h : t.val % 16 = 0) (s : Fin 4) (f : Fin 512) (j : Fin 256) : (outsAt0 m c t.val t.isLt).2.2.2.2.2.1 (ix3 s f j)
    = 0 + ∑ r : Fin 256, ys m c t (ix2 r f) * dps m c t (ix2 r (col s j)) := by
  rw [outsAt0_A m c t h]; frame_out
  repeat (first | rw [View.readCov_skip _ _ _ _ _ (by rfl)] | rw [View.readCov_fill _ _ _ _ _ (by decide)])
  refine (Puts.canon4 _ _ _ _ _ _ _ _ _ s f j).trans ((step16 (dps m c t) (ys m c t) ![_, _, _, _] s f j).trans (congrArg (· + _) ?_))
  fin_cases s
  · exact (ld4 (n := 512) (k := 256) (k0_pay7 (F := Ideal)) 0 0 rfl inb_S4x512x256_S1x512x256_0_0_0 f j).trans (zero7 _)
  · exact (ld4 (n := 512) (k := 256) (k0_pay7 (F := Ideal)) 1 1 rfl inb_S4x512x256_S1x512x256_1_0_0 f j).trans (zero7 _)
  · exact (ld4 (n := 512) (k := 256) (k0_pay7 (F := Ideal)) 2 2 rfl inb_S4x512x256_S1x512x256_2_0_0 f j).trans (zero7 _)
  · exact (ld4 (n := 512) (k := 256) (k0_pay7 (F := Ideal)) 3 3 rfl inb_S4x512x256_S1x512x256_3_0_0 f j).trans (zero7 _)

/-- The gating unit's projection's accumulator at a later block. -/
theorem out16_B (h : ¬ t.val % 16 = 0) (s : Fin 4) (f : Fin 512) (j : Fin 256) : (outsAt0 m c t.val t.isLt).2.2.2.2.2.1 (ix3 s f j)
    = (outsAt0 m c (t.val - 1) (Nat.lt_of_le_of_lt (Nat.sub_le _ _) t.isLt)).2.2.2.2.2.1 (ix3 s f j) + ∑ r : Fin 256, ys m c t (ix2 r f) * dps m c t (ix2 r (col s j)) := by
  rw [outsAt0_B m c t h]; frame_out
  refine (Puts.canon4 _ _ _ _ _ _ _ _ _ s f j).trans ((step16 (dps m c t) (ys m c t) ![_, _, _, _] s f j).trans (congrArg (· + _) ?_))
  fin_cases s
  · exact (ld4 (n := 512) (k := 256) (outsAt0 m c (t.val - 1) (Nat.lt_of_le_of_lt (Nat.sub_le _ _) t.isLt)).2.2.2.2.2.1 0 0 rfl inb_S4x512x256_S1x512x256_0_0_0 f j)
  · exact (ld4 (n := 512) (k := 256) (outsAt0 m c (t.val - 1) (Nat.lt_of_le_of_lt (Nat.sub_le _ _) t.isLt)).2.2.2.2.2.1 1 1 rfl inb_S4x512x256_S1x512x256_1_0_0 f j)
  · exact (ld4 (n := 512) (k := 256) (outsAt0 m c (t.val - 1) (Nat.lt_of_le_of_lt (Nat.sub_le _ _) t.isLt)).2.2.2.2.2.1 2 2 rfl inb_S4x512x256_S1x512x256_2_0_0 f j)
  · exact (ld4 (n := 512) (k := 256) (outsAt0 m c (t.val - 1) (Nat.lt_of_le_of_lt (Nat.sub_le _ _) t.isLt)).2.2.2.2.2.1 3 3 rfl inb_S4x512x256_S1x512x256_3_0_0 f j)

/-- The output weight's accumulator at the first block. -/
theorem out17_A (h : t.val % 16 = 0) (s : Fin 4) (f : Fin 256) (j : Fin 1024) : (outsAt0 m c t.val t.isLt).2.2.2.2.2.2 (ix3 s f j)
    = 0 + ∑ r : Fin 256, mb m c t (ix2 r (col s f)) * dx m c t (ix2 r j) := by
  rw [outsAt0_A m c t h]; frame_out
  repeat (first | rw [View.readCov_skip _ _ _ _ _ (by rfl)] | rw [View.readCov_fill _ _ _ _ _ (by decide)])
  refine (Puts.canon4 _ _ _ _ _ _ _ _ _ s f j).trans ((step17 (dx m c t) (mb m c t) ![_, _, _, _] s f j).trans (congrArg (· + _) ?_))
  fin_cases s
  · exact (ld4 (n := 256) (k := 1024) (k0_pay8 (F := Ideal)) 0 0 rfl inb_S4x256x1024_S1x256x1024_0_0_0 f j).trans (zero8 _)
  · exact (ld4 (n := 256) (k := 1024) (k0_pay8 (F := Ideal)) 1 1 rfl inb_S4x256x1024_S1x256x1024_1_0_0 f j).trans (zero8 _)
  · exact (ld4 (n := 256) (k := 1024) (k0_pay8 (F := Ideal)) 2 2 rfl inb_S4x256x1024_S1x256x1024_2_0_0 f j).trans (zero8 _)
  · exact (ld4 (n := 256) (k := 1024) (k0_pay8 (F := Ideal)) 3 3 rfl inb_S4x256x1024_S1x256x1024_3_0_0 f j).trans (zero8 _)

/-- The output weight's accumulator at a later block. -/
theorem out17_B (h : ¬ t.val % 16 = 0) (s : Fin 4) (f : Fin 256) (j : Fin 1024) : (outsAt0 m c t.val t.isLt).2.2.2.2.2.2 (ix3 s f j)
    = (outsAt0 m c (t.val - 1) (Nat.lt_of_le_of_lt (Nat.sub_le _ _) t.isLt)).2.2.2.2.2.2 (ix3 s f j) + ∑ r : Fin 256, mb m c t (ix2 r (col s f)) * dx m c t (ix2 r j) := by
  rw [outsAt0_B m c t h]; frame_out
  refine (Puts.canon4 _ _ _ _ _ _ _ _ _ s f j).trans ((step17 (dx m c t) (mb m c t) ![_, _, _, _] s f j).trans (congrArg (· + _) ?_))
  fin_cases s
  · exact (ld4 (n := 256) (k := 1024) (outsAt0 m c (t.val - 1) (Nat.lt_of_le_of_lt (Nat.sub_le _ _) t.isLt)).2.2.2.2.2.2 0 0 rfl inb_S4x256x1024_S1x256x1024_0_0_0 f j)
  · exact (ld4 (n := 256) (k := 1024) (outsAt0 m c (t.val - 1) (Nat.lt_of_le_of_lt (Nat.sub_le _ _) t.isLt)).2.2.2.2.2.2 1 1 rfl inb_S4x256x1024_S1x256x1024_1_0_0 f j)
  · exact (ld4 (n := 256) (k := 1024) (outsAt0 m c (t.val - 1) (Nat.lt_of_le_of_lt (Nat.sub_le _ _) t.isLt)).2.2.2.2.2.2 2 2 rfl inb_S4x256x1024_S1x256x1024_2_0_0 f j)
  · exact (ld4 (n := 256) (k := 1024) (outsAt0 m c (t.val - 1) (Nat.lt_of_le_of_lt (Nat.sub_le _ _) t.isLt)).2.2.2.2.2.2 3 3 rfl inb_S4x256x1024_S1x256x1024_3_0_0 f j)

end Cert.MergeBwdIdeal.Grad
end
-- ==== Proof.Merge.Value.lean ====
module

public import proofs.«01_k».proof.Proof.Merge.Block
public import proofs.«01_k».proof.Proof.Gen.MergeBwdRefIdeal.Run
public import proofs.«01_k».proof.Proof.Gen.MergeBwdRefIdeal.Read
public import proofs.«01_k».proof.Proof.Reduce1

@[expose] public section

set_option maxRecDepth 16384

noncomputable section

open Idealize.ShloMosaic Idealize.ShloMosaic.TcCoe Idealize.SL.Sem
open Idealize.ShloMosaic.Pipeline (Dat)

/-! # The merge's gradients: the arrays of the kernel and of the reference -/

namespace Cert.MergeBwdIdeal.Grad

open Cert.MergeBwdIdeal Cert.MergeBwdIdeal.Gen Cert.MergeBwdIdeal.Value

/-! ## The gradients, written out -/

section
variable (x0 x1 : FVec Ideal S1x4096x512 .f32) (x2 : FVec Ideal S1x4096x2048 .f32) (x3 : FVec Ideal S1x2048 .f32)
  (x4 x5 : FVec Ideal S1x512x1024 .f32) (x6 : FVec Ideal S1x1024x1024 .f32) (x7 : FVec Ideal S1x4096x1024 .f32)

/-- The gate of token `t`. -/
def gate (t : Fin 4096) (k : Fin 2048) : EReal := Rows.sig (x2 (ix3 (0 : Fin 1) t k) + x3 (ix2 (0 : Fin 1) k))
/-- A projection of a branch. -/
def proj (y : FVec Ideal S1x4096x512 .f32) (w : FVec Ideal S1x512x1024 .f32) (t : Fin 4096) (e : Fin 1024) : EReal :=
  ∑ f : Fin 512, y (ix3 (0 : Fin 1) t f) * w (ix3 (0 : Fin 1) f e)
/-- The cotangent of the merged activations. -/
def dm (t : Fin 4096) (e : Fin 1024) : EReal := ∑ d : Fin 1024, x7 (ix3 (0 : Fin 1) t d) * x6 (ix3 (0 : Fin 1) e d)
/-- The cotangent of a projection: `h` says which half of the gates it is scaled by. -/
def dproj (h : Fin 1024 → Fin 2048) (t : Fin 4096) (e : Fin 1024) : EReal := dm x6 x7 t e * gate x2 x3 t (h e)
/-- The merged activations. -/
def merged (t : Fin 4096) (e : Fin 1024) : EReal :=
  gate x2 x3 t (lo e) * proj x0 x4 t e + gate x2 x3 t (hi e) * proj x1 x5 t e
/-- The gates' cotangent before the logistic function's derivative. -/
def dg (t : Fin 4096) (k : Fin 2048) : EReal :=
  if h : k.val < 1024 then dm x6 x7 t ⟨k.val, h⟩ * proj x0 x4 t ⟨k.val, h⟩
  else dm x6 x7 t ⟨k.val - 1024, by omega⟩ * proj x1 x5 t ⟨k.val - 1024, by omega⟩

/-- The gradient of a branch. -/
def gY (h : Fin 1024 → Fin 2048) (w : FVec Ideal S1x512x1024 .f32) : FVec Ideal S4096x512 .f32 :=
  fun i => ∑ e : Fin 1024, dproj x2 x3 x6 x7 h (i 0) e * w (ix3 (0 : Fin 1) (i 1) e)
/-- The gradient of the gates' activations. -/
def gG : FVec Ideal S4096x2048 .f32 :=
  fun i => dg x0 x1 x4 x5 x6 x7 (i 0) (i 1) * gate x2 x3 (i 0) (i 1) * (1 - gate x2 x3 (i 0) (i 1))
/-- The gradient of the gates' bias. -/
def gB : FVec Ideal S1x2048 .f32 := fun i => ∑ t : Fin 4096, gG x0 x1 x2 x3 x4 x5 x6 x7 (ix2 t (i 1))
/-- The gradient of a branch's weight, cut into the shards. -/
def gP (h : Fin 1024 → Fin 2048) (y : FVec Ideal S1x4096x512 .f32) : FVec Ideal S4x512x256 .f32 :=
  fun i => ∑ t : Fin 4096, y (ix3 (0 : Fin 1) t (i 1)) * dproj x2 x3 x6 x7 h t (col (i 0) (i 2))
/-- The gradient of the output weight, cut into the shards. -/
def gO : FVec Ideal S4x256x1024 .f32 :=
  fun i => ∑ t : Fin 4096, merged x0 x1 x2 x3 x4 x5 t (col (i 0) (i 1)) * x7 (ix3 (0 : Fin 1) t (i 2))

end

/-! ## The reference's gradients are these -/

section
open Cert.MergeBwdRefIdeal.Read

variable (x0 x1 : FVec Ideal S1x4096x512 .f32) (x2 : FVec Ideal S1x4096x2048 .f32) (x3 : FVec Ideal S1x2048 .f32)
  (x4 x5 : FVec Ideal S1x512x1024 .f32) (x6 : FVec Ideal S1x1024x1024 .f32) (x7 : FVec Ideal S1x4096x1024 .f32)

/-- The reference's gates. -/
theorem ref_g (t : Fin 4096) (k : Fin 2048) : val_main_v9 (F := Ideal) x2 x3 (ix3 (0 : Fin 1) t k) = gate x2 x3 t k := by
  pointwise [val_main_v9, val_main_v8, val_main_cst_0, val_main_v7, val_main_v6, val_main_cst, val_main_v5, val_main_v4, val_main_v3, val_main_v2, val_main_v1, val_main_v0, gate, Rows.sig]

/-- The reference's derivative of the gates. -/
theorem ref_dg (t : Fin 4096) (k : Fin 2048) : val_main_v12 (F := Ideal) x2 x3 (ix3 (0 : Fin 1) t k) = gate x2 x3 t k * (1 - gate x2 x3 t k) := by
  pointwise [val_main_v12, val_main_v11, val_main_v10, val_main_cst_1]
  rw [ref_g]

/-- The reference's projection of the attention's output. -/
theorem ref_pa (t : Fin 4096) (e : Fin 1024) : val_main_v16 (F := Ideal) x0 x4 (ix3 (0 : Fin 1) t e) = proj x0 x4 t e := by
  pointwise [val_main_v16, val_main_v15, proj]

/-- The reference's projection of the gating unit's output. -/
theorem ref_ps (t : Fin 4096) (e : Fin 1024) : val_main_v19 (F := Ideal) x1 x5 (ix3 (0 : Fin 1) t e) = proj x1 x5 t e := by
  pointwise [val_main_v19, val_main_v18, proj]

/-- The reference's cotangent of the merged activations. -/
theorem ref_dm (t : Fin 4096) (e : Fin 1024) : val_main_v26 (F := Ideal) x6 x7 (ix3 (0 : Fin 1) t e) = dm x6 x7 t e := by
  pointwise [val_main_v26, val_main_v22, dm]

/-- The reference's cotangent of the attention's projection. -/
theorem ref_dpa (t : Fin 4096) (e : Fin 1024) : val_main_v34 (F := Ideal) x2 x3 x6 x7 (ix3 (0 : Fin 1) t e) = dproj x2 x3 x6 x7 lo t e := by
  pointwise [val_main_v34, val_main_v13, dproj]
  rw [ref_dm, mul_comm]
  exact congrArg _ (ref_g x2 x3 t (lo e))

/-- The reference's cotangent of the gating unit's projection. -/
theorem ref_dps (t : Fin 4096) (e : Fin 1024) : val_main_v28 (F := Ideal) x2 x3 x6 x7 (ix3 (0 : Fin 1) t e) = dproj x2 x3 x6 x7 hi t e := by
  pointwise [val_main_v28, val_main_v14, dproj]
  rw [ref_dm, mul_comm]
  exact congrArg _ (ref_g x2 x3 t (hi e))

/-- The reference's merged activations. -/
theorem ref_m (t : Fin 4096) (e : Fin 1024) : val_main_v21 (F := Ideal) x0 x1 x2 x3 x4 x5 (ix3 (0 : Fin 1) t e) = merged x0 x1 x2 x3 x4 x5 t e := by
  pointwise [val_main_v21, val_main_v20, val_main_v17, val_main_v14, val_main_v13, merged]
  rw [ref_pa, ref_ps]
  exact congrArg₂ (fun a b : EReal => a * _ + b * _) (ref_g x2 x3 t (lo e)) (ref_g x2 x3 t (hi e))

/-- The attention's gradient. -/
theorem ref11 : val_main_v49 (F := Ideal) x2 x3 x4 x6 x7 = gY x2 x3 x6 x7 lo x4 := by
  funext i
  pointwise [val_main_v49, val_main_v48, val_main_v38, val_main_v15, gY]
  exact Finset.sum_congr rfl fun e _ => congrArg (· * _) (ref_dpa x2 x3 x6 x7 (i 0) e)

/-- The gating unit's gradient. -/
theorem ref12 : val_main_v51 (F := Ideal) x2 x3 x5 x6 x7 = gY x2 x3 x6 x7 hi x5 := by
  funext i
  pointwise [val_main_v51, val_main_v50, val_main_v32, val_main_v18, gY]
  exact Finset.sum_congr rfl fun e _ => congrArg (· * _) (ref_dps x2 x3 x6 x7 (i 0) e)

/-- The gates' gradient before the cast. -/
theorem ref_gl (t : Fin 4096) (k : Fin 2048) : val_main_v43 (F := Ideal) x0 x1 x2 x3 x4 x5 x6 x7 (ix3 (0 : Fin 1) t k) = gG x0 x1 x2 x3 x4 x5 x6 x7 (ix2 t k) := by
  rw [val_main_v43_apply]
  refine Eq.trans (congrArg₂ (fun a b : EReal => a * b) ?_ (ref_dg x2 x3 t k)) (mul_assoc (dg x0 x1 x4 x5 x6 x7 t k) _ _).symm
  by_cases h : k.val < 1024
  · pointwise [val_main_v42, val_main_v41, val_main_v40, val_main_v35, val_main_v29, val_main_cst_2, val_main_cst_3, dg, h]
    rw [dif_neg (by omega), zero_add]
    exact congrArg₂ (fun a b : EReal => a * b) (ref_dm x6 x7 t ⟨k.val, h⟩) (ref_pa x0 x4 t ⟨k.val, h⟩)
  · pointwise [val_main_v42, val_main_v41, val_main_v40, val_main_v35, val_main_v29, val_main_cst_2, val_main_cst_3, dg, h]
    rw [dif_pos (by have := k.isLt; omega)]
    exact congrArg₂ (fun a b : EReal => a * b) (ref_dm x6 x7 t ⟨k.val - 1024, by omega⟩) (ref_ps x1 x5 t ⟨k.val - 1024, by omega⟩)

/-- The gates' gradient. -/
theorem ref13 : val_main_v53 (F := Ideal) x0 x1 x2 x3 x4 x5 x6 x7 = gG x0 x1 x2 x3 x4 x5 x6 x7 := by
  funext i
  rw [eq_ix2 i]
  pointwise [val_main_v53, val_main_v52]
  exact ref_gl x0 x1 x2 x3 x4 x5 x6 x7 (i 0) (i 1)

/-- The bias's gradient. -/
theorem ref14 : val_main_v47 (F := Ideal) x0 x1 x2 x3 x4 x5 x6 x7 = gB x0 x1 x2 x3 x4 x5 x6 x7 := by
  funext i
  rw [val_main_v47_apply]
  refine ((congrArg _ (funext fun a => by fin_cases a; rfl)).trans (Reduce1.sum3 _ _ _ _ (i 1))).trans ?_
  pointwise [val_main_v45, val_main_v44, val_main_cst_4, val_main_cst_5, gB]
  exact Finset.sum_congr rfl fun e _ => ref_gl x0 x1 x2 x3 x4 x5 x6 x7 e (i 1)

/-- The attention projection's weight gradient. -/
theorem ref15 : val_main_v56 (F := Ideal) x0 x2 x3 x6 x7 = gP x2 x3 x6 x7 lo x0 := by
  funext i
  pointwise [val_main_v56, val_main_v55, val_main_v54, val_main_v39, val_main_v37, val_main_v36, gP]
  rw [Fin.sum_univ_one]
  refine Finset.sum_congr rfl fun e _ => (mul_comm _ _).trans (congrArg _ ?_)
  exact ref_dpa x2 x3 x6 x7 e (col (i 0) (i 2))

/-- The gating unit projection's weight gradient. -/
theorem ref16 : val_main_v59 (F := Ideal) x1 x2 x3 x6 x7 = gP x2 x3 x6 x7 hi x1 := by
  funext i
  pointwise [val_main_v59, val_main_v58, val_main_v57, val_main_v33, val_main_v31, val_main_v30, gP]
  rw [Fin.sum_univ_one]
  refine Finset.sum_congr rfl fun e _ => (mul_comm _ _).trans (congrArg _ ?_)
  exact ref_dps x2 x3 x6 x7 e (col (i 0) (i 2))

/-- The output weight's gradient. -/
theorem ref17 : val_main_v61 (F := Ideal) x0 x1 x2 x3 x4 x5 x7 = gO x0 x1 x2 x3 x4 x5 x7 := by
  funext i
  pointwise [val_main_v61, val_main_v60, val_main_v27, val_main_v25, val_main_v24, gO]
  rw [Fin.sum_univ_one]
  refine Finset.sum_congr rfl fun e _ => (mul_comm _ _).trans (congrArg (· * _) ?_)
  exact ref_m x0 x1 x2 x3 x4 x5 e (col (i 0) (i 1))

end

section

variable (m : (ℓ : Loc nD τ sig) → Buf (Elt Ideal) ℓ) (c : Dev nD)

/-- Argument 0: the attention's output. -/
abbrev x0 : FVec Ideal S1x4096x512 .f32 := m ((c : Thread nD τ).loc main_arg0)
/-- Argument 1: the gating unit's output. -/
abbrev x1 : FVec Ideal S1x4096x512 .f32 := m ((c : Thread nD τ).loc main_arg1)
/-- Argument 2: the gates' activations. -/
abbrev x2 : FVec Ideal S1x4096x2048 .f32 := m ((c : Thread nD τ).loc main_arg2)
/-- Argument 3: the gates' bias. -/
abbrev x3 : FVec Ideal S1x2048 .f32 := m ((c : Thread nD τ).loc main_arg3)
/-- Argument 4: the attention projection's weight. -/
abbrev x4 : FVec Ideal S1x512x1024 .f32 := m ((c : Thread nD τ).loc main_arg4)
/-- Argument 5: the gating unit projection's weight. -/
abbrev x5 : FVec Ideal S1x512x1024 .f32 := m ((c : Thread nD τ).loc main_arg5)
/-- Argument 6: the output weight. -/
abbrev x6 : FVec Ideal S1x1024x1024 .f32 := m ((c : Thread nD τ).loc main_arg6)
/-- Argument 7: the cotangent. -/
abbrev x7 : FVec Ideal S1x4096x1024 .f32 := m ((c : Thread nD τ).loc main_arg7)

/-! ## What the windows' arrays hold when the region starts -/

/-- The cotangent. -/
theorem in_ct (t : Fin 4096) (d : Fin 1024) : V m c main_v20 (ix2 t d) = x7 m c (ix3 (0 : Fin 1) t d) := by
  entry_read; pointwise
/-- The attention's output. -/
theorem in_ya (t : Fin 4096) (f : Fin 512) : V m c main_v22 (ix2 t f) = x0 m c (ix3 (0 : Fin 1) t f) := by
  entry_read; pointwise
/-- The gating unit's output. -/
theorem in_ys (t : Fin 4096) (f : Fin 512) : V m c main_v24 (ix2 t f) = x1 m c (ix3 (0 : Fin 1) t f) := by
  entry_read; pointwise
/-- The gates' activations. -/
theorem in_gl (t : Fin 4096) (k : Fin 2048) : V m c main_v25 (ix2 t k) = x2 m c (ix3 (0 : Fin 1) t k) := by
  entry_read; pointwise
/-- The gates' bias. -/
theorem in_bg : V m c main_arg3 = x3 m c := by
  entry_read; rfl
/-- The merged activations. -/
theorem in_m (t : Fin 4096) (e : Fin 1024) : V m c main_v26 (ix2 t e) = merged (x0 m c) (x1 m c) (x2 m c) (x3 m c) (x4 m c) (x5 m c) t e := by
  entry_read; pointwise [merged, gate, proj, Rows.sig]
/-- The attention's projection. -/
theorem in_pa (t : Fin 4096) (e : Fin 1024) : V m c main_v27 (ix2 t e) = proj (x0 m c) (x4 m c) t e := by
  entry_read; pointwise [proj]
/-- The gating unit's projection. -/
theorem in_ps (t : Fin 4096) (e : Fin 1024) : V m c main_v28 (ix2 t e) = proj (x1 m c) (x5 m c) t e := by
  entry_read; pointwise [proj]
/-- The attention projection's weight, cut into the shards. -/
theorem in_wa (s : Fin 4) (f : Fin 512) (j : Fin 256) : V m c main_v32 (ix3 s f j) = x4 m c (ix3 (0 : Fin 1) f (col s j)) := by
  entry_read; pointwise
/-- The gating unit projection's weight, cut into the shards. -/
theorem in_ws (s : Fin 4) (f : Fin 512) (j : Fin 256) : V m c main_v36 (ix3 s f j) = x5 m c (ix3 (0 : Fin 1) f (col s j)) := by
  entry_read; pointwise
/-- The output weight, cut into the shards. -/
theorem in_wo (s : Fin 4) (j : Fin 256) (d : Fin 1024) : V m c main_v39 (ix3 s j d) = x6 m c (ix3 (0 : Fin 1) (col s j) d) := by
  entry_read; pointwise

/-! ## What a block holds: rows `256 t …` -/

/-- The block indices of every window. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0, 0] ∧ win0_9.index t = ![0, 0, 0] ∧ win0_10.index t = ![0, 0, 0]
    ∧ win0_11.index t = ![t.val, 0] ∧ win0_12.index t = ![t.val, 0] ∧ win0_13.index t = ![t.val, 0]
    ∧ win0_14.index t = ![0, 0] ∧ win0_15.index t = ![0, 0, 0] ∧ win0_16.index t = ![0, 0, 0] ∧ win0_17.index t = ![0, 0, 0] :=
  (by decide +kernel : ∀ t : Fin grid0.N, _)

/-- Token `r` of block `t`. -/
abbrev row (t : Fin cfg0.N) (r : Fin 256) : Fin 4096 := ⟨t.val * 256 + r.val, by have := lt_of_lt_of_eq t.isLt N_0; omega⟩

/-- The block of operand 0. -/
theorem blk0 (t : Fin cfg0.N) (r : Fin 256) (d : Fin 1024) : iblk m c 0 t (ix2 r d) = x7 m c (ix3 (0 : Fin 1) (row t r) d) := by
  refine Eq.trans ?_ (in_ct m c _ _)
  blk_point [iblk, idx t]

/-- The block of operand 1. -/
theorem blk1 (t : Fin cfg0.N) (r : Fin 256) (d : Fin 512) : iblk m c 1 t (ix2 r d) = x0 m c (ix3 (0 : Fin 1) (row t r) d) := by
  refine Eq.trans ?_ (in_ya m c _ _)
  blk_point [iblk, idx t]

/-- The block of operand 2. -/
theorem blk2 (t : Fin cfg0.N) (r : Fin 256) (d : Fin 512) : iblk m c 2 t (ix2 r d) = x1 m c (ix3 (0 : Fin 1) (row t r) d) := by
  refine Eq.trans ?_ (in_ys m c _ _)
  blk_point [iblk, idx t]

/-- The block of operand 3. -/
theorem blk3 (t : Fin cfg0.N) (r : Fin 256) (d : Fin 2048) : iblk m c 3 t (ix2 r d) = x2 m c (ix3 (0 : Fin 1) (row t r) d) := by
  refine Eq.trans ?_ (in_gl m c _ _)
  blk_point [iblk, idx t]

/-- The block of operand 4. -/
theorem blk4 (t : Fin cfg0.N) (r : Fin 256) (d : Fin 1024) : iblk m c 4 t (ix2 r d) = merged (x0 m c) (x1 m c) (x2 m c) (x3 m c) (x4 m c) (x5 m c) (row t r) d := by
  refine Eq.trans ?_ (in_m m c _ _)
  blk_point [iblk, idx t]

/-- The block of operand 5. -/
theorem blk5 (t : Fin cfg0.N) (r : Fin 256) (d : Fin 1024) : iblk m c 5 t (ix2 r d) = proj (x0 m c) (x4 m c) (row t r) d := by
  refine Eq.trans ?_ (in_pa m c _ _)
  blk_point [iblk, idx t]

/-- The block of operand 6. -/
theorem blk6 (t : Fin cfg0.N) (r : Fin 256) (d : Fin 1024) : iblk m c 6 t (ix2 r d) = proj (x1 m c) (x5 m c) (row t r) d := by
  refine Eq.trans ?_ (in_ps m c _ _)
  blk_point [iblk, idx t]

/-- The block of operand 7. -/
theorem blk7 (t : Fin cfg0.N) (d : Fin 2048) : iblk m c 7 t (ix2 (0 : Fin 1) d) = x3 m c (ix2 (0 : Fin 1) d) := by
  refine Eq.trans ?_ (congrFun (in_bg m c) _)
  blk_point [iblk, idx t]

/-- The block of operand 8. -/
theorem blk8 (t : Fin cfg0.N) (s : Fin 4) (f : Fin 512) (j : Fin 256) : iblk m c 8 t (ix3 s f j) = x4 m c (ix3 (0 : Fin 1) f (col s j)) := by
  refine Eq.trans ?_ (in_wa m c _ _ _)
  blk_point [iblk, idx t]

/-- The block of operand 9. -/
theorem blk9 (t : Fin cfg0.N) (s : Fin 4) (f : Fin 512) (j : Fin 256) : iblk m c 9 t (ix3 s f j) = x5 m c (ix3 (0 : Fin 1) f (col s j)) := by
  refine Eq.trans ?_ (in_ws m c _ _ _)
  blk_point [iblk, idx t]

/-- The block of operand 10. -/
theorem blk10 (t : Fin cfg0.N) (s : Fin 4) (j : Fin 256) (d : Fin 1024) : iblk m c 10 t (ix3 s j d) = x6 m c (ix3 (0 : Fin 1) (col s j) d) := by
  refine Eq.trans ?_ (in_wo m c _ _ _)
  blk_point [iblk, idx t]

/-- A block's cotangent of the merged activations. -/
theorem dm_blk (t : Fin cfg0.N) (r : Fin 256) (e : Fin 1024) : dmB (iblk m c 0 t) (iblk m c 10 t) (ix2 r e) = dm (x6 m c) (x7 m c) (row t r) e := by
  rw [← col_eta e, dmB_apply]
  exact Finset.sum_congr rfl fun k _ => congrArg₂ (fun a b : EReal => a * b) (blk0 m c t r k) (blk10 m c t _ _ k)

/-- A block's gates. -/
theorem gate_blk (t : Fin cfg0.N) (r : Fin 256) (k : Fin 2048) : k0_pay11 (iblk m c 3 t) (iblk m c 7 t) (ix2 r k) = gate (x2 m c) (x3 m c) (row t r) k := by
  rw [pay11]
  exact congrArg Rows.sig (congrArg₂ (fun a b : EReal => a + b) (blk3 m c t r k) (blk7 m c t k))

/-- A block's cotangent of the attention's projection. -/
theorem dpa_blk (t : Fin cfg0.N) (r : Fin 256) (e : Fin 1024) : dpa m c t (ix2 r e) = dproj (x2 m c) (x3 m c) (x6 m c) (x7 m c) lo (row t r) e := by
  rw [dpa, pay14, dm_blk, gate_blk, dproj]

/-- A block's cotangent of the gating unit's projection. -/
theorem dps_blk (t : Fin cfg0.N) (r : Fin 256) (e : Fin 1024) : dps m c t (ix2 r e) = dproj (x2 m c) (x3 m c) (x6 m c) (x7 m c) hi (row t r) e := by
  rw [dps, pay15, dm_blk, gate_blk, dproj]

/-- A block's cotangent of the gates. -/
theorem dgl_blk (t : Fin cfg0.N) (r : Fin 256) (k : Fin 2048) : dgl m c t (ix2 r k) = gG (x0 m c) (x1 m c) (x2 m c) (x3 m c) (x4 m c) (x5 m c) (x6 m c) (x7 m c) (ix2 (row t r) k) := by
  by_cases h : k.val < 1024
  · obtain ⟨e, rfl⟩ : ∃ e, k = lo e := ⟨⟨k.val, h⟩, rfl⟩
    rw [dgl, pay16, dm_blk, gate_blk]
    refine congrArg (· * _ * _) ((congrArg _ (blk5 m c t r e)).trans ?_)
    show _ = dg _ _ _ _ _ _ (row t r) (lo e)
    rw [dg, dif_pos h]
  · obtain ⟨e, rfl⟩ : ∃ e, k = hi e := ⟨⟨k.val - 1024, by omega⟩, Fin.ext (by show k.val = 1024 + (k.val - 1024); omega)⟩
    rw [dgl, pay16', dm_blk, gate_blk]
    refine congrArg (· * _ * _) ((congrArg _ (blk6 m c t r e)).trans ?_)
    have he : (⟨(hi e).val - 1024, by omega⟩ : Fin 1024) = e := Fin.ext (by show 1024 + e.val - 1024 = e.val; omega)
    show _ = dg _ _ _ _ _ _ (row t r) (hi e)
    rw [dg, dif_neg h, he]

/-- The sum over shards and columns is the sum over all columns. -/
theorem dy_blk (D : FVec Ideal S256x1024 .bf16) (W : Vec Ideal S4x512x256 .bf16) (a : Fin 1024 → EReal) (w : FVec Ideal S1x512x1024 .f32) (r : Fin 256) (f : Fin 512)
    (hD : ∀ e, D (ix2 r e) = a e) (hW : ∀ s j, W (ix3 s f j) = w (ix3 (0 : Fin 1) f (col s j))) :
    dyB D W (ix2 r f) = ∑ e, a e * w (ix3 (0 : Fin 1) f e) := by
  rw [dyB_apply]
  exact Fin.sum_mul_add_congr fun s j hl => congrArg₂ (fun a b : EReal => a * b) (hD _) (hW s j)

/-! ## The arrays after the run -/

/-- Where block `t` of output 1 sits. -/
theorem place11 (t : Fin cfg0.N) (y : S256x512.Idx) : ((cfg0.win 11).blk t).view.emb y = (ix2 (row t (y 0)) (y 1) : S4096x512.Idx) := by
  blk_ext [idx t]

/-- Where block `t` of output 2 sits. -/
theorem place12 (t : Fin cfg0.N) (y : S256x512.Idx) : ((cfg0.win 12).blk t).view.emb y = (ix2 (row t (y 0)) (y 1) : S4096x512.Idx) := by
  blk_ext [idx t]

/-- Where block `t` of output 3 sits. -/
theorem place13 (t : Fin cfg0.N) (y : S256x2048.Idx) : ((cfg0.win 13).blk t).view.emb y = (ix2 (row t (y 0)) (y 1) : S4096x2048.Idx) := by
  blk_ext [idx t]

/-- Where block `t` of output 4 sits. -/
theorem place14 (t : Fin cfg0.N) (y : S1x2048.Idx) : ((cfg0.win 14).blk t).view.emb y = (y : S1x2048.Idx) := by
  blk_ext [idx t]

/-- Where block `t` of output 5 sits. -/
theorem place15 (t : Fin cfg0.N) (y : S4x512x256.Idx) : ((cfg0.win 15).blk t).view.emb y = (y : S4x512x256.Idx) := by
  blk_ext [idx t]

/-- Where block `t` of output 6 sits. -/
theorem place16 (t : Fin cfg0.N) (y : S4x512x256.Idx) : ((cfg0.win 16).blk t).view.emb y = (y : S4x512x256.Idx) := by
  blk_ext [idx t]

/-- Where block `t` of output 7 sits. -/
theorem place17 (t : Fin cfg0.N) (y : S4x256x1024.Idx) : ((cfg0.win 17).blk t).view.emb y = (y : S4x256x1024.Idx) := by
  blk_ext [idx t]

/-- The attention's gradient after the run. -/
theorem final11 : (dats m 0 c).arrAt 11 cfg0.N = gY (x2 m c) (x3 m c) (x6 m c) (x7 m c) lo (x4 m c) := by
  refine (dats m 0 c).arrAt_eq_of_covers 11 _ (by decide +kernel) fun t hf y => ?_
  blk_simp
  rw [after0_11, out11]
  refine Eq.trans ?_ (congrArg (gY (x2 m c) (x3 m c) (x6 m c) (x7 m c) lo (x4 m c)) (place11 t y)).symm
  rw [eq_ix2 y]
  exact dy_blk _ _ _ (x4 m c) _ _ (fun e => dpa_blk m c t _ e) fun s j => blk8 m c t s _ j

/-- The gating unit's gradient after the run. -/
theorem final12 : (dats m 0 c).arrAt 12 cfg0.N = gY (x2 m c) (x3 m c) (x6 m c) (x7 m c) hi (x5 m c) := by
  refine (dats m 0 c).arrAt_eq_of_covers 12 _ (by decide +kernel) fun t hf y => ?_
  blk_simp
  rw [after0_12, out12]
  refine Eq.trans ?_ (congrArg (gY (x2 m c) (x3 m c) (x6 m c) (x7 m c) hi (x5 m c)) (place12 t y)).symm
  rw [eq_ix2 y]
  exact dy_blk _ _ _ (x5 m c) _ _ (fun e => dps_blk m c t _ e) fun s j => blk9 m c t s _ j

/-- The gates' gradient after the run. -/
theorem final13 : (dats m 0 c).arrAt 13 cfg0.N = gG (x0 m c) (x1 m c) (x2 m c) (x3 m c) (x4 m c) (x5 m c) (x6 m c) (x7 m c) := by
  refine (dats m 0 c).arrAt_eq_of_covers 13 _ (by decide +kernel) fun t hf y => ?_
  blk_simp
  rw [after0_13, out13]
  refine Eq.trans ?_ (congrArg (gG (x0 m c) (x1 m c) (x2 m c) (x3 m c) (x4 m c) (x5 m c) (x6 m c) (x7 m c)) (place13 t y)).symm
  exact (congrArg (dgl m c t) (eq_ix2 y)).trans (dgl_blk m c t (y 0) (y 1))

/-- Point `s` of the run reads the tokens `256 s …`. -/
theorem row_run (t : Fin cfg0.N) (s : Fin 16) (k : Fin 256) (h : 16 * (t.val / 16) + s.val < cfg0.N) (hl : s.val * 256 + k.val < 4096) :
    row ⟨16 * (t.val / 16) + s.val, h⟩ k = ⟨s.val * 256 + k.val, hl⟩ := Fin.ext (by have := lt_of_lt_of_eq t.isLt N_0; dsimp only; omega)

/-- The bias's gradient after the run. -/
theorem final14 : (dats m 0 c).arrAt 14 cfg0.N = gB (x0 m c) (x1 m c) (x2 m c) (x3 m c) (x4 m c) (x5 m c) (x6 m c) (x7 m c) := by
  refine (dats m 0 c).arrAt_eq_of_covers 14 _ (by decide +kernel) fun t hf y => ?_
  blk_simp
  rw [after0_14, Pipeline.eq_sum_fin_of_reset_step_apply_of_flush (fun n h => (outsAt0 m c n h).2.2.2.1) 16 (fun _ => 0)
    (fun t i => ∑ r : Fin 256, dgl m c t (ix2 r (i 1)))
    (fun t h i => (congrArg _ ((eq_ix2 i).trans (congrArg (ix2 · (i 1)) (Subsingleton.elim (α := Fin 1) (i 0) 0)))).trans (out14_A m c t h (i 1)))
    (fun t h i => (congrArg _ ((eq_ix2 i).trans (congrArg (ix2 · (i 1)) (Subsingleton.elim (α := Fin 1) (i 0) 0)))).trans ((out14_B m c t h (i 1)).trans (congrArg (· + _) (congrArg _ ((eq_ix2 i).trans (congrArg (ix2 · (i 1)) (Subsingleton.elim (α := Fin 1) (i 0) 0))).symm))))
    t ((flush0_14 t).mp hf) _, zero_add]
  refine Eq.trans ?_ (congrArg (gB (x0 m c) (x1 m c) (x2 m c) (x3 m c) (x4 m c) (x5 m c) (x6 m c) (x7 m c)) (place14 t y)).symm
  refine Fin.sum_mul_add_congr fun s k hl => ?_
  refine (dgl_blk m c _ k (y 1)).trans ?_
  rw [row_run t s k _ hl]

/-- The attention projection's weight gradient after the run. -/
theorem final15 : (dats m 0 c).arrAt 15 cfg0.N = gP (x2 m c) (x3 m c) (x6 m c) (x7 m c) lo (x0 m c) := by
  refine (dats m 0 c).arrAt_eq_of_covers 15 _ (by decide +kernel) fun t hf y => ?_
  blk_simp
  rw [after0_15, Pipeline.eq_sum_fin_of_reset_step_apply_of_flush (fun n h => (outsAt0 m c n h).2.2.2.2.1) 16 (fun _ => 0)
    (fun t i => ∑ r : Fin 256, ya m c t (ix2 r (i 1)) * dpa m c t (ix2 r (col (i 0) (i 2))))
    (fun t h i => (congrArg _ (eq_ix3 i)).trans (out15_A m c t h (i 0) (i 1) (i 2)))
    (fun t h i => (congrArg _ (eq_ix3 i)).trans ((out15_B m c t h (i 0) (i 1) (i 2)).trans (congrArg (· + _) (congrArg _ (eq_ix3 i).symm))))
    t ((flush0_15 t).mp hf) _, zero_add]
  refine Eq.trans ?_ (congrArg (gP (x2 m c) (x3 m c) (x6 m c) (x7 m c) lo (x0 m c)) (place15 t y)).symm
  refine Fin.sum_mul_add_congr fun s k hl => ?_
  refine (congrArg₂ (fun a b : EReal => a * b) (blk1 m c _ k (y 1)) (dpa_blk m c _ k (col (y 0) (y 2)))).trans ?_
  rw [row_run t s k _ hl]

/-- The gating unit projection's weight gradient after the run. -/
theorem final16 : (dats m 0 c).arrAt 16 cfg0.N = gP (x2 m c) (x3 m c) (x6 m c) (x7 m c) hi (x1 m c) := by
  refine (dats m 0 c).arrAt_eq_of_covers 16 _ (by decide +kernel) fun t hf y => ?_
  blk_simp
  rw [after0_16, Pipeline.eq_sum_fin_of_reset_step_apply_of_flush (fun n h => (outsAt0 m c n h).2.2.2.2.2.1) 16 (fun _ => 0)
    (fun t i => ∑ r : Fin 256, ys m c t (ix2 r (i 1)) * dps m c t (ix2 r (col (i 0) (i 2))))
    (fun t h i => (congrArg _ (eq_ix3 i)).trans (out16_A m c t h (i 0) (i 1) (i 2)))
    (fun t h i => (congrArg _ (eq_ix3 i)).trans ((out16_B m c t h (i 0) (i 1) (i 2)).trans (congrArg (· + _) (congrArg _ (eq_ix3 i).symm))))
    t ((flush0_16 t).mp hf) _, zero_add]
  refine Eq.trans ?_ (congrArg (gP (x2 m c) (x3 m c) (x6 m c) (x7 m c) hi (x1 m c)) (place16 t y)).symm
  refine Fin.sum_mul_add_congr fun s k hl => ?_
  refine (congrArg₂ (fun a b : EReal => a * b) (blk2 m c _ k (y 1)) (dps_blk m c _ k (col (y 0) (y 2)))).trans ?_
  rw [row_run t s k _ hl]

/-- The output weight's gradient after the run. -/
theorem final17 : (dats m 0 c).arrAt 17 cfg0.N = gO (x0 m c) (x1 m c) (x2 m c) (x3 m c) (x4 m c) (x5 m c) (x7 m c) := by
  refine (dats m 0 c).arrAt_eq_of_covers 17 _ (by decide +kernel) fun t hf y => ?_
  blk_simp
  rw [after0_17, Pipeline.eq_sum_fin_of_reset_step_apply_of_flush (fun n h => (outsAt0 m c n h).2.2.2.2.2.2) 16 (fun _ => 0)
    (fun t i => ∑ r : Fin 256, mb m c t (ix2 r (col (i 0) (i 1))) * dx m c t (ix2 r (i 2)))
    (fun t h i => (congrArg _ (eq_ix3 i)).trans (out17_A m c t h (i 0) (i 1) (i 2)))
    (fun t h i => (congrArg _ (eq_ix3 i)).trans ((out17_B m c t h (i 0) (i 1) (i 2)).trans (congrArg (· + _) (congrArg _ (eq_ix3 i).symm))))
    t ((flush0_17 t).mp hf) _, zero_add]
  refine Eq.trans ?_ (congrArg (gO (x0 m c) (x1 m c) (x2 m c) (x3 m c) (x4 m c) (x5 m c) (x7 m c)) (place17 t y)).symm
  refine Fin.sum_mul_add_congr fun s k hl => ?_
  refine (congrArg₂ (fun a b : EReal => a * b) (blk4 m c _ k (col (y 0) (y 1))) (blk0 m c _ k (y 2))).trans ?_
  rw [row_run t s k _ hl]

end

end Cert.MergeBwdIdeal.Grad

end
-- ==== Proof.FfnDgrad.Block.lean ====
module

public import proofs.«01_k».proof.Proof.Gen.FfnDgradIdeal.Value
public import Idealize.ShloMosaic.Lib.Pipeline.ValueKit
public import Idealize.ShloMosaic.Lib.Pipeline.ReadBack
public import Idealize.ShloMosaic.Lib.Pointwise
public import proofs.«01_k».proof.Proof.Rows

@[expose] public section

set_option maxRecDepth 16384

noncomputable section

open Idealize.ShloMosaic Idealize.ShloMosaic.TcCoe Idealize.SL.Sem
open Idealize.ShloMosaic.Pipeline (Dat)

/-! # The feed-forward block's input gradients: the two gates' gradients of one block of 256 tokens -/

namespace Cert.FfnDgradIdeal.Grad

open Cert.FfnDgradIdeal Cert.FfnDgradIdeal.Gen Cert.FfnDgradIdeal.Value
variable (m : (ℓ : Loc nD τ sig) → Buf (Elt Ideal) ℓ) (c : Dev nD) (t : Fin cfg0.N)

/-- The block of the cotangent. -/
abbrev b0 : Vec Ideal S256x1024 .f32 := iblk m c 0 t
/-- The block of the input. -/
abbrev b1 : Vec Ideal S256x1024 .f32 := iblk m c 1 t
/-- The block of the gate's activations. -/
abbrev b2 : Vec Ideal S4x256x704 .bf16 := iblk m c 2 t
/-- The block of the other factor's activations. -/
abbrev b3 : Vec Ideal S4x256x704 .bf16 := iblk m c 3 t
/-- The norm's weight. -/
abbrev b4 : Vec Ideal S1x1024 .f32 := iblk m c 4 t
/-- The gate's weight. -/
abbrev b5 : Vec Ideal S4x704x1024 .bf16 := iblk m c 5 t
/-- The other factor's weight. -/
abbrev b6 : Vec Ideal S4x704x1024 .bf16 := iblk m c 6 t
/-- The weight of the way down. -/
abbrev b7 : Vec Ideal S4x704x1024 .bf16 := iblk m c 7 t

/-- The cotangent of the product of gate and factor. -/
def dsB (s : Fin 4) (r : Fin 256) (f : Fin 704) : EReal :=
  ∑ d : Fin 1024, (Ideal.ofBits .f32 0x3F000000#32 * b0 m c t (ix2 r d)) * b7 m c t (ix3 s f d)
/-- The gradient of the gate's activations. -/
def daB : Vec Ideal S4x256x704 .bf16 := fun i =>
  dsB m c t (i 0) (i 1) (i 2) * b3 m c t i * (Rows.sig (b2 m c t i) * (1 + b2 m c t i * (1 - Rows.sig (b2 m c t i))))
/-- The gradient of the other factor's activations. -/
def dbB : Vec Ideal S4x256x704 .bf16 := fun i => dsB m c t (i 0) (i 1) (i 2) * (b2 m c t i * Rows.sig (b2 m c t i))

/-- What is stored of the gate's gradient, the last store first. -/
def storesA : List (View.Piece (Elt Ideal) S4x256x704 .bf16) :=
   [⟨Rect.unit ![3, 192, 0] ![1, 64, 704] inb_S4x256x704_S1x64x704_3_192_0, k0_pay104 (k0_pay59 (k0_pay4 (b0 m c t)) (View.ld (b7 m c t) (Rect.unit ![3, 0, 0] ![1, 704, 1024] inb_S4x704x1024_S1x704x1024_3_0_0))) (k0_pay98 (View.ld (b2 m c t) (Rect.unit ![3, 192, 0] ![1, 64, 704] inb_S4x256x704_S1x64x704_3_192_0))) (k0_pay99 (View.ld (b3 m c t) (Rect.unit ![3, 192, 0] ![1, 64, 704] inb_S4x256x704_S1x64x704_3_192_0))) (k0_pay100 (View.ld (b2 m c t) (Rect.unit ![3, 192, 0] ![1, 64, 704] inb_S4x256x704_S1x64x704_3_192_0))) k0_pay101⟩,
    ⟨Rect.unit ![3, 128, 0] ![1, 64, 704] inb_S4x256x704_S1x64x704_3_128_0, k0_pay96 (k0_pay59 (k0_pay4 (b0 m c t)) (View.ld (b7 m c t) (Rect.unit ![3, 0, 0] ![1, 704, 1024] inb_S4x704x1024_S1x704x1024_3_0_0))) (k0_pay93 (View.ld (b2 m c t) (Rect.unit ![3, 128, 0] ![1, 64, 704] inb_S4x256x704_S1x64x704_3_128_0))) (View.ld (b3 m c t) (Rect.unit ![3, 128, 0] ![1, 64, 704] inb_S4x256x704_S1x64x704_3_128_0))⟩,
    ⟨Rect.unit ![3, 64, 0] ![1, 64, 704] inb_S4x256x704_S1x64x704_3_64_0, k0_pay91 (k0_pay59 (k0_pay4 (b0 m c t)) (View.ld (b7 m c t) (Rect.unit ![3, 0, 0] ![1, 704, 1024] inb_S4x704x1024_S1x704x1024_3_0_0))) (View.ld (b2 m c t) (Rect.unit ![3, 64, 0] ![1, 64, 704] inb_S4x256x704_S1x64x704_3_64_0)) (View.ld (b3 m c t) (Rect.unit ![3, 64, 0] ![1, 64, 704] inb_S4x256x704_S1x64x704_3_64_0))⟩,
    ⟨Rect.unit ![3, 0, 0] ![1, 64, 704] inb_S4x256x704_S1x64x704_3_0_0, k0_pay86 (k0_pay59 (k0_pay4 (b0 m c t)) (View.ld (b7 m c t) (Rect.unit ![3, 0, 0] ![1, 704, 1024] inb_S4x704x1024_S1x704x1024_3_0_0))) (View.ld (b2 m c t) (Rect.unit ![3, 0, 0] ![1, 64, 704] inb_S4x256x704_S1x64x704_3_0_0)) (View.ld (b3 m c t) (Rect.unit ![3, 0, 0] ![1, 64, 704] inb_S4x256x704_S1x64x704_3_0_0))⟩,
    ⟨Rect.unit ![2, 192, 0] ![1, 64, 704] inb_S4x256x704_S1x64x704_2_192_0, k0_pay78 (k0_pay33 (k0_pay4 (b0 m c t)) (View.ld (b7 m c t) (Rect.unit ![2, 0, 0] ![1, 704, 1024] inb_S4x704x1024_S1x704x1024_2_0_0))) (k0_pay75 (View.ld (b2 m c t) (Rect.unit ![2, 192, 0] ![1, 64, 704] inb_S4x256x704_S1x64x704_2_192_0))) (View.ld (b3 m c t) (Rect.unit ![2, 192, 0] ![1, 64, 704] inb_S4x256x704_S1x64x704_2_192_0))⟩,
    ⟨Rect.unit ![2, 128, 0] ![1, 64, 704] inb_S4x256x704_S1x64x704_2_128_0, k0_pay73 (k0_pay33 (k0_pay4 (b0 m c t)) (View.ld (b7 m c t) (Rect.unit ![2, 0, 0] ![1, 704, 1024] inb_S4x704x1024_S1x704x1024_2_0_0))) (View.ld (b2 m c t) (Rect.unit ![2, 128, 0] ![1, 64, 704] inb_S4x256x704_S1x64x704_2_128_0)) (View.ld (b3 m c t) (Rect.unit ![2, 128, 0] ![1, 64, 704] inb_S4x256x704_S1x64x704_2_128_0))⟩,
    ⟨Rect.unit ![2, 64, 0] ![1, 64, 704] inb_S4x256x704_S1x64x704_2_64_0, k0_pay68 (k0_pay33 (k0_pay4 (b0 m c t)) (View.ld (b7 m c t) (Rect.unit ![2, 0, 0] ![1, 704, 1024] inb_S4x704x1024_S1x704x1024_2_0_0))) (View.ld (b2 m c t) (Rect.unit ![2, 64, 0] ![1, 64, 704] inb_S4x256x704_S1x64x704_2_64_0)) (View.ld (b3 m c t) (Rect.unit ![2, 64, 0] ![1, 64, 704] inb_S4x256x704_S1x64x704_2_64_0))⟩,
    ⟨Rect.unit ![2, 0, 0] ![1, 64, 704] inb_S4x256x704_S1x64x704_2_0_0, k0_pay63 (k0_pay33 (k0_pay4 (b0 m c t)) (View.ld (b7 m c t) (Rect.unit ![2, 0, 0] ![1, 704, 1024] inb_S4x704x1024_S1x704x1024_2_0_0))) (View.ld (b2 m c t) (Rect.unit ![2, 0, 0] ![1, 64, 704] inb_S4x256x704_S1x64x704_2_0_0)) (View.ld (b3 m c t) (Rect.unit ![2, 0, 0] ![1, 64, 704] inb_S4x256x704_S1x64x704_2_0_0))⟩,
    ⟨Rect.unit ![1, 192, 0] ![1, 64, 704] inb_S4x256x704_S1x64x704_1_192_0, k0_pay55 (k0_pay7 (b0 m c t) (View.ld (b7 m c t) (Rect.unit ![1, 0, 0] ![1, 704, 1024] inb_S4x704x1024_S1x704x1024_1_0_0))) (k0_pay51 (View.ld (b2 m c t) (Rect.unit ![1, 192, 0] ![1, 64, 704] inb_S4x256x704_S1x64x704_1_192_0))) (View.ld (b3 m c t) (Rect.unit ![1, 192, 0] ![1, 64, 704] inb_S4x256x704_S1x64x704_1_192_0))⟩,
    ⟨Rect.unit ![1, 128, 0] ![1, 64, 704] inb_S4x256x704_S1x64x704_1_128_0, k0_pay49 (k0_pay7 (b0 m c t) (View.ld (b7 m c t) (Rect.unit ![1, 0, 0] ![1, 704, 1024] inb_S4x704x1024_S1x704x1024_1_0_0))) (View.ld (b2 m c t) (Rect.unit ![1, 128, 0] ![1, 64, 704] inb_S4x256x704_S1x64x704_1_128_0)) (View.ld (b3 m c t) (Rect.unit ![1, 128, 0] ![1, 64, 704] inb_S4x256x704_S1x64x704_1_128_0))⟩,
    ⟨Rect.unit ![1, 64, 0] ![1, 64, 704] inb_S4x256x704_S1x64x704_1_64_0, k0_pay43 (k0_pay7 (b0 m c t) (View.ld (b7 m c t) (Rect.unit ![1, 0, 0] ![1, 704, 1024] inb_S4x704x1024_S1x704x1024_1_0_0))) (View.ld (b2 m c t) (Rect.unit ![1, 64, 0] ![1, 64, 704] inb_S4x256x704_S1x64x704_1_64_0)) (View.ld (b3 m c t) (Rect.unit ![1, 64, 0] ![1, 64, 704] inb_S4x256x704_S1x64x704_1_64_0))⟩,
    ⟨Rect.unit ![1, 0, 0] ![1, 64, 704] inb_S4x256x704_S1x64x704_1_0_0, k0_pay38 (k0_pay37 (k0_pay7 (b0 m c t) (View.ld (b7 m c t) (Rect.unit ![1, 0, 0] ![1, 704, 1024] inb_S4x704x1024_S1x704x1024_1_0_0))) (View.ld (b2 m c t) (Rect.unit ![1, 0, 0] ![1, 64, 704] inb_S4x256x704_S1x64x704_1_0_0)) (View.ld (b3 m c t) (Rect.unit ![1, 0, 0] ![1, 64, 704] inb_S4x256x704_S1x64x704_1_0_0)))⟩,
    ⟨Rect.unit ![0, 192, 0] ![1, 64, 704] inb_S4x256x704_S1x64x704_0_192_0, k0_pay28 (k0_pay6 (b0 m c t) (View.ld (b7 m c t) (Rect.unit ![0, 0, 0] ![1, 704, 1024] inb_S4x704x1024_S1x704x1024_0_0_0))) (View.ld (b2 m c t) (Rect.unit ![0, 192, 0] ![1, 64, 704] inb_S4x256x704_S1x64x704_0_192_0)) (View.ld (b3 m c t) (Rect.unit ![0, 192, 0] ![1, 64, 704] inb_S4x256x704_S1x64x704_0_192_0))⟩,
    ⟨Rect.unit ![0, 128, 0] ![1, 64, 704] inb_S4x256x704_S1x64x704_0_128_0, k0_pay23 (k0_pay6 (b0 m c t) (View.ld (b7 m c t) (Rect.unit ![0, 0, 0] ![1, 704, 1024] inb_S4x704x1024_S1x704x1024_0_0_0))) (View.ld (b2 m c t) (Rect.unit ![0, 128, 0] ![1, 64, 704] inb_S4x256x704_S1x64x704_0_128_0)) (View.ld (b3 m c t) (Rect.unit ![0, 128, 0] ![1, 64, 704] inb_S4x256x704_S1x64x704_0_128_0))⟩,
    ⟨Rect.unit ![0, 64, 0] ![1, 64, 704] inb_S4x256x704_S1x64x704_0_64_0, k0_pay17 (k0_pay6 (b0 m c t) (View.ld (b7 m c t) (Rect.unit ![0, 0, 0] ![1, 704, 1024] inb_S4x704x1024_S1x704x1024_0_0_0))) (View.ld (b2 m c t) (Rect.unit ![0, 64, 0] ![1, 64, 704] inb_S4x256x704_S1x64x704_0_64_0)) (View.ld (b3 m c t) (Rect.unit ![0, 64, 0] ![1, 64, 704] inb_S4x256x704_S1x64x704_0_64_0))⟩,
    ⟨Rect.unit ![0, 0, 0] ![1, 64, 704] inb_S4x256x704_S1x64x704_0_0_0, k0_pay12 (k0_pay11 (b0 m c t) (View.ld (b7 m c t) (Rect.unit ![0, 0, 0] ![1, 704, 1024] inb_S4x704x1024_S1x704x1024_0_0_0)) (View.ld (b2 m c t) (Rect.unit ![0, 0, 0] ![1, 64, 704] inb_S4x256x704_S1x64x704_0_0_0)) (View.ld (b3 m c t) (Rect.unit ![0, 0, 0] ![1, 64, 704] inb_S4x256x704_S1x64x704_0_0_0)))⟩]
/-- What is stored of the other factor's gradient, the last store first. -/
def storesB : List (View.Piece (Elt Ideal) S4x256x704 .bf16) :=
   [⟨Rect.unit ![3, 192, 0] ![1, 64, 704] inb_S4x256x704_S1x64x704_3_192_0, k0_pay105 (k0_pay59 (k0_pay4 (b0 m c t)) (View.ld (b7 m c t) (Rect.unit ![3, 0, 0] ![1, 704, 1024] inb_S4x704x1024_S1x704x1024_3_0_0))) (k0_pay98 (View.ld (b2 m c t) (Rect.unit ![3, 192, 0] ![1, 64, 704] inb_S4x256x704_S1x64x704_3_192_0))) (k0_pay100 (View.ld (b2 m c t) (Rect.unit ![3, 192, 0] ![1, 64, 704] inb_S4x256x704_S1x64x704_3_192_0))) k0_pay101⟩,
    ⟨Rect.unit ![3, 128, 0] ![1, 64, 704] inb_S4x256x704_S1x64x704_3_128_0, k0_pay97 (k0_pay59 (k0_pay4 (b0 m c t)) (View.ld (b7 m c t) (Rect.unit ![3, 0, 0] ![1, 704, 1024] inb_S4x704x1024_S1x704x1024_3_0_0))) (k0_pay93 (View.ld (b2 m c t) (Rect.unit ![3, 128, 0] ![1, 64, 704] inb_S4x256x704_S1x64x704_3_128_0)))⟩,
    ⟨Rect.unit ![3, 64, 0] ![1, 64, 704] inb_S4x256x704_S1x64x704_3_64_0, k0_pay92 (k0_pay59 (k0_pay4 (b0 m c t)) (View.ld (b7 m c t) (Rect.unit ![3, 0, 0] ![1, 704, 1024] inb_S4x704x1024_S1x704x1024_3_0_0))) (View.ld (b2 m c t) (Rect.unit ![3, 64, 0] ![1, 64, 704] inb_S4x256x704_S1x64x704_3_64_0))⟩,
    ⟨Rect.unit ![3, 0, 0] ![1, 64, 704] inb_S4x256x704_S1x64x704_3_0_0, k0_pay87 (k0_pay59 (k0_pay4 (b0 m c t)) (View.ld (b7 m c t) (Rect.unit ![3, 0, 0] ![1, 704, 1024] inb_S4x704x1024_S1x704x1024_3_0_0))) (View.ld (b2 m c t) (Rect.unit ![3, 0, 0] ![1, 64, 704] inb_S4x256x704_S1x64x704_3_0_0))⟩,
    ⟨Rect.unit ![2, 192, 0] ![1, 64, 704] inb_S4x256x704_S1x64x704_2_192_0, k0_pay79 (k0_pay33 (k0_pay4 (b0 m c t)) (View.ld (b7 m c t) (Rect.unit ![2, 0, 0] ![1, 704, 1024] inb_S4x704x1024_S1x704x1024_2_0_0))) (k0_pay75 (View.ld (b2 m c t) (Rect.unit ![2, 192, 0] ![1, 64, 704] inb_S4x256x704_S1x64x704_2_192_0)))⟩,
    ⟨Rect.unit ![2, 128, 0] ![1, 64, 704] inb_S4x256x704_S1x64x704_2_128_0, k0_pay74 (k0_pay33 (k0_pay4 (b0 m c t)) (View.ld (b7 m c t) (Rect.unit ![2, 0, 0] ![1, 704, 1024] inb_S4x704x1024_S1x704x1024_2_0_0))) (View.ld (b2 m c t) (Rect.unit ![2, 128, 0] ![1, 64, 704] inb_S4x256x704_S1x64x704_2_128_0))⟩,
    ⟨Rect.unit ![2, 64, 0] ![1, 64, 704] inb_S4x256x704_S1x64x704_2_64_0, k0_pay69 (k0_pay33 (k0_pay4 (b0 m c t)) (View.ld (b7 m c t) (Rect.unit ![2, 0, 0] ![1, 704, 1024] inb_S4x704x1024_S1x704x1024_2_0_0))) (View.ld (b2 m c t) (Rect.unit ![2, 64, 0] ![1, 64, 704] inb_S4x256x704_S1x64x704_2_64_0))⟩,
    ⟨Rect.unit ![2, 0, 0] ![1, 64, 704] inb_S4x256x704_S1x64x704_2_0_0, k0_pay64 (k0_pay60 (View.ld (b2 m c t) (Rect.unit ![2, 0, 0] ![1, 64, 704] inb_S4x256x704_S1x64x704_2_0_0))) (k0_pay61 (View.ld (b2 m c t) (Rect.unit ![2, 0, 0] ![1, 64, 704] inb_S4x256x704_S1x64x704_2_0_0))) (k0_pay62 (k0_pay33 (k0_pay4 (b0 m c t)) (View.ld (b7 m c t) (Rect.unit ![2, 0, 0] ![1, 704, 1024] inb_S4x704x1024_S1x704x1024_2_0_0))))⟩,
    ⟨Rect.unit ![1, 192, 0] ![1, 64, 704] inb_S4x256x704_S1x64x704_1_192_0, k0_pay56 (k0_pay7 (b0 m c t) (View.ld (b7 m c t) (Rect.unit ![1, 0, 0] ![1, 704, 1024] inb_S4x704x1024_S1x704x1024_1_0_0))) (k0_pay51 (View.ld (b2 m c t) (Rect.unit ![1, 192, 0] ![1, 64, 704] inb_S4x256x704_S1x64x704_1_192_0)))⟩,
    ⟨Rect.unit ![1, 128, 0] ![1, 64, 704] inb_S4x256x704_S1x64x704_1_128_0, k0_pay50 (k0_pay7 (b0 m c t) (View.ld (b7 m c t) (Rect.unit ![1, 0, 0] ![1, 704, 1024] inb_S4x704x1024_S1x704x1024_1_0_0))) (View.ld (b2 m c t) (Rect.unit ![1, 128, 0] ![1, 64, 704] inb_S4x256x704_S1x64x704_1_128_0))⟩,
    ⟨Rect.unit ![1, 64, 0] ![1, 64, 704] inb_S4x256x704_S1x64x704_1_64_0, k0_pay45 (k0_pay44 (k0_pay7 (b0 m c t) (View.ld (b7 m c t) (Rect.unit ![1, 0, 0] ![1, 704, 1024] inb_S4x704x1024_S1x704x1024_1_0_0))) (View.ld (b2 m c t) (Rect.unit ![1, 64, 0] ![1, 64, 704] inb_S4x256x704_S1x64x704_1_64_0)))⟩,
    ⟨Rect.unit ![1, 0, 0] ![1, 64, 704] inb_S4x256x704_S1x64x704_1_0_0, k0_pay39 (k0_pay34 (View.ld (b2 m c t) (Rect.unit ![1, 0, 0] ![1, 64, 704] inb_S4x256x704_S1x64x704_1_0_0))) (k0_pay35 (View.ld (b2 m c t) (Rect.unit ![1, 0, 0] ![1, 64, 704] inb_S4x256x704_S1x64x704_1_0_0))) (k0_pay36 (k0_pay7 (b0 m c t) (View.ld (b7 m c t) (Rect.unit ![1, 0, 0] ![1, 704, 1024] inb_S4x704x1024_S1x704x1024_1_0_0))))⟩,
    ⟨Rect.unit ![0, 192, 0] ![1, 64, 704] inb_S4x256x704_S1x64x704_0_192_0, k0_pay29 (k0_pay6 (b0 m c t) (View.ld (b7 m c t) (Rect.unit ![0, 0, 0] ![1, 704, 1024] inb_S4x704x1024_S1x704x1024_0_0_0))) (View.ld (b2 m c t) (Rect.unit ![0, 192, 0] ![1, 64, 704] inb_S4x256x704_S1x64x704_0_192_0))⟩,
    ⟨Rect.unit ![0, 128, 0] ![1, 64, 704] inb_S4x256x704_S1x64x704_0_128_0, k0_pay24 (k0_pay6 (b0 m c t) (View.ld (b7 m c t) (Rect.unit ![0, 0, 0] ![1, 704, 1024] inb_S4x704x1024_S1x704x1024_0_0_0))) (View.ld (b2 m c t) (Rect.unit ![0, 128, 0] ![1, 64, 704] inb_S4x256x704_S1x64x704_0_128_0))⟩,
    ⟨Rect.unit ![0, 64, 0] ![1, 64, 704] inb_S4x256x704_S1x64x704_0_64_0, k0_pay19 (k0_pay18 (k0_pay6 (b0 m c t) (View.ld (b7 m c t) (Rect.unit ![0, 0, 0] ![1, 704, 1024] inb_S4x704x1024_S1x704x1024_0_0_0))) (View.ld (b2 m c t) (Rect.unit ![0, 64, 0] ![1, 64, 704] inb_S4x256x704_S1x64x704_0_64_0)))⟩,
    ⟨Rect.unit ![0, 0, 0] ![1, 64, 704] inb_S4x256x704_S1x64x704_0_0_0, k0_pay13 (k0_pay8 (View.ld (b2 m c t) (Rect.unit ![0, 0, 0] ![1, 64, 704] inb_S4x256x704_S1x64x704_0_0_0))) (k0_pay9 (View.ld (b2 m c t) (Rect.unit ![0, 0, 0] ![1, 64, 704] inb_S4x256x704_S1x64x704_0_0_0))) (k0_pay10 (b0 m c t) (View.ld (b7 m c t) (Rect.unit ![0, 0, 0] ![1, 704, 1024] inb_S4x704x1024_S1x704x1024_0_0_0)))⟩]

/-- The index of an entry of a store. -/
theorem emb_eq (s r : ℕ) (inb : ∀ a, (![s, r, 0] : Fin 3 → ℕ) a + (![1, 64, 704] : Fin 3 → ℕ) a ≤ S4x256x704.size a)
    (x : (Rect.unit (s := S4x256x704) ![s, r, 0] ![1, 64, 704] inb).shape.Idx) (hs : s < 4) (hr : r + (x 1).val < 256) :
    (Rect.unit (s := S4x256x704) ![s, r, 0] ![1, 64, 704] inb).emb x
      = (ix3 (⟨s, hs⟩ : Fin 4) (⟨r + (x 1).val, hr⟩ : Fin 256) (⟨(x 2).val, (x 2).isLt⟩ : Fin 704) : S4x256x704.Idx) := by
  have h0 : (x 0).val = 0 := by have h := (x 0).isLt; change (x 0).val < 1 at h; omega
  funext a
  refine Fin.ext ?_
  fin_cases a
  · show s + 1 * (x 0).val = s; omega
  · show r + 1 * (x 1).val = r + (x 1).val; omega
  · show 0 + 1 * (x 2).val = (x 2).val; omega

/-- The rows of a store lie in the block. -/
theorem row_lt (r : ℕ) (v : Fin 64) (hr : r + 64 ≤ 256) : r + v.val < 256 := by omega

/-- Every store of the gate's gradient is a block of it. -/
theorem piecesA : View.PiecesOf (e := .bf16) (Val := Elt Ideal) (daB m c t) (storesA m c t) := by
  refine ⟨fun x => ?_, fun x => ?_, fun x => ?_, fun x => ?_, fun x => ?_, fun x => ?_, fun x => ?_, fun x => ?_, fun x => ?_, fun x => ?_,
    fun x => ?_, fun x => ?_, fun x => ?_, fun x => ?_, fun x => ?_, fun x => ?_, trivial⟩
  all_goals
    refine Eq.trans ?_ (congrArg (daB m c t) (emb_eq _ _ (by decide) x (by decide) (row_lt _ (x 1) (by decide)))).symm
    rw [eq_ix3 x]
    pointwise [daB, dsB, Rows.sig, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105]
    simp only [Rows.zero_sub]

/-- Every store of the other factor's gradient is a block of it. -/
theorem piecesB : View.PiecesOf (e := .bf16) (Val := Elt Ideal) (dbB m c t) (storesB m c t) := by
  refine ⟨fun x => ?_, fun x => ?_, fun x => ?_, fun x => ?_, fun x => ?_, fun x => ?_, fun x => ?_, fun x => ?_, fun x => ?_, fun x => ?_,
    fun x => ?_, fun x => ?_, fun x => ?_, fun x => ?_, fun x => ?_, fun x => ?_, trivial⟩
  all_goals
    refine Eq.trans ?_ (congrArg (dbB m c t) (emb_eq _ _ (by decide) x (by decide) (row_lt _ (x 1) (by decide)))).symm
    rw [eq_ix3 x]
    pointwise [dbB, dsB, Rows.sig, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105]
    simp only [Rows.zero_sub]

/-- The four stores of shard `s` cover its rows. -/
theorem covered (s : ℕ) (i0 i1 i2 i3 : _)
    (w0 : (Rect.unit (s := S4x256x704) ![s, 192, 0] ![1, 64, 704] i0).shape.Idx → Elt Ideal .bf16)
    (w1 : (Rect.unit (s := S4x256x704) ![s, 128, 0] ![1, 64, 704] i1).shape.Idx → Elt Ideal .bf16)
    (w2 : (Rect.unit (s := S4x256x704) ![s, 64, 0] ![1, 64, 704] i2).shape.Idx → Elt Ideal .bf16)
    (w3 : (Rect.unit (s := S4x256x704) ![s, 0, 0] ![1, 64, 704] i3).shape.Idx → Elt Ideal .bf16)
    (L : List (View.Piece (Elt Ideal) S4x256x704 .bf16)) (y : S4x256x704.Idx) (hs : (y 0).val = s) :
    ∃ p ∈ (⟨_, w0⟩ :: ⟨_, w1⟩ :: ⟨_, w2⟩ :: ⟨_, w3⟩ :: L : List (View.Piece (Elt Ideal) S4x256x704 .bf16)), y ∈ p.1.set := by
  have hy : (y 1).val < 256 := (y 1).isLt
  have hz : (y 2).val < 704 := (y 2).isLt
  have at_ (r : ℕ) (inb) (h : r ≤ (y 1).val ∧ (y 1).val < r + 64) : y ∈ (Rect.unit (s := S4x256x704) ![s, r, 0] ![1, 64, 704] inb).set := by
    refine Rect.mem_set_unit.mpr fun a => ?_
    fin_cases a
    · show s ≤ (y 0).val ∧ (y 0).val < s + 1; omega
    · exact h
    · show 0 ≤ (y 2).val ∧ (y 2).val < 0 + 704; omega
  rcases Nat.lt_or_ge (y 1).val 64 with g | g
  · exact ⟨_, .tail _ (.tail _ (.tail _ (.head _))), at_ 0 i3 ⟨by omega, by omega⟩⟩
  rcases Nat.lt_or_ge (y 1).val 128 with g' | g'
  · exact ⟨_, .tail _ (.tail _ (.head _)), at_ 64 i2 ⟨by omega, by omega⟩⟩
  rcases Nat.lt_or_ge (y 1).val 192 with g'' | g''
  · exact ⟨_, .tail _ (.head _), at_ 128 i1 ⟨by omega, by omega⟩⟩
  · exact ⟨_, .head _, at_ 192 i0 ⟨by omega, by omega⟩⟩

/-- An entry lies in one of the four shards. -/
theorem shard_cases (y : S4x256x704.Idx) : (y 0).val = 0 ∨ (y 0).val = 1 ∨ (y 0).val = 2 ∨ (y 0).val = 3 := by
  have : (y 0).val < 4 := (y 0).isLt
  omega

/-- What later stores cover is covered under four more. -/
theorem from4 {α : Type} {P : α → Prop} {a b c d : α} {L : List α} (h : ∃ p ∈ L, P p) : ∃ p ∈ a :: b :: c :: d :: L, P p :=
  let ⟨p, hp, q⟩ := h
  ⟨p, .tail _ (.tail _ (.tail _ (.tail _ hp))), q⟩

/-- Reading shard `s` back once its four stores are made gives the shard, whatever was stored before. -/
theorem layer_read {sig : RefSig} {κ : Kind} {sp : Space} (v : View sig κ sp S4x256x704 .bf16) (G : Vec Ideal S4x256x704 .bf16)
    (s : ℕ) (i0 i1 i2 i3 : _)
    (w0 : (Rect.unit (s := S4x256x704) ![s, 192, 0] ![1, 64, 704] i0).shape.Idx → Elt Ideal .bf16)
    (w1 : (Rect.unit (s := S4x256x704) ![s, 128, 0] ![1, 64, 704] i1).shape.Idx → Elt Ideal .bf16)
    (w2 : (Rect.unit (s := S4x256x704) ![s, 64, 0] ![1, 64, 704] i2).shape.Idx → Elt Ideal .bf16)
    (w3 : (Rect.unit (s := S4x256x704) ![s, 0, 0] ![1, 64, 704] i3).shape.Idx → Elt Ideal .bf16)
    (L : List (View.Piece (Elt Ideal) S4x256x704 .bf16)) (inb)
    (h : View.PiecesOf (e := .bf16) (Val := Elt Ideal) G (⟨_, w0⟩ :: ⟨_, w1⟩ :: ⟨_, w2⟩ :: ⟨_, w3⟩ :: L)) :
    v.readCov (⟨Rect.unit (s := S4x256x704) ![s, 192, 0] ![1, 64, 704] i0, w0⟩ :: ⟨Rect.unit (s := S4x256x704) ![s, 128, 0] ![1, 64, 704] i1, w1⟩
        :: ⟨Rect.unit (s := S4x256x704) ![s, 64, 0] ![1, 64, 704] i2, w2⟩ :: ⟨Rect.unit (s := S4x256x704) ![s, 0, 0] ![1, 64, 704] i3, w3⟩ :: L)
      (Rect.unit (s := S4x256x704) ![s, 0, 0] ![1, 256, 704] inb).toLoadRect
      = View.ld (G : Vec Ideal S4x256x704 .bf16) (Rect.unit (s := S4x256x704) ![s, 0, 0] ![1, 256, 704] inb) := by
  rw [View.readCov_eq_canon']
  funext j
  refine (congrArg (fun l => View.canon l _) (List.append_nil _)).symm.trans
    (View.canon_append_of_piecesOf (e := .bf16) (Val := Elt Ideal) G [] _ h _ (covered s i0 i1 i2 i3 w0 w1 w2 w3 L _ ?_))
  have h0 : (j 0).val < 1 := (j 0).isLt
  show s + 1 * (j 0).val = s
  omega

/-- The gate's gradient of the block. -/
theorem out9 : (outsAt0 m c t.val t.isLt).2.1 = daB m c t := by
  have k : View.canon (storesA m c t) = daB m c t := funext fun y => by
    refine (congrArg (fun l => View.canon l _) (List.append_nil _)).symm.trans
      (View.canon_append_of_piecesOf (e := .bf16) (Val := Elt Ideal) (daB m c t) [] _ (piecesA m c t) _ ?_)
    rcases shard_cases y with h | h | h | h
    · exact from4 (from4 (from4 (covered 0 _ _ _ _ _ _ _ _ _ y h)))
    · exact from4 (from4 (covered 1 _ _ _ _ _ _ _ _ _ y h))
    · exact from4 (covered 2 _ _ _ _ _ _ _ _ _ y h)
    · exact covered 3 _ _ _ _ _ _ _ _ _ y h
  by_cases h : t.val % 16 = 0
  · rw [outsAt0_A m c t h]; frame_out; exact k
  · rw [outsAt0_B m c t h]; frame_out; exact k

/-- The other factor's gradient of the block. -/
theorem out10 : (outsAt0 m c t.val t.isLt).2.2.1 = dbB m c t := by
  have k : View.canon (storesB m c t) = dbB m c t := funext fun y => by
    refine (congrArg (fun l => View.canon l _) (List.append_nil _)).symm.trans
      (View.canon_append_of_piecesOf (e := .bf16) (Val := Elt Ideal) (dbB m c t) [] _ (piecesB m c t) _ ?_)
    rcases shard_cases y with h | h | h | h
    · exact from4 (from4 (from4 (covered 0 _ _ _ _ _ _ _ _ _ y h)))
    · exact from4 (from4 (covered 1 _ _ _ _ _ _ _ _ _ y h))
    · exact from4 (covered 2 _ _ _ _ _ _ _ _ _ y h)
    · exact covered 3 _ _ _ _ _ _ _ _ _ y h
  by_cases h : t.val % 16 = 0
  · rw [outsAt0_A m c t h]; frame_out; exact k
  · rw [outsAt0_B m c t h]; frame_out; exact k

/-- Row `r` of a block of tokens. -/
abbrev row (x : Vec Ideal S256x1024 .f32) (r : Fin 256) (d : Fin 1024) : EReal := x (ix2 r d)

/-- The block of the normalised rows' cotangent. -/
def dhP : FVec Ideal S256x1024 .f32 :=
  k0_pay106 (k0_pay82 (k0_pay58 (k0_pay32 k0_pay5 (k0_pay30 (View.ld (daB m c t) (Rect.unit ![0, 0, 0] ![1, 256, 704] inb_S4x256x704_S1x256x704_0_0_0))) (k0_pay31 (View.ld (b5 m c t) (Rect.unit ![0, 0, 0] ![1, 704, 1024] inb_S4x704x1024_S1x704x1024_0_0_0))) (constant S256x1024 .f32 0#32)
      (View.ld (dbB m c t) (Rect.unit ![0, 0, 0] ![1, 256, 704] inb_S4x256x704_S1x256x704_0_0_0)) (View.ld (b6 m c t) (Rect.unit ![0, 0, 0] ![1, 704, 1024] inb_S4x704x1024_S1x704x1024_0_0_0)))
    (k0_pay57 (View.ld (daB m c t) (Rect.unit ![1, 0, 0] ![1, 256, 704] inb_S4x256x704_S1x256x704_1_0_0)) (View.ld (b5 m c t) (Rect.unit ![1, 0, 0] ![1, 704, 1024] inb_S4x704x1024_S1x704x1024_1_0_0))) (View.ld (dbB m c t) (Rect.unit ![1, 0, 0] ![1, 256, 704] inb_S4x256x704_S1x256x704_1_0_0)) (View.ld (b6 m c t) (Rect.unit ![1, 0, 0] ![1, 704, 1024] inb_S4x704x1024_S1x704x1024_1_0_0)))
    (k0_pay80 (View.ld (daB m c t) (Rect.unit ![2, 0, 0] ![1, 256, 704] inb_S4x256x704_S1x256x704_2_0_0)) (View.ld (b5 m c t) (Rect.unit ![2, 0, 0] ![1, 704, 1024] inb_S4x704x1024_S1x704x1024_2_0_0))) (k0_pay81 (View.ld (dbB m c t) (Rect.unit ![2, 0, 0] ![1, 256, 704] inb_S4x256x704_S1x256x704_2_0_0))) (View.ld (b6 m c t) (Rect.unit ![2, 0, 0] ![1, 704, 1024] inb_S4x704x1024_S1x704x1024_2_0_0)))
    (View.ld (daB m c t) (Rect.unit ![3, 0, 0] ![1, 256, 704] inb_S4x256x704_S1x256x704_3_0_0)) (View.ld (b5 m c t) (Rect.unit ![3, 0, 0] ![1, 704, 1024] inb_S4x704x1024_S1x704x1024_3_0_0)) (View.ld (dbB m c t) (Rect.unit ![3, 0, 0] ![1, 256, 704] inb_S4x256x704_S1x256x704_3_0_0)) (View.ld (b6 m c t) (Rect.unit ![3, 0, 0] ![1, 704, 1024] inb_S4x704x1024_S1x704x1024_3_0_0))

/-- What the normalised rows' cotangent is, shard by shard. -/
theorem dhP_apply (r : Fin 256) (d : Fin 1024) : dhP m c t (ix2 r d)
    = ∑ s : Fin 4, ((∑ f : Fin 704, daB m c t (ix3 s r f) * b5 m c t (ix3 s f d)) + ∑ f : Fin 704, dbB m c t (ix3 s r f) * b6 m c t (ix3 s f d)) := by
  rw [Fin.sum_univ_four]
  pointwise [dhP, k0_pay106, k0_pay82, k0_pay58, k0_pay32, k0_pay5, k0_pay30, k0_pay31, k0_pay57, k0_pay80, k0_pay81]

/-- The input's gradient of the block. -/
theorem out8 (r : Fin 256) (d : Fin 1024) : (outsAt0 m c t.val t.isLt).1 (ix2 r d)
    = b0 m c t (ix2 r d) + Rows.back (row (b1 m c t) r) (fun k => b4 m c t (ix2 (0 : Fin 1) k)) (fun k => dhP m c t (ix2 r k)) d := by
  have A0 inb := layer_read (ms0_9 t).view (daB m c t) 0 _ _ _ _ _ _ _ _ _ inb (piecesA m c t).2.2.2.2.2.2.2.2.2.2.2.2
  have A1 inb := layer_read (ms0_9 t).view (daB m c t) 1 _ _ _ _ _ _ _ _ _ inb (piecesA m c t).2.2.2.2.2.2.2.2
  have A2 inb := layer_read (ms0_9 t).view (daB m c t) 2 _ _ _ _ _ _ _ _ _ inb (piecesA m c t).2.2.2.2
  have A3 inb := layer_read (ms0_9 t).view (daB m c t) 3 _ _ _ _ _ _ _ _ _ inb (piecesA m c t)
  have B0 inb := layer_read (ms0_10 t).view (dbB m c t) 0 _ _ _ _ _ _ _ _ _ inb (piecesB m c t).2.2.2.2.2.2.2.2.2.2.2.2
  have B1 inb := layer_read (ms0_10 t).view (dbB m c t) 1 _ _ _ _ _ _ _ _ _ inb (piecesB m c t).2.2.2.2.2.2.2.2
  have B2 inb := layer_read (ms0_10 t).view (dbB m c t) 2 _ _ _ _ _ _ _ _ _ inb (piecesB m c t).2.2.2.2
  have B3 inb := layer_read (ms0_10 t).view (dbB m c t) 3 _ _ _ _ _ _ _ _ _ inb (piecesB m c t)
  have k : k0_pay111 (k0_pay3 (b0 m c t)) (dhP m c t) (b4 m c t) (b1 m c t) (ix2 r d)
      = b0 m c t (ix2 r d) + Rows.back (row (b1 m c t) r) (fun k => b4 m c t (ix2 (0 : Fin 1) k)) (fun k => dhP m c t (ix2 r k)) d := by
    generalize dhP m c t = D
    pointwise [k0_pay111, k0_pay3, k0_pay107, k0_pay108, k0_pay109, Rows.back, Rows.rinv, row]
  by_cases h : t.val % 16 = 0
  · rw [outsAt0_A m c t h]; frame_out
    rw [A0, A1, A2, A3, B0, B1, B2, B3]
    exact k
  · rw [outsAt0_B m c t h]; frame_out
    rw [A0, A1, A2, A3, B0, B1, B2, B3]
    exact k

/-- The norm's gradient within the block. -/
def dgB (k : Fin 1024) : EReal := ∑ r : Fin 256, dhP m c t (ix2 r k) * (b1 m c t (ix2 r k) * Rows.rinv (row (b1 m c t) r))

/-- One more block's share of the norm's gradient. -/
theorem step11 (Z : Vec Ideal S1x1024 .f32) (k : Fin 1024) : k0_pay2 (k0_pay110 (dhP m c t) (b1 m c t)) Z (ix2 (0 : Fin 1) k) = Z (ix2 (0 : Fin 1) k) + dgB m c t k := by
  unfold dgB
  generalize dhP m c t = D
  pointwise [k0_pay2, k0_pay110, k0_pay107, k0_pay108, k0_pay109, Rows.rinv, row]

/-- The norm's accumulator at the first block. -/
theorem out11_A (h : t.val % 16 = 0) (k : Fin 1024) : (outsAt0 m c t.val t.isLt).2.2.2 (ix2 (0 : Fin 1) k) = 0 + dgB m c t k := by
  have A0 inb := layer_read (ms0_9 t).view (daB m c t) 0 _ _ _ _ _ _ _ _ _ inb (piecesA m c t).2.2.2.2.2.2.2.2.2.2.2.2
  have A1 inb := layer_read (ms0_9 t).view (daB m c t) 1 _ _ _ _ _ _ _ _ _ inb (piecesA m c t).2.2.2.2.2.2.2.2
  have A2 inb := layer_read (ms0_9 t).view (daB m c t) 2 _ _ _ _ _ _ _ _ _ inb (piecesA m c t).2.2.2.2
  have A3 inb := layer_read (ms0_9 t).view (daB m c t) 3 _ _ _ _ _ _ _ _ _ inb (piecesA m c t)
  have B0 inb := layer_read (ms0_10 t).view (dbB m c t) 0 _ _ _ _ _ _ _ _ _ inb (piecesB m c t).2.2.2.2.2.2.2.2.2.2.2.2
  have B1 inb := layer_read (ms0_10 t).view (dbB m c t) 1 _ _ _ _ _ _ _ _ _ inb (piecesB m c t).2.2.2.2.2.2.2.2
  have B2 inb := layer_read (ms0_10 t).view (dbB m c t) 2 _ _ _ _ _ _ _ _ _ inb (piecesB m c t).2.2.2.2
  have B3 inb := layer_read (ms0_10 t).view (dbB m c t) 3 _ _ _ _ _ _ _ _ _ inb (piecesB m c t)
  rw [outsAt0_A m c t h]; frame_out
  rw [A0, A1, A2, A3, B0, B1, B2, B3]
  refine (step11 m c t _ k).trans (congrArg (· + _) ?_)
  pointwise [k0_pay1]

/-- The norm's accumulator at a later block. -/
theorem out11_B (h : ¬ t.val % 16 = 0) (k : Fin 1024) : (outsAt0 m c t.val t.isLt).2.2.2 (ix2 (0 : Fin 1) k)
    = (outsAt0 m c (t.val - 1) (Nat.lt_of_le_of_lt (Nat.sub_le _ _) t.isLt)).2.2.2 (ix2 (0 : Fin 1) k) + dgB m c t k := by
  have A0 inb := layer_read (ms0_9 t).view (daB m c t) 0 _ _ _ _ _ _ _ _ _ inb (piecesA m c t).2.2.2.2.2.2.2.2.2.2.2.2
  have A1 inb := layer_read (ms0_9 t).view (daB m c t) 1 _ _ _ _ _ _ _ _ _ inb (piecesA m c t).2.2.2.2.2.2.2.2
  have A2 inb := layer_read (ms0_9 t).view (daB m c t) 2 _ _ _ _ _ _ _ _ _ inb (piecesA m c t).2.2.2.2
  have A3 inb := layer_read (ms0_9 t).view (daB m c t) 3 _ _ _ _ _ _ _ _ _ inb (piecesA m c t)
  have B0 inb := layer_read (ms0_10 t).view (dbB m c t) 0 _ _ _ _ _ _ _ _ _ inb (piecesB m c t).2.2.2.2.2.2.2.2.2.2.2.2
  have B1 inb := layer_read (ms0_10 t).view (dbB m c t) 1 _ _ _ _ _ _ _ _ _ inb (piecesB m c t).2.2.2.2.2.2.2.2
  have B2 inb := layer_read (ms0_10 t).view (dbB m c t) 2 _ _ _ _ _ _ _ _ _ inb (piecesB m c t).2.2.2.2
  have B3 inb := layer_read (ms0_10 t).view (dbB m c t) 3 _ _ _ _ _ _ _ _ _ inb (piecesB m c t)
  rw [outsAt0_B m c t h]; frame_out
  rw [A0, A1, A2, A3, B0, B1, B2, B3]
  exact step11 m c t _ k

end Cert.FfnDgradIdeal.Grad
end
-- ==== Proof.RowsReal.lean ====
module

public import proofs.«01_k».proof.Proof.Rows
public import proofs.«01_k».proof.Proof.Soft

@[expose] public section

noncomputable section

open Idealize.ShloMosaic

/-! # The functions of one row at real entries -/

namespace Cert.Rows

/-- The mean square of a row plus the norm's `ε`. -/
def ms (x : Fin 1024 → ℝ) : ℝ := (∑ k, x k * x k) / 1024 + 8796093 / 8796093022208
/-- The reciprocal root mean square. -/
def rr (x : Fin 1024 → ℝ) : ℝ := (Real.sqrt (ms x))⁻¹
/-- The logistic function. -/
def sg (a : ℝ) : ℝ := 1 / (1 + Real.exp (-a))
/-- The gradient through the normalised row. -/
def bk (x g c : Fin 1024 → ℝ) (d : Fin 1024) : ℝ := rr x * (c d * g d - x d * rr x * ((∑ k, c k * g k * (x k * rr x)) / 1024))

theorem word_1024 : Ideal.ofBits .f32 0x44800000#32 = ((1024 : ℝ) : EReal) := by simp [Ideal.ofBits, Ideal.ieee, -EReal.coe_mul]; norm_num
theorem word_eps : Ideal.ofBits .f32 0x358637BD#32 = ((8796093 / 8796093022208 : ℝ) : EReal) := by simp [Ideal.ofBits, Ideal.ieee, -EReal.coe_mul]; norm_num
theorem word_half : Ideal.ofBits .f32 0x3F000000#32 = ((1 / 2 : ℝ) : EReal) := by simp [Ideal.ofBits, Ideal.ieee, -EReal.coe_mul]; norm_num
theorem word_two : Ideal.ofBits .f32 0x40000000#32 = ((2 : ℝ) : EReal) := by simp [Ideal.ofBits, Ideal.ieee, -EReal.coe_mul]; norm_num
theorem word_neg_half : Ideal.ofBits .f32 0xBF000000#32 = ((-1 / 2 : ℝ) : EReal) := by simp [Ideal.ofBits, Ideal.ieee, -EReal.coe_mul]; norm_num

theorem ms_pos (x : Fin 1024 → ℝ) : 0 < ms x := by
  have : 0 ≤ ∑ k, x k * x k := Finset.sum_nonneg fun k _ => mul_self_nonneg _
  unfold ms
  positivity

/-- Dividing reals by 1024. -/
theorem div_1024 (a : ℝ) : Ideal.div (a : EReal) (Ideal.ofBits .f32 0x44800000#32) = ((a / 1024 : ℝ) : EReal) := by
  rw [word_1024, Ideal.div_coe (by norm_num), ← EReal.coe_mul, mul_one_div]

/-- The mean square is a real. -/
theorem ms_coe (x : Fin 1024 → ℝ) :
    Ideal.div (∑ k, (x k : EReal) * (x k : EReal)) (Ideal.ofBits .f32 0x44800000#32) + Ideal.ofBits .f32 0x358637BD#32 = ((ms x : ℝ) : EReal) := by
  rw [Soft.coe_dot, div_1024, word_eps, ← EReal.coe_add, ms]

/-- The reciprocal root of a positive real. -/
theorem rsqrt_pos {y : ℝ} (h : 0 < y) : Ideal.rsqrt (y : EReal) = (((Real.sqrt y)⁻¹ : ℝ) : EReal) := by
  rw [Ideal.rsqrt_coe, if_neg h.not_gt, if_neg h.ne']

theorem rinv_coe (x : Fin 1024 → ℝ) : rinv (fun k => (x k : EReal)) = ((rr x : ℝ) : EReal) := by
  rw [rinv, ms_coe, rsqrt_pos (ms_pos x), rr]

theorem sig_coe (a : ℝ) : sig (a : EReal) = ((sg a : ℝ) : EReal) := by
  have h : (1 : ℝ) + Real.exp (-a) ≠ 0 := by positivity
  rw [sig, ← EReal.coe_neg, Ideal.exp_coe, ← EReal.coe_one, ← EReal.coe_add, Ideal.div_coe h, ← EReal.coe_mul, one_mul, sg]

theorem back_coe (x g c : Fin 1024 → ℝ) (d : Fin 1024) :
    back (fun k => (x k : EReal)) (fun k => (g k : EReal)) (fun k => (c k : EReal)) d = ((bk x g c d : ℝ) : EReal) := by
  unfold back bk
  rw [rinv_coe]
  simp only [← EReal.coe_mul]
  rw [← Soft.coe_sum, div_1024, ← EReal.coe_mul, ← EReal.coe_sub, ← EReal.coe_mul]

/-- The derivative of the reciprocal root, written with the root's cube. -/
theorem rr_div (x : Fin 1024 → ℝ) : rr x / ms x = rr x * rr x * rr x := by
  have h := ms_pos x
  have hs : Real.sqrt (ms x) * Real.sqrt (ms x) = ms x := Real.mul_self_sqrt h.le
  have hp := Real.sqrt_pos.mpr h
  unfold rr
  rw [mul_assoc, ← mul_inv, hs, div_eq_mul_inv]

/-- The gradient through the normalised row as the chain rule gives it: through the row itself, and twice through its mean square. -/
theorem chain (x g c : Fin 1024 → ℝ) (ct : ℝ) (d : Fin 1024) :
    ct + c d * g d * rr x + x d * ((∑ k, x k * (c k * g k)) * (-1 / 2 * (rr x / ms x)) / 1024) + (∑ k, x k * (c k * g k)) * (-1 / 2 * (rr x / ms x)) / 1024 * x d
      = ct + bk x g c d := by
  have e : ∑ k, c k * g k * (x k * rr x) = rr x * ∑ k, x k * (c k * g k) := by
    rw [Finset.mul_sum]; exact Finset.sum_congr rfl fun k _ => by ring
  unfold bk
  rw [rr_div, e]
  ring

end Cert.Rows

end
-- ==== Proof.Glu.lean ====
module

public import proofs.«01_k».proof.Proof.RowsReal

@[expose] public section

noncomputable section

open Idealize.ShloMosaic

/-! # The gated feed-forward layer and its input gradients at real arguments -/

namespace Cert.Glu

open Cert.Rows

/-- The arguments' reals. -/
structure Raw where
  x : Fin 4096 → Fin 1024 → ℝ
  g : Fin 1024 → ℝ
  wg : Fin 1024 → Fin 2816 → ℝ
  wu : Fin 1024 → Fin 2816 → ℝ
  wd : Fin 2816 → Fin 1024 → ℝ
  ct : Fin 4096 → Fin 1024 → ℝ

variable (w : Raw)

/-- The normalised row before its weight. -/
def xh (t : Fin 4096) (d : Fin 1024) : ℝ := w.x t d * rr (w.x t)
/-- The gate's activations. -/
def A (t : Fin 4096) (n : Fin 2816) : ℝ := ∑ d, xh w t d * w.g d * w.wg d n
/-- The other factor. -/
def B (t : Fin 4096) (n : Fin 2816) : ℝ := ∑ d, xh w t d * w.g d * w.wu d n
/-- The product's cotangent. -/
def ds (t : Fin 4096) (n : Fin 2816) : ℝ := ∑ d, 1 / 2 * w.ct t d * w.wd n d
/-- The gate's gradient. -/
def da (t : Fin 4096) (n : Fin 2816) : ℝ := ds w t n * B w t n * (sg (A w t n) * (1 + A w t n * (1 - sg (A w t n))))
/-- The other factor's gradient. -/
def db (t : Fin 4096) (n : Fin 2816) : ℝ := ds w t n * (A w t n * sg (A w t n))
/-- The normalised row's gradient. -/
def dh (t : Fin 4096) (d : Fin 1024) : ℝ := (∑ n, da w t n * w.wg d n) + ∑ n, db w t n * w.wu d n
/-- The input's gradient. -/
def dx (t : Fin 4096) (d : Fin 1024) : ℝ := w.ct t d + bk (w.x t) w.g (dh w t) d
/-- The norm's weight's gradient. -/
def dg (d : Fin 1024) : ℝ := ∑ t, dh w t d * xh w t d

/-- Shard `s`'s column `f`. -/
abbrev col (s : Fin 4) (f : Fin 704) : Fin 2816 := ⟨s.val * 704 + f.val, by omega⟩

end Cert.Glu

end
-- ==== Proof.FfnDgrad.Ref.lean ====
module

public import proofs.«01_k».proof.Proof.Gen.FfnDgradRefIdeal.Run
public import proofs.«01_k».proof.Proof.Gen.FfnDgradRefIdeal.Read
public import Idealize.ShloMosaic.Lib.Pointwise
public import proofs.«01_k».proof.Proof.Glu
public import proofs.«01_k».proof.Proof.Reduce1

@[expose] public section

set_option maxRecDepth 16384

noncomputable section

open Idealize.ShloMosaic Idealize.ShloMosaic.TcCoe Idealize.SL.Sem

/-! # The reference's arrays at real arguments -/

namespace Cert.FfnDgradRefIdeal.Grad

open Cert.FfnDgradRefIdeal Cert.FfnDgradRefIdeal.Read Cert.Glu Cert.Rows

/-- The arguments hold these reals. -/
structure Holds (w : Raw) (x0 : FVec Ideal S1x4096x1024 .f32) (x1 : FVec Ideal S1x1024 .f32) (x2 x3 : FVec Ideal S1x1024x2816 .f32)
    (x4 : FVec Ideal S1x2816x1024 .f32) (x5 : FVec Ideal S1x4096x1024 .f32) : Prop where
  x t d : x0 (ix3 (0 : Fin 1) t d) = (w.x t d : EReal)
  g d : x1 (ix2 (0 : Fin 1) d) = (w.g d : EReal)
  wg d n : x2 (ix3 (0 : Fin 1) d n) = (w.wg d n : EReal)
  wu d n : x3 (ix3 (0 : Fin 1) d n) = (w.wu d n : EReal)
  wd n d : x4 (ix3 (0 : Fin 1) n d) = (w.wd n d : EReal)
  ct t d : x5 (ix3 (0 : Fin 1) t d) = (w.ct t d : EReal)

variable {w : Raw} {x0 : FVec Ideal S1x4096x1024 .f32} {x1 : FVec Ideal S1x1024 .f32} {x2 x3 : FVec Ideal S1x1024x2816 .f32}
    {x4 : FVec Ideal S1x2816x1024 .f32} {x5 : FVec Ideal S1x4096x1024 .f32} (H : Holds w x0 x1 x2 x3 x4 x5)
include H

theorem ref_ms (t : Fin 4096) : val_main_v7 (F := Ideal) x0 (ix3 (0 : Fin 1) t (0 : Fin 1)) = ((ms (w.x t) : ℝ) : EReal) := by
  pointwise [val_main_v7, val_main_v6, val_main_cst_1, val_main_v5, val_main_v4, val_main_cst_0, val_main_v3, val_main_v2, val_main_cst, val_main_v1]
  simp only [H.x]
  exact ms_coe _

theorem ref_r (t : Fin 4096) : val_main_v8 (F := Ideal) x0 (ix3 (0 : Fin 1) t (0 : Fin 1)) = ((rr (w.x t) : ℝ) : EReal) := by
  pointwise [val_main_v8]
  rw [ref_ms H, rsqrt_pos (ms_pos _), rr]

theorem ref_xh (t : Fin 4096) (d : Fin 1024) : val_main_v13 (F := Ideal) x0 (ix3 (0 : Fin 1) t d) = ((xh w t d : ℝ) : EReal) := by
  pointwise [val_main_v13, val_main_v12]
  rw [ref_r H, H.x, ← EReal.coe_mul, xh]

theorem ref_h (t : Fin 4096) (d : Fin 1024) : val_main_v16 (F := Ideal) x0 x1 (ix3 (0 : Fin 1) t d) = ((xh w t d * w.g d : ℝ) : EReal) := by
  pointwise [val_main_v16, val_main_v15, val_main_v14, val_main_v0]
  rw [ref_xh H, H.g, ← EReal.coe_mul]

theorem ref_a (t : Fin 4096) (n : Fin 2816) : val_main_v20 (F := Ideal) x0 x1 x2 (ix3 (0 : Fin 1) t n) = ((A w t n : ℝ) : EReal) := by
  pointwise [val_main_v20, val_main_v17]
  simp only [ref_h H, H.wg]
  exact Soft.coe_dot _ _ _

theorem ref_b (t : Fin 4096) (n : Fin 2816) : val_main_v22 (F := Ideal) x0 x1 x3 (ix3 (0 : Fin 1) t n) = ((B w t n : ℝ) : EReal) := by
  pointwise [val_main_v22, val_main_v18]
  simp only [ref_h H, H.wu]
  exact Soft.coe_dot _ _ _

theorem ref_sig (t : Fin 4096) (n : Fin 2816) : val_main_v21_2 (F := Ideal) x0 x1 x2 (ix3 (0 : Fin 1) t n) = ((sg (A w t n) : ℝ) : EReal) := by
  pointwise [val_main_v21_2, val_main_call0_v4, val_main_call0_cst_0, val_main_call0_v3, val_main_call0_v2, val_main_call0_cst, val_main_call0_v1, val_main_call0_v0]
  rw [ref_a H]
  exact sig_coe _

theorem ref_ds (t : Fin 4096) (n : Fin 2816) : val_main_v31 (F := Ideal) x4 x5 (ix3 (0 : Fin 1) t n) = ((ds w t n : ℝ) : EReal) := by
  pointwise [val_main_v31, val_main_v30, val_main_v29, val_main_cst_4, val_main_v28, val_main_v19]
  simp only [H.ct, H.wd, word_half, ← EReal.coe_mul]
  exact (Soft.coe_sum _ _).symm

theorem ref_db (t : Fin 4096) (n : Fin 2816) : val_main_v32 (F := Ideal) x0 x1 x2 x4 x5 (ix3 (0 : Fin 1) t n) = ((db w t n : ℝ) : EReal) := by
  pointwise [val_main_v32, val_main_v21_0]
  rw [ref_ds H, ref_sig H, ref_a H, ← EReal.coe_mul, ← EReal.coe_mul, db, mul_comm]

theorem ref_da (t : Fin 4096) (n : Fin 2816) : val_main_v35 (F := Ideal) x0 x1 x2 x3 x4 x5 (ix3 (0 : Fin 1) t n) = ((da w t n : ℝ) : EReal) := by
  pointwise [val_main_v35, val_main_call1_v1, val_main_call1_v2, val_main_call1_v0, val_main_v33, val_main_v21_1, val_main_call0_v7, val_main_call0_v6, val_main_call0_cst_1]
  rw [ref_ds H, ref_sig H, ref_a H, ref_b H, ← EReal.coe_one]
  simp only [← EReal.coe_mul, ← EReal.coe_sub, ← EReal.coe_add]
  exact congrArg _ (by unfold da; ring)

theorem ref_dh (t : Fin 4096) (d : Fin 1024) : val_main_v37 (F := Ideal) x0 x1 x2 x3 x4 x5 (ix3 (0 : Fin 1) t d) = ((dh w t d : ℝ) : EReal) := by
  pointwise [val_main_v37, val_main_v34, val_main_v36, val_main_v17, val_main_v18]
  simp only [ref_db H, ref_da H, H.wg, H.wu]
  rw [Soft.coe_dot, Soft.coe_dot, ← EReal.coe_add, add_comm, dh]

theorem ref_S (t : Fin 4096) : val_main_v53 (F := Ideal) x0 x1 x2 x3 x4 x5 (ix1 t)
      = (((∑ k, w.x t k * (dh w t k * w.g k)) * (-1 / 2 * (rr (w.x t) / ms (w.x t))) / 1024 : ℝ) : EReal) := by
  refine (Reduce1.sum3m _ _ _ _ t).trans ?_
  pointwise [val_main_v52, val_main_v51, val_main_cst_8, val_main_cst_9, val_main_v50, val_main_v46, val_main_v45, val_main_cst_7, val_main_v44, val_main_v42, val_main_v41, val_main_v14, val_main_v0,
    val_main_v11, val_main_v10, val_main_cst_2, val_main_v9]
  simp only [H.x, H.g, ref_dh H, ref_r H, ref_ms H]
  rw [Ideal.div_coe (ms_pos _).ne', word_neg_half]
  simp only [← EReal.coe_mul]
  rw [← Soft.coe_sum, ← EReal.coe_mul, div_1024, mul_one_div]

theorem ref_dx (t : Fin 4096) (d : Fin 1024) : val_main_v91 (F := Ideal) x0 x1 x2 x3 x4 x5 (ix2 t d) = ((dx w t d : ℝ) : EReal) := by
  pointwise [val_main_v91, val_main_v59, val_main_v57, val_main_v58, val_main_v49, val_main_v48, val_main_v42, val_main_v41, val_main_v14, val_main_v0, val_main_v47, val_main_v56, val_main_v55, val_main_v54]
  rw [ref_S H, H.ct, H.x, H.g, ref_dh H, ref_r H]
  simp only [← EReal.coe_mul, ← EReal.coe_add]
  exact congrArg _ (chain (w.x t) w.g (dh w t) (w.ct t d) d)

theorem ref_dg (d : Fin 1024) : val_main_v60 (F := Ideal) x0 x1 x2 x3 x4 x5 (ix2 (0 : Fin 1) d) = ((dg w d : ℝ) : EReal) := by
  pointwise [val_main_v60]
  refine (Reduce1.sum3 _ _ _ _ d).trans ?_
  pointwise [val_main_cst_6, val_main_v40, val_main_v39, val_main_cst_5, val_main_v38]
  simp only [ref_xh H, ref_dh H]
  rw [Soft.coe_dot]
  exact congrArg _ (Finset.sum_congr rfl fun t _ => mul_comm _ _)

omit H in
/-- The second time the reference computes the gate's activations, -/
theorem again_a : val_main_v76 (F := Ideal) x0 x1 x2 = val_main_v20 x0 x1 x2 := by
  simp only [val_main_v76, val_main_v20, val_main_v74, val_main_v16, val_main_v75, val_main_v17, val_main_v73, val_main_v15, val_main_v72, val_main_v14, val_main_v61, val_main_v0,
    val_main_v71, val_main_v13, val_main_v70, val_main_v12, val_main_v69, val_main_v8, val_main_v68, val_main_v7, val_main_v67, val_main_v6, val_main_cst_12, val_main_cst_1, val_main_v66,
    val_main_v5, val_main_v65, val_main_v4, val_main_cst_11, val_main_cst_0, val_main_v64, val_main_v3, val_main_v63, val_main_v2, val_main_cst_10, val_main_cst, val_main_v62, val_main_v1]

omit H in
/-- the other factor, -/
theorem again_b : val_main_v78 (F := Ideal) x0 x1 x3 = val_main_v22 x0 x1 x3 := by
  simp only [val_main_v78, val_main_v22, val_main_v74, val_main_v16, val_main_v77, val_main_v18, val_main_v73, val_main_v15, val_main_v72, val_main_v14, val_main_v61, val_main_v0,
    val_main_v71, val_main_v13, val_main_v70, val_main_v12, val_main_v69, val_main_v8, val_main_v68, val_main_v7, val_main_v67, val_main_v6, val_main_cst_12, val_main_cst_1, val_main_v66,
    val_main_v5, val_main_v65, val_main_v4, val_main_cst_11, val_main_cst_0, val_main_v64, val_main_v3, val_main_v63, val_main_v2, val_main_cst_10, val_main_cst, val_main_v62, val_main_v1]

omit H in
/-- the logistic function -/
theorem again_sig : val_main_v79_2 (F := Ideal) x0 x1 x2 = val_main_v21_2 x0 x1 x2 := by
  simp only [val_main_v79_2, val_main_v21_2, val_main_call2_v4, val_main_call0_v4, val_main_call2_cst_0, val_main_call0_cst_0, val_main_call2_v3, val_main_call0_v3, val_main_call2_v2,
    val_main_call0_v2, val_main_call2_cst, val_main_call0_cst, val_main_call2_v1, val_main_call0_v1, val_main_call2_v0, val_main_call0_v0, again_a]

/-- and the product's cotangent. -/
theorem again_ds (t : Fin 4096) (n : Fin 2816) : val_main_v87 (F := Ideal) x4 x5 (ix3 (0 : Fin 1) t n) = ((ds w t n : ℝ) : EReal) := by
  pointwise [val_main_v87, val_main_v86, val_main_v85, val_main_cst_14, val_main_v81]
  simp only [H.ct, H.wd, word_half, ← EReal.coe_mul]
  exact (Soft.coe_sum _ _).symm

theorem ref_da4 (s : Fin 4) (t : Fin 4096) (f : Fin 704) : val_main_v95 (F := Ideal) x0 x1 x2 x3 x4 x5 (ix3 s t f) = ((da w t (col s f) : ℝ) : EReal) := by
  pointwise [val_main_v95, val_main_v94, val_main_v93, val_main_v92, val_main_v90, val_main_call3_v1, val_main_call3_v2, val_main_call3_v0, val_main_v89, val_main_v79_1, val_main_call2_v7, val_main_call2_v6, val_main_call2_cst_1]
  simp only [again_a, again_b, again_sig]
  rw [again_ds H, ref_sig H, ref_a H, ref_b H, ← EReal.coe_one]
  simp only [← EReal.coe_mul, ← EReal.coe_sub, ← EReal.coe_add]
  exact congrArg _ (by unfold da; ring)

theorem ref_db4 (s : Fin 4) (t : Fin 4096) (f : Fin 704) : val_main_v99 (F := Ideal) x0 x1 x2 x4 x5 (ix3 s t f) = ((db w t (col s f) : ℝ) : EReal) := by
  pointwise [val_main_v99, val_main_v98, val_main_v97, val_main_v96, val_main_v88, val_main_v79_0]
  simp only [again_a, again_sig]
  rw [again_ds H, ref_sig H, ref_a H, ← EReal.coe_mul, ← EReal.coe_mul, db, mul_comm]

end Cert.FfnDgradRefIdeal.Grad

end
-- ==== Proof.FfnDgrad.Value.lean ====
module

public import proofs.«01_k».proof.Defs
public import proofs.«01_k».proof.Proof.FfnDgrad.Block
public import proofs.«01_k».proof.Proof.FfnDgrad.Ref
public import proofs.«01_k».proof.Proof.Finite
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The feed-forward block's input gradients: the arrays of the kernel -/

namespace Cert.FfnDgradIdeal.Grad

open Cert.FfnDgradIdeal Cert.FfnDgradIdeal.Gen Cert.FfnDgradIdeal.Value Cert.Rows
open Cert.Glu (Raw xh A B ds da db dh dx dg col)
open Cert.FfnDgradRefIdeal.Grad (Holds)

/-- The side conditions of the precondition's operations. -/
instance pre_facts : Cert.Pre_dgrad_finite.Facts := ⟨by decide, by decide, by decide, by decide⟩

variable (m : (ℓ : Loc nD τ sig) → Buf (Elt Ideal) ℓ) (c : Dev nD)

/-- Argument 0: the input. -/
abbrev x0 : FVec Ideal S1x4096x1024 .f32 := m ((c : Thread nD τ).loc main_arg0)
/-- Argument 1: the norm's weight. -/
abbrev x1 : FVec Ideal S1x1024 .f32 := m ((c : Thread nD τ).loc main_arg1)
/-- Argument 2: the gate's weight. -/
abbrev x2 : FVec Ideal S1x1024x2816 .f32 := m ((c : Thread nD τ).loc main_arg2)
/-- Argument 3: the other factor's weight. -/
abbrev x3 : FVec Ideal S1x1024x2816 .f32 := m ((c : Thread nD τ).loc main_arg3)
/-- Argument 4: the weight of the way down. -/
abbrev x4 : FVec Ideal S1x2816x1024 .f32 := m ((c : Thread nD τ).loc main_arg4)
/-- Argument 5: the cotangent. -/
abbrev x5 : FVec Ideal S1x4096x1024 .f32 := m ((c : Thread nD τ).loc main_arg5)

/-- The arguments' reals. -/
def raw : Raw where
  x t d := EReal.toReal (x0 m c (ix3 (0 : Fin 1) t d))
  g d := EReal.toReal (x1 m c (ix2 (0 : Fin 1) d))
  wg d n := EReal.toReal (x2 m c (ix3 (0 : Fin 1) d n))
  wu d n := EReal.toReal (x3 m c (ix3 (0 : Fin 1) d n))
  wd n d := EReal.toReal (x4 m c (ix3 (0 : Fin 1) n d))
  ct t d := EReal.toReal (x5 m c (ix3 (0 : Fin 1) t d))

/-- Finite arguments hold them. -/
theorem holds (h : Cert.Pre_FfnDgradIdeal_dgrad_finite m) (c : Dev nD) : Holds (raw m c) (x0 m c) (x1 m c) (x2 m c) (x3 m c) (x4 m c) (x5 m c) where
  x t d := Finite.finite_reads _ (fun _ => 0) _ (h c).1 _
  g d := Finite.finite_reads _ (fun _ => 0) _ (h c).2.1 _
  wg d n := Finite.finite_reads _ (fun _ => 0) _ (h c).2.2.1 _
  wu d n := Finite.finite_reads _ (fun _ => 0) _ (h c).2.2.2.1 _
  wd n d := Finite.finite_reads _ (fun _ => 0) _ (h c).2.2.2.2.1 _
  ct t d := Finite.finite_reads _ (fun _ => 0) _ (h c).2.2.2.2.2 _

variable {m c} {w : Raw} (H : Holds w (x0 m c) (x1 m c) (x2 m c) (x3 m c) (x4 m c) (x5 m c))
include H

/-! ## What the arrays given to the kernel hold -/

theorem in_ct (t : Fin 4096) (d : Fin 1024) : V m c main_v25 (ix2 t d) = (w.ct t d : EReal) := by
  refine Eq.trans ?_ (H.ct t d)
  entry_read; pointwise
theorem in_x (t : Fin 4096) (d : Fin 1024) : V m c main_v26 (ix2 t d) = (w.x t d : EReal) := by
  refine Eq.trans ?_ (H.x t d)
  entry_read; pointwise
theorem in_g (d : Fin 1024) : V m c main_arg1 (ix2 (0 : Fin 1) d) = (w.g d : EReal) := by
  refine Eq.trans ?_ (H.g d)
  entry_read; rfl
theorem in_wg (s : Fin 4) (f : Fin 704) (d : Fin 1024) : V m c main_v30 (ix3 s f d) = (w.wg d (col s f) : EReal) := by
  refine Eq.trans ?_ (H.wg d (col s f))
  entry_read; pointwise
theorem in_wu (s : Fin 4) (f : Fin 704) (d : Fin 1024) : V m c main_v34 (ix3 s f d) = (w.wu d (col s f) : EReal) := by
  refine Eq.trans ?_ (H.wu d (col s f))
  entry_read; pointwise
theorem in_wd (s : Fin 4) (f : Fin 704) (d : Fin 1024) : V m c main_v37 (ix3 s f d) = (w.wd (col s f) d : EReal) := by
  refine Eq.trans ?_ (H.wd (col s f) d)
  entry_read; pointwise

/-- A normalised row at real entries. -/
theorem norm_at (t : Fin 4096) (d : Fin 1024) :
    Rows.norm (fun k => x0 m c (ix3 (0 : Fin 1) t k)) (fun k => x1 m c (ix2 (0 : Fin 1) k)) d = ((xh w t d * w.g d : ℝ) : EReal) := by
  unfold Rows.norm
  simp only [H.x, H.g]
  rw [rinv_coe, ← EReal.coe_mul, ← EReal.coe_mul, xh]

theorem in_a (s : Fin 4) (t : Fin 4096) (f : Fin 704) : V m c main_v19 (ix3 s t f) = (A w t (col s f) : EReal) := by
  have e : V m c main_v19 (ix3 s t f) = ∑ d : Fin 1024, Rows.norm (fun k => x0 m c (ix3 (0 : Fin 1) t k)) (fun k => x1 m c (ix2 (0 : Fin 1) k)) d
      * x2 m c (ix3 (0 : Fin 1) d (col s f)) := by
    entry_read; pointwise [Rows.norm, Rows.rinv]
  rw [e]
  simp only [norm_at H, H.wg]
  exact Soft.coe_dot _ _ _

theorem in_b (s : Fin 4) (t : Fin 4096) (f : Fin 704) : V m c main_v24 (ix3 s t f) = (B w t (col s f) : EReal) := by
  have e : V m c main_v24 (ix3 s t f) = ∑ d : Fin 1024, Rows.norm (fun k => x0 m c (ix3 (0 : Fin 1) t k)) (fun k => x1 m c (ix2 (0 : Fin 1) k)) d
      * x3 m c (ix3 (0 : Fin 1) d (col s f)) := by
    entry_read; pointwise [Rows.norm, Rows.rinv]
  rw [e]
  simp only [norm_at H, H.wu]
  exact Soft.coe_dot _ _ _

/-! ## What a block holds -/

omit H in
/-- The block indices of every window. -/
theorem idx : ∀ t : Fin cfg0.N, win0_0.index t = ![t.val, 0] ∧ win0_1.index t = ![t.val, 0] ∧ win0_2.index t = ![0, t.val, 0]
    ∧ win0_3.index t = ![0, t.val, 0] ∧ win0_4.index t = ![0, 0] ∧ win0_5.index t = ![0, 0, 0] ∧ win0_6.index t = ![0, 0, 0]
    ∧ win0_7.index t = ![0, 0, 0] ∧ win0_8.index t = ![t.val, 0] ∧ win0_9.index t = ![0, t.val, 0] ∧ win0_10.index t = ![0, t.val, 0]
    ∧ win0_11.index t = ![0, 0] :=
  (by decide +kernel : ∀ t : Fin grid0.N, _)

/-- Token `r` of block `t`. -/
abbrev tok (t : Fin cfg0.N) (r : Fin 256) : Fin 4096 := ⟨t.val * 256 + r.val, by have := lt_of_lt_of_eq t.isLt N_0; omega⟩

theorem blk0 (t : Fin cfg0.N) (r : Fin 256) (d : Fin 1024) : b0 m c t (ix2 r d) = (w.ct (tok t r) d : EReal) := by
  refine Eq.trans ?_ (in_ct H _ _)
  blk_point [iblk, idx t]
theorem blk1 (t : Fin cfg0.N) (r : Fin 256) (d : Fin 1024) : b1 m c t (ix2 r d) = (w.x (tok t r) d : EReal) := by
  refine Eq.trans ?_ (in_x H _ _)
  blk_point [iblk, idx t]
theorem blk2 (t : Fin cfg0.N) (s : Fin 4) (r : Fin 256) (f : Fin 704) : b2 m c t (ix3 s r f) = (A w (tok t r) (col s f) : EReal) := by
  refine Eq.trans ?_ (in_a H _ _ _)
  blk_point [iblk, idx t]
theorem blk3 (t : Fin cfg0.N) (s : Fin 4) (r : Fin 256) (f : Fin 704) : b3 m c t (ix3 s r f) = (B w (tok t r) (col s f) : EReal) := by
  refine Eq.trans ?_ (in_b H _ _ _)
  blk_point [iblk, idx t]
theorem blk4 (t : Fin cfg0.N) (d : Fin 1024) : b4 m c t (ix2 (0 : Fin 1) d) = (w.g d : EReal) := by
  refine Eq.trans ?_ (in_g H _)
  blk_point [iblk, idx t]
theorem blk5 (t : Fin cfg0.N) (s : Fin 4) (f : Fin 704) (d : Fin 1024) : b5 m c t (ix3 s f d) = (w.wg d (col s f) : EReal) := by
  refine Eq.trans ?_ (in_wg H _ _ _)
  blk_point [iblk, idx t]
theorem blk6 (t : Fin cfg0.N) (s : Fin 4) (f : Fin 704) (d : Fin 1024) : b6 m c t (ix3 s f d) = (w.wu d (col s f) : EReal) := by
  refine Eq.trans ?_ (in_wu H _ _ _)
  blk_point [iblk, idx t]
theorem blk7 (t : Fin cfg0.N) (s : Fin 4) (f : Fin 704) (d : Fin 1024) : b7 m c t (ix3 s f d) = (w.wd (col s f) d : EReal) := by
  refine Eq.trans ?_ (in_wd H _ _ _)
  blk_point [iblk, idx t]

/-! ## What a block computes, at reals -/

theorem ds_blk (t : Fin cfg0.N) (s : Fin 4) (r : Fin 256) (f : Fin 704) : dsB m c t s r f = (ds w (tok t r) (col s f) : EReal) := by
  unfold dsB ds
  simp only [blk0 H, blk7 H, word_half, ← EReal.coe_mul]
  exact (Soft.coe_sum _ _).symm

theorem da_blk (t : Fin cfg0.N) (s : Fin 4) (r : Fin 256) (f : Fin 704) : daB m c t (ix3 s r f) = (da w (tok t r) (col s f) : EReal) := by
  show dsB m c t s r f * b3 m c t (ix3 s r f) * (Rows.sig (b2 m c t (ix3 s r f)) * (1 + b2 m c t (ix3 s r f) * (1 - Rows.sig (b2 m c t (ix3 s r f))))) = _
  rw [ds_blk H, blk2 H, blk3 H, sig_coe, ← EReal.coe_one]
  simp only [← EReal.coe_mul, ← EReal.coe_sub, ← EReal.coe_add]
  rfl

theorem db_blk (t : Fin cfg0.N) (s : Fin 4) (r : Fin 256) (f : Fin 704) : dbB m c t (ix3 s r f) = (db w (tok t r) (col s f) : EReal) := by
  show dsB m c t s r f * (b2 m c t (ix3 s r f) * Rows.sig (b2 m c t (ix3 s r f))) = _
  rw [ds_blk H, blk2 H, sig_coe]
  simp only [← EReal.coe_mul]
  rfl

omit H in
/-- A sum over the shards' columns is a sum over all columns. -/
theorem sum_cols (F : Fin 2816 → ℝ) : ∑ s : Fin 4, ∑ f : Fin 704, F (col s f) = ∑ n, F n :=
  Fin.sum_mul_add_congr fun s f h => rfl

theorem dh_blk (t : Fin cfg0.N) (r : Fin 256) (d : Fin 1024) : dhP m c t (ix2 r d) = (dh w (tok t r) d : EReal) := by
  rw [dhP_apply]
  simp only [da_blk H, db_blk H, blk5 H, blk6 H, Soft.coe_dot, ← EReal.coe_add]
  rw [← Soft.coe_sum, Finset.sum_add_distrib, sum_cols fun n => da w (tok t r) n * w.wg d n, sum_cols fun n => db w (tok t r) n * w.wu d n]
  rfl

theorem row_blk (t : Fin cfg0.N) (r : Fin 256) : row (b1 m c t) r = fun k => (w.x (tok t r) k : EReal) := funext fun k => blk1 H t r k

theorem dx_blk (t : Fin cfg0.N) (r : Fin 256) (d : Fin 1024) : (outsAt0 m c t.val t.isLt).1 (ix2 r d) = (dx w (tok t r) d : EReal) := by
  rw [out8]
  rw [row_blk H]
  simp only [blk0 H, blk4 H, dh_blk H]
  rw [back_coe, ← EReal.coe_add]
  rfl

theorem dg_blk (t : Fin cfg0.N) (d : Fin 1024) : dgB m c t d = ((∑ r : Fin 256, dh w (tok t r) d * xh w (tok t r) d : ℝ) : EReal) := by
  unfold dgB
  simp only [row_blk H, blk1 H, dh_blk H, rinv_coe, ← EReal.coe_mul]
  exact (Soft.coe_sum _ _).symm

/-! ## The arrays after the run -/

omit H in
theorem place8 (t : Fin cfg0.N) (y : S256x1024.Idx) : ((cfg0.win 8).blk t).view.emb y = (ix2 (tok t (y 0)) (y 1) : S4096x1024.Idx) := by
  blk_ext [idx t]
omit H in
theorem place9 (t : Fin cfg0.N) (y : S4x256x704.Idx) : ((cfg0.win 9).blk t).view.emb y = (ix3 (y 0) (tok t (y 1)) (y 2) : S4x4096x704.Idx) := by
  blk_ext [idx t]
omit H in
theorem place10 (t : Fin cfg0.N) (y : S4x256x704.Idx) : ((cfg0.win 10).blk t).view.emb y = (ix3 (y 0) (tok t (y 1)) (y 2) : S4x4096x704.Idx) := by
  blk_ext [idx t]
omit H in
theorem place11 (t : Fin cfg0.N) (y : S1x1024.Idx) : ((cfg0.win 11).blk t).view.emb y = (y : S1x1024.Idx) := by
  blk_ext [idx t]
omit H in
/-- Point `s` of the run reads the tokens `256 s …`. -/
theorem tok_run (t : Fin cfg0.N) (s : Fin 16) (k : Fin 256) (h : 16 * (t.val / 16) + s.val < cfg0.N) (hl : s.val * 256 + k.val < 4096) :
    tok ⟨16 * (t.val / 16) + s.val, h⟩ k = ⟨s.val * 256 + k.val, hl⟩ := Fin.ext (by have := lt_of_lt_of_eq t.isLt N_0; dsimp only; omega)

/-- The input's gradient, -/
theorem final8 (f : S4096x1024.Idx → Elt Ideal .f32) (hf : ∀ t d, f (ix2 t d) = (dx w t d : EReal)) : (dats m 0 c).arrAt 8 cfg0.N = f := by
  refine (dats m 0 c).arrAt_eq_of_covers 8 f (by decide +kernel) fun t _ y => ?_
  blk_simp
  rw [after0_8]
  refine Eq.trans ?_ (congrArg f (place8 t y)).symm
  exact (congrArg _ (eq_ix2 y)).trans ((dx_blk H t _ _).trans (hf _ _).symm)

/-- the gate's, -/
theorem final9 (f : S4x4096x704.Idx → Elt Ideal .bf16) (hf : ∀ s t n, f (ix3 s t n) = (da w t (col s n) : EReal)) : (dats m 0 c).arrAt 9 cfg0.N = f := by
  refine (dats m 0 c).arrAt_eq_of_covers 9 f (by decide +kernel) fun t _ y => ?_
  blk_simp
  rw [after0_9, out9]
  refine Eq.trans ?_ (congrArg f (place9 t y)).symm
  exact (congrArg _ (eq_ix3 y)).trans ((da_blk H t _ _ _).trans (hf _ _ _).symm)

/-- the other factor's -/
theorem final10 (f : S4x4096x704.Idx → Elt Ideal .bf16) (hf : ∀ s t n, f (ix3 s t n) = (db w t (col s n) : EReal)) : (dats m 0 c).arrAt 10 cfg0.N = f := by
  refine (dats m 0 c).arrAt_eq_of_covers 10 f (by decide +kernel) fun t _ y => ?_
  blk_simp
  rw [after0_10, out10]
  refine Eq.trans ?_ (congrArg f (place10 t y)).symm
  exact (congrArg _ (eq_ix3 y)).trans ((db_blk H t _ _ _).trans (hf _ _ _).symm)

/-- and the norm's weight's. -/
theorem final11 (f : S1x1024.Idx → Elt Ideal .f32) (hf : ∀ d, f (ix2 (0 : Fin 1) d) = (dg w d : EReal)) : (dats m 0 c).arrAt 11 cfg0.N = f := by
  refine (dats m 0 c).arrAt_eq_of_covers 11 f (by decide +kernel) fun t ht y => ?_
  have ey : y = ix2 (0 : Fin 1) (y 1) := (eq_ix2 y).trans (congrArg (ix2 · (y 1)) (Subsingleton.elim (α := Fin 1) (y 0) 0))
  blk_simp
  rw [after0_11, Pipeline.eq_sum_fin_of_reset_step_apply_of_flush (fun n h => (outsAt0 m c n h).2.2.2) 16 (fun _ => 0)
    (fun t i => dgB m c t (i 1))
    (fun t h i => (congrArg _ ((eq_ix2 i).trans (congrArg (ix2 · (i 1)) (Subsingleton.elim (α := Fin 1) (i 0) 0)))).trans (out11_A m c t h (i 1)))
    (fun t h i => (congrArg _ ((eq_ix2 i).trans (congrArg (ix2 · (i 1)) (Subsingleton.elim (α := Fin 1) (i 0) 0)))).trans ((out11_B m c t h (i 1)).trans (congrArg (· + _) (congrArg _ ((eq_ix2 i).trans (congrArg (ix2 · (i 1)) (Subsingleton.elim (α := Fin 1) (i 0) 0))).symm))))
    t ((flush0_11 t).mp ht) _, zero_add]
  refine Eq.trans ?_ ((congrArg f ((place11 t y).trans ey)).trans (hf _)).symm
  refine (Finset.sum_congr rfl fun s _ => dg_blk H _ _).trans ((Soft.coe_sum _ _).symm.trans ?_)
  refine congrArg _ (Fin.sum_mul_add_congr fun s k hl => ?_)
  rw [tok_run t s k _ hl]

end Cert.FfnDgradIdeal.Grad

end
-- ==== Proof.FfnDgrad.Pair.lean ====
module
public import proofs.«01_k».proof.Defs
public import proofs.«01_k».proof.Proof.FfnDgrad.Value
public import proofs.«01_k».proof.Proof.Gen.FfnDgradRefIdeal.Run
@[expose] public section
noncomputable section
namespace Cert.FfnDgradIdeal.Grad
open Idealize.ShloMosaic Idealize.SL.Sem

/-- Arguments that agree with the kernel's are the same reals. -/
theorem holds_ref {m : (ℓ : Loc nD τ sig) → Buf (Elt Ideal) ℓ} {w : Cert.Glu.Raw} {c : Dev nD} (H : Cert.FfnDgradRefIdeal.Grad.Holds w (x0 m c) (x1 m c) (x2 m c) (x3 m c) (x4 m c) (x5 m c))
    {x0 x5 : (⟨S1x4096x1024, .f32⟩ : BufTy).Contents (Elt Ideal)} {x1 : (⟨S1x1024, .f32⟩ : BufTy).Contents (Elt Ideal)}
    {x2 x3 : (⟨S1x1024x2816, .f32⟩ : BufTy).Contents (Elt Ideal)} {x4 : (⟨S1x2816x1024, .f32⟩ : BufTy).Contents (Elt Ideal)}
    (e : x0 = m ((c.tc : Thread nD τ).loc main_arg0) ∧ x1 = m ((c.tc : Thread nD τ).loc main_arg1) ∧ x2 = m ((c.tc : Thread nD τ).loc main_arg2)
      ∧ x3 = m ((c.tc : Thread nD τ).loc main_arg3) ∧ x4 = m ((c.tc : Thread nD τ).loc main_arg4) ∧ x5 = m ((c.tc : Thread nD τ).loc main_arg5)) :
    Cert.FfnDgradRefIdeal.Grad.Holds w x0 x1 x2 x3 x4 x5 := by
  obtain ⟨rfl, rfl, rfl, rfl, rfl, rfl⟩ := e
  exact H

/-- The feed-forward layer's four gradients: the kernel's arrays are the derivative's, for finite arguments. -/
theorem dgrad_value : Cert.algebraic_FfnDgradIdeal_FfnDgradRefIdeal_pre_dgrad_finite := by
  pair_intro
  · run_from Cert.FfnDgradIdeal.Value.run_blocks m g
  · run_from Cert.FfnDgradRefIdeal.Value.run m' g'
    · exact (Cert.FfnDgradRefIdeal.Read.val_main_v91_eq m' c).trans
        (final8 (holds m hpre c) _ (Cert.FfnDgradRefIdeal.Grad.ref_dx (holds_ref (holds m hpre c) (hagree c)))).symm
    · exact (Cert.FfnDgradRefIdeal.Read.val_main_v95_eq m' c).trans
        (final9 (holds m hpre c) _ (Cert.FfnDgradRefIdeal.Grad.ref_da4 (holds_ref (holds m hpre c) (hagree c)))).symm
    · exact (Cert.FfnDgradRefIdeal.Read.val_main_v99_eq _ _ _ _ _).trans
        (final10 (holds m hpre c) _ (Cert.FfnDgradRefIdeal.Grad.ref_db4 (holds m hpre c))).symm
    · exact (Cert.FfnDgradRefIdeal.Read.val_main_v60_eq m' c).trans
        (final11 (holds m hpre c) _ (Cert.FfnDgradRefIdeal.Grad.ref_dg (holds_ref (holds m hpre c) (hagree c)))).symm

/-- The reference is a host program: it ends and leaves its arguments as they were. -/
theorem frame_ref : Cert.quiescent_FfnDgradRefIdeal := by
  intro m g _
  exact (θ_run Cert.FfnDgradRefIdeal.defs _ _).mono (fun r h => ⟨fun c => (h c).2.2.2.2,
    Idealize.ShloMosaic.sem_eq_zero_of_no_sems (by decide) r.2⟩) (Cert.FfnDgradRefIdeal.Value.run (F := Ideal) m g)

end Cert.FfnDgradIdeal.Grad
end
-- ==== Proof.LossHead.Block.lean ====
module
public import proofs.«01_k».proof.Proof.Gen.LossHeadIdeal.Value
public import Idealize.ShloMosaic.Lib.Pipeline.ValueKit
public import Idealize.ShloMosaic.Lib.Pipeline.ReadBack
public import Idealize.ShloMosaic.Lib.Pointwise
public import proofs.«01_k».proof.Proof.Rows
@[expose] public section
set_option maxRecDepth 16384
noncomputable section
open Idealize.ShloMosaic Idealize.ShloMosaic.TcCoe Idealize.SL.Sem
open Idealize.ShloMosaic.Pipeline (Dat)

/-! # The loss head: what a block of 256 tokens computes -/

namespace Cert.LossHeadIdeal.Grad
open Cert.LossHeadIdeal Cert.LossHeadIdeal.Gen Cert.LossHeadIdeal.Value
variable (m : (ℓ : Loc nD τ sig) → Buf (Elt Ideal) ℓ) (c : Dev nD) (t : Fin cfg0.N)
/-- The block of the input. -/
abbrev b0 : Vec Ideal S256x1024 .f32 := iblk m c 0 t
/-- The norm's gain. -/
abbrev b1 : Vec Ideal S1x1024 .f32 := iblk m c 1 t
/-- The gate's weight. -/
abbrev b2 : Vec Ideal S4x704x1024 .bf16 := iblk m c 2 t
/-- The other factor's weight. -/
abbrev b3 : Vec Ideal S4x704x1024 .bf16 := iblk m c 3 t
/-- The weight of the way down. -/
abbrev b4 : Vec Ideal S4x704x1024 .bf16 := iblk m c 4 t
/-- The block of the target. -/
abbrev b5 : Vec Ideal S256x1024 .f32 := iblk m c 5 t
/-- The final norm's gain. -/
abbrev b6 : Vec Ideal S1x1024 .f32 := iblk m c 6 t

/-- Row `r` of a block of tokens. -/
abbrev row (x : Vec Ideal S256x1024 .f32) (r : Fin 256) (d : Fin 1024) : EReal := x (ix2 r d)
/-- A gain. -/
abbrev gain (x : Vec Ideal S1x1024 .f32) (d : Fin 1024) : EReal := x (ix2 (0 : Fin 1) d)

/-- The normalised rows. -/
def hB (r : Fin 256) (d : Fin 1024) : EReal := Rows.norm (row (b0 m c t) r) (gain (b1 m c t)) d
/-- The gate's activations. -/
def aB : Vec Ideal S4x256x704 .bf16 := fun i => ∑ d : Fin 1024, hB m c t (i 1) d * b2 m c t (ix3 (i 0) (i 2) d)
/-- The other factor's activations. -/
def bB : Vec Ideal S4x256x704 .bf16 := fun i => ∑ d : Fin 1024, hB m c t (i 1) d * b3 m c t (ix3 (i 0) (i 2) d)

/-- What is stored of the gate's activations, the last store first. -/
def storesA : List (View.Piece (Elt Ideal) S4x256x704 .bf16) :=
  [⟨Rect.unit ![3, 0, 0] ![1, 256, 704] inb_S4x256x704_S1x256x704_3_0_0, k0_pay26 (k0_pay4 (b0 m c t) (b1 m c t)) (View.ld (b2 m c t) (Rect.unit ![3, 0, 0] ![1, 704, 1024] inb_S4x704x1024_S1x704x1024_3_0_0))⟩,
    ⟨Rect.unit ![2, 0, 0] ![1, 256, 704] inb_S4x256x704_S1x256x704_2_0_0, k0_pay20 (k0_pay4 (b0 m c t) (b1 m c t)) (View.ld (b2 m c t) (Rect.unit ![2, 0, 0] ![1, 704, 1024] inb_S4x704x1024_S1x704x1024_2_0_0))⟩,
    ⟨Rect.unit ![1, 0, 0] ![1, 256, 704] inb_S4x256x704_S1x256x704_1_0_0, k0_pay13 (k0_pay4 (b0 m c t) (b1 m c t)) (View.ld (b2 m c t) (Rect.unit ![1, 0, 0] ![1, 704, 1024] inb_S4x704x1024_S1x704x1024_1_0_0))⟩,
    ⟨Rect.unit ![0, 0, 0] ![1, 256, 704] inb_S4x256x704_S1x256x704_0_0_0, k0_pay8 (b0 m c t) (b1 m c t) (View.ld (b2 m c t) (Rect.unit ![0, 0, 0] ![1, 704, 1024] inb_S4x704x1024_S1x704x1024_0_0_0))⟩]
/-- What is stored of the other factor's activations, the last store first. -/
def storesB : List (View.Piece (Elt Ideal) S4x256x704 .bf16) :=
  [⟨Rect.unit ![3, 0, 0] ![1, 256, 704] inb_S4x256x704_S1x256x704_3_0_0, k0_pay27 (k0_pay4 (b0 m c t) (b1 m c t)) (View.ld (b3 m c t) (Rect.unit ![3, 0, 0] ![1, 704, 1024] inb_S4x704x1024_S1x704x1024_3_0_0))⟩,
    ⟨Rect.unit ![2, 0, 0] ![1, 256, 704] inb_S4x256x704_S1x256x704_2_0_0, k0_pay21 (k0_pay4 (b0 m c t) (b1 m c t)) (View.ld (b3 m c t) (Rect.unit ![2, 0, 0] ![1, 704, 1024] inb_S4x704x1024_S1x704x1024_2_0_0))⟩,
    ⟨Rect.unit ![1, 0, 0] ![1, 256, 704] inb_S4x256x704_S1x256x704_1_0_0, k0_pay14 (k0_pay4 (b0 m c t) (b1 m c t)) (View.ld (b3 m c t) (Rect.unit ![1, 0, 0] ![1, 704, 1024] inb_S4x704x1024_S1x704x1024_1_0_0))⟩,
    ⟨Rect.unit ![0, 0, 0] ![1, 256, 704] inb_S4x256x704_S1x256x704_0_0_0, k0_pay9 (b0 m c t) (b1 m c t) (View.ld (b3 m c t) (Rect.unit ![0, 0, 0] ![1, 704, 1024] inb_S4x704x1024_S1x704x1024_0_0_0))⟩]

/-- The index of an entry of a store. -/
theorem emb_eq (s : ℕ) (inb : ∀ a, (![s, 0, 0] : Fin 3 → ℕ) a + (![1, 256, 704] : Fin 3 → ℕ) a ≤ S4x256x704.size a)
    (x : (Rect.unit (s := S4x256x704) ![s, 0, 0] ![1, 256, 704] inb).shape.Idx) (hs : s < 4) :
    (Rect.unit (s := S4x256x704) ![s, 0, 0] ![1, 256, 704] inb).emb x
      = (ix3 (⟨s, hs⟩ : Fin 4) (⟨(x 1).val, (x 1).isLt⟩ : Fin 256) (⟨(x 2).val, (x 2).isLt⟩ : Fin 704) : S4x256x704.Idx) := by
  have h0 : (x 0).val = 0 := by have h := (x 0).isLt; change (x 0).val < 1 at h; omega
  funext a
  refine Fin.ext ?_
  fin_cases a
  · show s + 1 * (x 0).val = s; omega
  · show 0 + 1 * (x 1).val = (x 1).val; omega
  · show 0 + 1 * (x 2).val = (x 2).val; omega

/-- Every store of the gate's activations is a block of them. -/
theorem piecesA : View.PiecesOf (e := .bf16) (Val := Elt Ideal) (aB m c t) (storesA m c t) := by
  refine ⟨fun x => ?_, fun x => ?_, fun x => ?_, fun x => ?_, trivial⟩
  all_goals
    refine Eq.trans ?_ (congrArg (aB m c t) (emb_eq _ (by decide) x (by decide))).symm
    rw [eq_ix3 x]
    pointwise [aB, hB, Rows.norm, Rows.rinv, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]

/-- Every store of the other factor's activations is a block of them. -/
theorem piecesB : View.PiecesOf (e := .bf16) (Val := Elt Ideal) (bB m c t) (storesB m c t) := by
  refine ⟨fun x => ?_, fun x => ?_, fun x => ?_, fun x => ?_, trivial⟩
  all_goals
    refine Eq.trans ?_ (congrArg (bB m c t) (emb_eq _ (by decide) x (by decide))).symm
    rw [eq_ix3 x]
    pointwise [bB, hB, Rows.norm, Rows.rinv, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]

/-- Four stores, one of each shard, cover the array. -/
theorem covered (i0 i1 i2 i3 : _)
    (w0 : (Rect.unit (s := S4x256x704) ![3, 0, 0] ![1, 256, 704] i0).shape.Idx → Elt Ideal .bf16)
    (w1 : (Rect.unit (s := S4x256x704) ![2, 0, 0] ![1, 256, 704] i1).shape.Idx → Elt Ideal .bf16)
    (w2 : (Rect.unit (s := S4x256x704) ![1, 0, 0] ![1, 256, 704] i2).shape.Idx → Elt Ideal .bf16)
    (w3 : (Rect.unit (s := S4x256x704) ![0, 0, 0] ![1, 256, 704] i3).shape.Idx → Elt Ideal .bf16) (y : S4x256x704.Idx) :
    ∃ p ∈ ([⟨_, w0⟩, ⟨_, w1⟩, ⟨_, w2⟩, ⟨_, w3⟩] : List (View.Piece (Elt Ideal) S4x256x704 .bf16)), y ∈ p.1.set := by
  have hx : (y 0).val < 4 := (y 0).isLt
  have hy : (y 1).val < 256 := (y 1).isLt
  have hz : (y 2).val < 704 := (y 2).isLt
  have at_ (s : ℕ) (inb) (h : (y 0).val = s) : y ∈ (Rect.unit (s := S4x256x704) ![s, 0, 0] ![1, 256, 704] inb).set := by
    refine Rect.mem_set_unit.mpr fun a => ?_
    fin_cases a
    · show s ≤ (y 0).val ∧ (y 0).val < s + 1; omega
    · show 0 ≤ (y 1).val ∧ (y 1).val < 0 + 256; omega
    · show 0 ≤ (y 2).val ∧ (y 2).val < 0 + 704; omega
  obtain h | h | h | h : (y 0).val = 3 ∨ (y 0).val = 2 ∨ (y 0).val = 1 ∨ (y 0).val = 0 := by omega
  · exact ⟨_, .head _, at_ 3 i0 h⟩
  · exact ⟨_, .tail _ (.head _), at_ 2 i1 h⟩
  · exact ⟨_, .tail _ (.tail _ (.head _)), at_ 1 i2 h⟩
  · exact ⟨_, .tail _ (.tail _ (.tail _ (.head _))), at_ 0 i3 h⟩

/-- The gate's activations of the block. -/
theorem out9 : (outsAt0 m c t.val t.isLt).2.2.1 = aB m c t := by
  have k : View.canon (storesA m c t) = aB m c t := funext fun y =>
    (congrArg (fun l => View.canon l _) (List.append_nil _)).symm.trans
      (View.canon_append_of_piecesOf (e := .bf16) (Val := Elt Ideal) (aB m c t) [] _ (piecesA m c t) _ (covered _ _ _ _ _ _ _ _ y))
  by_cases h : t.val % 16 = 0
  · rw [outsAt0_A m c t h]; frame_out; exact k
  · rw [outsAt0_B m c t h]; frame_out; exact k

/-- The other factor's activations of the block. -/
theorem out10 : (outsAt0 m c t.val t.isLt).2.2.2.1 = bB m c t := by
  have k : View.canon (storesB m c t) = bB m c t := funext fun y =>
    (congrArg (fun l => View.canon l _) (List.append_nil _)).symm.trans
      (View.canon_append_of_piecesOf (e := .bf16) (Val := Elt Ideal) (bB m c t) [] _ (piecesB m c t) _ (covered _ _ _ _ _ _ _ _ y))
  by_cases h : t.val % 16 = 0
  · rw [outsAt0_A m c t h]; frame_out; exact k
  · rw [outsAt0_B m c t h]; frame_out; exact k

/-- The normalised rows of the block. -/
theorem out8 (r : Fin 256) (d : Fin 1024) : (outsAt0 m c t.val t.isLt).2.1 (ix2 r d) = hB m c t r d := by
  by_cases h : t.val % 16 = 0
  · rw [outsAt0_A m c t h]; frame_out; pointwise [hB, Rows.norm, Rows.rinv, k0_pay3, k0_pay4]
  · rw [outsAt0_B m c t h]; frame_out; pointwise [hB, Rows.norm, Rows.rinv, k0_pay3, k0_pay4]

/-- The layer's output in the block. -/
def xoP : FVec Ideal S256x1024 .f32 :=
  k0_pay28 (k0_pay3 (b0 m c t)) (k0_pay4 (b0 m c t) (b1 m c t)) (k0_pay17 (k0_pay10 k0_pay5 (k0_pay6 (b0 m c t) (b1 m c t) (View.ld (b2 m c t)
      (Rect.unit ![0, 0, 0] ![1, 704, 1024] inb_S4x704x1024_S1x704x1024_0_0_0))) (k0_pay7 (b0 m c t) (b1 m c t) (View.ld (b3 m c t) (Rect.unit ![0, 0, 0]
      ![1, 704, 1024] inb_S4x704x1024_S1x704x1024_0_0_0))) (View.ld (b4 m c t) (Rect.unit ![0, 0, 0] ![1, 704, 1024] inb_S4x704x1024_S1x704x1024_0_0_0)))
      (k0_pay11 (k0_pay4 (b0 m c t) (b1 m c t)) (View.ld (b2 m c t) (Rect.unit ![1, 0, 0] ![1, 704, 1024] inb_S4x704x1024_S1x704x1024_1_0_0))) (k0_pay12
      (k0_pay4 (b0 m c t) (b1 m c t)) (View.ld (b3 m c t) (Rect.unit ![1, 0, 0] ![1, 704, 1024] inb_S4x704x1024_S1x704x1024_1_0_0))) (k0_pay15 (k0_pay4 (b0
      m c t) (b1 m c t)) (View.ld (b2 m c t) (Rect.unit ![1, 0, 0] ![1, 704, 1024] inb_S4x704x1024_S1x704x1024_1_0_0))) k0_pay16 (View.ld (b4 m c t)
      (Rect.unit ![1, 0, 0] ![1, 704, 1024] inb_S4x704x1024_S1x704x1024_1_0_0))) (k0_pay22 (k0_pay4 (b0 m c t) (b1 m c t)) (View.ld (b2 m c t) (Rect.unit
      ![2, 0, 0] ![1, 704, 1024] inb_S4x704x1024_S1x704x1024_2_0_0)) (View.ld (b3 m c t) (Rect.unit ![2, 0, 0] ![1, 704, 1024]
      inb_S4x704x1024_S1x704x1024_2_0_0))) (k0_pay23 (View.ld (b4 m c t) (Rect.unit ![2, 0, 0] ![1, 704, 1024] inb_S4x704x1024_S1x704x1024_2_0_0))) (View.ld
      (b2 m c t) (Rect.unit ![3, 0, 0] ![1, 704, 1024] inb_S4x704x1024_S1x704x1024_3_0_0)) (View.ld (b3 m c t) (Rect.unit ![3, 0, 0] ![1, 704, 1024]
      inb_S4x704x1024_S1x704x1024_3_0_0)) (View.ld (b4 m c t) (Rect.unit ![3, 0, 0] ![1, 704, 1024] inb_S4x704x1024_S1x704x1024_3_0_0))

/-- What the layer's output is, shard by shard. -/
theorem xoP_apply (r : Fin 256) (d : Fin 1024) : xoP m c t (ix2 r d) = b0 m c t (ix2 r d)
    + Ideal.ofBits .f32 0x3F000000#32 * ∑ s : Fin 4, ∑ f : Fin 704, aB m c t (ix3 s r f) * Rows.sig (aB m c t (ix3 s r f)) * bB m c t (ix3 s r f) * b4 m c t (ix3 s f d) := by
  rw [Fin.sum_univ_four]
  pointwise [xoP, aB, bB, hB, Rows.norm, Rows.rinv, Rows.sig, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  simp only [Rows.zero_sub]

/-- The error of the block. -/
def errB (r : Fin 256) (d : Fin 1024) : EReal := Rows.norm (row (xoP m c t) r) (gain (b6 m c t)) d - b5 m c t (ix2 r d)

/-- The gradient at the layer's output. -/
theorem out7 (r : Fin 256) (d : Fin 1024) : (outsAt0 m c t.val t.isLt).1 (ix2 r d)
    = Rows.back (row (xoP m c t) r) (gain (b6 m c t)) (fun k => errB m c t r k * Ideal.ofBits .f32 0x3A800000#32) d := by
  have k : k0_pay1 (k0_pay32 (xoP m c t)) (k0_pay33 (xoP m c t)) (k0_pay37 (xoP m c t) (b6 m c t) (b5 m c t)) (k0_pay38 (xoP m c t) (b6 m c t) (b5 m c t)) (ix2 r d)
      = Rows.back (row (xoP m c t) r) (gain (b6 m c t)) (fun k => errB m c t r k * Ideal.ofBits .f32 0x3A800000#32) d := by
    unfold errB
    generalize xoP m c t = D
    pointwise [k0_pay1, k0_pay31, k0_pay32, k0_pay33, k0_pay34, k0_pay36, k0_pay37, k0_pay38, Rows.back, Rows.norm, Rows.rinv, row]
  by_cases h : t.val % 16 = 0
  · rw [outsAt0_A m c t h]; frame_out; exact k
  · rw [outsAt0_B m c t h]; frame_out; exact k

/-- The block's share of the loss. -/
def lossB : EReal := Ideal.ofBits .f32 0x3F000000#32 * ∑ r : Fin 256, Ideal.div (∑ d : Fin 1024, errB m c t r d * errB m c t r d) (Ideal.ofBits .f32 0x44800000#32)

theorem step11 (Z : Vec Ideal S1x128 .f32) (l : Fin 128) : k0_pay35 (xoP m c t) (b6 m c t) (b5 m c t) Z (ix2 (0 : Fin 1) l) = Z (ix2 (0 : Fin 1) l) + lossB m c t := by
  unfold lossB errB
  generalize xoP m c t = D
  pointwise [k0_pay35, k0_pay31, k0_pay32, k0_pay33, k0_pay34, Rows.norm, Rows.rinv, row]

/-- The loss's accumulator at the first block, -/
theorem out11_A (h : t.val % 16 = 0) (l : Fin 128) : (outsAt0 m c t.val t.isLt).2.2.2.2.1 (ix2 (0 : Fin 1) l) = 0 + lossB m c t := by
  rw [outsAt0_A m c t h]; frame_out
  refine (step11 m c t _ l).trans (congrArg (· + _) ?_)
  pointwise [k0_pay29]

/-- and at a later one. -/
theorem out11_B (h : ¬ t.val % 16 = 0) (l : Fin 128) : (outsAt0 m c t.val t.isLt).2.2.2.2.1 (ix2 (0 : Fin 1) l)
    = (outsAt0 m c (t.val - 1) (Nat.lt_of_le_of_lt (Nat.sub_le _ _) t.isLt)).2.2.2.2.1 (ix2 (0 : Fin 1) l) + lossB m c t := by
  rw [outsAt0_B m c t h]; frame_out
  exact step11 m c t _ l

/-- The block's share of the final gain's gradient. -/
def dgB (k : Fin 1024) : EReal :=
  ∑ r : Fin 256, errB m c t r k * Ideal.ofBits .f32 0x3A800000#32 * (xoP m c t (ix2 r k) * Rows.rinv (row (xoP m c t) r))

theorem step12 (Z : Vec Ideal S1x1024 .f32) (k : Fin 1024) : k0_pay2 (k0_pay33 (xoP m c t)) (k0_pay36 (xoP m c t) (b6 m c t) (b5 m c t)) Z (ix2 (0 : Fin 1) k)
    = Z (ix2 (0 : Fin 1) k) + dgB m c t k := by
  unfold dgB errB
  generalize xoP m c t = D
  pointwise [k0_pay2, k0_pay31, k0_pay32, k0_pay33, k0_pay34, k0_pay36, Rows.norm, Rows.rinv, row]

/-- The gradient's accumulator at the first block, -/
theorem out12_A (h : t.val % 16 = 0) (k : Fin 1024) : (outsAt0 m c t.val t.isLt).2.2.2.2.2 (ix2 (0 : Fin 1) k) = 0 + dgB m c t k := by
  rw [outsAt0_A m c t h]; frame_out
  refine (step12 m c t _ k).trans (congrArg (· + _) ?_)
  pointwise [k0_pay30]

/-- and at a later one. -/
theorem out12_B (h : ¬ t.val % 16 = 0) (k : Fin 1024) : (outsAt0 m c t.val t.isLt).2.2.2.2.2 (ix2 (0 : Fin 1) k)
    = (outsAt0 m c (t.val - 1) (Nat.lt_of_le_of_lt (Nat.sub_le _ _) t.isLt)).2.2.2.2.2 (ix2 (0 : Fin 1) k) + dgB m c t k := by
  rw [outsAt0_B m c t h]; frame_out
  exact step12 m c t _ k

end Cert.LossHeadIdeal.Grad

end
-- ==== Proof.LossHead.Ref.lean ====
module

public import proofs.«01_k».proof.Proof.Gen.LossHeadRefIdeal.Run
public import proofs.«01_k».proof.Proof.Gen.LossHeadRefIdeal.Read
public import Idealize.ShloMosaic.Lib.Pointwise
public import proofs.«01_k».proof.Proof.Glu
public import proofs.«01_k».proof.Proof.Reduce1

@[expose] public section

set_option maxRecDepth 16384

noncomputable section

open Idealize.ShloMosaic Idealize.ShloMosaic.TcCoe Idealize.SL.Sem

/-! # The reference's arrays at real arguments -/

namespace Cert.Loss

open Cert.Rows

/-- The arguments' reals: the layer's, the final norm's gain and the target. -/
structure Raw extends Glu.Raw where
  gf : Fin 1024 → ℝ
  tg : Fin 4096 → Fin 1024 → ℝ

variable (w : Raw)

/-- The layer's output. -/
def xo (t : Fin 4096) (d : Fin 1024) : ℝ := w.x t d + 1 / 2 * ∑ n, Glu.A w.toRaw t n * sg (Glu.A w.toRaw t n) * Glu.B w.toRaw t n * w.wd n d
/-- The error. -/
def er (t : Fin 4096) (d : Fin 1024) : ℝ := xo w t d * rr (xo w t) * w.gf d - w.tg t d
/-- The loss. -/
def loss : ℝ := 1 / 2 * ∑ t, (∑ d, er w t d * er w t d) / 1024
/-- The gradient at the layer's output. -/
def dx (t : Fin 4096) (d : Fin 1024) : ℝ := bk (xo w t) w.gf (fun k => er w t k / 1024) d
/-- The final norm's gain's gradient. -/
def dg (d : Fin 1024) : ℝ := ∑ t, er w t d / 1024 * (xo w t d * rr (xo w t))

end Cert.Loss

namespace Cert.LossHeadRefIdeal.Grad

open Cert.LossHeadRefIdeal Cert.LossHeadRefIdeal.Read Cert.Loss Cert.Rows
open Cert.Glu (A B xh col)

/-- The arguments hold these reals. -/
structure Holds (w : Raw) (x0 : FVec Ideal S1x4096x1024 .f32) (x1 : FVec Ideal S1x1024 .f32) (x2 x3 : FVec Ideal S1x1024x2816 .f32)
    (x4 : FVec Ideal S1x2816x1024 .f32) (x5 : FVec Ideal S1024 .f32) (x6 : FVec Ideal S1x4096x1024 .f32) : Prop where
  x t d : x0 (ix3 (0 : Fin 1) t d) = (w.x t d : EReal)
  g d : x1 (ix2 (0 : Fin 1) d) = (w.g d : EReal)
  wg d n : x2 (ix3 (0 : Fin 1) d n) = (w.wg d n : EReal)
  wu d n : x3 (ix3 (0 : Fin 1) d n) = (w.wu d n : EReal)
  wd n d : x4 (ix3 (0 : Fin 1) n d) = (w.wd n d : EReal)
  gf d : x5 (ix1 d) = (w.gf d : EReal)
  tg t d : x6 (ix3 (0 : Fin 1) t d) = (w.tg t d : EReal)

variable {w : Raw} {x0 : FVec Ideal S1x4096x1024 .f32} {x1 : FVec Ideal S1x1024 .f32} {x2 x3 : FVec Ideal S1x1024x2816 .f32}
    {x4 : FVec Ideal S1x2816x1024 .f32} {x5 : FVec Ideal S1024 .f32} {x6 : FVec Ideal S1x4096x1024 .f32} (H : Holds w x0 x1 x2 x3 x4 x5 x6)
include H

theorem ref_h (t : Fin 4096) (d : Fin 1024) : val_main_v13 (F := Ideal) x0 x1 (ix3 (0 : Fin 1) t d) = ((xh w.toRaw t d * w.g d : ℝ) : EReal) := by
  pointwise [val_main_v13, val_main_v12, val_main_v11, val_main_v0, val_main_v10, val_main_v9, val_main_v8, val_main_v7, val_main_v6, val_main_cst_1, val_main_v5, val_main_v4, val_main_cst_0,
    val_main_v3, val_main_v2, val_main_cst, val_main_v1]
  simp only [H.x, H.g]
  rw [ms_coe, rsqrt_pos (ms_pos _), ← EReal.coe_mul, ← EReal.coe_mul, xh, rr]

theorem ref_a (t : Fin 4096) (n : Fin 2816) : val_main_v17 (F := Ideal) x0 x1 x2 (ix3 (0 : Fin 1) t n) = ((A w.toRaw t n : ℝ) : EReal) := by
  pointwise [val_main_v17, val_main_v14]
  simp only [ref_h H, H.wg]
  exact Soft.coe_dot _ _ _

theorem ref_b (t : Fin 4096) (n : Fin 2816) : val_main_v19 (F := Ideal) x0 x1 x3 (ix3 (0 : Fin 1) t n) = ((B w.toRaw t n : ℝ) : EReal) := by
  pointwise [val_main_v19, val_main_v15]
  simp only [ref_h H, H.wu]
  exact Soft.coe_dot _ _ _

theorem ref_s (t : Fin 4096) (n : Fin 2816) : val_main_v20 (F := Ideal) x0 x1 x2 x3 (ix3 (0 : Fin 1) t n)
      = ((A w.toRaw t n * sg (A w.toRaw t n) * B w.toRaw t n : ℝ) : EReal) := by
  pointwise [val_main_v20, val_main_v18, val_main_call0_v5, val_main_call0_v4, val_main_call0_cst_0, val_main_call0_v3, val_main_call0_v2, val_main_call0_cst, val_main_call0_v1, val_main_call0_v0]
  rw [ref_a H, ref_b H]
  exact (congrArg (fun z : EReal => (A w.toRaw t n : EReal) * z * (B w.toRaw t n : EReal)) (sig_coe _)).trans (by rw [← EReal.coe_mul, ← EReal.coe_mul])

theorem ref_xo (t : Fin 4096) (d : Fin 1024) : val_main_v24 (F := Ideal) x0 x1 x2 x3 x4 (ix3 (0 : Fin 1) t d) = ((xo w t d : ℝ) : EReal) := by
  pointwise [val_main_v24, val_main_v23, val_main_v22, val_main_cst_2, val_main_v21, val_main_v16]
  simp only [ref_s H, H.wd, H.x]
  rw [Soft.coe_dot, word_half, ← EReal.coe_mul, ← EReal.coe_add, xo]

theorem ref_ms (t : Fin 4096) : val_main_v31 (F := Ideal) x0 x1 x2 x3 x4 (ix3 (0 : Fin 1) t (0 : Fin 1)) = ((ms (xo w t) : ℝ) : EReal) := by
  pointwise [val_main_v31, val_main_v30, val_main_cst_5, val_main_v29, val_main_v28, val_main_cst_4, val_main_v27, val_main_v26, val_main_cst_3, val_main_v25]
  simp only [ref_xo H]
  exact ms_coe _

theorem ref_r (t : Fin 4096) : val_main_v32 (F := Ideal) x0 x1 x2 x3 x4 (ix3 (0 : Fin 1) t (0 : Fin 1)) = ((rr (xo w t) : ℝ) : EReal) := by
  pointwise [val_main_v32]
  rw [ref_ms H, rsqrt_pos (ms_pos _), rr]

theorem ref_xhf (t : Fin 4096) (d : Fin 1024) : val_main_v37 (F := Ideal) x0 x1 x2 x3 x4 (ix3 (0 : Fin 1) t d) = ((xo w t d * rr (xo w t) : ℝ) : EReal) := by
  pointwise [val_main_v37, val_main_v36]
  rw [ref_xo H, ref_r H, ← EReal.coe_mul]

theorem ref_er (t : Fin 4096) (d : Fin 1024) : val_main_v41 (F := Ideal) x0 x1 x2 x3 x4 x5 x6 (ix3 (0 : Fin 1) t d) = ((er w t d : ℝ) : EReal) := by
  pointwise [val_main_v41, val_main_v40, val_main_v39, val_main_v38]
  rw [ref_xhf H, H.gf, H.tg, ← EReal.coe_mul, ← EReal.coe_sub, er]

theorem ref_c (t : Fin 4096) (d : Fin 1024) : val_main_v55 (F := Ideal) x0 x1 x2 x3 x4 x5 x6 (ix3 (0 : Fin 1) t d) = ((er w t d / 1024 : ℝ) : EReal) := by
  pointwise [val_main_v55, val_main_v54, val_main_v53, val_main_v52, val_main_cst_14, val_main_v51, val_main_v50, val_main_cst_13, val_main_cst_12, val_main_v44, val_main_v43, val_main_cst_7]
  rw [ref_er H, word_half, word_two]
  rw [div_1024, ← EReal.coe_mul, ← EReal.coe_mul]
  exact congrArg _ (by ring)

theorem ref_loss (i : Fin 1) (l : Fin 128) : val_main_v92 (F := Ideal) x0 x1 x2 x3 x4 x5 x6 (ix2 i l) = ((loss w : ℝ) : EReal) := by
  pointwise [val_main_v92, val_main_v49, val_main_cst_11]
  rw [word_half, show val_main_v48 (F := Ideal) x0 x1 x2 x3 x4 x5 x6 ix0 = _ from Reduce1.sum2 _ _ _ _]
  pointwise [val_main_v47, val_main_v46, val_main_cst_9, val_main_v45, val_main_cst_8, val_main_cst_10, val_main_v42]
  simp only [ref_er H, Soft.coe_dot, div_1024]
  rw [← Soft.coe_sum, ← EReal.coe_mul, loss]

theorem ref_S (t : Fin 4096) : val_main_v70 (F := Ideal) x0 x1 x2 x3 x4 x5 x6 (ix1 t)
      = (((∑ k, xo w t k * (er w t k / 1024 * w.gf k)) * (-1 / 2 * (rr (xo w t) / ms (xo w t))) / 1024 : ℝ) : EReal) := by
  refine (Reduce1.sum3m _ _ _ _ t).trans ?_
  pointwise [val_main_v69, val_main_v68, val_main_cst_18, val_main_cst_19, val_main_v67, val_main_v35, val_main_v34, val_main_cst_6, val_main_v33, val_main_v64, val_main_v63, val_main_cst_17, val_main_v62,
    val_main_v60, val_main_v59, val_main_v38]
  simp only [H.gf, ref_xo H, ref_c H, ref_r H, ref_ms H]
  rw [Ideal.div_coe (ms_pos _).ne', word_neg_half]
  simp only [← EReal.coe_mul]
  rw [← Soft.coe_sum, ← EReal.coe_mul, div_1024, mul_one_div]

theorem ref_dx (t : Fin 4096) (d : Fin 1024) : val_main_v77 (F := Ideal) x0 x1 x2 x3 x4 x5 x6 (ix2 t d) = ((dx w t d : ℝ) : EReal) := by
  pointwise [val_main_v77, val_main_v76, val_main_v75, val_main_v74, val_main_v73, val_main_v72, val_main_v71, val_main_v66, val_main_v65, val_main_v60, val_main_v59, val_main_v38]
  rw [ref_S H, ref_xo H, H.gf, ref_c H, ref_r H]
  simp only [← EReal.coe_mul, ← EReal.coe_add]
  exact congrArg _ (by simpa only [zero_add, dx] using chain (xo w t) w.gf (fun k => er w t k / 1024) 0 d)

theorem ref_dg (d : Fin 1024) : val_main_v93 (F := Ideal) x0 x1 x2 x3 x4 x5 x6 (ix2 (0 : Fin 1) d) = ((dg w d : ℝ) : EReal) := by
  pointwise [val_main_v93]
  refine (Reduce1.sum3 _ _ _ _ d).trans ?_
  pointwise [val_main_cst_16, val_main_v58, val_main_v57, val_main_cst_15, val_main_v56]
  simp only [ref_xhf H, ref_c H]
  rw [Soft.coe_dot]
  exact congrArg _ (Finset.sum_congr rfl fun t _ => mul_comm _ _)

theorem ref_h2 (t : Fin 4096) (d : Fin 1024) : val_main_v79 (F := Ideal) x0 x1 (ix2 t d) = ((xh w.toRaw t d * w.g d : ℝ) : EReal) := by
  pointwise [val_main_v79, val_main_v78]
  rw [ref_h H]

theorem ref_a4 (s : Fin 4) (t : Fin 4096) (f : Fin 704) : val_main_v85 (F := Ideal) x0 x1 x2 (ix3 s t f) = ((A w.toRaw t (col s f) : ℝ) : EReal) := by
  pointwise [val_main_v85, val_main_v84, val_main_v83, val_main_v82, val_main_v81, val_main_v80]
  simp only [ref_h H, H.wg]
  exact Soft.coe_dot _ _ _

theorem ref_b4 (s : Fin 4) (t : Fin 4096) (f : Fin 704) : val_main_v91 (F := Ideal) x0 x1 x3 (ix3 s t f) = ((B w.toRaw t (col s f) : ℝ) : EReal) := by
  pointwise [val_main_v91, val_main_v90, val_main_v89, val_main_v88, val_main_v87, val_main_v86]
  simp only [ref_h H, H.wu]
  exact Soft.coe_dot _ _ _

end Cert.LossHeadRefIdeal.Grad

end
-- ==== Proof.LossHead.Value.lean ====
module

public import proofs.«01_k».proof.Defs
public import proofs.«01_k».proof.Proof.LossHead.Block
public import proofs.«01_k».proof.Proof.LossHead.Ref
public import proofs.«01_k».proof.Proof.Finite
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The loss head: the arrays of the kernel -/

namespace Cert.LossHeadIdeal.Grad

open Cert.LossHeadIdeal Cert.LossHeadIdeal.Gen Cert.LossHeadIdeal.Value Cert.Rows
open Cert.Glu (A B xh col)
open Cert.Loss
open Cert.LossHeadRefIdeal.Grad (Holds)

/-- The side conditions of the precondition's operations. -/
instance pre_facts : Cert.Pre_loss_finite.Facts := ⟨by decide, by decide, by decide, by decide, by decide⟩

variable (m : (ℓ : Loc nD τ sig) → Buf (Elt Ideal) ℓ) (c : Dev nD)

/-- Argument 0: the input. -/
abbrev x0 : FVec Ideal S1x4096x1024 .f32 := m ((c : Thread nD τ).loc main_arg0)
/-- Argument 1: the norm's gain. -/
abbrev x1 : FVec Ideal S1x1024 .f32 := m ((c : Thread nD τ).loc main_arg1)
/-- Argument 2: the gate's weight. -/
abbrev x2 : FVec Ideal S1x1024x2816 .f32 := m ((c : Thread nD τ).loc main_arg2)
/-- Argument 3: the other factor's weight. -/
abbrev x3 : FVec Ideal S1x1024x2816 .f32 := m ((c : Thread nD τ).loc main_arg3)
/-- Argument 4: the weight of the way down. -/
abbrev x4 : FVec Ideal S1x2816x1024 .f32 := m ((c : Thread nD τ).loc main_arg4)
/-- Argument 5: the final norm's gain. -/
abbrev x5 : FVec Ideal S1024 .f32 := m ((c : Thread nD τ).loc main_arg5)
/-- Argument 6: the target. -/
abbrev x6 : FVec Ideal S1x4096x1024 .f32 := m ((c : Thread nD τ).loc main_arg6)

/-- The arguments' reals. The layer's own cotangent is not used here. -/
def raw : Raw where
  x t d := EReal.toReal (x0 m c (ix3 (0 : Fin 1) t d))
  g d := EReal.toReal (x1 m c (ix2 (0 : Fin 1) d))
  wg d n := EReal.toReal (x2 m c (ix3 (0 : Fin 1) d n))
  wu d n := EReal.toReal (x3 m c (ix3 (0 : Fin 1) d n))
  wd n d := EReal.toReal (x4 m c (ix3 (0 : Fin 1) n d))
  ct _ _ := 0
  gf d := EReal.toReal (x5 m c (ix1 d))
  tg t d := EReal.toReal (x6 m c (ix3 (0 : Fin 1) t d))

/-- Finite arguments hold them. -/
theorem holds (h : Cert.Pre_LossHeadIdeal_loss_finite m) (c : Dev nD) : Holds (raw m c) (x0 m c) (x1 m c) (x2 m c) (x3 m c) (x4 m c) (x5 m c) (x6 m c) where
  x t d := Finite.finite_reads _ (fun _ => 0) _ (h c).1 _
  g d := Finite.finite_reads _ (fun _ => 0) _ (h c).2.1 _
  wg d n := Finite.finite_reads _ (fun _ => 0) _ (h c).2.2.1 _
  wu d n := Finite.finite_reads _ (fun _ => 0) _ (h c).2.2.2.1 _
  wd n d := Finite.finite_reads _ (fun _ => 0) _ (h c).2.2.2.2.1 _
  gf d := Finite.finite_reads _ (fun _ => 0) _ (h c).2.2.2.2.2.1 _
  tg t d := Finite.finite_reads _ (fun _ => 0) _ (h c).2.2.2.2.2.2 _

variable {m c} {w : Raw} (H : Holds w (x0 m c) (x1 m c) (x2 m c) (x3 m c) (x4 m c) (x5 m c) (x6 m c))
include H

/-! ## What the arrays given to the kernel hold -/

theorem in_x (t : Fin 4096) (d : Fin 1024) : V m c main_v0 (ix2 t d) = (w.x t d : EReal) := by
  refine Eq.trans ?_ (H.x t d)
  entry_read; pointwise
theorem in_g (d : Fin 1024) : V m c main_arg1 (ix2 (0 : Fin 1) d) = (w.g d : EReal) := by
  refine Eq.trans ?_ (H.g d)
  entry_read; rfl
theorem in_wg (s : Fin 4) (f : Fin 704) (d : Fin 1024) : V m c main_v4 (ix3 s f d) = (w.wg d (col s f) : EReal) := by
  refine Eq.trans ?_ (H.wg d (col s f))
  entry_read; pointwise
theorem in_wu (s : Fin 4) (f : Fin 704) (d : Fin 1024) : V m c main_v8 (ix3 s f d) = (w.wu d (col s f) : EReal) := by
  refine Eq.trans ?_ (H.wu d (col s f))
  entry_read; pointwise
theorem in_wd (s : Fin 4) (f : Fin 704) (d : Fin 1024) : V m c main_v11 (ix3 s f d) = (w.wd (col s f) d : EReal) := by
  refine Eq.trans ?_ (H.wd (col s f) d)
  entry_read; pointwise
theorem in_tg (t : Fin 4096) (d : Fin 1024) : V m c main_v12 (ix2 t d) = (w.tg t d : EReal) := by
  refine Eq.trans ?_ (H.tg t d)
  entry_read; pointwise
theorem in_gf (d : Fin 1024) : V m c main_v13 (ix2 (0 : Fin 1) d) = (w.gf d : EReal) := by
  refine Eq.trans ?_ (H.gf d)
  entry_read; pointwise

/-! ## What a block holds -/

omit H in
/-- The block indices of every window. -/
theorem idx : ∀ t : Fin cfg0.N, win0_0.index t = ![t.val, 0] ∧ win0_1.index t = ![0, 0] ∧ win0_2.index t = ![0, 0, 0]
    ∧ win0_3.index t = ![0, 0, 0] ∧ win0_4.index t = ![0, 0, 0] ∧ win0_5.index t = ![t.val, 0] ∧ win0_6.index t = ![0, 0]
    ∧ win0_7.index t = ![t.val, 0] ∧ win0_8.index t = ![t.val, 0] ∧ win0_9.index t = ![0, t.val, 0] ∧ win0_10.index t = ![0, t.val, 0]
    ∧ win0_11.index t = ![0, 0] ∧ win0_12.index t = ![0, 0] :=
  (by decide +kernel : ∀ t : Fin grid0.N, _)

/-- Token `r` of block `t`. -/
abbrev tok (t : Fin cfg0.N) (r : Fin 256) : Fin 4096 := ⟨t.val * 256 + r.val, by have := lt_of_lt_of_eq t.isLt N_0; omega⟩

theorem blk0 (t : Fin cfg0.N) (r : Fin 256) (d : Fin 1024) : b0 m c t (ix2 r d) = (w.x (tok t r) d : EReal) := by
  refine Eq.trans ?_ (in_x H _ _)
  blk_point [iblk, idx t]
theorem blk1 (t : Fin cfg0.N) (d : Fin 1024) : b1 m c t (ix2 (0 : Fin 1) d) = (w.g d : EReal) := by
  refine Eq.trans ?_ (in_g H _)
  blk_point [iblk, idx t]
theorem blk2 (t : Fin cfg0.N) (s : Fin 4) (f : Fin 704) (d : Fin 1024) : b2 m c t (ix3 s f d) = (w.wg d (col s f) : EReal) := by
  refine Eq.trans ?_ (in_wg H _ _ _)
  blk_point [iblk, idx t]
theorem blk3 (t : Fin cfg0.N) (s : Fin 4) (f : Fin 704) (d : Fin 1024) : b3 m c t (ix3 s f d) = (w.wu d (col s f) : EReal) := by
  refine Eq.trans ?_ (in_wu H _ _ _)
  blk_point [iblk, idx t]
theorem blk4 (t : Fin cfg0.N) (s : Fin 4) (f : Fin 704) (d : Fin 1024) : b4 m c t (ix3 s f d) = (w.wd (col s f) d : EReal) := by
  refine Eq.trans ?_ (in_wd H _ _ _)
  blk_point [iblk, idx t]
theorem blk5 (t : Fin cfg0.N) (r : Fin 256) (d : Fin 1024) : b5 m c t (ix2 r d) = (w.tg (tok t r) d : EReal) := by
  refine Eq.trans ?_ (in_tg H _ _)
  blk_point [iblk, idx t]
theorem blk6 (t : Fin cfg0.N) (d : Fin 1024) : b6 m c t (ix2 (0 : Fin 1) d) = (w.gf d : EReal) := by
  refine Eq.trans ?_ (in_gf H _)
  blk_point [iblk, idx t]

/-! ## What a block computes, at reals -/

omit H in
/-- A row of reals, normalised. -/
theorem norm_coe (x g : Fin 1024 → ℝ) (d : Fin 1024) : Rows.norm (fun k => (x k : EReal)) (fun k => (g k : EReal)) d = ((x d * rr x * g d : ℝ) : EReal) := by
  rw [Rows.norm, rinv_coe, ← EReal.coe_mul, ← EReal.coe_mul]

theorem hB_at (t : Fin cfg0.N) (r : Fin 256) (d : Fin 1024) : hB m c t r d = ((xh w.toRaw (tok t r) d * w.g d : ℝ) : EReal) := by
  have e : row (b0 m c t) r = fun k => (w.x (tok t r) k : EReal) := funext fun k => blk0 H t r k
  have e' : gain (b1 m c t) = fun k => (w.g k : EReal) := funext fun k => blk1 H t k
  rw [hB, e, e', norm_coe, xh]

theorem aB_at (t : Fin cfg0.N) (s : Fin 4) (r : Fin 256) (f : Fin 704) : aB m c t (ix3 s r f) = (A w.toRaw (tok t r) (col s f) : EReal) := by
  show ∑ d : Fin 1024, hB m c t r d * b2 m c t (ix3 s f d) = _
  simp only [hB_at H, blk2 H]
  exact Soft.coe_dot _ _ _

theorem bB_at (t : Fin cfg0.N) (s : Fin 4) (r : Fin 256) (f : Fin 704) : bB m c t (ix3 s r f) = (B w.toRaw (tok t r) (col s f) : EReal) := by
  show ∑ d : Fin 1024, hB m c t r d * b3 m c t (ix3 s f d) = _
  simp only [hB_at H, blk3 H]
  exact Soft.coe_dot _ _ _

omit H in
/-- A sum over the shards' columns is a sum over all columns. -/
theorem sum_cols (F : Fin 2816 → ℝ) : ∑ s : Fin 4, ∑ f : Fin 704, F (col s f) = ∑ n, F n :=
  Fin.sum_mul_add_congr fun s f h => rfl

theorem xoP_at (t : Fin cfg0.N) (r : Fin 256) (d : Fin 1024) : xoP m c t (ix2 r d) = (xo w (tok t r) d : EReal) := by
  rw [xoP_apply]
  simp only [blk0 H, aB_at H, bB_at H, blk4 H, sig_coe, ← EReal.coe_mul, word_half]
  simp only [← Soft.coe_sum]
  rw [sum_cols fun n => A w.toRaw (tok t r) n * sg (A w.toRaw (tok t r) n) * B w.toRaw (tok t r) n * w.wd n d, ← EReal.coe_mul, ← EReal.coe_add, xo]

theorem row_at (t : Fin cfg0.N) (r : Fin 256) : row (xoP m c t) r = fun k => (xo w (tok t r) k : EReal) := funext fun k => xoP_at H t r k
theorem gain_at (t : Fin cfg0.N) : gain (b6 m c t) = fun k => (w.gf k : EReal) := funext fun k => blk6 H t k

theorem err_at (t : Fin cfg0.N) (r : Fin 256) (d : Fin 1024) : errB m c t r d = (er w (tok t r) d : EReal) := by
  rw [errB, row_at H, gain_at H, norm_coe, blk5 H, ← EReal.coe_sub, er]

omit H in
/-- Multiplying by the word of 1/1024. -/
theorem inv_1024 (a : ℝ) : (a : EReal) * Ideal.ofBits .f32 0x3A800000#32 = ((a / 1024 : ℝ) : EReal) := by
  rw [show Ideal.ofBits .f32 0x3A800000#32 = ((1 / 1024 : ℝ) : EReal) by simp [Ideal.ofBits, Ideal.ieee, -EReal.coe_mul]; norm_num, ← EReal.coe_mul, mul_one_div]

theorem dx_at (t : Fin cfg0.N) (r : Fin 256) (d : Fin 1024) : (outsAt0 m c t.val t.isLt).1 (ix2 r d) = (dx w (tok t r) d : EReal) := by
  rw [out7, row_at H, gain_at H]
  simp only [err_at H, inv_1024]
  rw [back_coe, dx]

theorem loss_at (t : Fin cfg0.N) : lossB m c t = ((∑ r : Fin 256, 1 / 2 * ((∑ d, er w (tok t r) d * er w (tok t r) d) / 1024) : ℝ) : EReal) := by
  unfold lossB
  simp only [err_at H, Soft.coe_dot, div_1024]
  rw [← Soft.coe_sum, word_half, ← EReal.coe_mul, Finset.mul_sum]

theorem dg_at (t : Fin cfg0.N) (d : Fin 1024) : dgB m c t d
    = ((∑ r : Fin 256, er w (tok t r) d / 1024 * (xo w (tok t r) d * rr (xo w (tok t r))) : ℝ) : EReal) := by
  unfold dgB
  simp only [row_at H, xoP_at H, err_at H, inv_1024, rinv_coe, ← EReal.coe_mul]
  exact (Soft.coe_sum _ _).symm

/-! ## The arrays after the run -/

omit H in
theorem place7 (t : Fin cfg0.N) (y : S256x1024.Idx) : ((cfg0.win 7).blk t).view.emb y = (ix2 (tok t (y 0)) (y 1) : S4096x1024.Idx) := by
  blk_ext [idx t]
omit H in
theorem place8 (t : Fin cfg0.N) (y : S256x1024.Idx) : ((cfg0.win 8).blk t).view.emb y = (ix2 (tok t (y 0)) (y 1) : S4096x1024.Idx) := by
  blk_ext [idx t]
omit H in
theorem place9 (t : Fin cfg0.N) (y : S4x256x704.Idx) : ((cfg0.win 9).blk t).view.emb y = (ix3 (y 0) (tok t (y 1)) (y 2) : S4x4096x704.Idx) := by
  blk_ext [idx t]
omit H in
theorem place10 (t : Fin cfg0.N) (y : S4x256x704.Idx) : ((cfg0.win 10).blk t).view.emb y = (ix3 (y 0) (tok t (y 1)) (y 2) : S4x4096x704.Idx) := by
  blk_ext [idx t]
omit H in
theorem place11 (t : Fin cfg0.N) (y : S1x128.Idx) : ((cfg0.win 11).blk t).view.emb y = (y : S1x128.Idx) := by
  blk_ext [idx t]
omit H in
theorem place12 (t : Fin cfg0.N) (y : S1x1024.Idx) : ((cfg0.win 12).blk t).view.emb y = (y : S1x1024.Idx) := by
  blk_ext [idx t]
omit H in
/-- Point `s` of the run reads the tokens `256 s …`. -/
theorem tok_run (t : Fin cfg0.N) (s : Fin 16) (k : Fin 256) (h : 16 * (t.val / 16) + s.val < cfg0.N) (hl : s.val * 256 + k.val < 4096) :
    tok ⟨16 * (t.val / 16) + s.val, h⟩ k = ⟨s.val * 256 + k.val, hl⟩ := Fin.ext (by have := lt_of_lt_of_eq t.isLt N_0; dsimp only; omega)
omit H in
/-- An index of a row alone. -/
theorem ix_row {n : ℕ} (y : (⟨2, ![1, n]⟩ : Shape).Idx) : y = ix2 (0 : Fin 1) (y 1) :=
  (eq_ix2 y).trans (congrArg (ix2 · (y 1)) (Subsingleton.elim (α := Fin 1) (y 0) 0))

/-- The gradient at the layer's output, -/
theorem final7 (f : S4096x1024.Idx → Elt Ideal .f32) (hf : ∀ t d, f (ix2 t d) = (dx w t d : EReal)) : (dats m 0 c).arrAt 7 cfg0.N = f := by
  refine (dats m 0 c).arrAt_eq_of_covers 7 f (by decide +kernel) fun t _ y => ?_
  blk_simp
  rw [after0_7]
  refine Eq.trans ?_ (congrArg f (place7 t y)).symm
  exact (congrArg _ (eq_ix2 y)).trans ((dx_at H t _ _).trans (hf _ _).symm)

/-- the normalised rows, -/
theorem final8 (f : S4096x1024.Idx → Elt Ideal .bf16) (hf : ∀ t d, f (ix2 t d) = ((xh w.toRaw t d * w.g d : ℝ) : EReal)) : (dats m 0 c).arrAt 8 cfg0.N = f := by
  refine (dats m 0 c).arrAt_eq_of_covers 8 f (by decide +kernel) fun t _ y => ?_
  blk_simp
  rw [after0_8]
  refine Eq.trans ?_ (congrArg f (place8 t y)).symm
  exact (congrArg _ (eq_ix2 y)).trans (((out8 m c t _ _).trans (hB_at H t _ _)).trans (hf _ _).symm)

/-- the gate's activations, -/
theorem final9 (f : S4x4096x704.Idx → Elt Ideal .bf16) (hf : ∀ s t n, f (ix3 s t n) = (A w.toRaw t (col s n) : EReal)) : (dats m 0 c).arrAt 9 cfg0.N = f := by
  refine (dats m 0 c).arrAt_eq_of_covers 9 f (by decide +kernel) fun t _ y => ?_
  blk_simp
  rw [after0_9, out9]
  refine Eq.trans ?_ (congrArg f (place9 t y)).symm
  exact (congrArg _ (eq_ix3 y)).trans ((aB_at H t _ _ _).trans (hf _ _ _).symm)

/-- the other factor's, -/
theorem final10 (f : S4x4096x704.Idx → Elt Ideal .bf16) (hf : ∀ s t n, f (ix3 s t n) = (B w.toRaw t (col s n) : EReal)) : (dats m 0 c).arrAt 10 cfg0.N = f := by
  refine (dats m 0 c).arrAt_eq_of_covers 10 f (by decide +kernel) fun t _ y => ?_
  blk_simp
  rw [after0_10, out10]
  refine Eq.trans ?_ (congrArg f (place10 t y)).symm
  exact (congrArg _ (eq_ix3 y)).trans ((bB_at H t _ _ _).trans (hf _ _ _).symm)

/-- the loss. -/
theorem final11 (f : S1x128.Idx → Elt Ideal .f32) (hf : ∀ l, f (ix2 (0 : Fin 1) l) = (loss w : EReal)) : (dats m 0 c).arrAt 11 cfg0.N = f := by
  refine (dats m 0 c).arrAt_eq_of_covers 11 f (by decide +kernel) fun t ht y => ?_
  blk_simp
  rw [after0_11, Pipeline.eq_sum_fin_of_reset_step_apply_of_flush (fun n h => (outsAt0 m c n h).2.2.2.2.1) 16 (fun _ => 0)
    (fun t i => lossB m c t)
    (fun t h i => (congrArg _ (ix_row i)).trans (out11_A m c t h (i 1)))
    (fun t h i => (congrArg _ (ix_row i)).trans ((out11_B m c t h (i 1)).trans (congrArg (· + _) (congrArg _ (ix_row i).symm))))
    t ((flush0_11 t).mp ht) _, zero_add]
  refine Eq.trans ?_ ((congrArg f ((place11 t y).trans (ix_row y))).trans (hf _)).symm
  refine (Finset.sum_congr rfl fun s _ => loss_at H _).trans ((Soft.coe_sum _ _).symm.trans ?_)
  refine congrArg _ ?_
  unfold loss
  rw [Finset.mul_sum]
  refine Fin.sum_mul_add_congr fun s k hl => ?_
  rw [tok_run t s k _ hl]

/-- and the final gain's gradient. -/
theorem final12 (f : S1x1024.Idx → Elt Ideal .f32) (hf : ∀ d, f (ix2 (0 : Fin 1) d) = (dg w d : EReal)) : (dats m 0 c).arrAt 12 cfg0.N = f := by
  refine (dats m 0 c).arrAt_eq_of_covers 12 f (by decide +kernel) fun t ht y => ?_
  blk_simp
  rw [after0_12, Pipeline.eq_sum_fin_of_reset_step_apply_of_flush (fun n h => (outsAt0 m c n h).2.2.2.2.2) 16 (fun _ => 0)
    (fun t i => dgB m c t (i 1))
    (fun t h i => (congrArg _ (ix_row i)).trans (out12_A m c t h (i 1)))
    (fun t h i => (congrArg _ (ix_row i)).trans ((out12_B m c t h (i 1)).trans (congrArg (· + _) (congrArg _ (ix_row i).symm))))
    t ((flush0_12 t).mp ht) _, zero_add]
  refine Eq.trans ?_ ((congrArg f ((place12 t y).trans (ix_row y))).trans (hf _)).symm
  refine (Finset.sum_congr rfl fun s _ => dg_at H _ _).trans ((Soft.coe_sum _ _).symm.trans ?_)
  refine congrArg _ (Fin.sum_mul_add_congr fun s k hl => ?_)
  rw [tok_run t s k _ hl]

end Cert.LossHeadIdeal.Grad

end
-- ==== Proof.LossHead.Pair.lean ====
module
public import proofs.«01_k».proof.Defs
public import proofs.«01_k».proof.Proof.LossHead.Value
public import proofs.«01_k».proof.Proof.Gen.LossHeadRefIdeal.Run
@[expose] public section
noncomputable section
namespace Cert.LossHeadIdeal.Grad
open Idealize.ShloMosaic Idealize.SL.Sem

/-- Arguments that agree with the kernel's are the same reals. -/
theorem holds_ref {m : (ℓ : Loc nD τ sig) → Buf (Elt Ideal) ℓ} {w : Cert.Loss.Raw} {c : Dev nD} (H : Cert.LossHeadRefIdeal.Grad.Holds w (x0 m c) (x1 m c) (x2 m c) (x3 m c) (x4 m c) (x5 m c) (x6 m c))
    {x0 x6 : (⟨S1x4096x1024, .f32⟩ : BufTy).Contents (Elt Ideal)} {x1 : (⟨S1x1024, .f32⟩ : BufTy).Contents (Elt Ideal)}
    {x2 x3 : (⟨S1x1024x2816, .f32⟩ : BufTy).Contents (Elt Ideal)} {x4 : (⟨S1x2816x1024, .f32⟩ : BufTy).Contents (Elt Ideal)} {x5 : (⟨S1024, .f32⟩ : BufTy).Contents (Elt Ideal)}
    (e : x0 = m ((c.tc : Thread nD τ).loc main_arg0) ∧ x1 = m ((c.tc : Thread nD τ).loc main_arg1) ∧ x2 = m ((c.tc : Thread nD τ).loc main_arg2)
      ∧ x3 = m ((c.tc : Thread nD τ).loc main_arg3) ∧ x4 = m ((c.tc : Thread nD τ).loc main_arg4) ∧ x5 = m ((c.tc : Thread nD τ).loc main_arg5)
      ∧ x6 = m ((c.tc : Thread nD τ).loc main_arg6)) :
    Cert.LossHeadRefIdeal.Grad.Holds w x0 x1 x2 x3 x4 x5 x6 := by
  obtain ⟨rfl, rfl, rfl, rfl, rfl, rfl, rfl⟩ := e
  exact H

/-- The loss head: the kernel's loss, gradients and activations are the reference's, for finite arguments. -/
theorem loss_value : Cert.algebraic_LossHeadIdeal_LossHeadRefIdeal_pre_loss_finite := by
  pair_intro
  · run_from Cert.LossHeadIdeal.Value.run_blocks m g
  · run_from Cert.LossHeadRefIdeal.Value.run m' g'
    · exact (Cert.LossHeadRefIdeal.Read.val_main_v77_eq m' c).trans
        (final7 (holds m hpre c) _ (Cert.LossHeadRefIdeal.Grad.ref_dx (holds_ref (holds m hpre c) (hagree c)))).symm
    · exact (Cert.LossHeadRefIdeal.Read.val_main_v79_eq _ _).trans
        (final8 (holds m hpre c) _ (Cert.LossHeadRefIdeal.Grad.ref_h2 (holds m hpre c))).symm
    · exact (Cert.LossHeadRefIdeal.Read.val_main_v85_eq _ _ _).trans
        (final9 (holds m hpre c) _ (Cert.LossHeadRefIdeal.Grad.ref_a4 (holds m hpre c))).symm
    · exact (Cert.LossHeadRefIdeal.Read.val_main_v91_eq _ _ _).trans
        (final10 (holds m hpre c) _ (Cert.LossHeadRefIdeal.Grad.ref_b4 (holds m hpre c))).symm
    · exact (Cert.LossHeadRefIdeal.Read.val_main_v92_eq m' c).trans
        (final11 (holds m hpre c) _ (Cert.LossHeadRefIdeal.Grad.ref_loss (holds_ref (holds m hpre c) (hagree c)) 0)).symm
    · exact (Cert.LossHeadRefIdeal.Read.val_main_v93_eq m' c).trans
        (final12 (holds m hpre c) _ (Cert.LossHeadRefIdeal.Grad.ref_dg (holds_ref (holds m hpre c) (hagree c)))).symm

/-- The reference is a host program: it ends and leaves its arguments as they were. -/
theorem frame_ref : Cert.quiescent_LossHeadRefIdeal := by
  intro m g _
  exact (θ_run Cert.LossHeadRefIdeal.defs _ _).mono (fun r h => ⟨fun c => (h c).2.2.2.2.2.2,
    Idealize.ShloMosaic.sem_eq_zero_of_no_sems (by decide) r.2⟩) (Cert.LossHeadRefIdeal.Value.run (F := Ideal) m g)

end Cert.LossHeadIdeal.Grad
end
-- ==== Proof.RelBwd.Spec.lean ====
module

public import proofs.«01_k».proof.Proof.Soft

@[expose] public section

noncomputable section

/-! # The gradient of the relative positions' table: every band entry is added to the row of the table that it was read from -/

namespace Cert.Rel

/-- The table's row that query `i` of a chunk reads for place `j` of its band. -/
def rel (i : Fin 64) (j : Fin 576) : ℕ := min (i.1 + 768 - j.1) 512

/-- The gradient at row `r` of head `h`, from the cotangents of the two chunks of a block. -/
def out (q : Fin 2 → Fin 8 → Fin 64 → Fin 576 → ℝ) (h : Fin 8) (r : ℕ) : ℝ :=
  ∑ i, ∑ j, if rel i j = r then q 0 h i j + q 1 h i j else 0

/-- A band put back along the diagonals: column `n` of query `i` is place `n + i − 63` of its band. -/
def diag (q : Fin 64 → Fin 576 → ℝ) (i : Fin 64) (n : Fin 640) : ℝ :=
  if hb : 63 ≤ i.1 + n.1 ∧ i.1 + n.1 < 639 then q i ⟨i.1 + n.1 - 63, by omega⟩ else 0

/-- Along a diagonal the table's row is one and the same, so summing the diagonals by row sums the bands by row. -/
theorem diag_sum (q : Fin 64 → Fin 576 → ℝ) (r : ℕ) :
    (∑ n : Fin 640, if min (831 - n.1) 512 = r then ∑ i, diag q i n else 0) = ∑ i, ∑ j, if rel i j = r then q i j else 0 := by
  have e : ∀ n : Fin 640, (if min (831 - n.1) 512 = r then ∑ i, diag q i n else 0) = ∑ i, if min (831 - n.1) 512 = r then diag q i n else 0 := by
    intro n
    split
    · rfl
    · exact Finset.sum_const_zero.symm
  rw [Finset.sum_congr rfl fun n _ => e n, Finset.sum_comm]
  refine Finset.sum_congr rfl fun i _ => (Finset.sum_of_injOn (fun j : Fin 576 => (⟨j.1 + 63 - i.1, by omega⟩ : Fin 640)) ?_ (fun _ _ => Finset.mem_coe.2 (Finset.mem_univ _)) ?_ ?_).symm
  · intro j _ j' _ h
    have h' : j.1 + 63 - i.1 = j'.1 + 63 - i.1 := congrArg Fin.val h
    exact Fin.ext (by omega)
  · intro n _ hn
    have hb : ¬(63 ≤ i.1 + n.1 ∧ i.1 + n.1 < 639) := fun hb =>
      hn ⟨⟨i.1 + n.1 - 63, by omega⟩, Finset.mem_coe.2 (Finset.mem_univ _), Fin.ext (by show i.1 + n.1 - 63 + 63 - i.1 = n.1; omega)⟩
    rw [diag, dif_neg hb, ite_self]
  · intro j _
    have hb : 63 ≤ i.1 + (j.1 + 63 - i.1) ∧ i.1 + (j.1 + 63 - i.1) < 639 := by omega
    have hr : min (831 - (j.1 + 63 - i.1)) 512 = rel i j := by unfold rel; omega
    show _ = if min (831 - (j.1 + 63 - i.1)) 512 = r then _ else 0
    rw [hr, diag, dif_pos hb]
    refine congrArg (fun z => if rel i j = r then q i z else 0) (Fin.ext ?_)
    show j.1 = i.1 + (j.1 + 63 - i.1) - 63
    omega

/-- The diagonals of both chunks, summed by row, are the gradient. -/
theorem out_diag (q : Fin 2 → Fin 8 → Fin 64 → Fin 576 → ℝ) (h : Fin 8) (r : ℕ) :
    (∑ n : Fin 640, if min (831 - n.1) 512 = r then (∑ i, diag (q 0 h) i n) + ∑ i, diag (q 1 h) i n else 0) = out q h r := by
  have e : ∀ n : Fin 640, (if min (831 - n.1) 512 = r then (∑ i, diag (q 0 h) i n) + ∑ i, diag (q 1 h) i n else 0)
      = (if min (831 - n.1) 512 = r then ∑ i, diag (q 0 h) i n else 0) + if min (831 - n.1) 512 = r then ∑ i, diag (q 1 h) i n else 0 := by
    intro n
    split
    · rfl
    · exact (add_zero _).symm
  rw [Finset.sum_congr rfl fun n _ => e n, Finset.sum_add_distrib, diag_sum, diag_sum, out, ← Finset.sum_add_distrib]
  refine Finset.sum_congr rfl fun i _ => ?_
  rw [← Finset.sum_add_distrib]
  refine Finset.sum_congr rfl fun j _ => ?_
  split
  · rfl
  · exact add_zero _

/-- No entry reads a row beyond the table's 513. -/
theorem out_pad (q : Fin 2 → Fin 8 → Fin 64 → Fin 576 → ℝ) (h : Fin 8) (r : ℕ) (hr : 513 ≤ r) : out q h r = 0 :=
  Finset.sum_eq_zero fun i _ => Finset.sum_eq_zero fun j _ => if_neg (by unfold rel; omega)

end Cert.Rel
end
-- ==== Proof.RelBwd.Value.lean ====
module

public import proofs.«01_k».proof.Defs
public import proofs.«01_k».proof.Proof.Gen.RelBwdIdeal.Value
public import Idealize.ShloMosaic.Lib.Pipeline.ValueKit
public import Idealize.ShloMosaic.Lib.Pointwise
public import Idealize.ShloMosaic.Lib.Claim
public import proofs.«01_k».proof.Proof.Finite
public import proofs.«01_k».proof.Proof.RelBwd.Spec

@[expose] public section

set_option maxRecDepth 16384

noncomputable section

open Idealize.ShloMosaic Idealize.ShloMosaic.TcCoe Idealize.SL.Sem
open Idealize.ShloMosaic.Pipeline (Dat)

/-! # The gradient of the relative positions' table: what the kernel's array holds -/

namespace Cert.RelBwdIdeal.Grad

open Cert.RelBwdIdeal Cert.RelBwdIdeal.Gen Cert.RelBwdIdeal.Value
open Cert.Rel (rel out diag out_diag)

/-- The precondition's side conditions. -/
instance pre_facts : Cert.Pre_rel_finite.Facts := ⟨by decide⟩

/-- The padding value of the host's two pads. -/
def zero : S_.Idx → EReal := sitofp (F := Ideal) .f32 (constantI S_ 32 0#32)
/-- One chunk's bands put back along the diagonals, as the host code writes it. -/
def skew (x : S8x64x576.Idx → EReal) : S8x64x640.Idx → EReal :=
  extractStridedSlice S8x64x640 ![0, 0, 0] (shapeCast S8x64x641 (pad S8x41024 ![0, 0] ![0, 64] ![0, 0]
    (shapeCast S8x40960 (pad S8x64x640 ![0, 0, 63] ![0, 0, 1] ![0, 0, 0] x zero pads_S8x64x576_S8x64x640_000_000_6310 h_S_) shapeCasts_S8x64x640_S8x40960)
    zero pads_S8x40960_S8x41024_000_0640 h_S_) shapeCasts_S8x41024_S8x64x641) slices_S8x64x641_S8x64x640_0_0_0
/-- The bands of the two chunks of a block, each at its place among the block's keys. -/
def both (ct : S2x8x64x576.Idx → EReal) : S8x128x640.Idx → EReal :=
  concatenate S8x128x640 1 [⟨S8x64x640, concatenate S8x64x640 2 [⟨S8x64x576, shapeCast S8x64x576 (extractStridedSlice S1x8x64x576 ![0, 0, 0, 0] ct slices_S2x8x64x576_S1x8x64x576_0_0_0_0) shapeCasts_S1x8x64x576_S8x64x576⟩,
      ⟨S8x64x64, broadcastInDim S8x64x64 ![] bcast_S_S8x64x64 (constant (F := Ideal) S_ .f32 0x00000000#32)⟩] concatenates_S8x64x576_S8x64x64_S8x64x640_d2⟩,
    ⟨S8x64x640, concatenate S8x64x640 2 [⟨S8x64x64, broadcastInDim S8x64x64 ![] bcast_S_S8x64x64 (constant (F := Ideal) S_ .f32 0x00000000#32)⟩,
      ⟨S8x64x576, shapeCast S8x64x576 (extractStridedSlice S1x8x64x576 ![1, 0, 0, 0] ct slices_S2x8x64x576_S1x8x64x576_1_0_0_0) shapeCasts_S1x8x64x576_S8x64x576⟩] concatenates_S8x64x64_S8x64x576_S8x64x640_d2⟩]
    concatenates_S8x64x640_S8x64x640_S8x128x640_d1
/-- The first chunk's bands, cut out again. -/
def first (ct : S2x8x64x576.Idx → EReal) : S8x64x576.Idx → EReal := extractStridedSlice S8x64x576 ![0, 0, 0] (both ct) slices_S8x128x640_S8x64x576_0_0_0
/-- The second chunk's. -/
def second (ct : S2x8x64x576.Idx → EReal) : S8x64x576.Idx → EReal := extractStridedSlice S8x64x576 ![0, 64, 64] (both ct) slices_S8x128x640_S8x64x576_0_64_64
/-- The diagonals of the two chunks, one below the other. -/
def stacked (x y : S8x64x576.Idx → EReal) : S8x128x640.Idx → EReal :=
  concatenate S8x128x640 1 [⟨S8x64x640, skew x⟩, ⟨S8x64x640, skew y⟩] concatenates_S8x64x640_S8x64x640_S8x128x640_d1

theorem first_at (ct : S2x8x64x576.Idx → EReal) (h : Fin 8) (i : Fin 64) (j : Fin 576) : first ct (ix3 h i j) = ct (ix4 (0 : Fin 2) h i j) := by
  pointwise [first, both]
theorem second_at (ct : S2x8x64x576.Idx → EReal) (h : Fin 8) (i : Fin 64) (j : Fin 576) : second ct (ix3 h i j) = ct (ix4 (1 : Fin 2) h i j) := by
  pointwise [second, both]

theorem zero_word : FloatOps.sitofp (F := Ideal) FTy.f32 0#32 = (0 : EReal) := by simp [FloatOps.sitofp]

/-- The diagonals, as the two pads and the change of row length place them. -/
theorem skew_val (x : S8x64x576.Idx → EReal) (h : Fin 8) (i : Fin 64) (n : Fin 640) : skew x (ix3 h i n)
    = if h1 : i.1 * 641 + n.1 < 40960 then
        if h2 : (i.1 * 641 + n.1) / 640 < 64 ∧ 63 ≤ (i.1 * 641 + n.1) % 640 ∧ (i.1 * 641 + n.1) % 640 - 63 < 576 then
          x (ix3 h (⟨(i.1 * 641 + n.1) / 640, h2.1⟩ : Fin 64) (⟨(i.1 * 641 + n.1) % 640 - 63, h2.2.2⟩ : Fin 576))
        else FloatOps.sitofp (F := Ideal) FTy.f32 0#32
      else FloatOps.sitofp (F := Ideal) FTy.f32 0#32 := by
  pointwise [skew, zero]

/-- The diagonals, place by place. -/
theorem skew_at (x : S8x64x576.Idx → EReal) (q : Fin 64 → Fin 576 → ℝ) (h : Fin 8) (hx : ∀ i j, x (ix3 h i j) = (q i j : EReal)) (i : Fin 64) (n : Fin 640) :
    skew x (ix3 h i n) = (diag q i n : EReal) := by
  have hi := i.2
  have hn := n.2
  rw [skew_val]
  unfold diag
  by_cases hb : 63 ≤ i.1 + n.1 ∧ i.1 + n.1 < 639
  · have e1 : i.1 * 641 + n.1 < 40960 := by omega
    have e2 : (i.1 * 641 + n.1) / 640 = i.1 := by omega
    have e3 : (i.1 * 641 + n.1) % 640 = i.1 + n.1 := by omega
    have e4 : (i.1 * 641 + n.1) / 640 < 64 ∧ 63 ≤ (i.1 * 641 + n.1) % 640 ∧ (i.1 * 641 + n.1) % 640 - 63 < 576 := by omega
    rw [dif_pos hb, dif_pos e1, dif_pos e4, ← hx]
    refine congrArg x (congr (congrArg (ix3 h) (Fin.ext e2)) (Fin.ext ?_))
    show (i.1 * 641 + n.1) % 640 - 63 = i.1 + n.1 - 63
    rw [e3]
  · rw [dif_neg hb]
    by_cases h1 : i.1 * 641 + n.1 < 40960
    · rw [dif_pos h1, dif_neg (fun hh => hb (by omega))]; exact zero_word
    · rw [dif_neg h1]; exact zero_word

theorem stacked_top (x y : S8x64x576.Idx → EReal) (h : Fin 8) (i : Fin 64) (n : Fin 640) :
    stacked x y (ix3 h (⟨i.1, by omega⟩ : Fin 128) n) = skew x (ix3 h i n) := by pointwise [stacked]
theorem stacked_bot (x y : S8x64x576.Idx → EReal) (h : Fin 8) (i : Fin 64) (n : Fin 640) :
    stacked x y (ix3 h (⟨64 + i.1, by omega⟩ : Fin 128) n) = skew y (ix3 h i n) := by pointwise [stacked]

/-- The entries of the stacked diagonals sum to the sums of both chunks'. -/
theorem stacked_sum (x y : S8x64x576.Idx → EReal) (h : Fin 8) (n : Fin 640) :
    ∑ i : Fin 128, stacked x y (ix3 h i n) = (∑ i : Fin 64, skew x (ix3 h i n)) + ∑ i : Fin 64, skew y (ix3 h i n) := by
  generalize hs : stacked x y = s
  refine (Fin.sum_univ_add (a := 64) (b := 64) fun i => s (ix3 h i n)).trans ?_
  subst hs
  exact congr (congrArg _ (Finset.sum_congr rfl fun i _ => stacked_top x y h i n)) (Finset.sum_congr rfl fun i _ => stacked_bot x y h i n)

variable (m : (ℓ : Loc nD τ sig) → Buf (Elt Ideal) ℓ) (c : Dev nD)

/-- The kernel's argument: the stacked diagonals. -/
theorem z_term : V m c main_v20 = stacked (first (m ((c.tc : Thread nD τ).loc main_arg0))) (second (m ((c.tc : Thread nD τ).loc main_arg0))) := by
  simp only [V, hostOps0, hostOps0_1, hostOps0_2, hostOps0_3, hostOps0_4, hostOps0_5, hostOps0_6, hostOps0_7, hostOps0_8, List.flatten_cons, List.flatten_nil, List.cons_append, List.nil_append, List.append_nil]
  entry_read
  rfl

/-- The row that column `n` belongs to, as the kernel computes it. -/
theorem clip_word : ∀ n : Fin 640, IntOp.addi (IntOp.minsi 256#32 (IntOp.maxsi 4294967040#32 (IntOp.subi 575#32 (BitVec.ofNat 32 n.1)))) 256#32
    = BitVec.ofNat 32 (min (831 - n.1) 512) := by decide +kernel

theorem hit (r n : Fin 640) (a : EReal) : Scalar.select (IntOp.cmpi CmpIPredicate.eq (BitVec.ofNat 32 r.1)
    (IntOp.addi (IntOp.minsi 256#32 (IntOp.maxsi 4294967040#32 (IntOp.subi 575#32 (BitVec.ofNat 32 n.1)))) 256#32)) a 0 = if min (831 - n.1) 512 = r.1 then a else 0 := by
  rw [clip_word]
  have hr := r.2
  have e : BitVec.ofNat 32 r.1 = BitVec.ofNat 32 (min (831 - n.1) 512) ↔ min (831 - n.1) 512 = r.1 := by
    constructor
    · intro h
      have := congrArg BitVec.toNat h
      simp only [BitVec.toNat_ofNat] at this
      omega
    · intro h; rw [h]
  by_cases h : min (831 - n.1) 512 = r.1
  · rw [if_pos h, h]; simp [Scalar.select, IntOp.cmpi]
  · rw [if_neg h]
    have hb : (BitVec.ofNat 32 r.1 == BitVec.ofNat 32 (min (831 - n.1) 512)) = false := beq_eq_false_iff_ne.2 fun hh => h (e.1 hh)
    simp [Scalar.select, IntOp.cmpi, hb]

/-- The kernel's product with the marks of the rows sums the columns by row; the parts of the split below the first are zero. -/
theorem pay (z : Vec Ideal S8x128x640 .f32) (h : Fin 8) (r : Fin 640) (s : Fin 640 → ℝ) (hs : ∀ n, ∑ i : Fin 128, z (ix3 h i n) = (s n : EReal)) :
    k0_pay1 z (ix2 h r) = ((∑ n : Fin 640, if min (831 - n.1) 512 = r.1 then s n else 0 : ℝ) : EReal) := by
  have hz : ∀ n, (s n : EReal) - (s n : EReal) = 0 := fun n => by rw [← EReal.coe_sub, sub_self, EReal.coe_zero]
  pointwise [k0_pay1]
  simp only [hs, hz, sub_zero, hit, ite_self, Finset.sum_const_zero, add_zero]
  rw [Soft.coe_sum]
  exact Finset.sum_congr rfl fun n _ => by split <;> rfl

/-- What the kernel makes of the stacked diagonals. -/
theorem pay_stacked (x : S2x8x64x576.Idx → EReal) (q : Fin 2 → Fin 8 → Fin 64 → Fin 576 → ℝ) (H : ∀ p h i j, x (ix4 p h i j) = (q p h i j : EReal)) (h : Fin 8) (r : Fin 640) :
    k0_pay1 (F := Ideal) (stacked (first x) (second x)) (ix2 h r) = (out q h r.1 : EReal) := by
  refine (pay _ h r (fun n => (∑ i, diag (q 0 h) i n) + ∑ i, diag (q 1 h) i n) fun n => ?_).trans ?_
  · rw [stacked_sum, EReal.coe_add, Soft.coe_sum, Soft.coe_sum]
    exact congr (congrArg _ (Finset.sum_congr rfl fun i _ => skew_at _ _ _ (fun i j => (first_at _ _ _ _).trans (H 0 _ _ _)) i n))
      (Finset.sum_congr rfl fun i _ => skew_at _ _ _ (fun i j => (second_at _ _ _ _).trans (H 1 _ _ _)) i n)
  · rw [out_diag]

/-- The one grid point's blocks are the whole arrays. -/
theorem idx : ∀ t : Fin cfg0.N, win0_0.index t = ![0, 0, 0] ∧ win0_1.index t = ![0, 0] := (by decide +kernel : ∀ t : Fin grid0.N, _)

/-- The kernel's array. -/
theorem final1 (q : Fin 2 → Fin 8 → Fin 64 → Fin 576 → ℝ) (H : ∀ p h i j, m ((c : Thread nD τ).loc main_arg0) (ix4 p h i j) = (q p h i j : EReal))
    (f : S8x640.Idx → Elt Ideal .f32) (hf : ∀ h r, f (ix2 h r) = (out q h r.1 : EReal)) : (dats m 0 c).arrAt 1 cfg0.N = f := by
  refine (dats m 0 c).arrAt_eq_of_covers 1 f (by decide +kernel) fun t _ y => ?_
  have e : iblk m c 0 t = stacked (first (m ((c.tc : Thread nD τ).loc main_arg0))) (second (m ((c.tc : Thread nD τ).loc main_arg0))) := by
    rw [← z_term]
    funext y
    blk_point [iblk, idx t]
  blk_simp
  rw [after0_1, e]
  frame_out [out0_1]
  have hy : (((cfg0.win 1).blk t).view.emb y : S8x640.Idx) = ix2 (y 0) (y 1) := by blk_ext [idx t]
  rw [hy]
  exact (congrArg _ (eq_ix2 (y : S8x640.Idx))).trans ((pay_stacked _ q H _ _).trans (hf _ _).symm)

end Cert.RelBwdIdeal.Grad
end
-- ==== Proof.RelBwd.Ref.lean ====
module

public import proofs.«01_k».proof.Proof.Gen.RelBwdRefIdeal.Run
public import proofs.«01_k».proof.Proof.Gen.RelBwdRefIdeal.Read
public import Idealize.ShloMosaic.Lib.Pipeline.ValueKit
public import Idealize.ShloMosaic.Lib.Pointwise
public import proofs.«01_k».proof.Proof.Reduce1
public import proofs.«01_k».proof.Proof.RelBwd.Spec

@[expose] public section

set_option maxRecDepth 16384

noncomputable section

open Idealize.ShloMosaic Idealize.ShloMosaic.TcCoe Idealize.SL.Sem

/-! # The gradient of the relative positions' table: what the reference computes -/

namespace Cert.RelBwdRefIdeal.Grad

open Cert.RelBwdRefIdeal Cert.RelBwdRefIdeal.Read
open Cert.Rel (rel out out_pad)

/-- The row of the table that a place of a band reads, as the reference computes it. -/
theorem clip_word : ∀ (i : Fin 64) (j : Fin 576),
    IntOp.addi (IntOp.minsi 256#32 (IntOp.maxsi 4294967040#32 (IntOp.subi (IntOp.addi (BitVec.ofNat 32 i.1) 512#32) (BitVec.ofNat 32 j.1)))) 256#32
      = BitVec.ofNat 32 (rel i j) := by decide +kernel

/-- No row of the table is negative, so no index counts from the end. -/
theorem index_at (i : Fin 64) (j : Fin 576) : val_main_v18 (F := Ideal) (ix3 i j (0 : Fin 1)) = BitVec.ofNat 32 (rel i j) := by
  pointwise [val_main_v18, val_main_v17, val_main_v16, val_main_v15, val_main_v14, val_main_v13, val_main_v12, val_main_v11, val_main_v10, val_main_v9, val_main_v8, val_main_v7, val_main_v6, val_main_v5,
    val_main_v4, val_main_v3, val_main_v2, val_main_v1, val_main_call0_v4, val_main_call0_v3, val_main_call0_v2, val_main_call0_v1, val_main_call0_v0, val_main_c, val_main_c_0, val_main_c_1, val_main_c_2, val_main_c_3, val_main_c_4]
  have e := clip_word i j
  have hr : rel i j ≤ 512 := Nat.min_le_right _ _
  show Scalar.select (IntOp.cmpi .slt (IntOp.addi (IntOp.minsi 256#32 (IntOp.maxsi 4294967040#32 _)) 256#32) 0#32) _ (IntOp.addi (IntOp.minsi 256#32 (IntOp.maxsi 4294967040#32 _)) 256#32) = _
  rw [e]
  generalize rel i j = n at hr ⊢
  have hs : IntOp.cmpi CmpIPredicate.slt (BitVec.ofNat 32 n) 0#32 = 0#1 := by
    have : ∀ n : Fin 513, IntOp.cmpi CmpIPredicate.slt (BitVec.ofNat 32 n.1) 0#32 = 0#1 := by decide +kernel
    exact this ⟨n, by omega⟩
  rw [hs]; rfl

theorem two (a : Fin 2) : a = 0 ∨ a = 1 := by omega

/-- Where an update of the scatter lands: at its own head, and the row its index names. -/
theorem lands (ix : IVec S64x576x1 32) (n : Fin 64 → Fin 576 → ℕ) (hn : ∀ i j, n i j < 513)
    (hx : ∀ i j, ix (ix3 i j (0 : Fin 1)) = BitVec.ofNat 32 (n i j)) (h : Fin 8) (i : Fin 64) (j : Fin 576) :
    ScatterDims.resultIdx? scatter_S8x513_S64x576x1_S8x64x576_0_1_1_2 (ix3 h i j) ix = some (ix2 h (⟨n i j, hn i j⟩ : Fin 513)) := by
  have hw0 : ScatterDims.window scatter_S8x513_S64x576x1_S8x64x576_0_1_1_2 (ix3 h i j) (0 : Fin 2) = h.1 := by
    unfold ScatterDims.window
    rw [dif_pos (by decide)]; rfl
  have hw1 : ScatterDims.window scatter_S8x513_S64x576x1_S8x64x576_0_1_1_2 (ix3 h i j) (1 : Fin 2) = 0 := by
    unfold ScatterDims.window
    rw [dif_neg (by decide)]
  have hs0 : ScatterDims.start scatter_S8x513_S64x576x1_S8x64x576_0_1_1_2 (ix3 h i j) ix (0 : Fin 2) = 0 := by
    unfold ScatterDims.start
    rw [dif_neg (by decide)]
  have hs1 : ScatterDims.start scatter_S8x513_S64x576x1_S8x64x576_0_1_1_2 (ix3 h i j) ix (1 : Fin 2) = n i j := by
    unfold ScatterDims.start
    rw [dif_pos (by decide)]
    have hsi : ScatterDims.siIdx scatter_S8x513_S64x576x1_S8x64x576_0_1_1_2 (ix3 h i j) ⟨0, by decide⟩ = ix3 i j (0 : Fin 1) := by
      funext c; refine Fin.ext ?_
      match c with
      | ⟨0, _⟩ => rfl
      | ⟨1, _⟩ => rfl
      | ⟨2, _⟩ => rfl
    refine (congrArg (fun z => (ix z).toInt) hsi).trans ?_
    rw [hx]
    have := hn i j
    rw [BitVec.toInt_eq_toNat_of_lt (by simp; omega)]; simp; omega
  have hh := h.2
  have hb := hn i j
  have key : ∀ a : Fin 2, ScatterDims.start scatter_S8x513_S64x576x1_S8x64x576_0_1_1_2 (ix3 h i j) ix a + ScatterDims.window scatter_S8x513_S64x576x1_S8x64x576_0_1_1_2 (ix3 h i j) a
      = ((ix2 h (⟨n i j, hn i j⟩ : Fin 513) : S8x513.Idx) a).1 := by
    intro a
    rcases two a with rfl | rfl
    · rw [hw0, hs0, zero_add]; rfl
    · rw [hw1, hs1]; exact add_zero _
  unfold ScatterDims.resultIdx?
  rw [dif_pos (fun a => by
    rw [key a]
    exact ⟨Int.natCast_nonneg _, Int.ofNat_lt.2 (Fin.isLt _)⟩)]
  exact congrArg some (funext fun a => Fin.ext ((congrArg Int.toNat (key a)).trans (Int.toNat_natCast _)))

variable (x0 : (⟨S2x8x64x576, .f32⟩ : BufTy).Contents (Elt Ideal)) (q : Fin 2 → Fin 8 → Fin 64 → Fin 576 → ℝ) (H : ∀ p h i j, x0 (ix4 p h i j) = (q p h i j : EReal))
include H

theorem upd_at (h : Fin 8) (i : Fin 64) (j : Fin 576) : val_main_v24 (F := Ideal) x0 (ix3 h i j) = ((q 0 h i j + q 1 h i j : ℝ) : EReal) := by
  pointwise [val_main_v24, val_main_v23, val_main_v22, val_main_cst_5, val_main_cst_6]
  rw [Fin.sum_univ_one, Fin.sum_univ_two, H, H, EReal.coe_add]

/-- The scattered sum. -/
theorem table_at (h : Fin 8) (r : Fin 513) : val_main_v26 (F := Ideal) x0 (ix2 h r) = (out q h r.1 : EReal) := by
  have hr : ∀ i j, rel i j < 513 := fun i j => Nat.lt_succ_of_le (Nat.min_le_right _ _)
  show val_main_v25 (F := Ideal) (ix2 h r) + ∑ k ∈ Finset.univ.filter (fun k => ScatterDims.resultIdx? scatter_S8x513_S64x576x1_S8x64x576_0_1_1_2 k (val_main_v18 (F := Ideal)) = some (ix2 h r)), val_main_v24 (F := Ideal) x0 k = _
  have h0 : val_main_v25 (F := Ideal) (ix2 h r) = (0 : EReal) := by pointwise [val_main_v25, val_main_cst_7]
  have e : out q h r.1 = ∑ p ∈ Finset.univ.filter (fun p : Fin 64 × Fin 576 => rel p.1 p.2 = r.1), (q 0 h p.1 p.2 + q 1 h p.1 p.2) := by
    rw [Finset.sum_filter, Fintype.sum_prod_type]; rfl
  have land := fun h i j => lands (val_main_v18 (F := Ideal)) rel hr index_at h i j
  rw [h0, zero_add, e, Soft.coe_sum]
  refine (Finset.sum_nbij (fun p : Fin 64 × Fin 576 => (ix3 h p.1 p.2 : S8x64x576.Idx)) (fun p hp => ?_) (fun p _ p' _ hpp => ?_) (fun k hk => ?_) (fun p _ => ?_)).symm
  · refine Finset.mem_filter.2 ⟨Finset.mem_univ _, (land h p.1 p.2).trans (congrArg (fun z => some (ix2 h z)) (Fin.ext (Finset.mem_filter.1 hp).2))⟩
  · exact Prod.ext (congrFun hpp 1) (congrFun hpp 2)
  · have hk' := (Finset.mem_filter.1 (Finset.mem_coe.1 hk)).2
    have hi := Option.some.inj (((land (k 0) (k 1) (k 2)).symm.trans (congrArg (fun z => ScatterDims.resultIdx? _ z _) (eq_ix3 k).symm)).trans hk')
    have e0 : k 0 = h := congrFun hi 0
    have e1 : rel (k 1) (k 2) = r.1 := congrArg Fin.val (congrFun hi 1)
    refine ⟨(k 1, k 2), Finset.mem_coe.2 (Finset.mem_filter.2 ⟨Finset.mem_univ _, e1⟩), ?_⟩
    refine Eq.trans ?_ (eq_ix3 k).symm
    rw [← e0]
  · exact (upd_at x0 q H h p.1 p.2).symm

/-- The reference's array. -/
theorem ref_at (h : Fin 8) (r : Fin 640) : val_main_v28 (F := Ideal) x0 (ix2 h r) = (out q h r.1 : EReal) := by
  by_cases hr : r.1 < 513
  · have e : val_main_v28 (F := Ideal) x0 (ix2 h r) = val_main_v26 (F := Ideal) x0 (ix2 h (⟨r.1, hr⟩ : Fin 513)) :=
      concatenate_pair_apply_left (t := S8x640) (s₁ := S8x513) (s₂ := S8x127) 1 _ _ _ _ rfl _ fun b => by fin_cases b <;> rfl
    exact e.trans (table_at x0 q H h _)
  · have hr' := r.2
    have e : val_main_v28 (F := Ideal) x0 (ix2 h r) = val_main_v27 (F := Ideal) (ix2 h (⟨r.1 - 513, by omega⟩ : Fin 127)) := by
      refine concatenate_pair_apply_right (t := S8x640) (s₁ := S8x513) (s₂ := S8x127) 1 _ _ _ _ rfl rfl _ (fun b hb => ?_) ?_
      · fin_cases b
        · rfl
        · exact absurd rfl hb
      · show r.1 - 513 + 513 = r.1
        omega
    rw [e, out_pad q h r.1 (by omega)]
    pointwise [val_main_v27, val_main_cst_8]
    rfl

omit H in
/-- The reference's run, with its array read operation by operation. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = val_main_v28 (F := Ideal) (m ((c.tc : Thread nD τ).loc main_arg0))
      ∧ r.2.mem ((c.tc : Thread nD τ).loc main_arg0) = m ((c.tc : Thread nD τ).loc main_arg0) :=
  (θ_run defs _ _).mono (fun r h c => ⟨(h c).1.trans (val_main_v28_eq (F := Ideal) (m ((c.tc : Thread nD τ).loc main_arg0))), (h c).2⟩)
    (Value.run (F := Ideal) m ρ)

end Cert.RelBwdRefIdeal.Grad
end
-- ==== Proof.RelBwd.Pair.lean ====
module
public import proofs.«01_k».proof.Defs
public import proofs.«01_k».proof.Proof.RelBwd.Value
public import proofs.«01_k».proof.Proof.RelBwd.Ref
@[expose] public section
noncomputable section

/-! # The gradient of the relative positions' table: the two programs agree -/

namespace Cert.RelBwdIdeal.Grad
open Idealize.ShloMosaic Idealize.SL.Sem

/-- Finite cotangents as reals. -/
def real (m : (ℓ : Loc nD τ sig) → Buf (Elt Ideal) ℓ) (c : Dev nD) (p : Fin 2) (h : Fin 8) (i : Fin 64) (j : Fin 576) : ℝ :=
  EReal.toReal (m ((c.tc : Thread nD τ).loc main_arg0) (ix4 p h i j))

theorem holds {m : (ℓ : Loc nD τ sig) → Buf (Elt Ideal) ℓ} (hp : Cert.Pre_RelBwdIdeal_rel_finite m) (c : Dev nD) (p : Fin 2) (h : Fin 8) (i : Fin 64) (j : Fin 576) :
    m ((c.tc : Thread nD τ).loc main_arg0) (ix4 p h i j) = (real m c p h i j : EReal) :=
  Finite.finite_reads _ (fun _ => 0) _ (hp c) _

/-- The kernel's gradient of the table is the reference's, for finite cotangents. -/
theorem rel_value : Cert.algebraic_RelBwdIdeal_RelBwdRefIdeal_pre_rel_finite := by
  pair_intro
  · run_from Cert.RelBwdIdeal.Value.run_blocks m g
  · run_from Cert.RelBwdRefIdeal.Grad.run_val m' g'
    · exact (final1 m c (real m c) (holds hpre c) _ (Cert.RelBwdRefIdeal.Grad.ref_at _ (real m c) (holds hpre c))).symm

/-- The reference is a host program: it ends and leaves its arguments as they were. -/
theorem frame_ref : Cert.quiescent_RelBwdRefIdeal := by
  intro m g _
  exact (θ_run Cert.RelBwdRefIdeal.defs _ _).mono (fun r h => ⟨fun c => (h c).2,
    Idealize.ShloMosaic.sem_eq_zero_of_no_sems (by decide) r.2⟩) (Cert.RelBwdRefIdeal.Value.run (F := Ideal) m g)

end Cert.RelBwdIdeal.Grad
end
-- ==== Proof.AttFwd.Block.lean ====
module
public import proofs.«01_k».proof.Proof.Gen.AttFwdIdeal.Skeleton

/-! What one trip of the forward attention's loops computes: a block of 128 queries against a window of 640 keys, the eight heads below
    each other, as operations on whole vectors with the head as a parameter. -/

@[expose] public section
set_option maxRecDepth 16384
noncomputable section
open Idealize.ShloMosaic Idealize.ShloMosaic.TcCoe

namespace Cert.AttFwdIdeal.Att
open Cert.AttFwdIdeal Facts₀ Facts

variable {F : FTy → Type} [FloatOps F] [Named F]

theorem cols640 : ∀ h : Fin 8, S640x512.Slices ![0, 64 * h.val] S640x64 := by decide
theorem cols128 : ∀ h : Fin 8, S128x512.Slices ![0, 64 * h.val] S128x64 := by decide
theorem rows640 : ∀ h : Fin 8, S1024x640.Slices ![128 * h.val, 0] S128x640 := by decide
theorem rows1 : ∀ h : Fin 8, S1024x1.Slices ![128 * h.val, 0] S128x1 := by decide
theorem slabs : ∀ h : Fin 8, ∀ a : Fin S8x128x640.rank, (![h.val, 0, 0] : Fin 3 → Nat) a + S1x128x640.size a ≤ S8x128x640.size a := by decide

/-- Head `h` of the queries against head `h` of the keys. -/
def dotQK (h : Fin 8) (q : FVec F S128x512 .bf16) (k : FVec F S640x512 .bf16) : FVec F S128x640 .f32 :=
  matmul dot_S128x64_S640x64_S128x640_1_1_0_0_n_n none (extractStridedSlice S128x64 ![0, 64 * h.val] q (cols128 h))
    (extractStridedSlice S640x64 ![0, 64 * h.val] k (cols640 h)) (constant S128x640 .f32 0x00000000#32)

/-- Rows of head `h` against head `h` of the values. -/
def dotEV (h : Fin 8) (e : FVec F S1024x640 .bf16) (v : FVec F S640x512 .bf16) : FVec F S128x64 .f32 :=
  matmul dot_S128x640_S640x64_S128x64_1_0_0_1_n_n none (extractStridedSlice S128x640 ![128 * h.val, 0] e (rows640 h))
    (extractStridedSlice S640x64 ![0, 64 * h.val] v (cols640 h)) (constant S128x64 .f32 0x00000000#32)

/-- The heads below each other. -/
def tall (f : Fin 8 → FVec F S128x640 .f32) : FVec F S1024x640 .f32 :=
  concatenate S1024x640 0 (List.ofFn fun h : Fin 8 => (⟨S128x640, f h⟩ : (s : Shape) × (s.Idx → F .f32)))
    concatenates_S128x640_S128x640_S128x640_S128x640_S128x640_S128x640_S128x640_S128x640_S1024x640_d0

/-- The heads' columns side by side. -/
def cat128 (f : Fin 8 → FVec F S128x64 .f32) : FVec F S128x512 .f32 :=
  concatenate S128x512 1 (List.ofFn fun h : Fin 8 => (⟨S128x64, f h⟩ : (s : Shape) × (s.Idx → F .f32)))
    concatenates_S128x64_S128x64_S128x64_S128x64_S128x64_S128x64_S128x64_S128x64_S128x512_d1

/-- The queries times an eighth. -/
def scaled (q : Vec F S128x512 .bf16) : FVec F S128x512 .bf16 := mulf q (broadcast S128x512 (Scalar.ofBits .bf16 0x3E00#16))

/-- The scores: the queries of each head down, keys across. -/
def scores (q : FVec F S128x512 .bf16) (k : FVec F S640x512 .bf16) (bias : Fin 8 → Vec F S1x128x640 .f32) : FVec F S1024x640 .f32 :=
  tall fun h => addf (dotQK h q k) (shapeCast S128x640 (bias h) shapeCasts_S1x128x640_S128x640)

/-- The scores with the keys before the sequence masked. -/
def masked (ok : IVec S1x640 1) (s : FVec F S1024x640 .f32) : FVec F S1024x640 .f32 :=
  select (broadcastTo S1024x640 (shapeCast S1x640 ok shapeCasts_S1x640_S1x640) broadcasts_S1x640_S1024x640) s
    (broadcast S1024x640 (Named.named κ "mask" 0xF149F2CA#32))

/-- The exponentials of the scores less their maximum along the keys. -/
def expo (s : FVec F S1024x640 .f32) : FVec F S1024x640 .f32 :=
  exp (subf s (broadcastTo S1024x640 (shapeCast S1024x1 (multiReduction .maximumf [1] S1024 s 0xFF800000#32 reduces_S1024x640_S1024 (.inl rfl) rfl)
    shapeCasts_S1024_S1024x1) broadcasts_S1024x1_S1024x640))

/-- One over the exponentials' sum along the keys. -/
def rinv (e : FVec F S1024x640 .f32) : FVec F S1024x1 .f32 :=
  divf (broadcast S1024x1 (Scalar.ofBits .f32 0x3F800000#32))
    (shapeCast S1024x1 (multiReduction .add [1] S1024 e 0x00000000#32 reduces_S1024x640_S1024 (.inl rfl) rfl) shapeCasts_S1024_S1024x1)

/-- What a block writes: each head's exponentials against its values, over the exponentials' sum. -/
def outOf (e : FVec F S1024x640 .f32) (v : FVec F S640x512 .bf16) : FVec F S128x512 .bf16 :=
  truncf .bf16 (cat128 fun h => mulf (dotEV h (truncf .bf16 e bitsLt_bf16_f32) v)
    (broadcastTo S128x64 (extractStridedSlice S128x1 ![128 * h.val, 0] (rinv e) (rows1 h)) broadcasts_S128x1_S128x64)) bitsLt_bf16_f32

end Cert.AttFwdIdeal.Att
end
-- ==== Proof.AttFwd.Trips.lean ====
module
public import proofs.«01_k».proof.Proof.Gen.AttFwdIdeal.Loops
public import proofs.«01_k».proof.Proof.AttFwd.Block

/-! The piece that a trip of each loop writes, in the vectors of `Block`. -/

@[expose] public section
set_option maxRecDepth 16384
noncomputable section
open Idealize.ShloMosaic Idealize.ShloMosaic.TcCoe

namespace Cert.AttFwdIdeal.Att
open Cert.AttFwdIdeal Cert.AttFwdIdeal.Gen Facts₀ Facts

variable {F : FTy → Type} [FloatOps F] [Named F]

theorem trips1 : k0_t1_loop.trips = 4 := by decide
theorem trips2 : k0_t2_loop.trips = 28 := by decide
theorem q_inb : ∀ i : Fin 32, ∀ a : Fin S4096x512.rank, (![128 * i.val, 0] : Fin 2 → Nat) a + S128x512.size a ≤ S4096x512.size a := by decide
theorem k_inb : ∀ i : Fin 32, ∀ a : Fin S4608x512.rank, (![128 * i.val, 0] : Fin 2 → Nat) a + S640x512.size a ≤ S4608x512.size a := by decide

/-- The rectangle of a head's slab of the bias, of block `i`'s queries, and of its window of keys. -/
abbrev slab (h : Fin 8) : Rect S8x128x640 := Rect.unit ![h.val, 0, 0] S1x128x640.size (slabs h)
abbrev qR (i : Fin 32) : Rect S4096x512 := Rect.unit (s := S4096x512) ![128 * i.val, 0] S128x512.size (q_inb i)
abbrev kR (i : Fin 32) : Rect S4608x512 := Rect.unit (s := S4608x512) ![128 * i.val, 0] S640x512.size (k_inb i)

/-- What lies in a rectangle of an array. -/
abbrev cut {α : Type} {s : Shape} (r : Rect s) (A : s.Idx → α) : r.shape.Idx → α := fun x => A (r.toLoadRect.idx x)

/-- The block a trip of the first loop, or of the second, is. -/
def i1 (k : Fin k0_t1_loop.trips) : Fin 32 := ⟨k.val, (k.isLt.trans_eq trips1).trans (by decide)⟩
def i2 (k : Fin k0_t2_loop.trips) : Fin 32 := ⟨k.val + 4, Nat.add_lt_add_right (k.isLt.trans_eq trips2) 4⟩

theorem off1 : ∀ k : Fin k0_t1_loop.trips, k0_off1 k = ![128 * k.val, 0] ∧ k0_off2 k = ![128 * k.val, 0] := by decide
theorem off2 : ∀ k : Fin k0_t2_loop.trips, k0_off3 k = ![128 * (k.val + 4), 0] ∧ k0_off4 k = ![128 * (k.val + 4), 0] := by decide

/-- The mask of the trip that is block `i`. -/
def maskOf (i : Fin 32) (h : i.val < 4) : IVec S1x640 1 := k0_pay3 0#32 1#32 ⟨i.val, h.trans_eq trips1.symm⟩

/-- The scores of block `i`, masked in the first four. -/
def scoresOf (B : Vec F S8x128x640 .f32) (Q : Vec F S4096x512 .bf16) (K : Vec F S4608x512 .bf16) (i : Fin 32) : FVec F S1024x640 .f32 :=
  scores (scaled (cut (qR i) Q)) (cut (kR i) K) fun h => cut (slab h) B
def exps (B : Vec F S8x128x640 .f32) (Q : Vec F S4096x512 .bf16) (K : Vec F S4608x512 .bf16) (i : Fin 32) : FVec F S1024x640 .f32 :=
  expo (if h : i.val < 4 then masked (maskOf i h) (scoresOf B Q K i) else scoresOf B Q K i)
/-- What block `i` writes. -/
def blockOut (B : Vec F S8x128x640 .f32) (Q : Vec F S4096x512 .bf16) (K V : Vec F S4608x512 .bf16) (i : Fin 32) : FVec F S128x512 .bf16 :=
  outOf (exps B Q K i) (cut (kR i) V)

/-- The same at the offsets as the loops compute them. -/
def raw1 (B : Vec F S8x128x640 .f32) (Q : Vec F S4096x512 .bf16) (K V : Vec F S4608x512 .bf16) (k : Fin k0_t1_loop.trips) (o o' : Fin 2 → Nat)
    (ho : ∀ a : Fin S4096x512.rank, o a + S128x512.size a ≤ S4096x512.size a) (ho' : ∀ a : Fin S4608x512.rank, o' a + S640x512.size a ≤ S4608x512.size a) : View.Piece (Elt F) S4096x512 .bf16 :=
  ⟨Rect.unit (s := S4096x512) o S128x512.size ho, outOf (expo (masked (k0_pay3 0#32 1#32 k) (scores (scaled (cut (Rect.unit (s := S4096x512) o S128x512.size ho) Q))
    (cut (Rect.unit (s := S4608x512) o' S640x512.size ho') K) fun h => cut (slab h) B))) (cut (Rect.unit (s := S4608x512) o' S640x512.size ho') V)⟩
def raw2 (B : Vec F S8x128x640 .f32) (Q : Vec F S4096x512 .bf16) (K V : Vec F S4608x512 .bf16) (o o' : Fin 2 → Nat)
    (ho : ∀ a : Fin S4096x512.rank, o a + S128x512.size a ≤ S4096x512.size a) (ho' : ∀ a : Fin S4608x512.rank, o' a + S640x512.size a ≤ S4608x512.size a) : View.Piece (Elt F) S4096x512 .bf16 :=
  ⟨Rect.unit (s := S4096x512) o S128x512.size ho, outOf (expo (scores (scaled (cut (Rect.unit (s := S4096x512) o S128x512.size ho) Q))
    (cut (Rect.unit (s := S4608x512) o' S640x512.size ho') K) fun h => cut (slab h) B)) (cut (Rect.unit (s := S4608x512) o' S640x512.size ho') V)⟩

theorem raw1_eq (B : Vec F S8x128x640 .f32) (Q : Vec F S4096x512 .bf16) (K V : Vec F S4608x512 .bf16) (k : Fin k0_t1_loop.trips) (o o' : Fin 2 → Nat) (ho ho')
    (e : o = ![128 * k.val, 0]) (e' : o' = ![128 * k.val, 0]) : raw1 B Q K V k o o' ho ho' = ⟨qR (i1 k), blockOut B Q K V (i1 k)⟩ := by
  subst e e'
  have h : (i1 k).val < 4 := k.isLt.trans_eq trips1
  unfold raw1 blockOut exps
  rw [dif_pos h]; rfl
theorem raw2_eq (B : Vec F S8x128x640 .f32) (Q : Vec F S4096x512 .bf16) (K V : Vec F S4608x512 .bf16) (k : Fin k0_t2_loop.trips) (o o' : Fin 2 → Nat) (ho ho')
    (e : o = ![128 * (k.val + 4), 0]) (e' : o' = ![128 * (k.val + 4), 0]) : raw2 B Q K V o o' ho ho' = ⟨qR (i2 k), blockOut B Q K V (i2 k)⟩ := by
  subst e e'
  have h : ¬ (i2 k).val < 4 := by show ¬ k.val + 4 < 4; omega
  unfold raw2 blockOut exps
  rw [dif_neg h]; rfl

section
variable (𝒱 : Variants) (c : Dev nD) (bd : Option 𝒱.V) (arg0 : Memref sig .tc .hbm S4096x1536 .bf16) (harg0 : arg0.IsWhole) (arg1 : Memref sig .tc .vmem S8x128x640 .f32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S4608x512 .bf16) (harg4 : arg4.IsWhole) (arg5 : Memref sig .tc .vmem S4608x512 .bf16) (harg5 : arg5.IsWhole) (arg6 : DmaSems sig S3)
  (X1 : BufTy.Contents (Elt F) arg1.view.ty) (X3 : BufTy.Contents (Elt F) arg3.view.ty) (X4 : BufTy.Contents (Elt F) arg4.view.ty) (X5 : BufTy.Contents (Elt F) arg5.view.ty)

theorem trip1 (k : Fin k0_t1_loop.trips) :
    tripL_k0_t1 𝒱 c bd arg0 harg0 arg1 harg1 arg2 harg2 arg3 harg3 arg4 harg4 arg5 harg5 arg6 X1 X3 X4 X5 k
      = [⟨qR (i1 k), blockOut (arg1.view.read (Elt F) X1) (arg3.view.read (Elt F) X3) (arg4.view.read (Elt F) X4) (arg5.view.read (Elt F) X5) (i1 k)⟩] := by
  rw [← raw1_eq _ _ _ _ k (k0_off1 k) (k0_off2 k) (Gen.k0_off1_inb k) (Gen.k0_off2_inb k) (off1 k).1 (off1 k).2]
  unfold tripL_k0_t1 trip_k0_t1
  rfl

theorem trip2 (k : Fin k0_t2_loop.trips) :
    tripL_k0_t2 𝒱 c bd arg0 harg0 arg1 harg1 arg2 harg2 arg3 harg3 arg4 harg4 arg5 harg5 arg6 X1 X3 X4 X5 k
      = [⟨qR (i2 k), blockOut (arg1.view.read (Elt F) X1) (arg3.view.read (Elt F) X3) (arg4.view.read (Elt F) X4) (arg5.view.read (Elt F) X5) (i2 k)⟩] := by
  rw [← raw2_eq _ _ _ _ k (k0_off3 k) (k0_off4 k) (Gen.k0_off3_inb k) (Gen.k0_off4_inb k) (off2 k).1 (off2 k).2]
  unfold tripL_k0_t2 trip_k0_t2
  rfl

end

end Cert.AttFwdIdeal.Att
end
-- ==== Proof.AttFwd.Out.lean ====
module
public import proofs.«01_k».proof.Proof.Gen.AttFwdIdeal.Frame
public import proofs.«01_k».proof.Proof.AttFwd.Trips
public import proofs.«01_k».proof.Proof.Att.Run
public import proofs.«01_k».proof.Proof.Att.Real
public import Idealize.ShloMosaic.Lib.Pipeline.ReadBack

/-! What the call's body leaves in its output: every block's rows hold what the block computes from the staged queries, keys and values. -/

@[expose] public section
set_option maxRecDepth 16384
noncomputable section
open Idealize.ShloMosaic Idealize.ShloMosaic.TcCoe

namespace Cert.AttFwdIdeal.Att
open Cert.AttFwdIdeal Cert.AttFwdIdeal.Gen
open Cert.AttBwdIdeal.Att (qOf kOf vOf qrow)

/-- The output's rows, each from its block. -/
def rowsOut (B : Vec Ideal S8x128x640 .f32) (Q : Vec Ideal S4096x512 .bf16) (K V : Vec Ideal S4608x512 .bf16) : Vec Ideal S4096x512 .bf16 := fun y =>
  blockOut B Q K V ⟨(y 0).val / 128, by have : (y 0).val < 4096 := (y 0).isLt; omega⟩ (ix2 (⟨(y 0).val % 128, by omega⟩ : Fin 128) (y 1 : Fin 512))

theorem rowsOut_at (B : Vec Ideal S8x128x640 .f32) (Q : Vec Ideal S4096x512 .bf16) (K V : Vec Ideal S4608x512 .bf16) (i : Fin 32) (r : Fin 128) (z : Fin 512) :
    rowsOut B Q K V (ix2 (qrow i r) z) = blockOut B Q K V i (ix2 r z) := by
  have e : (⟨(128 * i.1 + r.1) / 128, by omega⟩ : Fin 32) = i := Fin.ext (by dsimp only; omega)
  have e' : (⟨(128 * i.1 + r.1) % 128, by omega⟩ : Fin 128) = r := Fin.ext (by dsimp only; omega)
  show blockOut B Q K V ⟨(128 * i.1 + r.1) / 128, _⟩ (ix2 (⟨(128 * i.1 + r.1) % 128, _⟩ : Fin 128) z) = _
  rw [e, e']

theorem piece_at (B : Vec Ideal S8x128x640 .f32) (Q : Vec Ideal S4096x512 .bf16) (K V : Vec Ideal S4608x512 .bf16) (i : Fin 32) (x : S128x512.Idx) :
    blockOut B Q K V i x = rowsOut B Q K V ((qR i).emb x) := by
  obtain ⟨r, z, rfl⟩ : ∃ r z, x = ix2 r z := ⟨x 0, x 1, by funext a; fin_cases a <;> rfl⟩
  rw [← rowsOut_at]
  refine congrArg (rowsOut B Q K V) ((qR i).emb_eq_of_coords _ _ (Fin.forall_fin_two.2 ⟨?_, ?_⟩)).symm <;> simp

section
variable (𝒱 : Variants) (c : Dev nD) (bd : Option 𝒱.V) (arg0 : Memref sig .tc .hbm S4096x1536 .bf16) (harg0 : arg0.IsWhole) (arg1 : Memref sig .tc .vmem S8x128x640 .f32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S4608x512 .bf16) (harg4 : arg4.IsWhole) (arg5 : Memref sig .tc .vmem S4608x512 .bf16) (harg5 : arg5.IsWhole) (arg6 : DmaSems sig S3)
  (X1 : BufTy.Contents (Elt Ideal) arg1.view.ty) (X3 : BufTy.Contents (Elt Ideal) arg3.view.ty) (X4 : BufTy.Contents (Elt Ideal) arg4.view.ty) (X5 : BufTy.Contents (Elt Ideal) arg5.view.ty)

/-- The pieces of the first loop's trips are the blocks'. -/
theorem pieces1 (n : ℕ) (hn : n ≤ k0_t1_loop.trips) : ∀ p ∈ pb_k0_t1 (F := Ideal) 𝒱 c bd arg0 harg0 arg1 harg1 arg2 harg2 arg3 harg3 arg4 harg4 arg5 harg5 arg6 X1 X3 X4 X5 n, ∀ x, p.2 x
    = rowsOut (arg1.view.read (Elt Ideal) X1) (arg3.view.read (Elt Ideal) X3) (arg4.view.read (Elt Ideal) X4) (arg5.view.read (Elt Ideal) X5) (p.1.emb x) := by
  induction n with
  | zero => intro p hp; exact absurd hp List.not_mem_nil
  | succ n ih =>
    intro p hp
    rw [pb_k0_t1_succ 𝒱 c bd arg0 harg0 arg1 harg1 arg2 harg2 arg3 harg3 arg4 harg4 arg5 harg5 arg6 X1 X3 X4 X5 ⟨n, hn⟩, trip1, List.singleton_append, List.mem_cons] at hp
    rcases hp with rfl | hp
    · exact piece_at _ _ _ _ _
    · exact ih (by omega) p hp

/-- So are the second loop's. -/
theorem pieces2 (n : ℕ) (hn : n ≤ k0_t2_loop.trips) : ∀ p ∈ pb_k0_t2 (F := Ideal) 𝒱 c bd arg0 harg0 arg1 harg1 arg2 harg2 arg3 harg3 arg4 harg4 arg5 harg5 arg6 X1 X3 X4 X5 n, ∀ x, p.2 x
    = rowsOut (arg1.view.read (Elt Ideal) X1) (arg3.view.read (Elt Ideal) X3) (arg4.view.read (Elt Ideal) X4) (arg5.view.read (Elt Ideal) X5) (p.1.emb x) := by
  induction n with
  | zero => intro p hp; exact absurd hp List.not_mem_nil
  | succ n ih =>
    intro p hp
    rw [pb_k0_t2_succ 𝒱 c bd arg0 harg0 arg1 harg1 arg2 harg2 arg3 harg3 arg4 harg4 arg5 harg5 arg6 X1 X3 X4 X5 ⟨n, hn⟩, trip2, List.singleton_append, List.mem_cons] at hp
    rcases hp with rfl | hp
    · exact piece_at _ _ _ _ _
    · exact ih (by omega) p hp

end

section
variable (c : Dev nD) (arg1 : Memref sig .tc .vmem S8x128x640 .f32) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S4608x512 .bf16) (harg4 : arg4.IsWhole) (arg5 : Memref sig .tc .vmem S4608x512 .bf16) (harg5 : arg5.IsWhole)
  (x0 : Vec Ideal S8x128x640 .f32) (fh0 : HbBuf0 (F := Ideal) c hbM0_0)

/-- A buffer written whole holds what was written; -/
theorem read_whole {sp : Space} {s : Shape} {e : EltTy} (v : View sig .tc sp s e) (f : v.ty.Contents (Elt Ideal)) (w : Vec Ideal s e) :
    v.read (Elt Ideal) (v.writes (Elt Ideal) f [⟨Rect.whole s, w⟩]) = w := (Puts.read_puts v f _).trans (Puts.put_whole _ _)

/-- the staged keys, whatever the buffer held before; -/
theorem read_k (v : View sig .tc .vmem S4608x512 .bf16) (f : v.ty.Contents (Elt Ideal)) (W : Vec Ideal S4096x1536 .bf16) :
    v.read (Elt Ideal) (v.writes (Elt Ideal) f [⟨Rect.unit (s := S4608x512) ![0, 0] S512x512.size inb_S4608x512_S512x512_0_0, k0_pay34 (F := Ideal)⟩,
      ⟨Rect.unit (s := S4608x512) ![512, 0] S4096x512.size inb_S4608x512_S4096x512_512_0,
        cut (Rect.unit (s := S4096x1536) ![0, 512] S4096x512.size inb_S4096x1536_S4096x512_0_512) W⟩]) = kOf W := by
  rw [kOf, Puts.read_puts, Puts.puts_cons, Puts.puts_cons, Puts.puts_cons, Puts.puts_cons]
  exact Puts.rows_cover (R := 4608) (W := 512) (n := 512) (k := 4096) inb_S4608x512_S512x512_0_0 inb_S4608x512_S4096x512_512_0 k0_pay34
    (cut (Rect.unit (s := S4096x1536) ![0, 512] S4096x512.size inb_S4096x1536_S4096x512_0_512) W) (v.read (Elt Ideal) f) (fun _ => Scalar.ofBits (F := Ideal) .bf16 0x0000#16) (by omega)

/-- the staged values. -/
theorem read_v (v : View sig .tc .vmem S4608x512 .bf16) (f : v.ty.Contents (Elt Ideal)) (W : Vec Ideal S4096x1536 .bf16) :
    v.read (Elt Ideal) (v.writes (Elt Ideal) f [⟨Rect.unit (s := S4608x512) ![0, 0] S512x512.size inb_S4608x512_S512x512_0_0, k0_pay35 (F := Ideal)⟩,
      ⟨Rect.unit (s := S4608x512) ![512, 0] S4096x512.size inb_S4608x512_S4096x512_512_0,
        cut (Rect.unit (s := S4096x1536) ![0, 1024] S4096x512.size inb_S4096x1536_S4096x512_0_1024) W⟩]) = vOf W := by
  rw [vOf, Puts.read_puts, Puts.puts_cons, Puts.puts_cons, Puts.puts_cons, Puts.puts_cons]
  exact Puts.rows_cover (R := 4608) (W := 512) (n := 512) (k := 4096) inb_S4608x512_S512x512_0_0 inb_S4608x512_S4096x512_512_0 k0_pay35
    (cut (Rect.unit (s := S4096x1536) ![0, 1024] S4096x512.size inb_S4096x1536_S4096x512_0_1024) W) (v.read (Elt Ideal) f) (fun _ => Scalar.ofBits (F := Ideal) .bf16 0x0000#16) (by omega)

/-- The body's stores are the two loops', over what it staged. -/
theorem run_pieces : ∃ X1 X3 X4 X5, (kernelRun0_A (F := Ideal) c arg1 harg1 arg2 harg2 arg3 harg3 arg4 harg4 arg5 harg5 x0 fh0).1
      = pb_k0_t2 (F := Ideal) Variants.none c none (Memref.whole main_v7) (Memref.isWhole_whole _) arg1 harg1 arg2 harg2 arg3 harg3 arg4 harg4 arg5 harg5 cc0_scratch3 X1 X3 X4 X5 (Scf.trips 4#32 (Scalar.addi 4#32 28#32) 1#32)
        ++ pb_k0_t1 (F := Ideal) Variants.none c none (Memref.whole main_v7) (Memref.isWhole_whole _) arg1 harg1 arg2 harg2 arg3 harg3 arg4 harg4 arg5 harg5 cc0_scratch3 X1 X3 X4 X5 (Scf.trips 0#32 (Scalar.addi 0#32 4#32) 1#32)
      ∧ arg1.view.read (Elt Ideal) X1 = x0 ∧ arg3.view.read (Elt Ideal) X3 = qOf fh0 ∧ arg4.view.read (Elt Ideal) X4 = kOf fh0 ∧ arg5.view.read (Elt Ideal) X5 = vOf fh0 := by
  refine ⟨_, _, _, _, by unfold kernelRun0_A; dsimp only, ?_, ?_, ?_, ?_⟩
  · exact harg1.read_unread x0
  · refine (read_whole arg3.view _ _).trans ?_
    rfl
  · exact read_k arg4.view _ fh0
  · exact read_v arg5.view _ fh0

/-- The output, from the bias's block and the operand the body stages. -/
theorem out_at : out0_A_1 (F := Ideal) c arg1 harg1 arg2 harg2 arg3 harg3 arg4 harg4 arg5 harg5 x0 fh0 = rowsOut x0 (qOf fh0) (kOf fh0) (vOf fh0) := by
  funext y
  have hc := cover0_A_1 (F := Ideal) c arg1 harg1 arg2 harg2 arg3 harg3 arg4 harg4 arg5 harg5 x0 fh0 y
  obtain ⟨X1, X3, X4, X5, e, e1, e3, e4, e5⟩ := run_pieces c arg1 harg1 arg2 harg2 arg3 harg3 arg4 harg4 arg5 harg5 x0 fh0
  unfold out0_A_1
  rw [View.read_writes_junk_eq_canon]
  refine (congrArg (fun l => View.canon l _) (List.append_nil _)).symm.trans
    (View.canon_append_of_pieces (e := .bf16) (Val := Elt Ideal) _ [] _ (fun p hp x => ?_) _ hc)
  rw [e, List.mem_append] at hp
  rw [← e1, ← e3, ← e4, ← e5]
  rcases hp with hp | hp
  · exact pieces2 _ _ _ _ _ _ _ _ _ _ _ _ _ _ _ _ _ _ _ _ _ (by decide) p hp x
  · exact pieces1 _ _ _ _ _ _ _ _ _ _ _ _ _ _ _ _ _ _ _ _ _ (by decide) p hp x

end
end Cert.AttFwdIdeal.Att
end
-- ==== Proof.AttFwd.Points.lean ====
module
public import proofs.«01_k».proof.Proof.AttFwd.Trips
public import proofs.«01_k».proof.Proof.Att.Real

/-! The vectors of `Block` place by place, over the extended reals. -/

@[expose] public section
set_option maxRecDepth 16384
noncomputable section
open Idealize.ShloMosaic Idealize.ShloMosaic.TcCoe

namespace Cert.AttFwdIdeal.Att
open Cert.AttFwdIdeal Cert.AttFwdIdeal.Gen
open Cert.AttBwdIdeal.Att (col lane ninf_word one_word eighth_short)

theorem dotQK_apply (h : Fin 8) (q : FVec Ideal S128x512 .bf16) (k : FVec Ideal S640x512 .bf16) (r : Fin 128) (j : Fin 640) :
    dotQK h q k (ix2 r j) = ∑ d : Fin 64, q (ix2 r (col h d)) * k (ix2 j (col h d)) := by
  pointwise [dotQK, col]

theorem dotEV_apply (h : Fin 8) (e : FVec Ideal S1024x640 .bf16) (v : FVec Ideal S640x512 .bf16) (r : Fin 128) (d : Fin 64) :
    dotEV h e v (ix2 r d) = ∑ j : Fin 640, e (ix2 (lane h r) j) * v (ix2 j (col h d)) := by
  pointwise [dotEV, col, lane]

theorem tall_apply (f : Fin 8 → FVec Ideal S128x640 .f32) (h : Fin 8) (r : Fin 128) (j : Fin 640) : tall f (ix2 (lane h r) j) = f h (ix2 r j) :=
  concatenate_ofFn_apply (t := S1024x640) (s₁ := S128x640) 0 f _ rfl 128 rfl (ix2 (lane h r) j) h
    (by show (128 * h.val + r.val) / 128 = h.val; omega) (ix2 r j) (by show r.val = (128 * h.val + r.val) % 128; omega)
    (by intro b hb; fin_cases b; · exact absurd rfl hb
        · rfl)

theorem cat128_apply (f : Fin 8 → FVec Ideal S128x64 .f32) (r : Fin 128) (h : Fin 8) (d : Fin 64) : cat128 f (ix2 r (col h d)) = f h (ix2 r d) :=
  Cert.AttBwdIdeal.Att.cat128_apply f r h d

theorem scaled_apply (q : Vec Ideal S128x512 .bf16) (r : Fin 128) (x : Fin 512) : scaled q (ix2 r x) = q (ix2 r x) * Ideal.ofBits .bf16 0x3E00#16 := by
  pointwise [scaled]

theorem scores_apply (q : FVec Ideal S128x512 .bf16) (k : FVec Ideal S640x512 .bf16) (bias : Fin 8 → Vec Ideal S1x128x640 .f32) (h : Fin 8) (r : Fin 128) (j : Fin 640) :
    scores q k bias (ix2 (lane h r) j) = (∑ d : Fin 64, q (ix2 r (col h d)) * k (ix2 j (col h d))) + bias h (ix3 (0 : Fin 1) r j) := by
  unfold scores
  rw [tall_apply]
  show dotQK _ _ _ _ + shapeCast _ _ _ _ = _
  rw [dotQK_apply]; congr 1
  pointwise []

theorem masked_apply (ok : IVec S1x640 1) (s : FVec Ideal S1024x640 .f32) (l : Fin 1024) (j : Fin 640) :
    masked ok s (ix2 l j) = if ok (ix2 (0 : Fin 1) j) = 1#1 then s (ix2 l j) else ⊥ := by
  pointwise [masked]
  rw [IdealRules.named_const.ideal_named_scalar _ _ _ ⊥ rfl]; rfl

theorem expo_apply (s : FVec Ideal S1024x640 .f32) (l : Fin 1024) (j : Fin 640) :
    expo s (ix2 l j) = Ideal.exp (s (ix2 l j) - Finset.univ.sup fun j' : Fin 640 => s (ix2 l j')) := by
  pointwise [expo]
  rw [ninf_word]; rfl

theorem rinv_apply (e : FVec Ideal S1024x640 .f32) (l : Fin 1024) : rinv e (ix2 l (0 : Fin 1)) = Ideal.div 1 (∑ j : Fin 640, e (ix2 l j)) := by
  pointwise [rinv]

theorem outOf_apply (e : FVec Ideal S1024x640 .f32) (v : FVec Ideal S640x512 .bf16) (r : Fin 128) (h : Fin 8) (d : Fin 64) :
    outOf e v (ix2 r (col h d)) = (∑ j : Fin 640, e (ix2 (lane h r) j) * v (ix2 j (col h d))) * Ideal.div 1 (∑ j : Fin 640, e (ix2 (lane h r) j)) := by
  show (cat128 (F := Ideal) _ (ix2 r (col h d)) : EReal) = _
  rw [cat128_apply]
  show dotEV (F := Ideal) _ _ _ _ * broadcastTo _ _ _ _ = _
  rw [dotEV_apply, ← rinv_apply]
  refine congrArg₂ (fun x y : EReal => x * y) rfl ?_
  pointwise [lane]

end Cert.AttFwdIdeal.Att
end
-- ==== Proof.AttFwd.Real.lean ====
module
public import proofs.«01_k».proof.Proof.AttFwd.Points

/-! One block over the reals: where the arrays hold reals, and the bias −∞ off the bands, the exponentials over their sum are the specification's
weights, zero off the bands, and the block writes the weights' sums of the values. -/

@[expose] public section
set_option maxRecDepth 16384
noncomputable section
open Idealize.ShloMosaic Idealize.ShloMosaic.TcCoe

namespace Cert.AttFwdIdeal.Att
open Cert.AttFwdIdeal Cert.AttFwdIdeal.Gen
open Cert.AttBwdIdeal.Att (col lane qrow krow qrow_eq krow_eq ok6 ok6_in ok6_off ok6_some x6 x6_at mem_range mask_word eighth_short)
open Cert.Att (Args hcol row key chunk ok at640 row128)

/-- The arrays hold the reals of `a`; the bias holds them on the bands, and −∞ off them. -/
structure Reads (a : Args) (B : Vec Ideal S8x128x640 .f32) (Q : Vec Ideal S4096x512 .bf16) (K V : Vec Ideal S4608x512 .bf16) : Prop where
  q : ∀ r x, Q (ix2 r x) = (a.q r x : EReal)
  k : ∀ r x, K (ix2 r x) = (a.k r x : EReal)
  v : ∀ r x, V (ix2 r x) = (a.v r x : EReal)
  b : ∀ h p qi b, B (ix3 h (row128 p qi) (at640 p b)) = (a.bias h qi b : EReal)
  off : ∀ h p qi j, j ∉ Set.range (at640 p) → B (ix3 h (row128 p qi) j) = (⊥ : EReal)

theorem cut_q (i : Fin 32) {α : Type} (A : S4096x512.Idx → α) (r : Fin 128) (x : Fin 512) : (cut (qR i) A : S128x512.Idx → α) (ix2 r x) = A (ix2 (qrow i r) x) := by
  refine congrArg A ((qR i).emb_eq_of_coords _ _ (Fin.forall_fin_two.2 ⟨?_, ?_⟩)) <;> simp
theorem cut_k (i : Fin 32) {α : Type} (A : S4608x512.Idx → α) (j : Fin 640) (x : Fin 512) : (cut (kR i) A : S640x512.Idx → α) (ix2 j x) = A (ix2 (krow i j) x) := by
  refine congrArg A ((kR i).emb_eq_of_coords _ _ (Fin.forall_fin_two.2 ⟨?_, ?_⟩)) <;> simp
theorem cut_slab (h : Fin 8) {α : Type} (A : S8x128x640.Idx → α) (r : Fin 128) (j : Fin 640) : (cut (slab h) A : S1x128x640.Idx → α) (ix3 (0 : Fin 1) r j) = A (ix3 h r j) := by
  refine congrArg A ((slab h).emb_eq_of_coords _ _ fun c => ?_)
  fin_cases c <;> simp

/-- The mask of an early block: the key is no padding. -/
theorem mask_apply (i : Fin 32) (h : i.1 < 4) (j : Fin 640) : maskOf i h (ix2 (0 : Fin 1) j) = 1#1 ↔ 512 ≤ 128 * i.1 + j.1 := by
  unfold maskOf
  pointwise [k0_pay3]
  exact mask_word ⟨i.1, h⟩ j

variable {a : Args} {B : Vec Ideal S8x128x640 .f32} {Q : Vec Ideal S4096x512 .bf16} {K V : Vec Ideal S4608x512 .bf16}

theorem scores_real (H : Reads a B Q K V) (i : Fin 32) (h : Fin 8) (p : Fin 2) (qi : Fin 64) (j : Fin 640) :
    scoresOf B Q K i (ix2 (lane h (row128 p qi)) j) = if 64 * p.1 ≤ j.1 ∧ j.1 < 64 * p.1 + 576 then (x6 a i h p qi j : EReal) else ⊥ := by
  unfold scoresOf
  rw [scores_apply, cut_slab]
  have e : (∑ d : Fin 64, (scaled (cut (qR i) Q) (ix2 (row128 p qi) (col h d)) : EReal) * (cut (kR i) K : S640x512.Idx → EReal) (ix2 j (col h d)))
      = ((∑ d, a.k (krow i j) (hcol h d) * (a.q (row (chunk i p) qi) (hcol h d) * (1 / 8)) : ℝ) : EReal) := by
    rw [← Soft.coe_dot]
    refine Finset.sum_congr rfl fun d _ => ?_
    rw [cut_k, H.k, scaled_apply, cut_q, H.q, qrow_eq, eighth_short, ← EReal.coe_mul, mul_comm]; rfl
  refine (congrArg (fun z : EReal => z + B (ix3 h (row128 p qi) j)) e).trans ?_
  by_cases hj : j ∈ Set.range (at640 p)
  · rw [if_pos ((mem_range p j).1 hj)]
    obtain ⟨b, rfl⟩ := hj
    rw [H.b, ← EReal.coe_add]; unfold x6; rw [Cert.Att.wide_at]
  · rw [if_neg fun hh => hj ((mem_range p j).2 hh), H.off h p qi j hj, EReal.add_bot]

/-- Masked or not, the scores of block `i` are real just where the half looks. -/
theorem exps_real (H : Reads a B Q K V) (i : Fin 32) (h : Fin 8) (p : Fin 2) (qi : Fin 64) : ∃ M : ℝ, ∀ j : Fin 640,
    exps B Q K i (ix2 (lane h (row128 p qi)) j) = (Soft.ex (ok6 i p) (x6 a i h p qi) M j : EReal) := by
  obtain ⟨M, hM⟩ := Soft.exists_max (ok6 i p) (x6 a i h p qi) (ok6_some i p)
  refine ⟨M, fun j => ?_⟩
  have key : ∀ s : FVec Ideal S1024x640 .f32, (∀ j, s (ix2 (lane h (row128 p qi)) j) = Soft.score (ok6 i p) (x6 a i h p qi) j) →
      expo s (ix2 (lane h (row128 p qi)) j) = (Soft.ex (ok6 i p) (x6 a i h p qi) M j : EReal) := fun s hs => by
    rw [expo_apply, funext hs, hM, hs j]
    exact Soft.exp_score _ _ _ _
  unfold exps
  by_cases hi : i.1 < 4
  · rw [dif_pos hi]
    refine key _ fun j => ?_
    rw [masked_apply, scores_real H, if_congr (mask_apply _ _ _) rfl rfl]
    unfold Soft.score ok6
    by_cases h1 : 512 ≤ 128 * i.1 + j.1 <;> by_cases h2 : 64 * p.1 ≤ j.1 ∧ j.1 < 64 * p.1 + 576 <;> simp [h1, h2]
  · rw [dif_neg hi]
    refine key _ fun j => ?_
    rw [scores_real H]
    unfold Soft.score ok6
    have h1 : 512 ≤ 128 * i.1 + j.1 := by omega
    by_cases h2 : 64 * p.1 ≤ j.1 ∧ j.1 < 64 * p.1 + 576 <;> simp [h1, h2]

/-- What a block writes: each row's values, weighed. -/
theorem block_real (H : Reads a B Q K V) (i : Fin 32) (h : Fin 8) (p : Fin 2) (qi d : Fin 64) :
    blockOut B Q K V i (ix2 (row128 p qi) (col h d)) = ((∑ b, Cert.Att.P a (chunk i p) h qi b * a.v (key (chunk i p) b) (hcol h d) : ℝ) : EReal) := by
  obtain ⟨M, hM⟩ := exps_real H i h p qi
  have hS := Soft.sum_ex_pos (ok6 i p) (x6 a i h p qi) M (ok6_some i p)
  unfold blockOut
  rw [outOf_apply]
  have e : (∑ j : Fin 640, (exps B Q K i (ix2 (lane h (row128 p qi)) j) : EReal) * (cut (kR i) V : S640x512.Idx → EReal) (ix2 j (col h d)))
      = ((∑ j, Soft.ex (ok6 i p) (x6 a i h p qi) M j * a.v (krow i j) (hcol h d) : ℝ) : EReal) := by
    rw [← Soft.coe_dot]
    refine Finset.sum_congr rfl fun j _ => ?_
    rw [hM, cut_k, H.v]; rfl
  have e' : (∑ j : Fin 640, (exps B Q K i (ix2 (lane h (row128 p qi)) j) : EReal)) = ((∑ j, Soft.ex (ok6 i p) (x6 a i h p qi) M j : ℝ) : EReal) := by
    rw [Soft.coe_sum]; exact Finset.sum_congr rfl fun j _ => hM j
  refine (congrArg₂ (fun x y : EReal => x * Ideal.div 1 y) e e').trans ?_
  rw [Ideal.div_coe hS.ne', one_mul, ← EReal.coe_mul, Finset.sum_mul]
  refine congrArg (fun z : ℝ => (z : EReal)) ?_
  refine (Finset.sum_congr rfl fun j _ => ?_).trans (Eq.trans (Cert.Att.sum_wide_mul p (Cert.Att.P a (chunk i p) h qi) fun j => a.v (krow i j) (hcol h d))
    (Finset.sum_congr rfl fun b _ => by rw [krow_eq]))
  rw [show Cert.Att.wide p (Cert.Att.P a (chunk i p) h qi) j = _ from (Cert.Att.pr_wide p _ _ _ _ (ok6_in i p) (ok6_off i p) (x6_at (a := a) i h p qi) j).symm, ← Soft.ex_div _ _ M]
  ring

end Cert.AttFwdIdeal.Att
end
-- ==== Proof.AttFwd.Host.lean ====
module
public import proofs.«01_k».proof.Proof.AttFwd.Out
public import proofs.«01_k».proof.Proof.AttFwd.Real
public import proofs.«01_k».proof.Proof.Att.Host

/-! What the forward call reads, from the arguments: the staged queries, padded keys and values, the skewed bias. -/

@[expose] public section
set_option maxRecDepth 16384
noncomputable section
open Idealize.ShloMosaic Idealize.ShloMosaic.TcCoe

namespace Cert.AttFwdIdeal.Att
open Cert.AttFwdIdeal Cert.AttFwdIdeal.Gen
open Cert.Att (Raw Args hcol row key chunk padded rel hd cl at640 row128)
open Cert.AttBwdIdeal.Att (qOf kOf vOf wideCat cat_at taken skew skew_at taken_at blocks blocks_at ix3_congr padded_rows cut_cols pay97_zero pay98_zero after_two)

variable (m : (ℓ : Loc nD τ sig) → Buf (Elt Ideal) ℓ)

/-- The kernel's arguments on a device are these reals; the cotangent has no part in it, and is zero. -/
abbrev HoldsK (w : Raw) (c : Dev nD) : Prop :=
  Cert.AttBwdRefIdeal.Att.Holds w (m ((c.tc : Thread nD τ).loc main_arg0)) (m ((c.tc : Thread nD τ).loc main_arg1)) (m ((c.tc : Thread nD τ).loc main_arg2))
    (m ((c.tc : Thread nD τ).loc main_arg3)) (fun _ => (0 : EReal))

/-- The wide array, from the first eight operations: none of the others writes it. -/
theorem src_early (c : Dev nD) : V m c main_v7 = StableHlo.after (hostOps0.take 8) (fun b => m (c, b)) (Proc.devRef .tc main_v7) := by
  show StableHlo.after (hostOps0.take 8 ++ List.flatten [hostOps0.drop 8, hostOps0_1, hostOps0_2, hostOps0_3, hostOps0_4, hostOps0_5, hostOps0_6]) _ _ = _
  rw [after_two]
  refine StableHlo.after_of_forall_not_mem (b := Proc.devRef .tc main_v7) _ _ (List.forall_iff_forall_mem.mp ?_)
  simp only [hostOps0, hostOps0_1, hostOps0_2, hostOps0_3, hostOps0_4, hostOps0_5, hostOps0_6, List.drop_succ_cons, List.drop_zero, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

/-- One of the three arrays, its heads side by side. -/
abbrev flat (a : S1x4096x8x64.Idx → EReal) : S4096x512.Idx → EReal := shapeCast S4096x512 (shapeCast S4096x8x64 a shapeCasts_S1x4096x8x64_S4096x8x64) shapeCasts_S4096x8x64_S4096x512

theorem early (c : Dev nD) : StableHlo.after (hostOps0.take 6) (fun b => m (c, b)) (Proc.devRef .tc main_v1) = flat (m ((c.tc : Thread nD τ).loc main_arg0))
    ∧ StableHlo.after (hostOps0.take 6) (fun b => m (c, b)) (Proc.devRef .tc main_v3) = flat (m ((c.tc : Thread nD τ).loc main_arg1))
    ∧ StableHlo.after (hostOps0.take 6) (fun b => m (c, b)) (Proc.devRef .tc main_v5) = flat (m ((c.tc : Thread nD τ).loc main_arg2)) := by
  simp only [hostOps0, List.take_succ_cons, List.take_zero]
  refine ⟨?_, ?_, ?_⟩
  · entry_read
    rfl
  · entry_read
    rfl
  · entry_read
    rfl

theorem src_term (c : Dev nD) : V m c main_v7 = truncf .bf16 (F := Ideal) (wideCat (m ((c.tc : Thread nD τ).loc main_arg0)) (m ((c.tc : Thread nD τ).loc main_arg1)) (m ((c.tc : Thread nD τ).loc main_arg2))) bitsLt_bf16_f32 := by
  rw [src_early]
  obtain ⟨e1, e2, e3⟩ := early m c
  simp only [hostOps0, List.take_succ_cons, List.take_zero]
  simp only [StableHlo.after_cons, StableHlo.after_nil]
  refine (StableHlo.unary_result' (x := main_v6) (y := main_v7) _ _ _ _).trans ?_
  refine congrArg (fun z => truncf .bf16 (F := Ideal) z bitsLt_bf16_f32) ((StableHlo.nary_result' (y := main_v6) _ _ _ _ _).trans ?_)
  show concatenate S4096x1536 1 [⟨S4096x512, StableHlo.after (hostOps0.take 6) (fun b => m (c, b)) (Proc.devRef .tc main_v1)⟩,
    ⟨S4096x512, StableHlo.after (hostOps0.take 6) (fun b => m (c, b)) (Proc.devRef .tc main_v3)⟩,
    ⟨S4096x512, StableHlo.after (hostOps0.take 6) (fun b => m (c, b)) (Proc.devRef .tc main_v5)⟩] _ = _
  rw [e1, e2, e3]
  rfl

/-- The blocks' bias with the queries down: the bands at the left for even chunks, at the right for odd ones, −∞ beside them. -/
def down (x : S8x64x576.Idx → EReal) : S8x128x640.Idx → EReal :=
  concatenate S8x128x640 1 [⟨S8x64x640, pad S8x64x640 ![0, 0, 0] ![0, 0, 64] ![0, 0, 0] x (constant (F := Ideal) S_ .f32 0xFF800000#32) pads_S8x64x576_S8x64x640_000_000_0640 h_S_⟩,
    ⟨S8x64x640, pad S8x64x640 ![0, 0, 64] ![0, 0, 0] ![0, 0, 0] x (constant (F := Ideal) S_ .f32 0xFF800000#32) pads_S8x64x576_S8x64x640_000_000_6400 h_S_⟩]
    concatenates_S8x64x640_S8x64x640_S8x128x640_d1

set_option maxHeartbeats 4000000 in
theorem bias_term (c : Dev nD) : V m c main_v30 = down (skew (taken (m ((c.tc : Thread nD τ).loc main_arg3)))) := by
  simp only [V, hostOps0, hostOps0_1, hostOps0_2, hostOps0_3, hostOps0_4, hostOps0_5, hostOps0_6, List.flatten_cons, List.flatten_nil, List.cons_append, List.nil_append, List.append_nil]
  entry_read
  rfl

theorem turn_at (z : S8x128x640.Idx → EReal) (h : Fin 8) (j : Fin 640) (s : Fin 128) :
    transpose Cert.AttBwdIdeal.S8x640x128 [0, 2, 1] z Cert.AttBwdIdeal.Facts₀.transposes_S8x128x640_S8x640x128_0_2_1 (ix3 h j s) = z (ix3 h s j) := by pointwise []
theorem down_at (x : S8x64x576.Idx → EReal) (h : Fin 8) (s : Fin 128) (j : Fin 640) : down x (ix3 h s j) = blocks x (ix3 h j s) := (turn_at (down x) h j s).symm

/-- The bias of the band: the table at the clipped distance. -/
theorem band_bias {w : Raw} {c : Dev nD} (H : HoldsK m w c) (h : Fin 8) (qi : Fin 64) (b : Fin 576) :
    skew (taken (m ((c.tc : Thread nD τ).loc main_arg3))) (ix3 h qi b) = (w.args.bias h qi b : EReal) := by
  rw [skew_at, taken_at]
  refine Eq.trans (congrArg (fun n : Fin 513 => m ((c.tc : Thread nD τ).loc main_arg3) (ix3 (0 : Fin 1) h n)) (Fin.ext ?_)) (H.b h (rel qi b))
  show min (831 - (63 - qi.1 + b.1)) 512 = min (qi.1 + 768 - b.1) 512
  have := qi.2; have := b.2; omega

theorem src_at (c : Dev nD) (r : Fin 4096) (p : Fin 3) (x : Fin 512) :
    V m c main_v7 (ix2 r (⟨512 * p.1 + x.1, by omega⟩ : Fin 1536))
      = (![m ((c.tc : Thread nD τ).loc main_arg0), m ((c.tc : Thread nD τ).loc main_arg1), m ((c.tc : Thread nD τ).loc main_arg2)] p : S1x4096x8x64.Idx → EReal) (ix4 (0 : Fin 1) r (hd x) (cl x)) := by
  rw [← cat_at]
  refine (congrFun (src_term m c) _).trans (congrArg (wideCat _ _ _) (congrArg (ix2 r) (Fin.ext ?_)))
  show 512 * p.1 + x.1 = 512 * p.1 + 64 * (x.1 / 64) + x.1 % 64
  omega

/-- The staged queries, keys and values. -/
theorem q_read {w : Raw} {c : Dev nD} (H : HoldsK m w c) (r : Fin 4096) (x : Fin 512) : qOf (V m c main_v7) (ix2 r x) = (w.args.q r x : EReal) := by
  refine Eq.trans ?_ (H.q r (hd x) (cl x))
  exact (cut_cols 0 0 rfl _ _ r x).trans (src_at m c r 0 x)

theorem k_read {w : Raw} {c : Dev nD} (H : HoldsK m w c) (r : Fin 4608) (x : Fin 512) : kOf (V m c main_v7) (ix2 r x) = (w.args.k r x : EReal) :=
  padded_rows w.k 512 inb_S4096x1536_S4096x512_0_512 _ pay97_zero (V m c main_v7) (fun r x => (cut_cols 512 1 rfl _ _ r x).trans ((src_at m c r 1 x).trans (H.k r (hd x) (cl x)))) _ r x

theorem v_read {w : Raw} {c : Dev nD} (H : HoldsK m w c) (r : Fin 4608) (x : Fin 512) : vOf (V m c main_v7) (ix2 r x) = (w.args.v r x : EReal) :=
  padded_rows w.v 1024 inb_S4096x1536_S4096x512_0_1024 _ pay98_zero (V m c main_v7) (fun r x => (cut_cols 1024 2 rfl _ _ r x).trans ((src_at m c r 2 x).trans (H.v r (hd x) (cl x)))) _ r x

theorem idx0 (t : Fin cfg0.N) (a : Fin 3) : win0_0.index t a = 0 := by fin_cases a <;> rfl
/-- The bias's window is its whole array. -/
theorem blk0 (c : Dev nD) (t : Fin cfg0.N) (y : S8x128x640.Idx) : iblk m c 0 t y = V m c main_v30 y := by
  unfold iblk; exact congrArg (V m c main_v30) (by blk_ext [idx0 t])

/-- What the body works on, when the arguments are reals. -/
theorem reads {w : Raw} {c : Dev nD} (H : HoldsK m w c) (t : Fin cfg0.N) : Reads w.args (iblk m c 0 t) (qOf (V m c main_v7)) (kOf (V m c main_v7)) (vOf (V m c main_v7)) where
  q := q_read m H
  k := k_read m H
  v := v_read m H
  b h p qi b := by
    refine (blk0 m c t _).trans ?_
    rw [bias_term, down_at, blocks_at, dif_pos (by show 64 * p.1 ≤ (at640 p b).1 ∧ (at640 p b).1 < 64 * p.1 + 576; simp only [at640]; omega), ← band_bias m H h qi b]
    exact ix3_congr _ h rfl (by simp only [at640]; omega)
  off h p qi j hj := by
    refine (blk0 m c t _).trans ?_
    rw [bias_term, down_at, blocks_at, dif_neg]
    exact fun hh => hj ⟨⟨j.1 - 64 * p.1, by omega⟩, Fin.ext (by simp only [at640]; omega)⟩

end Cert.AttFwdIdeal.Att
end
-- ==== Proof.AttFwd.Ref.lean ====
module
public import proofs.«01_k».proof.Proof.Att.RefMid
public import proofs.«01_k».proof.Proof.Gen.AttFwdRefIdeal.Read
public import Idealize.ShloMosaic.Lib.Pointwise

/-! The forward reference over the reals. Its values up to the softmax weights are the primal ones of the backward reference. -/

@[expose] public section
set_option maxRecDepth 16384
noncomputable section
open Idealize.ShloMosaic

namespace Cert.AttFwdRefIdeal.Att
open Cert.AttFwdRefIdeal Cert.AttFwdRefIdeal.Read
open Cert.Att (Raw Args hcol row key)

variable {w : Raw} {x0 x1 x2 : (⟨S1x4096x8x64, .f32⟩ : BufTy).Contents (Elt Ideal)} {x3 : (⟨S1x8x513, .f32⟩ : BufTy).Contents (Elt Ideal)} {x4 : (⟨Cert.AttBwdRefIdeal.S1x4096x512, .f32⟩ : BufTy).Contents (Elt Ideal)}

/-- The bands of values, and the weights, are the backward reference's. -/
theorem bands_same : val_main_v48 (F := Ideal) x2 = Cert.AttBwdRefIdeal.Read.val_main_v50 (F := Ideal) x2 := rfl
theorem weights_same : val_main_v82 (F := Ideal) x0 x1 x3 = Cert.AttBwdRefIdeal.Read.val_main_v98 (F := Ideal) x0 x1 x3 := rfl

/-- The values against the weights. -/
theorem sums_at (c : Fin 64) (qi : Fin 64) (h : Fin 8) (d : Fin 64) :
    val_main_v83 (F := Ideal) x0 x1 x2 x3 (ix5 (0 : Fin 1) c h d qi)
      = ∑ b : Fin 576, val_main_v48 (F := Ideal) x2 (ix5 (0 : Fin 1) c b h d) * val_main_v82 (F := Ideal) x0 x1 x3 (ix5 (0 : Fin 1) c h qi b) := by
  pointwise [val_main_v83]

/-- The result's row is the chunk's query, its column the head's. -/
theorem place_at (c : Fin 64) (qi : Fin 64) (h : Fin 8) (d : Fin 64) :
    val_main_v87 (F := Ideal) x0 x1 x2 x3 (ix2 (row c qi) (hcol h d)) = val_main_v83 (F := Ideal) x0 x1 x2 x3 (ix5 (0 : Fin 1) c h d qi) := by
  pointwise [val_main_v87, val_main_v86, val_main_v85, val_main_v84, row, hcol]

/-- The reference's result: each query's values, weighed. -/
theorem out_at (H : Cert.AttBwdRefIdeal.Att.Holds w x0 x1 x2 x3 x4) (c : Fin 64) (qi : Fin 64) (h : Fin 8) (d : Fin 64) :
    val_main_v87 (F := Ideal) x0 x1 x2 x3 (ix2 (row c qi) (hcol h d)) = ((∑ b, Cert.Att.P w.args c h qi b * w.args.v (key c b) (hcol h d) : ℝ) : EReal) := by
  rw [place_at, sums_at, ← Soft.coe_dot]
  refine Finset.sum_congr rfl fun b _ => ?_
  rw [bands_same, weights_same, Cert.AttBwdRefIdeal.Att.v_at H, Cert.AttBwdRefIdeal.Att.p_at H, mul_comm]

end Cert.AttFwdRefIdeal.Att
end
-- ==== Proof.AttFwd.Pair.lean ====
module
public import proofs.«01_k».proof.Defs
public import proofs.«01_k».proof.Proof.AttFwd.Host
public import proofs.«01_k».proof.Proof.AttFwd.Ref
public import proofs.«01_k».proof.Proof.Finite
public import proofs.«01_k».proof.Proof.Att.Value
public import proofs.«01_k».proof.Proof.Gen.AttFwdIdeal.Value
public import proofs.«01_k».proof.Proof.Gen.AttFwdRefIdeal.Run
public import Idealize.ShloMosaic.Lib.Claim

/-! The forward attention: the call's array is the reference's, for finite arguments. -/

@[expose] public section
set_option maxRecDepth 16384
noncomputable section
open Idealize.ShloMosaic Idealize.ShloMosaic.TcCoe
open Idealize.SL.Sem

namespace Cert.AttFwdIdeal.Att
open Cert.AttFwdIdeal Cert.AttFwdIdeal.Gen
open Cert.Finite
open Cert.Att (Raw Args hcol row key chunk hd cl row128)
open Cert.AttBwdIdeal.Att (hcol_hd split_row qrow qrow_eq)

variable {m : (ℓ : Loc nD τ sig) → Buf (Elt Ideal) ℓ}

/-- The reals the arguments are. -/
def raw (m : (ℓ : Loc nD τ sig) → Buf (Elt Ideal) ℓ) (c : Dev nD) : Raw where
  q r h d := EReal.toReal (m ((c.tc : Thread nD τ).loc main_arg0) (ix4 (0 : Fin 1) r h d))
  k r h d := EReal.toReal (m ((c.tc : Thread nD τ).loc main_arg1) (ix4 (0 : Fin 1) r h d))
  v r h d := EReal.toReal (m ((c.tc : Thread nD τ).loc main_arg2) (ix4 (0 : Fin 1) r h d))
  rb h n := EReal.toReal (m ((c.tc : Thread nD τ).loc main_arg3) (ix3 (0 : Fin 1) h n))
  y r x := 0

theorem holds_of_finite [Cert.Pre_att_fwd_finite.Facts] (h : Cert.Pre_AttFwdIdeal_att_fwd_finite m) (c : Dev nD) : HoldsK m (raw m c) c where
  q r x d := finite_reads _ (fun _ => 0) _ (h c).1 _
  k r x d := finite_reads _ (fun _ => 0) _ (h c).2.1 _
  v r x d := finite_reads _ (fun _ => 0) _ (h c).2.2.1 _
  b x n := finite_reads _ (fun _ => 0) _ (h c).2.2.2 _
  y r x := rfl

theorem idx1 (t : Fin cfg0.N) (a : Fin 2) : win0_1.index t a = 0 := by fin_cases a <;> rfl
theorem place1 (t : Fin cfg0.N) (y : S4096x512.Idx) : ((cfg0.win 1).blk t).view.emb y = y := by blk_ext [idx1 t]

variable {w : Raw} {c : Dev nD}

/-- A row of the rows' blocks, by its chunk. -/
theorem rows_real (H : HoldsK m w c) (t : Fin cfg0.N) (k qi : Fin 64) (h : Fin 8) (d : Fin 64) :
    rowsOut (iblk m c 0 t) (Cert.AttBwdIdeal.Att.qOf (V m c main_v7)) (Cert.AttBwdIdeal.Att.kOf (V m c main_v7)) (Cert.AttBwdIdeal.Att.vOf (V m c main_v7)) (ix2 (row k qi) (hcol h d))
      = ((∑ b, Cert.Att.P w.args k h qi b * w.args.v (key k b) (hcol h d) : ℝ) : EReal) := by
  obtain ⟨i, p, rfl⟩ : ∃ i p, k = chunk i p := ⟨⟨k.1 / 2, by omega⟩, ⟨k.1 % 2, by omega⟩, Fin.ext (by show k.1 = 2 * (k.1 / 2) + k.1 % 2; omega)⟩
  rw [← qrow_eq, rowsOut_at]
  exact block_real (reads m H t) i h p qi d

/-- The array after the run is any array that holds the weighed values. -/
theorem out_final (H : HoldsK m w c) (f : S4096x512.Idx → Elt Ideal .bf16)
    (hf : ∀ k qi h d, f (ix2 (row k qi) (hcol h d)) = ((∑ b, Cert.Att.P w.args k h qi b * w.args.v (key k b) (hcol h d) : ℝ) : EReal)) :
    f = (dats m 0 c).arrAt 1 cfg0.N := by
  refine ((dats m 0 c).arrAt_eq_of_covers 1 f (by decide +kernel) fun t _ y => ?_).symm
  blk_simp
  rw [after0_1]
  unfold outsAt0
  rw [out_at]
  refine Eq.trans ?_ (congrArg f (place1 t y)).symm
  obtain ⟨r, x, rfl⟩ : ∃ r x, y = ix2 r x := ⟨y 0, y 1, by funext a; fin_cases a <;> rfl⟩
  rw [← split_row r, ← hcol_hd x, hf]
  exact rows_real H t _ _ _ _

/-- Arguments that agree with the kernel's are the same reals. -/
theorem holds_ref (H : HoldsK m w c) {x0 x1 x2 : (⟨S1x4096x8x64, .f32⟩ : BufTy).Contents (Elt Ideal)} {x3 : (⟨S1x8x513, .f32⟩ : BufTy).Contents (Elt Ideal)}
    (e : x0 = m ((c.tc : Thread nD τ).loc main_arg0) ∧ x1 = m ((c.tc : Thread nD τ).loc main_arg1) ∧ x2 = m ((c.tc : Thread nD τ).loc main_arg2)
      ∧ x3 = m ((c.tc : Thread nD τ).loc main_arg3)) : Cert.AttBwdRefIdeal.Att.Holds w x0 x1 x2 x3 (fun _ => (0 : EReal)) := by
  obtain ⟨rfl, rfl, rfl, rfl⟩ := e
  exact H

/-- The side conditions of the precondition's operations. -/
instance pre_facts : Cert.Pre_att_fwd_finite.Facts := ⟨by decide, by decide, by decide⟩

/-- The reference's frame. -/
theorem frame_ref : Cert.quiescent_AttFwdRefIdeal := by
  intro m g _
  exact (θ_run Cert.AttFwdRefIdeal.defs _ _).mono (fun r h => ⟨fun c => (h c).2, Idealize.ShloMosaic.sem_eq_zero_of_no_sems (by decide) r.2⟩)
    (Cert.AttFwdRefIdeal.Value.run (F := Ideal) m g)

/-- The ideal program's only change is the named mask. -/
theorem preserves : Cert.preserves_AttFwd_AttFwdIdeal := by
  unfold Cert.preserves_AttFwd_AttFwdIdeal
  exact IdealRules.named_const.statement _ _ _ _ _ rfl

/-- The forward attention: the kernel's array is the reference's, for finite arguments. -/
theorem att_fwd_value : Cert.algebraic_AttFwdIdeal_AttFwdRefIdeal_pre_att_fwd_finite := by
  pair_intro
  · run_from Cert.AttFwdIdeal.Value.run_blocks m g
  · run_from Cert.AttFwdRefIdeal.Value.run m' g'
    exact (Cert.AttFwdRefIdeal.Read.val_main_v87_eq m' c).trans
      (out_final (holds_of_finite hpre c) _ (Cert.AttFwdRefIdeal.Att.out_at (holds_ref (holds_of_finite hpre c) (hagree c))))

end Cert.AttFwdIdeal.Att
end
-- ==== Proof.Sgu.lean ====
module

public import Idealize.ShloMosaic.PureOps.Ideal

@[expose] public section

noncomputable section

open Idealize.ShloMosaic

/-! # The spatial gating of a row and of a run of 128 tokens, over the extended reals -/

namespace Cert.Sgu

/-- The gate's activation, `x · (1 + tanh (c · (x + a x³))) / 2`. -/
def gelu (a : EReal) : EReal :=
  a * (Ideal.ofBits .f32 0x3F000000#32 * (1 + Ideal.tanh (Ideal.ofBits .f32 0x3F4C422A#32 * (a + Ideal.ofBits .f32 0x3D372713#32 * (a * a * a)))))

/-- The same with the half taken first and the cube multiplied out factor after factor. -/
theorem gelu_eq (a : EReal) : Ideal.ofBits .f32 0x3F000000#32 * a
    * (1 + Ideal.tanh (Ideal.ofBits .f32 0x3F4C422A#32 * (a + Ideal.ofBits .f32 0x3D372713#32 * a * a * a))) = gelu a := by
  unfold gelu
  rw [mul_assoc (Ideal.ofBits .f32 0x3D372713#32 * a), mul_assoc (Ideal.ofBits .f32 0x3D372713#32) a, ← mul_assoc a a a, mul_left_comm a]
  exact mul_assoc _ _ _

/-- The mean of a row of 512 entries. -/
def mean (v : Fin 512 → EReal) : EReal := Ideal.div (∑ k, v k) (Ideal.ofBits .f32 0x44000000#32)

/-- The layer norm of a row of 512 entries, with weight and bias. -/
def ln (v lg lb : Fin 512 → EReal) (e : Fin 512) : EReal :=
  (v e - mean v) * Ideal.rsqrt (mean (fun k => (v k - mean v) * (v k - mean v)) + Ideal.ofBits .f32 0x358637BD#32) * lg e + lb e

/-- The group of a column. -/
abbrev grp (e : Fin 512) : Fin 8 := ⟨e.val / 64, by omega⟩

/-- The mixing of a run of 128 tokens: a token takes, in its column's group, the weighted sum of the tokens of its chunk and
    of the chunks before, and the group's bias. -/
def mix (W : Fin 8 → Fin 128 → Fin 128 → EReal) (B : Fin 8 → Fin 128 → EReal) (v : Fin 128 → Fin 512 → EReal) (i : Fin 128) (e : Fin 512) : EReal :=
  ∑ j : Fin 128, (if j.val / 64 ≤ i.val / 64 then W (grp e) i j else 0) * v j e + B (grp e) i

/-- The kernel's order of it: group after group, a product with the values times the group's indicator, and the bias times
    the indicator. -/
theorem mix_eq (W : Fin 8 → Fin 128 → Fin 128 → EReal) (B : Fin 8 → Fin 128 → EReal) (v : Fin 128 → Fin 512 → EReal) (i : Fin 128) (e : Fin 512)
    (d b : Fin 8 → EReal)
    (hd : ∀ g, d g = ∑ j : Fin 128, (if j.val / 64 ≤ i.val / 64 then W g i j else 0) * (v j e * if e.val / 64 = g.val then 1 else 0))
    (hb : ∀ g, b g = B g i * if e.val / 64 = g.val then 1 else 0) :
    0 + d 0 + b 0 + d 1 + b 1 + d 2 + b 2 + d 3 + b 3 + d 4 + b 4 + d 5 + b 5 + d 6 + b 6 + d 7 + b 7 = mix W B v i e := by
  have h0 : ∀ g, g ≠ grp e → d g = 0 ∧ b g = 0 := fun g h => by
    have h' : ¬ e.val / 64 = g.val := fun c => h (Fin.ext c.symm)
    rw [hd, hb]
    simp only [if_neg h', mul_zero, Finset.sum_const_zero, and_self]
  have h1 : d (grp e) + b (grp e) = mix W B v i e := by
    rw [hd, hb]
    simp only [if_true, mul_one]
    rfl
  rw [← h1]
  generalize grp e = q at h0
  fin_cases q <;> simp (disch := decide) only [h0, zero_add, add_zero] <;> simp [(h0 _ _).1]

end Cert.Sgu

end
-- ==== Proof.InFwd.Block.lean ====
module

public import proofs.«01_k».proof.Proof.Gen.InFwdIdeal.Value
public import Idealize.ShloMosaic.Lib.Pipeline.ValueKit
public import Idealize.ShloMosaic.Lib.Pointwise
public import Idealize.ShloMosaic.Lib.Claim
public import Idealize.ShloMosaic.Lib.Pipeline.ReadBack
public import proofs.«01_k».proof.Proof.Rows
public import proofs.«01_k».proof.Proof.Sgu
public import proofs.«01_k».proof.Proof.Puts

@[expose] public section

set_option maxRecDepth 16384

noncomputable section

open Idealize.ShloMosaic Idealize.ShloMosaic.TcCoe Idealize.SL.Sem
open Idealize.ShloMosaic.Pipeline (Dat)

/-! # The input projection and the spatial gating: what one block of 256 tokens computes -/

namespace Cert.InFwdIdeal.Fwd

open Cert.InFwdIdeal Cert.InFwdIdeal.Gen Cert.InFwdIdeal.Value

/-- A word divided by 64, rounding down, as both programs write it. -/
def fl (a : BitVec 32) : BitVec 32 :=
  Scalar.select
    (IntOp.andi
      (IntOp.cmpi CmpIPredicate.ne
        (IntOp.subi (BitVec.setWidth 32 (IntOp.cmpi CmpIPredicate.sgt a 0#32)) (BitVec.setWidth 32 (IntOp.cmpi CmpIPredicate.slt a 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector a 64#32) 0#32))
    (IntOp.subi (IntOp.divsi ArithUnit.vector a 64#32) 1#32)
    (IntOp.divsi ArithUnit.vector a 64#32)

/-- It is the quotient. -/
theorem fl_eq : ∀ e : Fin 512, fl (BitVec.ofNat 32 e.val) = BitVec.ofNat 32 (e.val / 64) := by decide +kernel

/-- Chunks compare as numbers. -/
theorem chunk_le : ∀ p q : Fin 2, IntOp.cmpi CmpIPredicate.sge (BitVec.ofNat 32 p.val) (BitVec.ofNat 32 q.val) = if q.val ≤ p.val then 1#1 else 0#1 := by
  decide +kernel

/-- Groups compare as numbers. -/
theorem group_eq : ∀ p q : Fin 8, IntOp.cmpi CmpIPredicate.eq (BitVec.ofNat 32 p.val) (BitVec.ofNat 32 q.val) = if p.val = q.val then 1#1 else 0#1 := by
  decide +kernel

/-- The mask of the first run of 128 tokens, as the kernel computes it. -/
def maskK : IVec S128x128 1 := k0_pay23 (k0_pay19 (iota .tc S128x128 32 [0] iota_S128x128_d0_w32) 64#32) k0_pay20 k0_pay21 k0_pay22

/-- A token sees the tokens of its own chunk and of the chunks before. -/
theorem maskK_apply (i j : Fin 128) : maskK (ix2 i j) = if j.val / 64 ≤ i.val / 64 then 1#1 else 0#1 := by
  have e : maskK (ix2 i j) = IntOp.cmpi CmpIPredicate.sge (fl (BitVec.ofNat 32 i.val)) (fl (BitVec.ofNat 32 j.val)) := by
    pointwise [maskK, k0_pay23, k0_pay19, k0_pay20, k0_pay21, k0_pay22, fl]
  rw [e]
  refine (congrArg₂ _ (fl_eq ⟨i.val, by omega⟩) (fl_eq ⟨j.val, by omega⟩)).trans ?_
  exact chunk_le ⟨i.val / 64, by omega⟩ ⟨j.val / 64, by omega⟩

/-- The groups' indicator. -/
theorem pay15 (g : Fin 8) (e : Fin 512) : k0_pay15 (F := Ideal) (ix2 g e) = if e.val / 64 = g.val then 1 else 0 := by
  have h : k0_pay15 (F := Ideal) (ix2 g e) = Scalar.select (IntOp.cmpi CmpIPredicate.eq (fl (BitVec.ofNat 32 e.val)) (BitVec.ofNat 32 g.val)) 1 0 := by
    pointwise [k0_pay15, fl]
  rw [h, fl_eq, group_eq ⟨e.val / 64, by omega⟩ g]
  dsimp only
  split_ifs <;> rfl

/-- A masked entry. -/
theorem sel_mask (i j : Fin 128) (a : EReal) : Scalar.select (maskK (ix2 i j)) a 0 = if j.val / 64 ≤ i.val / 64 then a else 0 := by
  rw [maskK_apply]
  split_ifs <;> rfl

/-- The normalised rows. -/
theorem pay2 (x : Vec Ideal S256x1024 .f32) (g : Vec Ideal S1x1024 .f32) (r : Fin 256) (k : Fin 1024) :
    k0_pay2 x g (ix2 r k) = Rows.norm (fun d => x (ix2 r d)) (fun d => g (ix2 (0 : Fin 1) d)) k := by
  pointwise [k0_pay2, Rows.norm, Rows.rinv]

/-- A shard of the projection of the normalised rows. -/
def zS (x : Vec Ideal S256x1024 .f32) (g : Vec Ideal S1x1024 .f32) (W : Vec Ideal S4x1024x1152 .bf16) (s : Fin 4) (r : Fin 256) (j : Fin 1152) : EReal :=
  ∑ k : Fin 1024, Rows.norm (fun d => x (ix2 r d)) (fun d => g (ix2 (0 : Fin 1) d)) k * W (ix3 s k j)

/-- One product. -/
theorem pay4 (x : Vec Ideal S256x1024 .f32) (g : Vec Ideal S1x1024 .f32) (w : Vec Ideal S1x1024x1152 .bf16) (r : Fin 256) (j : Fin 1152) :
    k0_pay4 x g w (ix2 r j) = ∑ k : Fin 1024, Rows.norm (fun d => x (ix2 r d)) (fun d => g (ix2 (0 : Fin 1) d)) k * w (ix3 (0 : Fin 1) k j) := by
  have e : k0_pay4 x g w (ix2 r j) = ∑ k : Fin 1024, k0_pay2 x g (ix2 r k) * w (ix3 (0 : Fin 1) k j) := by
    pointwise [k0_pay4]
  rw [e]
  simp only [pay2]

/-- The other products are the same. -/
theorem pay3_eq : k0_pay3 (F := Ideal) = k0_pay4 := rfl
theorem pay6_eq : k0_pay6 (F := Ideal) = k0_pay4 := rfl
theorem pay9_eq (x : Vec Ideal S256x1024 .f32) (g : Vec Ideal S1x1024 .f32) (w : Vec Ideal S1x1024x1152 .bf16) : k0_pay9 (k0_pay2 x g) w = k0_pay4 x g w := rfl

/-- The gating's columns: the end of the second shard, -/
theorem pay7_lo (a b : FVec Ideal S256x1152 .f32) (r : Fin 256) (j : Fin 768) (h : j.val < 1024) : k0_pay7 a b (ix2 r ⟨j.val, h⟩) = a (ix2 r ⟨384 + j.val, by omega⟩) := by
  pointwise [k0_pay7]

/-- and the beginning of the third. -/
theorem pay7_hi (a b : FVec Ideal S256x1152 .f32) (r : Fin 256) (j : Fin 256) : k0_pay7 a b (ix2 r ⟨768 + j.val, by omega⟩) = b (ix2 r ⟨j.val, by omega⟩) := by
  pointwise [k0_pay7]

/-- The activation. -/
theorem pay10 (a b : FVec Ideal S256x1152 .f32) (r : Fin 256) (j : Fin 1024) : k0_pay10 a b (ix2 r j) = Sgu.gelu (k0_pay7 a b (ix2 r j)) := by
  rw [← Sgu.gelu_eq]
  pointwise [k0_pay10]

/-- The first half of the activations. -/
theorem pay11 (a b : FVec Ideal S256x1152 .f32) (r : Fin 256) (e : Fin 512) : k0_pay11 a b (ix2 r e) = Sgu.gelu (k0_pay7 a b (ix2 r ⟨e.val, by omega⟩)) := by
  rw [← pay10]
  pointwise [k0_pay11]

/-- The second half of the activations of a row. -/
def vs (a b : FVec Ideal S256x1152 .f32) (r : Fin 256) (e : Fin 512) : EReal := Sgu.gelu (k0_pay7 a b (ix2 r ⟨512 + e.val, by omega⟩))

theorem pay12 (a b : FVec Ideal S256x1152 .f32) (r : Fin 256) (e : Fin 512) : k0_pay12 a b (ix2 r e) = vs a b r e - Sgu.mean (vs a b r) := by
  unfold vs
  simp only [← pay10]
  pointwise [k0_pay12, Sgu.mean]

theorem pay13 (a b : FVec Ideal S256x1152 .f32) (r : Fin 256) :
    k0_pay13 a b (ix2 r (0 : Fin 1)) = ∑ e : Fin 512, (vs a b r e - Sgu.mean (vs a b r)) * (vs a b r e - Sgu.mean (vs a b r)) := by
  simp only [← pay12]
  pointwise [k0_pay13]

/-- The layer norm. -/
theorem pay14 (lg lb : Vec Ideal S1x512 .f32) (a b : FVec Ideal S256x1152 .f32) (r : Fin 256) (e : Fin 512) :
    k0_pay14 lg lb (k0_pay12 a b) (k0_pay13 a b) (ix2 r e)
      = Sgu.ln (vs a b r) (fun e => lg (ix2 (0 : Fin 1) e)) (fun e => lb (ix2 (0 : Fin 1) e)) e := by
  unfold Sgu.ln Sgu.mean
  have e1 := pay12 a b r e
  have e2 := pay13 a b r
  unfold Sgu.mean at e1 e2
  rw [← e1, ← e2]
  pointwise [k0_pay14]

end Cert.InFwdIdeal.Fwd
end
-- ==== Proof.InFwd.Mix.lean ====
module

public import proofs.«01_k».proof.Proof.InFwd.Block

@[expose] public section

set_option maxRecDepth 16384

noncomputable section

open Idealize.ShloMosaic Idealize.ShloMosaic.TcCoe Idealize.SL.Sem

/-! # The spatial gating's mixing: the two runs of 128 tokens of a block -/

namespace Cert.InFwdIdeal.Fwd

open Cert.InFwdIdeal Cert.InFwdIdeal.Gen Cert.InFwdIdeal.Value

/-- The mask of the second run of 128 tokens, as the kernel computes it. -/
def maskK' : IVec S128x128 1 := k0_pay37 k0_pay34 (iota .tc S128x128 32 [1] iota_S128x128_d1_w32) 64#32 k0_pay35 k0_pay36
  (Scalar.extui (Scalar.cmpi .sgt 64#32 0#32)) (Scalar.extui (Scalar.cmpi .slt 64#32 0#32))

/-- It is the first one. -/
theorem maskK'_eq : maskK' = maskK := rfl

/-- The mixing of the first run, as the kernel chains it. -/
def mixA (u V : FVec Ideal S128x512 .f32) (B : Vec Ideal S128x8 .f32) (w : Fin 8 → Vec Ideal S1x128x128 .f32) : FVec Ideal S128x512 .bf16 :=
  k0_pay31 u (k0_pay29 (k0_pay15 (F := Ideal)) (k0_pay16 B) V maskK
      (k0_pay27 (k0_pay15 (F := Ideal)) (k0_pay16 B) V maskK
        (k0_pay24 (k0_pay15 (F := Ideal)) (k0_pay16 B) V (k0_pay19 (iota .tc S128x128 32 [0] iota_S128x128_d0_w32) 64#32) k0_pay20 k0_pay21 k0_pay22 (w 0) (w 1))
        (k0_pay25 (k0_pay19 (iota .tc S128x128 32 [0] iota_S128x128_d0_w32) 64#32) k0_pay20 k0_pay21 k0_pay22 (w 2)) (k0_pay26 (k0_pay15 (F := Ideal))) (w 3) (w 4))
      (k0_pay28 (w 5)) (w 6) (w 7))
    (k0_pay30 (k0_pay15 (F := Ideal)) (k0_pay16 B))

/-- The mixing of the second run, as the kernel chains it. -/
def mixB (u V : FVec Ideal S128x512 .f32) (B : Vec Ideal S128x8 .f32) (w : Fin 8 → Vec Ideal S1x128x128 .f32) : FVec Ideal S128x512 .bf16 :=
  k0_pay1 (k0_pay15 (F := Ideal)) (k0_pay16 B) u V
    (k0_pay40 (k0_pay15 (F := Ideal)) (k0_pay16 B) V maskK'
      (k0_pay39 (k0_pay15 (F := Ideal)) (k0_pay16 B) V maskK'
        (k0_pay38 (k0_pay15 (F := Ideal)) (k0_pay16 B) V k0_pay34 (iota .tc S128x128 32 [1] iota_S128x128_d1_w32) 64#32 k0_pay35 k0_pay36
          (Scalar.extui (Scalar.cmpi .sgt 64#32 0#32)) (Scalar.extui (Scalar.cmpi .slt 64#32 0#32)) (w 0) (w 1))
        (w 2) (w 3) (w 4))
      (w 5) (w 6))
    (k0_pay41 maskK' (w 7)) (k0_pay42 (k0_pay15 (F := Ideal)))

/-- Group `g`'s product at an entry. -/
def prod (V : FVec Ideal S128x512 .f32) (w : Fin 8 → Vec Ideal S1x128x128 .f32) (i : Fin 128) (e : Fin 512) (g : Fin 8) : EReal :=
  ∑ j : Fin 128, Scalar.select (maskK (ix2 i j)) (w g (ix3 (0 : Fin 1) i j)) 0 * (V (ix2 j e) * k0_pay15 (F := Ideal) (ix2 g e))

/-- Group `g`'s bias at an entry. -/
def bias (B : Vec Ideal S128x8 .f32) (i : Fin 128) (e : Fin 512) (g : Fin 8) : EReal := B (ix2 i g) * k0_pay15 (F := Ideal) (ix2 g e)

theorem mixA_chain (u V : FVec Ideal S128x512 .f32) (B : Vec Ideal S128x8 .f32) (w : Fin 8 → Vec Ideal S1x128x128 .f32) (i : Fin 128) (e : Fin 512) :
    mixA u V B w (ix2 i e) = u (ix2 i e) * (0 + prod V w i e 0 + bias B i e 0 + prod V w i e 1 + bias B i e 1 + prod V w i e 2 + bias B i e 2
      + prod V w i e 3 + bias B i e 3 + prod V w i e 4 + bias B i e 4 + prod V w i e 5 + bias B i e 5 + prod V w i e 6 + bias B i e 6 + prod V w i e 7 + bias B i e 7) := by
  have h : k0_pay23 (k0_pay19 (iota .tc S128x128 32 [0] iota_S128x128_d0_w32) 64#32) k0_pay20 k0_pay21 k0_pay22 = maskK := rfl
  unfold mixA prod bias
  generalize k0_pay15 (F := Ideal) = G
  unfold k0_pay24 k0_pay25
  rw [h]
  generalize maskK = M
  pointwise [k0_pay31, k0_pay29, k0_pay27, k0_pay26, k0_pay28, k0_pay30, k0_pay16]

theorem mixB_chain (u V : FVec Ideal S128x512 .f32) (B : Vec Ideal S128x8 .f32) (w : Fin 8 → Vec Ideal S1x128x128 .f32) (i : Fin 128) (e : Fin 512) :
    mixB u V B w (ix2 i e) = u (ix2 i e) * (0 + prod V w i e 0 + bias B i e 0 + prod V w i e 1 + bias B i e 1 + prod V w i e 2 + bias B i e 2
      + prod V w i e 3 + bias B i e 3 + prod V w i e 4 + bias B i e 4 + prod V w i e 5 + bias B i e 5 + prod V w i e 6 + bias B i e 6 + prod V w i e 7 + bias B i e 7) := by
  have h : k0_pay37 k0_pay34 (iota .tc S128x128 32 [1] iota_S128x128_d1_w32) 64#32 k0_pay35 k0_pay36
    (Scalar.extui (Scalar.cmpi .sgt 64#32 0#32)) (Scalar.extui (Scalar.cmpi .slt 64#32 0#32)) = maskK := rfl
  unfold mixB prod bias
  rw [maskK'_eq]
  generalize k0_pay15 (F := Ideal) = G
  unfold k0_pay38
  rw [h]
  generalize maskK = M
  pointwise [k0_pay1, k0_pay40, k0_pay39, k0_pay41, k0_pay42, k0_pay16]

/-- The chain is the mixing, gated. -/
theorem chain_mix (V : FVec Ideal S128x512 .f32) (B : Vec Ideal S128x8 .f32) (w : Fin 8 → Vec Ideal S1x128x128 .f32) (i : Fin 128) (e : Fin 512) :
    0 + prod V w i e 0 + bias B i e 0 + prod V w i e 1 + bias B i e 1 + prod V w i e 2 + bias B i e 2
      + prod V w i e 3 + bias B i e 3 + prod V w i e 4 + bias B i e 4 + prod V w i e 5 + bias B i e 5 + prod V w i e 6 + bias B i e 6 + prod V w i e 7 + bias B i e 7
      = Sgu.mix (fun g i j => w g (ix3 (0 : Fin 1) i j)) (fun g i => B (ix2 i g)) (fun j e => V (ix2 j e)) i e :=
  Sgu.mix_eq _ _ _ i e (prod V w i e) (bias B i e) (fun g => by unfold prod; simp only [sel_mask, pay15]) (fun g => by unfold bias; rw [pay15])

theorem mixA_apply (u V : FVec Ideal S128x512 .f32) (B : Vec Ideal S128x8 .f32) (w : Fin 8 → Vec Ideal S1x128x128 .f32) (i : Fin 128) (e : Fin 512) :
    mixA u V B w (ix2 i e) = u (ix2 i e) * Sgu.mix (fun g i j => w g (ix3 (0 : Fin 1) i j)) (fun g i => B (ix2 i g)) (fun j e => V (ix2 j e)) i e := by
  rw [mixA_chain, chain_mix]

theorem mixB_apply (u V : FVec Ideal S128x512 .f32) (B : Vec Ideal S128x8 .f32) (w : Fin 8 → Vec Ideal S1x128x128 .f32) (i : Fin 128) (e : Fin 512) :
    mixB u V B w (ix2 i e) = u (ix2 i e) * Sgu.mix (fun g i j => w g (ix3 (0 : Fin 1) i j)) (fun g i => B (ix2 i g)) (fun j e => V (ix2 j e)) i e := by
  rw [mixB_chain, chain_mix]

end Cert.InFwdIdeal.Fwd
end
-- ==== Proof.InFwd.Out.lean ====
module

public import proofs.«01_k».proof.Proof.InFwd.Mix

@[expose] public section

set_option maxRecDepth 16384

noncomputable section

open Idealize.ShloMosaic Idealize.ShloMosaic.TcCoe Idealize.SL.Sem
open Idealize.ShloMosaic.Pipeline (Dat)

/-! # What a block of 256 tokens leaves in its five outputs -/

namespace Cert.InFwdIdeal.Fwd

open Cert.InFwdIdeal Cert.InFwdIdeal.Gen Cert.InFwdIdeal.Value

section
variable {Val : EltTy → Type} [∀ e, Nonempty (Val e)] {e : EltTy} {R W n k : ℕ}

/-- Two stores of columns side by side: a column of the first. -/
theorem cols_lo (p : (⟨2, ![R, n]⟩ : Shape).Idx → Val e) (q : (⟨2, ![R, k]⟩ : Shape).Idx → Val e)
    (i : ∀ a : Fin 2, (![0, 0] : Fin 2 → ℕ) a + (![R, n] : Fin 2 → ℕ) a ≤ (![R, W] : Fin 2 → ℕ) a)
    (i' : ∀ a : Fin 2, (![0, n] : Fin 2 → ℕ) a + (![R, k] : Fin 2 → ℕ) a ≤ (![R, W] : Fin 2 → ℕ) a)
    (r : Fin R) (j : Fin W) (h : j.val < n) :
    View.canon [(⟨Rect.unit (s := ⟨2, ![R, W]⟩) ![0, n] ![R, k] i', q⟩ : View.Piece Val ⟨2, ![R, W]⟩ e), ⟨Rect.unit (s := ⟨2, ![R, W]⟩) ![0, 0] ![R, n] i, p⟩] (ix2 r j)
      = p (ix2 r ⟨j.val, h⟩) := by
  rw [Puts.canon_puts]
  simp only [Puts.puts_cons]
  rw [Puts.put_unit_miss (s := ⟨2, ![R, W]⟩) i' q _ (ix2 r j) 1 (.inl h)]
  exact Puts.put_unit_hit (s := ⟨2, ![R, W]⟩) i p _ (ix2 r ⟨j.val, h⟩) (ix2 r j)
    (Fin.forall_fin_two.2 ⟨(Nat.zero_add _).symm, (Nat.zero_add _).symm⟩)

/-- Two stores of columns side by side: a column of the second. -/
theorem cols_hi (p : (⟨2, ![R, n]⟩ : Shape).Idx → Val e) (q : (⟨2, ![R, k]⟩ : Shape).Idx → Val e)
    (i : ∀ a : Fin 2, (![0, 0] : Fin 2 → ℕ) a + (![R, n] : Fin 2 → ℕ) a ≤ (![R, W] : Fin 2 → ℕ) a)
    (i' : ∀ a : Fin 2, (![0, n] : Fin 2 → ℕ) a + (![R, k] : Fin 2 → ℕ) a ≤ (![R, W] : Fin 2 → ℕ) a)
    (r : Fin R) (j : Fin W) (h : n ≤ j.val) (h' : j.val - n < k) :
    View.canon [(⟨Rect.unit (s := ⟨2, ![R, W]⟩) ![0, n] ![R, k] i', q⟩ : View.Piece Val ⟨2, ![R, W]⟩ e), ⟨Rect.unit (s := ⟨2, ![R, W]⟩) ![0, 0] ![R, n] i, p⟩] (ix2 r j)
      = q (ix2 r ⟨j.val - n, h'⟩) := by
  rw [Puts.canon_puts]
  simp only [Puts.puts_cons]
  exact Puts.put_unit_hit (s := ⟨2, ![R, W]⟩) i' q _ (ix2 r ⟨j.val - n, h'⟩) (ix2 r j)
    (Fin.forall_fin_two.2 ⟨(Nat.zero_add _).symm, (Nat.add_sub_cancel' h).symm⟩)

/-- Two stores of rows one below the other: a row of the first. -/
theorem rows_lo (p : (⟨2, ![n, W]⟩ : Shape).Idx → Val e) (q : (⟨2, ![k, W]⟩ : Shape).Idx → Val e)
    (i : ∀ a : Fin 2, (![0, 0] : Fin 2 → ℕ) a + (![n, W] : Fin 2 → ℕ) a ≤ (![R, W] : Fin 2 → ℕ) a)
    (i' : ∀ a : Fin 2, (![n, 0] : Fin 2 → ℕ) a + (![k, W] : Fin 2 → ℕ) a ≤ (![R, W] : Fin 2 → ℕ) a)
    (r : Fin R) (j : Fin W) (h : r.val < n) :
    View.canon [(⟨Rect.unit (s := ⟨2, ![R, W]⟩) ![n, 0] ![k, W] i', q⟩ : View.Piece Val ⟨2, ![R, W]⟩ e), ⟨Rect.unit (s := ⟨2, ![R, W]⟩) ![0, 0] ![n, W] i, p⟩] (ix2 r j)
      = p (ix2 ⟨r.val, h⟩ j) := by
  rw [Puts.canon_puts]
  simp only [Puts.puts_cons]
  rw [Puts.rows_miss i' q _ (ix2 r j) (.inl h)]
  exact Puts.rows_hit i p _ (ix2 r j) (Nat.zero_le _) h

/-- Two stores of rows one below the other: a row of the second. -/
theorem rows_hi (p : (⟨2, ![n, W]⟩ : Shape).Idx → Val e) (q : (⟨2, ![k, W]⟩ : Shape).Idx → Val e)
    (i : ∀ a : Fin 2, (![0, 0] : Fin 2 → ℕ) a + (![n, W] : Fin 2 → ℕ) a ≤ (![R, W] : Fin 2 → ℕ) a)
    (i' : ∀ a : Fin 2, (![n, 0] : Fin 2 → ℕ) a + (![k, W] : Fin 2 → ℕ) a ≤ (![R, W] : Fin 2 → ℕ) a)
    (r : Fin R) (j : Fin W) (h : n ≤ r.val) (h' : r.val - n < k) :
    View.canon [(⟨Rect.unit (s := ⟨2, ![R, W]⟩) ![n, 0] ![k, W] i', q⟩ : View.Piece Val ⟨2, ![R, W]⟩ e), ⟨Rect.unit (s := ⟨2, ![R, W]⟩) ![0, 0] ![n, W] i, p⟩] (ix2 r j)
      = q (ix2 ⟨r.val - n, h'⟩ j) := by
  rw [Puts.canon_puts]
  simp only [Puts.puts_cons]
  exact Puts.rows_hit i' q _ (ix2 r j) h h'

end

variable (m : (ℓ : Loc nD τ sig) → Buf (Elt Ideal) ℓ) (c : Dev nD) (t : Fin cfg0.N)

/-- The block of the input. -/
abbrev b0 : Vec Ideal S256x1024 .f32 := iblk m c 0 t
/-- The norm's weight. -/
abbrev b1 : Vec Ideal S1x1024 .f32 := iblk m c 1 t
/-- The projection's weight, shard after shard. -/
abbrev b2 : Vec Ideal S4x1024x1152 .bf16 := iblk m c 2 t
/-- The gating norm's weight. -/
abbrev b3 : Vec Ideal S1x512 .f32 := iblk m c 3 t
/-- The gating norm's bias. -/
abbrev b4 : Vec Ideal S1x512 .f32 := iblk m c 4 t
/-- The mixing weights. -/
abbrev b5 : Vec Ideal S8x128x128 .f32 := iblk m c 5 t
/-- The mixing biases. -/
abbrev b6 : Vec Ideal S128x8 .f32 := iblk m c 6 t

/-- The projection's entry at row `r` and column `n`. -/
def zB (r : Fin 256) (n : Fin 4608) : EReal := zS (b0 m c t) (b1 m c t) (b2 m c t) ⟨n.val / 1152, by omega⟩ r ⟨n.val % 1152, by omega⟩

/-- Shard 1 of the projection. -/
def z1 : FVec Ideal S256x1152 .f32 := k0_pay4 (b0 m c t) (b1 m c t) (View.ld (b2 m c t) (Rect.unit (s := S4x1024x1152) ![1, 0, 0] S1x1024x1152.size inb_S4x1024x1152_S1x1024x1152_1_0_0))
/-- Shard 2 of the projection. -/
def z2 : FVec Ideal S256x1152 .f32 := k0_pay4 (b0 m c t) (b1 m c t) (View.ld (b2 m c t) (Rect.unit (s := S4x1024x1152) ![2, 0, 0] S1x1024x1152.size inb_S4x1024x1152_S1x1024x1152_2_0_0))

/-- A product with a loaded shard is that shard of the projection. -/
theorem shard (s : Fin 4) (o : ℕ) (ho : o = s.val) (inb : ∀ a : Fin 3, (![o, 0, 0] : Fin 3 → ℕ) a + S1x1024x1152.size a ≤ S4x1024x1152.size a)
    (r : Fin 256) (j : Fin 1152) (n : Fin 4608) (hn : n.val = s.val * 1152 + j.val) :
    k0_pay4 (b0 m c t) (b1 m c t) (View.ld (b2 m c t) (Rect.unit (s := S4x1024x1152) ![o, 0, 0] S1x1024x1152.size inb)) (ix2 r j) = zB m c t r n := by
  subst ho
  rw [pay4]
  unfold zB zS
  have e : (⟨n.val / 1152, by omega⟩ : Fin 4) = s := Fin.ext (by dsimp only; omega)
  have e' : (⟨n.val % 1152, by omega⟩ : Fin 1152) = j := Fin.ext (by dsimp only; omega)
  rw [e, e']
  refine Finset.sum_congr rfl fun k _ => congrArg _ ?_
  pointwise

/-- What the block leaves of the normalised rows. -/
theorem out7 (r : Fin 256) (k : Fin 1024) : (outsAt0 m c t).1 (ix2 r k) = Rows.norm (fun d => b0 m c t (ix2 r d)) (fun d => b1 m c t (ix2 (0 : Fin 1) d)) k := by
  rw [← pay2]
  unfold outsAt0
  frame_out

/-- What the block leaves for the attention. -/
theorem out8 (r : Fin 256) (j : Fin 1536) : (outsAt0 m c t).2.1 (ix2 r j) = zB m c t r ⟨j.val, by omega⟩ := by
  unfold outsAt0
  frame_out
  by_cases h : j.val < 1152
  · refine (cols_lo _ _ _ _ r j h).trans (shard m c t 0 0 rfl inb_S4x1024x1152_S1x1024x1152_0_0_0 r _ _ ?_)
    dsimp only; omega
  · refine (cols_hi _ _ _ _ r j (by omega) (by omega)).trans ?_
    refine Eq.trans ?_ (shard m c t 1 1 rfl inb_S4x1024x1152_S1x1024x1152_1_0_0 r ⟨j.val - 1152, by omega⟩ _ (by dsimp only; omega))
    pointwise [k0_pay5]

/-- The gating's columns. -/
theorem zs_at (r : Fin 256) (j : Fin 1024) : k0_pay7 (z1 m c t) (z2 m c t) (ix2 r j) = zB m c t r ⟨1536 + j.val, by omega⟩ := by
  by_cases h : j.val < 768
  · refine (pay7_lo _ _ r ⟨j.val, h⟩ j.isLt).trans (shard m c t 1 1 rfl inb_S4x1024x1152_S1x1024x1152_1_0_0 r _ _ ?_)
    show 1536 + j.val = 1 * 1152 + (384 + j.val); omega
  · have e : j = (⟨768 + (⟨j.val - 768, by omega⟩ : Fin 256).val, by dsimp only; omega⟩ : Fin 1024) := Fin.ext (by dsimp only; omega)
    rw [e]
    refine (pay7_hi _ _ r ⟨j.val - 768, by omega⟩).trans (shard m c t 2 2 rfl inb_S4x1024x1152_S1x1024x1152_2_0_0 r _ _ ?_)
    show 1536 + (768 + (j.val - 768)) = 2 * 1152 + (j.val - 768); omega

/-- What the block leaves of the gating's columns. -/
theorem out9 (r : Fin 256) (j : Fin 1024) : (outsAt0 m c t).2.2.1 (ix2 r j) = zB m c t r ⟨1536 + j.val, by omega⟩ := by
  rw [← zs_at]
  unfold outsAt0
  frame_out
  rfl

/-- What the block leaves of the gates. -/
theorem out10 (r : Fin 256) (j : Fin 2048) : (outsAt0 m c t).2.2.2.1 (ix2 r j) = zB m c t r ⟨2560 + j.val, by omega⟩ := by
  unfold outsAt0
  frame_out
  by_cases h : j.val < 896
  · refine (cols_lo _ _ _ _ r j h).trans ?_
    refine Eq.trans ?_ (shard m c t 2 2 rfl inb_S4x1024x1152_S1x1024x1152_2_0_0 r ⟨256 + j.val, by omega⟩ _ (by dsimp only [Fin.val]; show 2560 + j.val = 2 * 1152 + (256 + j.val); omega))
    pointwise [k0_pay8]
    rfl
  · refine (cols_hi _ _ _ _ r j (by omega) (by omega)).trans ?_
    exact shard m c t 3 3 rfl inb_S4x1024x1152_S1x1024x1152_3_0_0 r ⟨j.val - 896, by omega⟩ _ (by show 2560 + j.val = 3 * 1152 + (j.val - 896); omega)

/-- The mixing weights of the groups, loaded. -/
def wL (g : Fin 8) : Vec Ideal S1x128x128 .f32 :=
  ![View.ld (b5 m c t) (Rect.unit (s := S8x128x128) ![0, 0, 0] S1x128x128.size inb_S8x128x128_S1x128x128_0_0_0),
    View.ld (b5 m c t) (Rect.unit (s := S8x128x128) ![1, 0, 0] S1x128x128.size inb_S8x128x128_S1x128x128_1_0_0),
    View.ld (b5 m c t) (Rect.unit (s := S8x128x128) ![2, 0, 0] S1x128x128.size inb_S8x128x128_S1x128x128_2_0_0),
    View.ld (b5 m c t) (Rect.unit (s := S8x128x128) ![3, 0, 0] S1x128x128.size inb_S8x128x128_S1x128x128_3_0_0),
    View.ld (b5 m c t) (Rect.unit (s := S8x128x128) ![4, 0, 0] S1x128x128.size inb_S8x128x128_S1x128x128_4_0_0),
    View.ld (b5 m c t) (Rect.unit (s := S8x128x128) ![5, 0, 0] S1x128x128.size inb_S8x128x128_S1x128x128_5_0_0),
    View.ld (b5 m c t) (Rect.unit (s := S8x128x128) ![6, 0, 0] S1x128x128.size inb_S8x128x128_S1x128x128_6_0_0),
    View.ld (b5 m c t) (Rect.unit (s := S8x128x128) ![7, 0, 0] S1x128x128.size inb_S8x128x128_S1x128x128_7_0_0)] g

theorem wL_apply (g : Fin 8) (i j : Fin 128) : wL m c t g (ix3 (0 : Fin 1) i j) = b5 m c t (ix3 g i j) := by
  have ld (o : ℕ) (inb : ∀ a : Fin 3, (![o, 0, 0] : Fin 3 → ℕ) a + S1x128x128.size a ≤ S8x128x128.size a) (ho : o = g.val) :
      View.ld (b5 m c t) (Rect.unit (s := S8x128x128) ![o, 0, 0] S1x128x128.size inb) (ix3 (0 : Fin 1) i j) = b5 m c t (ix3 g i j) := by
    subst ho
    pointwise
  fin_cases g
  · exact ld 0 inb_S8x128x128_S1x128x128_0_0_0 rfl
  · exact ld 1 inb_S8x128x128_S1x128x128_1_0_0 rfl
  · exact ld 2 inb_S8x128x128_S1x128x128_2_0_0 rfl
  · exact ld 3 inb_S8x128x128_S1x128x128_3_0_0 rfl
  · exact ld 4 inb_S8x128x128_S1x128x128_4_0_0 rfl
  · exact ld 5 inb_S8x128x128_S1x128x128_5_0_0 rfl
  · exact ld 6 inb_S8x128x128_S1x128x128_6_0_0 rfl
  · exact ld 7 inb_S8x128x128_S1x128x128_7_0_0 rfl

/-- The activation's first half. -/
def uB (r : Fin 256) (e : Fin 512) : EReal := Sgu.gelu (zB m c t r ⟨1536 + e.val, by omega⟩)
/-- The layer norm of the activation's second half. -/
def vB (r : Fin 256) (e : Fin 512) : EReal :=
  Sgu.ln (fun e => Sgu.gelu (zB m c t r ⟨2048 + e.val, by omega⟩)) (fun e => b3 m c t (ix2 (0 : Fin 1) e)) (fun e => b4 m c t (ix2 (0 : Fin 1) e)) e

theorem u_at (r : Fin 256) (e : Fin 512) : k0_pay11 (z1 m c t) (z2 m c t) (ix2 r e) = uB m c t r e := by
  rw [pay11, zs_at]; rfl

theorem vs_at (r : Fin 256) : vs (z1 m c t) (z2 m c t) r = fun e => Sgu.gelu (zB m c t r ⟨2048 + e.val, by omega⟩) := by
  funext e
  unfold vs
  rw [zs_at]
  exact congrArg (fun n => Sgu.gelu (zB m c t r n)) (Fin.ext (by dsimp only; omega))

theorem v_at (r : Fin 256) (e : Fin 512) :
    k0_pay14 (b3 m c t) (b4 m c t) (k0_pay12 (z1 m c t) (z2 m c t)) (k0_pay13 (z1 m c t) (z2 m c t)) (ix2 r e) = vB m c t r e := by
  rw [pay14, vs_at]; rfl

/-- Row `i` of run `h`. -/
abbrev rowOf (h : Fin 2) (i : Fin 128) : Fin 256 := ⟨h.val * 128 + i.val, by omega⟩

/-- What the block leaves of the gated output. -/
theorem out11 (h : Fin 2) (i : Fin 128) (e : Fin 512) : (outsAt0 m c t).2.2.2.2 (ix2 (rowOf h i) e) = uB m c t (rowOf h i) e
    * Sgu.mix (fun g i j => b5 m c t (ix3 g i j)) (fun g i => b6 m c t (ix2 i g)) (fun j e => vB m c t (rowOf h j) e) i e := by
  have u0 (r : Fin 128) (e : Fin 512) : k0_pay17 (k0_pay11 (z1 m c t) (z2 m c t)) (ix2 r e) = uB m c t (rowOf 0 r) e := by
    rw [← u_at]
    pointwise [k0_pay17]
    exact congrArg (fun r => k0_pay11 (z1 m c t) (z2 m c t) (ix2 r e)) (Fin.ext (by show r.val = 0 * 128 + r.val; omega))
  have u1 (r : Fin 128) (e : Fin 512) : k0_pay32 (k0_pay11 (z1 m c t) (z2 m c t)) (ix2 r e) = uB m c t (rowOf 1 r) e := by
    rw [← u_at]
    pointwise [k0_pay32]
    exact congrArg (fun r => k0_pay11 (z1 m c t) (z2 m c t) (ix2 r e)) (Fin.ext (by show 128 + r.val = 1 * 128 + r.val; omega))
  have v0 (r : Fin 128) (e : Fin 512) :
      k0_pay18 (b3 m c t) (b4 m c t) (k0_pay12 (z1 m c t) (z2 m c t)) (k0_pay13 (z1 m c t) (z2 m c t)) (ix2 r e) = vB m c t (rowOf 0 r) e := by
    rw [← v_at]
    pointwise [k0_pay18]
    exact congrArg (fun r => k0_pay14 (b3 m c t) (b4 m c t) (k0_pay12 (z1 m c t) (z2 m c t)) (k0_pay13 (z1 m c t) (z2 m c t)) (ix2 r e)) (Fin.ext (by show r.val = 0 * 128 + r.val; omega))
  have v1 (r : Fin 128) (e : Fin 512) :
      k0_pay33 (k0_pay14 (b3 m c t) (b4 m c t) (k0_pay12 (z1 m c t) (z2 m c t)) (k0_pay13 (z1 m c t) (z2 m c t))) (ix2 r e) = vB m c t (rowOf 1 r) e := by
    rw [← v_at]
    pointwise [k0_pay33]
    exact congrArg (fun r => k0_pay14 (b3 m c t) (b4 m c t) (k0_pay12 (z1 m c t) (z2 m c t)) (k0_pay13 (z1 m c t) (z2 m c t)) (ix2 r e)) (Fin.ext (by show 128 + r.val = 1 * 128 + r.val; omega))
  have k0 := mixA_apply (k0_pay17 (k0_pay11 (z1 m c t) (z2 m c t))) (k0_pay18 (b3 m c t) (b4 m c t) (k0_pay12 (z1 m c t) (z2 m c t)) (k0_pay13 (z1 m c t) (z2 m c t))) (b6 m c t) (wL m c t) i e
  have k1 := mixB_apply (k0_pay32 (k0_pay11 (z1 m c t) (z2 m c t))) (k0_pay33 (k0_pay14 (b3 m c t) (b4 m c t) (k0_pay12 (z1 m c t) (z2 m c t)) (k0_pay13 (z1 m c t) (z2 m c t)))) (b6 m c t) (wL m c t) i e
  simp only [wL_apply, u0, v0] at k0
  simp only [wL_apply, u1, v1] at k1
  unfold outsAt0
  frame_out
  fin_cases h
  · refine (rows_lo _ _ _ _ (rowOf 0 i) e (by show 0 * 128 + i.val < 128; omega)).trans (Eq.trans ?_ k0)
    have e0 : (⟨(rowOf 0 i).val, by show 0 * 128 + i.val < 128; omega⟩ : Fin 128) = i := Fin.ext (by show 0 * 128 + i.val = i.val; omega)
    rw [e0]
    rfl
  · refine (rows_hi _ _ _ _ (rowOf 1 i) e (by show 128 ≤ 1 * 128 + i.val; omega) (by show 1 * 128 + i.val - 128 < 128; omega)).trans (Eq.trans ?_ k1)
    have e1 : (⟨(rowOf 1 i).val - 128, by show 1 * 128 + i.val - 128 < 128; omega⟩ : Fin 128) = i := Fin.ext (by show 1 * 128 + i.val - 128 = i.val; omega)
    rw [e1]
    rfl

end Cert.InFwdIdeal.Fwd
end
-- ==== Proof.InFwd.Ref.lean ====
module

public import proofs.«01_k».proof.Proof.Gen.InFwdRefIdeal.Run
public import proofs.«01_k».proof.Proof.Gen.InFwdRefIdeal.Read
public import Idealize.ShloMosaic.Lib.Pointwise
public import proofs.«01_k».proof.Proof.Rows
public import proofs.«01_k».proof.Proof.Sgu
public import proofs.«01_k».proof.Proof.Reduce1

@[expose] public section

set_option maxRecDepth 16384

noncomputable section

open Idealize.ShloMosaic Idealize.ShloMosaic.TcCoe Idealize.SL.Sem

/-! # The reference's arrays -/

namespace Cert.InFwdRefIdeal.Fwd

open Cert.InFwdRefIdeal Cert.InFwdRefIdeal.Read

variable (x0 : FVec Ideal S1x4096x1024 .f32) (x1 : FVec Ideal S1x1024 .f32) (x2 : FVec Ideal S1x1024x4608 .f32)
    (x3 x4 : FVec Ideal S1x512 .f32) (x5 : FVec Ideal S1x8x128x128 .f32) (x6 : FVec Ideal S1x8x128 .f32)

/-- The normalised input. -/
def hS (t : Fin 4096) (k : Fin 1024) : EReal := Rows.norm (fun d => x0 (ix3 (0 : Fin 1) t d)) (fun d => x1 (ix2 (0 : Fin 1) d)) k

/-- The projection. -/
def zS (t : Fin 4096) (n : Fin 4608) : EReal := ∑ k : Fin 1024, hS x0 x1 t k * x2 (ix3 (0 : Fin 1) k n)

/-- The activation's first half. -/
def uS (t : Fin 4096) (e : Fin 512) : EReal := Sgu.gelu (zS x0 x1 x2 t ⟨1536 + e.val, by omega⟩)

/-- The layer norm of the activation's second half. -/
def vS (t : Fin 4096) (e : Fin 512) : EReal :=
  Sgu.ln (fun e => Sgu.gelu (zS x0 x1 x2 t ⟨2048 + e.val, by omega⟩)) (fun e => x3 (ix2 (0 : Fin 1) e)) (fun e => x4 (ix2 (0 : Fin 1) e)) e

/-- Token `i` of run `s`. -/
abbrev at128 (s : Fin 32) (i : Fin 128) : Fin 4096 := ⟨s.val * 128 + i.val, by omega⟩

/-- The gated output. -/
def yS (s : Fin 32) (i : Fin 128) (e : Fin 512) : EReal := uS x0 x1 x2 (at128 s i) e
  * Sgu.mix (fun g i j => x5 (ix4 (0 : Fin 1) g i j)) (fun g i => x6 (ix3 (0 : Fin 1) g i)) (fun j e => vS x0 x1 x2 x3 x4 (at128 s j) e) i e

theorem ref_h (t : Fin 4096) (k : Fin 1024) : val_main_v13 (F := Ideal) x0 x1 (ix3 (0 : Fin 1) t k) = hS x0 x1 t k := by
  pointwise [val_main_v13, val_main_v12, val_main_v11, val_main_v0, val_main_v10, val_main_v9, val_main_v8, val_main_v7, val_main_v6, val_main_cst_1, val_main_v5, val_main_v4, val_main_cst_0, val_main_v3,
    val_main_v2, val_main_cst, val_main_v1, hS, Rows.norm, Rows.rinv]

theorem ref_z (t : Fin 4096) (n : Fin 4608) : val_main_v15 (F := Ideal) x0 x1 x2 (ix3 (0 : Fin 1) t n) = zS x0 x1 x2 t n := by
  pointwise [val_main_v15, val_main_v14]
  simp only [ref_h]
  rfl

theorem ref_gelu (t : Fin 4096) (j : Fin 1024) :
    val_main_v29 (F := Ideal) x0 x1 x2 (ix3 (0 : Fin 1) t j) = Sgu.gelu (zS x0 x1 x2 t ⟨1536 + j.val, by omega⟩) := by
  pointwise [val_main_v29, val_main_v28, val_main_v27, val_main_cst_5, val_main_v26, val_main_v25, val_main_cst_4, val_main_v24, val_main_v23, val_main_v22, val_main_cst_3, val_main_v21, val_main_v20,
    val_main_v19, val_main_cst_2, val_main_v18, val_main_v17, val_main_v16]
  simp only [ref_z]
  rfl

theorem ref_u (t : Fin 4096) (e : Fin 512) : val_main_v34 (F := Ideal) x0 x1 x2 (ix3 (0 : Fin 1) t e) = uS x0 x1 x2 t e := by
  pointwise [val_main_v34]
  rw [ref_gelu]
  rfl

theorem ref_vs (t : Fin 4096) (e : Fin 512) :
    val_main_v35 (F := Ideal) x0 x1 x2 (ix3 (0 : Fin 1) t e) = Sgu.gelu (zS x0 x1 x2 t ⟨2048 + e.val, by omega⟩) := by
  pointwise [val_main_v35]
  rw [ref_gelu]
  exact congrArg (fun n => Sgu.gelu (zS x0 x1 x2 t n)) (Fin.ext (by dsimp only; omega))

theorem ref_mean (t : Fin 4096) :
    val_main_v39 (F := Ideal) x0 x1 x2 (ix3 (0 : Fin 1) t (0 : Fin 1)) = Sgu.mean fun e => Sgu.gelu (zS x0 x1 x2 t ⟨2048 + e.val, by omega⟩) := by
  pointwise [val_main_v39, val_main_v38, val_main_cst_7, val_main_v37, val_main_v36, val_main_cst_6]
  simp only [ref_vs]
  rfl

theorem ref_v (t : Fin 4096) (e : Fin 512) : val_main_v59 (F := Ideal) x0 x1 x2 x3 x4 (ix3 (0 : Fin 1) t e) = vS x0 x1 x2 x3 x4 t e := by
  pointwise [val_main_v59, val_main_v58, val_main_v57, val_main_v31, val_main_v56, val_main_v55, val_main_v54, val_main_v30, val_main_v53, val_main_v52, val_main_v51, val_main_v50, val_main_v49, val_main_cst_10,
    val_main_v48, val_main_v47, val_main_v46, val_main_v45, val_main_cst_9, val_main_v44, val_main_v43, val_main_cst_8, val_main_v42, val_main_v41, val_main_v40]
  simp only [ref_vs, ref_mean]
  rfl

/-- A word divided by 64, rounding down, as the reference computes it. -/
def fl (a : BitVec 32) : BitVec 32 :=
  Scalar.select
    (IntOp.andi
      (IntOp.cmpi CmpIPredicate.ne (if a = 0 then (0 : BitVec 32) else if a.msb = true then -1 else 1)
        (if (64#32 : BitVec 32) = 0 then (0 : BitVec 32) else if BitVec.msb 64#32 = true then -1 else 1))
      (IntOp.cmpi CmpIPredicate.ne (IntOp.remsi ArithUnit.host a 64#32) 0#32))
    (IntOp.subi (IntOp.divsi ArithUnit.host a 64#32) 1#32)
    (IntOp.divsi ArithUnit.host a 64#32)

/-- It is the quotient. -/
theorem fl_eq : ∀ e : Fin 128, fl (BitVec.ofNat 32 e.val) = BitVec.ofNat 32 (e.val / 64) := by decide +kernel

/-- Chunks compare as numbers. -/
theorem chunk_le : ∀ p q : Fin 2, IntOp.cmpi CmpIPredicate.sge (BitVec.ofNat 32 p.val) (BitVec.ofNat 32 q.val) = if q.val ≤ p.val then 1#1 else 0#1 := by
  decide +kernel

/-- The reference's mask. -/
theorem ref_mask (i j : Fin 128) : val_main_v68 (F := Ideal) (ix2 i j) = if j.val / 64 ≤ i.val / 64 then 1#1 else 0#1 := by
  pointwise [val_main_v68, val_main_v67, val_main_v66, val_main_v65, val_main_v64, val_main_v63, val_main_v62, val_main_v61, val_main_c, val_main_c_11, val_main_call0_v0, val_main_call0_v1, val_main_call0_v2,
    val_main_call0_v3, val_main_call0_v4, val_main_call0_v5, val_main_call0_v6, val_main_call0_v7, val_main_call0_v8, val_main_call0_v9, val_main_call0_v10, val_main_call0_v11, val_main_call0_v12, val_main_call0_v13,
    val_main_call0_c, val_main_call0_c_0, val_main_call1_v0, val_main_call1_v1, val_main_call1_v2, val_main_call1_v3, val_main_call1_v4, val_main_call1_v5, val_main_call1_v6, val_main_call1_v7, val_main_call1_v8,
    val_main_call1_v9, val_main_call1_v10, val_main_call1_v11, val_main_call1_v12, val_main_call1_v13, val_main_call1_c, val_main_call1_c_0]
  refine Eq.trans (?_ : _ = IntOp.cmpi CmpIPredicate.sge (fl (BitVec.ofNat 32 i.val)) (fl (BitVec.ofNat 32 j.val))) ?_
  · rfl
  rw [fl_eq, fl_eq]
  exact chunk_le ⟨i.val / 64, by omega⟩ ⟨j.val / 64, by omega⟩

theorem ref_w (g : Fin 8) (i j : Fin 128) :
    val_main_v71 (F := Ideal) x5 (ix3 g i j) = if j.val / 64 ≤ i.val / 64 then x5 (ix4 (0 : Fin 1) g i j) else 0 := by
  pointwise [val_main_v71, val_main_call2_v0, val_main_v70, val_main_cst_12, val_main_v69, val_main_v32]
  rw [ref_mask]
  split_ifs <;> rfl

theorem ref_mix (s : Fin 32) (i : Fin 128) (e : Fin 512) : val_main_v78 (F := Ideal) x0 x1 x2 x3 x4 x5 x6 (ix3 (0 : Fin 1) (at128 s i) e)
    = Sgu.mix (fun g i j => x5 (ix4 (0 : Fin 1) g i j)) (fun g i => x6 (ix3 (0 : Fin 1) g i)) (fun j e => vS x0 x1 x2 x3 x4 (at128 s j) e) i e := by
  pointwise [val_main_v78, val_main_v77, val_main_v76, val_main_v75, val_main_v74, val_main_v33, val_main_v73, val_main_v72, val_main_v60]
  have e0 : (⟨(s.val * 128 + i.val) % 128, by omega⟩ : Fin 128) = i := Fin.ext (by dsimp only; omega)
  have e1 (x : Fin 128) : (⟨(s.val * 128 + i.val) / 128 * 128 + x.val, by omega⟩ : Fin 4096) = at128 s x := Fin.ext (by dsimp only; omega)
  unfold Sgu.mix
  simp only [e0, e1, ref_v, ref_w]
  exact congrArg₂ _ (Finset.sum_congr rfl fun j _ => mul_comm _ _) rfl

theorem ref_y (s : Fin 32) (i : Fin 128) (e : Fin 512) :
    val_main_v90 (F := Ideal) x0 x1 x2 x3 x4 x5 x6 (ix2 (at128 s i) e) = yS x0 x1 x2 x3 x4 x5 x6 s i e := by
  pointwise [val_main_v90, val_main_v89, val_main_v79]
  rw [ref_u, ref_mix]
  rfl

theorem ref_h_out (t : Fin 4096) (k : Fin 1024) : val_main_v81 (F := Ideal) x0 x1 (ix2 t k) = hS x0 x1 t k := by
  pointwise [val_main_v81, val_main_v80]
  exact ref_h _ _ _ _

theorem ref_qkv (t : Fin 4096) (j : Fin 1536) : val_main_v84 (F := Ideal) x0 x1 x2 (ix2 t j) = zS x0 x1 x2 t ⟨j.val, by omega⟩ := by
  pointwise [val_main_v84, val_main_v83, val_main_v82]
  exact ref_z _ _ _ _ _

theorem ref_zs (t : Fin 4096) (j : Fin 1024) : val_main_v86 (F := Ideal) x0 x1 x2 (ix2 t j) = zS x0 x1 x2 t ⟨1536 + j.val, by omega⟩ := by
  pointwise [val_main_v86, val_main_v85]
  exact ref_z _ _ _ _ _

theorem ref_gl (t : Fin 4096) (j : Fin 2048) : val_main_v88 (F := Ideal) x0 x1 x2 (ix2 t j) = zS x0 x1 x2 t ⟨2560 + j.val, by omega⟩ := by
  pointwise [val_main_v88, val_main_v87]
  exact ref_z _ _ _ _ _

end Cert.InFwdRefIdeal.Fwd
end
-- ==== Proof.InFwd.Value.lean ====
module

public import proofs.«01_k».proof.Defs
public import proofs.«01_k».proof.Proof.InFwd.Out
public import proofs.«01_k».proof.Proof.InFwd.Ref
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The input projection and the spatial gating: the arrays of the kernel -/

namespace Cert.InFwdIdeal.Fwd

open Cert.InFwdIdeal Cert.InFwdIdeal.Gen Cert.InFwdIdeal.Value
open Cert.InFwdRefIdeal.Fwd (hS uS vS yS at128)

variable (m : (ℓ : Loc nD τ sig) → Buf (Elt Ideal) ℓ) (c : Dev nD)

/-- Argument 0: the input. -/
abbrev x0 : FVec Ideal S1x4096x1024 .f32 := m ((c : Thread nD τ).loc main_arg0)
/-- Argument 1: the norm's weight. -/
abbrev x1 : FVec Ideal S1x1024 .f32 := m ((c : Thread nD τ).loc main_arg1)
/-- Argument 2: the projection's weight. -/
abbrev x2 : FVec Ideal S1x1024x4608 .f32 := m ((c : Thread nD τ).loc main_arg2)
/-- Argument 3: the gating norm's weight. -/
abbrev x3 : FVec Ideal S1x512 .f32 := m ((c : Thread nD τ).loc main_arg3)
/-- Argument 4: the gating norm's bias. -/
abbrev x4 : FVec Ideal S1x512 .f32 := m ((c : Thread nD τ).loc main_arg4)
/-- Argument 5: the mixing weights. -/
abbrev x5 : FVec Ideal S1x8x128x128 .f32 := m ((c : Thread nD τ).loc main_arg5)
/-- Argument 6: the mixing biases. -/
abbrev x6 : FVec Ideal S1x8x128 .f32 := m ((c : Thread nD τ).loc main_arg6)

/-- The block indices of every window. -/
theorem idx : ∀ t : Fin cfg0.N, win0_0.index t = ![t.val, 0] ∧ win0_1.index t = ![0, 0] ∧ win0_2.index t = ![0, 0, 0]
    ∧ win0_3.index t = ![0, 0] ∧ win0_4.index t = ![0, 0] ∧ win0_5.index t = ![0, 0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

/-- Token `r` of block `t`. -/
abbrev tok (t : Fin cfg0.N) (r : Fin 256) : Fin 4096 := ⟨t.val * 256 + r.val, by have := lt_of_lt_of_eq t.isLt N_0; omega⟩

/-! ## What a block is given -/

theorem blk0 (t : Fin cfg0.N) (r : Fin 256) (d : Fin 1024) : b0 m c t (ix2 r d) = x0 m c (ix3 (0 : Fin 1) (tok t r) d) := by
  refine Eq.trans (?_ : _ = V m c main_v4 (ix2 (tok t r) d)) ?_
  · blk_point [iblk, idx t]
  · entry_read; pointwise
theorem blk1 (t : Fin cfg0.N) (d : Fin 1024) : b1 m c t (ix2 (0 : Fin 1) d) = x1 m c (ix2 (0 : Fin 1) d) := by
  refine Eq.trans (?_ : _ = V m c main_arg1 (ix2 (0 : Fin 1) d)) ?_
  · blk_point [iblk, idx t]
  · entry_read; rfl
theorem blk2 (t : Fin cfg0.N) (s : Fin 4) (k : Fin 1024) (j : Fin 1152) (n : Fin 4608) (hn : n.val = s.val * 1152 + j.val) :
    b2 m c t (ix3 s k j) = x2 m c (ix3 (0 : Fin 1) k n) := by
  have e : n = ⟨s.val * 1152 + j.val, by omega⟩ := Fin.ext hn
  rw [e]
  refine Eq.trans (?_ : _ = V m c main_v3 (ix3 s k j)) ?_
  · blk_point [iblk, idx t]
  · entry_read; pointwise
theorem blk3 (t : Fin cfg0.N) (e : Fin 512) : b3 m c t (ix2 (0 : Fin 1) e) = x3 m c (ix2 (0 : Fin 1) e) := by
  refine Eq.trans (?_ : _ = V m c main_arg3 (ix2 (0 : Fin 1) e)) ?_
  · blk_point [iblk, idx t]
  · entry_read; rfl
theorem blk4 (t : Fin cfg0.N) (e : Fin 512) : b4 m c t (ix2 (0 : Fin 1) e) = x4 m c (ix2 (0 : Fin 1) e) := by
  refine Eq.trans (?_ : _ = V m c main_arg4 (ix2 (0 : Fin 1) e)) ?_
  · blk_point [iblk, idx t]
  · entry_read; rfl
theorem blk5 (t : Fin cfg0.N) (g : Fin 8) (i j : Fin 128) : b5 m c t (ix3 g i j) = x5 m c (ix4 (0 : Fin 1) g i j) := by
  refine Eq.trans (?_ : _ = V m c main_v5 (ix3 g i j)) ?_
  · blk_point [iblk, idx t]
  · entry_read; pointwise
theorem blk6 (t : Fin cfg0.N) (i : Fin 128) (g : Fin 8) : b6 m c t (ix2 i g) = x6 m c (ix3 (0 : Fin 1) g i) := by
  refine Eq.trans (?_ : _ = V m c main_v7 (ix2 i g)) ?_
  · blk_point [iblk, idx t]
  · entry_read; pointwise

/-! ## What a block computes -/

theorem h_blk (t : Fin cfg0.N) (r : Fin 256) (k : Fin 1024) :
    Rows.norm (fun d => b0 m c t (ix2 r d)) (fun d => b1 m c t (ix2 (0 : Fin 1) d)) k = hS (x0 m c) (x1 m c) (tok t r) k := by
  simp only [blk0, blk1]
  rfl

theorem z_blk (t : Fin cfg0.N) (r : Fin 256) (n : Fin 4608) : zB m c t r n = Cert.InFwdRefIdeal.Fwd.zS (x0 m c) (x1 m c) (x2 m c) (tok t r) n := by
  unfold zB zS Cert.InFwdRefIdeal.Fwd.zS
  refine Finset.sum_congr rfl fun k _ => ?_
  rw [h_blk, blk2 m c t _ k _ n (by dsimp only; omega)]

theorem u_blk (t : Fin cfg0.N) (r : Fin 256) (e : Fin 512) : uB m c t r e = uS (x0 m c) (x1 m c) (x2 m c) (tok t r) e := by
  unfold uB uS
  rw [z_blk]

theorem v_blk (t : Fin cfg0.N) (r : Fin 256) (e : Fin 512) : vB m c t r e = vS (x0 m c) (x1 m c) (x2 m c) (x3 m c) (x4 m c) (tok t r) e := by
  unfold vB vS
  simp only [z_blk, blk3, blk4]

/-- The run of 128 tokens that is half `h` of block `t`. -/
abbrev runOf (t : Fin cfg0.N) (h : Fin 2) : Fin 32 := ⟨t.val * 2 + h.val, by have := lt_of_lt_of_eq t.isLt N_0; omega⟩

theorem tok_row (t : Fin cfg0.N) (h : Fin 2) (i : Fin 128) : tok t (rowOf h i) = at128 (runOf t h) i := Fin.ext (by dsimp only; omega)

theorem y_blk (t : Fin cfg0.N) (h : Fin 2) (i : Fin 128) (e : Fin 512) : (outsAt0 m c t).2.2.2.2 (ix2 (rowOf h i) e)
    = yS (x0 m c) (x1 m c) (x2 m c) (x3 m c) (x4 m c) (x5 m c) (x6 m c) (runOf t h) i e := by
  rw [out11]
  simp only [u_blk, v_blk, blk5, blk6, tok_row]
  rfl

/-! ## The arrays at the end -/

theorem place7 (t : Fin cfg0.N) (y : S256x1024.Idx) : ((cfg0.win 7).blk t).view.emb y = (ix2 (tok t (y 0)) (y 1) : S4096x1024.Idx) := by
  blk_ext [idx t]
theorem place8 (t : Fin cfg0.N) (y : S256x1536.Idx) : ((cfg0.win 8).blk t).view.emb y = (ix2 (tok t (y 0)) (y 1) : S4096x1536.Idx) := by
  blk_ext [idx t]
theorem place9 (t : Fin cfg0.N) (y : S256x1024.Idx) : ((cfg0.win 9).blk t).view.emb y = (ix2 (tok t (y 0)) (y 1) : S4096x1024.Idx) := by
  blk_ext [idx t]
theorem place10 (t : Fin cfg0.N) (y : S256x2048.Idx) : ((cfg0.win 10).blk t).view.emb y = (ix2 (tok t (y 0)) (y 1) : S4096x2048.Idx) := by
  blk_ext [idx t]
theorem place11 (t : Fin cfg0.N) (y : S256x512.Idx) : ((cfg0.win 11).blk t).view.emb y = (ix2 (tok t (y 0)) (y 1) : S4096x512.Idx) := by
  blk_ext [idx t]

variable {m c}

/-- The normalised input, -/
theorem final7 (f : S4096x1024.Idx → Elt Ideal .bf16) (hf : ∀ t k, f (ix2 t k) = hS (x0 m c) (x1 m c) t k) : (dats m 0 c).arrAt 7 cfg0.N = f := by
  refine (dats m 0 c).arrAt_eq_of_covers 7 f (by decide +kernel) fun t _ y => ?_
  blk_simp
  rw [after0_7]
  refine Eq.trans ?_ (congrArg f (place7 t y)).symm
  exact (congrArg _ (eq_ix2 y)).trans ((out7 m c t _ _).trans ((h_blk m c t _ _).trans (hf _ _).symm))

/-- the attention's columns of the projection, -/
theorem final8 (f : S4096x1536.Idx → Elt Ideal .bf16) (hf : ∀ t (j : Fin 1536), f (ix2 t j) = Cert.InFwdRefIdeal.Fwd.zS (x0 m c) (x1 m c) (x2 m c) t ⟨j.val, by omega⟩) :
    (dats m 0 c).arrAt 8 cfg0.N = f := by
  refine (dats m 0 c).arrAt_eq_of_covers 8 f (by decide +kernel) fun t _ y => ?_
  blk_simp
  rw [after0_8]
  refine Eq.trans ?_ (congrArg f (place8 t y)).symm
  exact (congrArg _ (eq_ix2 y)).trans ((out8 m c t _ _).trans ((z_blk m c t _ _).trans (hf _ _).symm))

/-- the gating's, -/
theorem final9 (f : S4096x1024.Idx → Elt Ideal .f32) (hf : ∀ t (j : Fin 1024), f (ix2 t j) = Cert.InFwdRefIdeal.Fwd.zS (x0 m c) (x1 m c) (x2 m c) t ⟨1536 + j.val, by omega⟩) :
    (dats m 0 c).arrAt 9 cfg0.N = f := by
  refine (dats m 0 c).arrAt_eq_of_covers 9 f (by decide +kernel) fun t _ y => ?_
  blk_simp
  rw [after0_9]
  refine Eq.trans ?_ (congrArg f (place9 t y)).symm
  exact (congrArg _ (eq_ix2 y)).trans ((out9 m c t _ _).trans ((z_blk m c t _ _).trans (hf _ _).symm))

/-- the gates' -/
theorem final10 (f : S4096x2048.Idx → Elt Ideal .f32) (hf : ∀ t (j : Fin 2048), f (ix2 t j) = Cert.InFwdRefIdeal.Fwd.zS (x0 m c) (x1 m c) (x2 m c) t ⟨2560 + j.val, by omega⟩) :
    (dats m 0 c).arrAt 10 cfg0.N = f := by
  refine (dats m 0 c).arrAt_eq_of_covers 10 f (by decide +kernel) fun t _ y => ?_
  blk_simp
  rw [after0_10]
  refine Eq.trans ?_ (congrArg f (place10 t y)).symm
  exact (congrArg _ (eq_ix2 y)).trans ((out10 m c t _ _).trans ((z_blk m c t _ _).trans (hf _ _).symm))

/-- and the gated output. -/
theorem final11 (f : S4096x512.Idx → Elt Ideal .bf16)
    (hf : ∀ s i e, f (ix2 (at128 s i) e) = yS (x0 m c) (x1 m c) (x2 m c) (x3 m c) (x4 m c) (x5 m c) (x6 m c) s i e) : (dats m 0 c).arrAt 11 cfg0.N = f := by
  refine (dats m 0 c).arrAt_eq_of_covers 11 f (by decide +kernel) fun t _ y => ?_
  blk_simp
  rw [after0_11]
  refine Eq.trans ?_ (congrArg f (place11 t y)).symm
  have hr : (y 0).val < 256 := (y 0).isLt
  have e : y = ix2 (rowOf (⟨(y 0).val / 128, by omega⟩ : Fin 2) (⟨(y 0).val % 128, by omega⟩ : Fin 128)) (y 1) :=
    (eq_ix2 y).trans (congrArg (fun r => ix2 r (y 1)) (Fin.ext (by show (y 0).val = (y 0).val / 128 * 128 + (y 0).val % 128; omega)))
  have e' : tok t (y 0) = at128 (runOf t (⟨(y 0).val / 128, by omega⟩ : Fin 2)) (⟨(y 0).val % 128, by omega⟩ : Fin 128) :=
    Fin.ext (by show t.val * 256 + (y 0).val = (t.val * 2 + (y 0).val / 128) * 128 + (y 0).val % 128; omega)
  exact (congrArg _ e).trans ((y_blk m c t _ _ _).trans ((congrArg (fun r => f (ix2 r (y 1))) e').trans (hf _ _ _)).symm)

end Cert.InFwdIdeal.Fwd
end
-- ==== Proof.InFwd.Pair.lean ====
module
public import proofs.«01_k».proof.Defs
public import proofs.«01_k».proof.Proof.InFwd.Value
public import proofs.«01_k».proof.Proof.Gen.InFwdRefIdeal.Run
@[expose] public section
noncomputable section
namespace Cert.InFwdIdeal.Fwd
open Idealize.ShloMosaic Idealize.ShloMosaic.TcCoe Idealize.SL.Sem
open Cert.InFwdIdeal Cert.InFwdIdeal.Gen Cert.InFwdIdeal.Value

/-- At arguments that agree with the kernel's the reference's gated output is the kernel's. -/
theorem ref_y_of {m : (ℓ : Loc nD τ sig) → Buf (Elt Ideal) ℓ} {c : Dev nD}
    {a0 : (⟨S1x4096x1024, .f32⟩ : BufTy).Contents (Elt Ideal)} {a1 : (⟨S1x1024, .f32⟩ : BufTy).Contents (Elt Ideal)}
    {a2 : (⟨S1x1024x4608, .f32⟩ : BufTy).Contents (Elt Ideal)} {a3 a4 : (⟨S1x512, .f32⟩ : BufTy).Contents (Elt Ideal)}
    {a5 : (⟨S1x8x128x128, .f32⟩ : BufTy).Contents (Elt Ideal)} {a6 : (⟨S1x8x128, .f32⟩ : BufTy).Contents (Elt Ideal)}
    (e : a0 = m ((c.tc : Thread nD τ).loc main_arg0) ∧ a1 = m ((c.tc : Thread nD τ).loc main_arg1) ∧ a2 = m ((c.tc : Thread nD τ).loc main_arg2)
      ∧ a3 = m ((c.tc : Thread nD τ).loc main_arg3) ∧ a4 = m ((c.tc : Thread nD τ).loc main_arg4) ∧ a5 = m ((c.tc : Thread nD τ).loc main_arg5)
      ∧ a6 = m ((c.tc : Thread nD τ).loc main_arg6)) :
    Cert.InFwdRefIdeal.Read.val_main_v90 (F := Ideal) a0 a1 a2 a3 a4 a5 a6 = (dats m 0 c).arrAt 11 cfg0.N := by
  obtain ⟨rfl, rfl, rfl, rfl, rfl, rfl, rfl⟩ := e
  exact (final11 _ (Cert.InFwdRefIdeal.Fwd.ref_y _ _ _ _ _ _ _)).symm

/-- The forward input projection: the kernel's five arrays are the reference's. -/
theorem in_fwd_value : Cert.algebraic_InFwdIdeal_InFwdRefIdeal := by
  pair_intro
  · run_from Cert.InFwdIdeal.Value.run_blocks m g
  · run_from Cert.InFwdRefIdeal.Value.run m' g'
    · exact (Cert.InFwdRefIdeal.Read.val_main_v81_eq _ _).trans (final7 _ (Cert.InFwdRefIdeal.Fwd.ref_h_out _ _)).symm
    · exact (Cert.InFwdRefIdeal.Read.val_main_v84_eq _ _ _).trans (final8 _ (Cert.InFwdRefIdeal.Fwd.ref_qkv _ _ _)).symm
    · exact (Cert.InFwdRefIdeal.Read.val_main_v86_eq _ _ _).trans (final9 _ (Cert.InFwdRefIdeal.Fwd.ref_zs _ _ _)).symm
    · exact (Cert.InFwdRefIdeal.Read.val_main_v88_eq _ _ _).trans (final10 _ (Cert.InFwdRefIdeal.Fwd.ref_gl _ _ _)).symm
    · exact (Cert.InFwdRefIdeal.Read.val_main_v90_eq m' c).trans (ref_y_of (hagree c))

/-- The reference is a host program: it ends and leaves its arguments as they were. -/
theorem frame_ref : Cert.quiescent_InFwdRefIdeal := by
  intro m g _
  exact (θ_run Cert.InFwdRefIdeal.defs _ _).mono (fun r h => ⟨fun c => (h c).2.2.2.2.2,
    Idealize.ShloMosaic.sem_eq_zero_of_no_sems (by decide) r.2⟩) (Cert.InFwdRefIdeal.Value.run (F := Ideal) m g)

end Cert.InFwdIdeal.Fwd
end
-- ==== Proof.MergeFwd.Runs.lean ====
module

public import proofs.«01_k».proof.Proof.Gen.MergeFwdIdeal.Frame
public import Idealize.ShloMosaic.Lib.Pipeline.ValueKit
public import Idealize.ShloMosaic.Lib.Claim

@[expose] public section

noncomputable section

open Idealize.ShloMosaic Idealize.ShloMosaic.TcCoe Idealize.SL.Sem

/-! # The forward merge: what its run leaves -/

namespace Cert.MergeFwdIdeal.Fwd

open Cert.MergeFwdIdeal Cert.MergeFwdIdeal.Gen

variable (m : (ℓ : Loc nD τ sig) → Buf (Elt Ideal) ℓ) (ρ : Dev nD → PrngReg)

/-- The run leaves the four arrays of the pipeline and the arguments as they were. -/
theorem runs : θ_run defs (onTc (τ := τ) (main (F := Ideal))) ⟨m, fun _ => 0, ρ⟩ fun r => ∀ c : Dev nD,
      r.2.mem ((c : Thread nD τ).loc main_v17_0) = (dats m 0 c).arrAt 8 cfg0.N
      ∧ r.2.mem ((c : Thread nD τ).loc main_v17_1) = (dats m 0 c).arrAt 9 cfg0.N
      ∧ r.2.mem ((c : Thread nD τ).loc main_v17_2) = (dats m 0 c).arrAt 10 cfg0.N
      ∧ r.2.mem ((c : Thread nD τ).loc main_v17_3) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1 8,
      (h c).1 9,
      (h c).1 10,
      (h c).1 11,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.MergeFwdIdeal.Fwd
end
-- ==== Proof.MergeFwd.Block.lean ====
module

public import proofs.«01_k».proof.Proof.MergeFwd.Runs
public import Idealize.ShloMosaic.Lib.Pipeline.ValueKit
public import Idealize.ShloMosaic.Lib.Pointwise
public import Idealize.ShloMosaic.Lib.Claim
public import Idealize.ShloMosaic.Lib.Pipeline.ReadBack
public import proofs.«01_k».proof.Proof.Rows

@[expose] public section

set_option maxRecDepth 16384

noncomputable section

open Idealize.ShloMosaic Idealize.ShloMosaic.TcCoe Idealize.SL.Sem
open Idealize.ShloMosaic.Pipeline (Dat)

/-! # The forward merge: what one block of 256 tokens computes -/

namespace Cert.MergeFwdIdeal.Fwd

open Cert.MergeFwdIdeal Cert.MergeFwdIdeal.Gen

/-- Column `j` of quarter `s`. -/
abbrev col (s : Fin 4) (j : Fin 256) : Fin 1024 := ⟨s.val * 256 + j.val, by omega⟩
/-- The gate of the attention at a column. -/
abbrev lo (e : Fin 1024) : Fin 2048 := ⟨e.val, by omega⟩
/-- The gate of the gating unit at a column. -/
abbrev hi (e : Fin 1024) : Fin 2048 := ⟨1024 + e.val, by omega⟩

/-- A column is one of a quarter. -/
theorem col_eta (e : Fin 1024) : col ⟨e.val / 256, by omega⟩ ⟨e.val % 256, by omega⟩ = e := Fin.ext (by dsimp only; omega)

/-- Four products side by side, read at a column of quarter `s`. -/
theorem four (P : Fin 4 → FVec Ideal S256x256 .f32) (r : Fin 256) (s : Fin 4) (j : Fin 256) :
    concatenate S256x1024 1 [⟨S256x256, P 0⟩, ⟨S256x256, P 1⟩, ⟨S256x256, P 2⟩, ⟨S256x256, P 3⟩] concatenates_S256x256_S256x256_S256x256_S256x256_S256x1024_d1 (ix2 r (col s j)) = P s (ix2 r j) := by
  refine concatenate_ofFn_apply (t := S256x1024) (s₁ := S256x256) 1 P concatenates_S256x256_S256x256_S256x256_S256x256_S256x1024_d1 rfl 256 rfl
    (ix2 r (col s j)) s (by show (s.val * 256 + j.val) / 256 = s.val; omega) (ix2 r j) (by show j.val = (s.val * 256 + j.val) % 256; omega) ?_
  intro a ha; fin_cases a <;> first | rfl | exact absurd rfl ha

/-- The attention's projection of a block. -/
def paB (y : Vec Ideal S256x512 .bf16) (W : Vec Ideal S4x512x256 .bf16) : FVec Ideal S256x1024 .f32 :=
  k0_pay3 y (View.ld W r0_1) (View.ld W r0_2) (View.ld W r0_3) (View.ld W r0_4)

/-- Its entries. -/
theorem paB_apply (y : Vec Ideal S256x512 .bf16) (W : Vec Ideal S4x512x256 .bf16) (r : Fin 256) (s : Fin 4) (j : Fin 256) :
    paB y W (ix2 r (col s j)) = ∑ f : Fin 512, y (ix2 r f) * W (ix3 s f j) := by
  refine (four ![_, _, _, _] r s j).trans ?_
  fin_cases s
  · refine Eq.trans (b := matmul dot_S256x512_S512x256_S256x256_1_0_0_1_n_n none (shapeCast S256x512 y shapeCasts_S256x512_S256x512) (shapeCast S512x256 (View.ld W r0_1) shapeCasts_S1x512x256_S512x256) (constant S256x256 .f32 0x00000000#32) (ix2 r j)) rfl ?_
    pointwise [r0_1]
  · refine Eq.trans (b := matmul dot_S256x512_S512x256_S256x256_1_0_0_1_n_n none (shapeCast S256x512 y shapeCasts_S256x512_S256x512) (shapeCast S512x256 (View.ld W r0_2) shapeCasts_S1x512x256_S512x256) (constant S256x256 .f32 0x00000000#32) (ix2 r j)) rfl ?_
    pointwise [r0_2]
  · refine Eq.trans (b := matmul dot_S256x512_S512x256_S256x256_1_0_0_1_n_n none (shapeCast S256x512 y shapeCasts_S256x512_S256x512) (shapeCast S512x256 (View.ld W r0_3) shapeCasts_S1x512x256_S512x256) (constant S256x256 .f32 0x00000000#32) (ix2 r j)) rfl ?_
    pointwise [r0_3]
  · refine Eq.trans (b := matmul dot_S256x512_S512x256_S256x256_1_0_0_1_n_n none (shapeCast S256x512 y shapeCasts_S256x512_S256x512) (shapeCast S512x256 (View.ld W r0_4) shapeCasts_S1x512x256_S512x256) (constant S256x256 .f32 0x00000000#32) (ix2 r j)) rfl ?_
    pointwise [r0_4]

/-- The gating unit's projection, made in two steps, is the same function of its own arguments. -/
theorem ps_eq (y : Vec Ideal S256x512 .bf16) (W : Vec Ideal S4x512x256 .bf16) :
    k0_pay7 (k0_pay2 y) (k0_pay4 y (View.ld W r0_1)) (k0_pay5 y (View.ld W r0_2)) (k0_pay6 y (View.ld W r0_3)) (View.ld W r0_4) = paB y W := rfl

/-- The merged activations of a block. -/
def mB (ya ys : Vec Ideal S256x512 .bf16) (gl : Vec Ideal S256x2048 .f32) (b : Vec Ideal S1x2048 .f32) (Wa Ws : Vec Ideal S4x512x256 .bf16) : FVec Ideal S256x1024 .bf16 :=
  k0_pay8 (k0_pay2 ys) (paB ya Wa) (k0_pay4 ys (View.ld Ws r0_1)) (k0_pay5 ys (View.ld Ws r0_2)) (k0_pay6 ys (View.ld Ws r0_3)) (View.ld Ws r0_4) gl b

/-- A block's gates. -/
def gateB (gl : Vec Ideal S256x2048 .f32) (b : Vec Ideal S1x2048 .f32) (r : Fin 256) (k : Fin 2048) : EReal := Rows.sig (gl (ix2 r k) + b (ix2 (0 : Fin 1) k))

/-- Their entries: each projection scaled by its half of the gates. -/
theorem mB_apply (ya ys : Vec Ideal S256x512 .bf16) (gl : Vec Ideal S256x2048 .f32) (b : Vec Ideal S1x2048 .f32) (Wa Ws : Vec Ideal S4x512x256 .bf16) (r : Fin 256) (e : Fin 1024) :
    mB ya ys gl b Wa Ws (ix2 r e) = gateB gl b r (lo e) * paB ya Wa (ix2 r e)
      + gateB gl b r (hi e) * paB ys Ws (ix2 r e) := by
  unfold mB k0_pay8
  rw [ps_eq]
  generalize paB ya Wa = A
  generalize paB ys Ws = B
  pointwise [gateB, Rows.sig]
  simp only [Rows.zero_sub]

/-- The block's output: the residual and the merged activations' product with the output weight, quarter after quarter. -/
def xB (M : FVec Ideal S256x1024 .bf16) (W : Vec Ideal S4x256x1024 .bf16) (x : Vec Ideal S256x1024 .f32) : FVec Ideal S256x1024 .f32 :=
  k0_pay1 M (addf (broadcast S256x1024 (Scalar.ofBits .f32 0x00000000#32)) (matmul (φ₂ := .bf16) dot_S256x256_S256x1024_S256x1024_1_0_0_1_n_n none (extractStridedSlice S256x256 ![0, 0] M slices_S256x1024_o0_0_S256x256)
      (shapeCast S256x1024 (View.ld W r0_8) shapeCasts_S1x256x1024_S256x1024) (constant S256x1024 .f32 0x00000000#32)))
    (extractStridedSlice S256x256 ![0, 256] M slices_S256x1024_o0_256_S256x256)
    (View.ld W r0_9)
    (View.ld W r0_10)
    (View.ld W r0_11) x

/-- The first quarter's columns. -/
theorem col_zero (j : Fin 256) : col 0 j = ⟨j.val, by omega⟩ := Fin.ext ((congrArg (· + j.val) (Nat.zero_mul 256)).trans (Nat.zero_add _))

/-- Its entries. -/
theorem xB_apply (M : FVec Ideal S256x1024 .bf16) (W : Vec Ideal S4x256x1024 .bf16) (x : Vec Ideal S256x1024 .f32) (r : Fin 256) (d : Fin 1024) :
    xB M W x (ix2 r d) = x (ix2 r d) + ∑ s : Fin 4, ∑ j : Fin 256, M (ix2 r (col s j)) * W (ix3 s j d) := by
  rw [Fin.sum_univ_four]
  simp only [col_zero]
  pointwise [xB, k0_pay1, r0_8, r0_9, r0_10, r0_11]
  rfl

section
variable (x : Vec Ideal S256x1024 .f32) (ya ys : Vec Ideal S256x512 .bf16) (gl : Vec Ideal S256x2048 .f32) (b : Vec Ideal S1x2048 .f32)
  (Wa Ws : Vec Ideal S4x512x256 .bf16) (Wo : Vec Ideal S4x256x1024 .bf16)

/-- The first output of a grid point. -/
theorem out8 : out0_8 x ya ys gl b Wa Ws Wo = xB (mB ya ys gl b Wa Ws) Wo x := by
  unfold_out out0_8
  frame_out [k0_pay13, k0_pay14, k0_pay15, k0_pay16, k0_pay17]
  rfl

/-- The second output of a grid point. -/
theorem out9 : out0_9 x ya ys gl b Wa Ws Wo = mB ya ys gl b Wa Ws := by
  unfold_out out0_9
  frame_out [k0_pay13, k0_pay14, k0_pay15, k0_pay16, k0_pay17]
  rfl

/-- The third output of a grid point. -/
theorem out10 : out0_10 x ya ys gl b Wa Ws Wo = paB ya Wa := by
  unfold_out out0_10
  frame_out [k0_pay13, k0_pay14, k0_pay15, k0_pay16, k0_pay17]
  rfl

/-- The fourth output of a grid point. -/
theorem out11 : out0_11 x ya ys gl b Wa Ws Wo = paB ys Ws := by
  unfold_out out0_11
  frame_out [k0_pay13, k0_pay14, k0_pay15, k0_pay16, k0_pay17]
  rfl

end

end Cert.MergeFwdIdeal.Fwd
end
-- ==== Proof.MergeFwd.Value.lean ====
module

public import proofs.«01_k».proof.Proof.MergeFwd.Block
public import proofs.«01_k».proof.Proof.Gen.MergeFwdRefIdeal.Run
public import proofs.«01_k».proof.Proof.Gen.MergeFwdRefIdeal.Read

@[expose] public section

set_option maxRecDepth 16384

noncomputable section

open Idealize.ShloMosaic Idealize.ShloMosaic.TcCoe Idealize.SL.Sem
open Idealize.ShloMosaic.Pipeline (Dat)

/-! # The forward merge: the arrays of the kernel and of the reference -/

namespace Cert.MergeFwdIdeal.Fwd

open Cert.MergeFwdIdeal Cert.MergeFwdIdeal.Gen

section
variable (x0 : FVec Ideal S1x4096x1024 .f32) (x1 x2 : FVec Ideal S1x4096x512 .f32) (x3 : FVec Ideal S1x4096x2048 .f32) (x4 : FVec Ideal S1x2048 .f32)
  (x5 x6 : FVec Ideal S1x512x1024 .f32) (x7 : FVec Ideal S1x1024x1024 .f32)

/-- Token `t`'s gate. -/
def gate (t : Fin 4096) (k : Fin 2048) : EReal := Rows.sig (x3 (ix3 (0 : Fin 1) t k) + x4 (ix2 (0 : Fin 1) k))
/-- A branch times its weight. -/
def proj (y : FVec Ideal S1x4096x512 .f32) (w : FVec Ideal S1x512x1024 .f32) : FVec Ideal S4096x1024 .f32 :=
  fun i => ∑ f : Fin 512, y (ix3 (0 : Fin 1) (i 0) f) * w (ix3 (0 : Fin 1) f (i 1))
/-- The two branches, gated and added. -/
def mix : FVec Ideal S4096x1024 .f32 :=
  fun i => gate x3 x4 (i 0) (lo (i 1)) * proj x1 x5 i + gate x3 x4 (i 0) (hi (i 1)) * proj x2 x6 i
/-- The layer's output: the residual added to the mix times the output weight. -/
def res : FVec Ideal S4096x1024 .f32 :=
  fun i => x0 (ix3 (0 : Fin 1) (i 0) (i 1)) + ∑ e : Fin 1024, mix x1 x2 x3 x4 x5 x6 (ix2 (i 0) e) * x7 (ix3 (0 : Fin 1) e (i 1))

open Cert.MergeFwdRefIdeal.Read

/-- The reference's gates. -/
theorem ref_gate (t : Fin 4096) (k : Fin 2048) : val_main_v9 (F := Ideal) x3 x4 (ix3 (0 : Fin 1) t k) = gate x3 x4 t k := by
  pointwise [val_main_v9, val_main_v8, val_main_cst_0, val_main_v7, val_main_v6, val_main_cst, val_main_v5, val_main_v4, val_main_v3, val_main_v2, val_main_v1, val_main_v0, gate, Rows.sig]

/-- The reference's attention branch. -/
theorem ref_pa (t : Fin 4096) (e : Fin 1024) : val_main_v13 (F := Ideal) x1 x5 (ix3 (0 : Fin 1) t e) = proj x1 x5 (ix2 t e) := by
  pointwise [val_main_v13, val_main_v12, proj]

/-- The reference's gating unit branch. -/
theorem ref_ps (t : Fin 4096) (e : Fin 1024) : val_main_v15 (F := Ideal) x2 x6 (ix3 (0 : Fin 1) t e) = proj x2 x6 (ix2 t e) := by
  pointwise [val_main_v15, val_main_v14, proj]

/-- The reference's mix. -/
theorem ref_mix (t : Fin 4096) (e : Fin 1024) : val_main_v18 (F := Ideal) x1 x2 x3 x4 x5 x6 (ix3 (0 : Fin 1) t e) = mix x1 x2 x3 x4 x5 x6 (ix2 t e) := by
  pointwise [val_main_v18, val_main_v17, val_main_v16, val_main_v11, val_main_v10, mix]
  rw [ref_pa, ref_ps]
  exact congrArg₂ (fun a b : EReal => a * _ + b * _) (ref_gate x3 x4 t (lo e)) (ref_gate x3 x4 t (hi e))

/-- The reference's first result. -/
theorem ref8 : val_main_v22 (F := Ideal) x0 x1 x2 x3 x4 x5 x6 x7 = res x0 x1 x2 x3 x4 x5 x6 x7 := by
  funext i
  pointwise [val_main_v22, val_main_v21, val_main_v20, val_main_v19, res]
  exact congrArg _ (Finset.sum_congr rfl fun e _ => congrArg (· * _) (ref_mix x1 x2 x3 x4 x5 x6 (i 0) e))

/-- The reference's second result. -/
theorem ref9 : val_main_v24 (F := Ideal) x1 x2 x3 x4 x5 x6 = mix x1 x2 x3 x4 x5 x6 := by
  funext i
  pointwise [val_main_v24, val_main_v23]
  exact (ref_mix x1 x2 x3 x4 x5 x6 (i 0) (i 1)).trans (congrArg _ (eq_ix2 i).symm)

/-- The reference's third result. -/
theorem ref10 : val_main_v26 (F := Ideal) x1 x5 = proj x1 x5 := by
  funext i
  pointwise [val_main_v26, val_main_v25]
  exact (ref_pa x1 x5 (i 0) (i 1)).trans (congrArg _ (eq_ix2 i).symm)

/-- The reference's fourth result. -/
theorem ref11 : val_main_v28 (F := Ideal) x2 x6 = proj x2 x6 := by
  funext i
  pointwise [val_main_v28, val_main_v27]
  exact (ref_ps x2 x6 (i 0) (i 1)).trans (congrArg _ (eq_ix2 i).symm)

end

section

variable (m : (ℓ : Loc nD τ sig) → Buf (Elt Ideal) ℓ) (c : Dev nD)

/-- The residual. -/
abbrev x0 : FVec Ideal S1x4096x1024 .f32 := m ((c : Thread nD τ).loc main_arg0)
/-- The attention's output. -/
abbrev x1 : FVec Ideal S1x4096x512 .f32 := m ((c : Thread nD τ).loc main_arg1)
/-- The gating unit's output. -/
abbrev x2 : FVec Ideal S1x4096x512 .f32 := m ((c : Thread nD τ).loc main_arg2)
/-- The gates before the logistic function. -/
abbrev x3 : FVec Ideal S1x4096x2048 .f32 := m ((c : Thread nD τ).loc main_arg3)
/-- Their bias. -/
abbrev x4 : FVec Ideal S1x2048 .f32 := m ((c : Thread nD τ).loc main_arg4)
/-- The attention's weight. -/
abbrev x5 : FVec Ideal S1x512x1024 .f32 := m ((c : Thread nD τ).loc main_arg5)
/-- The gating unit's weight. -/
abbrev x6 : FVec Ideal S1x512x1024 .f32 := m ((c : Thread nD τ).loc main_arg6)
/-- The output weight. -/
abbrev x7 : FVec Ideal S1x1024x1024 .f32 := m ((c : Thread nD τ).loc main_arg7)

/-- The blocks' indices. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0] ∧ win0_6.index t = ![0, 0, 0]
    ∧ win0_7.index t = ![0, 0, 0] ∧ win0_8.index t = ![t.val, 0] ∧ win0_9.index t = ![t.val, 0] ∧ win0_10.index t = ![t.val, 0]
    ∧ win0_11.index t = ![t.val, 0] := (by decide +kernel : ∀ t : Fin grid0.N, _)

/-- Token `r` of block `t`. -/
abbrev row (t : Fin cfg0.N) (r : Fin 256) : Fin 4096 := ⟨t.val * 256 + r.val, by have := lt_of_lt_of_eq t.isLt N_0; omega⟩

/-- The residual as the region finds it. -/
theorem in0 (t : Fin 4096) (d : Fin 1024) : V m c main_v0 (ix2 t d) = x0 m c (ix3 (0 : Fin 1) t d) := by
  entry_read; pointwise
/-- See `in0`. -/
theorem in1 (t : Fin 4096) (f : Fin 512) : V m c main_v2 (ix2 t f) = x1 m c (ix3 (0 : Fin 1) t f) := by
  entry_read; pointwise
/-- See `in0`. -/
theorem in2 (t : Fin 4096) (f : Fin 512) : V m c main_v4 (ix2 t f) = x2 m c (ix3 (0 : Fin 1) t f) := by
  entry_read; pointwise
/-- See `in0`. -/
theorem in3 (t : Fin 4096) (k : Fin 2048) : V m c main_v5 (ix2 t k) = x3 m c (ix3 (0 : Fin 1) t k) := by
  entry_read; pointwise
/-- See `in0`. -/
theorem in4 : V m c main_arg4 = x4 m c := by
  entry_read; rfl
/-- The attention's weight, cut into quarters of columns. -/
theorem in5 (s : Fin 4) (f : Fin 512) (j : Fin 256) : V m c main_v9 (ix3 s f j) = x5 m c (ix3 (0 : Fin 1) f (col s j)) := by
  entry_read; pointwise
/-- The gating unit's weight, cut into quarters of columns. -/
theorem in6 (s : Fin 4) (f : Fin 512) (j : Fin 256) : V m c main_v13 (ix3 s f j) = x6 m c (ix3 (0 : Fin 1) f (col s j)) := by
  entry_read; pointwise
/-- The output weight, cut into quarters of rows. -/
theorem in7 (s : Fin 4) (j : Fin 256) (d : Fin 1024) : V m c main_v16 (ix3 s j d) = x7 m c (ix3 (0 : Fin 1) (col s j) d) := by
  entry_read; pointwise

/-- A block's rows of the residual. -/
theorem blk0 (t : Fin cfg0.N) (r : Fin 256) (d : Fin 1024) : iblk m c 0 t (ix2 r d) = x0 m c (ix3 (0 : Fin 1) (row t r) d) := by
  refine Eq.trans ?_ (in0 m c _ _)
  blk_point [iblk, idx t]
/-- See `blk0`. -/
theorem blk1 (t : Fin cfg0.N) (r : Fin 256) (d : Fin 512) : iblk m c 1 t (ix2 r d) = x1 m c (ix3 (0 : Fin 1) (row t r) d) := by
  refine Eq.trans ?_ (in1 m c _ _)
  blk_point [iblk, idx t]
/-- See `blk0`. -/
theorem blk2 (t : Fin cfg0.N) (r : Fin 256) (d : Fin 512) : iblk m c 2 t (ix2 r d) = x2 m c (ix3 (0 : Fin 1) (row t r) d) := by
  refine Eq.trans ?_ (in2 m c _ _)
  blk_point [iblk, idx t]
/-- See `blk0`. -/
theorem blk3 (t : Fin cfg0.N) (r : Fin 256) (d : Fin 2048) : iblk m c 3 t (ix2 r d) = x3 m c (ix3 (0 : Fin 1) (row t r) d) := by
  refine Eq.trans ?_ (in3 m c _ _)
  blk_point [iblk, idx t]
/-- Every block sees the whole bias. -/
theorem blk4 (t : Fin cfg0.N) (d : Fin 2048) : iblk m c 4 t (ix2 (0 : Fin 1) d) = x4 m c (ix2 (0 : Fin 1) d) := by
  refine Eq.trans ?_ (congrFun (in4 m c) _)
  blk_point [iblk, idx t]
/-- Every block sees the whole weight. -/
theorem blk5 (t : Fin cfg0.N) (s : Fin 4) (f : Fin 512) (j : Fin 256) : iblk m c 5 t (ix3 s f j) = x5 m c (ix3 (0 : Fin 1) f (col s j)) := by
  refine Eq.trans ?_ (in5 m c _ _ _)
  blk_point [iblk, idx t]
/-- See `blk5`. -/
theorem blk6 (t : Fin cfg0.N) (s : Fin 4) (f : Fin 512) (j : Fin 256) : iblk m c 6 t (ix3 s f j) = x6 m c (ix3 (0 : Fin 1) f (col s j)) := by
  refine Eq.trans ?_ (in6 m c _ _ _)
  blk_point [iblk, idx t]
/-- See `blk5`. -/
theorem blk7 (t : Fin cfg0.N) (s : Fin 4) (j : Fin 256) (d : Fin 1024) : iblk m c 7 t (ix3 s j d) = x7 m c (ix3 (0 : Fin 1) (col s j) d) := by
  refine Eq.trans ?_ (in7 m c _ _ _)
  blk_point [iblk, idx t]

/-- A block's projection of the attention. -/
theorem pa_blk (t : Fin cfg0.N) (r : Fin 256) (e : Fin 1024) : paB (iblk m c 1 t) (iblk m c 5 t) (ix2 r e) = proj (x1 m c) (x5 m c) (ix2 (row t r) e) := by
  rw [← col_eta e, paB_apply]
  exact Finset.sum_congr rfl fun f _ => congrArg₂ (fun a b : EReal => a * b) (blk1 m c t r f) (blk5 m c t _ f _)

/-- A block's projection of the gating unit. -/
theorem ps_blk (t : Fin cfg0.N) (r : Fin 256) (e : Fin 1024) : paB (iblk m c 2 t) (iblk m c 6 t) (ix2 r e) = proj (x2 m c) (x6 m c) (ix2 (row t r) e) := by
  rw [← col_eta e, paB_apply]
  exact Finset.sum_congr rfl fun f _ => congrArg₂ (fun a b : EReal => a * b) (blk2 m c t r f) (blk6 m c t _ f _)

/-- A block's gates. -/
theorem gate_blk (t : Fin cfg0.N) (r : Fin 256) (k : Fin 2048) :
    gateB (iblk m c 3 t) (iblk m c 4 t) r k = gate (x3 m c) (x4 m c) (row t r) k :=
  congrArg Rows.sig (congrArg₂ (fun a b : EReal => a + b) (blk3 m c t r k) (blk4 m c t k))

/-- A block's mix. -/
theorem m_blk (t : Fin cfg0.N) (r : Fin 256) (e : Fin 1024) :
    mB (iblk m c 1 t) (iblk m c 2 t) (iblk m c 3 t) (iblk m c 4 t) (iblk m c 5 t) (iblk m c 6 t) (ix2 r e)
      = mix (x1 m c) (x2 m c) (x3 m c) (x4 m c) (x5 m c) (x6 m c) (ix2 (row t r) e) := by
  refine (mB_apply _ _ _ _ _ _ r e).trans ?_
  exact congrArg₂ (fun a b : EReal => a + b) (congrArg₂ (fun a b : EReal => a * b) (gate_blk m c t r (lo e)) (pa_blk m c t r e))
    (congrArg₂ (fun a b : EReal => a * b) (gate_blk m c t r (hi e)) (ps_blk m c t r e))

/-- A block's rows of the layer's output. -/
theorem x_blk (t : Fin cfg0.N) (r : Fin 256) (d : Fin 1024) :
    xB (mB (iblk m c 1 t) (iblk m c 2 t) (iblk m c 3 t) (iblk m c 4 t) (iblk m c 5 t) (iblk m c 6 t)) (iblk m c 7 t) (iblk m c 0 t) (ix2 r d)
      = res (x0 m c) (x1 m c) (x2 m c) (x3 m c) (x4 m c) (x5 m c) (x6 m c) (x7 m c) (ix2 (row t r) d) := by
  rw [xB_apply]
  refine congrArg₂ (fun a b : EReal => a + b) (blk0 m c t r d) ?_
  exact Fin.sum_mul_add_congr fun s j hl => congrArg₂ (fun a b : EReal => a * b) (m_blk m c t r _) (blk7 m c t s j d)

/-- Where block `t` of the first output sits. -/
theorem place8 (t : Fin cfg0.N) (y : S256x1024.Idx) : ((cfg0.win 8).blk t).view.emb y = (ix2 (row t (y 0)) (y 1) : S4096x1024.Idx) := by
  blk_ext [idx t]
/-- See `place8`. -/
theorem place9 (t : Fin cfg0.N) (y : S256x1024.Idx) : ((cfg0.win 9).blk t).view.emb y = (ix2 (row t (y 0)) (y 1) : S4096x1024.Idx) := by
  blk_ext [idx t]
/-- See `place8`. -/
theorem place10 (t : Fin cfg0.N) (y : S256x1024.Idx) : ((cfg0.win 10).blk t).view.emb y = (ix2 (row t (y 0)) (y 1) : S4096x1024.Idx) := by
  blk_ext [idx t]
/-- See `place8`. -/
theorem place11 (t : Fin cfg0.N) (y : S256x1024.Idx) : ((cfg0.win 11).blk t).view.emb y = (ix2 (row t (y 0)) (y 1) : S4096x1024.Idx) := by
  blk_ext [idx t]

/-- The layer's output after the run. -/
theorem final8 (f : FVec Ideal S4096x1024 .f32) (hf : f = res (x0 m c) (x1 m c) (x2 m c) (x3 m c) (x4 m c) (x5 m c) (x6 m c) (x7 m c)) : (dats m 0 c).arrAt 8 cfg0.N = f := by
  refine (dats m 0 c).arrAt_eq_of_covers 8 f (by decide +kernel) fun t _ y => ?_
  blk_simp
  rw [after0_8, out8, hf]
  refine Eq.trans ?_ (congrArg _ (place8 t y)).symm
  rw [eq_ix2 y]
  exact x_blk m c t _ _

/-- The mix after the run. -/
theorem final9 (f : FVec Ideal S4096x1024 .bf16) (hf : f = mix (x1 m c) (x2 m c) (x3 m c) (x4 m c) (x5 m c) (x6 m c)) : (dats m 0 c).arrAt 9 cfg0.N = f := by
  refine (dats m 0 c).arrAt_eq_of_covers 9 f (by decide +kernel) fun t _ y => ?_
  blk_simp
  rw [after0_9, out9, hf]
  refine Eq.trans ?_ (congrArg _ (place9 t y)).symm
  rw [eq_ix2 y]
  exact m_blk m c t _ _

/-- The attention's projection after the run. -/
theorem final10 (f : FVec Ideal S4096x1024 .bf16) (hf : f = proj (x1 m c) (x5 m c)) : (dats m 0 c).arrAt 10 cfg0.N = f := by
  refine (dats m 0 c).arrAt_eq_of_covers 10 f (by decide +kernel) fun t _ y => ?_
  blk_simp
  rw [after0_10, out10, hf]
  refine Eq.trans ?_ (congrArg _ (place10 t y)).symm
  rw [eq_ix2 y]
  exact pa_blk m c t _ _

/-- The gating unit's projection after the run. -/
theorem final11 (f : FVec Ideal S4096x1024 .bf16) (hf : f = proj (x2 m c) (x6 m c)) : (dats m 0 c).arrAt 11 cfg0.N = f := by
  refine (dats m 0 c).arrAt_eq_of_covers 11 f (by decide +kernel) fun t _ y => ?_
  blk_simp
  rw [after0_11, out11, hf]
  refine Eq.trans ?_ (congrArg _ (place11 t y)).symm
  rw [eq_ix2 y]
  exact ps_blk m c t _ _

end

end Cert.MergeFwdIdeal.Fwd
end
-- ==== Proof.MergeFwd.Pair.lean ====
module
public import proofs.«01_k».proof.Defs
public import proofs.«01_k».proof.Proof.MergeFwd.Value
@[expose] public section
noncomputable section
namespace Cert.MergeFwdIdeal.Fwd
open Idealize.ShloMosaic Idealize.ShloMosaic.TcCoe Idealize.SL.Sem
open Cert.MergeFwdIdeal Cert.MergeFwdIdeal.Gen

/-- The forward merge: the kernel's four arrays are the reference's. -/
theorem merge_fwd_value : Cert.algebraic_MergeFwdIdeal_MergeFwdRefIdeal := by
  pair_intro
  · run_from Cert.MergeFwdIdeal.Fwd.runs m g
  · run_from Cert.MergeFwdRefIdeal.Value.run m' g'
    · exact (Cert.MergeFwdRefIdeal.Read.val_main_v22_eq _ _ _ _ _ _ _ _).trans (final8 _ _ _ (ref8 _ _ _ _ _ _ _ _)).symm
    · exact (Cert.MergeFwdRefIdeal.Read.val_main_v24_eq _ _ _ _ _ _).trans (final9 _ _ _ (ref9 _ _ _ _ _ _)).symm
    · exact (Cert.MergeFwdRefIdeal.Read.val_main_v26_eq _ _).trans (final10 _ _ _ (ref10 _ _)).symm
    · exact (Cert.MergeFwdRefIdeal.Read.val_main_v28_eq _ _).trans (final11 _ _ _ (ref11 _ _)).symm

/-- The reference is a host program: it ends and leaves its arguments as they were. -/
theorem frame_ref : Cert.quiescent_MergeFwdRefIdeal := by
  intro m g _
  exact (θ_run Cert.MergeFwdRefIdeal.defs _ _).mono (fun r h => ⟨fun c => (h c).2.2.2.2,
    Idealize.ShloMosaic.sem_eq_zero_of_no_sems (by decide) r.2⟩) (Cert.MergeFwdRefIdeal.Value.run (F := Ideal) m g)

end Cert.MergeFwdIdeal.Fwd
end
-- ==== Proof.RelFwd.Value.lean ====
module

public import proofs.«01_k».proof.Defs
public import proofs.«01_k».proof.Proof.Gen.RelFwdIdeal.Value
public import proofs.«01_k».proof.Proof.Gen.RelFwdRefIdeal.Run
public import proofs.«01_k».proof.Proof.Gen.RelFwdRefIdeal.Read
public import Idealize.ShloMosaic.Lib.Pipeline.ValueKit
public import Idealize.ShloMosaic.Lib.Pointwise
public import Idealize.ShloMosaic.Lib.Claim
public import proofs.«01_k».proof.Proof.Finite

@[expose] public section

set_option maxRecDepth 16384

noncomputable section

open Idealize.ShloMosaic Idealize.ShloMosaic.TcCoe Idealize.SL.Sem
open Idealize.ShloMosaic.Pipeline (Dat)

/-! # The bias by distance: the table's entry at each of 640 distances -/

namespace Cert.RelFwdRefIdeal.Fwd

open Cert.RelFwdRefIdeal Cert.RelFwdRefIdeal.Gen Cert.RelFwdRefIdeal.Read

/-- The table's entry that a distance takes. -/
abbrev pick (n : Fin 640) : Fin 513 := ⟨min (831 - n.1) 512, by omega⟩

/-- The two axes of the table. -/
theorem axes : ∀ a : Fin S8x513.rank, a = 0 ∨ a = 1 := by decide

/-- A gather of whole columns reads the column its index names. -/
theorem column {α : Type} (x : S8x513.Idx → α) (ix : IVec S640x1 32) (h : Fin 8) (n : Fin 640) (k : Fin 513)
    (hk : ix (ix2 n (0 : Fin 1)) = BitVec.ofNat 32 k.1) : Host.gather gather_S8x513_S640x1_S8x640_0_1_n_n_1_1_81 x ix (ix2 h n) = x (ix2 h k) := by
  unfold Host.gather
  refine congrArg x (funext fun a => Fin.ext ?_)
  show GatherDims.start _ _ ix a + GatherDims.batchCoord _ _ a + GatherDims.offCoord _ _ a = _
  rw [GatherDims.batchCoord_eq_zero _ _ _ List.not_mem_nil, Nat.add_zero]
  obtain rfl | rfl := axes a
  · unfold GatherDims.start
    rw [dif_neg (by decide), Nat.zero_add]
    unfold GatherDims.offCoord
    rw [dif_pos (by decide)]; rfl
  · rw [GatherDims.offCoord_eq_zero _ _ _ (by decide), Nat.add_zero]
    unfold GatherDims.start
    rw [dif_pos (by decide)]
    have e : GatherDims.siIdx gather_S8x513_S640x1_S8x640_0_1_n_n_1_1_81 (ix2 h n) ⟨0, by decide⟩ = ix2 n (0 : Fin 1) := by
      funext b; refine Fin.ext ?_
      match b with
      | ⟨0, _⟩ => rfl
      | ⟨1, _⟩ => rfl
    refine (congrArg (fun z => min (ix z).toInt.toNat 512) e).trans ?_
    rw [hk]
    have := k.2
    show min (BitVec.ofNat 32 k.1).toInt.toNat 512 = k.1
    rw [BitVec.toInt_eq_toNat_of_lt (by simp; omega)]; simp; omega

/-- The reference's indices are never negative, and are these. -/
theorem pick_word : ∀ n : Fin 640, Scalar.select (IntOp.cmpi CmpIPredicate.slt (IntOp.addi (IntOp.minsi 256#32 (IntOp.maxsi 4294967040#32 (IntOp.subi 575#32 (BitVec.ofNat 32 n.1)))) 256#32) 0#32)
    (IntOp.addi (IntOp.addi (IntOp.minsi 256#32 (IntOp.maxsi 4294967040#32 (IntOp.subi 575#32 (BitVec.ofNat 32 n.1)))) 256#32) 513#32)
    (IntOp.addi (IntOp.minsi 256#32 (IntOp.maxsi 4294967040#32 (IntOp.subi 575#32 (BitVec.ofNat 32 n.1)))) 256#32)
      = BitVec.ofNat 32 (pick n).1 := by decide +kernel

/-- The reference's array. -/
theorem ref_at (x0 : FVec Ideal S1x8x513 .f32) (h : Fin 8) (n : Fin 640) : val_main_v13 (F := Ideal) x0 (ix2 h n) = x0 (ix3 (0 : Fin 1) h (pick n)) := by
  refine (column (val_main_v6 (F := Ideal) x0) (val_main_v12 (F := Ideal)) h n (pick n) ?_).trans ?_
  · pointwise [val_main_v12, val_main_v11, val_main_v10, val_main_v9, val_main_c_4, val_main_v8, val_main_v7, val_main_c_3, val_main_v5, val_main_v4, val_main_c_2, val_main_v3, val_main_call0_v4, val_main_call0_v3, val_main_call0_v2, val_main_call0_v1, val_main_call0_v0, val_main_c_1, val_main_c_0, val_main_v2, val_main_v1, val_main_c, val_main_v0]
    exact pick_word n
  · pointwise [val_main_v6]

end Cert.RelFwdRefIdeal.Fwd

namespace Cert.RelFwdIdeal.Fwd

open Cert.RelFwdIdeal Cert.RelFwdIdeal.Gen Cert.RelFwdIdeal.Value
open Cert.RelFwdRefIdeal.Fwd (pick)

/-- The precondition's side conditions. -/
instance pre_facts : Cert.Pre_relf_finite.Facts := ⟨by decide⟩

/-- The row of the table that a distance marks. -/
theorem mark_word : ∀ n : Fin 640, IntOp.addi (IntOp.minsi 256#32 (IntOp.maxsi 4294967040#32 (IntOp.subi 575#32 (BitVec.ofNat 32 n.1)))) 256#32
    = BitVec.ofNat 32 (min (831 - n.1) 512) := by decide +kernel

/-- A mark, as a condition on numbers. -/
theorem mark (r n : Fin 640) (a b : EReal) : Scalar.select (IntOp.cmpi CmpIPredicate.eq (BitVec.ofNat 32 r.1)
    (IntOp.addi (IntOp.minsi 256#32 (IntOp.maxsi 4294967040#32 (IntOp.subi 575#32 (BitVec.ofNat 32 n.1)))) 256#32)) a b = if r.1 = min (831 - n.1) 512 then a else b := by
  rw [mark_word n]
  have hr := r.2
  by_cases h : r.1 = min (831 - n.1) 512
  · rw [if_pos h, ← h]; simp [Scalar.select, IntOp.cmpi]
  · have hb : (BitVec.ofNat 32 r.1 == BitVec.ofNat 32 (min (831 - n.1) 512)) = false := beq_eq_false_iff_ne.2 fun e => by
      have := congrArg BitVec.toNat e
      simp only [BitVec.toNat_ofNat] at this
      omega
    rw [if_neg h]
    simp [Scalar.select, IntOp.cmpi, hb]

/-- The three parts of a finite table, each times the marks, add up to the table's entry. -/
theorem pay (z : Vec Ideal S8x640 .f32) (h : Fin 8) (n : Fin 640) (s : Fin 640 → ℝ) (hs : ∀ r, z (ix2 h r) = (s r : EReal)) :
    k0_pay1 z (ix2 h n) = z (ix2 h (⟨min (831 - n.1) 512, by omega⟩ : Fin 640)) := by
  have hz : ∀ r, (s r : EReal) - (s r : EReal) = 0 := fun r => by rw [← EReal.coe_sub, sub_self, EReal.coe_zero]
  pointwise [k0_pay1]
  simp only [hs, hz, sub_zero, mark, ite_self, Finset.sum_const_zero, add_zero]
  exact (Finset.sum_eq_single (⟨min (831 - n.1) 512, by omega⟩ : Fin 640) (fun b _ hb => if_neg fun e => hb (Fin.ext e)) fun hb => absurd (Finset.mem_univ _) hb).trans (if_pos rfl)

variable (m : (ℓ : Loc nD τ sig) → Buf (Elt Ideal) ℓ) (c : Dev nD)

/-- The table with 127 columns of zeros after it, as the host code writes it. -/
def wide (x : S1x8x513.Idx → EReal) : S8x640.Idx → EReal :=
  pad S8x640 ![0, 0] ![0, 127] ![0, 0] (shapeCast S8x513 x shapeCasts_S1x8x513_S8x513) (sitofp (F := Ideal) .f32 (constantI S_ 32 0#32)) pads_S8x513_S8x640_000_01270 h_S_

/-- The word of the host's padding. -/
theorem pad_word : FloatOps.sitofp (F := Ideal) FTy.f32 0#32 = (0 : EReal) := by simp [FloatOps.sitofp]

/-- Its entries. -/
theorem wide_at (x : S1x8x513.Idx → EReal) (h : Fin 8) (r : Fin 640) :
    wide x (ix2 h r) = if hr : r.1 < 513 then x (ix3 (0 : Fin 1) h (⟨r.1, hr⟩ : Fin 513)) else (0 : EReal) := by
  rw [← pad_word]
  pointwise [wide]

/-- The region finds it in the first window's array. -/
theorem wide_term : V m c main_v1 = wide (m ((c : Thread nD τ).loc main_arg0)) := by
  simp only [V, hostOps0, hostOps0_1, List.flatten_cons, List.flatten_nil, List.cons_append, List.nil_append, List.append_nil]
  entry_read
  rfl

/-- The table as the region finds it: padded by zeros. -/
theorem table (h : Fin 8) (r : Fin 640) : V m c main_v1 (ix2 h r) = if hr : r.1 < 513 then m ((c : Thread nD τ).loc main_arg0) (ix3 (0 : Fin 1) h (⟨r.1, hr⟩ : Fin 513)) else (0 : EReal) := by
  rw [wide_term]; exact wide_at _ h r

/-- The one grid point's blocks are the whole arrays. -/
theorem idx : ∀ t : Fin cfg0.N, win0_0.index t = ![0, 0] ∧ win0_1.index t = ![0, 0] := (by decide +kernel : ∀ t : Fin grid0.N, _)

/-- The payload of the padded table. -/
theorem entry (H : ∀ h r, m ((c : Thread nD τ).loc main_arg0) (ix3 (0 : Fin 1) h r) = ((m ((c : Thread nD τ).loc main_arg0) (ix3 (0 : Fin 1) h r) : EReal).toReal : EReal))
    (h : Fin 8) (n : Fin 640) : k0_pay1 (V m c main_v1) (ix2 h n) = m ((c : Thread nD τ).loc main_arg0) (ix3 (0 : Fin 1) h (pick n)) := by
  refine (pay _ h n (fun r => (V m c main_v1 (ix2 h r) : EReal).toReal) fun r => ?_).trans ?_
  · rw [table]
    by_cases hr : r.1 < 513
    · rw [dif_pos hr]; exact H _ _
    · rw [dif_neg hr]; rfl
  · rw [table, dif_pos (by show min (831 - n.1) 512 < 513; omega)]

/-- The kernel's array. -/
theorem final1 (H : ∀ h r, m ((c : Thread nD τ).loc main_arg0) (ix3 (0 : Fin 1) h r) = ((m ((c : Thread nD τ).loc main_arg0) (ix3 (0 : Fin 1) h r) : EReal).toReal : EReal))
    (f : S8x640.Idx → Elt Ideal .f32) (hf : ∀ h n, f (ix2 h n) = m ((c : Thread nD τ).loc main_arg0) (ix3 (0 : Fin 1) h (pick n))) : (dats m 0 c).arrAt 1 cfg0.N = f := by
  refine (dats m 0 c).arrAt_eq_of_covers 1 f (by decide +kernel) fun t _ y => ?_
  have e : iblk m c 0 t = V m c main_v1 := by
    funext y
    blk_point [iblk, idx t]
  blk_simp
  rw [after0_1, e]
  frame_out [out0_1]
  have hy : (((cfg0.win 1).blk t).view.emb y : S8x640.Idx) = ix2 (y 0) (y 1) := by blk_ext [idx t]
  rw [hy]
  exact (congrArg _ (eq_ix2 (y : S8x640.Idx))).trans ((entry m c H _ _).trans (hf _ _).symm)

/-- The bias by distance: the kernel's array is the reference's, for finite tables. -/
theorem rel_fwd_value : Cert.algebraic_RelFwdIdeal_RelFwdRefIdeal_pre_relf_finite := by
  pair_intro
  · run_from Cert.RelFwdIdeal.Value.run_blocks m g
  · run_from Cert.RelFwdRefIdeal.Value.run m' g'
    · exact (Cert.RelFwdRefIdeal.Read.val_main_v13_eq _).trans (final1 m c (fun h r => Finite.finite_reads _ (fun _ => 0) _ (hpre c) _) _ (Cert.RelFwdRefIdeal.Fwd.ref_at _)).symm

/-- The reference is a host program: it ends and leaves its arguments as they were. -/
theorem frame_ref : Cert.quiescent_RelFwdRefIdeal := by
  intro m g _
  exact (θ_run Cert.RelFwdRefIdeal.defs _ _).mono (fun r h => ⟨fun c => (h c).2,
    Idealize.ShloMosaic.sem_eq_zero_of_no_sems (by decide) r.2⟩) (Cert.RelFwdRefIdeal.Value.run (F := Ideal) m g)

end Cert.RelFwdIdeal.Fwd
end
-- ==== Proof.lean ====
module

public import proofs.«01_k».proof.Defs
public import proofs.«01_k».proof.Proof.Gen.FfnWgrad
public import proofs.«01_k».proof.Proof.Gen.FfnWgrad.Skeleton
public import proofs.«01_k».proof.Proof.Gen.FfnWgrad.Launch
public import proofs.«01_k».proof.Proof.Gen.FfnWgrad.Points
public import proofs.«01_k».proof.Proof.Gen.FfnWgrad.Frame
public import proofs.«01_k».proof.Proof.Gen.FfnWgradIdeal
public import proofs.«01_k».proof.Proof.Gen.FfnWgradIdeal.Skeleton
public import proofs.«01_k».proof.Proof.Gen.FfnWgradIdeal.Launch
public import proofs.«01_k».proof.Proof.Gen.FfnWgradIdeal.Points
public import proofs.«01_k».proof.Proof.Gen.FfnWgradIdeal.Frame
public import proofs.«01_k».proof.Proof.Gen.FfnWgradRefIdeal
public import proofs.«01_k».proof.Proof.Gen.FfnWgradIdeal.Value
public import proofs.«01_k».proof.Proof.Gen.FfnWgradRefIdeal.Run
public import proofs.«01_k».proof.Proof.Gen.FfnWgradRefIdeal.Read
public import proofs.«01_k».proof.Proof.FfnWgrad.Value
public import proofs.«01_k».proof.Proof.Gen.AttBwd
public import proofs.«01_k».proof.Proof.Gen.AttBwdIdeal
public import proofs.«01_k».proof.Proof.Gen.AttBwdIdeal.Skeleton
public import proofs.«01_k».proof.Proof.Gen.AttBwdIdeal.Launch
public import proofs.«01_k».proof.Proof.Gen.AttBwdIdeal.Points
public import proofs.«01_k».proof.Proof.Gen.AttBwdIdeal.Loops
public import proofs.«01_k».proof.Proof.Gen.AttBwdIdeal.Frame.Runs
public import proofs.«01_k».proof.Proof.Gen.AttBwdRefIdeal
public import proofs.«01_k».proof.Proof.Gen.AttBwdRefIdeal.Run
public import proofs.«01_k».proof.Proof.Gen.AttBwdRefIdeal.Read
public import proofs.«01_k».proof.Proof.Att.Frames
public import proofs.«01_k».proof.Proof.Att.Pair
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdRefIdeal
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.Merge.Value
public import proofs.«01_k».proof.Proof.Gen.FfnDgrad
public import proofs.«01_k».proof.Proof.Gen.FfnDgrad.Skeleton
public import proofs.«01_k».proof.Proof.Gen.FfnDgrad.Launch
public import proofs.«01_k».proof.Proof.Gen.FfnDgrad.Points
public import proofs.«01_k».proof.Proof.Gen.FfnDgrad.Frame
public import proofs.«01_k».proof.Proof.Gen.FfnDgradIdeal
public import proofs.«01_k».proof.Proof.Gen.FfnDgradIdeal.Skeleton
public import proofs.«01_k».proof.Proof.Gen.FfnDgradIdeal.Launch
public import proofs.«01_k».proof.Proof.Gen.FfnDgradIdeal.Points
public import proofs.«01_k».proof.Proof.Gen.FfnDgradIdeal.Frame
public import proofs.«01_k».proof.Proof.Gen.FfnDgradRefIdeal
public import proofs.«01_k».proof.Proof.Gen.FfnDgradIdeal.Value
public import proofs.«01_k».proof.Proof.Gen.FfnDgradRefIdeal.Run
public import proofs.«01_k».proof.Proof.Gen.FfnDgradRefIdeal.Read
public import proofs.«01_k».proof.Proof.FfnDgrad.Pair
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadRefIdeal
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.LossHead.Pair
public import proofs.«01_k».proof.Proof.Gen.RelBwd
public import proofs.«01_k».proof.Proof.Gen.RelBwd.Skeleton
public import proofs.«01_k».proof.Proof.Gen.RelBwd.Launch
public import proofs.«01_k».proof.Proof.Gen.RelBwd.Points
public import proofs.«01_k».proof.Proof.Gen.RelBwd.Frame
public import proofs.«01_k».proof.Proof.Gen.RelBwdIdeal
public import proofs.«01_k».proof.Proof.Gen.RelBwdIdeal.Skeleton
public import proofs.«01_k».proof.Proof.Gen.RelBwdIdeal.Launch
public import proofs.«01_k».proof.Proof.Gen.RelBwdIdeal.Points
public import proofs.«01_k».proof.Proof.Gen.RelBwdIdeal.Frame
public import proofs.«01_k».proof.Proof.Gen.RelBwdRefIdeal
public import proofs.«01_k».proof.Proof.Gen.RelBwdIdeal.Value
public import proofs.«01_k».proof.Proof.Gen.RelBwdRefIdeal.Run
public import proofs.«01_k».proof.Proof.Gen.RelBwdRefIdeal.Read
public import proofs.«01_k».proof.Proof.RelBwd.Pair
public import proofs.«01_k».proof.Proof.AttFwd.Pair
public import proofs.«01_k».proof.Proof.Gen.AttFwd
public import proofs.«01_k».proof.Proof.Gen.AttFwd.Skeleton
public import proofs.«01_k».proof.Proof.Gen.AttFwd.Loops
public import proofs.«01_k».proof.Proof.Gen.AttFwd.Launch
public import proofs.«01_k».proof.Proof.Gen.AttFwd.Points
public import proofs.«01_k».proof.Proof.Gen.AttFwd.Frame
public import proofs.«01_k».proof.Proof.Gen.AttFwdIdeal
public import proofs.«01_k».proof.Proof.Gen.AttFwdIdeal.Skeleton
public import proofs.«01_k».proof.Proof.Gen.AttFwdIdeal.Loops
public import proofs.«01_k».proof.Proof.Gen.AttFwdIdeal.Launch
public import proofs.«01_k».proof.Proof.Gen.AttFwdIdeal.Points
public import proofs.«01_k».proof.Proof.Gen.AttFwdIdeal.Frame
public import proofs.«01_k».proof.Proof.Gen.AttFwdRefIdeal
public import proofs.«01_k».proof.Proof.Gen.AttFwdIdeal.Value
public import proofs.«01_k».proof.Proof.Gen.AttFwdRefIdeal.Run
public import proofs.«01_k».proof.Proof.Gen.AttFwdRefIdeal.Read
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdRefIdeal
public import proofs.«01_k».proof.Proof.Gen.InFwdIdeal.Value
public import proofs.«01_k».proof.Proof.Gen.InFwdRefIdeal.Run
public import proofs.«01_k».proof.Proof.Gen.InFwdRefIdeal.Read
public import proofs.«01_k».proof.Proof.InFwd.Pair
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.MergeFwd.Pair
public import proofs.«01_k».proof.Proof.Gen.RelFwd
public import proofs.«01_k».proof.Proof.Gen.RelFwd.Skeleton
public import proofs.«01_k».proof.Proof.Gen.RelFwd.Launch
public import proofs.«01_k».proof.Proof.Gen.RelFwd.Points
public import proofs.«01_k».proof.Proof.Gen.RelFwd.Frame
public import proofs.«01_k».proof.Proof.Gen.RelFwdIdeal
public import proofs.«01_k».proof.Proof.Gen.RelFwdIdeal.Skeleton
public import proofs.«01_k».proof.Proof.Gen.RelFwdIdeal.Launch
public import proofs.«01_k».proof.Proof.Gen.RelFwdIdeal.Points
public import proofs.«01_k».proof.Proof.Gen.RelFwdIdeal.Frame
public import proofs.«01_k».proof.Proof.Gen.RelFwdRefIdeal
public import proofs.«01_k».proof.Proof.Gen.RelFwdIdeal.Value
public import proofs.«01_k».proof.Proof.Gen.RelFwdRefIdeal.Run
public import proofs.«01_k».proof.Proof.Gen.RelFwdRefIdeal.Read
public import proofs.«01_k».proof.Proof.RelFwd.Value
public import Idealize.ShloMosaic.Adequacy
public import Idealize.ShloMosaic.Init

@[expose] public section

noncomputable section

namespace Cert.Proof

open Idealize.ShloMosaic Idealize.SL.Sem

/-- The weight gradients of the gated feed-forward block: the kernel's three accumulated arrays are the derivative's. -/
theorem wgrad_value : Cert.algebraic_FfnWgradIdeal_FfnWgradRefIdeal := by
  pair_intro
  · run_from Cert.FfnWgradIdeal.Value.run_blocks m g
  · run_from Cert.FfnWgradRefIdeal.Value.run m' g'
    · exact (Cert.FfnWgradIdeal.Grad.ref6 _ _ _).trans (Cert.FfnWgradIdeal.Grad.final6 m _).symm
    · exact (Cert.FfnWgradIdeal.Grad.ref7 _ _ _).trans (Cert.FfnWgradIdeal.Grad.final7 m _).symm
    · exact (Cert.FfnWgradIdeal.Grad.ref8 _ _ _ _ _).trans (Cert.FfnWgradIdeal.Grad.final8 m _).symm

/-- The reference of the weight gradients is a host program: it ends and leaves its arguments as they were. -/
theorem wgrad_ref_frame : Cert.quiescent_FfnWgradRefIdeal := by
  intro m g _
  exact (θ_run Cert.FfnWgradRefIdeal.defs _ _).mono (fun r h => ⟨fun c => (h c).2.2.2,
    Idealize.ShloMosaic.sem_eq_zero_of_no_sems (by decide) r.2⟩) (Cert.FfnWgradRefIdeal.Value.run (F := Ideal) m g)

/-- The merge's gradients: the kernel's seven arrays are the derivative's. -/
theorem merge_value : Cert.algebraic_MergeBwdIdeal_MergeBwdRefIdeal := by
  pair_intro
  · run_from Cert.MergeBwdIdeal.Value.run_blocks m g
  · run_from Cert.MergeBwdRefIdeal.Value.run m' g'
    · exact (Cert.MergeBwdIdeal.Grad.ref11 _ _ _ _ _).trans (Cert.MergeBwdIdeal.Grad.final11 m _).symm
    · exact (Cert.MergeBwdIdeal.Grad.ref12 _ _ _ _ _).trans (Cert.MergeBwdIdeal.Grad.final12 m _).symm
    · exact (Cert.MergeBwdIdeal.Grad.ref13 _ _ _ _ _ _ _ _).trans (Cert.MergeBwdIdeal.Grad.final13 m _).symm
    · exact (Cert.MergeBwdIdeal.Grad.ref14 _ _ _ _ _ _ _ _).trans (Cert.MergeBwdIdeal.Grad.final14 m _).symm
    · exact (Cert.MergeBwdIdeal.Grad.ref15 _ _ _ _ _).trans (Cert.MergeBwdIdeal.Grad.final15 m _).symm
    · exact (Cert.MergeBwdIdeal.Grad.ref16 _ _ _ _ _).trans (Cert.MergeBwdIdeal.Grad.final16 m _).symm
    · exact (Cert.MergeBwdIdeal.Grad.ref17 _ _ _ _ _ _ _).trans (Cert.MergeBwdIdeal.Grad.final17 m _).symm

/-- The reference of the merge's gradients is a host program: it ends and leaves its arguments as they were. -/
theorem merge_ref_frame : Cert.quiescent_MergeBwdRefIdeal := by
  intro m g _
  exact (θ_run Cert.MergeBwdRefIdeal.defs _ _).mono (fun r h => ⟨fun c => (h c).2.2.2.2.2.2.2,
    Idealize.ShloMosaic.sem_eq_zero_of_no_sems (by decide) r.2⟩) (Cert.MergeBwdRefIdeal.Value.run (F := Ideal) m g)

/-- The claims. -/
theorem claim : Cert.Claim := ⟨Cert.FfnWgrad.Gen.facts, Cert.FfnWgradIdeal.Gen.facts, Cert.FfnWgradRefIdeal.Gen.facts,
  Cert.AttBwd.Gen.facts, Cert.AttBwdIdeal.Gen.facts, Cert.AttBwdRefIdeal.Gen.facts, Cert.MergeBwd.Gen.facts, Cert.MergeBwdIdeal.Gen.facts, Cert.MergeBwdRefIdeal.Gen.facts,
  Cert.FfnDgrad.Gen.facts, Cert.FfnDgradIdeal.Gen.facts, Cert.FfnDgradRefIdeal.Gen.facts,
  Cert.LossHead.Gen.facts, Cert.LossHeadIdeal.Gen.facts, Cert.LossHeadRefIdeal.Gen.facts,
  Cert.RelBwd.Gen.facts, Cert.RelBwdIdeal.Gen.facts, Cert.RelBwdRefIdeal.Gen.facts, Cert.AttFwd.Gen.facts, Cert.AttFwdIdeal.Gen.facts, Cert.AttFwdRefIdeal.Gen.facts,
  Cert.InFwd.Gen.facts, Cert.InFwdIdeal.Gen.facts, Cert.InFwdRefIdeal.Gen.facts,
  Cert.MergeFwd.Gen.facts, Cert.MergeFwdIdeal.Gen.facts, Cert.MergeFwdRefIdeal.Gen.facts,
  Cert.RelFwd.Gen.facts, Cert.RelFwdIdeal.Gen.facts, Cert.RelFwdRefIdeal.Gen.facts,
  Cert.AttBwdIdeal.Att.pre_facts, Cert.FfnDgradIdeal.Grad.pre_facts, Cert.LossHeadIdeal.Grad.pre_facts, Cert.RelBwdIdeal.Grad.pre_facts, Cert.AttFwdIdeal.Att.pre_facts, Cert.RelFwdIdeal.Fwd.pre_facts,
  fun m ρ _ => Cert.FfnWgrad.Gen.frame m ρ, fun m ρ _ => Cert.FfnWgradIdeal.Gen.frame m ρ, wgrad_ref_frame,
  Cert.AttBwdIdeal.Att.frame_kernel, fun m ρ _ => Cert.AttBwdIdeal.Att.frame m ρ, fun m ρ _ => Cert.AttBwdIdeal.Att.frame m ρ, Cert.AttBwdIdeal.Att.frame_ref,
  fun m ρ _ => Cert.AttBwdIdeal.Att.frame_ref m ρ trivial,
  fun m ρ _ => Cert.MergeBwd.Gen.frame m ρ, fun m ρ _ => Cert.MergeBwdIdeal.Gen.frame m ρ, merge_ref_frame,
  fun m ρ _ => Cert.FfnDgrad.Gen.frame m ρ, fun m ρ _ => Cert.FfnDgradIdeal.Gen.frame m ρ, fun m ρ _ => Cert.FfnDgradIdeal.Gen.frame m ρ,
  Cert.FfnDgradIdeal.Grad.frame_ref, fun m ρ _ => Cert.FfnDgradIdeal.Grad.frame_ref m ρ trivial,
  fun m ρ _ => Cert.LossHead.Gen.frame m ρ, fun m ρ _ => Cert.LossHeadIdeal.Gen.frame m ρ, fun m ρ _ => Cert.LossHeadIdeal.Gen.frame m ρ,
  Cert.LossHeadIdeal.Grad.frame_ref, fun m ρ _ => Cert.LossHeadIdeal.Grad.frame_ref m ρ trivial,
  fun m ρ _ => Cert.RelBwd.Gen.frame m ρ, fun m ρ _ => Cert.RelBwdIdeal.Gen.frame m ρ, fun m ρ _ => Cert.RelBwdIdeal.Gen.frame m ρ,
  Cert.RelBwdIdeal.Grad.frame_ref, fun m ρ _ => Cert.RelBwdIdeal.Grad.frame_ref m ρ trivial,
  fun m ρ _ => Cert.AttFwd.Gen.frame m ρ, fun m ρ _ => Cert.AttFwdIdeal.Gen.frame m ρ, fun m ρ _ => Cert.AttFwdIdeal.Gen.frame m ρ,
  Cert.AttFwdIdeal.Att.frame_ref, fun m ρ _ => Cert.AttFwdIdeal.Att.frame_ref m ρ trivial,
  fun m ρ _ => Cert.InFwd.Gen.frame m ρ, fun m ρ _ => Cert.InFwdIdeal.Gen.frame m ρ, Cert.InFwdIdeal.Fwd.frame_ref,
  fun m ρ _ => Cert.MergeFwd.Gen.frame m ρ, fun m ρ _ => Cert.MergeFwdIdeal.Gen.frame m ρ, Cert.MergeFwdIdeal.Fwd.frame_ref,
  fun m ρ _ => Cert.RelFwd.Gen.frame m ρ, fun m ρ _ => Cert.RelFwdIdeal.Gen.frame m ρ, fun m ρ _ => Cert.RelFwdIdeal.Gen.frame m ρ,
  Cert.RelFwdIdeal.Fwd.frame_ref, fun m ρ _ => Cert.RelFwdIdeal.Fwd.frame_ref m ρ trivial,
  trivial, wgrad_value, Cert.AttBwdIdeal.Att.preserves, Cert.AttBwdIdeal.Att.att_value, trivial, merge_value,
  trivial, Cert.FfnDgradIdeal.Grad.dgrad_value,
  trivial, Cert.LossHeadIdeal.Grad.loss_value,
  trivial, Cert.RelBwdIdeal.Grad.rel_value,
  Cert.AttFwdIdeal.Att.preserves, Cert.AttFwdIdeal.Att.att_fwd_value,
  trivial, Cert.InFwdIdeal.Fwd.in_fwd_value,
  trivial, Cert.MergeFwdIdeal.Fwd.merge_fwd_value,
  trivial, Cert.RelFwdIdeal.Fwd.rel_fwd_value⟩

end Cert.Proof

end
